-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Epilogue (m : (ℓ : Loc Cert.Epilogue.nD Cert.Epilogue.τ Cert.Epilogue.sig) → Buf (Elt Bits) ℓ) : Prop :=
  True

def Pre_EpilogueIdeal (m : (ℓ : Loc Cert.EpilogueIdeal.nD Cert.EpilogueIdeal.τ Cert.EpilogueIdeal.sig) → Buf (Elt Ideal) ℓ) : Prop :=
  True

def Pre_EpilogueReferenceIdeal (m : (ℓ : Loc Cert.EpilogueReferenceIdeal.nD Cert.EpilogueReferenceIdeal.τ Cert.EpilogueReferenceIdeal.sig) → Buf (Elt Ideal) ℓ) : Prop :=
  True

def Pre_Between (m : (ℓ : Loc Cert.Between.nD Cert.Between.τ Cert.Between.sig) → Buf (Elt Bits) ℓ) : Prop :=
  True

def Pre_BetweenIdeal (m : (ℓ : Loc Cert.BetweenIdeal.nD Cert.BetweenIdeal.τ Cert.BetweenIdeal.sig) → Buf (Elt Ideal) ℓ) : Prop :=
  True

def Pre_BetweenIdeal_finite [hPre_finite : Cert.Pre_finite.Facts] (m : (ℓ : Loc Cert.BetweenIdeal.nD Cert.BetweenIdeal.τ Cert.BetweenIdeal.sig) → Buf (Elt Ideal) ℓ) : Prop :=
  ∀ c : Dev Cert.BetweenIdeal.nD,
    (Cert.Pre_finite.fn (F := Ideal) (m ((c.tc : Thread Cert.BetweenIdeal.nD Cert.BetweenIdeal.τ).loc Cert.BetweenIdeal.main_arg0)) (m ((c.tc : Thread Cert.BetweenIdeal.nD Cert.BetweenIdeal.τ).loc Cert.BetweenIdeal.main_arg1)) (m ((c.tc : Thread Cert.BetweenIdeal.nD Cert.BetweenIdeal.τ).loc Cert.BetweenIdeal.main_arg2)) (m ((c.tc : Thread Cert.BetweenIdeal.nD Cert.BetweenIdeal.τ).loc Cert.BetweenIdeal.main_arg3)) (m ((c.tc : Thread Cert.BetweenIdeal.nD Cert.BetweenIdeal.τ).loc Cert.BetweenIdeal.main_arg4)) (m ((c.tc : Thread Cert.BetweenIdeal.nD Cert.BetweenIdeal.τ).loc Cert.BetweenIdeal.main_arg5))) = (fun _ => 1#1)

def Pre_BetweenReferenceIdeal (m : (ℓ : Loc Cert.BetweenReferenceIdeal.nD Cert.BetweenReferenceIdeal.τ Cert.BetweenReferenceIdeal.sig) → Buf (Elt Ideal) ℓ) : Prop :=
  True

def Pre_BetweenReferenceIdeal_finite [hPre_finite : Cert.Pre_finite.Facts] (m : (ℓ : Loc Cert.BetweenReferenceIdeal.nD Cert.BetweenReferenceIdeal.τ Cert.BetweenReferenceIdeal.sig) → Buf (Elt Ideal) ℓ) : Prop :=
  ∀ c : Dev Cert.BetweenReferenceIdeal.nD,
    (Cert.Pre_finite.fn (F := Ideal) (m ((c.tc : Thread Cert.BetweenReferenceIdeal.nD Cert.BetweenReferenceIdeal.τ).loc Cert.BetweenReferenceIdeal.main_arg0)) (m ((c.tc : Thread Cert.BetweenReferenceIdeal.nD Cert.BetweenReferenceIdeal.τ).loc Cert.BetweenReferenceIdeal.main_arg1)) (m ((c.tc : Thread Cert.BetweenReferenceIdeal.nD Cert.BetweenReferenceIdeal.τ).loc Cert.BetweenReferenceIdeal.main_arg2)) (m ((c.tc : Thread Cert.BetweenReferenceIdeal.nD Cert.BetweenReferenceIdeal.τ).loc Cert.BetweenReferenceIdeal.main_arg3)) (m ((c.tc : Thread Cert.BetweenReferenceIdeal.nD Cert.BetweenReferenceIdeal.τ).loc Cert.BetweenReferenceIdeal.main_arg4)) (m ((c.tc : Thread Cert.BetweenReferenceIdeal.nD Cert.BetweenReferenceIdeal.τ).loc Cert.BetweenReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2))
      ∧ r.2.sem = fun _ => 0)

def quiescent_Epilogue [hEpilogue : Cert.Epilogue.Facts] : Prop :=
  ∀ (m : (ℓ : Loc Cert.Epilogue.nD Cert.Epilogue.τ Cert.Epilogue.sig) → Buf (Elt Bits) ℓ) (g : Dev Cert.Epilogue.nD → PrngReg), Pre_Epilogue m →
    θ_run (Cert.Epilogue.defs (F := Bits)) (onTc (τ := Cert.Epilogue.τ) (Cert.Epilogue.main (F := Bits))) ⟨m, fun _ => 0, g⟩ (fun r => (∀ c : Dev Cert.Epilogue.nD,
      r.2.mem ((c.tc : Thread Cert.Epilogue.nD Cert.Epilogue.τ).loc Cert.Epilogue.main_arg0) = m ((c.tc : Thread Cert.Epilogue.nD Cert.Epilogue.τ).loc Cert.Epilogue.main_arg0)
      ∧ r.2.mem ((c.tc : Thread Cert.Epilogue.nD Cert.Epilogue.τ).loc Cert.Epilogue.main_arg1) = m ((c.tc : Thread Cert.Epilogue.nD Cert.Epilogue.τ).loc Cert.Epilogue.main_arg1))
      ∧ r.2.sem = fun _ => 0)

def quiescent_EpilogueIdeal [hEpilogueIdeal : Cert.EpilogueIdeal.Facts] : Prop :=
  ∀ (m : (ℓ : Loc Cert.EpilogueIdeal.nD Cert.EpilogueIdeal.τ Cert.EpilogueIdeal.sig) → Buf (Elt Ideal) ℓ) (g : Dev Cert.EpilogueIdeal.nD → PrngReg), Pre_EpilogueIdeal m →
    θ_run (Cert.EpilogueIdeal.defs (F := Ideal)) (onTc (τ := Cert.EpilogueIdeal.τ) (Cert.EpilogueIdeal.main (F := Ideal))) ⟨m, fun _ => 0, g⟩ (fun r => (∀ c : Dev Cert.EpilogueIdeal.nD,
      r.2.mem ((c.tc : Thread Cert.EpilogueIdeal.nD Cert.EpilogueIdeal.τ).loc Cert.EpilogueIdeal.main_arg0) = m ((c.tc : Thread Cert.EpilogueIdeal.nD Cert.EpilogueIdeal.τ).loc Cert.EpilogueIdeal.main_arg0)
      ∧ r.2.mem ((c.tc : Thread Cert.EpilogueIdeal.nD Cert.EpilogueIdeal.τ).loc Cert.EpilogueIdeal.main_arg1) = m ((c.tc : Thread Cert.EpilogueIdeal.nD Cert.EpilogueIdeal.τ).loc Cert.EpilogueIdeal.main_arg1))
      ∧ r.2.sem = fun _ => 0)

def quiescent_EpilogueReferenceIdeal [hEpilogueReferenceIdeal : Cert.EpilogueReferenceIdeal.Facts] : Prop :=
  ∀ (m : (ℓ : Loc Cert.EpilogueReferenceIdeal.nD Cert.EpilogueReferenceIdeal.τ Cert.EpilogueReferenceIdeal.sig) → Buf (Elt Ideal) ℓ) (g : Dev Cert.EpilogueReferenceIdeal.nD → PrngReg), Pre_EpilogueReferenceIdeal m →
    θ_run (Cert.EpilogueReferenceIdeal.defs (F := Ideal)) (onTc (τ := Cert.EpilogueReferenceIdeal.τ) (Cert.EpilogueReferenceIdeal.main (F := Ideal))) ⟨m, fun _ => 0, g⟩ (fun r => (∀ c : Dev Cert.EpilogueReferenceIdeal.nD,
      r.2.mem ((c.tc : Thread Cert.EpilogueReferenceIdeal.nD Cert.EpilogueReferenceIdeal.τ).loc Cert.EpilogueReferenceIdeal.main_arg0) = m ((c.tc : Thread Cert.EpilogueReferenceIdeal.nD Cert.EpilogueReferenceIdeal.τ).loc Cert.EpilogueReferenceIdeal.main_arg0)
      ∧ r.2.mem ((c.tc : Thread Cert.EpilogueReferenceIdeal.nD Cert.EpilogueReferenceIdeal.τ).loc Cert.EpilogueReferenceIdeal.main_arg1) = m ((c.tc : Thread Cert.EpilogueReferenceIdeal.nD Cert.EpilogueReferenceIdeal.τ).loc Cert.EpilogueReferenceIdeal.main_arg1))
      ∧ r.2.sem = fun _ => 0)

def quiescent_Between [hBetween : Cert.Between.Facts] : Prop :=
  ∀ (m : (ℓ : Loc Cert.Between.nD Cert.Between.τ Cert.Between.sig) → Buf (Elt Bits) ℓ) (g : Dev Cert.Between.nD → PrngReg), Pre_Between m →
    θ_run (Cert.Between.defs (F := Bits)) (onTc (τ := Cert.Between.τ) (Cert.Between.main (F := Bits))) ⟨m, fun _ => 0, g⟩ (fun r => (∀ c : Dev Cert.Between.nD,
      r.2.mem ((c.tc : Thread Cert.Between.nD Cert.Between.τ).loc Cert.Between.main_arg0) = m ((c.tc : Thread Cert.Between.nD Cert.Between.τ).loc Cert.Between.main_arg0)
      ∧ r.2.mem ((c.tc : Thread Cert.Between.nD Cert.Between.τ).loc Cert.Between.main_arg1) = m ((c.tc : Thread Cert.Between.nD Cert.Between.τ).loc Cert.Between.main_arg1)
      ∧ r.2.mem ((c.tc : Thread Cert.Between.nD Cert.Between.τ).loc Cert.Between.main_arg2) = m ((c.tc : Thread Cert.Between.nD Cert.Between.τ).loc Cert.Between.main_arg2)
      ∧ r.2.mem ((c.tc : Thread Cert.Between.nD Cert.Between.τ).loc Cert.Between.main_arg3) = m ((c.tc : Thread Cert.Between.nD Cert.Between.τ).loc Cert.Between.main_arg3)
      ∧ r.2.mem ((c.tc : Thread Cert.Between.nD Cert.Between.τ).loc Cert.Between.main_arg4) = m ((c.tc : Thread Cert.Between.nD Cert.Between.τ).loc Cert.Between.main_arg4)
      ∧ r.2.mem ((c.tc : Thread Cert.Between.nD Cert.Between.τ).loc Cert.Between.main_arg5) = m ((c.tc : Thread Cert.Between.nD Cert.Between.τ).loc Cert.Between.main_arg5))
      ∧ r.2.sem = fun _ => 0)

def quiescent_BetweenIdeal [hBetweenIdeal : Cert.BetweenIdeal.Facts] : Prop :=
  ∀ (m : (ℓ : Loc Cert.BetweenIdeal.nD Cert.BetweenIdeal.τ Cert.BetweenIdeal.sig) → Buf (Elt Ideal) ℓ) (g : Dev Cert.BetweenIdeal.nD → PrngReg), Pre_BetweenIdeal m →
    θ_run (Cert.BetweenIdeal.defs (F := Ideal)) (onTc (τ := Cert.BetweenIdeal.τ) (Cert.BetweenIdeal.main (F := Ideal))) ⟨m, fun _ => 0, g⟩ (fun r => (∀ c : Dev Cert.BetweenIdeal.nD,
      r.2.mem ((c.tc : Thread Cert.BetweenIdeal.nD Cert.BetweenIdeal.τ).loc Cert.BetweenIdeal.main_arg0) = m ((c.tc : Thread Cert.BetweenIdeal.nD Cert.BetweenIdeal.τ).loc Cert.BetweenIdeal.main_arg0)
      ∧ r.2.mem ((c.tc : Thread Cert.BetweenIdeal.nD Cert.BetweenIdeal.τ).loc Cert.BetweenIdeal.main_arg1) = m ((c.tc : Thread Cert.BetweenIdeal.nD Cert.BetweenIdeal.τ).loc Cert.BetweenIdeal.main_arg1)
      ∧ r.2.mem ((c.tc : Thread Cert.BetweenIdeal.nD Cert.BetweenIdeal.τ).loc Cert.BetweenIdeal.main_arg2) = m ((c.tc : Thread Cert.BetweenIdeal.nD Cert.BetweenIdeal.τ).loc Cert.BetweenIdeal.main_arg2)
      ∧ r.2.mem ((c.tc : Thread Cert.BetweenIdeal.nD Cert.BetweenIdeal.τ).loc Cert.BetweenIdeal.main_arg3) = m ((c.tc : Thread Cert.BetweenIdeal.nD Cert.BetweenIdeal.τ).loc Cert.BetweenIdeal.main_arg3)
      ∧ r.2.mem ((c.tc : Thread Cert.BetweenIdeal.nD Cert.BetweenIdeal.τ).loc Cert.BetweenIdeal.main_arg4) = m ((c.tc : Thread Cert.BetweenIdeal.nD Cert.BetweenIdeal.τ).loc Cert.BetweenIdeal.main_arg4)
      ∧ r.2.mem ((c.tc : Thread Cert.BetweenIdeal.nD Cert.BetweenIdeal.τ).loc Cert.BetweenIdeal.main_arg5) = m ((c.tc : Thread Cert.BetweenIdeal.nD Cert.BetweenIdeal.τ).loc Cert.BetweenIdeal.main_arg5))
      ∧ r.2.sem = fun _ => 0)

def quiescent_BetweenIdeal_pre_finite [hBetweenIdeal : Cert.BetweenIdeal.Facts] [hPre_finite : Cert.Pre_finite.Facts] : Prop :=
  ∀ (m : (ℓ : Loc Cert.BetweenIdeal.nD Cert.BetweenIdeal.τ Cert.BetweenIdeal.sig) → Buf (Elt Ideal) ℓ) (g : Dev Cert.BetweenIdeal.nD → PrngReg), Pre_BetweenIdeal_finite m →
    θ_run (Cert.BetweenIdeal.defs (F := Ideal)) (onTc (τ := Cert.BetweenIdeal.τ) (Cert.BetweenIdeal.main (F := Ideal))) ⟨m, fun _ => 0, g⟩ (fun r => (∀ c : Dev Cert.BetweenIdeal.nD,
      r.2.mem ((c.tc : Thread Cert.BetweenIdeal.nD Cert.BetweenIdeal.τ).loc Cert.BetweenIdeal.main_arg0) = m ((c.tc : Thread Cert.BetweenIdeal.nD Cert.BetweenIdeal.τ).loc Cert.BetweenIdeal.main_arg0)
      ∧ r.2.mem ((c.tc : Thread Cert.BetweenIdeal.nD Cert.BetweenIdeal.τ).loc Cert.BetweenIdeal.main_arg1) = m ((c.tc : Thread Cert.BetweenIdeal.nD Cert.BetweenIdeal.τ).loc Cert.BetweenIdeal.main_arg1)
      ∧ r.2.mem ((c.tc : Thread Cert.BetweenIdeal.nD Cert.BetweenIdeal.τ).loc Cert.BetweenIdeal.main_arg2) = m ((c.tc : Thread Cert.BetweenIdeal.nD Cert.BetweenIdeal.τ).loc Cert.BetweenIdeal.main_arg2)
      ∧ r.2.mem ((c.tc : Thread Cert.BetweenIdeal.nD Cert.BetweenIdeal.τ).loc Cert.BetweenIdeal.main_arg3) = m ((c.tc : Thread Cert.BetweenIdeal.nD Cert.BetweenIdeal.τ).loc Cert.BetweenIdeal.main_arg3)
      ∧ r.2.mem ((c.tc : Thread Cert.BetweenIdeal.nD Cert.BetweenIdeal.τ).loc Cert.BetweenIdeal.main_arg4) = m ((c.tc : Thread Cert.BetweenIdeal.nD Cert.BetweenIdeal.τ).loc Cert.BetweenIdeal.main_arg4)
      ∧ r.2.mem ((c.tc : Thread Cert.BetweenIdeal.nD Cert.BetweenIdeal.τ).loc Cert.BetweenIdeal.main_arg5) = m ((c.tc : Thread Cert.BetweenIdeal.nD Cert.BetweenIdeal.τ).loc Cert.BetweenIdeal.main_arg5))
      ∧ r.2.sem = fun _ => 0)

def quiescent_BetweenReferenceIdeal [hBetweenReferenceIdeal : Cert.BetweenReferenceIdeal.Facts] : Prop :=
  ∀ (m : (ℓ : Loc Cert.BetweenReferenceIdeal.nD Cert.BetweenReferenceIdeal.τ Cert.BetweenReferenceIdeal.sig) → Buf (Elt Ideal) ℓ) (g : Dev Cert.BetweenReferenceIdeal.nD → PrngReg), Pre_BetweenReferenceIdeal m →
    θ_run (Cert.BetweenReferenceIdeal.defs (F := Ideal)) (onTc (τ := Cert.BetweenReferenceIdeal.τ) (Cert.BetweenReferenceIdeal.main (F := Ideal))) ⟨m, fun _ => 0, g⟩ (fun r => (∀ c : Dev Cert.BetweenReferenceIdeal.nD,
      r.2.mem ((c.tc : Thread Cert.BetweenReferenceIdeal.nD Cert.BetweenReferenceIdeal.τ).loc Cert.BetweenReferenceIdeal.main_arg0) = m ((c.tc : Thread Cert.BetweenReferenceIdeal.nD Cert.BetweenReferenceIdeal.τ).loc Cert.BetweenReferenceIdeal.main_arg0)
      ∧ r.2.mem ((c.tc : Thread Cert.BetweenReferenceIdeal.nD Cert.BetweenReferenceIdeal.τ).loc Cert.BetweenReferenceIdeal.main_arg1) = m ((c.tc : Thread Cert.BetweenReferenceIdeal.nD Cert.BetweenReferenceIdeal.τ).loc Cert.BetweenReferenceIdeal.main_arg1)
      ∧ r.2.mem ((c.tc : Thread Cert.BetweenReferenceIdeal.nD Cert.BetweenReferenceIdeal.τ).loc Cert.BetweenReferenceIdeal.main_arg2) = m ((c.tc : Thread Cert.BetweenReferenceIdeal.nD Cert.BetweenReferenceIdeal.τ).loc Cert.BetweenReferenceIdeal.main_arg2)
      ∧ r.2.mem ((c.tc : Thread Cert.BetweenReferenceIdeal.nD Cert.BetweenReferenceIdeal.τ).loc Cert.BetweenReferenceIdeal.main_arg3) = m ((c.tc : Thread Cert.BetweenReferenceIdeal.nD Cert.BetweenReferenceIdeal.τ).loc Cert.BetweenReferenceIdeal.main_arg3)
      ∧ r.2.mem ((c.tc : Thread Cert.BetweenReferenceIdeal.nD Cert.BetweenReferenceIdeal.τ).loc Cert.BetweenReferenceIdeal.main_arg4) = m ((c.tc : Thread Cert.BetweenReferenceIdeal.nD Cert.BetweenReferenceIdeal.τ).loc Cert.BetweenReferenceIdeal.main_arg4)
      ∧ r.2.mem ((c.tc : Thread Cert.BetweenReferenceIdeal.nD Cert.BetweenReferenceIdeal.τ).loc Cert.BetweenReferenceIdeal.main_arg5) = m ((c.tc : Thread Cert.BetweenReferenceIdeal.nD Cert.BetweenReferenceIdeal.τ).loc Cert.BetweenReferenceIdeal.main_arg5))
      ∧ r.2.sem = fun _ => 0)

def quiescent_BetweenReferenceIdeal_pre_finite [hBetweenReferenceIdeal : Cert.BetweenReferenceIdeal.Facts] [hPre_finite : Cert.Pre_finite.Facts] : Prop :=
  ∀ (m : (ℓ : Loc Cert.BetweenReferenceIdeal.nD Cert.BetweenReferenceIdeal.τ Cert.BetweenReferenceIdeal.sig) → Buf (Elt Ideal) ℓ) (g : Dev Cert.BetweenReferenceIdeal.nD → PrngReg), Pre_BetweenReferenceIdeal_finite m →
    θ_run (Cert.BetweenReferenceIdeal.defs (F := Ideal)) (onTc (τ := Cert.BetweenReferenceIdeal.τ) (Cert.BetweenReferenceIdeal.main (F := Ideal))) ⟨m, fun _ => 0, g⟩ (fun r => (∀ c : Dev Cert.BetweenReferenceIdeal.nD,
      r.2.mem ((c.tc : Thread Cert.BetweenReferenceIdeal.nD Cert.BetweenReferenceIdeal.τ).loc Cert.BetweenReferenceIdeal.main_arg0) = m ((c.tc : Thread Cert.BetweenReferenceIdeal.nD Cert.BetweenReferenceIdeal.τ).loc Cert.BetweenReferenceIdeal.main_arg0)
      ∧ r.2.mem ((c.tc : Thread Cert.BetweenReferenceIdeal.nD Cert.BetweenReferenceIdeal.τ).loc Cert.BetweenReferenceIdeal.main_arg1) = m ((c.tc : Thread Cert.BetweenReferenceIdeal.nD Cert.BetweenReferenceIdeal.τ).loc Cert.BetweenReferenceIdeal.main_arg1)
      ∧ r.2.mem ((c.tc : Thread Cert.BetweenReferenceIdeal.nD Cert.BetweenReferenceIdeal.τ).loc Cert.BetweenReferenceIdeal.main_arg2) = m ((c.tc : Thread Cert.BetweenReferenceIdeal.nD Cert.BetweenReferenceIdeal.τ).loc Cert.BetweenReferenceIdeal.main_arg2)
      ∧ r.2.mem ((c.tc : Thread Cert.BetweenReferenceIdeal.nD Cert.BetweenReferenceIdeal.τ).loc Cert.BetweenReferenceIdeal.main_arg3) = m ((c.tc : Thread Cert.BetweenReferenceIdeal.nD Cert.BetweenReferenceIdeal.τ).loc Cert.BetweenReferenceIdeal.main_arg3)
      ∧ r.2.mem ((c.tc : Thread Cert.BetweenReferenceIdeal.nD Cert.BetweenReferenceIdeal.τ).loc Cert.BetweenReferenceIdeal.main_arg4) = m ((c.tc : Thread Cert.BetweenReferenceIdeal.nD Cert.BetweenReferenceIdeal.τ).loc Cert.BetweenReferenceIdeal.main_arg4)
      ∧ r.2.mem ((c.tc : Thread Cert.BetweenReferenceIdeal.nD Cert.BetweenReferenceIdeal.τ).loc Cert.BetweenReferenceIdeal.main_arg5) = m ((c.tc : Thread Cert.BetweenReferenceIdeal.nD Cert.BetweenReferenceIdeal.τ).loc Cert.BetweenReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)) →
    ∃ (v0 : (c : Dev Cert.FirstIdeal.nD) → Buf (Elt Ideal) ((c.tc : Thread Cert.FirstIdeal.nD Cert.FirstIdeal.τ).loc Cert.FirstIdeal.main_v5_0)) (v1 : (c : Dev Cert.FirstIdeal.nD) → Buf (Elt Ideal) ((c.tc : Thread Cert.FirstIdeal.nD Cert.FirstIdeal.τ).loc Cert.FirstIdeal.main_v5_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v5_0) = v0 c
          ∧ r.2.mem ((c.tc : Thread Cert.FirstIdeal.nD Cert.FirstIdeal.τ).loc Cert.FirstIdeal.main_v5_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v6) = v0 c
          ∧ r.2.mem ((c.tc : Thread Cert.FirstReferenceIdeal.nD Cert.FirstReferenceIdeal.τ).loc Cert.FirstReferenceIdeal.main_v8) = v1 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2))

def preserves_Epilogue_EpilogueIdeal : Prop :=
  True

def algebraic_EpilogueIdeal_EpilogueReferenceIdeal [hEpilogueIdeal : Cert.EpilogueIdeal.Facts] [hEpilogueReferenceIdeal : Cert.EpilogueReferenceIdeal.Facts] : Prop :=
  ∀ (m : (ℓ : Loc Cert.EpilogueIdeal.nD Cert.EpilogueIdeal.τ Cert.EpilogueIdeal.sig) → Buf (Elt Ideal) ℓ) (g : Dev Cert.EpilogueIdeal.nD → PrngReg)
    (m' : (ℓ : Loc Cert.EpilogueReferenceIdeal.nD Cert.EpilogueReferenceIdeal.τ Cert.EpilogueReferenceIdeal.sig) → Buf (Elt Ideal) ℓ) (g' : Dev Cert.EpilogueReferenceIdeal.nD → PrngReg), Pre_EpilogueIdeal m →
    (∀ c : Dev Cert.EpilogueIdeal.nD,
      m' ((c.tc : Thread Cert.EpilogueReferenceIdeal.nD Cert.EpilogueReferenceIdeal.τ).loc Cert.EpilogueReferenceIdeal.main_arg0) = m ((c.tc : Thread Cert.EpilogueIdeal.nD Cert.EpilogueIdeal.τ).loc Cert.EpilogueIdeal.main_arg0)
      ∧ m' ((c.tc : Thread Cert.EpilogueReferenceIdeal.nD Cert.EpilogueReferenceIdeal.τ).loc Cert.EpilogueReferenceIdeal.main_arg1) = m ((c.tc : Thread Cert.EpilogueIdeal.nD Cert.EpilogueIdeal.τ).loc Cert.EpilogueIdeal.main_arg1)) →
    ∃ (v0 : (c : Dev Cert.EpilogueIdeal.nD) → Buf (Elt Ideal) ((c.tc : Thread Cert.EpilogueIdeal.nD Cert.EpilogueIdeal.τ).loc Cert.EpilogueIdeal.main_v0_0)) (v1 : (c : Dev Cert.EpilogueIdeal.nD) → Buf (Elt Ideal) ((c.tc : Thread Cert.EpilogueIdeal.nD Cert.EpilogueIdeal.τ).loc Cert.EpilogueIdeal.main_v0_1)),
      θ_run (Cert.EpilogueIdeal.defs (F := Ideal)) (onTc (τ := Cert.EpilogueIdeal.τ) (Cert.EpilogueIdeal.main (F := Ideal))) ⟨m, fun _ => 0, g⟩ (fun r => ∀ c : Dev Cert.EpilogueIdeal.nD,
          r.2.mem ((c.tc : Thread Cert.EpilogueIdeal.nD Cert.EpilogueIdeal.τ).loc Cert.EpilogueIdeal.main_v0_0) = v0 c
          ∧ r.2.mem ((c.tc : Thread Cert.EpilogueIdeal.nD Cert.EpilogueIdeal.τ).loc Cert.EpilogueIdeal.main_v0_1) = v1 c
          ∧ r.2.mem ((c.tc : Thread Cert.EpilogueIdeal.nD Cert.EpilogueIdeal.τ).loc Cert.EpilogueIdeal.main_arg0) = m ((c.tc : Thread Cert.EpilogueIdeal.nD Cert.EpilogueIdeal.τ).loc Cert.EpilogueIdeal.main_arg0)
          ∧ r.2.mem ((c.tc : Thread Cert.EpilogueIdeal.nD Cert.EpilogueIdeal.τ).loc Cert.EpilogueIdeal.main_arg1) = m ((c.tc : Thread Cert.EpilogueIdeal.nD Cert.EpilogueIdeal.τ).loc Cert.EpilogueIdeal.main_arg1))
      ∧ θ_run (Cert.EpilogueReferenceIdeal.defs (F := Ideal)) (onTc (τ := Cert.EpilogueReferenceIdeal.τ) (Cert.EpilogueReferenceIdeal.main (F := Ideal))) ⟨m', fun _ => 0, g'⟩ (fun r => ∀ c : Dev Cert.EpilogueReferenceIdeal.nD,
          r.2.mem ((c.tc : Thread Cert.EpilogueReferenceIdeal.nD Cert.EpilogueReferenceIdeal.τ).loc Cert.EpilogueReferenceIdeal.main_v1) = v0 c
          ∧ r.2.mem ((c.tc : Thread Cert.EpilogueReferenceIdeal.nD Cert.EpilogueReferenceIdeal.τ).loc Cert.EpilogueReferenceIdeal.main_v8) = v1 c
          ∧ r.2.mem ((c.tc : Thread Cert.EpilogueReferenceIdeal.nD Cert.EpilogueReferenceIdeal.τ).loc Cert.EpilogueReferenceIdeal.main_arg0) = m' ((c.tc : Thread Cert.EpilogueReferenceIdeal.nD Cert.EpilogueReferenceIdeal.τ).loc Cert.EpilogueReferenceIdeal.main_arg0)
          ∧ r.2.mem ((c.tc : Thread Cert.EpilogueReferenceIdeal.nD Cert.EpilogueReferenceIdeal.τ).loc Cert.EpilogueReferenceIdeal.main_arg1) = m' ((c.tc : Thread Cert.EpilogueReferenceIdeal.nD Cert.EpilogueReferenceIdeal.τ).loc Cert.EpilogueReferenceIdeal.main_arg1))

def preserves_Between_BetweenIdeal : Prop :=
  True

def algebraic_BetweenIdeal_BetweenReferenceIdeal_pre_finite [hBetweenIdeal : Cert.BetweenIdeal.Facts] [hBetweenReferenceIdeal : Cert.BetweenReferenceIdeal.Facts] [hPre_finite : Cert.Pre_finite.Facts] : Prop :=
  ∀ (m : (ℓ : Loc Cert.BetweenIdeal.nD Cert.BetweenIdeal.τ Cert.BetweenIdeal.sig) → Buf (Elt Ideal) ℓ) (g : Dev Cert.BetweenIdeal.nD → PrngReg)
    (m' : (ℓ : Loc Cert.BetweenReferenceIdeal.nD Cert.BetweenReferenceIdeal.τ Cert.BetweenReferenceIdeal.sig) → Buf (Elt Ideal) ℓ) (g' : Dev Cert.BetweenReferenceIdeal.nD → PrngReg), Pre_BetweenIdeal_finite m →
    (∀ c : Dev Cert.BetweenIdeal.nD,
      m' ((c.tc : Thread Cert.BetweenReferenceIdeal.nD Cert.BetweenReferenceIdeal.τ).loc Cert.BetweenReferenceIdeal.main_arg0) = m ((c.tc : Thread Cert.BetweenIdeal.nD Cert.BetweenIdeal.τ).loc Cert.BetweenIdeal.main_arg0)
      ∧ m' ((c.tc : Thread Cert.BetweenReferenceIdeal.nD Cert.BetweenReferenceIdeal.τ).loc Cert.BetweenReferenceIdeal.main_arg1) = m ((c.tc : Thread Cert.BetweenIdeal.nD Cert.BetweenIdeal.τ).loc Cert.BetweenIdeal.main_arg1)
      ∧ m' ((c.tc : Thread Cert.BetweenReferenceIdeal.nD Cert.BetweenReferenceIdeal.τ).loc Cert.BetweenReferenceIdeal.main_arg2) = m ((c.tc : Thread Cert.BetweenIdeal.nD Cert.BetweenIdeal.τ).loc Cert.BetweenIdeal.main_arg2)
      ∧ m' ((c.tc : Thread Cert.BetweenReferenceIdeal.nD Cert.BetweenReferenceIdeal.τ).loc Cert.BetweenReferenceIdeal.main_arg3) = m ((c.tc : Thread Cert.BetweenIdeal.nD Cert.BetweenIdeal.τ).loc Cert.BetweenIdeal.main_arg3)
      ∧ m' ((c.tc : Thread Cert.BetweenReferenceIdeal.nD Cert.BetweenReferenceIdeal.τ).loc Cert.BetweenReferenceIdeal.main_arg4) = m ((c.tc : Thread Cert.BetweenIdeal.nD Cert.BetweenIdeal.τ).loc Cert.BetweenIdeal.main_arg4)
      ∧ m' ((c.tc : Thread Cert.BetweenReferenceIdeal.nD Cert.BetweenReferenceIdeal.τ).loc Cert.BetweenReferenceIdeal.main_arg5) = m ((c.tc : Thread Cert.BetweenIdeal.nD Cert.BetweenIdeal.τ).loc Cert.BetweenIdeal.main_arg5)) →
    ∃ (v0 : (c : Dev Cert.BetweenIdeal.nD) → Buf (Elt Ideal) ((c.tc : Thread Cert.BetweenIdeal.nD Cert.BetweenIdeal.τ).loc Cert.BetweenIdeal.main_v8_0)) (v1 : (c : Dev Cert.BetweenIdeal.nD) → Buf (Elt Ideal) ((c.tc : Thread Cert.BetweenIdeal.nD Cert.BetweenIdeal.τ).loc Cert.BetweenIdeal.main_v8_1)),
      θ_run (Cert.BetweenIdeal.defs (F := Ideal)) (onTc (τ := Cert.BetweenIdeal.τ) (Cert.BetweenIdeal.main (F := Ideal))) ⟨m, fun _ => 0, g⟩ (fun r => ∀ c : Dev Cert.BetweenIdeal.nD,
          r.2.mem ((c.tc : Thread Cert.BetweenIdeal.nD Cert.BetweenIdeal.τ).loc Cert.BetweenIdeal.main_v8_0) = v0 c
          ∧ r.2.mem ((c.tc : Thread Cert.BetweenIdeal.nD Cert.BetweenIdeal.τ).loc Cert.BetweenIdeal.main_v8_1) = v1 c
          ∧ r.2.mem ((c.tc : Thread Cert.BetweenIdeal.nD Cert.BetweenIdeal.τ).loc Cert.BetweenIdeal.main_arg0) = m ((c.tc : Thread Cert.BetweenIdeal.nD Cert.BetweenIdeal.τ).loc Cert.BetweenIdeal.main_arg0)
          ∧ r.2.mem ((c.tc : Thread Cert.BetweenIdeal.nD Cert.BetweenIdeal.τ).loc Cert.BetweenIdeal.main_arg1) = m ((c.tc : Thread Cert.BetweenIdeal.nD Cert.BetweenIdeal.τ).loc Cert.BetweenIdeal.main_arg1)
          ∧ r.2.mem ((c.tc : Thread Cert.BetweenIdeal.nD Cert.BetweenIdeal.τ).loc Cert.BetweenIdeal.main_arg2) = m ((c.tc : Thread Cert.BetweenIdeal.nD Cert.BetweenIdeal.τ).loc Cert.BetweenIdeal.main_arg2)
          ∧ r.2.mem ((c.tc : Thread Cert.BetweenIdeal.nD Cert.BetweenIdeal.τ).loc Cert.BetweenIdeal.main_arg3) = m ((c.tc : Thread Cert.BetweenIdeal.nD Cert.BetweenIdeal.τ).loc Cert.BetweenIdeal.main_arg3)
          ∧ r.2.mem ((c.tc : Thread Cert.BetweenIdeal.nD Cert.BetweenIdeal.τ).loc Cert.BetweenIdeal.main_arg4) = m ((c.tc : Thread Cert.BetweenIdeal.nD Cert.BetweenIdeal.τ).loc Cert.BetweenIdeal.main_arg4)
          ∧ r.2.mem ((c.tc : Thread Cert.BetweenIdeal.nD Cert.BetweenIdeal.τ).loc Cert.BetweenIdeal.main_arg5) = m ((c.tc : Thread Cert.BetweenIdeal.nD Cert.BetweenIdeal.τ).loc Cert.BetweenIdeal.main_arg5))
      ∧ θ_run (Cert.BetweenReferenceIdeal.defs (F := Ideal)) (onTc (τ := Cert.BetweenReferenceIdeal.τ) (Cert.BetweenReferenceIdeal.main (F := Ideal))) ⟨m', fun _ => 0, g'⟩ (fun r => ∀ c : Dev Cert.BetweenReferenceIdeal.nD,
          r.2.mem ((c.tc : Thread Cert.BetweenReferenceIdeal.nD Cert.BetweenReferenceIdeal.τ).loc Cert.BetweenReferenceIdeal.main_v28) = v0 c
          ∧ r.2.mem ((c.tc : Thread Cert.BetweenReferenceIdeal.nD Cert.BetweenReferenceIdeal.τ).loc Cert.BetweenReferenceIdeal.main_v30) = v1 c
          ∧ r.2.mem ((c.tc : Thread Cert.BetweenReferenceIdeal.nD Cert.BetweenReferenceIdeal.τ).loc Cert.BetweenReferenceIdeal.main_arg0) = m' ((c.tc : Thread Cert.BetweenReferenceIdeal.nD Cert.BetweenReferenceIdeal.τ).loc Cert.BetweenReferenceIdeal.main_arg0)
          ∧ r.2.mem ((c.tc : Thread Cert.BetweenReferenceIdeal.nD Cert.BetweenReferenceIdeal.τ).loc Cert.BetweenReferenceIdeal.main_arg1) = m' ((c.tc : Thread Cert.BetweenReferenceIdeal.nD Cert.BetweenReferenceIdeal.τ).loc Cert.BetweenReferenceIdeal.main_arg1)
          ∧ r.2.mem ((c.tc : Thread Cert.BetweenReferenceIdeal.nD Cert.BetweenReferenceIdeal.τ).loc Cert.BetweenReferenceIdeal.main_arg2) = m' ((c.tc : Thread Cert.BetweenReferenceIdeal.nD Cert.BetweenReferenceIdeal.τ).loc Cert.BetweenReferenceIdeal.main_arg2)
          ∧ r.2.mem ((c.tc : Thread Cert.BetweenReferenceIdeal.nD Cert.BetweenReferenceIdeal.τ).loc Cert.BetweenReferenceIdeal.main_arg3) = m' ((c.tc : Thread Cert.BetweenReferenceIdeal.nD Cert.BetweenReferenceIdeal.τ).loc Cert.BetweenReferenceIdeal.main_arg3)
          ∧ r.2.mem ((c.tc : Thread Cert.BetweenReferenceIdeal.nD Cert.BetweenReferenceIdeal.τ).loc Cert.BetweenReferenceIdeal.main_arg4) = m' ((c.tc : Thread Cert.BetweenReferenceIdeal.nD Cert.BetweenReferenceIdeal.τ).loc Cert.BetweenReferenceIdeal.main_arg4)
          ∧ r.2.mem ((c.tc : Thread Cert.BetweenReferenceIdeal.nD Cert.BetweenReferenceIdeal.τ).loc Cert.BetweenReferenceIdeal.main_arg5) = m' ((c.tc : Thread Cert.BetweenReferenceIdeal.nD Cert.BetweenReferenceIdeal.τ).loc Cert.BetweenReferenceIdeal.main_arg5))

def Claim : Prop :=
  ∃ (hKernel : Cert.Kernel.Facts) (hKernelIdeal : Cert.KernelIdeal.Facts) (hReferenceIdeal : Cert.ReferenceIdeal.Facts) (hFirst : Cert.First.Facts) (hFirstIdeal : Cert.FirstIdeal.Facts) (hFirstReferenceIdeal : Cert.FirstReferenceIdeal.Facts) (hEpilogue : Cert.Epilogue.Facts) (hEpilogueIdeal : Cert.EpilogueIdeal.Facts) (hEpilogueReferenceIdeal : Cert.EpilogueReferenceIdeal.Facts) (hBetween : Cert.Between.Facts) (hBetweenIdeal : Cert.BetweenIdeal.Facts) (hBetweenReferenceIdeal : Cert.BetweenReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_First (hFirst := hFirst)
    ∧ quiescent_FirstIdeal (hFirstIdeal := hFirstIdeal)
    ∧ quiescent_FirstReferenceIdeal (hFirstReferenceIdeal := hFirstReferenceIdeal)
    ∧ quiescent_Epilogue (hEpilogue := hEpilogue)
    ∧ quiescent_EpilogueIdeal (hEpilogueIdeal := hEpilogueIdeal)
    ∧ quiescent_EpilogueReferenceIdeal (hEpilogueReferenceIdeal := hEpilogueReferenceIdeal)
    ∧ quiescent_Between (hBetween := hBetween)
    ∧ quiescent_BetweenIdeal (hBetweenIdeal := hBetweenIdeal)
    ∧ quiescent_BetweenIdeal_pre_finite (hBetweenIdeal := hBetweenIdeal) (hPre_finite := hPre_finite)
    ∧ quiescent_BetweenReferenceIdeal (hBetweenReferenceIdeal := hBetweenReferenceIdeal)
    ∧ quiescent_BetweenReferenceIdeal_pre_finite (hBetweenReferenceIdeal := hBetweenReferenceIdeal) (hPre_finite := hPre_finite)
    ∧ preserves_Kernel_KernelIdeal
    ∧ algebraic_KernelIdeal_ReferenceIdeal (hKernelIdeal := hKernelIdeal) (hReferenceIdeal := hReferenceIdeal) (hPre_in_range := hPre_in_range)
    ∧ preserves_First_FirstIdeal
    ∧ algebraic_FirstIdeal_FirstReferenceIdeal (hFirstIdeal := hFirstIdeal) (hFirstReferenceIdeal := hFirstReferenceIdeal)
    ∧ preserves_Epilogue_EpilogueIdeal
    ∧ algebraic_EpilogueIdeal_EpilogueReferenceIdeal (hEpilogueIdeal := hEpilogueIdeal) (hEpilogueReferenceIdeal := hEpilogueReferenceIdeal)
    ∧ preserves_Between_BetweenIdeal
    ∧ algebraic_BetweenIdeal_BetweenReferenceIdeal_pre_finite (hBetweenIdeal := hBetweenIdeal) (hBetweenReferenceIdeal := hBetweenReferenceIdeal) (hPre_finite := hPre_finite)
-- ==== Pre_finite.lean ====
abbrev S10000x512 : Shape := ⟨2, ![10000, 512]⟩
abbrev S512 : Shape := ⟨1, ![512]⟩
abbrev S1024x512 : Shape := ⟨2, ![1024, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S10000x512 .f32) (main_arg1 : FVec F S10000x512 .f32) (main_arg2 : FVec F S512 .f32) (main_arg3 : FVec F S512 .f32) (main_arg4 : FVec F S1024x512 .f32) (main_arg5 : FVec F S512 .f32) : IVec S_ 1 :=
  let main_cst : FVec F S_ .f32 := constant S_ .f32 0x7F800000#32
  let main_v0 : FVec F S10000x512 .f32 := broadcastInDim S10000x512 ![] bcast_S_S10000x512 main_cst
  let main_v1 : IVec S10000x512 1 := cmpf .olt main_arg0 main_v0
  let main_c : IVec S_ 1 := constantI S_ 1 1#1
  let main_v2 : IVec S_ 1 := (fun x v => Host.reduce IntOp.andi x v reducesTo_S10000x512_S_d0_1 h_S_) main_v1 main_c
  let main_cst_0 : FVec F S_ .f32 := constant S_ .f32 0x7F800000#32
  let main_v3 : FVec F S10000x512 .f32 := broadcastInDim S10000x512 ![] bcast_S_S10000x512 main_cst_0
  let main_v4 : IVec S10000x512 1 := cmpf .olt main_arg1 main_v3
  let main_c_1 : IVec S_ 1 := constantI S_ 1 1#1
  let main_v5 : IVec S_ 1 := (fun x v => Host.reduce IntOp.andi x v reducesTo_S10000x512_S_d0_1 h_S_) main_v4 main_c_1
  let main_v6 : IVec S_ 1 := andi main_v2 main_v5
  let main_v7 : FVec F S512 .f32 := Host.absf main_arg2
  let main_cst_2 : FVec F S_ .f32 := constant S_ .f32 0x7F800000#32
  let main_v8 : FVec F S512 .f32 := broadcastInDim S512 ![] bcast_S_S512 main_cst_2
  let main_v9 : IVec S512 1 := cmpf .olt main_v7 main_v8
  let main_c_3 : IVec S_ 1 := constantI S_ 1 1#1
  let main_v10 : IVec S_ 1 := (fun x v => Host.reduce IntOp.andi x v reducesTo_S512_S_d0 h_S_) main_v9 main_c_3
  let main_v11 : IVec S_ 1 := andi main_v6 main_v10
  main_v11
-- ==== Pre_in_range.lean ====
abbrev S10000x512 : Shape := ⟨2, ![10000, 512]⟩
abbrev S2x160000 : Shape := ⟨2, ![2, 160000]⟩
abbrev S_ : Shape := ⟨0, ![]⟩

class Facts : Prop where
  bcast_S_S2x160000 : S_.BroadcastsInDim S2x160000 (![] : Fin 0 → Fin S2x160000.rank)
  reducesTo_S2x160000_S_d0_1 : S2x160000.ReducesTo [0, 1] S_
  h_S_ : 0 < S_.numel

variable [Facts]

def fn {F : FTy → Type} [FloatOps F] (main_arg0 : FVec F S10000x512 .f32) (main_arg1 : IVec S2x160000 32) : IVec S_ 1 :=
  let main_c : IVec S_ 32 := constantI S_ 32 0#32
  let main_v0 : IVec S2x160000 32 := broadcastInDim S2x160000 ![] bcast_S_S2x160000 main_c
  let main_v1 : IVec S2x160000 1 := cmpi .sge main_arg1 main_v0
  let main_c_0 : IVec S_ 32 := constantI S_ 32 10000#32
  let main_v2 : IVec S2x160000 32 := broadcastInDim S2x160000 ![] bcast_S_S2x160000 main_c_0
  let main_v3 : IVec S2x160000 1 := cmpi .slt main_arg1 main_v2
  let main_v4 : IVec S2x160000 1 := andi main_v1 main_v3
  let main_c_1 : IVec S_ 1 := constantI S_ 1 1#1
  let main_v5 : IVec S_ 1 := (fun x v => Host.reduce IntOp.andi x v reducesTo_S2x160000_S_d0_1 h_S_) main_v4 main_c_1
  main_v5
-- ==== Kernel.lean ====
abbrev S10000x512 : Shape := ⟨2, ![10000, 512]⟩
abbrev S2x160000 : Shape := ⟨2, ![2, 160000]⟩
abbrev S1x160000 : Shape := ⟨2, ![1, 160000]⟩
abbrev S160000 : Shape := ⟨1, ![160000]⟩
abbrev S32x2x5120 : Shape := ⟨3, ![32, 2, 5120]⟩
abbrev S32x16 : Shape := ⟨2, ![32, 16]⟩
abbrev S5016 : Shape := ⟨1, ![5016]⟩
abbrev S5136 : Shape := ⟨1, ![5136]⟩
abbrev S16 : Shape := ⟨1, ![16]⟩
abbrev S_ : Shape := ⟨0, ![]⟩
abbrev S5000 : Shape := ⟨1, ![5000]⟩
abbrev S5120 : Shape := ⟨1, ![5120]⟩
abbrev S1x1x5120 : Shape := ⟨3, ![1, 1, 5120]⟩
abbrev S1x16 : Shape := ⟨2, ![1, 16]⟩
abbrev S320000x16 : Shape := ⟨2, ![320000, 16]⟩
abbrev S327680 : Shape := ⟨1, ![327680]⟩
abbrev S544 : Shape := ⟨1, ![544]⟩
abbrev S512 : Shape := ⟨1, ![512]⟩
abbrev S512x16 : Shape := ⟨2, ![512, 16]⟩
abbrev S5008x16 : Shape := ⟨2, ![5008, 16]⟩
abbrev S1 : Shape := ⟨1, ![1]⟩
abbrev S5000x16 : Shape := ⟨2, ![5000, 16]⟩

abbrev nBuf : Table → Nat
  | .hbm => 13
  | .local .scVector .vmem => 19
  | _ => 0

abbrev bufTy : (tb : Table) → Fin (nBuf tb) → BufTy
  | .hbm, ⟨0, _⟩ => ⟨S10000x512, .f32⟩
  | .hbm, ⟨1, _⟩ => ⟨S2x160000, .i32⟩
  | .hbm, ⟨2, _⟩ => ⟨S1x160000, .i32⟩
  | .hbm, ⟨3, _⟩ => ⟨S160000, .i32⟩
  | .hbm, ⟨4, _⟩ => ⟨S1x160000, .i32⟩
  | .hbm, ⟨5, _⟩ => ⟨S160000, .i32⟩
  | .hbm, ⟨6, _⟩ => ⟨S32x2x5120, .i32⟩
  | .hbm, ⟨7, _⟩ => ⟨S32x2x5120, .i32⟩
  | .hbm, ⟨8, _⟩ => ⟨S32x16, .i32⟩
  | .hbm, ⟨9, _⟩ => ⟨S320000x16, .f32⟩
  | .hbm, ⟨10, _⟩ => ⟨S327680, .i32⟩
  | .hbm, ⟨11, _⟩ => ⟨S327680, .i32⟩
  | .hbm, ⟨12, _⟩ => ⟨S10000x512, .f32⟩
  | .local .scVector .vmem, ⟨0, _⟩ => ⟨S5016, .i32⟩
  | .local .scVector .vmem, ⟨1, _⟩ => ⟨S5016, .i32⟩
  | .local .scVector .vmem, ⟨2, _⟩ => ⟨S5136, .i32⟩
  | .local .scVector .vmem, ⟨3, _⟩ => ⟨S5136, .i32⟩
  | .local .scVector .vmem, ⟨4, _⟩ => ⟨S5136, .i32⟩
  | .local .scVector .vmem, ⟨5, _⟩ => ⟨S5136, .i32⟩
  | .local .scVector .vmem, ⟨6, _⟩ => ⟨S16, .i32⟩
  | .local .scVector .vmem, ⟨7, _⟩ => ⟨S32x16, .i32⟩
  | .local .scVector .vmem, ⟨8, _⟩ => ⟨S544, .i32⟩
  | .local .scVector .vmem, ⟨9, _⟩ => ⟨S544, .i32⟩
  | .local .scVector .vmem, ⟨10, _⟩ => ⟨S512, .i32⟩
  | .local .scVector .vmem, ⟨11, _⟩ => ⟨S512, .i32⟩
  | .local .scVector .vmem, ⟨12, _⟩ => ⟨S512, .i32⟩
  | .local .scVector .vmem, ⟨13, _⟩ => ⟨S512, .i32⟩
  | .local .scVector .vmem, ⟨14, _⟩ => ⟨S512, .i32⟩
  | .local .scVector .vmem, ⟨15, _⟩ => ⟨S512, .i32⟩
  | .local .scVector .vmem, ⟨16, _⟩ => ⟨S512x16, .f32⟩
  | .local .scVector .vmem, ⟨17, _⟩ => ⟨S512x16, .f32⟩
  | .local .scVector .vmem, ⟨18, _⟩ => ⟨S5008x16, .f32⟩
  | _, _ => ⟨S10000x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v1_scv : Ref sig .scVector := ⟨.hbm, 3, rfl⟩
abbrev main_v3_scv : Ref sig .scVector := ⟨.hbm, 5, rfl⟩
abbrev main_v4_0_scv : Ref sig .scVector := ⟨.hbm, 6, rfl⟩
abbrev main_v4_1_scv : Ref sig .scVector := ⟨.hbm, 7, rfl⟩
abbrev main_v4_2_scv : Ref sig .scVector := ⟨.hbm, 8, rfl⟩
abbrev main_v5_scv : Ref sig .scVector := ⟨.hbm, 9, rfl⟩
abbrev main_v6_scv : Ref sig .scVector := ⟨.hbm, 10, rfl⟩
abbrev main_v7_scv : Ref sig .scVector := ⟨.hbm, 11, rfl⟩
abbrev main_v8_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_scratch0 : Ref sig .scVector := ⟨.vmem, 7, rfl⟩
abbrev cc1_scratch1 : Ref sig .scVector := ⟨.vmem, 8, rfl⟩
abbrev cc1_scratch2 : Ref sig .scVector := ⟨.vmem, 9, rfl⟩
abbrev cc1_scratch3 : Ref sig .scVector := ⟨.vmem, 10, rfl⟩
abbrev cc1_scratch4 : Ref sig .scVector := ⟨.vmem, 11, rfl⟩
abbrev cc1_scratch5 : Ref sig .scVector := ⟨.vmem, 12, rfl⟩
abbrev cc1_scratch6 : Ref sig .scVector := ⟨.vmem, 13, rfl⟩
abbrev cc1_scratch7 : Ref sig .scVector := ⟨.vmem, 14, rfl⟩
abbrev cc1_scratch8 : Ref sig .scVector := ⟨.vmem, 15, rfl⟩
abbrev cc1_scratch9 : Ref sig .scVector := ⟨.vmem, 16, rfl⟩
abbrev cc1_scratch10 : Ref sig .scVector := ⟨.vmem, 17, rfl⟩
abbrev cc1_scratch11 : Ref sig .scVector := ⟨.vmem, 18, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5000_i32 : BitVec 32 := 5000#32
  let v2 : BitVec 32 := Scalar.muli v1 c5000_i32
  ![v2.toNat]
@[reducible] def k0_t1_loop : Scf.Loop 32 :=
  let c0_i32_2 : BitVec 32 := 0#32
  let c321_i32 : BitVec 32 := 321#32
  let v6 : BitVec 32 := Scalar.addi c0_i32_2 c321_i32
  let c1_i32 : BitVec 32 := 1#32
  ⟨c0_i32_2, v6, c1_i32⟩
def k0_off2 (k0_t1 : Fin k0_t1_loop.trips) : Fin 1 → Nat :=
  let c0_i32_2 : BitVec 32 := 0#32
  let c1_i32 : BitVec 32 := 1#32
  let arg14 : BitVec 32 := Scf.iv c0_i32_2 c1_i32 k0_t1
  let c16_i32 : BitVec 32 := 16#32
  let v25 : BitVec 32 := Scalar.muli arg14 c16_i32
  let v26 : Index := Scalar.indexCast v25
  ![v26.toNat]
@[reducible] def k0_t2_loop : Scf.Loop 32 :=
  let c0_i32_7 : BitVec 32 := 0#32
  let c313_i32 : BitVec 32 := 313#32
  let v11 : BitVec 32 := Scalar.addi c0_i32_7 c313_i32
  let c1_i32_8 : BitVec 32 := 1#32
  ⟨c0_i32_7, v11, c1_i32_8⟩
def k0_off3 (k0_t2 : Fin k0_t2_loop.trips) : Fin 1 → Nat :=
  let c0_i32_7 : BitVec 32 := 0#32
  let c1_i32_8 : BitVec 32 := 1#32
  let arg14 : BitVec 32 := Scf.iv c0_i32_7 c1_i32_8 k0_t2
  let c16_i32 : BitVec 32 := 16#32
  let v25 : BitVec 32 := Scalar.muli arg14 c16_i32
  let v26 : Index := Scalar.indexCast v25
  ![v26.toNat]

def k0_chk1 (v45 : IVec S16 32) : Prop :=
  (∀ a x, ((![v45] : Fin 1 → IVec S16 32) a x).toNat < S5136.size a) ∧
  (∀ a x, ((![v45] : Fin 1 → IVec S16 32) a x).toNat < S5136.size a)
theorem k0_idx1_inb : ∀ (v45 : IVec S16 32) (k0_hw1 : k0_chk1 v45), ∀ a x, ((![v45] : Fin 1 → IVec S16 32) a x).toNat < S5136.size a := fun v45 k0_hw1 => k0_hw1.1
theorem k0_idx2_inb : ∀ (v45 : IVec S16 32) (k0_hw1 : k0_chk1 v45), ∀ a x, ((![v45] : Fin 1 → IVec S16 32) a x).toNat < S5136.size a := fun v45 k0_hw1 => k0_hw1.2

def k0_chk2 (v51 : IVec S16 32) : Prop :=
  (∀ a x, ((![v51] : Fin 1 → IVec S16 32) a x).toNat < S5136.size a) ∧
  (∀ a x, ((![v51] : Fin 1 → IVec S16 32) a x).toNat < S5136.size a)
theorem k0_idx3_inb : ∀ (v51 : IVec S16 32) (k0_hw2 : k0_chk2 v51), ∀ a x, ((![v51] : Fin 1 → IVec S16 32) a x).toNat < S5136.size a := fun v51 k0_hw2 => k0_hw2.1
theorem k0_idx4_inb : ∀ (v51 : IVec S16 32) (k0_hw2 : k0_chk2 v51), ∀ a x, ((![v51] : Fin 1 → IVec S16 32) a x).toNat < S5136.size a := fun v51 k0_hw2 => k0_hw2.2
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c0_i32_19_r2 : BitVec 32 := 0#32
  ![v1.toNat, 0, 0]
def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_12 : BitVec 32 := 1#32
  let c0_i32_19_r4 : BitVec 32 := 0#32
  ![v1.toNat, 1, 0]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_18_r6 : BitVec 32 := 0#32
  ![v1.toNat, 0]
abbrev grid1 : Pipeline.Grid := ⟨2, ![2, 16], ![false, false]⟩

@[reducible] def k1_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k1_off1 (k1_t1 : Fin k1_t1_loop.trips) : Fin 2 → Nat :=
  let c0_i32_0 : BitVec 32 := 0#32
  let c1_i32 : BitVec 32 := 1#32
  let arg25 : BitVec 32 := Scf.iv c0_i32_0 c1_i32 k1_t1
  let v85 : Index := Scalar.indexCast arg25
  let c0_57 : Index := 0#32
  ![v85.toNat, 0]

def k1_chk1 (v115 : IVec S16 32) : Prop :=
  (∀ a x, ((![v115] : Fin 1 → IVec S16 32) a x).toNat < S544.size a)
theorem k1_idx1_inb : ∀ (v115 : IVec S16 32) (k1_hw1 : k1_chk1 v115), ∀ a x, ((![v115] : Fin 1 → IVec S16 32) a x).toNat < S544.size a := fun v115 k1_hw1 => k1_hw1
@[reducible] def k1_t2_loop : Scf.Loop 32 :=
  let c0_i32_3 : BitVec 32 := 0#32
  let c32_i32_4 : BitVec 32 := 32#32
  let v5 : BitVec 32 := Scalar.addi c0_i32_3 c32_i32_4
  let c1_i32_5 : BitVec 32 := 1#32
  ⟨c0_i32_3, v5, c1_i32_5⟩
def k1_off2 (k1_t2 : Fin k1_t2_loop.trips) : Fin 2 → Nat :=
  let c0_i32_3 : BitVec 32 := 0#32
  let c1_i32_5 : BitVec 32 := 1#32
  let arg25 : BitVec 32 := Scf.iv c0_i32_3 c1_i32_5 k1_t2
  let v85 : Index := Scalar.indexCast arg25
  let c0_57 : Index := 0#32
  ![v85.toNat, 0]

def k1_chk2 (v115 : IVec S16 32) : Prop :=
  (∀ a x, ((![v115] : Fin 1 → IVec S16 32) a x).toNat < S544.size a)
theorem k1_idx2_inb : ∀ (v115 : IVec S16 32) (k1_hw2 : k1_chk2 v115), ∀ a x, ((![v115] : Fin 1 → IVec S16 32) a x).toNat < S544.size a := fun v115 k1_hw2 => k1_hw2
@[reducible] def k1_t3_loop : Scf.Loop 32 :=
  let c0_i32_9 : BitVec 32 := 0#32
  let c1250_i32 : BitVec 32 := 1250#32
  let v12 : BitVec 32 := Scalar.addi c0_i32_9 c1250_i32
  let c1_i32_10 : BitVec 32 := 1#32
  ⟨c0_i32_9, v12, c1_i32_10⟩
def k1_off3 (k1_t3 : Fin k1_t3_loop.trips) (c0_i32_57 : BitVec 32) : Fin 2 → Nat :=
  let c0_i32_9 : BitVec 32 := 0#32
  let c1_i32_10 : BitVec 32 := 1#32
  let arg25 : BitVec 32 := Scf.iv c0_i32_9 c1_i32_10 k1_t3
  let c4_i32 : BitVec 32 := 4#32
  let v85 : BitVec 32 := Scalar.muli arg25 c4_i32
  let v86 : BitVec 32 := Scalar.addi v85 c0_i32_57
  let v87 : Index := Scalar.indexCast v86
  let c0_58 : Index := 0#32
  ![v87.toNat, 0]
def k1_off4 (v92 : BitVec 32) : Fin 1 → Nat :=
  let c0_i32_61 : BitVec 32 := 0#32
  let v94 : BitVec 1 := Scalar.cmpi .sgt v92 c0_i32_61
  let v95 : BitVec 32 := Scalar.extui v94
  let c0_i32_62 : BitVec 32 := 0#32
  let v96 : BitVec 1 := Scalar.cmpi .slt v92 c0_i32_62
  let v97 : BitVec 32 := Scalar.extui v96
  let v98 : BitVec 32 := Scalar.subi v95 v97
  let c16_i32_60 : BitVec 32 := 16#32
  let c0_i32_63 : BitVec 32 := 0#32
  let v99 : BitVec 1 := Scalar.cmpi .sgt c16_i32_60 c0_i32_63
  let v100 : BitVec 32 := Scalar.extui v99
  let c0_i32_64 : BitVec 32 := 0#32
  let v101 : BitVec 1 := Scalar.cmpi .slt c16_i32_60 c0_i32_64
  let v102 : BitVec 32 := Scalar.extui v101
  let v103 : BitVec 32 := Scalar.subi v100 v102
  let v104 : BitVec 1 := Scalar.cmpi .ne v98 v103
  let v105 : BitVec 32 := Scalar.remsi v92 c16_i32_60
  let c0_i32_65 : BitVec 32 := 0#32
  let v106 : BitVec 1 := Scalar.cmpi .ne v105 c0_i32_65
  let v107 : BitVec 1 := Scalar.andi v104 v106
  let v93 : BitVec 32 := Scalar.divsi v92 c16_i32_60
  let c1_i32_66 : BitVec 32 := 1#32
  let v108 : BitVec 32 := Scalar.subi v93 c1_i32_66
  let v109 : BitVec 32 := Scalar.select v107 v108 v93
  let c16_i32_67 : BitVec 32 := 16#32
  let v110 : BitVec 32 := Scalar.muli v109 c16_i32_67
  ![v110.toNat]
def k1_cond1 (v4 : BitVec 32) : BitVec 1 :=
  let c0_i32_12 : BitVec 32 := 0#32
  let v14 : BitVec 1 := Scalar.cmpi .sgt v4 c0_i32_12
  let v15 : BitVec 32 := Scalar.extui v14
  let c0_i32_13 : BitVec 32 := 0#32
  let v16 : BitVec 1 := Scalar.cmpi .ne v15 c0_i32_13
  v16

def k1_chk3 (v4 : BitVec 32) (v92 : BitVec 32) : Prop :=
  (∀ (k1_h1 : k1_cond1 v4 = 1#1), ∀ a, (k1_off4 v92) a + S512.size a ≤ S327680.size a)
theorem k1_off4_inb : ∀ (v4 : BitVec 32) (v92 : BitVec 32) (k1_hw3 : k1_chk3 v4 v92), ∀ (k1_h1 : k1_cond1 v4 = 1#1), ∀ a, (k1_off4 v92) a + S512.size a ≤ S327680.size a := fun v4 v92 k1_hw3 k1_h1 => k1_hw3 k1_h1

@[reducible] def k1_t4_loop : Scf.Loop 32 :=
  let c0_i32_73 : BitVec 32 := 0#32
  let c32_i32_74 : BitVec 32 := 32#32
  let v119 : BitVec 32 := Scalar.addi c0_i32_73 c32_i32_74
  let c1_i32_75 : BitVec 32 := 1#32
  ⟨c0_i32_73, v119, c1_i32_75⟩
def k1_off5 (k1_t4 : Fin k1_t4_loop.trips) : Fin 1 → Nat :=
  let c0_i32_73 : BitVec 32 := 0#32
  let c1_i32_75 : BitVec 32 := 1#32
  let arg25 : BitVec 32 := Scf.iv c0_i32_73 c1_i32_75 k1_t4
  let c16_i32_79 : BitVec 32 := 16#32
  let v122 : BitVec 32 := Scalar.muli arg25 c16_i32_79
  let v123 : Index := Scalar.indexCast v122
  ![v123.toNat]
def k1_off6 (v92 : BitVec 32) : Fin 1 → Nat :=
  let c0_i32_61 : BitVec 32 := 0#32
  let v94 : BitVec 1 := Scalar.cmpi .sgt v92 c0_i32_61
  let v95 : BitVec 32 := Scalar.extui v94
  let c0_i32_62 : BitVec 32 := 0#32
  let v96 : BitVec 1 := Scalar.cmpi .slt v92 c0_i32_62
  let v97 : BitVec 32 := Scalar.extui v96
  let v98 : BitVec 32 := Scalar.subi v95 v97
  let c16_i32_60 : BitVec 32 := 16#32
  let c0_i32_63 : BitVec 32 := 0#32
  let v99 : BitVec 1 := Scalar.cmpi .sgt c16_i32_60 c0_i32_63
  let v100 : BitVec 32 := Scalar.extui v99
  let c0_i32_64 : BitVec 32 := 0#32
  let v101 : BitVec 1 := Scalar.cmpi .slt c16_i32_60 c0_i32_64
  let v102 : BitVec 32 := Scalar.extui v101
  let v103 : BitVec 32 := Scalar.subi v100 v102
  let v104 : BitVec 1 := Scalar.cmpi .ne v98 v103
  let v105 : BitVec 32 := Scalar.remsi v92 c16_i32_60
  let c0_i32_65 : BitVec 32 := 0#32
  let v106 : BitVec 1 := Scalar.cmpi .ne v105 c0_i32_65
  let v107 : BitVec 1 := Scalar.andi v104 v106
  let v93 : BitVec 32 := Scalar.divsi v92 c16_i32_60
  let c1_i32_66 : BitVec 32 := 1#32
  let v108 : BitVec 32 := Scalar.subi v93 c1_i32_66
  let v109 : BitVec 32 := Scalar.select v107 v108 v93
  let c16_i32_67 : BitVec 32 := 16#32
  let v110 : BitVec 32 := Scalar.muli v109 c16_i32_67
  ![v110.toNat]
def k1_cond2 (v4 : BitVec 32) : BitVec 1 :=
  let c1_i32_14 : BitVec 32 := 1#32
  let v17 : BitVec 1 := Scalar.cmpi .sgt v4 c1_i32_14
  let v18 : BitVec 32 := Scalar.extui v17
  let c0_i32_15 : BitVec 32 := 0#32
  let v19 : BitVec 1 := Scalar.cmpi .ne v18 c0_i32_15
  v19

def k1_chk4 (v4 : BitVec 32) (v92 : BitVec 32) : Prop :=
  (∀ (k1_h2 : k1_cond2 v4 = 1#1), ∀ a, (k1_off6 v92) a + S512.size a ≤ S327680.size a)
theorem k1_off6_inb : ∀ (v4 : BitVec 32) (v92 : BitVec 32) (k1_hw4 : k1_chk4 v4 v92), ∀ (k1_h2 : k1_cond2 v4 = 1#1), ∀ a, (k1_off6 v92) a + S512.size a ≤ S327680.size a := fun v4 v92 k1_hw4 k1_h2 => k1_hw4 k1_h2

@[reducible] def k1_t5_loop (v4 : BitVec 32) : Scf.Loop 32 :=
  let c0_i32_24 : BitVec 32 := 0#32
  let c1_i32_16 : BitVec 32 := 1#32
  let v20 : BitVec 32 := Scalar.addi v4 c1_i32_16
  let c0_i32_18 : BitVec 32 := 0#32
  let v22 : BitVec 1 := Scalar.cmpi .sgt v20 c0_i32_18
  let v23 : BitVec 32 := Scalar.extui v22
  let c0_i32_19 : BitVec 32 := 0#32
  let v24 : BitVec 1 := Scalar.cmpi .slt v20 c0_i32_19
  let v25 : BitVec 32 := Scalar.extui v24
  let v26 : BitVec 32 := Scalar.subi v23 v25
  let c2_i32_17 : BitVec 32 := 2#32
  let c0_i32_20 : BitVec 32 := 0#32
  let v27 : BitVec 1 := Scalar.cmpi .sgt c2_i32_17 c0_i32_20
  let v28 : BitVec 32 := Scalar.extui v27
  let c0_i32_21 : BitVec 32 := 0#32
  let v29 : BitVec 1 := Scalar.cmpi .slt c2_i32_17 c0_i32_21
  let v30 : BitVec 32 := Scalar.extui v29
  let v31 : BitVec 32 := Scalar.subi v28 v30
  let v32 : BitVec 1 := Scalar.cmpi .ne v26 v31
  let v33 : BitVec 32 := Scalar.remsi v20 c2_i32_17
  let c0_i32_22 : BitVec 32 := 0#32
  let v34 : BitVec 1 := Scalar.cmpi .ne v33 c0_i32_22
  let v35 : BitVec 1 := Scalar.andi v32 v34
  let v21 : BitVec 32 := Scalar.divsi v20 c2_i32_17
  let c1_i32_23 : BitVec 32 := 1#32
  let v36 : BitVec 32 := Scalar.subi v21 c1_i32_23
  let v37 : BitVec 32 := Scalar.select v35 v36 v21
  let v38 : BitVec 32 := Scalar.subi v37 c0_i32_24
  let c1_i32_26 : BitVec 32 := 1#32
  let v40 : BitVec 32 := Scalar.divsi v38 c1_i32_26
  let v41 : BitVec 32 := Scalar.muli v40 c1_i32_26
  let v42 : BitVec 32 := Scalar.addi c0_i32_24 v41
  let c1_i32_27 : BitVec 32 := 1#32
  ⟨c0_i32_24, v42, c1_i32_27⟩

@[reducible] def k1_t6_loop : Scf.Loop 32 :=
  let c0_i32_79 : BitVec 32 := 0#32
  let c32_i32_80 : BitVec 32 := 32#32
  let v109 : BitVec 32 := Scalar.addi c0_i32_79 c32_i32_80
  let c1_i32_81 : BitVec 32 := 1#32
  ⟨c0_i32_79, v109, c1_i32_81⟩
def k1_off7 (k1_t6 : Fin k1_t6_loop.trips) : Fin 1 → Nat :=
  let c0_i32_79 : BitVec 32 := 0#32
  let c1_i32_81 : BitVec 32 := 1#32
  let arg27 : BitVec 32 := Scf.iv c0_i32_79 c1_i32_81 k1_t6
  let c16_i32_85 : BitVec 32 := 16#32
  let v112 : BitVec 32 := Scalar.muli arg27 c16_i32_85
  let v113 : Index := Scalar.indexCast v112
  ![v113.toNat]
@[reducible] def k1_t7_loop : Scf.Loop 32 :=
  let c0_i32_68 : BitVec 32 := 0#32
  let c32_i32_69 : BitVec 32 := 32#32
  let v99 : BitVec 32 := Scalar.addi c0_i32_68 c32_i32_69
  let c1_i32_70 : BitVec 32 := 1#32
  ⟨c0_i32_68, v99, c1_i32_70⟩
def k1_off8 (k1_t7 : Fin k1_t7_loop.trips) : Fin 1 → Nat :=
  let c0_i32_68 : BitVec 32 := 0#32
  let c1_i32_70 : BitVec 32 := 1#32
  let arg27 : BitVec 32 := Scf.iv c0_i32_68 c1_i32_70 k1_t7
  let c16_i32_74 : BitVec 32 := 16#32
  let v105 : BitVec 32 := Scalar.muli arg27 c16_i32_74
  let v106 : Index := Scalar.indexCast v105
  ![v106.toNat]
def k1_off9 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_79 : BitVec 32 := 16#32
  let v119 : BitVec 32 := Scalar.muli arg27 c16_i32_79
  let c0_i32_80 : BitVec 32 := 0#32
  let v120 : BitVec 32 := Scalar.addi v119 c0_i32_80
  let v121 : Index := Scalar.indexCast v120
  let c0_81 : Index := 0#32
  ![v121.toNat, 0]
def k1_off10 (v118 : BitVec 32) : Fin 2 → Nat :=
  let v123 : Index := Scalar.indexCast v118
  let c0_82 : Index := 0#32
  ![v123.toNat, 0]
def k1_cond3 (v4 : BitVec 32) (k1_t5 : Fin (k1_t5_loop v4).trips) : BitVec 1 :=
  let c2_i32_57 : BitVec 32 := 2#32
  let c0_i32_24 : BitVec 32 := 0#32
  let c1_i32_27 : BitVec 32 := 1#32
  let arg25 : BitVec 32 := Scf.iv c0_i32_24 c1_i32_27 k1_t5
  let v85 : BitVec 32 := Scalar.muli c2_i32_57 arg25
  let v86 : BitVec 1 := Scalar.cmpi .slt v85 v4
  let v87 : BitVec 32 := Scalar.extui v86
  let c0_i32_58 : BitVec 32 := 0#32
  let v88 : BitVec 1 := Scalar.cmpi .ne v87 c0_i32_58
  v88

def k1_chk6 (v4 : BitVec 32) (k1_t5 : Fin (k1_t5_loop v4).trips) (v118 : BitVec 32) : Prop :=
  (∀ (k1_h3 : k1_cond3 v4 k1_t5 = 1#1), ∀ a, (k1_off10 v118) a + S1x16.size a ≤ S5008x16.size a)
theorem k1_off10_inb : ∀ (v4 : BitVec 32) (k1_t5 : Fin (k1_t5_loop v4).trips) (v118 : BitVec 32) (k1_hw6 : k1_chk6 v4 k1_t5 v118), ∀ (k1_h3 : k1_cond3 v4 k1_t5 = 1#1), ∀ a, (k1_off10 v118) a + S1x16.size a ≤ S5008x16.size a := fun v4 k1_t5 v118 k1_hw6 k1_h3 => k1_hw6 k1_h3

def k1_off11 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_84 : BitVec 32 := 16#32
  let v130 : BitVec 32 := Scalar.muli arg27 c16_i32_84
  let c1_i32_85 : BitVec 32 := 1#32
  let v131 : BitVec 32 := Scalar.addi v130 c1_i32_85
  let v132 : Index := Scalar.indexCast v131
  let c0_86 : Index := 0#32
  ![v132.toNat, 0]
def k1_off12 (v129 : BitVec 32) : Fin 2 → Nat :=
  let v134 : Index := Scalar.indexCast v129
  let c0_87 : Index := 0#32
  ![v134.toNat, 0]

def k1_chk7 (v4 : BitVec 32) (k1_t5 : Fin (k1_t5_loop v4).trips) (v129 : BitVec 32) : Prop :=
  (∀ (k1_h3 : k1_cond3 v4 k1_t5 = 1#1), ∀ a, (k1_off12 v129) a + S1x16.size a ≤ S5008x16.size a)
theorem k1_off12_inb : ∀ (v4 : BitVec 32) (k1_t5 : Fin (k1_t5_loop v4).trips) (v129 : BitVec 32) (k1_hw7 : k1_chk7 v4 k1_t5 v129), ∀ (k1_h3 : k1_cond3 v4 k1_t5 = 1#1), ∀ a, (k1_off12 v129) a + S1x16.size a ≤ S5008x16.size a := fun v4 k1_t5 v129 k1_hw7 k1_h3 => k1_hw7 k1_h3

def k1_off13 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_89 : BitVec 32 := 16#32
  let v141 : BitVec 32 := Scalar.muli arg27 c16_i32_89
  let c2_i32_90 : BitVec 32 := 2#32
  let v142 : BitVec 32 := Scalar.addi v141 c2_i32_90
  let v143 : Index := Scalar.indexCast v142
  let c0_91 : Index := 0#32
  ![v143.toNat, 0]
def k1_off14 (v140 : BitVec 32) : Fin 2 → Nat :=
  let v145 : Index := Scalar.indexCast v140
  let c0_92 : Index := 0#32
  ![v145.toNat, 0]

def k1_chk8 (v4 : BitVec 32) (k1_t5 : Fin (k1_t5_loop v4).trips) (v140 : BitVec 32) : Prop :=
  (∀ (k1_h3 : k1_cond3 v4 k1_t5 = 1#1), ∀ a, (k1_off14 v140) a + S1x16.size a ≤ S5008x16.size a)
theorem k1_off14_inb : ∀ (v4 : BitVec 32) (k1_t5 : Fin (k1_t5_loop v4).trips) (v140 : BitVec 32) (k1_hw8 : k1_chk8 v4 k1_t5 v140), ∀ (k1_h3 : k1_cond3 v4 k1_t5 = 1#1), ∀ a, (k1_off14 v140) a + S1x16.size a ≤ S5008x16.size a := fun v4 k1_t5 v140 k1_hw8 k1_h3 => k1_hw8 k1_h3

def k1_off15 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_94 : BitVec 32 := 16#32
  let v152 : BitVec 32 := Scalar.muli arg27 c16_i32_94
  let c3_i32 : BitVec 32 := 3#32
  let v153 : BitVec 32 := Scalar.addi v152 c3_i32
  let v154 : Index := Scalar.indexCast v153
  let c0_95 : Index := 0#32
  ![v154.toNat, 0]
def k1_off16 (v151 : BitVec 32) : Fin 2 → Nat :=
  let v156 : Index := Scalar.indexCast v151
  let c0_96 : Index := 0#32
  ![v156.toNat, 0]

def k1_chk9 (v4 : BitVec 32) (k1_t5 : Fin (k1_t5_loop v4).trips) (v151 : BitVec 32) : Prop :=
  (∀ (k1_h3 : k1_cond3 v4 k1_t5 = 1#1), ∀ a, (k1_off16 v151) a + S1x16.size a ≤ S5008x16.size a)
theorem k1_off16_inb : ∀ (v4 : BitVec 32) (k1_t5 : Fin (k1_t5_loop v4).trips) (v151 : BitVec 32) (k1_hw9 : k1_chk9 v4 k1_t5 v151), ∀ (k1_h3 : k1_cond3 v4 k1_t5 = 1#1), ∀ a, (k1_off16 v151) a + S1x16.size a ≤ S5008x16.size a := fun v4 k1_t5 v151 k1_hw9 k1_h3 => k1_hw9 k1_h3

def k1_off17 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_98 : BitVec 32 := 16#32
  let v163 : BitVec 32 := Scalar.muli arg27 c16_i32_98
  let c4_i32 : BitVec 32 := 4#32
  let v164 : BitVec 32 := Scalar.addi v163 c4_i32
  let v165 : Index := Scalar.indexCast v164
  let c0_99 : Index := 0#32
  ![v165.toNat, 0]
def k1_off18 (v162 : BitVec 32) : Fin 2 → Nat :=
  let v167 : Index := Scalar.indexCast v162
  let c0_100 : Index := 0#32
  ![v167.toNat, 0]

def k1_chk10 (v4 : BitVec 32) (k1_t5 : Fin (k1_t5_loop v4).trips) (v162 : BitVec 32) : Prop :=
  (∀ (k1_h3 : k1_cond3 v4 k1_t5 = 1#1), ∀ a, (k1_off18 v162) a + S1x16.size a ≤ S5008x16.size a)
theorem k1_off18_inb : ∀ (v4 : BitVec 32) (k1_t5 : Fin (k1_t5_loop v4).trips) (v162 : BitVec 32) (k1_hw10 : k1_chk10 v4 k1_t5 v162), ∀ (k1_h3 : k1_cond3 v4 k1_t5 = 1#1), ∀ a, (k1_off18 v162) a + S1x16.size a ≤ S5008x16.size a := fun v4 k1_t5 v162 k1_hw10 k1_h3 => k1_hw10 k1_h3

def k1_off19 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_102 : BitVec 32 := 16#32
  let v174 : BitVec 32 := Scalar.muli arg27 c16_i32_102
  let c5_i32 : BitVec 32 := 5#32
  let v175 : BitVec 32 := Scalar.addi v174 c5_i32
  let v176 : Index := Scalar.indexCast v175
  let c0_103 : Index := 0#32
  ![v176.toNat, 0]
def k1_off20 (v173 : BitVec 32) : Fin 2 → Nat :=
  let v178 : Index := Scalar.indexCast v173
  let c0_104 : Index := 0#32
  ![v178.toNat, 0]

def k1_chk11 (v4 : BitVec 32) (k1_t5 : Fin (k1_t5_loop v4).trips) (v173 : BitVec 32) : Prop :=
  (∀ (k1_h3 : k1_cond3 v4 k1_t5 = 1#1), ∀ a, (k1_off20 v173) a + S1x16.size a ≤ S5008x16.size a)
theorem k1_off20_inb : ∀ (v4 : BitVec 32) (k1_t5 : Fin (k1_t5_loop v4).trips) (v173 : BitVec 32) (k1_hw11 : k1_chk11 v4 k1_t5 v173), ∀ (k1_h3 : k1_cond3 v4 k1_t5 = 1#1), ∀ a, (k1_off20 v173) a + S1x16.size a ≤ S5008x16.size a := fun v4 k1_t5 v173 k1_hw11 k1_h3 => k1_hw11 k1_h3

def k1_off21 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_106 : BitVec 32 := 16#32
  let v185 : BitVec 32 := Scalar.muli arg27 c16_i32_106
  let c6_i32 : BitVec 32 := 6#32
  let v186 : BitVec 32 := Scalar.addi v185 c6_i32
  let v187 : Index := Scalar.indexCast v186
  let c0_107 : Index := 0#32
  ![v187.toNat, 0]
def k1_off22 (v184 : BitVec 32) : Fin 2 → Nat :=
  let v189 : Index := Scalar.indexCast v184
  let c0_108 : Index := 0#32
  ![v189.toNat, 0]

def k1_chk12 (v4 : BitVec 32) (k1_t5 : Fin (k1_t5_loop v4).trips) (v184 : BitVec 32) : Prop :=
  (∀ (k1_h3 : k1_cond3 v4 k1_t5 = 1#1), ∀ a, (k1_off22 v184) a + S1x16.size a ≤ S5008x16.size a)
theorem k1_off22_inb : ∀ (v4 : BitVec 32) (k1_t5 : Fin (k1_t5_loop v4).trips) (v184 : BitVec 32) (k1_hw12 : k1_chk12 v4 k1_t5 v184), ∀ (k1_h3 : k1_cond3 v4 k1_t5 = 1#1), ∀ a, (k1_off22 v184) a + S1x16.size a ≤ S5008x16.size a := fun v4 k1_t5 v184 k1_hw12 k1_h3 => k1_hw12 k1_h3

def k1_off23 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_110 : BitVec 32 := 16#32
  let v196 : BitVec 32 := Scalar.muli arg27 c16_i32_110
  let c7_i32 : BitVec 32 := 7#32
  let v197 : BitVec 32 := Scalar.addi v196 c7_i32
  let v198 : Index := Scalar.indexCast v197
  let c0_111 : Index := 0#32
  ![v198.toNat, 0]
def k1_off24 (v195 : BitVec 32) : Fin 2 → Nat :=
  let v200 : Index := Scalar.indexCast v195
  let c0_112 : Index := 0#32
  ![v200.toNat, 0]

def k1_chk13 (v4 : BitVec 32) (k1_t5 : Fin (k1_t5_loop v4).trips) (v195 : BitVec 32) : Prop :=
  (∀ (k1_h3 : k1_cond3 v4 k1_t5 = 1#1), ∀ a, (k1_off24 v195) a + S1x16.size a ≤ S5008x16.size a)
theorem k1_off24_inb : ∀ (v4 : BitVec 32) (k1_t5 : Fin (k1_t5_loop v4).trips) (v195 : BitVec 32) (k1_hw13 : k1_chk13 v4 k1_t5 v195), ∀ (k1_h3 : k1_cond3 v4 k1_t5 = 1#1), ∀ a, (k1_off24 v195) a + S1x16.size a ≤ S5008x16.size a := fun v4 k1_t5 v195 k1_hw13 k1_h3 => k1_hw13 k1_h3

def k1_off25 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_114 : BitVec 32 := 16#32
  let v207 : BitVec 32 := Scalar.muli arg27 c16_i32_114
  let c8_i32 : BitVec 32 := 8#32
  let v208 : BitVec 32 := Scalar.addi v207 c8_i32
  let v209 : Index := Scalar.indexCast v208
  let c0_115 : Index := 0#32
  ![v209.toNat, 0]
def k1_off26 (v206 : BitVec 32) : Fin 2 → Nat :=
  let v211 : Index := Scalar.indexCast v206
  let c0_116 : Index := 0#32
  ![v211.toNat, 0]

def k1_chk14 (v4 : BitVec 32) (k1_t5 : Fin (k1_t5_loop v4).trips) (v206 : BitVec 32) : Prop :=
  (∀ (k1_h3 : k1_cond3 v4 k1_t5 = 1#1), ∀ a, (k1_off26 v206) a + S1x16.size a ≤ S5008x16.size a)
theorem k1_off26_inb : ∀ (v4 : BitVec 32) (k1_t5 : Fin (k1_t5_loop v4).trips) (v206 : BitVec 32) (k1_hw14 : k1_chk14 v4 k1_t5 v206), ∀ (k1_h3 : k1_cond3 v4 k1_t5 = 1#1), ∀ a, (k1_off26 v206) a + S1x16.size a ≤ S5008x16.size a := fun v4 k1_t5 v206 k1_hw14 k1_h3 => k1_hw14 k1_h3

def k1_off27 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_118 : BitVec 32 := 16#32
  let v218 : BitVec 32 := Scalar.muli arg27 c16_i32_118
  let c9_i32 : BitVec 32 := 9#32
  let v219 : BitVec 32 := Scalar.addi v218 c9_i32
  let v220 : Index := Scalar.indexCast v219
  let c0_119 : Index := 0#32
  ![v220.toNat, 0]
def k1_off28 (v217 : BitVec 32) : Fin 2 → Nat :=
  let v222 : Index := Scalar.indexCast v217
  let c0_120 : Index := 0#32
  ![v222.toNat, 0]

def k1_chk15 (v4 : BitVec 32) (k1_t5 : Fin (k1_t5_loop v4).trips) (v217 : BitVec 32) : Prop :=
  (∀ (k1_h3 : k1_cond3 v4 k1_t5 = 1#1), ∀ a, (k1_off28 v217) a + S1x16.size a ≤ S5008x16.size a)
theorem k1_off28_inb : ∀ (v4 : BitVec 32) (k1_t5 : Fin (k1_t5_loop v4).trips) (v217 : BitVec 32) (k1_hw15 : k1_chk15 v4 k1_t5 v217), ∀ (k1_h3 : k1_cond3 v4 k1_t5 = 1#1), ∀ a, (k1_off28 v217) a + S1x16.size a ≤ S5008x16.size a := fun v4 k1_t5 v217 k1_hw15 k1_h3 => k1_hw15 k1_h3

def k1_off29 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_122 : BitVec 32 := 16#32
  let v229 : BitVec 32 := Scalar.muli arg27 c16_i32_122
  let c10_i32 : BitVec 32 := 10#32
  let v230 : BitVec 32 := Scalar.addi v229 c10_i32
  let v231 : Index := Scalar.indexCast v230
  let c0_123 : Index := 0#32
  ![v231.toNat, 0]
def k1_off30 (v228 : BitVec 32) : Fin 2 → Nat :=
  let v233 : Index := Scalar.indexCast v228
  let c0_124 : Index := 0#32
  ![v233.toNat, 0]

def k1_chk16 (v4 : BitVec 32) (k1_t5 : Fin (k1_t5_loop v4).trips) (v228 : BitVec 32) : Prop :=
  (∀ (k1_h3 : k1_cond3 v4 k1_t5 = 1#1), ∀ a, (k1_off30 v228) a + S1x16.size a ≤ S5008x16.size a)
theorem k1_off30_inb : ∀ (v4 : BitVec 32) (k1_t5 : Fin (k1_t5_loop v4).trips) (v228 : BitVec 32) (k1_hw16 : k1_chk16 v4 k1_t5 v228), ∀ (k1_h3 : k1_cond3 v4 k1_t5 = 1#1), ∀ a, (k1_off30 v228) a + S1x16.size a ≤ S5008x16.size a := fun v4 k1_t5 v228 k1_hw16 k1_h3 => k1_hw16 k1_h3

def k1_off31 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_126 : BitVec 32 := 16#32
  let v240 : BitVec 32 := Scalar.muli arg27 c16_i32_126
  let c11_i32 : BitVec 32 := 11#32
  let v241 : BitVec 32 := Scalar.addi v240 c11_i32
  let v242 : Index := Scalar.indexCast v241
  let c0_127 : Index := 0#32
  ![v242.toNat, 0]
def k1_off32 (v239 : BitVec 32) : Fin 2 → Nat :=
  let v244 : Index := Scalar.indexCast v239
  let c0_128 : Index := 0#32
  ![v244.toNat, 0]

def k1_chk17 (v4 : BitVec 32) (k1_t5 : Fin (k1_t5_loop v4).trips) (v239 : BitVec 32) : Prop :=
  (∀ (k1_h3 : k1_cond3 v4 k1_t5 = 1#1), ∀ a, (k1_off32 v239) a + S1x16.size a ≤ S5008x16.size a)
theorem k1_off32_inb : ∀ (v4 : BitVec 32) (k1_t5 : Fin (k1_t5_loop v4).trips) (v239 : BitVec 32) (k1_hw17 : k1_chk17 v4 k1_t5 v239), ∀ (k1_h3 : k1_cond3 v4 k1_t5 = 1#1), ∀ a, (k1_off32 v239) a + S1x16.size a ≤ S5008x16.size a := fun v4 k1_t5 v239 k1_hw17 k1_h3 => k1_hw17 k1_h3

def k1_off33 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_130 : BitVec 32 := 16#32
  let v251 : BitVec 32 := Scalar.muli arg27 c16_i32_130
  let c12_i32 : BitVec 32 := 12#32
  let v252 : BitVec 32 := Scalar.addi v251 c12_i32
  let v253 : Index := Scalar.indexCast v252
  let c0_131 : Index := 0#32
  ![v253.toNat, 0]
def k1_off34 (v250 : BitVec 32) : Fin 2 → Nat :=
  let v255 : Index := Scalar.indexCast v250
  let c0_132 : Index := 0#32
  ![v255.toNat, 0]

def k1_chk18 (v4 : BitVec 32) (k1_t5 : Fin (k1_t5_loop v4).trips) (v250 : BitVec 32) : Prop :=
  (∀ (k1_h3 : k1_cond3 v4 k1_t5 = 1#1), ∀ a, (k1_off34 v250) a + S1x16.size a ≤ S5008x16.size a)
theorem k1_off34_inb : ∀ (v4 : BitVec 32) (k1_t5 : Fin (k1_t5_loop v4).trips) (v250 : BitVec 32) (k1_hw18 : k1_chk18 v4 k1_t5 v250), ∀ (k1_h3 : k1_cond3 v4 k1_t5 = 1#1), ∀ a, (k1_off34 v250) a + S1x16.size a ≤ S5008x16.size a := fun v4 k1_t5 v250 k1_hw18 k1_h3 => k1_hw18 k1_h3

def k1_off35 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_134 : BitVec 32 := 16#32
  let v262 : BitVec 32 := Scalar.muli arg27 c16_i32_134
  let c13_i32 : BitVec 32 := 13#32
  let v263 : BitVec 32 := Scalar.addi v262 c13_i32
  let v264 : Index := Scalar.indexCast v263
  let c0_135 : Index := 0#32
  ![v264.toNat, 0]
def k1_off36 (v261 : BitVec 32) : Fin 2 → Nat :=
  let v266 : Index := Scalar.indexCast v261
  let c0_136 : Index := 0#32
  ![v266.toNat, 0]

def k1_chk19 (v4 : BitVec 32) (k1_t5 : Fin (k1_t5_loop v4).trips) (v261 : BitVec 32) : Prop :=
  (∀ (k1_h3 : k1_cond3 v4 k1_t5 = 1#1), ∀ a, (k1_off36 v261) a + S1x16.size a ≤ S5008x16.size a)
theorem k1_off36_inb : ∀ (v4 : BitVec 32) (k1_t5 : Fin (k1_t5_loop v4).trips) (v261 : BitVec 32) (k1_hw19 : k1_chk19 v4 k1_t5 v261), ∀ (k1_h3 : k1_cond3 v4 k1_t5 = 1#1), ∀ a, (k1_off36 v261) a + S1x16.size a ≤ S5008x16.size a := fun v4 k1_t5 v261 k1_hw19 k1_h3 => k1_hw19 k1_h3

def k1_off37 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_138 : BitVec 32 := 16#32
  let v273 : BitVec 32 := Scalar.muli arg27 c16_i32_138
  let c14_i32 : BitVec 32 := 14#32
  let v274 : BitVec 32 := Scalar.addi v273 c14_i32
  let v275 : Index := Scalar.indexCast v274
  let c0_139 : Index := 0#32
  ![v275.toNat, 0]
def k1_off38 (v272 : BitVec 32) : Fin 2 → Nat :=
  let v277 : Index := Scalar.indexCast v272
  let c0_140 : Index := 0#32
  ![v277.toNat, 0]

def k1_chk20 (v4 : BitVec 32) (k1_t5 : Fin (k1_t5_loop v4).trips) (v272 : BitVec 32) : Prop :=
  (∀ (k1_h3 : k1_cond3 v4 k1_t5 = 1#1), ∀ a, (k1_off38 v272) a + S1x16.size a ≤ S5008x16.size a)
theorem k1_off38_inb : ∀ (v4 : BitVec 32) (k1_t5 : Fin (k1_t5_loop v4).trips) (v272 : BitVec 32) (k1_hw20 : k1_chk20 v4 k1_t5 v272), ∀ (k1_h3 : k1_cond3 v4 k1_t5 = 1#1), ∀ a, (k1_off38 v272) a + S1x16.size a ≤ S5008x16.size a := fun v4 k1_t5 v272 k1_hw20 k1_h3 => k1_hw20 k1_h3

def k1_off39 (k1_t7 : Fin k1_t7_loop.trips) : Fin 2 → Nat :=
  let c0_i32_68 : BitVec 32 := 0#32
  let c1_i32_70 : BitVec 32 := 1#32
  let arg27 : BitVec 32 := Scf.iv c0_i32_68 c1_i32_70 k1_t7
  let c16_i32_142 : BitVec 32 := 16#32
  let v284 : BitVec 32 := Scalar.muli arg27 c16_i32_142
  let c15_i32 : BitVec 32 := 15#32
  let v285 : BitVec 32 := Scalar.addi v284 c15_i32
  let v286 : Index := Scalar.indexCast v285
  let c0_143 : Index := 0#32
  ![v286.toNat, 0]
def k1_off40 (v283 : BitVec 32) : Fin 2 → Nat :=
  let v288 : Index := Scalar.indexCast v283
  let c0_144 : Index := 0#32
  ![v288.toNat, 0]

def k1_chk21 (v4 : BitVec 32) (k1_t5 : Fin (k1_t5_loop v4).trips) (v283 : BitVec 32) : Prop :=
  (∀ (k1_h3 : k1_cond3 v4 k1_t5 = 1#1), ∀ a, (k1_off40 v283) a + S1x16.size a ≤ S5008x16.size a)
theorem k1_off40_inb : ∀ (v4 : BitVec 32) (k1_t5 : Fin (k1_t5_loop v4).trips) (v283 : BitVec 32) (k1_hw21 : k1_chk21 v4 k1_t5 v283), ∀ (k1_h3 : k1_cond3 v4 k1_t5 = 1#1), ∀ a, (k1_off40 v283) a + S1x16.size a ≤ S5008x16.size a := fun v4 k1_t5 v283 k1_hw21 k1_h3 => k1_hw21 k1_h3

def k1_off41 (v4 : BitVec 32) (k1_t5 : Fin (k1_t5_loop v4).trips) : Fin 1 → Nat :=
  let c2_i32_57 : BitVec 32 := 2#32
  let c0_i32_24 : BitVec 32 := 0#32
  let c1_i32_27 : BitVec 32 := 1#32
  let arg25 : BitVec 32 := Scf.iv c0_i32_24 c1_i32_27 k1_t5
  let v85 : BitVec 32 := Scalar.muli c2_i32_57 arg25
  let c2_i32_74 : BitVec 32 := 2#32
  let v105 : BitVec 32 := Scalar.addi v85 c2_i32_74
  let c0_i32_75 : BitVec 32 := 0#32
  let v107 : BitVec 1 := Scalar.cmpi .sgt v105 c0_i32_75
  let v108 : BitVec 32 := Scalar.extui v107
  let c0_i32_76 : BitVec 32 := 0#32
  let v109 : BitVec 1 := Scalar.cmpi .slt v105 c0_i32_76
  let v110 : BitVec 32 := Scalar.extui v109
  let v111 : BitVec 32 := Scalar.subi v108 v110
  let c8_i32 : BitVec 32 := 8#32
  let c0_i32_77 : BitVec 32 := 0#32
  let v112 : BitVec 1 := Scalar.cmpi .sgt c8_i32 c0_i32_77
  let v113 : BitVec 32 := Scalar.extui v112
  let c0_i32_78 : BitVec 32 := 0#32
  let v114 : BitVec 1 := Scalar.cmpi .slt c8_i32 c0_i32_78
  let v115 : BitVec 32 := Scalar.extui v114
  let v116 : BitVec 32 := Scalar.subi v113 v115
  let v117 : BitVec 1 := Scalar.cmpi .ne v111 v116
  let v118 : BitVec 32 := Scalar.remsi v105 c8_i32
  let c0_i32_79 : BitVec 32 := 0#32
  let v119 : BitVec 1 := Scalar.cmpi .ne v118 c0_i32_79
  let v120 : BitVec 1 := Scalar.andi v117 v119
  let v106 : BitVec 32 := Scalar.divsi v105 c8_i32
  let c1_i32_80 : BitVec 32 := 1#32
  let v121 : BitVec 32 := Scalar.subi v106 c1_i32_80
  let v122 : BitVec 32 := Scalar.select v120 v121 v106
  let c8_i32_81 : BitVec 32 := 8#32
  let v123 : BitVec 32 := Scalar.muli v122 c8_i32_81
  let v124 : Index := Scalar.indexCast v123
  ![v124.toNat]
def k1_cond5 (v4 : BitVec 32) (k1_t5 : Fin (k1_t5_loop v4).trips) : BitVec 1 :=
  let c2_i32_57 : BitVec 32 := 2#32
  let c0_i32_24 : BitVec 32 := 0#32
  let c1_i32_27 : BitVec 32 := 1#32
  let arg25 : BitVec 32 := Scf.iv c0_i32_24 c1_i32_27 k1_t5
  let v85 : BitVec 32 := Scalar.muli c2_i32_57 arg25
  let c2_i32_72 : BitVec 32 := 2#32
  let v101 : BitVec 32 := Scalar.addi v85 c2_i32_72
  let v102 : BitVec 1 := Scalar.cmpi .slt v101 v4
  let v103 : BitVec 32 := Scalar.extui v102
  let c0_i32_73 : BitVec 32 := 0#32
  let v104 : BitVec 1 := Scalar.cmpi .ne v103 c0_i32_73
  v104

def k1_off42 (v133 : BitVec 32) : Fin 1 → Nat :=
  let c0_i32_84 : BitVec 32 := 0#32
  let v135 : BitVec 1 := Scalar.cmpi .sgt v133 c0_i32_84
  let v136 : BitVec 32 := Scalar.extui v135
  let c0_i32_85 : BitVec 32 := 0#32
  let v137 : BitVec 1 := Scalar.cmpi .slt v133 c0_i32_85
  let v138 : BitVec 32 := Scalar.extui v137
  let v139 : BitVec 32 := Scalar.subi v136 v138
  let c16_i32_83 : BitVec 32 := 16#32
  let c0_i32_86 : BitVec 32 := 0#32
  let v140 : BitVec 1 := Scalar.cmpi .sgt c16_i32_83 c0_i32_86
  let v141 : BitVec 32 := Scalar.extui v140
  let c0_i32_87 : BitVec 32 := 0#32
  let v142 : BitVec 1 := Scalar.cmpi .slt c16_i32_83 c0_i32_87
  let v143 : BitVec 32 := Scalar.extui v142
  let v144 : BitVec 32 := Scalar.subi v141 v143
  let v145 : BitVec 1 := Scalar.cmpi .ne v139 v144
  let v146 : BitVec 32 := Scalar.remsi v133 c16_i32_83
  let c0_i32_88 : BitVec 32 := 0#32
  let v147 : BitVec 1 := Scalar.cmpi .ne v146 c0_i32_88
  let v148 : BitVec 1 := Scalar.andi v145 v147
  let v134 : BitVec 32 := Scalar.divsi v133 c16_i32_83
  let c1_i32_89 : BitVec 32 := 1#32
  let v149 : BitVec 32 := Scalar.subi v134 c1_i32_89
  let v150 : BitVec 32 := Scalar.select v148 v149 v134
  let c16_i32_90 : BitVec 32 := 16#32
  let v151 : BitVec 32 := Scalar.muli v150 c16_i32_90
  ![v151.toNat]

def k1_chk22 (v4 : BitVec 32) (k1_t5 : Fin (k1_t5_loop v4).trips) (v133 : BitVec 32) : Prop :=
  (∀ (k1_h3 : k1_cond3 v4 k1_t5 = 1#1), ∀ (k1_h5 : k1_cond5 v4 k1_t5 = 1#1), ∀ a, (k1_off42 v133) a + S512.size a ≤ S327680.size a)
theorem k1_off42_inb : ∀ (v4 : BitVec 32) (k1_t5 : Fin (k1_t5_loop v4).trips) (v133 : BitVec 32) (k1_hw22 : k1_chk22 v4 k1_t5 v133), ∀ (k1_h3 : k1_cond3 v4 k1_t5 = 1#1), ∀ (k1_h5 : k1_cond5 v4 k1_t5 = 1#1), ∀ a, (k1_off42 v133) a + S512.size a ≤ S327680.size a := fun v4 k1_t5 v133 k1_hw22 k1_h3 k1_h5 => k1_hw22 k1_h3 k1_h5

@[reducible] def k1_t8_loop : Scf.Loop 32 :=
  let c0_i32_79 : BitVec 32 := 0#32
  let c32_i32_80 : BitVec 32 := 32#32
  let v109 : BitVec 32 := Scalar.addi c0_i32_79 c32_i32_80
  let c1_i32_81 : BitVec 32 := 1#32
  ⟨c0_i32_79, v109, c1_i32_81⟩
def k1_off43 (k1_t8 : Fin k1_t8_loop.trips) : Fin 1 → Nat :=
  let c0_i32_79 : BitVec 32 := 0#32
  let c1_i32_81 : BitVec 32 := 1#32
  let arg27 : BitVec 32 := Scf.iv c0_i32_79 c1_i32_81 k1_t8
  let c16_i32_85 : BitVec 32 := 16#32
  let v112 : BitVec 32 := Scalar.muli arg27 c16_i32_85
  let v113 : Index := Scalar.indexCast v112
  ![v113.toNat]
@[reducible] def k1_t9_loop : Scf.Loop 32 :=
  let c0_i32_68 : BitVec 32 := 0#32
  let c32_i32_69 : BitVec 32 := 32#32
  let v99 : BitVec 32 := Scalar.addi c0_i32_68 c32_i32_69
  let c1_i32_70 : BitVec 32 := 1#32
  ⟨c0_i32_68, v99, c1_i32_70⟩
def k1_off44 (k1_t9 : Fin k1_t9_loop.trips) : Fin 1 → Nat :=
  let c0_i32_68 : BitVec 32 := 0#32
  let c1_i32_70 : BitVec 32 := 1#32
  let arg27 : BitVec 32 := Scf.iv c0_i32_68 c1_i32_70 k1_t9
  let c16_i32_74 : BitVec 32 := 16#32
  let v105 : BitVec 32 := Scalar.muli arg27 c16_i32_74
  let v106 : Index := Scalar.indexCast v105
  ![v106.toNat]
def k1_off45 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_79 : BitVec 32 := 16#32
  let v119 : BitVec 32 := Scalar.muli arg27 c16_i32_79
  let c0_i32_80 : BitVec 32 := 0#32
  let v120 : BitVec 32 := Scalar.addi v119 c0_i32_80
  let v121 : Index := Scalar.indexCast v120
  let c0_81 : Index := 0#32
  ![v121.toNat, 0]
def k1_off46 (v118 : BitVec 32) : Fin 2 → Nat :=
  let v123 : Index := Scalar.indexCast v118
  let c0_82 : Index := 0#32
  ![v123.toNat, 0]
def k1_cond6 (v4 : BitVec 32) (k1_t5 : Fin (k1_t5_loop v4).trips) : BitVec 1 :=
  let c2_i32_59 : BitVec 32 := 2#32
  let c0_i32_24 : BitVec 32 := 0#32
  let c1_i32_27 : BitVec 32 := 1#32
  let arg25 : BitVec 32 := Scf.iv c0_i32_24 c1_i32_27 k1_t5
  let v89 : BitVec 32 := Scalar.muli c2_i32_59 arg25
  let c1_i32_60 : BitVec 32 := 1#32
  let v90 : BitVec 32 := Scalar.addi v89 c1_i32_60
  let v91 : BitVec 1 := Scalar.cmpi .slt v90 v4
  let v92 : BitVec 32 := Scalar.extui v91
  let c0_i32_61 : BitVec 32 := 0#32
  let v93 : BitVec 1 := Scalar.cmpi .ne v92 c0_i32_61
  v93

def k1_chk23 (v4 : BitVec 32) (k1_t5 : Fin (k1_t5_loop v4).trips) (v118 : BitVec 32) : Prop :=
  (∀ (k1_h6 : k1_cond6 v4 k1_t5 = 1#1), ∀ a, (k1_off46 v118) a + S1x16.size a ≤ S5008x16.size a)
theorem k1_off46_inb : ∀ (v4 : BitVec 32) (k1_t5 : Fin (k1_t5_loop v4).trips) (v118 : BitVec 32) (k1_hw23 : k1_chk23 v4 k1_t5 v118), ∀ (k1_h6 : k1_cond6 v4 k1_t5 = 1#1), ∀ a, (k1_off46 v118) a + S1x16.size a ≤ S5008x16.size a := fun v4 k1_t5 v118 k1_hw23 k1_h6 => k1_hw23 k1_h6

def k1_off47 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_84 : BitVec 32 := 16#32
  let v130 : BitVec 32 := Scalar.muli arg27 c16_i32_84
  let c1_i32_85 : BitVec 32 := 1#32
  let v131 : BitVec 32 := Scalar.addi v130 c1_i32_85
  let v132 : Index := Scalar.indexCast v131
  let c0_86 : Index := 0#32
  ![v132.toNat, 0]
def k1_off48 (v129 : BitVec 32) : Fin 2 → Nat :=
  let v134 : Index := Scalar.indexCast v129
  let c0_87 : Index := 0#32
  ![v134.toNat, 0]

def k1_chk24 (v4 : BitVec 32) (k1_t5 : Fin (k1_t5_loop v4).trips) (v129 : BitVec 32) : Prop :=
  (∀ (k1_h6 : k1_cond6 v4 k1_t5 = 1#1), ∀ a, (k1_off48 v129) a + S1x16.size a ≤ S5008x16.size a)
theorem k1_off48_inb : ∀ (v4 : BitVec 32) (k1_t5 : Fin (k1_t5_loop v4).trips) (v129 : BitVec 32) (k1_hw24 : k1_chk24 v4 k1_t5 v129), ∀ (k1_h6 : k1_cond6 v4 k1_t5 = 1#1), ∀ a, (k1_off48 v129) a + S1x16.size a ≤ S5008x16.size a := fun v4 k1_t5 v129 k1_hw24 k1_h6 => k1_hw24 k1_h6

def k1_off49 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_89 : BitVec 32 := 16#32
  let v141 : BitVec 32 := Scalar.muli arg27 c16_i32_89
  let c2_i32_90 : BitVec 32 := 2#32
  let v142 : BitVec 32 := Scalar.addi v141 c2_i32_90
  let v143 : Index := Scalar.indexCast v142
  let c0_91 : Index := 0#32
  ![v143.toNat, 0]
def k1_off50 (v140 : BitVec 32) : Fin 2 → Nat :=
  let v145 : Index := Scalar.indexCast v140
  let c0_92 : Index := 0#32
  ![v145.toNat, 0]

def k1_chk25 (v4 : BitVec 32) (k1_t5 : Fin (k1_t5_loop v4).trips) (v140 : BitVec 32) : Prop :=
  (∀ (k1_h6 : k1_cond6 v4 k1_t5 = 1#1), ∀ a, (k1_off50 v140) a + S1x16.size a ≤ S5008x16.size a)
theorem k1_off50_inb : ∀ (v4 : BitVec 32) (k1_t5 : Fin (k1_t5_loop v4).trips) (v140 : BitVec 32) (k1_hw25 : k1_chk25 v4 k1_t5 v140), ∀ (k1_h6 : k1_cond6 v4 k1_t5 = 1#1), ∀ a, (k1_off50 v140) a + S1x16.size a ≤ S5008x16.size a := fun v4 k1_t5 v140 k1_hw25 k1_h6 => k1_hw25 k1_h6

def k1_off51 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_94 : BitVec 32 := 16#32
  let v152 : BitVec 32 := Scalar.muli arg27 c16_i32_94
  let c3_i32 : BitVec 32 := 3#32
  let v153 : BitVec 32 := Scalar.addi v152 c3_i32
  let v154 : Index := Scalar.indexCast v153
  let c0_95 : Index := 0#32
  ![v154.toNat, 0]
def k1_off52 (v151 : BitVec 32) : Fin 2 → Nat :=
  let v156 : Index := Scalar.indexCast v151
  let c0_96 : Index := 0#32
  ![v156.toNat, 0]

def k1_chk26 (v4 : BitVec 32) (k1_t5 : Fin (k1_t5_loop v4).trips) (v151 : BitVec 32) : Prop :=
  (∀ (k1_h6 : k1_cond6 v4 k1_t5 = 1#1), ∀ a, (k1_off52 v151) a + S1x16.size a ≤ S5008x16.size a)
theorem k1_off52_inb : ∀ (v4 : BitVec 32) (k1_t5 : Fin (k1_t5_loop v4).trips) (v151 : BitVec 32) (k1_hw26 : k1_chk26 v4 k1_t5 v151), ∀ (k1_h6 : k1_cond6 v4 k1_t5 = 1#1), ∀ a, (k1_off52 v151) a + S1x16.size a ≤ S5008x16.size a := fun v4 k1_t5 v151 k1_hw26 k1_h6 => k1_hw26 k1_h6

def k1_off53 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_98 : BitVec 32 := 16#32
  let v163 : BitVec 32 := Scalar.muli arg27 c16_i32_98
  let c4_i32 : BitVec 32 := 4#32
  let v164 : BitVec 32 := Scalar.addi v163 c4_i32
  let v165 : Index := Scalar.indexCast v164
  let c0_99 : Index := 0#32
  ![v165.toNat, 0]
def k1_off54 (v162 : BitVec 32) : Fin 2 → Nat :=
  let v167 : Index := Scalar.indexCast v162
  let c0_100 : Index := 0#32
  ![v167.toNat, 0]

def k1_chk27 (v4 : BitVec 32) (k1_t5 : Fin (k1_t5_loop v4).trips) (v162 : BitVec 32) : Prop :=
  (∀ (k1_h6 : k1_cond6 v4 k1_t5 = 1#1), ∀ a, (k1_off54 v162) a + S1x16.size a ≤ S5008x16.size a)
theorem k1_off54_inb : ∀ (v4 : BitVec 32) (k1_t5 : Fin (k1_t5_loop v4).trips) (v162 : BitVec 32) (k1_hw27 : k1_chk27 v4 k1_t5 v162), ∀ (k1_h6 : k1_cond6 v4 k1_t5 = 1#1), ∀ a, (k1_off54 v162) a + S1x16.size a ≤ S5008x16.size a := fun v4 k1_t5 v162 k1_hw27 k1_h6 => k1_hw27 k1_h6

def k1_off55 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_102 : BitVec 32 := 16#32
  let v174 : BitVec 32 := Scalar.muli arg27 c16_i32_102
  let c5_i32 : BitVec 32 := 5#32
  let v175 : BitVec 32 := Scalar.addi v174 c5_i32
  let v176 : Index := Scalar.indexCast v175
  let c0_103 : Index := 0#32
  ![v176.toNat, 0]
def k1_off56 (v173 : BitVec 32) : Fin 2 → Nat :=
  let v178 : Index := Scalar.indexCast v173
  let c0_104 : Index := 0#32
  ![v178.toNat, 0]

def k1_chk28 (v4 : BitVec 32) (k1_t5 : Fin (k1_t5_loop v4).trips) (v173 : BitVec 32) : Prop :=
  (∀ (k1_h6 : k1_cond6 v4 k1_t5 = 1#1), ∀ a, (k1_off56 v173) a + S1x16.size a ≤ S5008x16.size a)
theorem k1_off56_inb : ∀ (v4 : BitVec 32) (k1_t5 : Fin (k1_t5_loop v4).trips) (v173 : BitVec 32) (k1_hw28 : k1_chk28 v4 k1_t5 v173), ∀ (k1_h6 : k1_cond6 v4 k1_t5 = 1#1), ∀ a, (k1_off56 v173) a + S1x16.size a ≤ S5008x16.size a := fun v4 k1_t5 v173 k1_hw28 k1_h6 => k1_hw28 k1_h6

def k1_off57 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_106 : BitVec 32 := 16#32
  let v185 : BitVec 32 := Scalar.muli arg27 c16_i32_106
  let c6_i32 : BitVec 32 := 6#32
  let v186 : BitVec 32 := Scalar.addi v185 c6_i32
  let v187 : Index := Scalar.indexCast v186
  let c0_107 : Index := 0#32
  ![v187.toNat, 0]
def k1_off58 (v184 : BitVec 32) : Fin 2 → Nat :=
  let v189 : Index := Scalar.indexCast v184
  let c0_108 : Index := 0#32
  ![v189.toNat, 0]

def k1_chk29 (v4 : BitVec 32) (k1_t5 : Fin (k1_t5_loop v4).trips) (v184 : BitVec 32) : Prop :=
  (∀ (k1_h6 : k1_cond6 v4 k1_t5 = 1#1), ∀ a, (k1_off58 v184) a + S1x16.size a ≤ S5008x16.size a)
theorem k1_off58_inb : ∀ (v4 : BitVec 32) (k1_t5 : Fin (k1_t5_loop v4).trips) (v184 : BitVec 32) (k1_hw29 : k1_chk29 v4 k1_t5 v184), ∀ (k1_h6 : k1_cond6 v4 k1_t5 = 1#1), ∀ a, (k1_off58 v184) a + S1x16.size a ≤ S5008x16.size a := fun v4 k1_t5 v184 k1_hw29 k1_h6 => k1_hw29 k1_h6

def k1_off59 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_110 : BitVec 32 := 16#32
  let v196 : BitVec 32 := Scalar.muli arg27 c16_i32_110
  let c7_i32 : BitVec 32 := 7#32
  let v197 : BitVec 32 := Scalar.addi v196 c7_i32
  let v198 : Index := Scalar.indexCast v197
  let c0_111 : Index := 0#32
  ![v198.toNat, 0]
def k1_off60 (v195 : BitVec 32) : Fin 2 → Nat :=
  let v200 : Index := Scalar.indexCast v195
  let c0_112 : Index := 0#32
  ![v200.toNat, 0]

def k1_chk30 (v4 : BitVec 32) (k1_t5 : Fin (k1_t5_loop v4).trips) (v195 : BitVec 32) : Prop :=
  (∀ (k1_h6 : k1_cond6 v4 k1_t5 = 1#1), ∀ a, (k1_off60 v195) a + S1x16.size a ≤ S5008x16.size a)
theorem k1_off60_inb : ∀ (v4 : BitVec 32) (k1_t5 : Fin (k1_t5_loop v4).trips) (v195 : BitVec 32) (k1_hw30 : k1_chk30 v4 k1_t5 v195), ∀ (k1_h6 : k1_cond6 v4 k1_t5 = 1#1), ∀ a, (k1_off60 v195) a + S1x16.size a ≤ S5008x16.size a := fun v4 k1_t5 v195 k1_hw30 k1_h6 => k1_hw30 k1_h6

def k1_off61 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_114 : BitVec 32 := 16#32
  let v207 : BitVec 32 := Scalar.muli arg27 c16_i32_114
  let c8_i32 : BitVec 32 := 8#32
  let v208 : BitVec 32 := Scalar.addi v207 c8_i32
  let v209 : Index := Scalar.indexCast v208
  let c0_115 : Index := 0#32
  ![v209.toNat, 0]
def k1_off62 (v206 : BitVec 32) : Fin 2 → Nat :=
  let v211 : Index := Scalar.indexCast v206
  let c0_116 : Index := 0#32
  ![v211.toNat, 0]

def k1_chk31 (v4 : BitVec 32) (k1_t5 : Fin (k1_t5_loop v4).trips) (v206 : BitVec 32) : Prop :=
  (∀ (k1_h6 : k1_cond6 v4 k1_t5 = 1#1), ∀ a, (k1_off62 v206) a + S1x16.size a ≤ S5008x16.size a)
theorem k1_off62_inb : ∀ (v4 : BitVec 32) (k1_t5 : Fin (k1_t5_loop v4).trips) (v206 : BitVec 32) (k1_hw31 : k1_chk31 v4 k1_t5 v206), ∀ (k1_h6 : k1_cond6 v4 k1_t5 = 1#1), ∀ a, (k1_off62 v206) a + S1x16.size a ≤ S5008x16.size a := fun v4 k1_t5 v206 k1_hw31 k1_h6 => k1_hw31 k1_h6

def k1_off63 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_118 : BitVec 32 := 16#32
  let v218 : BitVec 32 := Scalar.muli arg27 c16_i32_118
  let c9_i32 : BitVec 32 := 9#32
  let v219 : BitVec 32 := Scalar.addi v218 c9_i32
  let v220 : Index := Scalar.indexCast v219
  let c0_119 : Index := 0#32
  ![v220.toNat, 0]
def k1_off64 (v217 : BitVec 32) : Fin 2 → Nat :=
  let v222 : Index := Scalar.indexCast v217
  let c0_120 : Index := 0#32
  ![v222.toNat, 0]

def k1_chk32 (v4 : BitVec 32) (k1_t5 : Fin (k1_t5_loop v4).trips) (v217 : BitVec 32) : Prop :=
  (∀ (k1_h6 : k1_cond6 v4 k1_t5 = 1#1), ∀ a, (k1_off64 v217) a + S1x16.size a ≤ S5008x16.size a)
theorem k1_off64_inb : ∀ (v4 : BitVec 32) (k1_t5 : Fin (k1_t5_loop v4).trips) (v217 : BitVec 32) (k1_hw32 : k1_chk32 v4 k1_t5 v217), ∀ (k1_h6 : k1_cond6 v4 k1_t5 = 1#1), ∀ a, (k1_off64 v217) a + S1x16.size a ≤ S5008x16.size a := fun v4 k1_t5 v217 k1_hw32 k1_h6 => k1_hw32 k1_h6

def k1_off65 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_122 : BitVec 32 := 16#32
  let v229 : BitVec 32 := Scalar.muli arg27 c16_i32_122
  let c10_i32 : BitVec 32 := 10#32
  let v230 : BitVec 32 := Scalar.addi v229 c10_i32
  let v231 : Index := Scalar.indexCast v230
  let c0_123 : Index := 0#32
  ![v231.toNat, 0]
def k1_off66 (v228 : BitVec 32) : Fin 2 → Nat :=
  let v233 : Index := Scalar.indexCast v228
  let c0_124 : Index := 0#32
  ![v233.toNat, 0]

def k1_chk33 (v4 : BitVec 32) (k1_t5 : Fin (k1_t5_loop v4).trips) (v228 : BitVec 32) : Prop :=
  (∀ (k1_h6 : k1_cond6 v4 k1_t5 = 1#1), ∀ a, (k1_off66 v228) a + S1x16.size a ≤ S5008x16.size a)
theorem k1_off66_inb : ∀ (v4 : BitVec 32) (k1_t5 : Fin (k1_t5_loop v4).trips) (v228 : BitVec 32) (k1_hw33 : k1_chk33 v4 k1_t5 v228), ∀ (k1_h6 : k1_cond6 v4 k1_t5 = 1#1), ∀ a, (k1_off66 v228) a + S1x16.size a ≤ S5008x16.size a := fun v4 k1_t5 v228 k1_hw33 k1_h6 => k1_hw33 k1_h6

def k1_off67 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_126 : BitVec 32 := 16#32
  let v240 : BitVec 32 := Scalar.muli arg27 c16_i32_126
  let c11_i32 : BitVec 32 := 11#32
  let v241 : BitVec 32 := Scalar.addi v240 c11_i32
  let v242 : Index := Scalar.indexCast v241
  let c0_127 : Index := 0#32
  ![v242.toNat, 0]
def k1_off68 (v239 : BitVec 32) : Fin 2 → Nat :=
  let v244 : Index := Scalar.indexCast v239
  let c0_128 : Index := 0#32
  ![v244.toNat, 0]

def k1_chk34 (v4 : BitVec 32) (k1_t5 : Fin (k1_t5_loop v4).trips) (v239 : BitVec 32) : Prop :=
  (∀ (k1_h6 : k1_cond6 v4 k1_t5 = 1#1), ∀ a, (k1_off68 v239) a + S1x16.size a ≤ S5008x16.size a)
theorem k1_off68_inb : ∀ (v4 : BitVec 32) (k1_t5 : Fin (k1_t5_loop v4).trips) (v239 : BitVec 32) (k1_hw34 : k1_chk34 v4 k1_t5 v239), ∀ (k1_h6 : k1_cond6 v4 k1_t5 = 1#1), ∀ a, (k1_off68 v239) a + S1x16.size a ≤ S5008x16.size a := fun v4 k1_t5 v239 k1_hw34 k1_h6 => k1_hw34 k1_h6

def k1_off69 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_130 : BitVec 32 := 16#32
  let v251 : BitVec 32 := Scalar.muli arg27 c16_i32_130
  let c12_i32 : BitVec 32 := 12#32
  let v252 : BitVec 32 := Scalar.addi v251 c12_i32
  let v253 : Index := Scalar.indexCast v252
  let c0_131 : Index := 0#32
  ![v253.toNat, 0]
def k1_off70 (v250 : BitVec 32) : Fin 2 → Nat :=
  let v255 : Index := Scalar.indexCast v250
  let c0_132 : Index := 0#32
  ![v255.toNat, 0]

def k1_chk35 (v4 : BitVec 32) (k1_t5 : Fin (k1_t5_loop v4).trips) (v250 : BitVec 32) : Prop :=
  (∀ (k1_h6 : k1_cond6 v4 k1_t5 = 1#1), ∀ a, (k1_off70 v250) a + S1x16.size a ≤ S5008x16.size a)
theorem k1_off70_inb : ∀ (v4 : BitVec 32) (k1_t5 : Fin (k1_t5_loop v4).trips) (v250 : BitVec 32) (k1_hw35 : k1_chk35 v4 k1_t5 v250), ∀ (k1_h6 : k1_cond6 v4 k1_t5 = 1#1), ∀ a, (k1_off70 v250) a + S1x16.size a ≤ S5008x16.size a := fun v4 k1_t5 v250 k1_hw35 k1_h6 => k1_hw35 k1_h6

def k1_off71 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_134 : BitVec 32 := 16#32
  let v262 : BitVec 32 := Scalar.muli arg27 c16_i32_134
  let c13_i32 : BitVec 32 := 13#32
  let v263 : BitVec 32 := Scalar.addi v262 c13_i32
  let v264 : Index := Scalar.indexCast v263
  let c0_135 : Index := 0#32
  ![v264.toNat, 0]
def k1_off72 (v261 : BitVec 32) : Fin 2 → Nat :=
  let v266 : Index := Scalar.indexCast v261
  let c0_136 : Index := 0#32
  ![v266.toNat, 0]

def k1_chk36 (v4 : BitVec 32) (k1_t5 : Fin (k1_t5_loop v4).trips) (v261 : BitVec 32) : Prop :=
  (∀ (k1_h6 : k1_cond6 v4 k1_t5 = 1#1), ∀ a, (k1_off72 v261) a + S1x16.size a ≤ S5008x16.size a)
theorem k1_off72_inb : ∀ (v4 : BitVec 32) (k1_t5 : Fin (k1_t5_loop v4).trips) (v261 : BitVec 32) (k1_hw36 : k1_chk36 v4 k1_t5 v261), ∀ (k1_h6 : k1_cond6 v4 k1_t5 = 1#1), ∀ a, (k1_off72 v261) a + S1x16.size a ≤ S5008x16.size a := fun v4 k1_t5 v261 k1_hw36 k1_h6 => k1_hw36 k1_h6

def k1_off73 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_138 : BitVec 32 := 16#32
  let v273 : BitVec 32 := Scalar.muli arg27 c16_i32_138
  let c14_i32 : BitVec 32 := 14#32
  let v274 : BitVec 32 := Scalar.addi v273 c14_i32
  let v275 : Index := Scalar.indexCast v274
  let c0_139 : Index := 0#32
  ![v275.toNat, 0]
def k1_off74 (v272 : BitVec 32) : Fin 2 → Nat :=
  let v277 : Index := Scalar.indexCast v272
  let c0_140 : Index := 0#32
  ![v277.toNat, 0]

def k1_chk37 (v4 : BitVec 32) (k1_t5 : Fin (k1_t5_loop v4).trips) (v272 : BitVec 32) : Prop :=
  (∀ (k1_h6 : k1_cond6 v4 k1_t5 = 1#1), ∀ a, (k1_off74 v272) a + S1x16.size a ≤ S5008x16.size a)
theorem k1_off74_inb : ∀ (v4 : BitVec 32) (k1_t5 : Fin (k1_t5_loop v4).trips) (v272 : BitVec 32) (k1_hw37 : k1_chk37 v4 k1_t5 v272), ∀ (k1_h6 : k1_cond6 v4 k1_t5 = 1#1), ∀ a, (k1_off74 v272) a + S1x16.size a ≤ S5008x16.size a := fun v4 k1_t5 v272 k1_hw37 k1_h6 => k1_hw37 k1_h6

def k1_off75 (k1_t9 : Fin k1_t9_loop.trips) : Fin 2 → Nat :=
  let c0_i32_68 : BitVec 32 := 0#32
  let c1_i32_70 : BitVec 32 := 1#32
  let arg27 : BitVec 32 := Scf.iv c0_i32_68 c1_i32_70 k1_t9
  let c16_i32_142 : BitVec 32 := 16#32
  let v284 : BitVec 32 := Scalar.muli arg27 c16_i32_142
  let c15_i32 : BitVec 32 := 15#32
  let v285 : BitVec 32 := Scalar.addi v284 c15_i32
  let v286 : Index := Scalar.indexCast v285
  let c0_143 : Index := 0#32
  ![v286.toNat, 0]
def k1_off76 (v283 : BitVec 32) : Fin 2 → Nat :=
  let v288 : Index := Scalar.indexCast v283
  let c0_144 : Index := 0#32
  ![v288.toNat, 0]

def k1_chk38 (v4 : BitVec 32) (k1_t5 : Fin (k1_t5_loop v4).trips) (v283 : BitVec 32) : Prop :=
  (∀ (k1_h6 : k1_cond6 v4 k1_t5 = 1#1), ∀ a, (k1_off76 v283) a + S1x16.size a ≤ S5008x16.size a)
theorem k1_off76_inb : ∀ (v4 : BitVec 32) (k1_t5 : Fin (k1_t5_loop v4).trips) (v283 : BitVec 32) (k1_hw38 : k1_chk38 v4 k1_t5 v283), ∀ (k1_h6 : k1_cond6 v4 k1_t5 = 1#1), ∀ a, (k1_off76 v283) a + S1x16.size a ≤ S5008x16.size a := fun v4 k1_t5 v283 k1_hw38 k1_h6 => k1_hw38 k1_h6

def k1_off77 (v4 : BitVec 32) (k1_t5 : Fin (k1_t5_loop v4).trips) : Fin 1 → Nat :=
  let c2_i32_59 : BitVec 32 := 2#32
  let c0_i32_24 : BitVec 32 := 0#32
  let c1_i32_27 : BitVec 32 := 1#32
  let arg25 : BitVec 32 := Scf.iv c0_i32_24 c1_i32_27 k1_t5
  let v89 : BitVec 32 := Scalar.muli c2_i32_59 arg25
  let c1_i32_60 : BitVec 32 := 1#32
  let v90 : BitVec 32 := Scalar.addi v89 c1_i32_60
  let c2_i32_74 : BitVec 32 := 2#32
  let v105 : BitVec 32 := Scalar.addi v90 c2_i32_74
  let c0_i32_75 : BitVec 32 := 0#32
  let v107 : BitVec 1 := Scalar.cmpi .sgt v105 c0_i32_75
  let v108 : BitVec 32 := Scalar.extui v107
  let c0_i32_76 : BitVec 32 := 0#32
  let v109 : BitVec 1 := Scalar.cmpi .slt v105 c0_i32_76
  let v110 : BitVec 32 := Scalar.extui v109
  let v111 : BitVec 32 := Scalar.subi v108 v110
  let c8_i32 : BitVec 32 := 8#32
  let c0_i32_77 : BitVec 32 := 0#32
  let v112 : BitVec 1 := Scalar.cmpi .sgt c8_i32 c0_i32_77
  let v113 : BitVec 32 := Scalar.extui v112
  let c0_i32_78 : BitVec 32 := 0#32
  let v114 : BitVec 1 := Scalar.cmpi .slt c8_i32 c0_i32_78
  let v115 : BitVec 32 := Scalar.extui v114
  let v116 : BitVec 32 := Scalar.subi v113 v115
  let v117 : BitVec 1 := Scalar.cmpi .ne v111 v116
  let v118 : BitVec 32 := Scalar.remsi v105 c8_i32
  let c0_i32_79 : BitVec 32 := 0#32
  let v119 : BitVec 1 := Scalar.cmpi .ne v118 c0_i32_79
  let v120 : BitVec 1 := Scalar.andi v117 v119
  let v106 : BitVec 32 := Scalar.divsi v105 c8_i32
  let c1_i32_80 : BitVec 32 := 1#32
  let v121 : BitVec 32 := Scalar.subi v106 c1_i32_80
  let v122 : BitVec 32 := Scalar.select v120 v121 v106
  let c8_i32_81 : BitVec 32 := 8#32
  let v123 : BitVec 32 := Scalar.muli v122 c8_i32_81
  let v124 : Index := Scalar.indexCast v123
  ![v124.toNat]
def k1_cond8 (v4 : BitVec 32) (k1_t5 : Fin (k1_t5_loop v4).trips) : BitVec 1 :=
  let c2_i32_59 : BitVec 32 := 2#32
  let c0_i32_24 : BitVec 32 := 0#32
  let c1_i32_27 : BitVec 32 := 1#32
  let arg25 : BitVec 32 := Scf.iv c0_i32_24 c1_i32_27 k1_t5
  let v89 : BitVec 32 := Scalar.muli c2_i32_59 arg25
  let c1_i32_60 : BitVec 32 := 1#32
  let v90 : BitVec 32 := Scalar.addi v89 c1_i32_60
  let c2_i32_72 : BitVec 32 := 2#32
  let v101 : BitVec 32 := Scalar.addi v90 c2_i32_72
  let v102 : BitVec 1 := Scalar.cmpi .slt v101 v4
  let v103 : BitVec 32 := Scalar.extui v102
  let c0_i32_73 : BitVec 32 := 0#32
  let v104 : BitVec 1 := Scalar.cmpi .ne v103 c0_i32_73
  v104

def k1_off78 (v133 : BitVec 32) : Fin 1 → Nat :=
  let c0_i32_84 : BitVec 32 := 0#32
  let v135 : BitVec 1 := Scalar.cmpi .sgt v133 c0_i32_84
  let v136 : BitVec 32 := Scalar.extui v135
  let c0_i32_85 : BitVec 32 := 0#32
  let v137 : BitVec 1 := Scalar.cmpi .slt v133 c0_i32_85
  let v138 : BitVec 32 := Scalar.extui v137
  let v139 : BitVec 32 := Scalar.subi v136 v138
  let c16_i32_83 : BitVec 32 := 16#32
  let c0_i32_86 : BitVec 32 := 0#32
  let v140 : BitVec 1 := Scalar.cmpi .sgt c16_i32_83 c0_i32_86
  let v141 : BitVec 32 := Scalar.extui v140
  let c0_i32_87 : BitVec 32 := 0#32
  let v142 : BitVec 1 := Scalar.cmpi .slt c16_i32_83 c0_i32_87
  let v143 : BitVec 32 := Scalar.extui v142
  let v144 : BitVec 32 := Scalar.subi v141 v143
  let v145 : BitVec 1 := Scalar.cmpi .ne v139 v144
  let v146 : BitVec 32 := Scalar.remsi v133 c16_i32_83
  let c0_i32_88 : BitVec 32 := 0#32
  let v147 : BitVec 1 := Scalar.cmpi .ne v146 c0_i32_88
  let v148 : BitVec 1 := Scalar.andi v145 v147
  let v134 : BitVec 32 := Scalar.divsi v133 c16_i32_83
  let c1_i32_89 : BitVec 32 := 1#32
  let v149 : BitVec 32 := Scalar.subi v134 c1_i32_89
  let v150 : BitVec 32 := Scalar.select v148 v149 v134
  let c16_i32_90 : BitVec 32 := 16#32
  let v151 : BitVec 32 := Scalar.muli v150 c16_i32_90
  ![v151.toNat]

def k1_chk39 (v4 : BitVec 32) (k1_t5 : Fin (k1_t5_loop v4).trips) (v133 : BitVec 32) : Prop :=
  (∀ (k1_h6 : k1_cond6 v4 k1_t5 = 1#1), ∀ (k1_h8 : k1_cond8 v4 k1_t5 = 1#1), ∀ a, (k1_off78 v133) a + S512.size a ≤ S327680.size a)
theorem k1_off78_inb : ∀ (v4 : BitVec 32) (k1_t5 : Fin (k1_t5_loop v4).trips) (v133 : BitVec 32) (k1_hw39 : k1_chk39 v4 k1_t5 v133), ∀ (k1_h6 : k1_cond6 v4 k1_t5 = 1#1), ∀ (k1_h8 : k1_cond8 v4 k1_t5 = 1#1), ∀ a, (k1_off78 v133) a + S512.size a ≤ S327680.size a := fun v4 k1_t5 v133 k1_hw39 k1_h6 k1_h8 => k1_hw39 k1_h6 k1_h8

@[reducible] def k1_t10_loop (v4 : BitVec 32) : Scf.Loop 32 :=
  let c0_i32_24 : BitVec 32 := 0#32
  let c1_i32_16 : BitVec 32 := 1#32
  let v20 : BitVec 32 := Scalar.addi v4 c1_i32_16
  let c0_i32_18 : BitVec 32 := 0#32
  let v22 : BitVec 1 := Scalar.cmpi .sgt v20 c0_i32_18
  let v23 : BitVec 32 := Scalar.extui v22
  let c0_i32_19 : BitVec 32 := 0#32
  let v24 : BitVec 1 := Scalar.cmpi .slt v20 c0_i32_19
  let v25 : BitVec 32 := Scalar.extui v24
  let v26 : BitVec 32 := Scalar.subi v23 v25
  let c2_i32_17 : BitVec 32 := 2#32
  let c0_i32_20 : BitVec 32 := 0#32
  let v27 : BitVec 1 := Scalar.cmpi .sgt c2_i32_17 c0_i32_20
  let v28 : BitVec 32 := Scalar.extui v27
  let c0_i32_21 : BitVec 32 := 0#32
  let v29 : BitVec 1 := Scalar.cmpi .slt c2_i32_17 c0_i32_21
  let v30 : BitVec 32 := Scalar.extui v29
  let v31 : BitVec 32 := Scalar.subi v28 v30
  let v32 : BitVec 1 := Scalar.cmpi .ne v26 v31
  let v33 : BitVec 32 := Scalar.remsi v20 c2_i32_17
  let c0_i32_22 : BitVec 32 := 0#32
  let v34 : BitVec 1 := Scalar.cmpi .ne v33 c0_i32_22
  let v35 : BitVec 1 := Scalar.andi v32 v34
  let v21 : BitVec 32 := Scalar.divsi v20 c2_i32_17
  let c1_i32_23 : BitVec 32 := 1#32
  let v36 : BitVec 32 := Scalar.subi v21 c1_i32_23
  let v37 : BitVec 32 := Scalar.select v35 v36 v21
  let v38 : BitVec 32 := Scalar.subi v37 c0_i32_24
  let c1_i32_26 : BitVec 32 := 1#32
  let v40 : BitVec 32 := Scalar.divsi v38 c1_i32_26
  let v41 : BitVec 32 := Scalar.muli v40 c1_i32_26
  let v42 : BitVec 32 := Scalar.addi c0_i32_24 v41
  let v39 : BitVec 32 := Scalar.addi c0_i32_24 v38
  let c1_i32_28 : BitVec 32 := 1#32
  ⟨v42, v39, c1_i32_28⟩
@[reducible] def k1_t11_loop : Scf.Loop 32 :=
  let c0_i32_79 : BitVec 32 := 0#32
  let c32_i32_80 : BitVec 32 := 32#32
  let v109 : BitVec 32 := Scalar.addi c0_i32_79 c32_i32_80
  let c1_i32_81 : BitVec 32 := 1#32
  ⟨c0_i32_79, v109, c1_i32_81⟩
def k1_off79 (k1_t11 : Fin k1_t11_loop.trips) : Fin 1 → Nat :=
  let c0_i32_79 : BitVec 32 := 0#32
  let c1_i32_81 : BitVec 32 := 1#32
  let arg27 : BitVec 32 := Scf.iv c0_i32_79 c1_i32_81 k1_t11
  let c16_i32_85 : BitVec 32 := 16#32
  let v112 : BitVec 32 := Scalar.muli arg27 c16_i32_85
  let v113 : Index := Scalar.indexCast v112
  ![v113.toNat]
@[reducible] def k1_t12_loop : Scf.Loop 32 :=
  let c0_i32_68 : BitVec 32 := 0#32
  let c32_i32_69 : BitVec 32 := 32#32
  let v99 : BitVec 32 := Scalar.addi c0_i32_68 c32_i32_69
  let c1_i32_70 : BitVec 32 := 1#32
  ⟨c0_i32_68, v99, c1_i32_70⟩
def k1_off80 (k1_t12 : Fin k1_t12_loop.trips) : Fin 1 → Nat :=
  let c0_i32_68 : BitVec 32 := 0#32
  let c1_i32_70 : BitVec 32 := 1#32
  let arg27 : BitVec 32 := Scf.iv c0_i32_68 c1_i32_70 k1_t12
  let c16_i32_74 : BitVec 32 := 16#32
  let v105 : BitVec 32 := Scalar.muli arg27 c16_i32_74
  let v106 : Index := Scalar.indexCast v105
  ![v106.toNat]
def k1_off81 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_79 : BitVec 32 := 16#32
  let v119 : BitVec 32 := Scalar.muli arg27 c16_i32_79
  let c0_i32_80 : BitVec 32 := 0#32
  let v120 : BitVec 32 := Scalar.addi v119 c0_i32_80
  let v121 : Index := Scalar.indexCast v120
  let c0_81 : Index := 0#32
  ![v121.toNat, 0]
def k1_off82 (v118 : BitVec 32) : Fin 2 → Nat :=
  let v123 : Index := Scalar.indexCast v118
  let c0_82 : Index := 0#32
  ![v123.toNat, 0]
def k1_cond9 (v4 : BitVec 32) (k1_t10 : Fin (k1_t10_loop v4).trips) : BitVec 1 :=
  let c2_i32_57 : BitVec 32 := 2#32
  let c0_i32_24 : BitVec 32 := 0#32
  let c1_i32_16 : BitVec 32 := 1#32
  let v20 : BitVec 32 := Scalar.addi v4 c1_i32_16
  let c0_i32_18 : BitVec 32 := 0#32
  let v22 : BitVec 1 := Scalar.cmpi .sgt v20 c0_i32_18
  let v23 : BitVec 32 := Scalar.extui v22
  let c0_i32_19 : BitVec 32 := 0#32
  let v24 : BitVec 1 := Scalar.cmpi .slt v20 c0_i32_19
  let v25 : BitVec 32 := Scalar.extui v24
  let v26 : BitVec 32 := Scalar.subi v23 v25
  let c2_i32_17 : BitVec 32 := 2#32
  let c0_i32_20 : BitVec 32 := 0#32
  let v27 : BitVec 1 := Scalar.cmpi .sgt c2_i32_17 c0_i32_20
  let v28 : BitVec 32 := Scalar.extui v27
  let c0_i32_21 : BitVec 32 := 0#32
  let v29 : BitVec 1 := Scalar.cmpi .slt c2_i32_17 c0_i32_21
  let v30 : BitVec 32 := Scalar.extui v29
  let v31 : BitVec 32 := Scalar.subi v28 v30
  let v32 : BitVec 1 := Scalar.cmpi .ne v26 v31
  let v33 : BitVec 32 := Scalar.remsi v20 c2_i32_17
  let c0_i32_22 : BitVec 32 := 0#32
  let v34 : BitVec 1 := Scalar.cmpi .ne v33 c0_i32_22
  let v35 : BitVec 1 := Scalar.andi v32 v34
  let v21 : BitVec 32 := Scalar.divsi v20 c2_i32_17
  let c1_i32_23 : BitVec 32 := 1#32
  let v36 : BitVec 32 := Scalar.subi v21 c1_i32_23
  let v37 : BitVec 32 := Scalar.select v35 v36 v21
  let v38 : BitVec 32 := Scalar.subi v37 c0_i32_24
  let c1_i32_26 : BitVec 32 := 1#32
  let v40 : BitVec 32 := Scalar.divsi v38 c1_i32_26
  let v41 : BitVec 32 := Scalar.muli v40 c1_i32_26
  let v42 : BitVec 32 := Scalar.addi c0_i32_24 v41
  let c1_i32_28 : BitVec 32 := 1#32
  let arg25 : BitVec 32 := Scf.iv v42 c1_i32_28 k1_t10
  let v85 : BitVec 32 := Scalar.muli c2_i32_57 arg25
  let v86 : BitVec 1 := Scalar.cmpi .slt v85 v4
  let v87 : BitVec 32 := Scalar.extui v86
  let c0_i32_58 : BitVec 32 := 0#32
  let v88 : BitVec 1 := Scalar.cmpi .ne v87 c0_i32_58
  v88

def k1_chk40 (v4 : BitVec 32) (k1_t10 : Fin (k1_t10_loop v4).trips) (v118 : BitVec 32) : Prop :=
  (∀ (k1_h9 : k1_cond9 v4 k1_t10 = 1#1), ∀ a, (k1_off82 v118) a + S1x16.size a ≤ S5008x16.size a)
theorem k1_off82_inb : ∀ (v4 : BitVec 32) (k1_t10 : Fin (k1_t10_loop v4).trips) (v118 : BitVec 32) (k1_hw40 : k1_chk40 v4 k1_t10 v118), ∀ (k1_h9 : k1_cond9 v4 k1_t10 = 1#1), ∀ a, (k1_off82 v118) a + S1x16.size a ≤ S5008x16.size a := fun v4 k1_t10 v118 k1_hw40 k1_h9 => k1_hw40 k1_h9

def k1_off83 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_84 : BitVec 32 := 16#32
  let v130 : BitVec 32 := Scalar.muli arg27 c16_i32_84
  let c1_i32_85 : BitVec 32 := 1#32
  let v131 : BitVec 32 := Scalar.addi v130 c1_i32_85
  let v132 : Index := Scalar.indexCast v131
  let c0_86 : Index := 0#32
  ![v132.toNat, 0]
def k1_off84 (v129 : BitVec 32) : Fin 2 → Nat :=
  let v134 : Index := Scalar.indexCast v129
  let c0_87 : Index := 0#32
  ![v134.toNat, 0]

def k1_chk41 (v4 : BitVec 32) (k1_t10 : Fin (k1_t10_loop v4).trips) (v129 : BitVec 32) : Prop :=
  (∀ (k1_h9 : k1_cond9 v4 k1_t10 = 1#1), ∀ a, (k1_off84 v129) a + S1x16.size a ≤ S5008x16.size a)
theorem k1_off84_inb : ∀ (v4 : BitVec 32) (k1_t10 : Fin (k1_t10_loop v4).trips) (v129 : BitVec 32) (k1_hw41 : k1_chk41 v4 k1_t10 v129), ∀ (k1_h9 : k1_cond9 v4 k1_t10 = 1#1), ∀ a, (k1_off84 v129) a + S1x16.size a ≤ S5008x16.size a := fun v4 k1_t10 v129 k1_hw41 k1_h9 => k1_hw41 k1_h9

def k1_off85 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_89 : BitVec 32 := 16#32
  let v141 : BitVec 32 := Scalar.muli arg27 c16_i32_89
  let c2_i32_90 : BitVec 32 := 2#32
  let v142 : BitVec 32 := Scalar.addi v141 c2_i32_90
  let v143 : Index := Scalar.indexCast v142
  let c0_91 : Index := 0#32
  ![v143.toNat, 0]
def k1_off86 (v140 : BitVec 32) : Fin 2 → Nat :=
  let v145 : Index := Scalar.indexCast v140
  let c0_92 : Index := 0#32
  ![v145.toNat, 0]

def k1_chk42 (v4 : BitVec 32) (k1_t10 : Fin (k1_t10_loop v4).trips) (v140 : BitVec 32) : Prop :=
  (∀ (k1_h9 : k1_cond9 v4 k1_t10 = 1#1), ∀ a, (k1_off86 v140) a + S1x16.size a ≤ S5008x16.size a)
theorem k1_off86_inb : ∀ (v4 : BitVec 32) (k1_t10 : Fin (k1_t10_loop v4).trips) (v140 : BitVec 32) (k1_hw42 : k1_chk42 v4 k1_t10 v140), ∀ (k1_h9 : k1_cond9 v4 k1_t10 = 1#1), ∀ a, (k1_off86 v140) a + S1x16.size a ≤ S5008x16.size a := fun v4 k1_t10 v140 k1_hw42 k1_h9 => k1_hw42 k1_h9

def k1_off87 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_94 : BitVec 32 := 16#32
  let v152 : BitVec 32 := Scalar.muli arg27 c16_i32_94
  let c3_i32 : BitVec 32 := 3#32
  let v153 : BitVec 32 := Scalar.addi v152 c3_i32
  let v154 : Index := Scalar.indexCast v153
  let c0_95 : Index := 0#32
  ![v154.toNat, 0]
def k1_off88 (v151 : BitVec 32) : Fin 2 → Nat :=
  let v156 : Index := Scalar.indexCast v151
  let c0_96 : Index := 0#32
  ![v156.toNat, 0]

def k1_chk43 (v4 : BitVec 32) (k1_t10 : Fin (k1_t10_loop v4).trips) (v151 : BitVec 32) : Prop :=
  (∀ (k1_h9 : k1_cond9 v4 k1_t10 = 1#1), ∀ a, (k1_off88 v151) a + S1x16.size a ≤ S5008x16.size a)
theorem k1_off88_inb : ∀ (v4 : BitVec 32) (k1_t10 : Fin (k1_t10_loop v4).trips) (v151 : BitVec 32) (k1_hw43 : k1_chk43 v4 k1_t10 v151), ∀ (k1_h9 : k1_cond9 v4 k1_t10 = 1#1), ∀ a, (k1_off88 v151) a + S1x16.size a ≤ S5008x16.size a := fun v4 k1_t10 v151 k1_hw43 k1_h9 => k1_hw43 k1_h9

def k1_off89 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_98 : BitVec 32 := 16#32
  let v163 : BitVec 32 := Scalar.muli arg27 c16_i32_98
  let c4_i32 : BitVec 32 := 4#32
  let v164 : BitVec 32 := Scalar.addi v163 c4_i32
  let v165 : Index := Scalar.indexCast v164
  let c0_99 : Index := 0#32
  ![v165.toNat, 0]
def k1_off90 (v162 : BitVec 32) : Fin 2 → Nat :=
  let v167 : Index := Scalar.indexCast v162
  let c0_100 : Index := 0#32
  ![v167.toNat, 0]

def k1_chk44 (v4 : BitVec 32) (k1_t10 : Fin (k1_t10_loop v4).trips) (v162 : BitVec 32) : Prop :=
  (∀ (k1_h9 : k1_cond9 v4 k1_t10 = 1#1), ∀ a, (k1_off90 v162) a + S1x16.size a ≤ S5008x16.size a)
theorem k1_off90_inb : ∀ (v4 : BitVec 32) (k1_t10 : Fin (k1_t10_loop v4).trips) (v162 : BitVec 32) (k1_hw44 : k1_chk44 v4 k1_t10 v162), ∀ (k1_h9 : k1_cond9 v4 k1_t10 = 1#1), ∀ a, (k1_off90 v162) a + S1x16.size a ≤ S5008x16.size a := fun v4 k1_t10 v162 k1_hw44 k1_h9 => k1_hw44 k1_h9

def k1_off91 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_102 : BitVec 32 := 16#32
  let v174 : BitVec 32 := Scalar.muli arg27 c16_i32_102
  let c5_i32 : BitVec 32 := 5#32
  let v175 : BitVec 32 := Scalar.addi v174 c5_i32
  let v176 : Index := Scalar.indexCast v175
  let c0_103 : Index := 0#32
  ![v176.toNat, 0]
def k1_off92 (v173 : BitVec 32) : Fin 2 → Nat :=
  let v178 : Index := Scalar.indexCast v173
  let c0_104 : Index := 0#32
  ![v178.toNat, 0]

def k1_chk45 (v4 : BitVec 32) (k1_t10 : Fin (k1_t10_loop v4).trips) (v173 : BitVec 32) : Prop :=
  (∀ (k1_h9 : k1_cond9 v4 k1_t10 = 1#1), ∀ a, (k1_off92 v173) a + S1x16.size a ≤ S5008x16.size a)
theorem k1_off92_inb : ∀ (v4 : BitVec 32) (k1_t10 : Fin (k1_t10_loop v4).trips) (v173 : BitVec 32) (k1_hw45 : k1_chk45 v4 k1_t10 v173), ∀ (k1_h9 : k1_cond9 v4 k1_t10 = 1#1), ∀ a, (k1_off92 v173) a + S1x16.size a ≤ S5008x16.size a := fun v4 k1_t10 v173 k1_hw45 k1_h9 => k1_hw45 k1_h9

def k1_off93 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_106 : BitVec 32 := 16#32
  let v185 : BitVec 32 := Scalar.muli arg27 c16_i32_106
  let c6_i32 : BitVec 32 := 6#32
  let v186 : BitVec 32 := Scalar.addi v185 c6_i32
  let v187 : Index := Scalar.indexCast v186
  let c0_107 : Index := 0#32
  ![v187.toNat, 0]
def k1_off94 (v184 : BitVec 32) : Fin 2 → Nat :=
  let v189 : Index := Scalar.indexCast v184
  let c0_108 : Index := 0#32
  ![v189.toNat, 0]

def k1_chk46 (v4 : BitVec 32) (k1_t10 : Fin (k1_t10_loop v4).trips) (v184 : BitVec 32) : Prop :=
  (∀ (k1_h9 : k1_cond9 v4 k1_t10 = 1#1), ∀ a, (k1_off94 v184) a + S1x16.size a ≤ S5008x16.size a)
theorem k1_off94_inb : ∀ (v4 : BitVec 32) (k1_t10 : Fin (k1_t10_loop v4).trips) (v184 : BitVec 32) (k1_hw46 : k1_chk46 v4 k1_t10 v184), ∀ (k1_h9 : k1_cond9 v4 k1_t10 = 1#1), ∀ a, (k1_off94 v184) a + S1x16.size a ≤ S5008x16.size a := fun v4 k1_t10 v184 k1_hw46 k1_h9 => k1_hw46 k1_h9

def k1_off95 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_110 : BitVec 32 := 16#32
  let v196 : BitVec 32 := Scalar.muli arg27 c16_i32_110
  let c7_i32 : BitVec 32 := 7#32
  let v197 : BitVec 32 := Scalar.addi v196 c7_i32
  let v198 : Index := Scalar.indexCast v197
  let c0_111 : Index := 0#32
  ![v198.toNat, 0]
def k1_off96 (v195 : BitVec 32) : Fin 2 → Nat :=
  let v200 : Index := Scalar.indexCast v195
  let c0_112 : Index := 0#32
  ![v200.toNat, 0]

def k1_chk47 (v4 : BitVec 32) (k1_t10 : Fin (k1_t10_loop v4).trips) (v195 : BitVec 32) : Prop :=
  (∀ (k1_h9 : k1_cond9 v4 k1_t10 = 1#1), ∀ a, (k1_off96 v195) a + S1x16.size a ≤ S5008x16.size a)
theorem k1_off96_inb : ∀ (v4 : BitVec 32) (k1_t10 : Fin (k1_t10_loop v4).trips) (v195 : BitVec 32) (k1_hw47 : k1_chk47 v4 k1_t10 v195), ∀ (k1_h9 : k1_cond9 v4 k1_t10 = 1#1), ∀ a, (k1_off96 v195) a + S1x16.size a ≤ S5008x16.size a := fun v4 k1_t10 v195 k1_hw47 k1_h9 => k1_hw47 k1_h9

def k1_off97 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_114 : BitVec 32 := 16#32
  let v207 : BitVec 32 := Scalar.muli arg27 c16_i32_114
  let c8_i32 : BitVec 32 := 8#32
  let v208 : BitVec 32 := Scalar.addi v207 c8_i32
  let v209 : Index := Scalar.indexCast v208
  let c0_115 : Index := 0#32
  ![v209.toNat, 0]
def k1_off98 (v206 : BitVec 32) : Fin 2 → Nat :=
  let v211 : Index := Scalar.indexCast v206
  let c0_116 : Index := 0#32
  ![v211.toNat, 0]

def k1_chk48 (v4 : BitVec 32) (k1_t10 : Fin (k1_t10_loop v4).trips) (v206 : BitVec 32) : Prop :=
  (∀ (k1_h9 : k1_cond9 v4 k1_t10 = 1#1), ∀ a, (k1_off98 v206) a + S1x16.size a ≤ S5008x16.size a)
theorem k1_off98_inb : ∀ (v4 : BitVec 32) (k1_t10 : Fin (k1_t10_loop v4).trips) (v206 : BitVec 32) (k1_hw48 : k1_chk48 v4 k1_t10 v206), ∀ (k1_h9 : k1_cond9 v4 k1_t10 = 1#1), ∀ a, (k1_off98 v206) a + S1x16.size a ≤ S5008x16.size a := fun v4 k1_t10 v206 k1_hw48 k1_h9 => k1_hw48 k1_h9

def k1_off99 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_118 : BitVec 32 := 16#32
  let v218 : BitVec 32 := Scalar.muli arg27 c16_i32_118
  let c9_i32 : BitVec 32 := 9#32
  let v219 : BitVec 32 := Scalar.addi v218 c9_i32
  let v220 : Index := Scalar.indexCast v219
  let c0_119 : Index := 0#32
  ![v220.toNat, 0]
def k1_off100 (v217 : BitVec 32) : Fin 2 → Nat :=
  let v222 : Index := Scalar.indexCast v217
  let c0_120 : Index := 0#32
  ![v222.toNat, 0]

def k1_chk49 (v4 : BitVec 32) (k1_t10 : Fin (k1_t10_loop v4).trips) (v217 : BitVec 32) : Prop :=
  (∀ (k1_h9 : k1_cond9 v4 k1_t10 = 1#1), ∀ a, (k1_off100 v217) a + S1x16.size a ≤ S5008x16.size a)
theorem k1_off100_inb : ∀ (v4 : BitVec 32) (k1_t10 : Fin (k1_t10_loop v4).trips) (v217 : BitVec 32) (k1_hw49 : k1_chk49 v4 k1_t10 v217), ∀ (k1_h9 : k1_cond9 v4 k1_t10 = 1#1), ∀ a, (k1_off100 v217) a + S1x16.size a ≤ S5008x16.size a := fun v4 k1_t10 v217 k1_hw49 k1_h9 => k1_hw49 k1_h9

def k1_off101 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_122 : BitVec 32 := 16#32
  let v229 : BitVec 32 := Scalar.muli arg27 c16_i32_122
  let c10_i32 : BitVec 32 := 10#32
  let v230 : BitVec 32 := Scalar.addi v229 c10_i32
  let v231 : Index := Scalar.indexCast v230
  let c0_123 : Index := 0#32
  ![v231.toNat, 0]
def k1_off102 (v228 : BitVec 32) : Fin 2 → Nat :=
  let v233 : Index := Scalar.indexCast v228
  let c0_124 : Index := 0#32
  ![v233.toNat, 0]

def k1_chk50 (v4 : BitVec 32) (k1_t10 : Fin (k1_t10_loop v4).trips) (v228 : BitVec 32) : Prop :=
  (∀ (k1_h9 : k1_cond9 v4 k1_t10 = 1#1), ∀ a, (k1_off102 v228) a + S1x16.size a ≤ S5008x16.size a)
theorem k1_off102_inb : ∀ (v4 : BitVec 32) (k1_t10 : Fin (k1_t10_loop v4).trips) (v228 : BitVec 32) (k1_hw50 : k1_chk50 v4 k1_t10 v228), ∀ (k1_h9 : k1_cond9 v4 k1_t10 = 1#1), ∀ a, (k1_off102 v228) a + S1x16.size a ≤ S5008x16.size a := fun v4 k1_t10 v228 k1_hw50 k1_h9 => k1_hw50 k1_h9

def k1_off103 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_126 : BitVec 32 := 16#32
  let v240 : BitVec 32 := Scalar.muli arg27 c16_i32_126
  let c11_i32 : BitVec 32 := 11#32
  let v241 : BitVec 32 := Scalar.addi v240 c11_i32
  let v242 : Index := Scalar.indexCast v241
  let c0_127 : Index := 0#32
  ![v242.toNat, 0]
def k1_off104 (v239 : BitVec 32) : Fin 2 → Nat :=
  let v244 : Index := Scalar.indexCast v239
  let c0_128 : Index := 0#32
  ![v244.toNat, 0]

def k1_chk51 (v4 : BitVec 32) (k1_t10 : Fin (k1_t10_loop v4).trips) (v239 : BitVec 32) : Prop :=
  (∀ (k1_h9 : k1_cond9 v4 k1_t10 = 1#1), ∀ a, (k1_off104 v239) a + S1x16.size a ≤ S5008x16.size a)
theorem k1_off104_inb : ∀ (v4 : BitVec 32) (k1_t10 : Fin (k1_t10_loop v4).trips) (v239 : BitVec 32) (k1_hw51 : k1_chk51 v4 k1_t10 v239), ∀ (k1_h9 : k1_cond9 v4 k1_t10 = 1#1), ∀ a, (k1_off104 v239) a + S1x16.size a ≤ S5008x16.size a := fun v4 k1_t10 v239 k1_hw51 k1_h9 => k1_hw51 k1_h9

def k1_off105 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_130 : BitVec 32 := 16#32
  let v251 : BitVec 32 := Scalar.muli arg27 c16_i32_130
  let c12_i32 : BitVec 32 := 12#32
  let v252 : BitVec 32 := Scalar.addi v251 c12_i32
  let v253 : Index := Scalar.indexCast v252
  let c0_131 : Index := 0#32
  ![v253.toNat, 0]
def k1_off106 (v250 : BitVec 32) : Fin 2 → Nat :=
  let v255 : Index := Scalar.indexCast v250
  let c0_132 : Index := 0#32
  ![v255.toNat, 0]

def k1_chk52 (v4 : BitVec 32) (k1_t10 : Fin (k1_t10_loop v4).trips) (v250 : BitVec 32) : Prop :=
  (∀ (k1_h9 : k1_cond9 v4 k1_t10 = 1#1), ∀ a, (k1_off106 v250) a + S1x16.size a ≤ S5008x16.size a)
theorem k1_off106_inb : ∀ (v4 : BitVec 32) (k1_t10 : Fin (k1_t10_loop v4).trips) (v250 : BitVec 32) (k1_hw52 : k1_chk52 v4 k1_t10 v250), ∀ (k1_h9 : k1_cond9 v4 k1_t10 = 1#1), ∀ a, (k1_off106 v250) a + S1x16.size a ≤ S5008x16.size a := fun v4 k1_t10 v250 k1_hw52 k1_h9 => k1_hw52 k1_h9

def k1_off107 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_134 : BitVec 32 := 16#32
  let v262 : BitVec 32 := Scalar.muli arg27 c16_i32_134
  let c13_i32 : BitVec 32 := 13#32
  let v263 : BitVec 32 := Scalar.addi v262 c13_i32
  let v264 : Index := Scalar.indexCast v263
  let c0_135 : Index := 0#32
  ![v264.toNat, 0]
def k1_off108 (v261 : BitVec 32) : Fin 2 → Nat :=
  let v266 : Index := Scalar.indexCast v261
  let c0_136 : Index := 0#32
  ![v266.toNat, 0]

def k1_chk53 (v4 : BitVec 32) (k1_t10 : Fin (k1_t10_loop v4).trips) (v261 : BitVec 32) : Prop :=
  (∀ (k1_h9 : k1_cond9 v4 k1_t10 = 1#1), ∀ a, (k1_off108 v261) a + S1x16.size a ≤ S5008x16.size a)
theorem k1_off108_inb : ∀ (v4 : BitVec 32) (k1_t10 : Fin (k1_t10_loop v4).trips) (v261 : BitVec 32) (k1_hw53 : k1_chk53 v4 k1_t10 v261), ∀ (k1_h9 : k1_cond9 v4 k1_t10 = 1#1), ∀ a, (k1_off108 v261) a + S1x16.size a ≤ S5008x16.size a := fun v4 k1_t10 v261 k1_hw53 k1_h9 => k1_hw53 k1_h9

def k1_off109 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_138 : BitVec 32 := 16#32
  let v273 : BitVec 32 := Scalar.muli arg27 c16_i32_138
  let c14_i32 : BitVec 32 := 14#32
  let v274 : BitVec 32 := Scalar.addi v273 c14_i32
  let v275 : Index := Scalar.indexCast v274
  let c0_139 : Index := 0#32
  ![v275.toNat, 0]
def k1_off110 (v272 : BitVec 32) : Fin 2 → Nat :=
  let v277 : Index := Scalar.indexCast v272
  let c0_140 : Index := 0#32
  ![v277.toNat, 0]

def k1_chk54 (v4 : BitVec 32) (k1_t10 : Fin (k1_t10_loop v4).trips) (v272 : BitVec 32) : Prop :=
  (∀ (k1_h9 : k1_cond9 v4 k1_t10 = 1#1), ∀ a, (k1_off110 v272) a + S1x16.size a ≤ S5008x16.size a)
theorem k1_off110_inb : ∀ (v4 : BitVec 32) (k1_t10 : Fin (k1_t10_loop v4).trips) (v272 : BitVec 32) (k1_hw54 : k1_chk54 v4 k1_t10 v272), ∀ (k1_h9 : k1_cond9 v4 k1_t10 = 1#1), ∀ a, (k1_off110 v272) a + S1x16.size a ≤ S5008x16.size a := fun v4 k1_t10 v272 k1_hw54 k1_h9 => k1_hw54 k1_h9

def k1_off111 (k1_t12 : Fin k1_t12_loop.trips) : Fin 2 → Nat :=
  let c0_i32_68 : BitVec 32 := 0#32
  let c1_i32_70 : BitVec 32 := 1#32
  let arg27 : BitVec 32 := Scf.iv c0_i32_68 c1_i32_70 k1_t12
  let c16_i32_142 : BitVec 32 := 16#32
  let v284 : BitVec 32 := Scalar.muli arg27 c16_i32_142
  let c15_i32 : BitVec 32 := 15#32
  let v285 : BitVec 32 := Scalar.addi v284 c15_i32
  let v286 : Index := Scalar.indexCast v285
  let c0_143 : Index := 0#32
  ![v286.toNat, 0]
def k1_off112 (v283 : BitVec 32) : Fin 2 → Nat :=
  let v288 : Index := Scalar.indexCast v283
  let c0_144 : Index := 0#32
  ![v288.toNat, 0]

def k1_chk55 (v4 : BitVec 32) (k1_t10 : Fin (k1_t10_loop v4).trips) (v283 : BitVec 32) : Prop :=
  (∀ (k1_h9 : k1_cond9 v4 k1_t10 = 1#1), ∀ a, (k1_off112 v283) a + S1x16.size a ≤ S5008x16.size a)
theorem k1_off112_inb : ∀ (v4 : BitVec 32) (k1_t10 : Fin (k1_t10_loop v4).trips) (v283 : BitVec 32) (k1_hw55 : k1_chk55 v4 k1_t10 v283), ∀ (k1_h9 : k1_cond9 v4 k1_t10 = 1#1), ∀ a, (k1_off112 v283) a + S1x16.size a ≤ S5008x16.size a := fun v4 k1_t10 v283 k1_hw55 k1_h9 => k1_hw55 k1_h9

def k1_off113 (v4 : BitVec 32) (k1_t10 : Fin (k1_t10_loop v4).trips) : Fin 1 → Nat :=
  let c2_i32_57 : BitVec 32 := 2#32
  let c0_i32_24 : BitVec 32 := 0#32
  let c1_i32_16 : BitVec 32 := 1#32
  let v20 : BitVec 32 := Scalar.addi v4 c1_i32_16
  let c0_i32_18 : BitVec 32 := 0#32
  let v22 : BitVec 1 := Scalar.cmpi .sgt v20 c0_i32_18
  let v23 : BitVec 32 := Scalar.extui v22
  let c0_i32_19 : BitVec 32 := 0#32
  let v24 : BitVec 1 := Scalar.cmpi .slt v20 c0_i32_19
  let v25 : BitVec 32 := Scalar.extui v24
  let v26 : BitVec 32 := Scalar.subi v23 v25
  let c2_i32_17 : BitVec 32 := 2#32
  let c0_i32_20 : BitVec 32 := 0#32
  let v27 : BitVec 1 := Scalar.cmpi .sgt c2_i32_17 c0_i32_20
  let v28 : BitVec 32 := Scalar.extui v27
  let c0_i32_21 : BitVec 32 := 0#32
  let v29 : BitVec 1 := Scalar.cmpi .slt c2_i32_17 c0_i32_21
  let v30 : BitVec 32 := Scalar.extui v29
  let v31 : BitVec 32 := Scalar.subi v28 v30
  let v32 : BitVec 1 := Scalar.cmpi .ne v26 v31
  let v33 : BitVec 32 := Scalar.remsi v20 c2_i32_17
  let c0_i32_22 : BitVec 32 := 0#32
  let v34 : BitVec 1 := Scalar.cmpi .ne v33 c0_i32_22
  let v35 : BitVec 1 := Scalar.andi v32 v34
  let v21 : BitVec 32 := Scalar.divsi v20 c2_i32_17
  let c1_i32_23 : BitVec 32 := 1#32
  let v36 : BitVec 32 := Scalar.subi v21 c1_i32_23
  let v37 : BitVec 32 := Scalar.select v35 v36 v21
  let v38 : BitVec 32 := Scalar.subi v37 c0_i32_24
  let c1_i32_26 : BitVec 32 := 1#32
  let v40 : BitVec 32 := Scalar.divsi v38 c1_i32_26
  let v41 : BitVec 32 := Scalar.muli v40 c1_i32_26
  let v42 : BitVec 32 := Scalar.addi c0_i32_24 v41
  let c1_i32_28 : BitVec 32 := 1#32
  let arg25 : BitVec 32 := Scf.iv v42 c1_i32_28 k1_t10
  let v85 : BitVec 32 := Scalar.muli c2_i32_57 arg25
  let c2_i32_74 : BitVec 32 := 2#32
  let v105 : BitVec 32 := Scalar.addi v85 c2_i32_74
  let c0_i32_75 : BitVec 32 := 0#32
  let v107 : BitVec 1 := Scalar.cmpi .sgt v105 c0_i32_75
  let v108 : BitVec 32 := Scalar.extui v107
  let c0_i32_76 : BitVec 32 := 0#32
  let v109 : BitVec 1 := Scalar.cmpi .slt v105 c0_i32_76
  let v110 : BitVec 32 := Scalar.extui v109
  let v111 : BitVec 32 := Scalar.subi v108 v110
  let c8_i32 : BitVec 32 := 8#32
  let c0_i32_77 : BitVec 32 := 0#32
  let v112 : BitVec 1 := Scalar.cmpi .sgt c8_i32 c0_i32_77
  let v113 : BitVec 32 := Scalar.extui v112
  let c0_i32_78 : BitVec 32 := 0#32
  let v114 : BitVec 1 := Scalar.cmpi .slt c8_i32 c0_i32_78
  let v115 : BitVec 32 := Scalar.extui v114
  let v116 : BitVec 32 := Scalar.subi v113 v115
  let v117 : BitVec 1 := Scalar.cmpi .ne v111 v116
  let v118 : BitVec 32 := Scalar.remsi v105 c8_i32
  let c0_i32_79 : BitVec 32 := 0#32
  let v119 : BitVec 1 := Scalar.cmpi .ne v118 c0_i32_79
  let v120 : BitVec 1 := Scalar.andi v117 v119
  let v106 : BitVec 32 := Scalar.divsi v105 c8_i32
  let c1_i32_80 : BitVec 32 := 1#32
  let v121 : BitVec 32 := Scalar.subi v106 c1_i32_80
  let v122 : BitVec 32 := Scalar.select v120 v121 v106
  let c8_i32_81 : BitVec 32 := 8#32
  let v123 : BitVec 32 := Scalar.muli v122 c8_i32_81
  let v124 : Index := Scalar.indexCast v123
  ![v124.toNat]
def k1_cond11 (v4 : BitVec 32) (k1_t10 : Fin (k1_t10_loop v4).trips) : BitVec 1 :=
  let c2_i32_57 : BitVec 32 := 2#32
  let c0_i32_24 : BitVec 32 := 0#32
  let c1_i32_16 : BitVec 32 := 1#32
  let v20 : BitVec 32 := Scalar.addi v4 c1_i32_16
  let c0_i32_18 : BitVec 32 := 0#32
  let v22 : BitVec 1 := Scalar.cmpi .sgt v20 c0_i32_18
  let v23 : BitVec 32 := Scalar.extui v22
  let c0_i32_19 : BitVec 32 := 0#32
  let v24 : BitVec 1 := Scalar.cmpi .slt v20 c0_i32_19
  let v25 : BitVec 32 := Scalar.extui v24
  let v26 : BitVec 32 := Scalar.subi v23 v25
  let c2_i32_17 : BitVec 32 := 2#32
  let c0_i32_20 : BitVec 32 := 0#32
  let v27 : BitVec 1 := Scalar.cmpi .sgt c2_i32_17 c0_i32_20
  let v28 : BitVec 32 := Scalar.extui v27
  let c0_i32_21 : BitVec 32 := 0#32
  let v29 : BitVec 1 := Scalar.cmpi .slt c2_i32_17 c0_i32_21
  let v30 : BitVec 32 := Scalar.extui v29
  let v31 : BitVec 32 := Scalar.subi v28 v30
  let v32 : BitVec 1 := Scalar.cmpi .ne v26 v31
  let v33 : BitVec 32 := Scalar.remsi v20 c2_i32_17
  let c0_i32_22 : BitVec 32 := 0#32
  let v34 : BitVec 1 := Scalar.cmpi .ne v33 c0_i32_22
  let v35 : BitVec 1 := Scalar.andi v32 v34
  let v21 : BitVec 32 := Scalar.divsi v20 c2_i32_17
  let c1_i32_23 : BitVec 32 := 1#32
  let v36 : BitVec 32 := Scalar.subi v21 c1_i32_23
  let v37 : BitVec 32 := Scalar.select v35 v36 v21
  let v38 : BitVec 32 := Scalar.subi v37 c0_i32_24
  let c1_i32_26 : BitVec 32 := 1#32
  let v40 : BitVec 32 := Scalar.divsi v38 c1_i32_26
  let v41 : BitVec 32 := Scalar.muli v40 c1_i32_26
  let v42 : BitVec 32 := Scalar.addi c0_i32_24 v41
  let c1_i32_28 : BitVec 32 := 1#32
  let arg25 : BitVec 32 := Scf.iv v42 c1_i32_28 k1_t10
  let v85 : BitVec 32 := Scalar.muli c2_i32_57 arg25
  let c2_i32_72 : BitVec 32 := 2#32
  let v101 : BitVec 32 := Scalar.addi v85 c2_i32_72
  let v102 : BitVec 1 := Scalar.cmpi .slt v101 v4
  let v103 : BitVec 32 := Scalar.extui v102
  let c0_i32_73 : BitVec 32 := 0#32
  let v104 : BitVec 1 := Scalar.cmpi .ne v103 c0_i32_73
  v104

def k1_off114 (v133 : BitVec 32) : Fin 1 → Nat :=
  let c0_i32_84 : BitVec 32 := 0#32
  let v135 : BitVec 1 := Scalar.cmpi .sgt v133 c0_i32_84
  let v136 : BitVec 32 := Scalar.extui v135
  let c0_i32_85 : BitVec 32 := 0#32
  let v137 : BitVec 1 := Scalar.cmpi .slt v133 c0_i32_85
  let v138 : BitVec 32 := Scalar.extui v137
  let v139 : BitVec 32 := Scalar.subi v136 v138
  let c16_i32_83 : BitVec 32 := 16#32
  let c0_i32_86 : BitVec 32 := 0#32
  let v140 : BitVec 1 := Scalar.cmpi .sgt c16_i32_83 c0_i32_86
  let v141 : BitVec 32 := Scalar.extui v140
  let c0_i32_87 : BitVec 32 := 0#32
  let v142 : BitVec 1 := Scalar.cmpi .slt c16_i32_83 c0_i32_87
  let v143 : BitVec 32 := Scalar.extui v142
  let v144 : BitVec 32 := Scalar.subi v141 v143
  let v145 : BitVec 1 := Scalar.cmpi .ne v139 v144
  let v146 : BitVec 32 := Scalar.remsi v133 c16_i32_83
  let c0_i32_88 : BitVec 32 := 0#32
  let v147 : BitVec 1 := Scalar.cmpi .ne v146 c0_i32_88
  let v148 : BitVec 1 := Scalar.andi v145 v147
  let v134 : BitVec 32 := Scalar.divsi v133 c16_i32_83
  let c1_i32_89 : BitVec 32 := 1#32
  let v149 : BitVec 32 := Scalar.subi v134 c1_i32_89
  let v150 : BitVec 32 := Scalar.select v148 v149 v134
  let c16_i32_90 : BitVec 32 := 16#32
  let v151 : BitVec 32 := Scalar.muli v150 c16_i32_90
  ![v151.toNat]

def k1_chk56 (v4 : BitVec 32) (k1_t10 : Fin (k1_t10_loop v4).trips) (v133 : BitVec 32) : Prop :=
  (∀ (k1_h9 : k1_cond9 v4 k1_t10 = 1#1), ∀ (k1_h11 : k1_cond11 v4 k1_t10 = 1#1), ∀ a, (k1_off114 v133) a + S512.size a ≤ S327680.size a)
theorem k1_off114_inb : ∀ (v4 : BitVec 32) (k1_t10 : Fin (k1_t10_loop v4).trips) (v133 : BitVec 32) (k1_hw56 : k1_chk56 v4 k1_t10 v133), ∀ (k1_h9 : k1_cond9 v4 k1_t10 = 1#1), ∀ (k1_h11 : k1_cond11 v4 k1_t10 = 1#1), ∀ a, (k1_off114 v133) a + S512.size a ≤ S327680.size a := fun v4 k1_t10 v133 k1_hw56 k1_h9 k1_h11 => k1_hw56 k1_h9 k1_h11

@[reducible] def k1_t13_loop : Scf.Loop 32 :=
  let c0_i32_79 : BitVec 32 := 0#32
  let c32_i32_80 : BitVec 32 := 32#32
  let v109 : BitVec 32 := Scalar.addi c0_i32_79 c32_i32_80
  let c1_i32_81 : BitVec 32 := 1#32
  ⟨c0_i32_79, v109, c1_i32_81⟩
def k1_off115 (k1_t13 : Fin k1_t13_loop.trips) : Fin 1 → Nat :=
  let c0_i32_79 : BitVec 32 := 0#32
  let c1_i32_81 : BitVec 32 := 1#32
  let arg27 : BitVec 32 := Scf.iv c0_i32_79 c1_i32_81 k1_t13
  let c16_i32_85 : BitVec 32 := 16#32
  let v112 : BitVec 32 := Scalar.muli arg27 c16_i32_85
  let v113 : Index := Scalar.indexCast v112
  ![v113.toNat]
@[reducible] def k1_t14_loop : Scf.Loop 32 :=
  let c0_i32_68 : BitVec 32 := 0#32
  let c32_i32_69 : BitVec 32 := 32#32
  let v99 : BitVec 32 := Scalar.addi c0_i32_68 c32_i32_69
  let c1_i32_70 : BitVec 32 := 1#32
  ⟨c0_i32_68, v99, c1_i32_70⟩
def k1_off116 (k1_t14 : Fin k1_t14_loop.trips) : Fin 1 → Nat :=
  let c0_i32_68 : BitVec 32 := 0#32
  let c1_i32_70 : BitVec 32 := 1#32
  let arg27 : BitVec 32 := Scf.iv c0_i32_68 c1_i32_70 k1_t14
  let c16_i32_74 : BitVec 32 := 16#32
  let v105 : BitVec 32 := Scalar.muli arg27 c16_i32_74
  let v106 : Index := Scalar.indexCast v105
  ![v106.toNat]
def k1_off117 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_79 : BitVec 32 := 16#32
  let v119 : BitVec 32 := Scalar.muli arg27 c16_i32_79
  let c0_i32_80 : BitVec 32 := 0#32
  let v120 : BitVec 32 := Scalar.addi v119 c0_i32_80
  let v121 : Index := Scalar.indexCast v120
  let c0_81 : Index := 0#32
  ![v121.toNat, 0]
def k1_off118 (v118 : BitVec 32) : Fin 2 → Nat :=
  let v123 : Index := Scalar.indexCast v118
  let c0_82 : Index := 0#32
  ![v123.toNat, 0]
def k1_cond12 (v4 : BitVec 32) (k1_t10 : Fin (k1_t10_loop v4).trips) : BitVec 1 :=
  let c2_i32_59 : BitVec 32 := 2#32
  let c0_i32_24 : BitVec 32 := 0#32
  let c1_i32_16 : BitVec 32 := 1#32
  let v20 : BitVec 32 := Scalar.addi v4 c1_i32_16
  let c0_i32_18 : BitVec 32 := 0#32
  let v22 : BitVec 1 := Scalar.cmpi .sgt v20 c0_i32_18
  let v23 : BitVec 32 := Scalar.extui v22
  let c0_i32_19 : BitVec 32 := 0#32
  let v24 : BitVec 1 := Scalar.cmpi .slt v20 c0_i32_19
  let v25 : BitVec 32 := Scalar.extui v24
  let v26 : BitVec 32 := Scalar.subi v23 v25
  let c2_i32_17 : BitVec 32 := 2#32
  let c0_i32_20 : BitVec 32 := 0#32
  let v27 : BitVec 1 := Scalar.cmpi .sgt c2_i32_17 c0_i32_20
  let v28 : BitVec 32 := Scalar.extui v27
  let c0_i32_21 : BitVec 32 := 0#32
  let v29 : BitVec 1 := Scalar.cmpi .slt c2_i32_17 c0_i32_21
  let v30 : BitVec 32 := Scalar.extui v29
  let v31 : BitVec 32 := Scalar.subi v28 v30
  let v32 : BitVec 1 := Scalar.cmpi .ne v26 v31
  let v33 : BitVec 32 := Scalar.remsi v20 c2_i32_17
  let c0_i32_22 : BitVec 32 := 0#32
  let v34 : BitVec 1 := Scalar.cmpi .ne v33 c0_i32_22
  let v35 : BitVec 1 := Scalar.andi v32 v34
  let v21 : BitVec 32 := Scalar.divsi v20 c2_i32_17
  let c1_i32_23 : BitVec 32 := 1#32
  let v36 : BitVec 32 := Scalar.subi v21 c1_i32_23
  let v37 : BitVec 32 := Scalar.select v35 v36 v21
  let v38 : BitVec 32 := Scalar.subi v37 c0_i32_24
  let c1_i32_26 : BitVec 32 := 1#32
  let v40 : BitVec 32 := Scalar.divsi v38 c1_i32_26
  let v41 : BitVec 32 := Scalar.muli v40 c1_i32_26
  let v42 : BitVec 32 := Scalar.addi c0_i32_24 v41
  let c1_i32_28 : BitVec 32 := 1#32
  let arg25 : BitVec 32 := Scf.iv v42 c1_i32_28 k1_t10
  let v89 : BitVec 32 := Scalar.muli c2_i32_59 arg25
  let c1_i32_60 : BitVec 32 := 1#32
  let v90 : BitVec 32 := Scalar.addi v89 c1_i32_60
  let v91 : BitVec 1 := Scalar.cmpi .slt v90 v4
  let v92 : BitVec 32 := Scalar.extui v91
  let c0_i32_61 : BitVec 32 := 0#32
  let v93 : BitVec 1 := Scalar.cmpi .ne v92 c0_i32_61
  v93

def k1_chk57 (v4 : BitVec 32) (k1_t10 : Fin (k1_t10_loop v4).trips) (v118 : BitVec 32) : Prop :=
  (∀ (k1_h12 : k1_cond12 v4 k1_t10 = 1#1), ∀ a, (k1_off118 v118) a + S1x16.size a ≤ S5008x16.size a)
theorem k1_off118_inb : ∀ (v4 : BitVec 32) (k1_t10 : Fin (k1_t10_loop v4).trips) (v118 : BitVec 32) (k1_hw57 : k1_chk57 v4 k1_t10 v118), ∀ (k1_h12 : k1_cond12 v4 k1_t10 = 1#1), ∀ a, (k1_off118 v118) a + S1x16.size a ≤ S5008x16.size a := fun v4 k1_t10 v118 k1_hw57 k1_h12 => k1_hw57 k1_h12

def k1_off119 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_84 : BitVec 32 := 16#32
  let v130 : BitVec 32 := Scalar.muli arg27 c16_i32_84
  let c1_i32_85 : BitVec 32 := 1#32
  let v131 : BitVec 32 := Scalar.addi v130 c1_i32_85
  let v132 : Index := Scalar.indexCast v131
  let c0_86 : Index := 0#32
  ![v132.toNat, 0]
def k1_off120 (v129 : BitVec 32) : Fin 2 → Nat :=
  let v134 : Index := Scalar.indexCast v129
  let c0_87 : Index := 0#32
  ![v134.toNat, 0]

def k1_chk58 (v4 : BitVec 32) (k1_t10 : Fin (k1_t10_loop v4).trips) (v129 : BitVec 32) : Prop :=
  (∀ (k1_h12 : k1_cond12 v4 k1_t10 = 1#1), ∀ a, (k1_off120 v129) a + S1x16.size a ≤ S5008x16.size a)
theorem k1_off120_inb : ∀ (v4 : BitVec 32) (k1_t10 : Fin (k1_t10_loop v4).trips) (v129 : BitVec 32) (k1_hw58 : k1_chk58 v4 k1_t10 v129), ∀ (k1_h12 : k1_cond12 v4 k1_t10 = 1#1), ∀ a, (k1_off120 v129) a + S1x16.size a ≤ S5008x16.size a := fun v4 k1_t10 v129 k1_hw58 k1_h12 => k1_hw58 k1_h12

def k1_off121 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_89 : BitVec 32 := 16#32
  let v141 : BitVec 32 := Scalar.muli arg27 c16_i32_89
  let c2_i32_90 : BitVec 32 := 2#32
  let v142 : BitVec 32 := Scalar.addi v141 c2_i32_90
  let v143 : Index := Scalar.indexCast v142
  let c0_91 : Index := 0#32
  ![v143.toNat, 0]
def k1_off122 (v140 : BitVec 32) : Fin 2 → Nat :=
  let v145 : Index := Scalar.indexCast v140
  let c0_92 : Index := 0#32
  ![v145.toNat, 0]

def k1_chk59 (v4 : BitVec 32) (k1_t10 : Fin (k1_t10_loop v4).trips) (v140 : BitVec 32) : Prop :=
  (∀ (k1_h12 : k1_cond12 v4 k1_t10 = 1#1), ∀ a, (k1_off122 v140) a + S1x16.size a ≤ S5008x16.size a)
theorem k1_off122_inb : ∀ (v4 : BitVec 32) (k1_t10 : Fin (k1_t10_loop v4).trips) (v140 : BitVec 32) (k1_hw59 : k1_chk59 v4 k1_t10 v140), ∀ (k1_h12 : k1_cond12 v4 k1_t10 = 1#1), ∀ a, (k1_off122 v140) a + S1x16.size a ≤ S5008x16.size a := fun v4 k1_t10 v140 k1_hw59 k1_h12 => k1_hw59 k1_h12

def k1_off123 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_94 : BitVec 32 := 16#32
  let v152 : BitVec 32 := Scalar.muli arg27 c16_i32_94
  let c3_i32 : BitVec 32 := 3#32
  let v153 : BitVec 32 := Scalar.addi v152 c3_i32
  let v154 : Index := Scalar.indexCast v153
  let c0_95 : Index := 0#32
  ![v154.toNat, 0]
def k1_off124 (v151 : BitVec 32) : Fin 2 → Nat :=
  let v156 : Index := Scalar.indexCast v151
  let c0_96 : Index := 0#32
  ![v156.toNat, 0]

def k1_chk60 (v4 : BitVec 32) (k1_t10 : Fin (k1_t10_loop v4).trips) (v151 : BitVec 32) : Prop :=
  (∀ (k1_h12 : k1_cond12 v4 k1_t10 = 1#1), ∀ a, (k1_off124 v151) a + S1x16.size a ≤ S5008x16.size a)
theorem k1_off124_inb : ∀ (v4 : BitVec 32) (k1_t10 : Fin (k1_t10_loop v4).trips) (v151 : BitVec 32) (k1_hw60 : k1_chk60 v4 k1_t10 v151), ∀ (k1_h12 : k1_cond12 v4 k1_t10 = 1#1), ∀ a, (k1_off124 v151) a + S1x16.size a ≤ S5008x16.size a := fun v4 k1_t10 v151 k1_hw60 k1_h12 => k1_hw60 k1_h12

def k1_off125 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_98 : BitVec 32 := 16#32
  let v163 : BitVec 32 := Scalar.muli arg27 c16_i32_98
  let c4_i32 : BitVec 32 := 4#32
  let v164 : BitVec 32 := Scalar.addi v163 c4_i32
  let v165 : Index := Scalar.indexCast v164
  let c0_99 : Index := 0#32
  ![v165.toNat, 0]
def k1_off126 (v162 : BitVec 32) : Fin 2 → Nat :=
  let v167 : Index := Scalar.indexCast v162
  let c0_100 : Index := 0#32
  ![v167.toNat, 0]

def k1_chk61 (v4 : BitVec 32) (k1_t10 : Fin (k1_t10_loop v4).trips) (v162 : BitVec 32) : Prop :=
  (∀ (k1_h12 : k1_cond12 v4 k1_t10 = 1#1), ∀ a, (k1_off126 v162) a + S1x16.size a ≤ S5008x16.size a)
theorem k1_off126_inb : ∀ (v4 : BitVec 32) (k1_t10 : Fin (k1_t10_loop v4).trips) (v162 : BitVec 32) (k1_hw61 : k1_chk61 v4 k1_t10 v162), ∀ (k1_h12 : k1_cond12 v4 k1_t10 = 1#1), ∀ a, (k1_off126 v162) a + S1x16.size a ≤ S5008x16.size a := fun v4 k1_t10 v162 k1_hw61 k1_h12 => k1_hw61 k1_h12

def k1_off127 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_102 : BitVec 32 := 16#32
  let v174 : BitVec 32 := Scalar.muli arg27 c16_i32_102
  let c5_i32 : BitVec 32 := 5#32
  let v175 : BitVec 32 := Scalar.addi v174 c5_i32
  let v176 : Index := Scalar.indexCast v175
  let c0_103 : Index := 0#32
  ![v176.toNat, 0]
def k1_off128 (v173 : BitVec 32) : Fin 2 → Nat :=
  let v178 : Index := Scalar.indexCast v173
  let c0_104 : Index := 0#32
  ![v178.toNat, 0]

def k1_chk62 (v4 : BitVec 32) (k1_t10 : Fin (k1_t10_loop v4).trips) (v173 : BitVec 32) : Prop :=
  (∀ (k1_h12 : k1_cond12 v4 k1_t10 = 1#1), ∀ a, (k1_off128 v173) a + S1x16.size a ≤ S5008x16.size a)
theorem k1_off128_inb : ∀ (v4 : BitVec 32) (k1_t10 : Fin (k1_t10_loop v4).trips) (v173 : BitVec 32) (k1_hw62 : k1_chk62 v4 k1_t10 v173), ∀ (k1_h12 : k1_cond12 v4 k1_t10 = 1#1), ∀ a, (k1_off128 v173) a + S1x16.size a ≤ S5008x16.size a := fun v4 k1_t10 v173 k1_hw62 k1_h12 => k1_hw62 k1_h12

def k1_off129 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_106 : BitVec 32 := 16#32
  let v185 : BitVec 32 := Scalar.muli arg27 c16_i32_106
  let c6_i32 : BitVec 32 := 6#32
  let v186 : BitVec 32 := Scalar.addi v185 c6_i32
  let v187 : Index := Scalar.indexCast v186
  let c0_107 : Index := 0#32
  ![v187.toNat, 0]
def k1_off130 (v184 : BitVec 32) : Fin 2 → Nat :=
  let v189 : Index := Scalar.indexCast v184
  let c0_108 : Index := 0#32
  ![v189.toNat, 0]

def k1_chk63 (v4 : BitVec 32) (k1_t10 : Fin (k1_t10_loop v4).trips) (v184 : BitVec 32) : Prop :=
  (∀ (k1_h12 : k1_cond12 v4 k1_t10 = 1#1), ∀ a, (k1_off130 v184) a + S1x16.size a ≤ S5008x16.size a)
theorem k1_off130_inb : ∀ (v4 : BitVec 32) (k1_t10 : Fin (k1_t10_loop v4).trips) (v184 : BitVec 32) (k1_hw63 : k1_chk63 v4 k1_t10 v184), ∀ (k1_h12 : k1_cond12 v4 k1_t10 = 1#1), ∀ a, (k1_off130 v184) a + S1x16.size a ≤ S5008x16.size a := fun v4 k1_t10 v184 k1_hw63 k1_h12 => k1_hw63 k1_h12

def k1_off131 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_110 : BitVec 32 := 16#32
  let v196 : BitVec 32 := Scalar.muli arg27 c16_i32_110
  let c7_i32 : BitVec 32 := 7#32
  let v197 : BitVec 32 := Scalar.addi v196 c7_i32
  let v198 : Index := Scalar.indexCast v197
  let c0_111 : Index := 0#32
  ![v198.toNat, 0]
def k1_off132 (v195 : BitVec 32) : Fin 2 → Nat :=
  let v200 : Index := Scalar.indexCast v195
  let c0_112 : Index := 0#32
  ![v200.toNat, 0]

def k1_chk64 (v4 : BitVec 32) (k1_t10 : Fin (k1_t10_loop v4).trips) (v195 : BitVec 32) : Prop :=
  (∀ (k1_h12 : k1_cond12 v4 k1_t10 = 1#1), ∀ a, (k1_off132 v195) a + S1x16.size a ≤ S5008x16.size a)
theorem k1_off132_inb : ∀ (v4 : BitVec 32) (k1_t10 : Fin (k1_t10_loop v4).trips) (v195 : BitVec 32) (k1_hw64 : k1_chk64 v4 k1_t10 v195), ∀ (k1_h12 : k1_cond12 v4 k1_t10 = 1#1), ∀ a, (k1_off132 v195) a + S1x16.size a ≤ S5008x16.size a := fun v4 k1_t10 v195 k1_hw64 k1_h12 => k1_hw64 k1_h12

def k1_off133 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_114 : BitVec 32 := 16#32
  let v207 : BitVec 32 := Scalar.muli arg27 c16_i32_114
  let c8_i32 : BitVec 32 := 8#32
  let v208 : BitVec 32 := Scalar.addi v207 c8_i32
  let v209 : Index := Scalar.indexCast v208
  let c0_115 : Index := 0#32
  ![v209.toNat, 0]
def k1_off134 (v206 : BitVec 32) : Fin 2 → Nat :=
  let v211 : Index := Scalar.indexCast v206
  let c0_116 : Index := 0#32
  ![v211.toNat, 0]

def k1_chk65 (v4 : BitVec 32) (k1_t10 : Fin (k1_t10_loop v4).trips) (v206 : BitVec 32) : Prop :=
  (∀ (k1_h12 : k1_cond12 v4 k1_t10 = 1#1), ∀ a, (k1_off134 v206) a + S1x16.size a ≤ S5008x16.size a)
theorem k1_off134_inb : ∀ (v4 : BitVec 32) (k1_t10 : Fin (k1_t10_loop v4).trips) (v206 : BitVec 32) (k1_hw65 : k1_chk65 v4 k1_t10 v206), ∀ (k1_h12 : k1_cond12 v4 k1_t10 = 1#1), ∀ a, (k1_off134 v206) a + S1x16.size a ≤ S5008x16.size a := fun v4 k1_t10 v206 k1_hw65 k1_h12 => k1_hw65 k1_h12

def k1_off135 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_118 : BitVec 32 := 16#32
  let v218 : BitVec 32 := Scalar.muli arg27 c16_i32_118
  let c9_i32 : BitVec 32 := 9#32
  let v219 : BitVec 32 := Scalar.addi v218 c9_i32
  let v220 : Index := Scalar.indexCast v219
  let c0_119 : Index := 0#32
  ![v220.toNat, 0]
def k1_off136 (v217 : BitVec 32) : Fin 2 → Nat :=
  let v222 : Index := Scalar.indexCast v217
  let c0_120 : Index := 0#32
  ![v222.toNat, 0]

def k1_chk66 (v4 : BitVec 32) (k1_t10 : Fin (k1_t10_loop v4).trips) (v217 : BitVec 32) : Prop :=
  (∀ (k1_h12 : k1_cond12 v4 k1_t10 = 1#1), ∀ a, (k1_off136 v217) a + S1x16.size a ≤ S5008x16.size a)
theorem k1_off136_inb : ∀ (v4 : BitVec 32) (k1_t10 : Fin (k1_t10_loop v4).trips) (v217 : BitVec 32) (k1_hw66 : k1_chk66 v4 k1_t10 v217), ∀ (k1_h12 : k1_cond12 v4 k1_t10 = 1#1), ∀ a, (k1_off136 v217) a + S1x16.size a ≤ S5008x16.size a := fun v4 k1_t10 v217 k1_hw66 k1_h12 => k1_hw66 k1_h12

def k1_off137 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_122 : BitVec 32 := 16#32
  let v229 : BitVec 32 := Scalar.muli arg27 c16_i32_122
  let c10_i32 : BitVec 32 := 10#32
  let v230 : BitVec 32 := Scalar.addi v229 c10_i32
  let v231 : Index := Scalar.indexCast v230
  let c0_123 : Index := 0#32
  ![v231.toNat, 0]
def k1_off138 (v228 : BitVec 32) : Fin 2 → Nat :=
  let v233 : Index := Scalar.indexCast v228
  let c0_124 : Index := 0#32
  ![v233.toNat, 0]

def k1_chk67 (v4 : BitVec 32) (k1_t10 : Fin (k1_t10_loop v4).trips) (v228 : BitVec 32) : Prop :=
  (∀ (k1_h12 : k1_cond12 v4 k1_t10 = 1#1), ∀ a, (k1_off138 v228) a + S1x16.size a ≤ S5008x16.size a)
theorem k1_off138_inb : ∀ (v4 : BitVec 32) (k1_t10 : Fin (k1_t10_loop v4).trips) (v228 : BitVec 32) (k1_hw67 : k1_chk67 v4 k1_t10 v228), ∀ (k1_h12 : k1_cond12 v4 k1_t10 = 1#1), ∀ a, (k1_off138 v228) a + S1x16.size a ≤ S5008x16.size a := fun v4 k1_t10 v228 k1_hw67 k1_h12 => k1_hw67 k1_h12

def k1_off139 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_126 : BitVec 32 := 16#32
  let v240 : BitVec 32 := Scalar.muli arg27 c16_i32_126
  let c11_i32 : BitVec 32 := 11#32
  let v241 : BitVec 32 := Scalar.addi v240 c11_i32
  let v242 : Index := Scalar.indexCast v241
  let c0_127 : Index := 0#32
  ![v242.toNat, 0]
def k1_off140 (v239 : BitVec 32) : Fin 2 → Nat :=
  let v244 : Index := Scalar.indexCast v239
  let c0_128 : Index := 0#32
  ![v244.toNat, 0]

def k1_chk68 (v4 : BitVec 32) (k1_t10 : Fin (k1_t10_loop v4).trips) (v239 : BitVec 32) : Prop :=
  (∀ (k1_h12 : k1_cond12 v4 k1_t10 = 1#1), ∀ a, (k1_off140 v239) a + S1x16.size a ≤ S5008x16.size a)
theorem k1_off140_inb : ∀ (v4 : BitVec 32) (k1_t10 : Fin (k1_t10_loop v4).trips) (v239 : BitVec 32) (k1_hw68 : k1_chk68 v4 k1_t10 v239), ∀ (k1_h12 : k1_cond12 v4 k1_t10 = 1#1), ∀ a, (k1_off140 v239) a + S1x16.size a ≤ S5008x16.size a := fun v4 k1_t10 v239 k1_hw68 k1_h12 => k1_hw68 k1_h12

def k1_off141 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_130 : BitVec 32 := 16#32
  let v251 : BitVec 32 := Scalar.muli arg27 c16_i32_130
  let c12_i32 : BitVec 32 := 12#32
  let v252 : BitVec 32 := Scalar.addi v251 c12_i32
  let v253 : Index := Scalar.indexCast v252
  let c0_131 : Index := 0#32
  ![v253.toNat, 0]
def k1_off142 (v250 : BitVec 32) : Fin 2 → Nat :=
  let v255 : Index := Scalar.indexCast v250
  let c0_132 : Index := 0#32
  ![v255.toNat, 0]

def k1_chk69 (v4 : BitVec 32) (k1_t10 : Fin (k1_t10_loop v4).trips) (v250 : BitVec 32) : Prop :=
  (∀ (k1_h12 : k1_cond12 v4 k1_t10 = 1#1), ∀ a, (k1_off142 v250) a + S1x16.size a ≤ S5008x16.size a)
theorem k1_off142_inb : ∀ (v4 : BitVec 32) (k1_t10 : Fin (k1_t10_loop v4).trips) (v250 : BitVec 32) (k1_hw69 : k1_chk69 v4 k1_t10 v250), ∀ (k1_h12 : k1_cond12 v4 k1_t10 = 1#1), ∀ a, (k1_off142 v250) a + S1x16.size a ≤ S5008x16.size a := fun v4 k1_t10 v250 k1_hw69 k1_h12 => k1_hw69 k1_h12

def k1_off143 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_134 : BitVec 32 := 16#32
  let v262 : BitVec 32 := Scalar.muli arg27 c16_i32_134
  let c13_i32 : BitVec 32 := 13#32
  let v263 : BitVec 32 := Scalar.addi v262 c13_i32
  let v264 : Index := Scalar.indexCast v263
  let c0_135 : Index := 0#32
  ![v264.toNat, 0]
def k1_off144 (v261 : BitVec 32) : Fin 2 → Nat :=
  let v266 : Index := Scalar.indexCast v261
  let c0_136 : Index := 0#32
  ![v266.toNat, 0]

def k1_chk70 (v4 : BitVec 32) (k1_t10 : Fin (k1_t10_loop v4).trips) (v261 : BitVec 32) : Prop :=
  (∀ (k1_h12 : k1_cond12 v4 k1_t10 = 1#1), ∀ a, (k1_off144 v261) a + S1x16.size a ≤ S5008x16.size a)
theorem k1_off144_inb : ∀ (v4 : BitVec 32) (k1_t10 : Fin (k1_t10_loop v4).trips) (v261 : BitVec 32) (k1_hw70 : k1_chk70 v4 k1_t10 v261), ∀ (k1_h12 : k1_cond12 v4 k1_t10 = 1#1), ∀ a, (k1_off144 v261) a + S1x16.size a ≤ S5008x16.size a := fun v4 k1_t10 v261 k1_hw70 k1_h12 => k1_hw70 k1_h12

def k1_off145 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_138 : BitVec 32 := 16#32
  let v273 : BitVec 32 := Scalar.muli arg27 c16_i32_138
  let c14_i32 : BitVec 32 := 14#32
  let v274 : BitVec 32 := Scalar.addi v273 c14_i32
  let v275 : Index := Scalar.indexCast v274
  let c0_139 : Index := 0#32
  ![v275.toNat, 0]
def k1_off146 (v272 : BitVec 32) : Fin 2 → Nat :=
  let v277 : Index := Scalar.indexCast v272
  let c0_140 : Index := 0#32
  ![v277.toNat, 0]

def k1_chk71 (v4 : BitVec 32) (k1_t10 : Fin (k1_t10_loop v4).trips) (v272 : BitVec 32) : Prop :=
  (∀ (k1_h12 : k1_cond12 v4 k1_t10 = 1#1), ∀ a, (k1_off146 v272) a + S1x16.size a ≤ S5008x16.size a)
theorem k1_off146_inb : ∀ (v4 : BitVec 32) (k1_t10 : Fin (k1_t10_loop v4).trips) (v272 : BitVec 32) (k1_hw71 : k1_chk71 v4 k1_t10 v272), ∀ (k1_h12 : k1_cond12 v4 k1_t10 = 1#1), ∀ a, (k1_off146 v272) a + S1x16.size a ≤ S5008x16.size a := fun v4 k1_t10 v272 k1_hw71 k1_h12 => k1_hw71 k1_h12

def k1_off147 (k1_t14 : Fin k1_t14_loop.trips) : Fin 2 → Nat :=
  let c0_i32_68 : BitVec 32 := 0#32
  let c1_i32_70 : BitVec 32 := 1#32
  let arg27 : BitVec 32 := Scf.iv c0_i32_68 c1_i32_70 k1_t14
  let c16_i32_142 : BitVec 32 := 16#32
  let v284 : BitVec 32 := Scalar.muli arg27 c16_i32_142
  let c15_i32 : BitVec 32 := 15#32
  let v285 : BitVec 32 := Scalar.addi v284 c15_i32
  let v286 : Index := Scalar.indexCast v285
  let c0_143 : Index := 0#32
  ![v286.toNat, 0]
def k1_off148 (v283 : BitVec 32) : Fin 2 → Nat :=
  let v288 : Index := Scalar.indexCast v283
  let c0_144 : Index := 0#32
  ![v288.toNat, 0]

def k1_chk72 (v4 : BitVec 32) (k1_t10 : Fin (k1_t10_loop v4).trips) (v283 : BitVec 32) : Prop :=
  (∀ (k1_h12 : k1_cond12 v4 k1_t10 = 1#1), ∀ a, (k1_off148 v283) a + S1x16.size a ≤ S5008x16.size a)
theorem k1_off148_inb : ∀ (v4 : BitVec 32) (k1_t10 : Fin (k1_t10_loop v4).trips) (v283 : BitVec 32) (k1_hw72 : k1_chk72 v4 k1_t10 v283), ∀ (k1_h12 : k1_cond12 v4 k1_t10 = 1#1), ∀ a, (k1_off148 v283) a + S1x16.size a ≤ S5008x16.size a := fun v4 k1_t10 v283 k1_hw72 k1_h12 => k1_hw72 k1_h12

def k1_off149 (v4 : BitVec 32) (k1_t10 : Fin (k1_t10_loop v4).trips) : Fin 1 → Nat :=
  let c2_i32_59 : BitVec 32 := 2#32
  let c0_i32_24 : BitVec 32 := 0#32
  let c1_i32_16 : BitVec 32 := 1#32
  let v20 : BitVec 32 := Scalar.addi v4 c1_i32_16
  let c0_i32_18 : BitVec 32 := 0#32
  let v22 : BitVec 1 := Scalar.cmpi .sgt v20 c0_i32_18
  let v23 : BitVec 32 := Scalar.extui v22
  let c0_i32_19 : BitVec 32 := 0#32
  let v24 : BitVec 1 := Scalar.cmpi .slt v20 c0_i32_19
  let v25 : BitVec 32 := Scalar.extui v24
  let v26 : BitVec 32 := Scalar.subi v23 v25
  let c2_i32_17 : BitVec 32 := 2#32
  let c0_i32_20 : BitVec 32 := 0#32
  let v27 : BitVec 1 := Scalar.cmpi .sgt c2_i32_17 c0_i32_20
  let v28 : BitVec 32 := Scalar.extui v27
  let c0_i32_21 : BitVec 32 := 0#32
  let v29 : BitVec 1 := Scalar.cmpi .slt c2_i32_17 c0_i32_21
  let v30 : BitVec 32 := Scalar.extui v29
  let v31 : BitVec 32 := Scalar.subi v28 v30
  let v32 : BitVec 1 := Scalar.cmpi .ne v26 v31
  let v33 : BitVec 32 := Scalar.remsi v20 c2_i32_17
  let c0_i32_22 : BitVec 32 := 0#32
  let v34 : BitVec 1 := Scalar.cmpi .ne v33 c0_i32_22
  let v35 : BitVec 1 := Scalar.andi v32 v34
  let v21 : BitVec 32 := Scalar.divsi v20 c2_i32_17
  let c1_i32_23 : BitVec 32 := 1#32
  let v36 : BitVec 32 := Scalar.subi v21 c1_i32_23
  let v37 : BitVec 32 := Scalar.select v35 v36 v21
  let v38 : BitVec 32 := Scalar.subi v37 c0_i32_24
  let c1_i32_26 : BitVec 32 := 1#32
  let v40 : BitVec 32 := Scalar.divsi v38 c1_i32_26
  let v41 : BitVec 32 := Scalar.muli v40 c1_i32_26
  let v42 : BitVec 32 := Scalar.addi c0_i32_24 v41
  let c1_i32_28 : BitVec 32 := 1#32
  let arg25 : BitVec 32 := Scf.iv v42 c1_i32_28 k1_t10
  let v89 : BitVec 32 := Scalar.muli c2_i32_59 arg25
  let c1_i32_60 : BitVec 32 := 1#32
  let v90 : BitVec 32 := Scalar.addi v89 c1_i32_60
  let c2_i32_74 : BitVec 32 := 2#32
  let v105 : BitVec 32 := Scalar.addi v90 c2_i32_74
  let c0_i32_75 : BitVec 32 := 0#32
  let v107 : BitVec 1 := Scalar.cmpi .sgt v105 c0_i32_75
  let v108 : BitVec 32 := Scalar.extui v107
  let c0_i32_76 : BitVec 32 := 0#32
  let v109 : BitVec 1 := Scalar.cmpi .slt v105 c0_i32_76
  let v110 : BitVec 32 := Scalar.extui v109
  let v111 : BitVec 32 := Scalar.subi v108 v110
  let c8_i32 : BitVec 32 := 8#32
  let c0_i32_77 : BitVec 32 := 0#32
  let v112 : BitVec 1 := Scalar.cmpi .sgt c8_i32 c0_i32_77
  let v113 : BitVec 32 := Scalar.extui v112
  let c0_i32_78 : BitVec 32 := 0#32
  let v114 : BitVec 1 := Scalar.cmpi .slt c8_i32 c0_i32_78
  let v115 : BitVec 32 := Scalar.extui v114
  let v116 : BitVec 32 := Scalar.subi v113 v115
  let v117 : BitVec 1 := Scalar.cmpi .ne v111 v116
  let v118 : BitVec 32 := Scalar.remsi v105 c8_i32
  let c0_i32_79 : BitVec 32 := 0#32
  let v119 : BitVec 1 := Scalar.cmpi .ne v118 c0_i32_79
  let v120 : BitVec 1 := Scalar.andi v117 v119
  let v106 : BitVec 32 := Scalar.divsi v105 c8_i32
  let c1_i32_80 : BitVec 32 := 1#32
  let v121 : BitVec 32 := Scalar.subi v106 c1_i32_80
  let v122 : BitVec 32 := Scalar.select v120 v121 v106
  let c8_i32_81 : BitVec 32 := 8#32
  let v123 : BitVec 32 := Scalar.muli v122 c8_i32_81
  let v124 : Index := Scalar.indexCast v123
  ![v124.toNat]
def k1_cond14 (v4 : BitVec 32) (k1_t10 : Fin (k1_t10_loop v4).trips) : BitVec 1 :=
  let c2_i32_59 : BitVec 32 := 2#32
  let c0_i32_24 : BitVec 32 := 0#32
  let c1_i32_16 : BitVec 32 := 1#32
  let v20 : BitVec 32 := Scalar.addi v4 c1_i32_16
  let c0_i32_18 : BitVec 32 := 0#32
  let v22 : BitVec 1 := Scalar.cmpi .sgt v20 c0_i32_18
  let v23 : BitVec 32 := Scalar.extui v22
  let c0_i32_19 : BitVec 32 := 0#32
  let v24 : BitVec 1 := Scalar.cmpi .slt v20 c0_i32_19
  let v25 : BitVec 32 := Scalar.extui v24
  let v26 : BitVec 32 := Scalar.subi v23 v25
  let c2_i32_17 : BitVec 32 := 2#32
  let c0_i32_20 : BitVec 32 := 0#32
  let v27 : BitVec 1 := Scalar.cmpi .sgt c2_i32_17 c0_i32_20
  let v28 : BitVec 32 := Scalar.extui v27
  let c0_i32_21 : BitVec 32 := 0#32
  let v29 : BitVec 1 := Scalar.cmpi .slt c2_i32_17 c0_i32_21
  let v30 : BitVec 32 := Scalar.extui v29
  let v31 : BitVec 32 := Scalar.subi v28 v30
  let v32 : BitVec 1 := Scalar.cmpi .ne v26 v31
  let v33 : BitVec 32 := Scalar.remsi v20 c2_i32_17
  let c0_i32_22 : BitVec 32 := 0#32
  let v34 : BitVec 1 := Scalar.cmpi .ne v33 c0_i32_22
  let v35 : BitVec 1 := Scalar.andi v32 v34
  let v21 : BitVec 32 := Scalar.divsi v20 c2_i32_17
  let c1_i32_23 : BitVec 32 := 1#32
  let v36 : BitVec 32 := Scalar.subi v21 c1_i32_23
  let v37 : BitVec 32 := Scalar.select v35 v36 v21
  let v38 : BitVec 32 := Scalar.subi v37 c0_i32_24
  let c1_i32_26 : BitVec 32 := 1#32
  let v40 : BitVec 32 := Scalar.divsi v38 c1_i32_26
  let v41 : BitVec 32 := Scalar.muli v40 c1_i32_26
  let v42 : BitVec 32 := Scalar.addi c0_i32_24 v41
  let c1_i32_28 : BitVec 32 := 1#32
  let arg25 : BitVec 32 := Scf.iv v42 c1_i32_28 k1_t10
  let v89 : BitVec 32 := Scalar.muli c2_i32_59 arg25
  let c1_i32_60 : BitVec 32 := 1#32
  let v90 : BitVec 32 := Scalar.addi v89 c1_i32_60
  let c2_i32_72 : BitVec 32 := 2#32
  let v101 : BitVec 32 := Scalar.addi v90 c2_i32_72
  let v102 : BitVec 1 := Scalar.cmpi .slt v101 v4
  let v103 : BitVec 32 := Scalar.extui v102
  let c0_i32_73 : BitVec 32 := 0#32
  let v104 : BitVec 1 := Scalar.cmpi .ne v103 c0_i32_73
  v104

def k1_chk5 (v4 : BitVec 32) : Prop :=
  ((k1_t5_loop v4).OK) ∧
  (∀ k1_t5 : Fin (k1_t5_loop v4).trips, ∀ (k1_h3 : k1_cond3 v4 k1_t5 = 1#1), ∀ (k1_h5 : k1_cond5 v4 k1_t5 = 1#1), ∀ a, (k1_off41 v4 k1_t5) a + S16.size a ≤ S544.size a) ∧
  (∀ k1_t5 : Fin (k1_t5_loop v4).trips, ∀ (k1_h6 : k1_cond6 v4 k1_t5 = 1#1), ∀ (k1_h8 : k1_cond8 v4 k1_t5 = 1#1), ∀ a, (k1_off77 v4 k1_t5) a + S16.size a ≤ S544.size a) ∧
  ((k1_t10_loop v4).OK) ∧
  (∀ k1_t10 : Fin (k1_t10_loop v4).trips, ∀ (k1_h9 : k1_cond9 v4 k1_t10 = 1#1), ∀ (k1_h11 : k1_cond11 v4 k1_t10 = 1#1), ∀ a, (k1_off113 v4 k1_t10) a + S16.size a ≤ S544.size a) ∧
  (∀ k1_t10 : Fin (k1_t10_loop v4).trips, ∀ (k1_h12 : k1_cond12 v4 k1_t10 = 1#1), ∀ (k1_h14 : k1_cond14 v4 k1_t10 = 1#1), ∀ a, (k1_off149 v4 k1_t10) a + S16.size a ≤ S544.size a)
theorem k1_t5_ok : ∀ (v4 : BitVec 32) (k1_hw5 : k1_chk5 v4), (k1_t5_loop v4).OK := fun v4 k1_hw5 => k1_hw5.1
theorem k1_off41_inb : ∀ (v4 : BitVec 32) (k1_hw5 : k1_chk5 v4) (k1_t5 : Fin (k1_t5_loop v4).trips), ∀ (k1_h3 : k1_cond3 v4 k1_t5 = 1#1), ∀ (k1_h5 : k1_cond5 v4 k1_t5 = 1#1), ∀ a, (k1_off41 v4 k1_t5) a + S16.size a ≤ S544.size a := fun v4 k1_hw5 k1_t5 k1_h3 k1_h5 => k1_hw5.2.1 k1_t5 k1_h3 k1_h5
theorem k1_off77_inb : ∀ (v4 : BitVec 32) (k1_hw5 : k1_chk5 v4) (k1_t5 : Fin (k1_t5_loop v4).trips), ∀ (k1_h6 : k1_cond6 v4 k1_t5 = 1#1), ∀ (k1_h8 : k1_cond8 v4 k1_t5 = 1#1), ∀ a, (k1_off77 v4 k1_t5) a + S16.size a ≤ S544.size a := fun v4 k1_hw5 k1_t5 k1_h6 k1_h8 => k1_hw5.2.2.1 k1_t5 k1_h6 k1_h8
theorem k1_t10_ok : ∀ (v4 : BitVec 32) (k1_hw5 : k1_chk5 v4), (k1_t10_loop v4).OK := fun v4 k1_hw5 => k1_hw5.2.2.2.1
theorem k1_off113_inb : ∀ (v4 : BitVec 32) (k1_hw5 : k1_chk5 v4) (k1_t10 : Fin (k1_t10_loop v4).trips), ∀ (k1_h9 : k1_cond9 v4 k1_t10 = 1#1), ∀ (k1_h11 : k1_cond11 v4 k1_t10 = 1#1), ∀ a, (k1_off113 v4 k1_t10) a + S16.size a ≤ S544.size a := fun v4 k1_hw5 k1_t10 k1_h9 k1_h11 => k1_hw5.2.2.2.2.1 k1_t10 k1_h9 k1_h11
theorem k1_off149_inb : ∀ (v4 : BitVec 32) (k1_hw5 : k1_chk5 v4) (k1_t10 : Fin (k1_t10_loop v4).trips), ∀ (k1_h12 : k1_cond12 v4 k1_t10 = 1#1), ∀ (k1_h14 : k1_cond14 v4 k1_t10 = 1#1), ∀ a, (k1_off149 v4 k1_t10) a + S16.size a ≤ S544.size a := fun v4 k1_hw5 k1_t10 k1_h12 k1_h14 => k1_hw5.2.2.2.2.2 k1_t10 k1_h12 k1_h14

def k1_off150 (v133 : BitVec 32) : Fin 1 → Nat :=
  let c0_i32_84 : BitVec 32 := 0#32
  let v135 : BitVec 1 := Scalar.cmpi .sgt v133 c0_i32_84
  let v136 : BitVec 32 := Scalar.extui v135
  let c0_i32_85 : BitVec 32 := 0#32
  let v137 : BitVec 1 := Scalar.cmpi .slt v133 c0_i32_85
  let v138 : BitVec 32 := Scalar.extui v137
  let v139 : BitVec 32 := Scalar.subi v136 v138
  let c16_i32_83 : BitVec 32 := 16#32
  let c0_i32_86 : BitVec 32 := 0#32
  let v140 : BitVec 1 := Scalar.cmpi .sgt c16_i32_83 c0_i32_86
  let v141 : BitVec 32 := Scalar.extui v140
  let c0_i32_87 : BitVec 32 := 0#32
  let v142 : BitVec 1 := Scalar.cmpi .slt c16_i32_83 c0_i32_87
  let v143 : BitVec 32 := Scalar.extui v142
  let v144 : BitVec 32 := Scalar.subi v141 v143
  let v145 : BitVec 1 := Scalar.cmpi .ne v139 v144
  let v146 : BitVec 32 := Scalar.remsi v133 c16_i32_83
  let c0_i32_88 : BitVec 32 := 0#32
  let v147 : BitVec 1 := Scalar.cmpi .ne v146 c0_i32_88
  let v148 : BitVec 1 := Scalar.andi v145 v147
  let v134 : BitVec 32 := Scalar.divsi v133 c16_i32_83
  let c1_i32_89 : BitVec 32 := 1#32
  let v149 : BitVec 32 := Scalar.subi v134 c1_i32_89
  let v150 : BitVec 32 := Scalar.select v148 v149 v134
  let c16_i32_90 : BitVec 32 := 16#32
  let v151 : BitVec 32 := Scalar.muli v150 c16_i32_90
  ![v151.toNat]

def k1_chk73 (v4 : BitVec 32) (k1_t10 : Fin (k1_t10_loop v4).trips) (v133 : BitVec 32) : Prop :=
  (∀ (k1_h12 : k1_cond12 v4 k1_t10 = 1#1), ∀ (k1_h14 : k1_cond14 v4 k1_t10 = 1#1), ∀ a, (k1_off150 v133) a + S512.size a ≤ S327680.size a)
theorem k1_off150_inb : ∀ (v4 : BitVec 32) (k1_t10 : Fin (k1_t10_loop v4).trips) (v133 : BitVec 32) (k1_hw73 : k1_chk73 v4 k1_t10 v133), ∀ (k1_h12 : k1_cond12 v4 k1_t10 = 1#1), ∀ (k1_h14 : k1_cond14 v4 k1_t10 = 1#1), ∀ a, (k1_off150 v133) a + S512.size a ≤ S327680.size a := fun v4 k1_t10 v133 k1_hw73 k1_h12 k1_h14 => k1_hw73 k1_h12 k1_h14

def k1_off151 (i : grid1.Coords) : Fin 2 → Nat :=
  let c0_i32_59_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v45 : BitVec 32 := Scalar.muli v1 c16_i32
  ![0, v45.toNat]
@[reducible] def k1_t15_loop : Scf.Loop 32 :=
  let c0_i32_35 : BitVec 32 := 0#32
  let c1250_i32_36 : BitVec 32 := 1250#32
  let v51 : BitVec 32 := Scalar.addi c0_i32_35 c1250_i32_36
  let c1_i32_37 : BitVec 32 := 1#32
  ⟨c0_i32_35, v51, c1_i32_37⟩
def k1_off152 (k1_t15 : Fin k1_t15_loop.trips) (c0_i32_57 : BitVec 32) : Fin 2 → Nat :=
  let c0_i32_35 : BitVec 32 := 0#32
  let c1_i32_37 : BitVec 32 := 1#32
  let arg25 : BitVec 32 := Scf.iv c0_i32_35 c1_i32_37 k1_t15
  let c4_i32 : BitVec 32 := 4#32
  let v85 : BitVec 32 := Scalar.muli arg25 c4_i32
  let v86 : BitVec 32 := Scalar.addi v85 c0_i32_57
  let v87 : Index := Scalar.indexCast v86
  let c0_58 : Index := 0#32
  ![v87.toNat, 0]
def k1_off153 (v92 : BitVec 32) : Fin 1 → Nat :=
  let c0_i32_61 : BitVec 32 := 0#32
  let v94 : BitVec 1 := Scalar.cmpi .sgt v92 c0_i32_61
  let v95 : BitVec 32 := Scalar.extui v94
  let c0_i32_62 : BitVec 32 := 0#32
  let v96 : BitVec 1 := Scalar.cmpi .slt v92 c0_i32_62
  let v97 : BitVec 32 := Scalar.extui v96
  let v98 : BitVec 32 := Scalar.subi v95 v97
  let c16_i32_60 : BitVec 32 := 16#32
  let c0_i32_63 : BitVec 32 := 0#32
  let v99 : BitVec 1 := Scalar.cmpi .sgt c16_i32_60 c0_i32_63
  let v100 : BitVec 32 := Scalar.extui v99
  let c0_i32_64 : BitVec 32 := 0#32
  let v101 : BitVec 1 := Scalar.cmpi .slt c16_i32_60 c0_i32_64
  let v102 : BitVec 32 := Scalar.extui v101
  let v103 : BitVec 32 := Scalar.subi v100 v102
  let v104 : BitVec 1 := Scalar.cmpi .ne v98 v103
  let v105 : BitVec 32 := Scalar.remsi v92 c16_i32_60
  let c0_i32_65 : BitVec 32 := 0#32
  let v106 : BitVec 1 := Scalar.cmpi .ne v105 c0_i32_65
  let v107 : BitVec 1 := Scalar.andi v104 v106
  let v93 : BitVec 32 := Scalar.divsi v92 c16_i32_60
  let c1_i32_66 : BitVec 32 := 1#32
  let v108 : BitVec 32 := Scalar.subi v93 c1_i32_66
  let v109 : BitVec 32 := Scalar.select v107 v108 v93
  let c16_i32_67 : BitVec 32 := 16#32
  let v110 : BitVec 32 := Scalar.muli v109 c16_i32_67
  ![v110.toNat]
def k1_cond15 (v6 : BitVec 32) : BitVec 1 :=
  let c0_i32_39 : BitVec 32 := 0#32
  let v53 : BitVec 1 := Scalar.cmpi .sgt v6 c0_i32_39
  let v54 : BitVec 32 := Scalar.extui v53
  let c0_i32_40 : BitVec 32 := 0#32
  let v55 : BitVec 1 := Scalar.cmpi .ne v54 c0_i32_40
  v55

def k1_chk74 (v6 : BitVec 32) (v92 : BitVec 32) : Prop :=
  (∀ (k1_h15 : k1_cond15 v6 = 1#1), ∀ a, (k1_off153 v92) a + S512.size a ≤ S327680.size a)
theorem k1_off153_inb : ∀ (v6 : BitVec 32) (v92 : BitVec 32) (k1_hw74 : k1_chk74 v6 v92), ∀ (k1_h15 : k1_cond15 v6 = 1#1), ∀ a, (k1_off153 v92) a + S512.size a ≤ S327680.size a := fun v6 v92 k1_hw74 k1_h15 => k1_hw74 k1_h15

@[reducible] def k1_t16_loop : Scf.Loop 32 :=
  let c0_i32_73 : BitVec 32 := 0#32
  let c32_i32_74 : BitVec 32 := 32#32
  let v119 : BitVec 32 := Scalar.addi c0_i32_73 c32_i32_74
  let c1_i32_75 : BitVec 32 := 1#32
  ⟨c0_i32_73, v119, c1_i32_75⟩
def k1_off154 (k1_t16 : Fin k1_t16_loop.trips) : Fin 1 → Nat :=
  let c0_i32_73 : BitVec 32 := 0#32
  let c1_i32_75 : BitVec 32 := 1#32
  let arg25 : BitVec 32 := Scf.iv c0_i32_73 c1_i32_75 k1_t16
  let c16_i32_79 : BitVec 32 := 16#32
  let v122 : BitVec 32 := Scalar.muli arg25 c16_i32_79
  let v123 : Index := Scalar.indexCast v122
  ![v123.toNat]
def k1_off155 (v92 : BitVec 32) : Fin 1 → Nat :=
  let c0_i32_61 : BitVec 32 := 0#32
  let v94 : BitVec 1 := Scalar.cmpi .sgt v92 c0_i32_61
  let v95 : BitVec 32 := Scalar.extui v94
  let c0_i32_62 : BitVec 32 := 0#32
  let v96 : BitVec 1 := Scalar.cmpi .slt v92 c0_i32_62
  let v97 : BitVec 32 := Scalar.extui v96
  let v98 : BitVec 32 := Scalar.subi v95 v97
  let c16_i32_60 : BitVec 32 := 16#32
  let c0_i32_63 : BitVec 32 := 0#32
  let v99 : BitVec 1 := Scalar.cmpi .sgt c16_i32_60 c0_i32_63
  let v100 : BitVec 32 := Scalar.extui v99
  let c0_i32_64 : BitVec 32 := 0#32
  let v101 : BitVec 1 := Scalar.cmpi .slt c16_i32_60 c0_i32_64
  let v102 : BitVec 32 := Scalar.extui v101
  let v103 : BitVec 32 := Scalar.subi v100 v102
  let v104 : BitVec 1 := Scalar.cmpi .ne v98 v103
  let v105 : BitVec 32 := Scalar.remsi v92 c16_i32_60
  let c0_i32_65 : BitVec 32 := 0#32
  let v106 : BitVec 1 := Scalar.cmpi .ne v105 c0_i32_65
  let v107 : BitVec 1 := Scalar.andi v104 v106
  let v93 : BitVec 32 := Scalar.divsi v92 c16_i32_60
  let c1_i32_66 : BitVec 32 := 1#32
  let v108 : BitVec 32 := Scalar.subi v93 c1_i32_66
  let v109 : BitVec 32 := Scalar.select v107 v108 v93
  let c16_i32_67 : BitVec 32 := 16#32
  let v110 : BitVec 32 := Scalar.muli v109 c16_i32_67
  ![v110.toNat]
def k1_cond16 (v6 : BitVec 32) : BitVec 1 :=
  let c1_i32_41 : BitVec 32 := 1#32
  let v56 : BitVec 1 := Scalar.cmpi .sgt v6 c1_i32_41
  let v57 : BitVec 32 := Scalar.extui v56
  let c0_i32_42 : BitVec 32 := 0#32
  let v58 : BitVec 1 := Scalar.cmpi .ne v57 c0_i32_42
  v58

def k1_chk75 (v6 : BitVec 32) (v92 : BitVec 32) : Prop :=
  (∀ (k1_h16 : k1_cond16 v6 = 1#1), ∀ a, (k1_off155 v92) a + S512.size a ≤ S327680.size a)
theorem k1_off155_inb : ∀ (v6 : BitVec 32) (v92 : BitVec 32) (k1_hw75 : k1_chk75 v6 v92), ∀ (k1_h16 : k1_cond16 v6 = 1#1), ∀ a, (k1_off155 v92) a + S512.size a ≤ S327680.size a := fun v6 v92 k1_hw75 k1_h16 => k1_hw75 k1_h16

@[reducible] def k1_t17_loop (v6 : BitVec 32) : Scf.Loop 32 :=
  let c0_i32_51 : BitVec 32 := 0#32
  let c1_i32_43 : BitVec 32 := 1#32
  let v59 : BitVec 32 := Scalar.addi v6 c1_i32_43
  let c0_i32_45 : BitVec 32 := 0#32
  let v61 : BitVec 1 := Scalar.cmpi .sgt v59 c0_i32_45
  let v62 : BitVec 32 := Scalar.extui v61
  let c0_i32_46 : BitVec 32 := 0#32
  let v63 : BitVec 1 := Scalar.cmpi .slt v59 c0_i32_46
  let v64 : BitVec 32 := Scalar.extui v63
  let v65 : BitVec 32 := Scalar.subi v62 v64
  let c2_i32_44 : BitVec 32 := 2#32
  let c0_i32_47 : BitVec 32 := 0#32
  let v66 : BitVec 1 := Scalar.cmpi .sgt c2_i32_44 c0_i32_47
  let v67 : BitVec 32 := Scalar.extui v66
  let c0_i32_48 : BitVec 32 := 0#32
  let v68 : BitVec 1 := Scalar.cmpi .slt c2_i32_44 c0_i32_48
  let v69 : BitVec 32 := Scalar.extui v68
  let v70 : BitVec 32 := Scalar.subi v67 v69
  let v71 : BitVec 1 := Scalar.cmpi .ne v65 v70
  let v72 : BitVec 32 := Scalar.remsi v59 c2_i32_44
  let c0_i32_49 : BitVec 32 := 0#32
  let v73 : BitVec 1 := Scalar.cmpi .ne v72 c0_i32_49
  let v74 : BitVec 1 := Scalar.andi v71 v73
  let v60 : BitVec 32 := Scalar.divsi v59 c2_i32_44
  let c1_i32_50 : BitVec 32 := 1#32
  let v75 : BitVec 32 := Scalar.subi v60 c1_i32_50
  let v76 : BitVec 32 := Scalar.select v74 v75 v60
  let v77 : BitVec 32 := Scalar.subi v76 c0_i32_51
  let c1_i32_53 : BitVec 32 := 1#32
  let v79 : BitVec 32 := Scalar.divsi v77 c1_i32_53
  let v80 : BitVec 32 := Scalar.muli v79 c1_i32_53
  let v81 : BitVec 32 := Scalar.addi c0_i32_51 v80
  let c1_i32_54 : BitVec 32 := 1#32
  ⟨c0_i32_51, v81, c1_i32_54⟩

@[reducible] def k1_t18_loop : Scf.Loop 32 :=
  let c0_i32_79 : BitVec 32 := 0#32
  let c32_i32_80 : BitVec 32 := 32#32
  let v109 : BitVec 32 := Scalar.addi c0_i32_79 c32_i32_80
  let c1_i32_81 : BitVec 32 := 1#32
  ⟨c0_i32_79, v109, c1_i32_81⟩
def k1_off156 (k1_t18 : Fin k1_t18_loop.trips) : Fin 1 → Nat :=
  let c0_i32_79 : BitVec 32 := 0#32
  let c1_i32_81 : BitVec 32 := 1#32
  let arg27 : BitVec 32 := Scf.iv c0_i32_79 c1_i32_81 k1_t18
  let c16_i32_85 : BitVec 32 := 16#32
  let v112 : BitVec 32 := Scalar.muli arg27 c16_i32_85
  let v113 : Index := Scalar.indexCast v112
  ![v113.toNat]
@[reducible] def k1_t19_loop : Scf.Loop 32 :=
  let c0_i32_68 : BitVec 32 := 0#32
  let c32_i32_69 : BitVec 32 := 32#32
  let v99 : BitVec 32 := Scalar.addi c0_i32_68 c32_i32_69
  let c1_i32_70 : BitVec 32 := 1#32
  ⟨c0_i32_68, v99, c1_i32_70⟩
def k1_off157 (k1_t19 : Fin k1_t19_loop.trips) : Fin 1 → Nat :=
  let c0_i32_68 : BitVec 32 := 0#32
  let c1_i32_70 : BitVec 32 := 1#32
  let arg27 : BitVec 32 := Scf.iv c0_i32_68 c1_i32_70 k1_t19
  let c16_i32_74 : BitVec 32 := 16#32
  let v105 : BitVec 32 := Scalar.muli arg27 c16_i32_74
  let v106 : Index := Scalar.indexCast v105
  ![v106.toNat]
def k1_off158 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_79 : BitVec 32 := 16#32
  let v119 : BitVec 32 := Scalar.muli arg27 c16_i32_79
  let c0_i32_80 : BitVec 32 := 0#32
  let v120 : BitVec 32 := Scalar.addi v119 c0_i32_80
  let v121 : Index := Scalar.indexCast v120
  let c0_81 : Index := 0#32
  ![v121.toNat, 0]
def k1_off159 (v118 : BitVec 32) : Fin 2 → Nat :=
  let v123 : Index := Scalar.indexCast v118
  let c0_82 : Index := 0#32
  ![v123.toNat, 0]
def k1_cond17 (v6 : BitVec 32) (k1_t17 : Fin (k1_t17_loop v6).trips) : BitVec 1 :=
  let c2_i32_57 : BitVec 32 := 2#32
  let c0_i32_51 : BitVec 32 := 0#32
  let c1_i32_54 : BitVec 32 := 1#32
  let arg25 : BitVec 32 := Scf.iv c0_i32_51 c1_i32_54 k1_t17
  let v85 : BitVec 32 := Scalar.muli c2_i32_57 arg25
  let v86 : BitVec 1 := Scalar.cmpi .slt v85 v6
  let v87 : BitVec 32 := Scalar.extui v86
  let c0_i32_58 : BitVec 32 := 0#32
  let v88 : BitVec 1 := Scalar.cmpi .ne v87 c0_i32_58
  v88

def k1_chk77 (v6 : BitVec 32) (k1_t17 : Fin (k1_t17_loop v6).trips) (v118 : BitVec 32) : Prop :=
  (∀ (k1_h17 : k1_cond17 v6 k1_t17 = 1#1), ∀ a, (k1_off159 v118) a + S1x16.size a ≤ S5008x16.size a)
theorem k1_off159_inb : ∀ (v6 : BitVec 32) (k1_t17 : Fin (k1_t17_loop v6).trips) (v118 : BitVec 32) (k1_hw77 : k1_chk77 v6 k1_t17 v118), ∀ (k1_h17 : k1_cond17 v6 k1_t17 = 1#1), ∀ a, (k1_off159 v118) a + S1x16.size a ≤ S5008x16.size a := fun v6 k1_t17 v118 k1_hw77 k1_h17 => k1_hw77 k1_h17

def k1_off160 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_84 : BitVec 32 := 16#32
  let v130 : BitVec 32 := Scalar.muli arg27 c16_i32_84
  let c1_i32_85 : BitVec 32 := 1#32
  let v131 : BitVec 32 := Scalar.addi v130 c1_i32_85
  let v132 : Index := Scalar.indexCast v131
  let c0_86 : Index := 0#32
  ![v132.toNat, 0]
def k1_off161 (v129 : BitVec 32) : Fin 2 → Nat :=
  let v134 : Index := Scalar.indexCast v129
  let c0_87 : Index := 0#32
  ![v134.toNat, 0]

def k1_chk78 (v6 : BitVec 32) (k1_t17 : Fin (k1_t17_loop v6).trips) (v129 : BitVec 32) : Prop :=
  (∀ (k1_h17 : k1_cond17 v6 k1_t17 = 1#1), ∀ a, (k1_off161 v129) a + S1x16.size a ≤ S5008x16.size a)
theorem k1_off161_inb : ∀ (v6 : BitVec 32) (k1_t17 : Fin (k1_t17_loop v6).trips) (v129 : BitVec 32) (k1_hw78 : k1_chk78 v6 k1_t17 v129), ∀ (k1_h17 : k1_cond17 v6 k1_t17 = 1#1), ∀ a, (k1_off161 v129) a + S1x16.size a ≤ S5008x16.size a := fun v6 k1_t17 v129 k1_hw78 k1_h17 => k1_hw78 k1_h17

def k1_off162 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_89 : BitVec 32 := 16#32
  let v141 : BitVec 32 := Scalar.muli arg27 c16_i32_89
  let c2_i32_90 : BitVec 32 := 2#32
  let v142 : BitVec 32 := Scalar.addi v141 c2_i32_90
  let v143 : Index := Scalar.indexCast v142
  let c0_91 : Index := 0#32
  ![v143.toNat, 0]
def k1_off163 (v140 : BitVec 32) : Fin 2 → Nat :=
  let v145 : Index := Scalar.indexCast v140
  let c0_92 : Index := 0#32
  ![v145.toNat, 0]

def k1_chk79 (v6 : BitVec 32) (k1_t17 : Fin (k1_t17_loop v6).trips) (v140 : BitVec 32) : Prop :=
  (∀ (k1_h17 : k1_cond17 v6 k1_t17 = 1#1), ∀ a, (k1_off163 v140) a + S1x16.size a ≤ S5008x16.size a)
theorem k1_off163_inb : ∀ (v6 : BitVec 32) (k1_t17 : Fin (k1_t17_loop v6).trips) (v140 : BitVec 32) (k1_hw79 : k1_chk79 v6 k1_t17 v140), ∀ (k1_h17 : k1_cond17 v6 k1_t17 = 1#1), ∀ a, (k1_off163 v140) a + S1x16.size a ≤ S5008x16.size a := fun v6 k1_t17 v140 k1_hw79 k1_h17 => k1_hw79 k1_h17

def k1_off164 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_94 : BitVec 32 := 16#32
  let v152 : BitVec 32 := Scalar.muli arg27 c16_i32_94
  let c3_i32 : BitVec 32 := 3#32
  let v153 : BitVec 32 := Scalar.addi v152 c3_i32
  let v154 : Index := Scalar.indexCast v153
  let c0_95 : Index := 0#32
  ![v154.toNat, 0]
def k1_off165 (v151 : BitVec 32) : Fin 2 → Nat :=
  let v156 : Index := Scalar.indexCast v151
  let c0_96 : Index := 0#32
  ![v156.toNat, 0]

def k1_chk80 (v6 : BitVec 32) (k1_t17 : Fin (k1_t17_loop v6).trips) (v151 : BitVec 32) : Prop :=
  (∀ (k1_h17 : k1_cond17 v6 k1_t17 = 1#1), ∀ a, (k1_off165 v151) a + S1x16.size a ≤ S5008x16.size a)
theorem k1_off165_inb : ∀ (v6 : BitVec 32) (k1_t17 : Fin (k1_t17_loop v6).trips) (v151 : BitVec 32) (k1_hw80 : k1_chk80 v6 k1_t17 v151), ∀ (k1_h17 : k1_cond17 v6 k1_t17 = 1#1), ∀ a, (k1_off165 v151) a + S1x16.size a ≤ S5008x16.size a := fun v6 k1_t17 v151 k1_hw80 k1_h17 => k1_hw80 k1_h17

def k1_off166 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_98 : BitVec 32 := 16#32
  let v163 : BitVec 32 := Scalar.muli arg27 c16_i32_98
  let c4_i32 : BitVec 32 := 4#32
  let v164 : BitVec 32 := Scalar.addi v163 c4_i32
  let v165 : Index := Scalar.indexCast v164
  let c0_99 : Index := 0#32
  ![v165.toNat, 0]
def k1_off167 (v162 : BitVec 32) : Fin 2 → Nat :=
  let v167 : Index := Scalar.indexCast v162
  let c0_100 : Index := 0#32
  ![v167.toNat, 0]

def k1_chk81 (v6 : BitVec 32) (k1_t17 : Fin (k1_t17_loop v6).trips) (v162 : BitVec 32) : Prop :=
  (∀ (k1_h17 : k1_cond17 v6 k1_t17 = 1#1), ∀ a, (k1_off167 v162) a + S1x16.size a ≤ S5008x16.size a)
theorem k1_off167_inb : ∀ (v6 : BitVec 32) (k1_t17 : Fin (k1_t17_loop v6).trips) (v162 : BitVec 32) (k1_hw81 : k1_chk81 v6 k1_t17 v162), ∀ (k1_h17 : k1_cond17 v6 k1_t17 = 1#1), ∀ a, (k1_off167 v162) a + S1x16.size a ≤ S5008x16.size a := fun v6 k1_t17 v162 k1_hw81 k1_h17 => k1_hw81 k1_h17

def k1_off168 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_102 : BitVec 32 := 16#32
  let v174 : BitVec 32 := Scalar.muli arg27 c16_i32_102
  let c5_i32 : BitVec 32 := 5#32
  let v175 : BitVec 32 := Scalar.addi v174 c5_i32
  let v176 : Index := Scalar.indexCast v175
  let c0_103 : Index := 0#32
  ![v176.toNat, 0]
def k1_off169 (v173 : BitVec 32) : Fin 2 → Nat :=
  let v178 : Index := Scalar.indexCast v173
  let c0_104 : Index := 0#32
  ![v178.toNat, 0]

def k1_chk82 (v6 : BitVec 32) (k1_t17 : Fin (k1_t17_loop v6).trips) (v173 : BitVec 32) : Prop :=
  (∀ (k1_h17 : k1_cond17 v6 k1_t17 = 1#1), ∀ a, (k1_off169 v173) a + S1x16.size a ≤ S5008x16.size a)
theorem k1_off169_inb : ∀ (v6 : BitVec 32) (k1_t17 : Fin (k1_t17_loop v6).trips) (v173 : BitVec 32) (k1_hw82 : k1_chk82 v6 k1_t17 v173), ∀ (k1_h17 : k1_cond17 v6 k1_t17 = 1#1), ∀ a, (k1_off169 v173) a + S1x16.size a ≤ S5008x16.size a := fun v6 k1_t17 v173 k1_hw82 k1_h17 => k1_hw82 k1_h17

def k1_off170 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_106 : BitVec 32 := 16#32
  let v185 : BitVec 32 := Scalar.muli arg27 c16_i32_106
  let c6_i32 : BitVec 32 := 6#32
  let v186 : BitVec 32 := Scalar.addi v185 c6_i32
  let v187 : Index := Scalar.indexCast v186
  let c0_107 : Index := 0#32
  ![v187.toNat, 0]
def k1_off171 (v184 : BitVec 32) : Fin 2 → Nat :=
  let v189 : Index := Scalar.indexCast v184
  let c0_108 : Index := 0#32
  ![v189.toNat, 0]

def k1_chk83 (v6 : BitVec 32) (k1_t17 : Fin (k1_t17_loop v6).trips) (v184 : BitVec 32) : Prop :=
  (∀ (k1_h17 : k1_cond17 v6 k1_t17 = 1#1), ∀ a, (k1_off171 v184) a + S1x16.size a ≤ S5008x16.size a)
theorem k1_off171_inb : ∀ (v6 : BitVec 32) (k1_t17 : Fin (k1_t17_loop v6).trips) (v184 : BitVec 32) (k1_hw83 : k1_chk83 v6 k1_t17 v184), ∀ (k1_h17 : k1_cond17 v6 k1_t17 = 1#1), ∀ a, (k1_off171 v184) a + S1x16.size a ≤ S5008x16.size a := fun v6 k1_t17 v184 k1_hw83 k1_h17 => k1_hw83 k1_h17

def k1_off172 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_110 : BitVec 32 := 16#32
  let v196 : BitVec 32 := Scalar.muli arg27 c16_i32_110
  let c7_i32 : BitVec 32 := 7#32
  let v197 : BitVec 32 := Scalar.addi v196 c7_i32
  let v198 : Index := Scalar.indexCast v197
  let c0_111 : Index := 0#32
  ![v198.toNat, 0]
def k1_off173 (v195 : BitVec 32) : Fin 2 → Nat :=
  let v200 : Index := Scalar.indexCast v195
  let c0_112 : Index := 0#32
  ![v200.toNat, 0]

def k1_chk84 (v6 : BitVec 32) (k1_t17 : Fin (k1_t17_loop v6).trips) (v195 : BitVec 32) : Prop :=
  (∀ (k1_h17 : k1_cond17 v6 k1_t17 = 1#1), ∀ a, (k1_off173 v195) a + S1x16.size a ≤ S5008x16.size a)
theorem k1_off173_inb : ∀ (v6 : BitVec 32) (k1_t17 : Fin (k1_t17_loop v6).trips) (v195 : BitVec 32) (k1_hw84 : k1_chk84 v6 k1_t17 v195), ∀ (k1_h17 : k1_cond17 v6 k1_t17 = 1#1), ∀ a, (k1_off173 v195) a + S1x16.size a ≤ S5008x16.size a := fun v6 k1_t17 v195 k1_hw84 k1_h17 => k1_hw84 k1_h17

def k1_off174 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_114 : BitVec 32 := 16#32
  let v207 : BitVec 32 := Scalar.muli arg27 c16_i32_114
  let c8_i32 : BitVec 32 := 8#32
  let v208 : BitVec 32 := Scalar.addi v207 c8_i32
  let v209 : Index := Scalar.indexCast v208
  let c0_115 : Index := 0#32
  ![v209.toNat, 0]
def k1_off175 (v206 : BitVec 32) : Fin 2 → Nat :=
  let v211 : Index := Scalar.indexCast v206
  let c0_116 : Index := 0#32
  ![v211.toNat, 0]

def k1_chk85 (v6 : BitVec 32) (k1_t17 : Fin (k1_t17_loop v6).trips) (v206 : BitVec 32) : Prop :=
  (∀ (k1_h17 : k1_cond17 v6 k1_t17 = 1#1), ∀ a, (k1_off175 v206) a + S1x16.size a ≤ S5008x16.size a)
theorem k1_off175_inb : ∀ (v6 : BitVec 32) (k1_t17 : Fin (k1_t17_loop v6).trips) (v206 : BitVec 32) (k1_hw85 : k1_chk85 v6 k1_t17 v206), ∀ (k1_h17 : k1_cond17 v6 k1_t17 = 1#1), ∀ a, (k1_off175 v206) a + S1x16.size a ≤ S5008x16.size a := fun v6 k1_t17 v206 k1_hw85 k1_h17 => k1_hw85 k1_h17

def k1_off176 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_118 : BitVec 32 := 16#32
  let v218 : BitVec 32 := Scalar.muli arg27 c16_i32_118
  let c9_i32 : BitVec 32 := 9#32
  let v219 : BitVec 32 := Scalar.addi v218 c9_i32
  let v220 : Index := Scalar.indexCast v219
  let c0_119 : Index := 0#32
  ![v220.toNat, 0]
def k1_off177 (v217 : BitVec 32) : Fin 2 → Nat :=
  let v222 : Index := Scalar.indexCast v217
  let c0_120 : Index := 0#32
  ![v222.toNat, 0]

def k1_chk86 (v6 : BitVec 32) (k1_t17 : Fin (k1_t17_loop v6).trips) (v217 : BitVec 32) : Prop :=
  (∀ (k1_h17 : k1_cond17 v6 k1_t17 = 1#1), ∀ a, (k1_off177 v217) a + S1x16.size a ≤ S5008x16.size a)
theorem k1_off177_inb : ∀ (v6 : BitVec 32) (k1_t17 : Fin (k1_t17_loop v6).trips) (v217 : BitVec 32) (k1_hw86 : k1_chk86 v6 k1_t17 v217), ∀ (k1_h17 : k1_cond17 v6 k1_t17 = 1#1), ∀ a, (k1_off177 v217) a + S1x16.size a ≤ S5008x16.size a := fun v6 k1_t17 v217 k1_hw86 k1_h17 => k1_hw86 k1_h17

def k1_off178 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_122 : BitVec 32 := 16#32
  let v229 : BitVec 32 := Scalar.muli arg27 c16_i32_122
  let c10_i32 : BitVec 32 := 10#32
  let v230 : BitVec 32 := Scalar.addi v229 c10_i32
  let v231 : Index := Scalar.indexCast v230
  let c0_123 : Index := 0#32
  ![v231.toNat, 0]
def k1_off179 (v228 : BitVec 32) : Fin 2 → Nat :=
  let v233 : Index := Scalar.indexCast v228
  let c0_124 : Index := 0#32
  ![v233.toNat, 0]

def k1_chk87 (v6 : BitVec 32) (k1_t17 : Fin (k1_t17_loop v6).trips) (v228 : BitVec 32) : Prop :=
  (∀ (k1_h17 : k1_cond17 v6 k1_t17 = 1#1), ∀ a, (k1_off179 v228) a + S1x16.size a ≤ S5008x16.size a)
theorem k1_off179_inb : ∀ (v6 : BitVec 32) (k1_t17 : Fin (k1_t17_loop v6).trips) (v228 : BitVec 32) (k1_hw87 : k1_chk87 v6 k1_t17 v228), ∀ (k1_h17 : k1_cond17 v6 k1_t17 = 1#1), ∀ a, (k1_off179 v228) a + S1x16.size a ≤ S5008x16.size a := fun v6 k1_t17 v228 k1_hw87 k1_h17 => k1_hw87 k1_h17

def k1_off180 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_126 : BitVec 32 := 16#32
  let v240 : BitVec 32 := Scalar.muli arg27 c16_i32_126
  let c11_i32 : BitVec 32 := 11#32
  let v241 : BitVec 32 := Scalar.addi v240 c11_i32
  let v242 : Index := Scalar.indexCast v241
  let c0_127 : Index := 0#32
  ![v242.toNat, 0]
def k1_off181 (v239 : BitVec 32) : Fin 2 → Nat :=
  let v244 : Index := Scalar.indexCast v239
  let c0_128 : Index := 0#32
  ![v244.toNat, 0]

def k1_chk88 (v6 : BitVec 32) (k1_t17 : Fin (k1_t17_loop v6).trips) (v239 : BitVec 32) : Prop :=
  (∀ (k1_h17 : k1_cond17 v6 k1_t17 = 1#1), ∀ a, (k1_off181 v239) a + S1x16.size a ≤ S5008x16.size a)
theorem k1_off181_inb : ∀ (v6 : BitVec 32) (k1_t17 : Fin (k1_t17_loop v6).trips) (v239 : BitVec 32) (k1_hw88 : k1_chk88 v6 k1_t17 v239), ∀ (k1_h17 : k1_cond17 v6 k1_t17 = 1#1), ∀ a, (k1_off181 v239) a + S1x16.size a ≤ S5008x16.size a := fun v6 k1_t17 v239 k1_hw88 k1_h17 => k1_hw88 k1_h17

def k1_off182 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_130 : BitVec 32 := 16#32
  let v251 : BitVec 32 := Scalar.muli arg27 c16_i32_130
  let c12_i32 : BitVec 32 := 12#32
  let v252 : BitVec 32 := Scalar.addi v251 c12_i32
  let v253 : Index := Scalar.indexCast v252
  let c0_131 : Index := 0#32
  ![v253.toNat, 0]
def k1_off183 (v250 : BitVec 32) : Fin 2 → Nat :=
  let v255 : Index := Scalar.indexCast v250
  let c0_132 : Index := 0#32
  ![v255.toNat, 0]

def k1_chk89 (v6 : BitVec 32) (k1_t17 : Fin (k1_t17_loop v6).trips) (v250 : BitVec 32) : Prop :=
  (∀ (k1_h17 : k1_cond17 v6 k1_t17 = 1#1), ∀ a, (k1_off183 v250) a + S1x16.size a ≤ S5008x16.size a)
theorem k1_off183_inb : ∀ (v6 : BitVec 32) (k1_t17 : Fin (k1_t17_loop v6).trips) (v250 : BitVec 32) (k1_hw89 : k1_chk89 v6 k1_t17 v250), ∀ (k1_h17 : k1_cond17 v6 k1_t17 = 1#1), ∀ a, (k1_off183 v250) a + S1x16.size a ≤ S5008x16.size a := fun v6 k1_t17 v250 k1_hw89 k1_h17 => k1_hw89 k1_h17

def k1_off184 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_134 : BitVec 32 := 16#32
  let v262 : BitVec 32 := Scalar.muli arg27 c16_i32_134
  let c13_i32 : BitVec 32 := 13#32
  let v263 : BitVec 32 := Scalar.addi v262 c13_i32
  let v264 : Index := Scalar.indexCast v263
  let c0_135 : Index := 0#32
  ![v264.toNat, 0]
def k1_off185 (v261 : BitVec 32) : Fin 2 → Nat :=
  let v266 : Index := Scalar.indexCast v261
  let c0_136 : Index := 0#32
  ![v266.toNat, 0]

def k1_chk90 (v6 : BitVec 32) (k1_t17 : Fin (k1_t17_loop v6).trips) (v261 : BitVec 32) : Prop :=
  (∀ (k1_h17 : k1_cond17 v6 k1_t17 = 1#1), ∀ a, (k1_off185 v261) a + S1x16.size a ≤ S5008x16.size a)
theorem k1_off185_inb : ∀ (v6 : BitVec 32) (k1_t17 : Fin (k1_t17_loop v6).trips) (v261 : BitVec 32) (k1_hw90 : k1_chk90 v6 k1_t17 v261), ∀ (k1_h17 : k1_cond17 v6 k1_t17 = 1#1), ∀ a, (k1_off185 v261) a + S1x16.size a ≤ S5008x16.size a := fun v6 k1_t17 v261 k1_hw90 k1_h17 => k1_hw90 k1_h17

def k1_off186 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_138 : BitVec 32 := 16#32
  let v273 : BitVec 32 := Scalar.muli arg27 c16_i32_138
  let c14_i32 : BitVec 32 := 14#32
  let v274 : BitVec 32 := Scalar.addi v273 c14_i32
  let v275 : Index := Scalar.indexCast v274
  let c0_139 : Index := 0#32
  ![v275.toNat, 0]
def k1_off187 (v272 : BitVec 32) : Fin 2 → Nat :=
  let v277 : Index := Scalar.indexCast v272
  let c0_140 : Index := 0#32
  ![v277.toNat, 0]

def k1_chk91 (v6 : BitVec 32) (k1_t17 : Fin (k1_t17_loop v6).trips) (v272 : BitVec 32) : Prop :=
  (∀ (k1_h17 : k1_cond17 v6 k1_t17 = 1#1), ∀ a, (k1_off187 v272) a + S1x16.size a ≤ S5008x16.size a)
theorem k1_off187_inb : ∀ (v6 : BitVec 32) (k1_t17 : Fin (k1_t17_loop v6).trips) (v272 : BitVec 32) (k1_hw91 : k1_chk91 v6 k1_t17 v272), ∀ (k1_h17 : k1_cond17 v6 k1_t17 = 1#1), ∀ a, (k1_off187 v272) a + S1x16.size a ≤ S5008x16.size a := fun v6 k1_t17 v272 k1_hw91 k1_h17 => k1_hw91 k1_h17

def k1_off188 (k1_t19 : Fin k1_t19_loop.trips) : Fin 2 → Nat :=
  let c0_i32_68 : BitVec 32 := 0#32
  let c1_i32_70 : BitVec 32 := 1#32
  let arg27 : BitVec 32 := Scf.iv c0_i32_68 c1_i32_70 k1_t19
  let c16_i32_142 : BitVec 32 := 16#32
  let v284 : BitVec 32 := Scalar.muli arg27 c16_i32_142
  let c15_i32 : BitVec 32 := 15#32
  let v285 : BitVec 32 := Scalar.addi v284 c15_i32
  let v286 : Index := Scalar.indexCast v285
  let c0_143 : Index := 0#32
  ![v286.toNat, 0]
def k1_off189 (v283 : BitVec 32) : Fin 2 → Nat :=
  let v288 : Index := Scalar.indexCast v283
  let c0_144 : Index := 0#32
  ![v288.toNat, 0]

def k1_chk92 (v6 : BitVec 32) (k1_t17 : Fin (k1_t17_loop v6).trips) (v283 : BitVec 32) : Prop :=
  (∀ (k1_h17 : k1_cond17 v6 k1_t17 = 1#1), ∀ a, (k1_off189 v283) a + S1x16.size a ≤ S5008x16.size a)
theorem k1_off189_inb : ∀ (v6 : BitVec 32) (k1_t17 : Fin (k1_t17_loop v6).trips) (v283 : BitVec 32) (k1_hw92 : k1_chk92 v6 k1_t17 v283), ∀ (k1_h17 : k1_cond17 v6 k1_t17 = 1#1), ∀ a, (k1_off189 v283) a + S1x16.size a ≤ S5008x16.size a := fun v6 k1_t17 v283 k1_hw92 k1_h17 => k1_hw92 k1_h17

def k1_off190 (v6 : BitVec 32) (k1_t17 : Fin (k1_t17_loop v6).trips) : Fin 1 → Nat :=
  let c2_i32_57 : BitVec 32 := 2#32
  let c0_i32_51 : BitVec 32 := 0#32
  let c1_i32_54 : BitVec 32 := 1#32
  let arg25 : BitVec 32 := Scf.iv c0_i32_51 c1_i32_54 k1_t17
  let v85 : BitVec 32 := Scalar.muli c2_i32_57 arg25
  let c2_i32_74 : BitVec 32 := 2#32
  let v105 : BitVec 32 := Scalar.addi v85 c2_i32_74
  let c0_i32_75 : BitVec 32 := 0#32
  let v107 : BitVec 1 := Scalar.cmpi .sgt v105 c0_i32_75
  let v108 : BitVec 32 := Scalar.extui v107
  let c0_i32_76 : BitVec 32 := 0#32
  let v109 : BitVec 1 := Scalar.cmpi .slt v105 c0_i32_76
  let v110 : BitVec 32 := Scalar.extui v109
  let v111 : BitVec 32 := Scalar.subi v108 v110
  let c8_i32 : BitVec 32 := 8#32
  let c0_i32_77 : BitVec 32 := 0#32
  let v112 : BitVec 1 := Scalar.cmpi .sgt c8_i32 c0_i32_77
  let v113 : BitVec 32 := Scalar.extui v112
  let c0_i32_78 : BitVec 32 := 0#32
  let v114 : BitVec 1 := Scalar.cmpi .slt c8_i32 c0_i32_78
  let v115 : BitVec 32 := Scalar.extui v114
  let v116 : BitVec 32 := Scalar.subi v113 v115
  let v117 : BitVec 1 := Scalar.cmpi .ne v111 v116
  let v118 : BitVec 32 := Scalar.remsi v105 c8_i32
  let c0_i32_79 : BitVec 32 := 0#32
  let v119 : BitVec 1 := Scalar.cmpi .ne v118 c0_i32_79
  let v120 : BitVec 1 := Scalar.andi v117 v119
  let v106 : BitVec 32 := Scalar.divsi v105 c8_i32
  let c1_i32_80 : BitVec 32 := 1#32
  let v121 : BitVec 32 := Scalar.subi v106 c1_i32_80
  let v122 : BitVec 32 := Scalar.select v120 v121 v106
  let c8_i32_81 : BitVec 32 := 8#32
  let v123 : BitVec 32 := Scalar.muli v122 c8_i32_81
  let v124 : Index := Scalar.indexCast v123
  ![v124.toNat]
def k1_cond19 (v6 : BitVec 32) (k1_t17 : Fin (k1_t17_loop v6).trips) : BitVec 1 :=
  let c2_i32_57 : BitVec 32 := 2#32
  let c0_i32_51 : BitVec 32 := 0#32
  let c1_i32_54 : BitVec 32 := 1#32
  let arg25 : BitVec 32 := Scf.iv c0_i32_51 c1_i32_54 k1_t17
  let v85 : BitVec 32 := Scalar.muli c2_i32_57 arg25
  let c2_i32_72 : BitVec 32 := 2#32
  let v101 : BitVec 32 := Scalar.addi v85 c2_i32_72
  let v102 : BitVec 1 := Scalar.cmpi .slt v101 v6
  let v103 : BitVec 32 := Scalar.extui v102
  let c0_i32_73 : BitVec 32 := 0#32
  let v104 : BitVec 1 := Scalar.cmpi .ne v103 c0_i32_73
  v104

def k1_off191 (v133 : BitVec 32) : Fin 1 → Nat :=
  let c0_i32_84 : BitVec 32 := 0#32
  let v135 : BitVec 1 := Scalar.cmpi .sgt v133 c0_i32_84
  let v136 : BitVec 32 := Scalar.extui v135
  let c0_i32_85 : BitVec 32 := 0#32
  let v137 : BitVec 1 := Scalar.cmpi .slt v133 c0_i32_85
  let v138 : BitVec 32 := Scalar.extui v137
  let v139 : BitVec 32 := Scalar.subi v136 v138
  let c16_i32_83 : BitVec 32 := 16#32
  let c0_i32_86 : BitVec 32 := 0#32
  let v140 : BitVec 1 := Scalar.cmpi .sgt c16_i32_83 c0_i32_86
  let v141 : BitVec 32 := Scalar.extui v140
  let c0_i32_87 : BitVec 32 := 0#32
  let v142 : BitVec 1 := Scalar.cmpi .slt c16_i32_83 c0_i32_87
  let v143 : BitVec 32 := Scalar.extui v142
  let v144 : BitVec 32 := Scalar.subi v141 v143
  let v145 : BitVec 1 := Scalar.cmpi .ne v139 v144
  let v146 : BitVec 32 := Scalar.remsi v133 c16_i32_83
  let c0_i32_88 : BitVec 32 := 0#32
  let v147 : BitVec 1 := Scalar.cmpi .ne v146 c0_i32_88
  let v148 : BitVec 1 := Scalar.andi v145 v147
  let v134 : BitVec 32 := Scalar.divsi v133 c16_i32_83
  let c1_i32_89 : BitVec 32 := 1#32
  let v149 : BitVec 32 := Scalar.subi v134 c1_i32_89
  let v150 : BitVec 32 := Scalar.select v148 v149 v134
  let c16_i32_90 : BitVec 32 := 16#32
  let v151 : BitVec 32 := Scalar.muli v150 c16_i32_90
  ![v151.toNat]

def k1_chk93 (v6 : BitVec 32) (k1_t17 : Fin (k1_t17_loop v6).trips) (v133 : BitVec 32) : Prop :=
  (∀ (k1_h17 : k1_cond17 v6 k1_t17 = 1#1), ∀ (k1_h19 : k1_cond19 v6 k1_t17 = 1#1), ∀ a, (k1_off191 v133) a + S512.size a ≤ S327680.size a)
theorem k1_off191_inb : ∀ (v6 : BitVec 32) (k1_t17 : Fin (k1_t17_loop v6).trips) (v133 : BitVec 32) (k1_hw93 : k1_chk93 v6 k1_t17 v133), ∀ (k1_h17 : k1_cond17 v6 k1_t17 = 1#1), ∀ (k1_h19 : k1_cond19 v6 k1_t17 = 1#1), ∀ a, (k1_off191 v133) a + S512.size a ≤ S327680.size a := fun v6 k1_t17 v133 k1_hw93 k1_h17 k1_h19 => k1_hw93 k1_h17 k1_h19

@[reducible] def k1_t20_loop : Scf.Loop 32 :=
  let c0_i32_79 : BitVec 32 := 0#32
  let c32_i32_80 : BitVec 32 := 32#32
  let v109 : BitVec 32 := Scalar.addi c0_i32_79 c32_i32_80
  let c1_i32_81 : BitVec 32 := 1#32
  ⟨c0_i32_79, v109, c1_i32_81⟩
def k1_off192 (k1_t20 : Fin k1_t20_loop.trips) : Fin 1 → Nat :=
  let c0_i32_79 : BitVec 32 := 0#32
  let c1_i32_81 : BitVec 32 := 1#32
  let arg27 : BitVec 32 := Scf.iv c0_i32_79 c1_i32_81 k1_t20
  let c16_i32_85 : BitVec 32 := 16#32
  let v112 : BitVec 32 := Scalar.muli arg27 c16_i32_85
  let v113 : Index := Scalar.indexCast v112
  ![v113.toNat]
@[reducible] def k1_t21_loop : Scf.Loop 32 :=
  let c0_i32_68 : BitVec 32 := 0#32
  let c32_i32_69 : BitVec 32 := 32#32
  let v99 : BitVec 32 := Scalar.addi c0_i32_68 c32_i32_69
  let c1_i32_70 : BitVec 32 := 1#32
  ⟨c0_i32_68, v99, c1_i32_70⟩
def k1_off193 (k1_t21 : Fin k1_t21_loop.trips) : Fin 1 → Nat :=
  let c0_i32_68 : BitVec 32 := 0#32
  let c1_i32_70 : BitVec 32 := 1#32
  let arg27 : BitVec 32 := Scf.iv c0_i32_68 c1_i32_70 k1_t21
  let c16_i32_74 : BitVec 32 := 16#32
  let v105 : BitVec 32 := Scalar.muli arg27 c16_i32_74
  let v106 : Index := Scalar.indexCast v105
  ![v106.toNat]
def k1_off194 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_79 : BitVec 32 := 16#32
  let v119 : BitVec 32 := Scalar.muli arg27 c16_i32_79
  let c0_i32_80 : BitVec 32 := 0#32
  let v120 : BitVec 32 := Scalar.addi v119 c0_i32_80
  let v121 : Index := Scalar.indexCast v120
  let c0_81 : Index := 0#32
  ![v121.toNat, 0]
def k1_off195 (v118 : BitVec 32) : Fin 2 → Nat :=
  let v123 : Index := Scalar.indexCast v118
  let c0_82 : Index := 0#32
  ![v123.toNat, 0]
def k1_cond20 (v6 : BitVec 32) (k1_t17 : Fin (k1_t17_loop v6).trips) : BitVec 1 :=
  let c2_i32_59 : BitVec 32 := 2#32
  let c0_i32_51 : BitVec 32 := 0#32
  let c1_i32_54 : BitVec 32 := 1#32
  let arg25 : BitVec 32 := Scf.iv c0_i32_51 c1_i32_54 k1_t17
  let v89 : BitVec 32 := Scalar.muli c2_i32_59 arg25
  let c1_i32_60 : BitVec 32 := 1#32
  let v90 : BitVec 32 := Scalar.addi v89 c1_i32_60
  let v91 : BitVec 1 := Scalar.cmpi .slt v90 v6
  let v92 : BitVec 32 := Scalar.extui v91
  let c0_i32_61 : BitVec 32 := 0#32
  let v93 : BitVec 1 := Scalar.cmpi .ne v92 c0_i32_61
  v93

def k1_chk94 (v6 : BitVec 32) (k1_t17 : Fin (k1_t17_loop v6).trips) (v118 : BitVec 32) : Prop :=
  (∀ (k1_h20 : k1_cond20 v6 k1_t17 = 1#1), ∀ a, (k1_off195 v118) a + S1x16.size a ≤ S5008x16.size a)
theorem k1_off195_inb : ∀ (v6 : BitVec 32) (k1_t17 : Fin (k1_t17_loop v6).trips) (v118 : BitVec 32) (k1_hw94 : k1_chk94 v6 k1_t17 v118), ∀ (k1_h20 : k1_cond20 v6 k1_t17 = 1#1), ∀ a, (k1_off195 v118) a + S1x16.size a ≤ S5008x16.size a := fun v6 k1_t17 v118 k1_hw94 k1_h20 => k1_hw94 k1_h20

def k1_off196 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_84 : BitVec 32 := 16#32
  let v130 : BitVec 32 := Scalar.muli arg27 c16_i32_84
  let c1_i32_85 : BitVec 32 := 1#32
  let v131 : BitVec 32 := Scalar.addi v130 c1_i32_85
  let v132 : Index := Scalar.indexCast v131
  let c0_86 : Index := 0#32
  ![v132.toNat, 0]
def k1_off197 (v129 : BitVec 32) : Fin 2 → Nat :=
  let v134 : Index := Scalar.indexCast v129
  let c0_87 : Index := 0#32
  ![v134.toNat, 0]

def k1_chk95 (v6 : BitVec 32) (k1_t17 : Fin (k1_t17_loop v6).trips) (v129 : BitVec 32) : Prop :=
  (∀ (k1_h20 : k1_cond20 v6 k1_t17 = 1#1), ∀ a, (k1_off197 v129) a + S1x16.size a ≤ S5008x16.size a)
theorem k1_off197_inb : ∀ (v6 : BitVec 32) (k1_t17 : Fin (k1_t17_loop v6).trips) (v129 : BitVec 32) (k1_hw95 : k1_chk95 v6 k1_t17 v129), ∀ (k1_h20 : k1_cond20 v6 k1_t17 = 1#1), ∀ a, (k1_off197 v129) a + S1x16.size a ≤ S5008x16.size a := fun v6 k1_t17 v129 k1_hw95 k1_h20 => k1_hw95 k1_h20

def k1_off198 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_89 : BitVec 32 := 16#32
  let v141 : BitVec 32 := Scalar.muli arg27 c16_i32_89
  let c2_i32_90 : BitVec 32 := 2#32
  let v142 : BitVec 32 := Scalar.addi v141 c2_i32_90
  let v143 : Index := Scalar.indexCast v142
  let c0_91 : Index := 0#32
  ![v143.toNat, 0]
def k1_off199 (v140 : BitVec 32) : Fin 2 → Nat :=
  let v145 : Index := Scalar.indexCast v140
  let c0_92 : Index := 0#32
  ![v145.toNat, 0]

def k1_chk96 (v6 : BitVec 32) (k1_t17 : Fin (k1_t17_loop v6).trips) (v140 : BitVec 32) : Prop :=
  (∀ (k1_h20 : k1_cond20 v6 k1_t17 = 1#1), ∀ a, (k1_off199 v140) a + S1x16.size a ≤ S5008x16.size a)
theorem k1_off199_inb : ∀ (v6 : BitVec 32) (k1_t17 : Fin (k1_t17_loop v6).trips) (v140 : BitVec 32) (k1_hw96 : k1_chk96 v6 k1_t17 v140), ∀ (k1_h20 : k1_cond20 v6 k1_t17 = 1#1), ∀ a, (k1_off199 v140) a + S1x16.size a ≤ S5008x16.size a := fun v6 k1_t17 v140 k1_hw96 k1_h20 => k1_hw96 k1_h20

def k1_off200 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_94 : BitVec 32 := 16#32
  let v152 : BitVec 32 := Scalar.muli arg27 c16_i32_94
  let c3_i32 : BitVec 32 := 3#32
  let v153 : BitVec 32 := Scalar.addi v152 c3_i32
  let v154 : Index := Scalar.indexCast v153
  let c0_95 : Index := 0#32
  ![v154.toNat, 0]
def k1_off201 (v151 : BitVec 32) : Fin 2 → Nat :=
  let v156 : Index := Scalar.indexCast v151
  let c0_96 : Index := 0#32
  ![v156.toNat, 0]

def k1_chk97 (v6 : BitVec 32) (k1_t17 : Fin (k1_t17_loop v6).trips) (v151 : BitVec 32) : Prop :=
  (∀ (k1_h20 : k1_cond20 v6 k1_t17 = 1#1), ∀ a, (k1_off201 v151) a + S1x16.size a ≤ S5008x16.size a)
theorem k1_off201_inb : ∀ (v6 : BitVec 32) (k1_t17 : Fin (k1_t17_loop v6).trips) (v151 : BitVec 32) (k1_hw97 : k1_chk97 v6 k1_t17 v151), ∀ (k1_h20 : k1_cond20 v6 k1_t17 = 1#1), ∀ a, (k1_off201 v151) a + S1x16.size a ≤ S5008x16.size a := fun v6 k1_t17 v151 k1_hw97 k1_h20 => k1_hw97 k1_h20

def k1_off202 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_98 : BitVec 32 := 16#32
  let v163 : BitVec 32 := Scalar.muli arg27 c16_i32_98
  let c4_i32 : BitVec 32 := 4#32
  let v164 : BitVec 32 := Scalar.addi v163 c4_i32
  let v165 : Index := Scalar.indexCast v164
  let c0_99 : Index := 0#32
  ![v165.toNat, 0]
def k1_off203 (v162 : BitVec 32) : Fin 2 → Nat :=
  let v167 : Index := Scalar.indexCast v162
  let c0_100 : Index := 0#32
  ![v167.toNat, 0]

def k1_chk98 (v6 : BitVec 32) (k1_t17 : Fin (k1_t17_loop v6).trips) (v162 : BitVec 32) : Prop :=
  (∀ (k1_h20 : k1_cond20 v6 k1_t17 = 1#1), ∀ a, (k1_off203 v162) a + S1x16.size a ≤ S5008x16.size a)
theorem k1_off203_inb : ∀ (v6 : BitVec 32) (k1_t17 : Fin (k1_t17_loop v6).trips) (v162 : BitVec 32) (k1_hw98 : k1_chk98 v6 k1_t17 v162), ∀ (k1_h20 : k1_cond20 v6 k1_t17 = 1#1), ∀ a, (k1_off203 v162) a + S1x16.size a ≤ S5008x16.size a := fun v6 k1_t17 v162 k1_hw98 k1_h20 => k1_hw98 k1_h20

def k1_off204 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_102 : BitVec 32 := 16#32
  let v174 : BitVec 32 := Scalar.muli arg27 c16_i32_102
  let c5_i32 : BitVec 32 := 5#32
  let v175 : BitVec 32 := Scalar.addi v174 c5_i32
  let v176 : Index := Scalar.indexCast v175
  let c0_103 : Index := 0#32
  ![v176.toNat, 0]
def k1_off205 (v173 : BitVec 32) : Fin 2 → Nat :=
  let v178 : Index := Scalar.indexCast v173
  let c0_104 : Index := 0#32
  ![v178.toNat, 0]

def k1_chk99 (v6 : BitVec 32) (k1_t17 : Fin (k1_t17_loop v6).trips) (v173 : BitVec 32) : Prop :=
  (∀ (k1_h20 : k1_cond20 v6 k1_t17 = 1#1), ∀ a, (k1_off205 v173) a + S1x16.size a ≤ S5008x16.size a)
theorem k1_off205_inb : ∀ (v6 : BitVec 32) (k1_t17 : Fin (k1_t17_loop v6).trips) (v173 : BitVec 32) (k1_hw99 : k1_chk99 v6 k1_t17 v173), ∀ (k1_h20 : k1_cond20 v6 k1_t17 = 1#1), ∀ a, (k1_off205 v173) a + S1x16.size a ≤ S5008x16.size a := fun v6 k1_t17 v173 k1_hw99 k1_h20 => k1_hw99 k1_h20

def k1_off206 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_106 : BitVec 32 := 16#32
  let v185 : BitVec 32 := Scalar.muli arg27 c16_i32_106
  let c6_i32 : BitVec 32 := 6#32
  let v186 : BitVec 32 := Scalar.addi v185 c6_i32
  let v187 : Index := Scalar.indexCast v186
  let c0_107 : Index := 0#32
  ![v187.toNat, 0]
def k1_off207 (v184 : BitVec 32) : Fin 2 → Nat :=
  let v189 : Index := Scalar.indexCast v184
  let c0_108 : Index := 0#32
  ![v189.toNat, 0]

def k1_chk100 (v6 : BitVec 32) (k1_t17 : Fin (k1_t17_loop v6).trips) (v184 : BitVec 32) : Prop :=
  (∀ (k1_h20 : k1_cond20 v6 k1_t17 = 1#1), ∀ a, (k1_off207 v184) a + S1x16.size a ≤ S5008x16.size a)
theorem k1_off207_inb : ∀ (v6 : BitVec 32) (k1_t17 : Fin (k1_t17_loop v6).trips) (v184 : BitVec 32) (k1_hw100 : k1_chk100 v6 k1_t17 v184), ∀ (k1_h20 : k1_cond20 v6 k1_t17 = 1#1), ∀ a, (k1_off207 v184) a + S1x16.size a ≤ S5008x16.size a := fun v6 k1_t17 v184 k1_hw100 k1_h20 => k1_hw100 k1_h20

def k1_off208 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_110 : BitVec 32 := 16#32
  let v196 : BitVec 32 := Scalar.muli arg27 c16_i32_110
  let c7_i32 : BitVec 32 := 7#32
  let v197 : BitVec 32 := Scalar.addi v196 c7_i32
  let v198 : Index := Scalar.indexCast v197
  let c0_111 : Index := 0#32
  ![v198.toNat, 0]
def k1_off209 (v195 : BitVec 32) : Fin 2 → Nat :=
  let v200 : Index := Scalar.indexCast v195
  let c0_112 : Index := 0#32
  ![v200.toNat, 0]

def k1_chk101 (v6 : BitVec 32) (k1_t17 : Fin (k1_t17_loop v6).trips) (v195 : BitVec 32) : Prop :=
  (∀ (k1_h20 : k1_cond20 v6 k1_t17 = 1#1), ∀ a, (k1_off209 v195) a + S1x16.size a ≤ S5008x16.size a)
theorem k1_off209_inb : ∀ (v6 : BitVec 32) (k1_t17 : Fin (k1_t17_loop v6).trips) (v195 : BitVec 32) (k1_hw101 : k1_chk101 v6 k1_t17 v195), ∀ (k1_h20 : k1_cond20 v6 k1_t17 = 1#1), ∀ a, (k1_off209 v195) a + S1x16.size a ≤ S5008x16.size a := fun v6 k1_t17 v195 k1_hw101 k1_h20 => k1_hw101 k1_h20

def k1_off210 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_114 : BitVec 32 := 16#32
  let v207 : BitVec 32 := Scalar.muli arg27 c16_i32_114
  let c8_i32 : BitVec 32 := 8#32
  let v208 : BitVec 32 := Scalar.addi v207 c8_i32
  let v209 : Index := Scalar.indexCast v208
  let c0_115 : Index := 0#32
  ![v209.toNat, 0]
def k1_off211 (v206 : BitVec 32) : Fin 2 → Nat :=
  let v211 : Index := Scalar.indexCast v206
  let c0_116 : Index := 0#32
  ![v211.toNat, 0]

def k1_chk102 (v6 : BitVec 32) (k1_t17 : Fin (k1_t17_loop v6).trips) (v206 : BitVec 32) : Prop :=
  (∀ (k1_h20 : k1_cond20 v6 k1_t17 = 1#1), ∀ a, (k1_off211 v206) a + S1x16.size a ≤ S5008x16.size a)
theorem k1_off211_inb : ∀ (v6 : BitVec 32) (k1_t17 : Fin (k1_t17_loop v6).trips) (v206 : BitVec 32) (k1_hw102 : k1_chk102 v6 k1_t17 v206), ∀ (k1_h20 : k1_cond20 v6 k1_t17 = 1#1), ∀ a, (k1_off211 v206) a + S1x16.size a ≤ S5008x16.size a := fun v6 k1_t17 v206 k1_hw102 k1_h20 => k1_hw102 k1_h20

def k1_off212 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_118 : BitVec 32 := 16#32
  let v218 : BitVec 32 := Scalar.muli arg27 c16_i32_118
  let c9_i32 : BitVec 32 := 9#32
  let v219 : BitVec 32 := Scalar.addi v218 c9_i32
  let v220 : Index := Scalar.indexCast v219
  let c0_119 : Index := 0#32
  ![v220.toNat, 0]
def k1_off213 (v217 : BitVec 32) : Fin 2 → Nat :=
  let v222 : Index := Scalar.indexCast v217
  let c0_120 : Index := 0#32
  ![v222.toNat, 0]

def k1_chk103 (v6 : BitVec 32) (k1_t17 : Fin (k1_t17_loop v6).trips) (v217 : BitVec 32) : Prop :=
  (∀ (k1_h20 : k1_cond20 v6 k1_t17 = 1#1), ∀ a, (k1_off213 v217) a + S1x16.size a ≤ S5008x16.size a)
theorem k1_off213_inb : ∀ (v6 : BitVec 32) (k1_t17 : Fin (k1_t17_loop v6).trips) (v217 : BitVec 32) (k1_hw103 : k1_chk103 v6 k1_t17 v217), ∀ (k1_h20 : k1_cond20 v6 k1_t17 = 1#1), ∀ a, (k1_off213 v217) a + S1x16.size a ≤ S5008x16.size a := fun v6 k1_t17 v217 k1_hw103 k1_h20 => k1_hw103 k1_h20

def k1_off214 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_122 : BitVec 32 := 16#32
  let v229 : BitVec 32 := Scalar.muli arg27 c16_i32_122
  let c10_i32 : BitVec 32 := 10#32
  let v230 : BitVec 32 := Scalar.addi v229 c10_i32
  let v231 : Index := Scalar.indexCast v230
  let c0_123 : Index := 0#32
  ![v231.toNat, 0]
def k1_off215 (v228 : BitVec 32) : Fin 2 → Nat :=
  let v233 : Index := Scalar.indexCast v228
  let c0_124 : Index := 0#32
  ![v233.toNat, 0]

def k1_chk104 (v6 : BitVec 32) (k1_t17 : Fin (k1_t17_loop v6).trips) (v228 : BitVec 32) : Prop :=
  (∀ (k1_h20 : k1_cond20 v6 k1_t17 = 1#1), ∀ a, (k1_off215 v228) a + S1x16.size a ≤ S5008x16.size a)
theorem k1_off215_inb : ∀ (v6 : BitVec 32) (k1_t17 : Fin (k1_t17_loop v6).trips) (v228 : BitVec 32) (k1_hw104 : k1_chk104 v6 k1_t17 v228), ∀ (k1_h20 : k1_cond20 v6 k1_t17 = 1#1), ∀ a, (k1_off215 v228) a + S1x16.size a ≤ S5008x16.size a := fun v6 k1_t17 v228 k1_hw104 k1_h20 => k1_hw104 k1_h20

def k1_off216 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_126 : BitVec 32 := 16#32
  let v240 : BitVec 32 := Scalar.muli arg27 c16_i32_126
  let c11_i32 : BitVec 32 := 11#32
  let v241 : BitVec 32 := Scalar.addi v240 c11_i32
  let v242 : Index := Scalar.indexCast v241
  let c0_127 : Index := 0#32
  ![v242.toNat, 0]
def k1_off217 (v239 : BitVec 32) : Fin 2 → Nat :=
  let v244 : Index := Scalar.indexCast v239
  let c0_128 : Index := 0#32
  ![v244.toNat, 0]

def k1_chk105 (v6 : BitVec 32) (k1_t17 : Fin (k1_t17_loop v6).trips) (v239 : BitVec 32) : Prop :=
  (∀ (k1_h20 : k1_cond20 v6 k1_t17 = 1#1), ∀ a, (k1_off217 v239) a + S1x16.size a ≤ S5008x16.size a)
theorem k1_off217_inb : ∀ (v6 : BitVec 32) (k1_t17 : Fin (k1_t17_loop v6).trips) (v239 : BitVec 32) (k1_hw105 : k1_chk105 v6 k1_t17 v239), ∀ (k1_h20 : k1_cond20 v6 k1_t17 = 1#1), ∀ a, (k1_off217 v239) a + S1x16.size a ≤ S5008x16.size a := fun v6 k1_t17 v239 k1_hw105 k1_h20 => k1_hw105 k1_h20

def k1_off218 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_130 : BitVec 32 := 16#32
  let v251 : BitVec 32 := Scalar.muli arg27 c16_i32_130
  let c12_i32 : BitVec 32 := 12#32
  let v252 : BitVec 32 := Scalar.addi v251 c12_i32
  let v253 : Index := Scalar.indexCast v252
  let c0_131 : Index := 0#32
  ![v253.toNat, 0]
def k1_off219 (v250 : BitVec 32) : Fin 2 → Nat :=
  let v255 : Index := Scalar.indexCast v250
  let c0_132 : Index := 0#32
  ![v255.toNat, 0]

def k1_chk106 (v6 : BitVec 32) (k1_t17 : Fin (k1_t17_loop v6).trips) (v250 : BitVec 32) : Prop :=
  (∀ (k1_h20 : k1_cond20 v6 k1_t17 = 1#1), ∀ a, (k1_off219 v250) a + S1x16.size a ≤ S5008x16.size a)
theorem k1_off219_inb : ∀ (v6 : BitVec 32) (k1_t17 : Fin (k1_t17_loop v6).trips) (v250 : BitVec 32) (k1_hw106 : k1_chk106 v6 k1_t17 v250), ∀ (k1_h20 : k1_cond20 v6 k1_t17 = 1#1), ∀ a, (k1_off219 v250) a + S1x16.size a ≤ S5008x16.size a := fun v6 k1_t17 v250 k1_hw106 k1_h20 => k1_hw106 k1_h20

def k1_off220 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_134 : BitVec 32 := 16#32
  let v262 : BitVec 32 := Scalar.muli arg27 c16_i32_134
  let c13_i32 : BitVec 32 := 13#32
  let v263 : BitVec 32 := Scalar.addi v262 c13_i32
  let v264 : Index := Scalar.indexCast v263
  let c0_135 : Index := 0#32
  ![v264.toNat, 0]
def k1_off221 (v261 : BitVec 32) : Fin 2 → Nat :=
  let v266 : Index := Scalar.indexCast v261
  let c0_136 : Index := 0#32
  ![v266.toNat, 0]

def k1_chk107 (v6 : BitVec 32) (k1_t17 : Fin (k1_t17_loop v6).trips) (v261 : BitVec 32) : Prop :=
  (∀ (k1_h20 : k1_cond20 v6 k1_t17 = 1#1), ∀ a, (k1_off221 v261) a + S1x16.size a ≤ S5008x16.size a)
theorem k1_off221_inb : ∀ (v6 : BitVec 32) (k1_t17 : Fin (k1_t17_loop v6).trips) (v261 : BitVec 32) (k1_hw107 : k1_chk107 v6 k1_t17 v261), ∀ (k1_h20 : k1_cond20 v6 k1_t17 = 1#1), ∀ a, (k1_off221 v261) a + S1x16.size a ≤ S5008x16.size a := fun v6 k1_t17 v261 k1_hw107 k1_h20 => k1_hw107 k1_h20

def k1_off222 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_138 : BitVec 32 := 16#32
  let v273 : BitVec 32 := Scalar.muli arg27 c16_i32_138
  let c14_i32 : BitVec 32 := 14#32
  let v274 : BitVec 32 := Scalar.addi v273 c14_i32
  let v275 : Index := Scalar.indexCast v274
  let c0_139 : Index := 0#32
  ![v275.toNat, 0]
def k1_off223 (v272 : BitVec 32) : Fin 2 → Nat :=
  let v277 : Index := Scalar.indexCast v272
  let c0_140 : Index := 0#32
  ![v277.toNat, 0]

def k1_chk108 (v6 : BitVec 32) (k1_t17 : Fin (k1_t17_loop v6).trips) (v272 : BitVec 32) : Prop :=
  (∀ (k1_h20 : k1_cond20 v6 k1_t17 = 1#1), ∀ a, (k1_off223 v272) a + S1x16.size a ≤ S5008x16.size a)
theorem k1_off223_inb : ∀ (v6 : BitVec 32) (k1_t17 : Fin (k1_t17_loop v6).trips) (v272 : BitVec 32) (k1_hw108 : k1_chk108 v6 k1_t17 v272), ∀ (k1_h20 : k1_cond20 v6 k1_t17 = 1#1), ∀ a, (k1_off223 v272) a + S1x16.size a ≤ S5008x16.size a := fun v6 k1_t17 v272 k1_hw108 k1_h20 => k1_hw108 k1_h20

def k1_off224 (k1_t21 : Fin k1_t21_loop.trips) : Fin 2 → Nat :=
  let c0_i32_68 : BitVec 32 := 0#32
  let c1_i32_70 : BitVec 32 := 1#32
  let arg27 : BitVec 32 := Scf.iv c0_i32_68 c1_i32_70 k1_t21
  let c16_i32_142 : BitVec 32 := 16#32
  let v284 : BitVec 32 := Scalar.muli arg27 c16_i32_142
  let c15_i32 : BitVec 32 := 15#32
  let v285 : BitVec 32 := Scalar.addi v284 c15_i32
  let v286 : Index := Scalar.indexCast v285
  let c0_143 : Index := 0#32
  ![v286.toNat, 0]
def k1_off225 (v283 : BitVec 32) : Fin 2 → Nat :=
  let v288 : Index := Scalar.indexCast v283
  let c0_144 : Index := 0#32
  ![v288.toNat, 0]

def k1_chk109 (v6 : BitVec 32) (k1_t17 : Fin (k1_t17_loop v6).trips) (v283 : BitVec 32) : Prop :=
  (∀ (k1_h20 : k1_cond20 v6 k1_t17 = 1#1), ∀ a, (k1_off225 v283) a + S1x16.size a ≤ S5008x16.size a)
theorem k1_off225_inb : ∀ (v6 : BitVec 32) (k1_t17 : Fin (k1_t17_loop v6).trips) (v283 : BitVec 32) (k1_hw109 : k1_chk109 v6 k1_t17 v283), ∀ (k1_h20 : k1_cond20 v6 k1_t17 = 1#1), ∀ a, (k1_off225 v283) a + S1x16.size a ≤ S5008x16.size a := fun v6 k1_t17 v283 k1_hw109 k1_h20 => k1_hw109 k1_h20

def k1_off226 (v6 : BitVec 32) (k1_t17 : Fin (k1_t17_loop v6).trips) : Fin 1 → Nat :=
  let c2_i32_59 : BitVec 32 := 2#32
  let c0_i32_51 : BitVec 32 := 0#32
  let c1_i32_54 : BitVec 32 := 1#32
  let arg25 : BitVec 32 := Scf.iv c0_i32_51 c1_i32_54 k1_t17
  let v89 : BitVec 32 := Scalar.muli c2_i32_59 arg25
  let c1_i32_60 : BitVec 32 := 1#32
  let v90 : BitVec 32 := Scalar.addi v89 c1_i32_60
  let c2_i32_74 : BitVec 32 := 2#32
  let v105 : BitVec 32 := Scalar.addi v90 c2_i32_74
  let c0_i32_75 : BitVec 32 := 0#32
  let v107 : BitVec 1 := Scalar.cmpi .sgt v105 c0_i32_75
  let v108 : BitVec 32 := Scalar.extui v107
  let c0_i32_76 : BitVec 32 := 0#32
  let v109 : BitVec 1 := Scalar.cmpi .slt v105 c0_i32_76
  let v110 : BitVec 32 := Scalar.extui v109
  let v111 : BitVec 32 := Scalar.subi v108 v110
  let c8_i32 : BitVec 32 := 8#32
  let c0_i32_77 : BitVec 32 := 0#32
  let v112 : BitVec 1 := Scalar.cmpi .sgt c8_i32 c0_i32_77
  let v113 : BitVec 32 := Scalar.extui v112
  let c0_i32_78 : BitVec 32 := 0#32
  let v114 : BitVec 1 := Scalar.cmpi .slt c8_i32 c0_i32_78
  let v115 : BitVec 32 := Scalar.extui v114
  let v116 : BitVec 32 := Scalar.subi v113 v115
  let v117 : BitVec 1 := Scalar.cmpi .ne v111 v116
  let v118 : BitVec 32 := Scalar.remsi v105 c8_i32
  let c0_i32_79 : BitVec 32 := 0#32
  let v119 : BitVec 1 := Scalar.cmpi .ne v118 c0_i32_79
  let v120 : BitVec 1 := Scalar.andi v117 v119
  let v106 : BitVec 32 := Scalar.divsi v105 c8_i32
  let c1_i32_80 : BitVec 32 := 1#32
  let v121 : BitVec 32 := Scalar.subi v106 c1_i32_80
  let v122 : BitVec 32 := Scalar.select v120 v121 v106
  let c8_i32_81 : BitVec 32 := 8#32
  let v123 : BitVec 32 := Scalar.muli v122 c8_i32_81
  let v124 : Index := Scalar.indexCast v123
  ![v124.toNat]
def k1_cond22 (v6 : BitVec 32) (k1_t17 : Fin (k1_t17_loop v6).trips) : BitVec 1 :=
  let c2_i32_59 : BitVec 32 := 2#32
  let c0_i32_51 : BitVec 32 := 0#32
  let c1_i32_54 : BitVec 32 := 1#32
  let arg25 : BitVec 32 := Scf.iv c0_i32_51 c1_i32_54 k1_t17
  let v89 : BitVec 32 := Scalar.muli c2_i32_59 arg25
  let c1_i32_60 : BitVec 32 := 1#32
  let v90 : BitVec 32 := Scalar.addi v89 c1_i32_60
  let c2_i32_72 : BitVec 32 := 2#32
  let v101 : BitVec 32 := Scalar.addi v90 c2_i32_72
  let v102 : BitVec 1 := Scalar.cmpi .slt v101 v6
  let v103 : BitVec 32 := Scalar.extui v102
  let c0_i32_73 : BitVec 32 := 0#32
  let v104 : BitVec 1 := Scalar.cmpi .ne v103 c0_i32_73
  v104

def k1_off227 (v133 : BitVec 32) : Fin 1 → Nat :=
  let c0_i32_84 : BitVec 32 := 0#32
  let v135 : BitVec 1 := Scalar.cmpi .sgt v133 c0_i32_84
  let v136 : BitVec 32 := Scalar.extui v135
  let c0_i32_85 : BitVec 32 := 0#32
  let v137 : BitVec 1 := Scalar.cmpi .slt v133 c0_i32_85
  let v138 : BitVec 32 := Scalar.extui v137
  let v139 : BitVec 32 := Scalar.subi v136 v138
  let c16_i32_83 : BitVec 32 := 16#32
  let c0_i32_86 : BitVec 32 := 0#32
  let v140 : BitVec 1 := Scalar.cmpi .sgt c16_i32_83 c0_i32_86
  let v141 : BitVec 32 := Scalar.extui v140
  let c0_i32_87 : BitVec 32 := 0#32
  let v142 : BitVec 1 := Scalar.cmpi .slt c16_i32_83 c0_i32_87
  let v143 : BitVec 32 := Scalar.extui v142
  let v144 : BitVec 32 := Scalar.subi v141 v143
  let v145 : BitVec 1 := Scalar.cmpi .ne v139 v144
  let v146 : BitVec 32 := Scalar.remsi v133 c16_i32_83
  let c0_i32_88 : BitVec 32 := 0#32
  let v147 : BitVec 1 := Scalar.cmpi .ne v146 c0_i32_88
  let v148 : BitVec 1 := Scalar.andi v145 v147
  let v134 : BitVec 32 := Scalar.divsi v133 c16_i32_83
  let c1_i32_89 : BitVec 32 := 1#32
  let v149 : BitVec 32 := Scalar.subi v134 c1_i32_89
  let v150 : BitVec 32 := Scalar.select v148 v149 v134
  let c16_i32_90 : BitVec 32 := 16#32
  let v151 : BitVec 32 := Scalar.muli v150 c16_i32_90
  ![v151.toNat]

def k1_chk110 (v6 : BitVec 32) (k1_t17 : Fin (k1_t17_loop v6).trips) (v133 : BitVec 32) : Prop :=
  (∀ (k1_h20 : k1_cond20 v6 k1_t17 = 1#1), ∀ (k1_h22 : k1_cond22 v6 k1_t17 = 1#1), ∀ a, (k1_off227 v133) a + S512.size a ≤ S327680.size a)
theorem k1_off227_inb : ∀ (v6 : BitVec 32) (k1_t17 : Fin (k1_t17_loop v6).trips) (v133 : BitVec 32) (k1_hw110 : k1_chk110 v6 k1_t17 v133), ∀ (k1_h20 : k1_cond20 v6 k1_t17 = 1#1), ∀ (k1_h22 : k1_cond22 v6 k1_t17 = 1#1), ∀ a, (k1_off227 v133) a + S512.size a ≤ S327680.size a := fun v6 k1_t17 v133 k1_hw110 k1_h20 k1_h22 => k1_hw110 k1_h20 k1_h22

@[reducible] def k1_t22_loop (v6 : BitVec 32) : Scf.Loop 32 :=
  let c0_i32_51 : BitVec 32 := 0#32
  let c1_i32_43 : BitVec 32 := 1#32
  let v59 : BitVec 32 := Scalar.addi v6 c1_i32_43
  let c0_i32_45 : BitVec 32 := 0#32
  let v61 : BitVec 1 := Scalar.cmpi .sgt v59 c0_i32_45
  let v62 : BitVec 32 := Scalar.extui v61
  let c0_i32_46 : BitVec 32 := 0#32
  let v63 : BitVec 1 := Scalar.cmpi .slt v59 c0_i32_46
  let v64 : BitVec 32 := Scalar.extui v63
  let v65 : BitVec 32 := Scalar.subi v62 v64
  let c2_i32_44 : BitVec 32 := 2#32
  let c0_i32_47 : BitVec 32 := 0#32
  let v66 : BitVec 1 := Scalar.cmpi .sgt c2_i32_44 c0_i32_47
  let v67 : BitVec 32 := Scalar.extui v66
  let c0_i32_48 : BitVec 32 := 0#32
  let v68 : BitVec 1 := Scalar.cmpi .slt c2_i32_44 c0_i32_48
  let v69 : BitVec 32 := Scalar.extui v68
  let v70 : BitVec 32 := Scalar.subi v67 v69
  let v71 : BitVec 1 := Scalar.cmpi .ne v65 v70
  let v72 : BitVec 32 := Scalar.remsi v59 c2_i32_44
  let c0_i32_49 : BitVec 32 := 0#32
  let v73 : BitVec 1 := Scalar.cmpi .ne v72 c0_i32_49
  let v74 : BitVec 1 := Scalar.andi v71 v73
  let v60 : BitVec 32 := Scalar.divsi v59 c2_i32_44
  let c1_i32_50 : BitVec 32 := 1#32
  let v75 : BitVec 32 := Scalar.subi v60 c1_i32_50
  let v76 : BitVec 32 := Scalar.select v74 v75 v60
  let v77 : BitVec 32 := Scalar.subi v76 c0_i32_51
  let c1_i32_53 : BitVec 32 := 1#32
  let v79 : BitVec 32 := Scalar.divsi v77 c1_i32_53
  let v80 : BitVec 32 := Scalar.muli v79 c1_i32_53
  let v81 : BitVec 32 := Scalar.addi c0_i32_51 v80
  let v78 : BitVec 32 := Scalar.addi c0_i32_51 v77
  let c1_i32_55 : BitVec 32 := 1#32
  ⟨v81, v78, c1_i32_55⟩
@[reducible] def k1_t23_loop : Scf.Loop 32 :=
  let c0_i32_79 : BitVec 32 := 0#32
  let c32_i32_80 : BitVec 32 := 32#32
  let v109 : BitVec 32 := Scalar.addi c0_i32_79 c32_i32_80
  let c1_i32_81 : BitVec 32 := 1#32
  ⟨c0_i32_79, v109, c1_i32_81⟩
def k1_off228 (k1_t23 : Fin k1_t23_loop.trips) : Fin 1 → Nat :=
  let c0_i32_79 : BitVec 32 := 0#32
  let c1_i32_81 : BitVec 32 := 1#32
  let arg27 : BitVec 32 := Scf.iv c0_i32_79 c1_i32_81 k1_t23
  let c16_i32_85 : BitVec 32 := 16#32
  let v112 : BitVec 32 := Scalar.muli arg27 c16_i32_85
  let v113 : Index := Scalar.indexCast v112
  ![v113.toNat]
@[reducible] def k1_t24_loop : Scf.Loop 32 :=
  let c0_i32_68 : BitVec 32 := 0#32
  let c32_i32_69 : BitVec 32 := 32#32
  let v99 : BitVec 32 := Scalar.addi c0_i32_68 c32_i32_69
  let c1_i32_70 : BitVec 32 := 1#32
  ⟨c0_i32_68, v99, c1_i32_70⟩
def k1_off229 (k1_t24 : Fin k1_t24_loop.trips) : Fin 1 → Nat :=
  let c0_i32_68 : BitVec 32 := 0#32
  let c1_i32_70 : BitVec 32 := 1#32
  let arg27 : BitVec 32 := Scf.iv c0_i32_68 c1_i32_70 k1_t24
  let c16_i32_74 : BitVec 32 := 16#32
  let v105 : BitVec 32 := Scalar.muli arg27 c16_i32_74
  let v106 : Index := Scalar.indexCast v105
  ![v106.toNat]
def k1_off230 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_79 : BitVec 32 := 16#32
  let v119 : BitVec 32 := Scalar.muli arg27 c16_i32_79
  let c0_i32_80 : BitVec 32 := 0#32
  let v120 : BitVec 32 := Scalar.addi v119 c0_i32_80
  let v121 : Index := Scalar.indexCast v120
  let c0_81 : Index := 0#32
  ![v121.toNat, 0]
def k1_off231 (v118 : BitVec 32) : Fin 2 → Nat :=
  let v123 : Index := Scalar.indexCast v118
  let c0_82 : Index := 0#32
  ![v123.toNat, 0]
def k1_cond23 (v6 : BitVec 32) (k1_t22 : Fin (k1_t22_loop v6).trips) : BitVec 1 :=
  let c2_i32_57 : BitVec 32 := 2#32
  let c0_i32_51 : BitVec 32 := 0#32
  let c1_i32_43 : BitVec 32 := 1#32
  let v59 : BitVec 32 := Scalar.addi v6 c1_i32_43
  let c0_i32_45 : BitVec 32 := 0#32
  let v61 : BitVec 1 := Scalar.cmpi .sgt v59 c0_i32_45
  let v62 : BitVec 32 := Scalar.extui v61
  let c0_i32_46 : BitVec 32 := 0#32
  let v63 : BitVec 1 := Scalar.cmpi .slt v59 c0_i32_46
  let v64 : BitVec 32 := Scalar.extui v63
  let v65 : BitVec 32 := Scalar.subi v62 v64
  let c2_i32_44 : BitVec 32 := 2#32
  let c0_i32_47 : BitVec 32 := 0#32
  let v66 : BitVec 1 := Scalar.cmpi .sgt c2_i32_44 c0_i32_47
  let v67 : BitVec 32 := Scalar.extui v66
  let c0_i32_48 : BitVec 32 := 0#32
  let v68 : BitVec 1 := Scalar.cmpi .slt c2_i32_44 c0_i32_48
  let v69 : BitVec 32 := Scalar.extui v68
  let v70 : BitVec 32 := Scalar.subi v67 v69
  let v71 : BitVec 1 := Scalar.cmpi .ne v65 v70
  let v72 : BitVec 32 := Scalar.remsi v59 c2_i32_44
  let c0_i32_49 : BitVec 32 := 0#32
  let v73 : BitVec 1 := Scalar.cmpi .ne v72 c0_i32_49
  let v74 : BitVec 1 := Scalar.andi v71 v73
  let v60 : BitVec 32 := Scalar.divsi v59 c2_i32_44
  let c1_i32_50 : BitVec 32 := 1#32
  let v75 : BitVec 32 := Scalar.subi v60 c1_i32_50
  let v76 : BitVec 32 := Scalar.select v74 v75 v60
  let v77 : BitVec 32 := Scalar.subi v76 c0_i32_51
  let c1_i32_53 : BitVec 32 := 1#32
  let v79 : BitVec 32 := Scalar.divsi v77 c1_i32_53
  let v80 : BitVec 32 := Scalar.muli v79 c1_i32_53
  let v81 : BitVec 32 := Scalar.addi c0_i32_51 v80
  let c1_i32_55 : BitVec 32 := 1#32
  let arg25 : BitVec 32 := Scf.iv v81 c1_i32_55 k1_t22
  let v85 : BitVec 32 := Scalar.muli c2_i32_57 arg25
  let v86 : BitVec 1 := Scalar.cmpi .slt v85 v6
  let v87 : BitVec 32 := Scalar.extui v86
  let c0_i32_58 : BitVec 32 := 0#32
  let v88 : BitVec 1 := Scalar.cmpi .ne v87 c0_i32_58
  v88

def k1_chk111 (v6 : BitVec 32) (k1_t22 : Fin (k1_t22_loop v6).trips) (v118 : BitVec 32) : Prop :=
  (∀ (k1_h23 : k1_cond23 v6 k1_t22 = 1#1), ∀ a, (k1_off231 v118) a + S1x16.size a ≤ S5008x16.size a)
theorem k1_off231_inb : ∀ (v6 : BitVec 32) (k1_t22 : Fin (k1_t22_loop v6).trips) (v118 : BitVec 32) (k1_hw111 : k1_chk111 v6 k1_t22 v118), ∀ (k1_h23 : k1_cond23 v6 k1_t22 = 1#1), ∀ a, (k1_off231 v118) a + S1x16.size a ≤ S5008x16.size a := fun v6 k1_t22 v118 k1_hw111 k1_h23 => k1_hw111 k1_h23

def k1_off232 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_84 : BitVec 32 := 16#32
  let v130 : BitVec 32 := Scalar.muli arg27 c16_i32_84
  let c1_i32_85 : BitVec 32 := 1#32
  let v131 : BitVec 32 := Scalar.addi v130 c1_i32_85
  let v132 : Index := Scalar.indexCast v131
  let c0_86 : Index := 0#32
  ![v132.toNat, 0]
def k1_off233 (v129 : BitVec 32) : Fin 2 → Nat :=
  let v134 : Index := Scalar.indexCast v129
  let c0_87 : Index := 0#32
  ![v134.toNat, 0]

def k1_chk112 (v6 : BitVec 32) (k1_t22 : Fin (k1_t22_loop v6).trips) (v129 : BitVec 32) : Prop :=
  (∀ (k1_h23 : k1_cond23 v6 k1_t22 = 1#1), ∀ a, (k1_off233 v129) a + S1x16.size a ≤ S5008x16.size a)
theorem k1_off233_inb : ∀ (v6 : BitVec 32) (k1_t22 : Fin (k1_t22_loop v6).trips) (v129 : BitVec 32) (k1_hw112 : k1_chk112 v6 k1_t22 v129), ∀ (k1_h23 : k1_cond23 v6 k1_t22 = 1#1), ∀ a, (k1_off233 v129) a + S1x16.size a ≤ S5008x16.size a := fun v6 k1_t22 v129 k1_hw112 k1_h23 => k1_hw112 k1_h23

def k1_off234 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_89 : BitVec 32 := 16#32
  let v141 : BitVec 32 := Scalar.muli arg27 c16_i32_89
  let c2_i32_90 : BitVec 32 := 2#32
  let v142 : BitVec 32 := Scalar.addi v141 c2_i32_90
  let v143 : Index := Scalar.indexCast v142
  let c0_91 : Index := 0#32
  ![v143.toNat, 0]
def k1_off235 (v140 : BitVec 32) : Fin 2 → Nat :=
  let v145 : Index := Scalar.indexCast v140
  let c0_92 : Index := 0#32
  ![v145.toNat, 0]

def k1_chk113 (v6 : BitVec 32) (k1_t22 : Fin (k1_t22_loop v6).trips) (v140 : BitVec 32) : Prop :=
  (∀ (k1_h23 : k1_cond23 v6 k1_t22 = 1#1), ∀ a, (k1_off235 v140) a + S1x16.size a ≤ S5008x16.size a)
theorem k1_off235_inb : ∀ (v6 : BitVec 32) (k1_t22 : Fin (k1_t22_loop v6).trips) (v140 : BitVec 32) (k1_hw113 : k1_chk113 v6 k1_t22 v140), ∀ (k1_h23 : k1_cond23 v6 k1_t22 = 1#1), ∀ a, (k1_off235 v140) a + S1x16.size a ≤ S5008x16.size a := fun v6 k1_t22 v140 k1_hw113 k1_h23 => k1_hw113 k1_h23

def k1_off236 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_94 : BitVec 32 := 16#32
  let v152 : BitVec 32 := Scalar.muli arg27 c16_i32_94
  let c3_i32 : BitVec 32 := 3#32
  let v153 : BitVec 32 := Scalar.addi v152 c3_i32
  let v154 : Index := Scalar.indexCast v153
  let c0_95 : Index := 0#32
  ![v154.toNat, 0]
def k1_off237 (v151 : BitVec 32) : Fin 2 → Nat :=
  let v156 : Index := Scalar.indexCast v151
  let c0_96 : Index := 0#32
  ![v156.toNat, 0]

def k1_chk114 (v6 : BitVec 32) (k1_t22 : Fin (k1_t22_loop v6).trips) (v151 : BitVec 32) : Prop :=
  (∀ (k1_h23 : k1_cond23 v6 k1_t22 = 1#1), ∀ a, (k1_off237 v151) a + S1x16.size a ≤ S5008x16.size a)
theorem k1_off237_inb : ∀ (v6 : BitVec 32) (k1_t22 : Fin (k1_t22_loop v6).trips) (v151 : BitVec 32) (k1_hw114 : k1_chk114 v6 k1_t22 v151), ∀ (k1_h23 : k1_cond23 v6 k1_t22 = 1#1), ∀ a, (k1_off237 v151) a + S1x16.size a ≤ S5008x16.size a := fun v6 k1_t22 v151 k1_hw114 k1_h23 => k1_hw114 k1_h23

def k1_off238 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_98 : BitVec 32 := 16#32
  let v163 : BitVec 32 := Scalar.muli arg27 c16_i32_98
  let c4_i32 : BitVec 32 := 4#32
  let v164 : BitVec 32 := Scalar.addi v163 c4_i32
  let v165 : Index := Scalar.indexCast v164
  let c0_99 : Index := 0#32
  ![v165.toNat, 0]
def k1_off239 (v162 : BitVec 32) : Fin 2 → Nat :=
  let v167 : Index := Scalar.indexCast v162
  let c0_100 : Index := 0#32
  ![v167.toNat, 0]

def k1_chk115 (v6 : BitVec 32) (k1_t22 : Fin (k1_t22_loop v6).trips) (v162 : BitVec 32) : Prop :=
  (∀ (k1_h23 : k1_cond23 v6 k1_t22 = 1#1), ∀ a, (k1_off239 v162) a + S1x16.size a ≤ S5008x16.size a)
theorem k1_off239_inb : ∀ (v6 : BitVec 32) (k1_t22 : Fin (k1_t22_loop v6).trips) (v162 : BitVec 32) (k1_hw115 : k1_chk115 v6 k1_t22 v162), ∀ (k1_h23 : k1_cond23 v6 k1_t22 = 1#1), ∀ a, (k1_off239 v162) a + S1x16.size a ≤ S5008x16.size a := fun v6 k1_t22 v162 k1_hw115 k1_h23 => k1_hw115 k1_h23

def k1_off240 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_102 : BitVec 32 := 16#32
  let v174 : BitVec 32 := Scalar.muli arg27 c16_i32_102
  let c5_i32 : BitVec 32 := 5#32
  let v175 : BitVec 32 := Scalar.addi v174 c5_i32
  let v176 : Index := Scalar.indexCast v175
  let c0_103 : Index := 0#32
  ![v176.toNat, 0]
def k1_off241 (v173 : BitVec 32) : Fin 2 → Nat :=
  let v178 : Index := Scalar.indexCast v173
  let c0_104 : Index := 0#32
  ![v178.toNat, 0]

def k1_chk116 (v6 : BitVec 32) (k1_t22 : Fin (k1_t22_loop v6).trips) (v173 : BitVec 32) : Prop :=
  (∀ (k1_h23 : k1_cond23 v6 k1_t22 = 1#1), ∀ a, (k1_off241 v173) a + S1x16.size a ≤ S5008x16.size a)
theorem k1_off241_inb : ∀ (v6 : BitVec 32) (k1_t22 : Fin (k1_t22_loop v6).trips) (v173 : BitVec 32) (k1_hw116 : k1_chk116 v6 k1_t22 v173), ∀ (k1_h23 : k1_cond23 v6 k1_t22 = 1#1), ∀ a, (k1_off241 v173) a + S1x16.size a ≤ S5008x16.size a := fun v6 k1_t22 v173 k1_hw116 k1_h23 => k1_hw116 k1_h23

def k1_off242 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_106 : BitVec 32 := 16#32
  let v185 : BitVec 32 := Scalar.muli arg27 c16_i32_106
  let c6_i32 : BitVec 32 := 6#32
  let v186 : BitVec 32 := Scalar.addi v185 c6_i32
  let v187 : Index := Scalar.indexCast v186
  let c0_107 : Index := 0#32
  ![v187.toNat, 0]
def k1_off243 (v184 : BitVec 32) : Fin 2 → Nat :=
  let v189 : Index := Scalar.indexCast v184
  let c0_108 : Index := 0#32
  ![v189.toNat, 0]

def k1_chk117 (v6 : BitVec 32) (k1_t22 : Fin (k1_t22_loop v6).trips) (v184 : BitVec 32) : Prop :=
  (∀ (k1_h23 : k1_cond23 v6 k1_t22 = 1#1), ∀ a, (k1_off243 v184) a + S1x16.size a ≤ S5008x16.size a)
theorem k1_off243_inb : ∀ (v6 : BitVec 32) (k1_t22 : Fin (k1_t22_loop v6).trips) (v184 : BitVec 32) (k1_hw117 : k1_chk117 v6 k1_t22 v184), ∀ (k1_h23 : k1_cond23 v6 k1_t22 = 1#1), ∀ a, (k1_off243 v184) a + S1x16.size a ≤ S5008x16.size a := fun v6 k1_t22 v184 k1_hw117 k1_h23 => k1_hw117 k1_h23

def k1_off244 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_110 : BitVec 32 := 16#32
  let v196 : BitVec 32 := Scalar.muli arg27 c16_i32_110
  let c7_i32 : BitVec 32 := 7#32
  let v197 : BitVec 32 := Scalar.addi v196 c7_i32
  let v198 : Index := Scalar.indexCast v197
  let c0_111 : Index := 0#32
  ![v198.toNat, 0]
def k1_off245 (v195 : BitVec 32) : Fin 2 → Nat :=
  let v200 : Index := Scalar.indexCast v195
  let c0_112 : Index := 0#32
  ![v200.toNat, 0]

def k1_chk118 (v6 : BitVec 32) (k1_t22 : Fin (k1_t22_loop v6).trips) (v195 : BitVec 32) : Prop :=
  (∀ (k1_h23 : k1_cond23 v6 k1_t22 = 1#1), ∀ a, (k1_off245 v195) a + S1x16.size a ≤ S5008x16.size a)
theorem k1_off245_inb : ∀ (v6 : BitVec 32) (k1_t22 : Fin (k1_t22_loop v6).trips) (v195 : BitVec 32) (k1_hw118 : k1_chk118 v6 k1_t22 v195), ∀ (k1_h23 : k1_cond23 v6 k1_t22 = 1#1), ∀ a, (k1_off245 v195) a + S1x16.size a ≤ S5008x16.size a := fun v6 k1_t22 v195 k1_hw118 k1_h23 => k1_hw118 k1_h23

def k1_off246 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_114 : BitVec 32 := 16#32
  let v207 : BitVec 32 := Scalar.muli arg27 c16_i32_114
  let c8_i32 : BitVec 32 := 8#32
  let v208 : BitVec 32 := Scalar.addi v207 c8_i32
  let v209 : Index := Scalar.indexCast v208
  let c0_115 : Index := 0#32
  ![v209.toNat, 0]
def k1_off247 (v206 : BitVec 32) : Fin 2 → Nat :=
  let v211 : Index := Scalar.indexCast v206
  let c0_116 : Index := 0#32
  ![v211.toNat, 0]

def k1_chk119 (v6 : BitVec 32) (k1_t22 : Fin (k1_t22_loop v6).trips) (v206 : BitVec 32) : Prop :=
  (∀ (k1_h23 : k1_cond23 v6 k1_t22 = 1#1), ∀ a, (k1_off247 v206) a + S1x16.size a ≤ S5008x16.size a)
theorem k1_off247_inb : ∀ (v6 : BitVec 32) (k1_t22 : Fin (k1_t22_loop v6).trips) (v206 : BitVec 32) (k1_hw119 : k1_chk119 v6 k1_t22 v206), ∀ (k1_h23 : k1_cond23 v6 k1_t22 = 1#1), ∀ a, (k1_off247 v206) a + S1x16.size a ≤ S5008x16.size a := fun v6 k1_t22 v206 k1_hw119 k1_h23 => k1_hw119 k1_h23

def k1_off248 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_118 : BitVec 32 := 16#32
  let v218 : BitVec 32 := Scalar.muli arg27 c16_i32_118
  let c9_i32 : BitVec 32 := 9#32
  let v219 : BitVec 32 := Scalar.addi v218 c9_i32
  let v220 : Index := Scalar.indexCast v219
  let c0_119 : Index := 0#32
  ![v220.toNat, 0]
def k1_off249 (v217 : BitVec 32) : Fin 2 → Nat :=
  let v222 : Index := Scalar.indexCast v217
  let c0_120 : Index := 0#32
  ![v222.toNat, 0]

def k1_chk120 (v6 : BitVec 32) (k1_t22 : Fin (k1_t22_loop v6).trips) (v217 : BitVec 32) : Prop :=
  (∀ (k1_h23 : k1_cond23 v6 k1_t22 = 1#1), ∀ a, (k1_off249 v217) a + S1x16.size a ≤ S5008x16.size a)
theorem k1_off249_inb : ∀ (v6 : BitVec 32) (k1_t22 : Fin (k1_t22_loop v6).trips) (v217 : BitVec 32) (k1_hw120 : k1_chk120 v6 k1_t22 v217), ∀ (k1_h23 : k1_cond23 v6 k1_t22 = 1#1), ∀ a, (k1_off249 v217) a + S1x16.size a ≤ S5008x16.size a := fun v6 k1_t22 v217 k1_hw120 k1_h23 => k1_hw120 k1_h23

def k1_off250 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_122 : BitVec 32 := 16#32
  let v229 : BitVec 32 := Scalar.muli arg27 c16_i32_122
  let c10_i32 : BitVec 32 := 10#32
  let v230 : BitVec 32 := Scalar.addi v229 c10_i32
  let v231 : Index := Scalar.indexCast v230
  let c0_123 : Index := 0#32
  ![v231.toNat, 0]
def k1_off251 (v228 : BitVec 32) : Fin 2 → Nat :=
  let v233 : Index := Scalar.indexCast v228
  let c0_124 : Index := 0#32
  ![v233.toNat, 0]

def k1_chk121 (v6 : BitVec 32) (k1_t22 : Fin (k1_t22_loop v6).trips) (v228 : BitVec 32) : Prop :=
  (∀ (k1_h23 : k1_cond23 v6 k1_t22 = 1#1), ∀ a, (k1_off251 v228) a + S1x16.size a ≤ S5008x16.size a)
theorem k1_off251_inb : ∀ (v6 : BitVec 32) (k1_t22 : Fin (k1_t22_loop v6).trips) (v228 : BitVec 32) (k1_hw121 : k1_chk121 v6 k1_t22 v228), ∀ (k1_h23 : k1_cond23 v6 k1_t22 = 1#1), ∀ a, (k1_off251 v228) a + S1x16.size a ≤ S5008x16.size a := fun v6 k1_t22 v228 k1_hw121 k1_h23 => k1_hw121 k1_h23

def k1_off252 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_126 : BitVec 32 := 16#32
  let v240 : BitVec 32 := Scalar.muli arg27 c16_i32_126
  let c11_i32 : BitVec 32 := 11#32
  let v241 : BitVec 32 := Scalar.addi v240 c11_i32
  let v242 : Index := Scalar.indexCast v241
  let c0_127 : Index := 0#32
  ![v242.toNat, 0]
def k1_off253 (v239 : BitVec 32) : Fin 2 → Nat :=
  let v244 : Index := Scalar.indexCast v239
  let c0_128 : Index := 0#32
  ![v244.toNat, 0]

def k1_chk122 (v6 : BitVec 32) (k1_t22 : Fin (k1_t22_loop v6).trips) (v239 : BitVec 32) : Prop :=
  (∀ (k1_h23 : k1_cond23 v6 k1_t22 = 1#1), ∀ a, (k1_off253 v239) a + S1x16.size a ≤ S5008x16.size a)
theorem k1_off253_inb : ∀ (v6 : BitVec 32) (k1_t22 : Fin (k1_t22_loop v6).trips) (v239 : BitVec 32) (k1_hw122 : k1_chk122 v6 k1_t22 v239), ∀ (k1_h23 : k1_cond23 v6 k1_t22 = 1#1), ∀ a, (k1_off253 v239) a + S1x16.size a ≤ S5008x16.size a := fun v6 k1_t22 v239 k1_hw122 k1_h23 => k1_hw122 k1_h23

def k1_off254 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_130 : BitVec 32 := 16#32
  let v251 : BitVec 32 := Scalar.muli arg27 c16_i32_130
  let c12_i32 : BitVec 32 := 12#32
  let v252 : BitVec 32 := Scalar.addi v251 c12_i32
  let v253 : Index := Scalar.indexCast v252
  let c0_131 : Index := 0#32
  ![v253.toNat, 0]
def k1_off255 (v250 : BitVec 32) : Fin 2 → Nat :=
  let v255 : Index := Scalar.indexCast v250
  let c0_132 : Index := 0#32
  ![v255.toNat, 0]

def k1_chk123 (v6 : BitVec 32) (k1_t22 : Fin (k1_t22_loop v6).trips) (v250 : BitVec 32) : Prop :=
  (∀ (k1_h23 : k1_cond23 v6 k1_t22 = 1#1), ∀ a, (k1_off255 v250) a + S1x16.size a ≤ S5008x16.size a)
theorem k1_off255_inb : ∀ (v6 : BitVec 32) (k1_t22 : Fin (k1_t22_loop v6).trips) (v250 : BitVec 32) (k1_hw123 : k1_chk123 v6 k1_t22 v250), ∀ (k1_h23 : k1_cond23 v6 k1_t22 = 1#1), ∀ a, (k1_off255 v250) a + S1x16.size a ≤ S5008x16.size a := fun v6 k1_t22 v250 k1_hw123 k1_h23 => k1_hw123 k1_h23

def k1_off256 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_134 : BitVec 32 := 16#32
  let v262 : BitVec 32 := Scalar.muli arg27 c16_i32_134
  let c13_i32 : BitVec 32 := 13#32
  let v263 : BitVec 32 := Scalar.addi v262 c13_i32
  let v264 : Index := Scalar.indexCast v263
  let c0_135 : Index := 0#32
  ![v264.toNat, 0]
def k1_off257 (v261 : BitVec 32) : Fin 2 → Nat :=
  let v266 : Index := Scalar.indexCast v261
  let c0_136 : Index := 0#32
  ![v266.toNat, 0]

def k1_chk124 (v6 : BitVec 32) (k1_t22 : Fin (k1_t22_loop v6).trips) (v261 : BitVec 32) : Prop :=
  (∀ (k1_h23 : k1_cond23 v6 k1_t22 = 1#1), ∀ a, (k1_off257 v261) a + S1x16.size a ≤ S5008x16.size a)
theorem k1_off257_inb : ∀ (v6 : BitVec 32) (k1_t22 : Fin (k1_t22_loop v6).trips) (v261 : BitVec 32) (k1_hw124 : k1_chk124 v6 k1_t22 v261), ∀ (k1_h23 : k1_cond23 v6 k1_t22 = 1#1), ∀ a, (k1_off257 v261) a + S1x16.size a ≤ S5008x16.size a := fun v6 k1_t22 v261 k1_hw124 k1_h23 => k1_hw124 k1_h23

def k1_off258 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_138 : BitVec 32 := 16#32
  let v273 : BitVec 32 := Scalar.muli arg27 c16_i32_138
  let c14_i32 : BitVec 32 := 14#32
  let v274 : BitVec 32 := Scalar.addi v273 c14_i32
  let v275 : Index := Scalar.indexCast v274
  let c0_139 : Index := 0#32
  ![v275.toNat, 0]
def k1_off259 (v272 : BitVec 32) : Fin 2 → Nat :=
  let v277 : Index := Scalar.indexCast v272
  let c0_140 : Index := 0#32
  ![v277.toNat, 0]

def k1_chk125 (v6 : BitVec 32) (k1_t22 : Fin (k1_t22_loop v6).trips) (v272 : BitVec 32) : Prop :=
  (∀ (k1_h23 : k1_cond23 v6 k1_t22 = 1#1), ∀ a, (k1_off259 v272) a + S1x16.size a ≤ S5008x16.size a)
theorem k1_off259_inb : ∀ (v6 : BitVec 32) (k1_t22 : Fin (k1_t22_loop v6).trips) (v272 : BitVec 32) (k1_hw125 : k1_chk125 v6 k1_t22 v272), ∀ (k1_h23 : k1_cond23 v6 k1_t22 = 1#1), ∀ a, (k1_off259 v272) a + S1x16.size a ≤ S5008x16.size a := fun v6 k1_t22 v272 k1_hw125 k1_h23 => k1_hw125 k1_h23

def k1_off260 (k1_t24 : Fin k1_t24_loop.trips) : Fin 2 → Nat :=
  let c0_i32_68 : BitVec 32 := 0#32
  let c1_i32_70 : BitVec 32 := 1#32
  let arg27 : BitVec 32 := Scf.iv c0_i32_68 c1_i32_70 k1_t24
  let c16_i32_142 : BitVec 32 := 16#32
  let v284 : BitVec 32 := Scalar.muli arg27 c16_i32_142
  let c15_i32 : BitVec 32 := 15#32
  let v285 : BitVec 32 := Scalar.addi v284 c15_i32
  let v286 : Index := Scalar.indexCast v285
  let c0_143 : Index := 0#32
  ![v286.toNat, 0]
def k1_off261 (v283 : BitVec 32) : Fin 2 → Nat :=
  let v288 : Index := Scalar.indexCast v283
  let c0_144 : Index := 0#32
  ![v288.toNat, 0]

def k1_chk126 (v6 : BitVec 32) (k1_t22 : Fin (k1_t22_loop v6).trips) (v283 : BitVec 32) : Prop :=
  (∀ (k1_h23 : k1_cond23 v6 k1_t22 = 1#1), ∀ a, (k1_off261 v283) a + S1x16.size a ≤ S5008x16.size a)
theorem k1_off261_inb : ∀ (v6 : BitVec 32) (k1_t22 : Fin (k1_t22_loop v6).trips) (v283 : BitVec 32) (k1_hw126 : k1_chk126 v6 k1_t22 v283), ∀ (k1_h23 : k1_cond23 v6 k1_t22 = 1#1), ∀ a, (k1_off261 v283) a + S1x16.size a ≤ S5008x16.size a := fun v6 k1_t22 v283 k1_hw126 k1_h23 => k1_hw126 k1_h23

def k1_off262 (v6 : BitVec 32) (k1_t22 : Fin (k1_t22_loop v6).trips) : Fin 1 → Nat :=
  let c2_i32_57 : BitVec 32 := 2#32
  let c0_i32_51 : BitVec 32 := 0#32
  let c1_i32_43 : BitVec 32 := 1#32
  let v59 : BitVec 32 := Scalar.addi v6 c1_i32_43
  let c0_i32_45 : BitVec 32 := 0#32
  let v61 : BitVec 1 := Scalar.cmpi .sgt v59 c0_i32_45
  let v62 : BitVec 32 := Scalar.extui v61
  let c0_i32_46 : BitVec 32 := 0#32
  let v63 : BitVec 1 := Scalar.cmpi .slt v59 c0_i32_46
  let v64 : BitVec 32 := Scalar.extui v63
  let v65 : BitVec 32 := Scalar.subi v62 v64
  let c2_i32_44 : BitVec 32 := 2#32
  let c0_i32_47 : BitVec 32 := 0#32
  let v66 : BitVec 1 := Scalar.cmpi .sgt c2_i32_44 c0_i32_47
  let v67 : BitVec 32 := Scalar.extui v66
  let c0_i32_48 : BitVec 32 := 0#32
  let v68 : BitVec 1 := Scalar.cmpi .slt c2_i32_44 c0_i32_48
  let v69 : BitVec 32 := Scalar.extui v68
  let v70 : BitVec 32 := Scalar.subi v67 v69
  let v71 : BitVec 1 := Scalar.cmpi .ne v65 v70
  let v72 : BitVec 32 := Scalar.remsi v59 c2_i32_44
  let c0_i32_49 : BitVec 32 := 0#32
  let v73 : BitVec 1 := Scalar.cmpi .ne v72 c0_i32_49
  let v74 : BitVec 1 := Scalar.andi v71 v73
  let v60 : BitVec 32 := Scalar.divsi v59 c2_i32_44
  let c1_i32_50 : BitVec 32 := 1#32
  let v75 : BitVec 32 := Scalar.subi v60 c1_i32_50
  let v76 : BitVec 32 := Scalar.select v74 v75 v60
  let v77 : BitVec 32 := Scalar.subi v76 c0_i32_51
  let c1_i32_53 : BitVec 32 := 1#32
  let v79 : BitVec 32 := Scalar.divsi v77 c1_i32_53
  let v80 : BitVec 32 := Scalar.muli v79 c1_i32_53
  let v81 : BitVec 32 := Scalar.addi c0_i32_51 v80
  let c1_i32_55 : BitVec 32 := 1#32
  let arg25 : BitVec 32 := Scf.iv v81 c1_i32_55 k1_t22
  let v85 : BitVec 32 := Scalar.muli c2_i32_57 arg25
  let c2_i32_74 : BitVec 32 := 2#32
  let v105 : BitVec 32 := Scalar.addi v85 c2_i32_74
  let c0_i32_75 : BitVec 32 := 0#32
  let v107 : BitVec 1 := Scalar.cmpi .sgt v105 c0_i32_75
  let v108 : BitVec 32 := Scalar.extui v107
  let c0_i32_76 : BitVec 32 := 0#32
  let v109 : BitVec 1 := Scalar.cmpi .slt v105 c0_i32_76
  let v110 : BitVec 32 := Scalar.extui v109
  let v111 : BitVec 32 := Scalar.subi v108 v110
  let c8_i32 : BitVec 32 := 8#32
  let c0_i32_77 : BitVec 32 := 0#32
  let v112 : BitVec 1 := Scalar.cmpi .sgt c8_i32 c0_i32_77
  let v113 : BitVec 32 := Scalar.extui v112
  let c0_i32_78 : BitVec 32 := 0#32
  let v114 : BitVec 1 := Scalar.cmpi .slt c8_i32 c0_i32_78
  let v115 : BitVec 32 := Scalar.extui v114
  let v116 : BitVec 32 := Scalar.subi v113 v115
  let v117 : BitVec 1 := Scalar.cmpi .ne v111 v116
  let v118 : BitVec 32 := Scalar.remsi v105 c8_i32
  let c0_i32_79 : BitVec 32 := 0#32
  let v119 : BitVec 1 := Scalar.cmpi .ne v118 c0_i32_79
  let v120 : BitVec 1 := Scalar.andi v117 v119
  let v106 : BitVec 32 := Scalar.divsi v105 c8_i32
  let c1_i32_80 : BitVec 32 := 1#32
  let v121 : BitVec 32 := Scalar.subi v106 c1_i32_80
  let v122 : BitVec 32 := Scalar.select v120 v121 v106
  let c8_i32_81 : BitVec 32 := 8#32
  let v123 : BitVec 32 := Scalar.muli v122 c8_i32_81
  let v124 : Index := Scalar.indexCast v123
  ![v124.toNat]
def k1_cond25 (v6 : BitVec 32) (k1_t22 : Fin (k1_t22_loop v6).trips) : BitVec 1 :=
  let c2_i32_57 : BitVec 32 := 2#32
  let c0_i32_51 : BitVec 32 := 0#32
  let c1_i32_43 : BitVec 32 := 1#32
  let v59 : BitVec 32 := Scalar.addi v6 c1_i32_43
  let c0_i32_45 : BitVec 32 := 0#32
  let v61 : BitVec 1 := Scalar.cmpi .sgt v59 c0_i32_45
  let v62 : BitVec 32 := Scalar.extui v61
  let c0_i32_46 : BitVec 32 := 0#32
  let v63 : BitVec 1 := Scalar.cmpi .slt v59 c0_i32_46
  let v64 : BitVec 32 := Scalar.extui v63
  let v65 : BitVec 32 := Scalar.subi v62 v64
  let c2_i32_44 : BitVec 32 := 2#32
  let c0_i32_47 : BitVec 32 := 0#32
  let v66 : BitVec 1 := Scalar.cmpi .sgt c2_i32_44 c0_i32_47
  let v67 : BitVec 32 := Scalar.extui v66
  let c0_i32_48 : BitVec 32 := 0#32
  let v68 : BitVec 1 := Scalar.cmpi .slt c2_i32_44 c0_i32_48
  let v69 : BitVec 32 := Scalar.extui v68
  let v70 : BitVec 32 := Scalar.subi v67 v69
  let v71 : BitVec 1 := Scalar.cmpi .ne v65 v70
  let v72 : BitVec 32 := Scalar.remsi v59 c2_i32_44
  let c0_i32_49 : BitVec 32 := 0#32
  let v73 : BitVec 1 := Scalar.cmpi .ne v72 c0_i32_49
  let v74 : BitVec 1 := Scalar.andi v71 v73
  let v60 : BitVec 32 := Scalar.divsi v59 c2_i32_44
  let c1_i32_50 : BitVec 32 := 1#32
  let v75 : BitVec 32 := Scalar.subi v60 c1_i32_50
  let v76 : BitVec 32 := Scalar.select v74 v75 v60
  let v77 : BitVec 32 := Scalar.subi v76 c0_i32_51
  let c1_i32_53 : BitVec 32 := 1#32
  let v79 : BitVec 32 := Scalar.divsi v77 c1_i32_53
  let v80 : BitVec 32 := Scalar.muli v79 c1_i32_53
  let v81 : BitVec 32 := Scalar.addi c0_i32_51 v80
  let c1_i32_55 : BitVec 32 := 1#32
  let arg25 : BitVec 32 := Scf.iv v81 c1_i32_55 k1_t22
  let v85 : BitVec 32 := Scalar.muli c2_i32_57 arg25
  let c2_i32_72 : BitVec 32 := 2#32
  let v101 : BitVec 32 := Scalar.addi v85 c2_i32_72
  let v102 : BitVec 1 := Scalar.cmpi .slt v101 v6
  let v103 : BitVec 32 := Scalar.extui v102
  let c0_i32_73 : BitVec 32 := 0#32
  let v104 : BitVec 1 := Scalar.cmpi .ne v103 c0_i32_73
  v104

def k1_off263 (v133 : BitVec 32) : Fin 1 → Nat :=
  let c0_i32_84 : BitVec 32 := 0#32
  let v135 : BitVec 1 := Scalar.cmpi .sgt v133 c0_i32_84
  let v136 : BitVec 32 := Scalar.extui v135
  let c0_i32_85 : BitVec 32 := 0#32
  let v137 : BitVec 1 := Scalar.cmpi .slt v133 c0_i32_85
  let v138 : BitVec 32 := Scalar.extui v137
  let v139 : BitVec 32 := Scalar.subi v136 v138
  let c16_i32_83 : BitVec 32 := 16#32
  let c0_i32_86 : BitVec 32 := 0#32
  let v140 : BitVec 1 := Scalar.cmpi .sgt c16_i32_83 c0_i32_86
  let v141 : BitVec 32 := Scalar.extui v140
  let c0_i32_87 : BitVec 32 := 0#32
  let v142 : BitVec 1 := Scalar.cmpi .slt c16_i32_83 c0_i32_87
  let v143 : BitVec 32 := Scalar.extui v142
  let v144 : BitVec 32 := Scalar.subi v141 v143
  let v145 : BitVec 1 := Scalar.cmpi .ne v139 v144
  let v146 : BitVec 32 := Scalar.remsi v133 c16_i32_83
  let c0_i32_88 : BitVec 32 := 0#32
  let v147 : BitVec 1 := Scalar.cmpi .ne v146 c0_i32_88
  let v148 : BitVec 1 := Scalar.andi v145 v147
  let v134 : BitVec 32 := Scalar.divsi v133 c16_i32_83
  let c1_i32_89 : BitVec 32 := 1#32
  let v149 : BitVec 32 := Scalar.subi v134 c1_i32_89
  let v150 : BitVec 32 := Scalar.select v148 v149 v134
  let c16_i32_90 : BitVec 32 := 16#32
  let v151 : BitVec 32 := Scalar.muli v150 c16_i32_90
  ![v151.toNat]

def k1_chk127 (v6 : BitVec 32) (k1_t22 : Fin (k1_t22_loop v6).trips) (v133 : BitVec 32) : Prop :=
  (∀ (k1_h23 : k1_cond23 v6 k1_t22 = 1#1), ∀ (k1_h25 : k1_cond25 v6 k1_t22 = 1#1), ∀ a, (k1_off263 v133) a + S512.size a ≤ S327680.size a)
theorem k1_off263_inb : ∀ (v6 : BitVec 32) (k1_t22 : Fin (k1_t22_loop v6).trips) (v133 : BitVec 32) (k1_hw127 : k1_chk127 v6 k1_t22 v133), ∀ (k1_h23 : k1_cond23 v6 k1_t22 = 1#1), ∀ (k1_h25 : k1_cond25 v6 k1_t22 = 1#1), ∀ a, (k1_off263 v133) a + S512.size a ≤ S327680.size a := fun v6 k1_t22 v133 k1_hw127 k1_h23 k1_h25 => k1_hw127 k1_h23 k1_h25

@[reducible] def k1_t25_loop : Scf.Loop 32 :=
  let c0_i32_79 : BitVec 32 := 0#32
  let c32_i32_80 : BitVec 32 := 32#32
  let v109 : BitVec 32 := Scalar.addi c0_i32_79 c32_i32_80
  let c1_i32_81 : BitVec 32 := 1#32
  ⟨c0_i32_79, v109, c1_i32_81⟩
def k1_off264 (k1_t25 : Fin k1_t25_loop.trips) : Fin 1 → Nat :=
  let c0_i32_79 : BitVec 32 := 0#32
  let c1_i32_81 : BitVec 32 := 1#32
  let arg27 : BitVec 32 := Scf.iv c0_i32_79 c1_i32_81 k1_t25
  let c16_i32_85 : BitVec 32 := 16#32
  let v112 : BitVec 32 := Scalar.muli arg27 c16_i32_85
  let v113 : Index := Scalar.indexCast v112
  ![v113.toNat]
@[reducible] def k1_t26_loop : Scf.Loop 32 :=
  let c0_i32_68 : BitVec 32 := 0#32
  let c32_i32_69 : BitVec 32 := 32#32
  let v99 : BitVec 32 := Scalar.addi c0_i32_68 c32_i32_69
  let c1_i32_70 : BitVec 32 := 1#32
  ⟨c0_i32_68, v99, c1_i32_70⟩
def k1_off265 (k1_t26 : Fin k1_t26_loop.trips) : Fin 1 → Nat :=
  let c0_i32_68 : BitVec 32 := 0#32
  let c1_i32_70 : BitVec 32 := 1#32
  let arg27 : BitVec 32 := Scf.iv c0_i32_68 c1_i32_70 k1_t26
  let c16_i32_74 : BitVec 32 := 16#32
  let v105 : BitVec 32 := Scalar.muli arg27 c16_i32_74
  let v106 : Index := Scalar.indexCast v105
  ![v106.toNat]
def k1_off266 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_79 : BitVec 32 := 16#32
  let v119 : BitVec 32 := Scalar.muli arg27 c16_i32_79
  let c0_i32_80 : BitVec 32 := 0#32
  let v120 : BitVec 32 := Scalar.addi v119 c0_i32_80
  let v121 : Index := Scalar.indexCast v120
  let c0_81 : Index := 0#32
  ![v121.toNat, 0]
def k1_off267 (v118 : BitVec 32) : Fin 2 → Nat :=
  let v123 : Index := Scalar.indexCast v118
  let c0_82 : Index := 0#32
  ![v123.toNat, 0]
def k1_cond26 (v6 : BitVec 32) (k1_t22 : Fin (k1_t22_loop v6).trips) : BitVec 1 :=
  let c2_i32_59 : BitVec 32 := 2#32
  let c0_i32_51 : BitVec 32 := 0#32
  let c1_i32_43 : BitVec 32 := 1#32
  let v59 : BitVec 32 := Scalar.addi v6 c1_i32_43
  let c0_i32_45 : BitVec 32 := 0#32
  let v61 : BitVec 1 := Scalar.cmpi .sgt v59 c0_i32_45
  let v62 : BitVec 32 := Scalar.extui v61
  let c0_i32_46 : BitVec 32 := 0#32
  let v63 : BitVec 1 := Scalar.cmpi .slt v59 c0_i32_46
  let v64 : BitVec 32 := Scalar.extui v63
  let v65 : BitVec 32 := Scalar.subi v62 v64
  let c2_i32_44 : BitVec 32 := 2#32
  let c0_i32_47 : BitVec 32 := 0#32
  let v66 : BitVec 1 := Scalar.cmpi .sgt c2_i32_44 c0_i32_47
  let v67 : BitVec 32 := Scalar.extui v66
  let c0_i32_48 : BitVec 32 := 0#32
  let v68 : BitVec 1 := Scalar.cmpi .slt c2_i32_44 c0_i32_48
  let v69 : BitVec 32 := Scalar.extui v68
  let v70 : BitVec 32 := Scalar.subi v67 v69
  let v71 : BitVec 1 := Scalar.cmpi .ne v65 v70
  let v72 : BitVec 32 := Scalar.remsi v59 c2_i32_44
  let c0_i32_49 : BitVec 32 := 0#32
  let v73 : BitVec 1 := Scalar.cmpi .ne v72 c0_i32_49
  let v74 : BitVec 1 := Scalar.andi v71 v73
  let v60 : BitVec 32 := Scalar.divsi v59 c2_i32_44
  let c1_i32_50 : BitVec 32 := 1#32
  let v75 : BitVec 32 := Scalar.subi v60 c1_i32_50
  let v76 : BitVec 32 := Scalar.select v74 v75 v60
  let v77 : BitVec 32 := Scalar.subi v76 c0_i32_51
  let c1_i32_53 : BitVec 32 := 1#32
  let v79 : BitVec 32 := Scalar.divsi v77 c1_i32_53
  let v80 : BitVec 32 := Scalar.muli v79 c1_i32_53
  let v81 : BitVec 32 := Scalar.addi c0_i32_51 v80
  let c1_i32_55 : BitVec 32 := 1#32
  let arg25 : BitVec 32 := Scf.iv v81 c1_i32_55 k1_t22
  let v89 : BitVec 32 := Scalar.muli c2_i32_59 arg25
  let c1_i32_60 : BitVec 32 := 1#32
  let v90 : BitVec 32 := Scalar.addi v89 c1_i32_60
  let v91 : BitVec 1 := Scalar.cmpi .slt v90 v6
  let v92 : BitVec 32 := Scalar.extui v91
  let c0_i32_61 : BitVec 32 := 0#32
  let v93 : BitVec 1 := Scalar.cmpi .ne v92 c0_i32_61
  v93

def k1_chk128 (v6 : BitVec 32) (k1_t22 : Fin (k1_t22_loop v6).trips) (v118 : BitVec 32) : Prop :=
  (∀ (k1_h26 : k1_cond26 v6 k1_t22 = 1#1), ∀ a, (k1_off267 v118) a + S1x16.size a ≤ S5008x16.size a)
theorem k1_off267_inb : ∀ (v6 : BitVec 32) (k1_t22 : Fin (k1_t22_loop v6).trips) (v118 : BitVec 32) (k1_hw128 : k1_chk128 v6 k1_t22 v118), ∀ (k1_h26 : k1_cond26 v6 k1_t22 = 1#1), ∀ a, (k1_off267 v118) a + S1x16.size a ≤ S5008x16.size a := fun v6 k1_t22 v118 k1_hw128 k1_h26 => k1_hw128 k1_h26

def k1_off268 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_84 : BitVec 32 := 16#32
  let v130 : BitVec 32 := Scalar.muli arg27 c16_i32_84
  let c1_i32_85 : BitVec 32 := 1#32
  let v131 : BitVec 32 := Scalar.addi v130 c1_i32_85
  let v132 : Index := Scalar.indexCast v131
  let c0_86 : Index := 0#32
  ![v132.toNat, 0]
def k1_off269 (v129 : BitVec 32) : Fin 2 → Nat :=
  let v134 : Index := Scalar.indexCast v129
  let c0_87 : Index := 0#32
  ![v134.toNat, 0]

def k1_chk129 (v6 : BitVec 32) (k1_t22 : Fin (k1_t22_loop v6).trips) (v129 : BitVec 32) : Prop :=
  (∀ (k1_h26 : k1_cond26 v6 k1_t22 = 1#1), ∀ a, (k1_off269 v129) a + S1x16.size a ≤ S5008x16.size a)
theorem k1_off269_inb : ∀ (v6 : BitVec 32) (k1_t22 : Fin (k1_t22_loop v6).trips) (v129 : BitVec 32) (k1_hw129 : k1_chk129 v6 k1_t22 v129), ∀ (k1_h26 : k1_cond26 v6 k1_t22 = 1#1), ∀ a, (k1_off269 v129) a + S1x16.size a ≤ S5008x16.size a := fun v6 k1_t22 v129 k1_hw129 k1_h26 => k1_hw129 k1_h26

def k1_off270 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_89 : BitVec 32 := 16#32
  let v141 : BitVec 32 := Scalar.muli arg27 c16_i32_89
  let c2_i32_90 : BitVec 32 := 2#32
  let v142 : BitVec 32 := Scalar.addi v141 c2_i32_90
  let v143 : Index := Scalar.indexCast v142
  let c0_91 : Index := 0#32
  ![v143.toNat, 0]
def k1_off271 (v140 : BitVec 32) : Fin 2 → Nat :=
  let v145 : Index := Scalar.indexCast v140
  let c0_92 : Index := 0#32
  ![v145.toNat, 0]

def k1_chk130 (v6 : BitVec 32) (k1_t22 : Fin (k1_t22_loop v6).trips) (v140 : BitVec 32) : Prop :=
  (∀ (k1_h26 : k1_cond26 v6 k1_t22 = 1#1), ∀ a, (k1_off271 v140) a + S1x16.size a ≤ S5008x16.size a)
theorem k1_off271_inb : ∀ (v6 : BitVec 32) (k1_t22 : Fin (k1_t22_loop v6).trips) (v140 : BitVec 32) (k1_hw130 : k1_chk130 v6 k1_t22 v140), ∀ (k1_h26 : k1_cond26 v6 k1_t22 = 1#1), ∀ a, (k1_off271 v140) a + S1x16.size a ≤ S5008x16.size a := fun v6 k1_t22 v140 k1_hw130 k1_h26 => k1_hw130 k1_h26

def k1_off272 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_94 : BitVec 32 := 16#32
  let v152 : BitVec 32 := Scalar.muli arg27 c16_i32_94
  let c3_i32 : BitVec 32 := 3#32
  let v153 : BitVec 32 := Scalar.addi v152 c3_i32
  let v154 : Index := Scalar.indexCast v153
  let c0_95 : Index := 0#32
  ![v154.toNat, 0]
def k1_off273 (v151 : BitVec 32) : Fin 2 → Nat :=
  let v156 : Index := Scalar.indexCast v151
  let c0_96 : Index := 0#32
  ![v156.toNat, 0]

def k1_chk131 (v6 : BitVec 32) (k1_t22 : Fin (k1_t22_loop v6).trips) (v151 : BitVec 32) : Prop :=
  (∀ (k1_h26 : k1_cond26 v6 k1_t22 = 1#1), ∀ a, (k1_off273 v151) a + S1x16.size a ≤ S5008x16.size a)
theorem k1_off273_inb : ∀ (v6 : BitVec 32) (k1_t22 : Fin (k1_t22_loop v6).trips) (v151 : BitVec 32) (k1_hw131 : k1_chk131 v6 k1_t22 v151), ∀ (k1_h26 : k1_cond26 v6 k1_t22 = 1#1), ∀ a, (k1_off273 v151) a + S1x16.size a ≤ S5008x16.size a := fun v6 k1_t22 v151 k1_hw131 k1_h26 => k1_hw131 k1_h26

def k1_off274 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_98 : BitVec 32 := 16#32
  let v163 : BitVec 32 := Scalar.muli arg27 c16_i32_98
  let c4_i32 : BitVec 32 := 4#32
  let v164 : BitVec 32 := Scalar.addi v163 c4_i32
  let v165 : Index := Scalar.indexCast v164
  let c0_99 : Index := 0#32
  ![v165.toNat, 0]
def k1_off275 (v162 : BitVec 32) : Fin 2 → Nat :=
  let v167 : Index := Scalar.indexCast v162
  let c0_100 : Index := 0#32
  ![v167.toNat, 0]

def k1_chk132 (v6 : BitVec 32) (k1_t22 : Fin (k1_t22_loop v6).trips) (v162 : BitVec 32) : Prop :=
  (∀ (k1_h26 : k1_cond26 v6 k1_t22 = 1#1), ∀ a, (k1_off275 v162) a + S1x16.size a ≤ S5008x16.size a)
theorem k1_off275_inb : ∀ (v6 : BitVec 32) (k1_t22 : Fin (k1_t22_loop v6).trips) (v162 : BitVec 32) (k1_hw132 : k1_chk132 v6 k1_t22 v162), ∀ (k1_h26 : k1_cond26 v6 k1_t22 = 1#1), ∀ a, (k1_off275 v162) a + S1x16.size a ≤ S5008x16.size a := fun v6 k1_t22 v162 k1_hw132 k1_h26 => k1_hw132 k1_h26

def k1_off276 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_102 : BitVec 32 := 16#32
  let v174 : BitVec 32 := Scalar.muli arg27 c16_i32_102
  let c5_i32 : BitVec 32 := 5#32
  let v175 : BitVec 32 := Scalar.addi v174 c5_i32
  let v176 : Index := Scalar.indexCast v175
  let c0_103 : Index := 0#32
  ![v176.toNat, 0]
def k1_off277 (v173 : BitVec 32) : Fin 2 → Nat :=
  let v178 : Index := Scalar.indexCast v173
  let c0_104 : Index := 0#32
  ![v178.toNat, 0]

def k1_chk133 (v6 : BitVec 32) (k1_t22 : Fin (k1_t22_loop v6).trips) (v173 : BitVec 32) : Prop :=
  (∀ (k1_h26 : k1_cond26 v6 k1_t22 = 1#1), ∀ a, (k1_off277 v173) a + S1x16.size a ≤ S5008x16.size a)
theorem k1_off277_inb : ∀ (v6 : BitVec 32) (k1_t22 : Fin (k1_t22_loop v6).trips) (v173 : BitVec 32) (k1_hw133 : k1_chk133 v6 k1_t22 v173), ∀ (k1_h26 : k1_cond26 v6 k1_t22 = 1#1), ∀ a, (k1_off277 v173) a + S1x16.size a ≤ S5008x16.size a := fun v6 k1_t22 v173 k1_hw133 k1_h26 => k1_hw133 k1_h26

def k1_off278 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_106 : BitVec 32 := 16#32
  let v185 : BitVec 32 := Scalar.muli arg27 c16_i32_106
  let c6_i32 : BitVec 32 := 6#32
  let v186 : BitVec 32 := Scalar.addi v185 c6_i32
  let v187 : Index := Scalar.indexCast v186
  let c0_107 : Index := 0#32
  ![v187.toNat, 0]
def k1_off279 (v184 : BitVec 32) : Fin 2 → Nat :=
  let v189 : Index := Scalar.indexCast v184
  let c0_108 : Index := 0#32
  ![v189.toNat, 0]

def k1_chk134 (v6 : BitVec 32) (k1_t22 : Fin (k1_t22_loop v6).trips) (v184 : BitVec 32) : Prop :=
  (∀ (k1_h26 : k1_cond26 v6 k1_t22 = 1#1), ∀ a, (k1_off279 v184) a + S1x16.size a ≤ S5008x16.size a)
theorem k1_off279_inb : ∀ (v6 : BitVec 32) (k1_t22 : Fin (k1_t22_loop v6).trips) (v184 : BitVec 32) (k1_hw134 : k1_chk134 v6 k1_t22 v184), ∀ (k1_h26 : k1_cond26 v6 k1_t22 = 1#1), ∀ a, (k1_off279 v184) a + S1x16.size a ≤ S5008x16.size a := fun v6 k1_t22 v184 k1_hw134 k1_h26 => k1_hw134 k1_h26

def k1_off280 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_110 : BitVec 32 := 16#32
  let v196 : BitVec 32 := Scalar.muli arg27 c16_i32_110
  let c7_i32 : BitVec 32 := 7#32
  let v197 : BitVec 32 := Scalar.addi v196 c7_i32
  let v198 : Index := Scalar.indexCast v197
  let c0_111 : Index := 0#32
  ![v198.toNat, 0]
def k1_off281 (v195 : BitVec 32) : Fin 2 → Nat :=
  let v200 : Index := Scalar.indexCast v195
  let c0_112 : Index := 0#32
  ![v200.toNat, 0]

def k1_chk135 (v6 : BitVec 32) (k1_t22 : Fin (k1_t22_loop v6).trips) (v195 : BitVec 32) : Prop :=
  (∀ (k1_h26 : k1_cond26 v6 k1_t22 = 1#1), ∀ a, (k1_off281 v195) a + S1x16.size a ≤ S5008x16.size a)
theorem k1_off281_inb : ∀ (v6 : BitVec 32) (k1_t22 : Fin (k1_t22_loop v6).trips) (v195 : BitVec 32) (k1_hw135 : k1_chk135 v6 k1_t22 v195), ∀ (k1_h26 : k1_cond26 v6 k1_t22 = 1#1), ∀ a, (k1_off281 v195) a + S1x16.size a ≤ S5008x16.size a := fun v6 k1_t22 v195 k1_hw135 k1_h26 => k1_hw135 k1_h26

def k1_off282 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_114 : BitVec 32 := 16#32
  let v207 : BitVec 32 := Scalar.muli arg27 c16_i32_114
  let c8_i32 : BitVec 32 := 8#32
  let v208 : BitVec 32 := Scalar.addi v207 c8_i32
  let v209 : Index := Scalar.indexCast v208
  let c0_115 : Index := 0#32
  ![v209.toNat, 0]
def k1_off283 (v206 : BitVec 32) : Fin 2 → Nat :=
  let v211 : Index := Scalar.indexCast v206
  let c0_116 : Index := 0#32
  ![v211.toNat, 0]

def k1_chk136 (v6 : BitVec 32) (k1_t22 : Fin (k1_t22_loop v6).trips) (v206 : BitVec 32) : Prop :=
  (∀ (k1_h26 : k1_cond26 v6 k1_t22 = 1#1), ∀ a, (k1_off283 v206) a + S1x16.size a ≤ S5008x16.size a)
theorem k1_off283_inb : ∀ (v6 : BitVec 32) (k1_t22 : Fin (k1_t22_loop v6).trips) (v206 : BitVec 32) (k1_hw136 : k1_chk136 v6 k1_t22 v206), ∀ (k1_h26 : k1_cond26 v6 k1_t22 = 1#1), ∀ a, (k1_off283 v206) a + S1x16.size a ≤ S5008x16.size a := fun v6 k1_t22 v206 k1_hw136 k1_h26 => k1_hw136 k1_h26

def k1_off284 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_118 : BitVec 32 := 16#32
  let v218 : BitVec 32 := Scalar.muli arg27 c16_i32_118
  let c9_i32 : BitVec 32 := 9#32
  let v219 : BitVec 32 := Scalar.addi v218 c9_i32
  let v220 : Index := Scalar.indexCast v219
  let c0_119 : Index := 0#32
  ![v220.toNat, 0]
def k1_off285 (v217 : BitVec 32) : Fin 2 → Nat :=
  let v222 : Index := Scalar.indexCast v217
  let c0_120 : Index := 0#32
  ![v222.toNat, 0]

def k1_chk137 (v6 : BitVec 32) (k1_t22 : Fin (k1_t22_loop v6).trips) (v217 : BitVec 32) : Prop :=
  (∀ (k1_h26 : k1_cond26 v6 k1_t22 = 1#1), ∀ a, (k1_off285 v217) a + S1x16.size a ≤ S5008x16.size a)
theorem k1_off285_inb : ∀ (v6 : BitVec 32) (k1_t22 : Fin (k1_t22_loop v6).trips) (v217 : BitVec 32) (k1_hw137 : k1_chk137 v6 k1_t22 v217), ∀ (k1_h26 : k1_cond26 v6 k1_t22 = 1#1), ∀ a, (k1_off285 v217) a + S1x16.size a ≤ S5008x16.size a := fun v6 k1_t22 v217 k1_hw137 k1_h26 => k1_hw137 k1_h26

def k1_off286 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_122 : BitVec 32 := 16#32
  let v229 : BitVec 32 := Scalar.muli arg27 c16_i32_122
  let c10_i32 : BitVec 32 := 10#32
  let v230 : BitVec 32 := Scalar.addi v229 c10_i32
  let v231 : Index := Scalar.indexCast v230
  let c0_123 : Index := 0#32
  ![v231.toNat, 0]
def k1_off287 (v228 : BitVec 32) : Fin 2 → Nat :=
  let v233 : Index := Scalar.indexCast v228
  let c0_124 : Index := 0#32
  ![v233.toNat, 0]

def k1_chk138 (v6 : BitVec 32) (k1_t22 : Fin (k1_t22_loop v6).trips) (v228 : BitVec 32) : Prop :=
  (∀ (k1_h26 : k1_cond26 v6 k1_t22 = 1#1), ∀ a, (k1_off287 v228) a + S1x16.size a ≤ S5008x16.size a)
theorem k1_off287_inb : ∀ (v6 : BitVec 32) (k1_t22 : Fin (k1_t22_loop v6).trips) (v228 : BitVec 32) (k1_hw138 : k1_chk138 v6 k1_t22 v228), ∀ (k1_h26 : k1_cond26 v6 k1_t22 = 1#1), ∀ a, (k1_off287 v228) a + S1x16.size a ≤ S5008x16.size a := fun v6 k1_t22 v228 k1_hw138 k1_h26 => k1_hw138 k1_h26

def k1_off288 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_126 : BitVec 32 := 16#32
  let v240 : BitVec 32 := Scalar.muli arg27 c16_i32_126
  let c11_i32 : BitVec 32 := 11#32
  let v241 : BitVec 32 := Scalar.addi v240 c11_i32
  let v242 : Index := Scalar.indexCast v241
  let c0_127 : Index := 0#32
  ![v242.toNat, 0]
def k1_off289 (v239 : BitVec 32) : Fin 2 → Nat :=
  let v244 : Index := Scalar.indexCast v239
  let c0_128 : Index := 0#32
  ![v244.toNat, 0]

def k1_chk139 (v6 : BitVec 32) (k1_t22 : Fin (k1_t22_loop v6).trips) (v239 : BitVec 32) : Prop :=
  (∀ (k1_h26 : k1_cond26 v6 k1_t22 = 1#1), ∀ a, (k1_off289 v239) a + S1x16.size a ≤ S5008x16.size a)
theorem k1_off289_inb : ∀ (v6 : BitVec 32) (k1_t22 : Fin (k1_t22_loop v6).trips) (v239 : BitVec 32) (k1_hw139 : k1_chk139 v6 k1_t22 v239), ∀ (k1_h26 : k1_cond26 v6 k1_t22 = 1#1), ∀ a, (k1_off289 v239) a + S1x16.size a ≤ S5008x16.size a := fun v6 k1_t22 v239 k1_hw139 k1_h26 => k1_hw139 k1_h26

def k1_off290 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_130 : BitVec 32 := 16#32
  let v251 : BitVec 32 := Scalar.muli arg27 c16_i32_130
  let c12_i32 : BitVec 32 := 12#32
  let v252 : BitVec 32 := Scalar.addi v251 c12_i32
  let v253 : Index := Scalar.indexCast v252
  let c0_131 : Index := 0#32
  ![v253.toNat, 0]
def k1_off291 (v250 : BitVec 32) : Fin 2 → Nat :=
  let v255 : Index := Scalar.indexCast v250
  let c0_132 : Index := 0#32
  ![v255.toNat, 0]

def k1_chk140 (v6 : BitVec 32) (k1_t22 : Fin (k1_t22_loop v6).trips) (v250 : BitVec 32) : Prop :=
  (∀ (k1_h26 : k1_cond26 v6 k1_t22 = 1#1), ∀ a, (k1_off291 v250) a + S1x16.size a ≤ S5008x16.size a)
theorem k1_off291_inb : ∀ (v6 : BitVec 32) (k1_t22 : Fin (k1_t22_loop v6).trips) (v250 : BitVec 32) (k1_hw140 : k1_chk140 v6 k1_t22 v250), ∀ (k1_h26 : k1_cond26 v6 k1_t22 = 1#1), ∀ a, (k1_off291 v250) a + S1x16.size a ≤ S5008x16.size a := fun v6 k1_t22 v250 k1_hw140 k1_h26 => k1_hw140 k1_h26

def k1_off292 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_134 : BitVec 32 := 16#32
  let v262 : BitVec 32 := Scalar.muli arg27 c16_i32_134
  let c13_i32 : BitVec 32 := 13#32
  let v263 : BitVec 32 := Scalar.addi v262 c13_i32
  let v264 : Index := Scalar.indexCast v263
  let c0_135 : Index := 0#32
  ![v264.toNat, 0]
def k1_off293 (v261 : BitVec 32) : Fin 2 → Nat :=
  let v266 : Index := Scalar.indexCast v261
  let c0_136 : Index := 0#32
  ![v266.toNat, 0]

def k1_chk141 (v6 : BitVec 32) (k1_t22 : Fin (k1_t22_loop v6).trips) (v261 : BitVec 32) : Prop :=
  (∀ (k1_h26 : k1_cond26 v6 k1_t22 = 1#1), ∀ a, (k1_off293 v261) a + S1x16.size a ≤ S5008x16.size a)
theorem k1_off293_inb : ∀ (v6 : BitVec 32) (k1_t22 : Fin (k1_t22_loop v6).trips) (v261 : BitVec 32) (k1_hw141 : k1_chk141 v6 k1_t22 v261), ∀ (k1_h26 : k1_cond26 v6 k1_t22 = 1#1), ∀ a, (k1_off293 v261) a + S1x16.size a ≤ S5008x16.size a := fun v6 k1_t22 v261 k1_hw141 k1_h26 => k1_hw141 k1_h26

def k1_off294 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_138 : BitVec 32 := 16#32
  let v273 : BitVec 32 := Scalar.muli arg27 c16_i32_138
  let c14_i32 : BitVec 32 := 14#32
  let v274 : BitVec 32 := Scalar.addi v273 c14_i32
  let v275 : Index := Scalar.indexCast v274
  let c0_139 : Index := 0#32
  ![v275.toNat, 0]
def k1_off295 (v272 : BitVec 32) : Fin 2 → Nat :=
  let v277 : Index := Scalar.indexCast v272
  let c0_140 : Index := 0#32
  ![v277.toNat, 0]

def k1_chk142 (v6 : BitVec 32) (k1_t22 : Fin (k1_t22_loop v6).trips) (v272 : BitVec 32) : Prop :=
  (∀ (k1_h26 : k1_cond26 v6 k1_t22 = 1#1), ∀ a, (k1_off295 v272) a + S1x16.size a ≤ S5008x16.size a)
theorem k1_off295_inb : ∀ (v6 : BitVec 32) (k1_t22 : Fin (k1_t22_loop v6).trips) (v272 : BitVec 32) (k1_hw142 : k1_chk142 v6 k1_t22 v272), ∀ (k1_h26 : k1_cond26 v6 k1_t22 = 1#1), ∀ a, (k1_off295 v272) a + S1x16.size a ≤ S5008x16.size a := fun v6 k1_t22 v272 k1_hw142 k1_h26 => k1_hw142 k1_h26

def k1_off296 (k1_t26 : Fin k1_t26_loop.trips) : Fin 2 → Nat :=
  let c0_i32_68 : BitVec 32 := 0#32
  let c1_i32_70 : BitVec 32 := 1#32
  let arg27 : BitVec 32 := Scf.iv c0_i32_68 c1_i32_70 k1_t26
  let c16_i32_142 : BitVec 32 := 16#32
  let v284 : BitVec 32 := Scalar.muli arg27 c16_i32_142
  let c15_i32 : BitVec 32 := 15#32
  let v285 : BitVec 32 := Scalar.addi v284 c15_i32
  let v286 : Index := Scalar.indexCast v285
  let c0_143 : Index := 0#32
  ![v286.toNat, 0]
def k1_off297 (v283 : BitVec 32) : Fin 2 → Nat :=
  let v288 : Index := Scalar.indexCast v283
  let c0_144 : Index := 0#32
  ![v288.toNat, 0]

def k1_chk143 (v6 : BitVec 32) (k1_t22 : Fin (k1_t22_loop v6).trips) (v283 : BitVec 32) : Prop :=
  (∀ (k1_h26 : k1_cond26 v6 k1_t22 = 1#1), ∀ a, (k1_off297 v283) a + S1x16.size a ≤ S5008x16.size a)
theorem k1_off297_inb : ∀ (v6 : BitVec 32) (k1_t22 : Fin (k1_t22_loop v6).trips) (v283 : BitVec 32) (k1_hw143 : k1_chk143 v6 k1_t22 v283), ∀ (k1_h26 : k1_cond26 v6 k1_t22 = 1#1), ∀ a, (k1_off297 v283) a + S1x16.size a ≤ S5008x16.size a := fun v6 k1_t22 v283 k1_hw143 k1_h26 => k1_hw143 k1_h26

def k1_off298 (v6 : BitVec 32) (k1_t22 : Fin (k1_t22_loop v6).trips) : Fin 1 → Nat :=
  let c2_i32_59 : BitVec 32 := 2#32
  let c0_i32_51 : BitVec 32 := 0#32
  let c1_i32_43 : BitVec 32 := 1#32
  let v59 : BitVec 32 := Scalar.addi v6 c1_i32_43
  let c0_i32_45 : BitVec 32 := 0#32
  let v61 : BitVec 1 := Scalar.cmpi .sgt v59 c0_i32_45
  let v62 : BitVec 32 := Scalar.extui v61
  let c0_i32_46 : BitVec 32 := 0#32
  let v63 : BitVec 1 := Scalar.cmpi .slt v59 c0_i32_46
  let v64 : BitVec 32 := Scalar.extui v63
  let v65 : BitVec 32 := Scalar.subi v62 v64
  let c2_i32_44 : BitVec 32 := 2#32
  let c0_i32_47 : BitVec 32 := 0#32
  let v66 : BitVec 1 := Scalar.cmpi .sgt c2_i32_44 c0_i32_47
  let v67 : BitVec 32 := Scalar.extui v66
  let c0_i32_48 : BitVec 32 := 0#32
  let v68 : BitVec 1 := Scalar.cmpi .slt c2_i32_44 c0_i32_48
  let v69 : BitVec 32 := Scalar.extui v68
  let v70 : BitVec 32 := Scalar.subi v67 v69
  let v71 : BitVec 1 := Scalar.cmpi .ne v65 v70
  let v72 : BitVec 32 := Scalar.remsi v59 c2_i32_44
  let c0_i32_49 : BitVec 32 := 0#32
  let v73 : BitVec 1 := Scalar.cmpi .ne v72 c0_i32_49
  let v74 : BitVec 1 := Scalar.andi v71 v73
  let v60 : BitVec 32 := Scalar.divsi v59 c2_i32_44
  let c1_i32_50 : BitVec 32 := 1#32
  let v75 : BitVec 32 := Scalar.subi v60 c1_i32_50
  let v76 : BitVec 32 := Scalar.select v74 v75 v60
  let v77 : BitVec 32 := Scalar.subi v76 c0_i32_51
  let c1_i32_53 : BitVec 32 := 1#32
  let v79 : BitVec 32 := Scalar.divsi v77 c1_i32_53
  let v80 : BitVec 32 := Scalar.muli v79 c1_i32_53
  let v81 : BitVec 32 := Scalar.addi c0_i32_51 v80
  let c1_i32_55 : BitVec 32 := 1#32
  let arg25 : BitVec 32 := Scf.iv v81 c1_i32_55 k1_t22
  let v89 : BitVec 32 := Scalar.muli c2_i32_59 arg25
  let c1_i32_60 : BitVec 32 := 1#32
  let v90 : BitVec 32 := Scalar.addi v89 c1_i32_60
  let c2_i32_74 : BitVec 32 := 2#32
  let v105 : BitVec 32 := Scalar.addi v90 c2_i32_74
  let c0_i32_75 : BitVec 32 := 0#32
  let v107 : BitVec 1 := Scalar.cmpi .sgt v105 c0_i32_75
  let v108 : BitVec 32 := Scalar.extui v107
  let c0_i32_76 : BitVec 32 := 0#32
  let v109 : BitVec 1 := Scalar.cmpi .slt v105 c0_i32_76
  let v110 : BitVec 32 := Scalar.extui v109
  let v111 : BitVec 32 := Scalar.subi v108 v110
  let c8_i32 : BitVec 32 := 8#32
  let c0_i32_77 : BitVec 32 := 0#32
  let v112 : BitVec 1 := Scalar.cmpi .sgt c8_i32 c0_i32_77
  let v113 : BitVec 32 := Scalar.extui v112
  let c0_i32_78 : BitVec 32 := 0#32
  let v114 : BitVec 1 := Scalar.cmpi .slt c8_i32 c0_i32_78
  let v115 : BitVec 32 := Scalar.extui v114
  let v116 : BitVec 32 := Scalar.subi v113 v115
  let v117 : BitVec 1 := Scalar.cmpi .ne v111 v116
  let v118 : BitVec 32 := Scalar.remsi v105 c8_i32
  let c0_i32_79 : BitVec 32 := 0#32
  let v119 : BitVec 1 := Scalar.cmpi .ne v118 c0_i32_79
  let v120 : BitVec 1 := Scalar.andi v117 v119
  let v106 : BitVec 32 := Scalar.divsi v105 c8_i32
  let c1_i32_80 : BitVec 32 := 1#32
  let v121 : BitVec 32 := Scalar.subi v106 c1_i32_80
  let v122 : BitVec 32 := Scalar.select v120 v121 v106
  let c8_i32_81 : BitVec 32 := 8#32
  let v123 : BitVec 32 := Scalar.muli v122 c8_i32_81
  let v124 : Index := Scalar.indexCast v123
  ![v124.toNat]
def k1_cond28 (v6 : BitVec 32) (k1_t22 : Fin (k1_t22_loop v6).trips) : BitVec 1 :=
  let c2_i32_59 : BitVec 32 := 2#32
  let c0_i32_51 : BitVec 32 := 0#32
  let c1_i32_43 : BitVec 32 := 1#32
  let v59 : BitVec 32 := Scalar.addi v6 c1_i32_43
  let c0_i32_45 : BitVec 32 := 0#32
  let v61 : BitVec 1 := Scalar.cmpi .sgt v59 c0_i32_45
  let v62 : BitVec 32 := Scalar.extui v61
  let c0_i32_46 : BitVec 32 := 0#32
  let v63 : BitVec 1 := Scalar.cmpi .slt v59 c0_i32_46
  let v64 : BitVec 32 := Scalar.extui v63
  let v65 : BitVec 32 := Scalar.subi v62 v64
  let c2_i32_44 : BitVec 32 := 2#32
  let c0_i32_47 : BitVec 32 := 0#32
  let v66 : BitVec 1 := Scalar.cmpi .sgt c2_i32_44 c0_i32_47
  let v67 : BitVec 32 := Scalar.extui v66
  let c0_i32_48 : BitVec 32 := 0#32
  let v68 : BitVec 1 := Scalar.cmpi .slt c2_i32_44 c0_i32_48
  let v69 : BitVec 32 := Scalar.extui v68
  let v70 : BitVec 32 := Scalar.subi v67 v69
  let v71 : BitVec 1 := Scalar.cmpi .ne v65 v70
  let v72 : BitVec 32 := Scalar.remsi v59 c2_i32_44
  let c0_i32_49 : BitVec 32 := 0#32
  let v73 : BitVec 1 := Scalar.cmpi .ne v72 c0_i32_49
  let v74 : BitVec 1 := Scalar.andi v71 v73
  let v60 : BitVec 32 := Scalar.divsi v59 c2_i32_44
  let c1_i32_50 : BitVec 32 := 1#32
  let v75 : BitVec 32 := Scalar.subi v60 c1_i32_50
  let v76 : BitVec 32 := Scalar.select v74 v75 v60
  let v77 : BitVec 32 := Scalar.subi v76 c0_i32_51
  let c1_i32_53 : BitVec 32 := 1#32
  let v79 : BitVec 32 := Scalar.divsi v77 c1_i32_53
  let v80 : BitVec 32 := Scalar.muli v79 c1_i32_53
  let v81 : BitVec 32 := Scalar.addi c0_i32_51 v80
  let c1_i32_55 : BitVec 32 := 1#32
  let arg25 : BitVec 32 := Scf.iv v81 c1_i32_55 k1_t22
  let v89 : BitVec 32 := Scalar.muli c2_i32_59 arg25
  let c1_i32_60 : BitVec 32 := 1#32
  let v90 : BitVec 32 := Scalar.addi v89 c1_i32_60
  let c2_i32_72 : BitVec 32 := 2#32
  let v101 : BitVec 32 := Scalar.addi v90 c2_i32_72
  let v102 : BitVec 1 := Scalar.cmpi .slt v101 v6
  let v103 : BitVec 32 := Scalar.extui v102
  let c0_i32_73 : BitVec 32 := 0#32
  let v104 : BitVec 1 := Scalar.cmpi .ne v103 c0_i32_73
  v104

def k1_chk76 (v6 : BitVec 32) : Prop :=
  ((k1_t17_loop v6).OK) ∧
  (∀ k1_t17 : Fin (k1_t17_loop v6).trips, ∀ (k1_h17 : k1_cond17 v6 k1_t17 = 1#1), ∀ (k1_h19 : k1_cond19 v6 k1_t17 = 1#1), ∀ a, (k1_off190 v6 k1_t17) a + S16.size a ≤ S544.size a) ∧
  (∀ k1_t17 : Fin (k1_t17_loop v6).trips, ∀ (k1_h20 : k1_cond20 v6 k1_t17 = 1#1), ∀ (k1_h22 : k1_cond22 v6 k1_t17 = 1#1), ∀ a, (k1_off226 v6 k1_t17) a + S16.size a ≤ S544.size a) ∧
  ((k1_t22_loop v6).OK) ∧
  (∀ k1_t22 : Fin (k1_t22_loop v6).trips, ∀ (k1_h23 : k1_cond23 v6 k1_t22 = 1#1), ∀ (k1_h25 : k1_cond25 v6 k1_t22 = 1#1), ∀ a, (k1_off262 v6 k1_t22) a + S16.size a ≤ S544.size a) ∧
  (∀ k1_t22 : Fin (k1_t22_loop v6).trips, ∀ (k1_h26 : k1_cond26 v6 k1_t22 = 1#1), ∀ (k1_h28 : k1_cond28 v6 k1_t22 = 1#1), ∀ a, (k1_off298 v6 k1_t22) a + S16.size a ≤ S544.size a)
theorem k1_t17_ok : ∀ (v6 : BitVec 32) (k1_hw76 : k1_chk76 v6), (k1_t17_loop v6).OK := fun v6 k1_hw76 => k1_hw76.1
theorem k1_off190_inb : ∀ (v6 : BitVec 32) (k1_hw76 : k1_chk76 v6) (k1_t17 : Fin (k1_t17_loop v6).trips), ∀ (k1_h17 : k1_cond17 v6 k1_t17 = 1#1), ∀ (k1_h19 : k1_cond19 v6 k1_t17 = 1#1), ∀ a, (k1_off190 v6 k1_t17) a + S16.size a ≤ S544.size a := fun v6 k1_hw76 k1_t17 k1_h17 k1_h19 => k1_hw76.2.1 k1_t17 k1_h17 k1_h19
theorem k1_off226_inb : ∀ (v6 : BitVec 32) (k1_hw76 : k1_chk76 v6) (k1_t17 : Fin (k1_t17_loop v6).trips), ∀ (k1_h20 : k1_cond20 v6 k1_t17 = 1#1), ∀ (k1_h22 : k1_cond22 v6 k1_t17 = 1#1), ∀ a, (k1_off226 v6 k1_t17) a + S16.size a ≤ S544.size a := fun v6 k1_hw76 k1_t17 k1_h20 k1_h22 => k1_hw76.2.2.1 k1_t17 k1_h20 k1_h22
theorem k1_t22_ok : ∀ (v6 : BitVec 32) (k1_hw76 : k1_chk76 v6), (k1_t22_loop v6).OK := fun v6 k1_hw76 => k1_hw76.2.2.2.1
theorem k1_off262_inb : ∀ (v6 : BitVec 32) (k1_hw76 : k1_chk76 v6) (k1_t22 : Fin (k1_t22_loop v6).trips), ∀ (k1_h23 : k1_cond23 v6 k1_t22 = 1#1), ∀ (k1_h25 : k1_cond25 v6 k1_t22 = 1#1), ∀ a, (k1_off262 v6 k1_t22) a + S16.size a ≤ S544.size a := fun v6 k1_hw76 k1_t22 k1_h23 k1_h25 => k1_hw76.2.2.2.2.1 k1_t22 k1_h23 k1_h25
theorem k1_off298_inb : ∀ (v6 : BitVec 32) (k1_hw76 : k1_chk76 v6) (k1_t22 : Fin (k1_t22_loop v6).trips), ∀ (k1_h26 : k1_cond26 v6 k1_t22 = 1#1), ∀ (k1_h28 : k1_cond28 v6 k1_t22 = 1#1), ∀ a, (k1_off298 v6 k1_t22) a + S16.size a ≤ S544.size a := fun v6 k1_hw76 k1_t22 k1_h26 k1_h28 => k1_hw76.2.2.2.2.2 k1_t22 k1_h26 k1_h28

def k1_off299 (v133 : BitVec 32) : Fin 1 → Nat :=
  let c0_i32_84 : BitVec 32 := 0#32
  let v135 : BitVec 1 := Scalar.cmpi .sgt v133 c0_i32_84
  let v136 : BitVec 32 := Scalar.extui v135
  let c0_i32_85 : BitVec 32 := 0#32
  let v137 : BitVec 1 := Scalar.cmpi .slt v133 c0_i32_85
  let v138 : BitVec 32 := Scalar.extui v137
  let v139 : BitVec 32 := Scalar.subi v136 v138
  let c16_i32_83 : BitVec 32 := 16#32
  let c0_i32_86 : BitVec 32 := 0#32
  let v140 : BitVec 1 := Scalar.cmpi .sgt c16_i32_83 c0_i32_86
  let v141 : BitVec 32 := Scalar.extui v140
  let c0_i32_87 : BitVec 32 := 0#32
  let v142 : BitVec 1 := Scalar.cmpi .slt c16_i32_83 c0_i32_87
  let v143 : BitVec 32 := Scalar.extui v142
  let v144 : BitVec 32 := Scalar.subi v141 v143
  let v145 : BitVec 1 := Scalar.cmpi .ne v139 v144
  let v146 : BitVec 32 := Scalar.remsi v133 c16_i32_83
  let c0_i32_88 : BitVec 32 := 0#32
  let v147 : BitVec 1 := Scalar.cmpi .ne v146 c0_i32_88
  let v148 : BitVec 1 := Scalar.andi v145 v147
  let v134 : BitVec 32 := Scalar.divsi v133 c16_i32_83
  let c1_i32_89 : BitVec 32 := 1#32
  let v149 : BitVec 32 := Scalar.subi v134 c1_i32_89
  let v150 : BitVec 32 := Scalar.select v148 v149 v134
  let c16_i32_90 : BitVec 32 := 16#32
  let v151 : BitVec 32 := Scalar.muli v150 c16_i32_90
  ![v151.toNat]

def k1_chk144 (v6 : BitVec 32) (k1_t22 : Fin (k1_t22_loop v6).trips) (v133 : BitVec 32) : Prop :=
  (∀ (k1_h26 : k1_cond26 v6 k1_t22 = 1#1), ∀ (k1_h28 : k1_cond28 v6 k1_t22 = 1#1), ∀ a, (k1_off299 v133) a + S512.size a ≤ S327680.size a)
theorem k1_off299_inb : ∀ (v6 : BitVec 32) (k1_t22 : Fin (k1_t22_loop v6).trips) (v133 : BitVec 32) (k1_hw144 : k1_chk144 v6 k1_t22 v133), ∀ (k1_h26 : k1_cond26 v6 k1_t22 = 1#1), ∀ (k1_h28 : k1_cond28 v6 k1_t22 = 1#1), ∀ a, (k1_off299 v133) a + S512.size a ≤ S327680.size a := fun v6 k1_t22 v133 k1_hw144 k1_h26 k1_h28 => k1_hw144 k1_h26 k1_h28

def k1_off300 (i : grid1.Coords) : Fin 2 → Nat :=
  let c5000_i32_59_r2 : BitVec 32 := 5000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_56 : BitVec 32 := 16#32
  let v84 : BitVec 32 := Scalar.muli v1 c16_i32_56
  ![5000, v84.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S10000x512 : Shape := ⟨2, ![10000, 512]⟩
abbrev S2x160000 : Shape := ⟨2, ![2, 160000]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S1 : Shape := ⟨1, ![1]⟩
abbrev S1x1 : Shape := ⟨2, ![1, 1]⟩
abbrev S160000x512 : Shape := ⟨2, ![160000, 512]⟩
abbrev S10000x160000 : Shape := ⟨2, ![10000, 160000]⟩
abbrev S10000x160000x1 : Shape := ⟨3, ![10000, 160000, 1]⟩
abbrev S1x160000x512 : Shape := ⟨3, ![1, 160000, 512]⟩
abbrev S10000x160000x512 : Shape := ⟨3, ![10000, 160000, 512]⟩

abbrev nBuf : Space → Nat
  | .hbm => 43
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S1x160000, .i32⟩
  | .hbm, ⟨3, _⟩ => ⟨S160000, .i32⟩
  | .hbm, ⟨4, _⟩ => ⟨S1x160000, .i32⟩
  | .hbm, ⟨5, _⟩ => ⟨S160000, .i32⟩
  | .hbm, ⟨6, _⟩ => ⟨S_, .i32⟩
  | .hbm, ⟨7, _⟩ => ⟨S160000, .i32⟩
  | .hbm, ⟨8, _⟩ => ⟨S160000, .i1⟩
  | .hbm, ⟨9, _⟩ => ⟨S_, .i32⟩
  | .hbm, ⟨10, _⟩ => ⟨S160000, .i32⟩
  | .hbm, ⟨11, _⟩ => ⟨S160000, .i32⟩
  | .hbm, ⟨12, _⟩ => ⟨S160000, .i32⟩
  | .hbm, ⟨13, _⟩ => ⟨S160000x1, .i32⟩
  | .hbm, ⟨14, _⟩ => ⟨S1, .i32⟩
  | .hbm, ⟨15, _⟩ => ⟨S_, .i32⟩
  | .hbm, ⟨16, _⟩ => ⟨S160000x1, .i32⟩
  | .hbm, ⟨17, _⟩ => ⟨S160000x1, .i1⟩
  | .hbm, ⟨18, _⟩ => ⟨S1x1, .i32⟩
  | .hbm, ⟨19, _⟩ => ⟨S160000x1, .i32⟩
  | .hbm, ⟨20, _⟩ => ⟨S160000x1, .i1⟩
  | .hbm, ⟨21, _⟩ => ⟨S160000x1, .i1⟩
  | .hbm, ⟨22, _⟩ => ⟨S_, .i1⟩
  | .hbm, ⟨23, _⟩ => ⟨S160000, .i1⟩
  | .hbm, ⟨24, _⟩ => ⟨S160000x512, .f32⟩
  | .hbm, ⟨25, _⟩ => ⟨S160000x512, .i1⟩
  | .hbm, ⟨26, _⟩ => ⟨S_, .f32⟩
  | .hbm, ⟨27, _⟩ => ⟨S160000x512, .f32⟩
  | .hbm, ⟨28, _⟩ => ⟨S160000x512, .f32⟩
  | .hbm, ⟨29, _⟩ => ⟨S1x160000, .i32⟩
  | .hbm, ⟨30, _⟩ => ⟨S10000x160000, .i32⟩
  | .hbm, ⟨31, _⟩ => ⟨S10000x160000, .i32⟩
  | .hbm, ⟨32, _⟩ => ⟨S10000x160000, .i1⟩
  | .hbm, ⟨33, _⟩ => ⟨S10000x160000x1, .i1⟩
  | .hbm, ⟨34, _⟩ => ⟨S1x160000x512, .f32⟩
  | .hbm, ⟨35, _⟩ => ⟨S_, .f32⟩
  | .hbm, ⟨36, _⟩ => ⟨S_, .f32⟩
  | .hbm, ⟨37, _⟩ => ⟨S10000x160000x512, .i1⟩
  | .hbm, ⟨38, _⟩ => ⟨S10000x160000x512, .f32⟩
  | .hbm, ⟨39, _⟩ => ⟨S10000x160000x512, .f32⟩
  | .hbm, ⟨40, _⟩ => ⟨S10000x160000x512, .f32⟩
  | .hbm, ⟨41, _⟩ => ⟨S_, .f32⟩
  | .hbm, ⟨42, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_v11 : Ref sig .tc := ⟨.hbm, 40, rfl⟩
abbrev main_cst_0 : Ref sig .tc := ⟨.hbm, 41, rfl⟩
abbrev main_v12 : Ref sig .tc := ⟨.hbm, 42, rfl⟩

abbrev nD : Nat := 1
abbrev τ : Topo := Topo.v7x

variable {F : FTy → Type} [FloatOps F]
-- ==== First.lean ====
abbrev S10000x256 : Shape := ⟨2, ![10000, 256]⟩
abbrev S512x512 : Shape := ⟨2, ![512, 512]⟩
abbrev S512 : Shape := ⟨1, ![512]⟩
abbrev S256x512 : Shape := ⟨2, ![256, 512]⟩
abbrev S1x512 : Shape := ⟨2, ![1, 512]⟩
abbrev S10000x512 : Shape := ⟨2, ![10000, 512]⟩
abbrev S1000x256 : Shape := ⟨2, ![1000, 256]⟩
abbrev S1000x512 : Shape := ⟨2, ![1000, 512]⟩

abbrev nBuf : Space → Nat
  | .hbm => 10
  | .vmem => 9
  | .smem => 0
  | _ => 0

abbrev bufTy : (tb : Table) → Fin (tcTables nBuf tb) → BufTy
  | .hbm, ⟨0, _⟩ => ⟨S10000x256, .f32⟩
  | .hbm, ⟨1, _⟩ => ⟨S512x512, .f32⟩
  | .hbm, ⟨2, _⟩ => ⟨S512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S1x512, .f32⟩
  | .hbm, ⟨8, _⟩ => ⟨S10000x512, .f32⟩
  | .hbm, ⟨9, _⟩ => ⟨S10000x512, .f32⟩
  | .local _ .vmem, ⟨0, _⟩ => ⟨S1000x256, .f32⟩
  | .local _ .vmem, ⟨1, _⟩ => ⟨S1000x256, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FirstReferenceIdeal.lean ====
abbrev S10000x256 : Shape := ⟨2, ![10000, 256]⟩
abbrev S512x512 : Shape := ⟨2, ![512, 512]⟩
abbrev S512 : Shape := ⟨1, ![512]⟩
abbrev S256x512 : Shape := ⟨2, ![256, 512]⟩
abbrev S10000x512 : Shape := ⟨2, ![10000, 512]⟩
abbrev S1x512 : Shape := ⟨2, ![1, 512]⟩

abbrev nBuf : Space → Nat
  | .hbm => 12
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S512x512, .f32⟩
  | .hbm, ⟨2, _⟩ => ⟨S512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S10000x512, .f32⟩
  | .hbm, ⟨7, _⟩ => ⟨S1x512, .f32⟩
  | .hbm, ⟨8, _⟩ => ⟨S10000x512, .f32⟩
  | .hbm, ⟨9, _⟩ => ⟨S10000x512, .f32⟩
  | .hbm, ⟨10, _⟩ => ⟨S256x512, .f32⟩
  | .hbm, ⟨11, _⟩ => ⟨S10000x512, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Epilogue.lean ====
abbrev S10000x512 : Shape := ⟨2, ![10000, 512]⟩
abbrev S8x512 : Shape := ⟨2, ![8, 512]⟩
abbrev S1000x512 : Shape := ⟨2, ![1000, 512]⟩
abbrev S1x512 : Shape := ⟨2, ![1, 512]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S10000x512, .f32⟩
  | .hbm, ⟨1, _⟩ => ⟨S10000x512, .f32⟩
  | .hbm, ⟨2, _⟩ => ⟨S10000x512, .f32⟩
  | .hbm, ⟨3, _⟩ => ⟨S8x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S8x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== EpilogueReferenceIdeal.lean ====
abbrev S10000x512 : Shape := ⟨2, ![10000, 512]⟩
abbrev S_ : Shape := ⟨0, ![]⟩
abbrev S512 : Shape := ⟨1, ![512]⟩
abbrev S1x512 : Shape := ⟨2, ![1, 512]⟩
abbrev S2x512 : Shape := ⟨2, ![2, 512]⟩
abbrev S8x512 : Shape := ⟨2, ![8, 512]⟩

abbrev nBuf : Space → Nat
  | .hbm => 17
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x512, .f32⟩
  | .hbm, ⟨2, _⟩ => ⟨S10000x512, .f32⟩
  | .hbm, ⟨3, _⟩ => ⟨S_, .f32⟩
  | .hbm, ⟨4, _⟩ => ⟨S10000x512, .f32⟩
  | .hbm, ⟨5, _⟩ => ⟨S10000x512, .f32⟩
  | .hbm, ⟨6, _⟩ => ⟨S_, .f32⟩
  | .hbm, ⟨7, _⟩ => ⟨S512, .f32⟩
  | .hbm, ⟨8, _⟩ => ⟨S10000x512, .f32⟩
  | .hbm, ⟨9, _⟩ => ⟨S_, .f32⟩
  | .hbm, ⟨10, _⟩ => ⟨S512, .f32⟩
  | .hbm, ⟨11, _⟩ => ⟨S1x512, .f32⟩
  | .hbm, ⟨12, _⟩ => ⟨S1x512, .f32⟩
  | .hbm, ⟨13, _⟩ => ⟨S2x512, .f32⟩
  | .hbm, ⟨14, _⟩ => ⟨S_, .i32⟩
  | .hbm, ⟨15, _⟩ => ⟨S_, .f32⟩
  | .hbm, ⟨16, _⟩ => ⟨S8x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call1_v0 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Between.lean ====
abbrev S10000x512 : Shape := ⟨2, ![10000, 512]⟩
abbrev S512 : Shape := ⟨1, ![512]⟩
abbrev S1024x512 : Shape := ⟨2, ![1024, 512]⟩
abbrev S8x512 : Shape := ⟨2, ![8, 512]⟩
abbrev S1000x512 : Shape := ⟨2, ![1000, 512]⟩
abbrev S1x512 : Shape := ⟨2, ![1, 512]⟩
abbrev S512x512 : Shape := ⟨2, ![512, 512]⟩

abbrev nBuf : Space → Nat
  | .hbm => 17
  | .vmem => 19
  | .smem => 0
  | _ => 0

abbrev bufTy : (tb : Table) → Fin (tcTables nBuf tb) → BufTy
  | .hbm, ⟨0, _⟩ => ⟨S10000x512, .f32⟩
  | .hbm, ⟨1, _⟩ => ⟨S10000x512, .f32⟩
  | .hbm, ⟨2, _⟩ => ⟨S512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S10000x512, .f32⟩
  | .hbm, ⟨7, _⟩ => ⟨S8x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S10000x512, .f32⟩
  | .hbm, ⟨16, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S8x512, .f32⟩
  | .local _ .vmem, ⟨7, _⟩ => ⟨S1000x512, .f32⟩
  | .local _ .vmem, ⟨8, _⟩ => ⟨S1000x512, .f32⟩
  | .local _ .vmem, ⟨9, _⟩ => ⟨S8x512, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S1x512, .f32⟩
  | .local _ .vmem, ⟨15, _⟩ => ⟨S1000x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1000x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== BetweenReferenceIdeal.lean ====
abbrev S10000x512 : Shape := ⟨2, ![10000, 512]⟩
abbrev S512 : Shape := ⟨1, ![512]⟩
abbrev S1024x512 : Shape := ⟨2, ![1024, 512]⟩
abbrev S_ : Shape := ⟨0, ![]⟩
abbrev S1x512 : Shape := ⟨2, ![1, 512]⟩
abbrev S512x512 : Shape := ⟨2, ![512, 512]⟩

abbrev nBuf : Space → Nat
  | .hbm => 66
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x512, .f32⟩
  | .hbm, ⟨2, _⟩ => ⟨S512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S10000x512, .f32⟩
  | .hbm, ⟨7, _⟩ => ⟨S_, .f32⟩
  | .hbm, ⟨8, _⟩ => ⟨S10000x512, .f32⟩
  | .hbm, ⟨9, _⟩ => ⟨S10000x512, .f32⟩
  | .hbm, ⟨10, _⟩ => ⟨S_, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S_, .i32⟩
  | .hbm, ⟨16, _⟩ => ⟨S_, .f32⟩
  | .hbm, ⟨17, _⟩ => ⟨S512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S10000x512, .f32⟩
  | .hbm, ⟨23, _⟩ => ⟨S10000x512, .f32⟩
  | .hbm, ⟨24, _⟩ => ⟨S10000x512, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S1x512, .f32⟩
  | .hbm, ⟨39, _⟩ => ⟨S10000x512, .f32⟩
  | .hbm, ⟨40, _⟩ => ⟨S10000x512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S1x512, .f32⟩
  | .hbm, ⟨46, _⟩ => ⟨S10000x512, .f32⟩
  | .hbm, ⟨47, _⟩ => ⟨S10000x512, .f32⟩
  | .hbm, ⟨48, _⟩ => ⟨S1x512, .f32⟩
  | .hbm, ⟨49, _⟩ => ⟨S10000x512, .f32⟩
  | .hbm, ⟨50, _⟩ => ⟨S10000x512, .f32⟩
  | .hbm, ⟨51, _⟩ => ⟨S1x512, .f32⟩
  | .hbm, ⟨52, _⟩ => ⟨S10000x512, .f32⟩
  | .hbm, ⟨53, _⟩ => ⟨S10000x512, .f32⟩
  | .hbm, ⟨54, _⟩ => ⟨S_, .f32⟩
  | .hbm, ⟨55, _⟩ => ⟨S10000x512, .f32⟩
  | .hbm, ⟨56, _⟩ => ⟨S10000x512, .f32⟩
  | .hbm, ⟨57, _⟩ => ⟨S512x512, .f32⟩
  | .hbm, ⟨58, _⟩ => ⟨S512x512, .f32⟩
  | .hbm, ⟨59, _⟩ => ⟨S512x512, .f32⟩
  | .hbm, ⟨60, _⟩ => ⟨S10000x512, .f32⟩
  | .hbm, ⟨61, _⟩ => ⟨S1x512, .f32⟩
  | .hbm, ⟨62, _⟩ => ⟨S10000x512, .f32⟩
  | .hbm, ⟨63, _⟩ => ⟨S10000x512, .f32⟩
  | .hbm, ⟨64, _⟩ => ⟨S512x512, .f32⟩
  | .hbm, ⟨65, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call1_cst : Ref sig .tc := ⟨.hbm, 16, rfl⟩
abbrev main_call1_v0 : Ref sig .tc := ⟨.hbm, 17, rfl⟩
abbrev main_call1_v1 : Ref sig .tc := ⟨.hbm, 18, rfl⟩
abbrev main_call1_cst_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_cst_1 : Ref sig .tc := ⟨.hbm, 26, rfl⟩
abbrev main_call1_v8 : Ref sig .tc := ⟨.hbm, 27, rfl⟩
abbrev main_call1_cst_2 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_cst_3 : Ref sig .tc := ⟨.hbm, 32, rfl⟩
abbrev main_call1_v12 : Ref sig .tc := ⟨.hbm, 33, rfl⟩
abbrev main_call1_cst_4 : Ref sig .tc := ⟨.hbm, 34, rfl⟩
abbrev main_call1_call0_v0 : Ref sig .tc := ⟨.hbm, 35, rfl⟩
abbrev main_call1_call0_v1 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_call2_cst : Ref sig .tc := ⟨.hbm, 54, rfl⟩
abbrev main_call2_v0 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩

abbrev nD : Nat := 1
abbrev τ : Topo := Topo.v7x

variable {F : FTy → Type} [FloatOps F]
-- ==== Proof.Common.lean ====
/-
  What the certificate's parts share: the program as the launch theorem sees it, the resource algebra, the arrays as
  locations, and the facts about contents the two SparseCore calls hand over — what the first call leaves of one tile's
  edges (`BucketOK`), what the second leaves of one tile's columns (`ColsOK`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

/-! ## Indices -/

/-- Index `i` of a one-axis array, and `(i, j)` of a two-axis one. -/
abbrev ix1 {n : ℕ} (i : Fin n) : (⟨1, ![n]⟩ : Shape).Idx := fun | 0 => i
abbrev ix2 {n k : ℕ} (i : Fin n) (j : Fin k) : (⟨2, ![n, k]⟩ : Shape).Idx := fun | 0 => i | 1 => j
abbrev ix3 {n k l : ℕ} (i : Fin n) (j : Fin k) (a : Fin l) : (⟨3, ![n, k, l]⟩ : Shape).Idx := fun | 0 => i | 1 => j | 2 => a

theorem ix1_eta {n : ℕ} (x : (⟨1, ![n]⟩ : Shape).Idx) : ix1 (n := n) (x 0) = x := by
  funext a; match a with | 0 => rfl
theorem ix2_eta {n k : ℕ} (x : (⟨2, ![n, k]⟩ : Shape).Idx) : ix2 (n := n) (k := k) (x 0) (x 1) = x := by
  funext a; match a with | 0 => rfl | 1 => rfl
theorem ix3_eta {n k l : ℕ} (x : (⟨3, ![n, k, l]⟩ : Shape).Idx) : ix3 (n := n) (k := k) (l := l) (x 0) (x 1) (x 2) = x := by
  funext a; match a with | 0 => rfl | 1 => rfl | 2 => rfl

/-! ## What the calls leave -/

/-- The half of the nodes a node number names: `1` from node 5000 on. -/
def half (d : BitVec 32) : ℕ := if 5000 ≤ d.toNat then 1 else 0

/-- What tile `w` leaves of its 5000 edges, in its rows of the two bucket arrays `bs`, `bd` and of the counts `cn`:
    every entry is an edge of the tile, or the filler edge `(0, 10000)`; every edge of the tile stands in its half's
    row below that half's count; no count passes 5008. -/
def BucketOK (src dst : S160000.Idx → BitVec 32) (bs bd : S32x2x5120.Idx → BitVec 32) (cn : S32x16.Idx → BitVec 32) (w : Fin 32) : Prop :=
  (∀ z : S32x16.Idx, z 0 = w → (z 1).val < 2 → (cn z).toNat ≤ 5008)
  ∧ (∀ x : S32x2x5120.Idx, x 0 = w → (bs x = 0#32 ∧ bd x = 10000#32)
      ∨ ∃ y : S160000.Idx, bs x = src y ∧ bd x = dst y)
  ∧ (∀ y : S160000.Idx, (y 0).val / 5000 = w.val → ∃ x : S32x2x5120.Idx, x 0 = w ∧ (x 1).val = half (dst y)
      ∧ (∀ z : S32x16.Idx, z 0 = w → (z 1).val = half (dst y) → (x 2).val < (cn z).toNat) ∧ bs x = src y ∧ bd x = dst y)

/-- `a` is a maximum of exactly the values satisfying `Sv`, taken in some order from minus infinity. -/
def MaxOf [FloatOps F] (Sv : F .f32 → Prop) (a : F .f32) : Prop :=
  ∃ l : List (F .f32), a = l.foldl FloatOps.maximumf (Scalar.ofBits .f32 0xFF800000#32) ∧ ∀ b, b ∈ l ↔ Sv b

end Cert.Proof

end
-- ==== Proof.Steps.lean ====
/-
  Steps both bodies take: a local copy waited for at once, and what a store, a load or a copy through a rectangle of a
  whole buffer leaves or reads at one index.
-/
module

public import proofs.«01_k».proof.Proof.Common

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## Contents at one index -/

section At

variable {κ : Kind} {Val : EltTy → Type} (b : Ref sig κ) {off size : Fin b.ty.shape.rank → ℕ} (inb : ∀ a, off a + size a ≤ b.ty.shape.size a)

omit [FloatOps F] in
theorem unit_emb_eq {s : Shape} {off size : Fin s.rank → ℕ} (inb : ∀ a, off a + size a ≤ s.size a) (x : (Rect.unit off size inb).shape.Idx) (y : s.Idx)
    (hy : ∀ a, (y a).val = off a + (x a).val) : (Rect.unit off size inb).emb x = y :=
  Rect.emb_eq_of_coords _ _ _ fun a => by rw [hy a]; show _ = off a + 1 * _; rw [Nat.one_mul]

theorem at_read (f : b.ty.Contents Val) (x : (Rect.unit off size inb).shape.Idx) (y : b.ty.shape.Idx) (hy : ∀ a, (y a).val = off a + (x a).val) :
    ((View.whole b).slice (Rect.unit off size inb)).read Val f x = f y := by
  rw [View.read_apply]
  have e : ((View.whole b).slice (Rect.unit off size inb)).emb x = y := unit_emb_eq inb x y hy
  rw [e]; rfl

theorem at_write (f : b.ty.Contents Val) (w : (Rect.unit off size inb).shape.Idx → Val b.ty.elt) (x : (Rect.unit off size inb).shape.Idx) (y : b.ty.shape.Idx)
    (hy : ∀ a, (y a).val = off a + (x a).val) :
    ((View.whole b).slice (Rect.unit off size inb)).write Val f w Finset.univ y = w x := by
  have e : ((View.whole b).slice (Rect.unit off size inb)).emb x = y := unit_emb_eq inb x y hy
  rw [← e, View.write_emb_of_mem _ _ (Finset.mem_univ _)]; rfl

theorem at_write_off (f : b.ty.Contents Val) (w : (Rect.unit off size inb).shape.Idx → Val b.ty.elt) (y : b.ty.shape.Idx)
    (a : Fin b.ty.shape.rank) (hy : (y a).val < off a ∨ off a + size a ≤ (y a).val) :
    ((View.whole b).slice (Rect.unit off size inb)).write Val f w Finset.univ y = f y := by
  refine View.write_of_not_mem _ _ _ fun h => ?_
  rw [View.setOn_univ, View.set_slice_whole, Rect.mem_set_unit] at h
  have := h a; omega

theorem at_write_squeeze {s' : Shape} (hn : s'.numel = (Rect.unit off size inb).shape.numel) (f : b.ty.Contents Val) (w : s'.Idx → Val b.ty.elt)
    (x' : s'.Idx) (x : (Rect.unit off size inb).shape.Idx) (hx : ((Rect.unit off size inb).shape.rowMajor x).val = (s'.rowMajor x').val)
    (y : b.ty.shape.Idx) (hy : ∀ a, (y a).val = off a + (x a).val) :
    (((View.whole b).slice (Rect.unit off size inb)).reshape s' hn).write Val f w Finset.univ y = w x' := by
  rw [View.write_reshape_univ, at_write b inb f _ x y hy]
  congr 1
  rw [Equiv.symm_apply_eq]
  exact (Shape.reshapeEquiv_eq_of_rowMajor hn hx).symm

theorem at_write_squeeze_off {s' : Shape} (hn : s'.numel = (Rect.unit off size inb).shape.numel) (f : b.ty.Contents Val) (w : s'.Idx → Val b.ty.elt)
    (y : b.ty.shape.Idx) (a : Fin b.ty.shape.rank) (hy : (y a).val < off a ∨ off a + size a ≤ (y a).val) :
    (((View.whole b).slice (Rect.unit off size inb)).reshape s' hn).write Val f w Finset.univ y = f y := by
  rw [View.write_reshape_univ, at_write_off b inb f _ y a hy]

theorem at_read_squeeze {s' : Shape} (hn : s'.numel = (Rect.unit off size inb).shape.numel) (f : b.ty.Contents Val)
    (x' : s'.Idx) (x : (Rect.unit off size inb).shape.Idx) (hx : ((Rect.unit off size inb).shape.rowMajor x).val = (s'.rowMajor x').val)
    (y : b.ty.shape.Idx) (hy : ∀ a, (y a).val = off a + (x a).val) :
    (((View.whole b).slice (Rect.unit off size inb)).reshape s' hn).read Val f x' = f y := by
  rw [← at_read b inb f x y hy]
  show ((View.whole b).slice (Rect.unit off size inb)).read Val f (Shape.reshapeEquiv hn x') = _
  rw [Shape.reshapeEquiv_eq_of_rowMajor hn hx]

end At

/-! ## A copy waited for at once -/

section Copy

variable {Λ : Labels} {defs : Defs nD τ sig (Elt F) Λ} (𝒱 : Variants) (c : Thread nD τ) (bd : Option 𝒱.V)
variable {α : Type} {sp sp' sp₁ sp₂ : Space} {s s₁ s₂ : Shape} {e e₁ e₂ : EltTy}

/-- Issue a copy between two memrefs of this core, wait for it: the destination's elements rewritten with what the
    source reads, the source back, the semaphore at zero. -/
theorem wp_copyWait {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {srcw : Memref sig c.2.kind sp₁ s₁ e₁} {dstw : Memref sig c.2.kind sp₂ s₂ e₂} {hsrcw : srcw.view.WordExact} {hdstw : dstw.view.WordExact} {Q : α → sProp 𝕄}
    {k : PUnit → Prog (TpuEff nD τ sig (Elt F) Λ c.2) α} {q : PosShare TreeShare}
    {Ss : Finset (Idx (src.view.loc c))} {fs : Buf (Elt F) (src.view.loc c)}
    {Sd : Finset (Idx (dst.view.loc c))} {fd : Buf (Elt F) (dst.view.loc c)} {O : CellTallies nD τ sig (HIx 2)} {W : Waits sig (HIx 2)}
    (hw : dstw.view.dmaCredit = dst.view.dmaCredit) (hN0 : 0 < s.numel) (hSs : src.view.set ⊆ Ss) (hSd : dst.view.set ⊆ Sd) :
    iprop((src.view.loc c ↦[Ss]{q} fs) ∗ (dst.view.loc c ↦[Sd]{fullShare} fd) ∗ semVal (c, SemLoc.dma sm) 0
        ∗ owes c O W ∗ (Transfers.MayWaits c (default : HIx 2) O : sProp 𝕄))
      ⊢ iprop((((src.view.loc c ↦[Ss]{q} fs)
              ∗ (dst.view.loc c ↦[Sd]{fullShare} (dst.view.write (Elt F) fd (src.view.read (Elt F) fs) Finset.univ))
              ∗ semVal (c, SemLoc.dma sm) 0 ∗ owes c O (insert (SemLoc.dma sm, (default : HIx 2)) W))
            -∗ wp frame (wpE defs 𝒱 c bd) Set.univ (k ⟨⟩) Q)
          -∗ wp frame (wpE defs 𝒱 c bd) Set.univ (.op (.enqueueDma src (.here dst) (.dma sm) hsrc hdst hsem)
              fun _ => .op (.waitDma2 sm srcw dstw hsrcw hdstw) k) Q) := by
  iintro ⟨Hs, Hd, Hv, HO, Hmw⟩ Hk
  ihave Hs' := (pointsTo_split_subset (q := q) (f := fs) hSs).1 $$ Hs
  icases Hs' with ⟨Hs, Hr⟩
  iapply (Transfers.wp_dmaLocal countersEmb 𝒱 c bd (default : HIx 2) (dst.view.amount (.dma sm)) rfl (View.amount_pos _ _ hN0) hSd) $$ [Hs Hd Hv]
  · isplitl [Hs]; · iexact Hs
    isplitl [Hd]; · iexact Hd
    iexact Hv
  iintro Hfl
  iapply (Transfers.wp_waitLocalO countersEmb 𝒱 c bd (default : HIx 2) (N := dst.view.amount (.dma sm)) hw) $$ [Hfl HO Hmw]
  · isplitl [Hfl]; · iexact Hfl
    isplitl [HO]; · iexact HO
    iapply (Transfers.MayWaits.elim (SemLoc.dma sm)) $$ Hmw
  iintro ⟨⟨Hd, Hs⟩, Hv, HO⟩
  iapply Hk
  ihave Hs' := (pointsTo_split_subset (q := q) (f := fs) hSs).2 $$ [Hs Hr]; · isplitl [Hs] <;> iassumption
  isplitl [Hs']; · iexact Hs'
  isplitl [Hd]; · iexact Hd
  isplitl [Hv]; · iexact Hv
  iexact HO

end Copy

/-! ## Stores to a whole buffer -/

section Whole

variable {Λ : Labels} {defs : Defs nD τ sig (Elt F) Λ} (𝒱 : Variants) (c : Thread nD τ) (bd : Option 𝒱.V)
variable {α : Type} {s : Shape} {e : EltTy}

/-- A store through a rectangle of a memref held whole. -/
theorem wp_storeW {cs : CoreSpace} {m : Memref sig c.2.kind cs s e} {r : Rect s} {w : r.shape.Idx → Elt F e} {hx : (m.access r).Stores Finset.univ}
    {hm : (Finset.univ : Finset r.shape.Idx) = Finset.univ ∨ ∀ a, r.stride a = 1} {Q : α → sProp 𝕄}
    {k : PUnit → Prog (TpuEff nD τ sig (Elt F) Λ c.2) α} {f : Buf (Elt F) (m.view.loc c)} :
    (m.view.loc c ↦{fullShare} f)
      ⊢ iprop(((m.view.loc c ↦{fullShare} (((m.access r).write (Elt F) f w Finset.univ : Buf (Elt F) ((m.access r).loc c)) : Buf (Elt F) (m.view.loc c)))
            -∗ wp frame (wpE defs 𝒱 c bd) Set.univ (k ⟨⟩) Q)
        -∗ wp frame (wpE defs 𝒱 c bd) Set.univ (.op (.store m r w Finset.univ hx hm) k) Q) :=
  wp_store 𝒱 c bd Set.univ (m := m) (r := r) (Mk := Finset.univ) (S := Finset.univ) (f := f) (Finset.subset_univ _)

/-- A load of a memref held whole. -/
theorem wp_loadW {cs : CoreSpace} {m : Memref sig c.2.kind cs s e} {r : LoadRect s} {hl : m.view.LoadsAt r} {Q : α → sProp 𝕄} {q : PosShare TreeShare}
    {k : (r.shape.Idx → Elt F e) → Prog (TpuEff nD τ sig (Elt F) Λ c.2) α} {f : Buf (Elt F) (m.view.loc c)} :
    (m.view.loc c ↦{q} f)
      ⊢ iprop(((m.view.loc c ↦{q} f) -∗ wp frame (wpE defs 𝒱 c bd) Set.univ (k (m.view.readAt (Elt F) r f)) Q)
        -∗ wp frame (wpE defs 𝒱 c bd) Set.univ (.op (.load m r hl) k) Q) :=
  wp_load 𝒱 c bd Set.univ (m := m) (S := Finset.univ) (Finset.subset_univ _)

/-- An indexed store to a memref held whole. -/
theorem wp_storeIdxW {dd : Fin 1 → ℕ} {base : Memref sig c.2.kind .vmem s e} {idxs : Fin s.rank → IVec ⟨1, dd⟩ 32} {v : Vec F ⟨1, dd⟩ e}
    {mask : IVec ⟨1, dd⟩ 1} {ad : Bool} {h : ∀ a x, (idxs a x).toNat < s.size a} {hs : (base.access (.whole s)).Stores Finset.univ}
    {Q : α → sProp 𝕄} {k : PUnit → Prog (TpuEff nD τ sig (Elt F) Λ c.2) α} {f f' : Buf (Elt F) (base.view.loc c)}
    (hset : (base.access (.whole s)).set = Finset.univ)
    (hf : (base.access (.whole s)).write (Elt F) f (storeIdx ((base.access (.whole s)).read (Elt F) f) idxs v mask ad h) Finset.univ = f') :
    (base.view.loc c ↦{fullShare} f)
      ⊢ iprop(((base.view.loc c ↦{fullShare} f') -∗ wp frame (wpE defs 𝒱 c bd) Set.univ (k ⟨⟩) Q)
        -∗ wp frame (wpE defs 𝒱 c bd) Set.univ (SparseCore.vectorStoreIdx base idxs v mask ad h hs >>= k) Q) := by
  have := SparseCore.wp_vectorStoreIdx (defs := defs) 𝒱 c bd Set.univ (Q := Q) (base := base) (idxs := idxs) (v := v) (mask := mask) (add := ad) (h := h) (hs := hs) (k := k) (f := f)
  rw [hf, hset] at this
  exact this

omit [FloatOps F] in
theorem storeIdx_whole {κ : Kind} (b : Ref sig κ) (f : b.ty.Contents (Elt F)) (φ : b.ty.Contents (Elt F) → b.ty.Contents (Elt F)) :
    ((Memref.whole b).access (Rect.whole _) : View sig κ _ _ _).write (Elt F) f (φ (((Memref.whole b).access (Rect.whole _) : View sig κ _ _ _).read (Elt F) f)) Finset.univ = φ f := by
  rw [Memref.write_access_whole_univ, Memref.read_access_whole]

end Whole

/-! ## A vector subcore's own cells and buffers -/

section Own

variable (d : Dev nD) (c : Fin τ.nSC) (j : Fin τ.nSub)

omit [FloatOps F] in
/-- Members taken out of a separating conjunction one after the other. -/
theorem bigSep_take {I : Type} [DecidableEq I] (f : I → sProp 𝕄) : ∀ (l : List I) (S : Finset I), l.Nodup → (∀ x ∈ l, x ∈ S) →
    ∃ R : sProp 𝕄, bigSep S f = l.foldr (fun x A => iprop(f x ∗ A)) R
  | [], S, _, _ => ⟨bigSep S f, rfl⟩
  | x :: l, S, hn, hm => by
    obtain ⟨R, hR⟩ := bigSep_take f l (S.erase x) (List.nodup_cons.mp hn).2 fun y hy =>
      Finset.mem_erase.mpr ⟨fun e => (List.nodup_cons.mp hn).1 (e ▸ hy), hm y (List.mem_cons_of_mem _ hy)⟩
    exact ⟨R, (SparseCore.bigSep_erase' (hm x List.mem_cons_self)).trans (by rw [hR]; rfl)⟩

omit [FloatOps F] in
theorem ownSems0_take (l : List (DmaSem sig)) (hn : l.Nodup) (hs : ∀ s ∈ l, (SemLoc.dma s : SemLoc sig).isScoped .scVector = true) :
    ∃ R : sProp 𝕄, (SparseCore.Cfg.ownSems0 (V d c j) : sProp 𝕄) = l.foldr (fun s A => iprop(semVal ((V d c j, SemLoc.dma s) : GSem nD τ sig) 0 ∗ A)) R := by
  obtain ⟨R, hR⟩ := bigSep_take (F := F) (fun g : GSem nD τ sig => (semVal g 0 : sProp 𝕄)) (l.map fun s => ((V d c j, SemLoc.dma s) : GSem nD τ sig))
    (SparseCore.Cfg.ownCells (V d c j)) (hn.map fun a b h => SemLoc.dma.inj (Prod.mk.inj h).2) (fun g hg => by
      obtain ⟨s, hsl, rfl⟩ := List.mem_map.mp hg
      exact SparseCore.Cfg.mem_ownCells.mpr ⟨rfl, hs s hsl⟩)
  exact ⟨R, hR.trans (by rw [List.foldr_map])⟩

omit [FloatOps F] in
theorem ownBufs_take (l : List (Ref sig .scVector)) (hn : l.Nodup) (hs : ∀ b ∈ l, ((Proc.scVector (τ := τ) c j).devRef b).owner.home = Proc.scVector c j) :
    ∃ R : sProp 𝕄, (SparseCore.Cfg.ownBufs (V d c j) : sProp 𝕄)
      = l.foldr (fun b A => iprop((∃ f, (V d c j).loc b ↦{fullShare} f) ∗ A)) R := by
  obtain ⟨R, hR⟩ := bigSep_take (F := F) (fun b : DevRef τ sig => (iprop(∃ f, ((d, b) : Loc nD τ sig) ↦{fullShare} f) : sProp 𝕄))
    (l.map fun b => (Proc.scVector (τ := τ) c j).devRef b)
    (SparseCore.Cfg.ownRefs (Proc.scVector c j)) (hn.map (Proc.devRef_injective _)) (fun g hg => by
      obtain ⟨s, hsl, rfl⟩ := List.mem_map.mp hg
      exact SparseCore.Cfg.mem_ownRefs.mpr (hs s hsl))
  exact ⟨R, hR.trans (by rw [List.foldr_map])⟩

end Own

end Cert.Proof

end
-- ==== Proof.BucketMath.lean ====
/-
  The first call's arithmetic, away from the machine: what the running count of a vector of bits is, where the indexed
  store leaves its lanes, and what one vector of sixteen edges does to a half's list.
-/
module

public import proofs.«01_k».proof.Proof.Common

@[expose] public section

noncomputable section

namespace Cert.Proof

open Cert.KernelIdeal Cert.KernelIdeal.Gen
open Idealize.ShloMosaic

variable {F : FTy → Type}

/-! ## The running count -/

/-- How many lanes up to `j` are marked. -/
def rank (s : Fin 16 → Prop) [DecidablePred s] (j : Fin 16) : ℕ := ∑ k : Fin 16, if k ≤ j ∧ s k then 1 else 0

theorem rank_le (s : Fin 16 → Prop) [DecidablePred s] (j : Fin 16) : rank s j ≤ 16 := by
  unfold rank
  refine (Finset.sum_le_sum (g := fun _ => 1) fun k _ => ?_).trans (by simp)
  split <;> omega

theorem rank_mono (s : Fin 16 → Prop) [DecidablePred s] {i j : Fin 16} (h : i ≤ j) : rank s i ≤ rank s j := by
  unfold rank
  refine Finset.sum_le_sum fun k _ => ?_
  by_cases hk : k ≤ i ∧ s k
  · rw [if_pos hk, if_pos ⟨hk.1.trans h, hk.2⟩]
  · rw [if_neg hk]; omega

theorem rank_lt (s : Fin 16 → Prop) [DecidablePred s] {i j : Fin 16} (h : i < j) (hj : s j) : rank s i < rank s j := by
  unfold rank
  refine Finset.sum_lt_sum (fun k _ => ?_) ⟨j, Finset.mem_univ _, ?_⟩
  · by_cases hk : k ≤ i ∧ s k
    · rw [if_pos hk, if_pos ⟨hk.1.trans h.le, hk.2⟩]
    · rw [if_neg hk]; omega
  · rw [if_neg (fun hh => absurd hh.1 (not_le.2 h)), if_pos ⟨le_refl _, hj⟩]; omega

theorem rank_pos (s : Fin 16 → Prop) [DecidablePred s] {j : Fin 16} (hj : s j) : 1 ≤ rank s j := by
  unfold rank
  calc 1 = (if j ≤ j ∧ s j then 1 else 0) := by rw [if_pos ⟨le_refl _, hj⟩]
    _ ≤ _ := Finset.single_le_sum (f := fun k => if k ≤ j ∧ s k then 1 else 0) (fun _ _ => Nat.zero_le _) (Finset.mem_univ j)

theorem rank_compl (s s' : Fin 16 → Prop) [DecidablePred s] [DecidablePred s'] (h : ∀ k, s' k ↔ ¬ s k) : rank s 15 + rank s' 15 = 16 := by
  unfold rank
  rw [← Finset.sum_add_distrib]
  refine (Finset.sum_congr rfl (g := fun _ => 1) fun k _ => ?_).trans (by simp)
  have hk : k ≤ (15 : Fin 16) := Fin.le_last k
  by_cases hs : s k
  · rw [if_pos ⟨hk, hs⟩, if_neg (fun hh => (h k).1 hh.2 hs)]
  · rw [if_neg (fun hh => hs hh.2), if_pos ⟨hk, (h k).2 hs⟩]

theorem foldl_addi_toNat {κ : Type} (v : κ → BitVec 32) : ∀ (L : List κ) (r : BitVec 32), r.toNat + (L.map fun k => (v k).toNat).sum < 2 ^ 32 →
    (L.foldl (fun r k => IntOp.addi r (v k)) r).toNat = r.toNat + (L.map fun k => (v k).toNat).sum
  | [], r, _ => by simp
  | k :: L, r, h => by
    simp only [List.map_cons, List.sum_cons] at h
    have h1 : (IntOp.addi r (v k)).toNat = r.toNat + (v k).toNat := by
      show (r + v k).toNat = _
      rw [BitVec.toNat_add, Nat.mod_eq_of_lt (by omega)]
    rw [List.foldl_cons, foldl_addi_toNat v L _ (by rw [h1]; omega), h1, List.map_cons, List.sum_cons]
    omega

/-- The running sum of a vector of zeros and ones is the running count of its ones. -/
theorem scan_count (x : IVec S16 32) (s : Fin 16 → Prop) [DecidablePred s] (h : ∀ k, (x (ix1 k)).toNat = if s k then 1 else 0) (j : Fin 16) :
    (scan .sum x (ix1 j)).toNat = rank s j := by
  obtain ⟨y, hy⟩ : ∃ y : Fin 16 → BitVec 32, y = fun k => x (Shape.ofLane (d := ![16]) k) := ⟨_, rfl⟩
  replace h : ∀ k, (y k).toNat = if s k then 1 else 0 := fun k => by
    rw [← h k, hy]; exact congrArg (fun z => (x z).toNat) (by funext a; match a with | 0 => rfl)
  have key : ∀ L : List (Fin 16), L.length ≤ 16 → (L.map fun k => (y k).toNat).sum ≤ L.length := by
    intro L _
    induction L with
    | nil => simp
    | cons k L ih =>
      simp only [List.map_cons, List.sum_cons, List.length_cons]
      have := ih (by simp_all; omega)
      rw [h k]; split <;> omega
  have e : scan .sum x (ix1 j) = List.foldl (fun r k => IntOp.addi r (y k)) (y 0) ((List.finRange 16).filter fun k => decide (0 < k.val ∧ k.val ≤ j.val)) := by subst hy; rfl
  rw [e]
  show (List.foldl (fun r k => IntOp.addi r (y k)) (y 0) ((List.finRange 16).filter fun k => decide (0 < k.val ∧ k.val ≤ j.val))).toNat = _
  have hL : ((List.finRange 16).filter fun k => decide (0 < k.val ∧ k.val ≤ j.val)).length ≤ 16 := (List.length_filter_le _ _).trans (by simp)
  have h0 : (y 0).toNat ≤ 1 := by rw [h]; split <;> omega
  have hk := key _ hL
  rw [foldl_addi_toNat (fun k : Fin 16 => y k) _ _ (by
    show (y 0).toNat + _ < _
    omega)]
  show (y 0).toNat + _ = _
  simp only [h]
  unfold rank
  simp only [Fin.sum_univ_succ, List.finRange_succ, List.finRange_zero]
  fin_cases j <;> simp [Fin.le_def] <;> ring

/-! ## Where the indexed store leaves its lanes -/

/-- The last lane whose index is `k`, if one has it. -/
def pick (I : Fin 16 → ℕ) (k : ℕ) : Option (Fin 16) := (List.finRange 16).foldl (fun o l => if I l = k then some l else o) none

theorem pick_fold (I : Fin 16 → ℕ) (k : ℕ) : ∀ (L : List (Fin 16)) (o : Option (Fin 16)),
    (∀ l, L.foldl (fun o l => if I l = k then some l else o) o = some l → I l = k ∨ o = some l)
    ∧ (L.foldl (fun o l => if I l = k then some l else o) o = none → o = none ∧ ∀ l ∈ L, I l ≠ k)
  | [], o => ⟨fun l h => Or.inr h, fun h => ⟨h, by simp⟩⟩
  | a :: L, o => by
    obtain ⟨h1, h2⟩ := pick_fold I k L (if I a = k then some a else o)
    refine ⟨fun l hl => ?_, fun hn => ?_⟩
    · rcases h1 l hl with h | h
      · exact Or.inl h
      · split at h
        · rename_i ha; cases h; exact Or.inl ha
        · exact Or.inr h
    · obtain ⟨ha, hb⟩ := h2 hn
      split at ha
      · cases ha
      · rename_i hna
        exact ⟨ha, fun l hl => by rcases List.mem_cons.1 hl with rfl | hl; exacts [hna, hb l hl]⟩

theorem pick_some {I : Fin 16 → ℕ} {k : ℕ} {l : Fin 16} (h : pick I k = some l) : I l = k := by
  rcases (pick_fold I k (List.finRange 16) none).1 l h with h | h
  · exact h
  · cases h

theorem pick_none {I : Fin 16 → ℕ} {k : ℕ} (h : pick I k = none) (l : Fin 16) : I l ≠ k :=
  ((pick_fold I k (List.finRange 16) none).2 h).2 l (List.mem_finRange l)

/-- What the unmasked indexed store leaves at position `j`: the last lane that named it, or what stood there. -/
theorem storeIdx_at [FloatOps F] {n : ℕ} (f : (⟨1, ![n]⟩ : Shape).Idx → BitVec 32) (idx v : IVec S16 32) (hi : ∀ a x, ((![idx] : Fin 1 → IVec S16 32) a x).toNat < (⟨1, ![n]⟩ : Shape).size a) (j : (⟨1, ![n]⟩ : Shape).Idx) :
    storeIdx (F := F) (e := .i32) (s := (⟨1, ![n]⟩ : Shape)) f (![idx] : Fin 1 → IVec S16 32) v (fun _ => 1#1) false hi j
      = match pick (fun l => (idx (ix1 l)).toNat) (j 0).val with
        | none => f j
        | some l => v (ix1 l) := by
  have gen : ∀ (L : List (Fin 16)) (g : (⟨1, ![n]⟩ : Shape).Idx → BitVec 32) (o : Option (Fin 16)),
      (g j = match o with | none => f j | some l => v (ix1 l)) →
      (L.foldl (fun (g : (⟨1, ![n]⟩ : Shape).Idx → BitVec 32) (k : Fin 16) => fun j' : (⟨1, ![n]⟩ : Shape).Idx => if (∀ a : Fin 1, (j' a).val = (idxAt (s := (⟨1, ![n]⟩ : Shape)) (![idx] : Fin 1 → IVec S16 32) hi (ix1 k) a).val) then v (ix1 k) else g j') g) j
        = match L.foldl (fun o l => if (idx (ix1 l)).toNat = (j 0).val then some l else o) o with | none => f j | some l => v (ix1 l) := by
    intro L
    induction L with
    | nil => intro g o h; exact h
    | cons k L ih =>
      intro g o h
      rw [List.foldl_cons, List.foldl_cons]
      refine ih _ _ ?_
      by_cases hk : (idx (ix1 k)).toNat = (j 0).val
      · rw [if_pos hk]
        exact if_pos fun a => by match a with | 0 => exact hk.symm
      · rw [if_neg hk]
        exact (if_neg fun hh => hk (hh 0).symm).trans h
  have hx : ∀ k : Fin 16, (Shape.ofLane (d := ![16]) k : S16.Idx) = ix1 k := fun k => by funext a; match a with | 0 => rfl
  have := gen (List.finRange 16) f none rfl
  rw [show pick (fun l => (idx (ix1 l)).toNat) (j 0).val = (List.finRange 16).foldl (fun o l => if (idx (ix1 l)).toNat = (j 0).val then some l else o) none from rfl, ← this]
  unfold storeIdx
  refine congrFun (congrArg (fun st => List.foldl st f (List.finRange 16)) ?_) j
  funext g k j'
  show (if (1#1 : BitVec 1) = 1 then _ else g) j' = _
  rw [if_pos (by decide : (1#1 : BitVec 1) = 1)]
  simp only [Bool.false_eq_true, if_false]
  exact congrArg (fun z : S16.Idx => if ∀ a : Fin 1, (j' a).val = (idxAt (s := (⟨1, ![n]⟩ : Shape)) (![idx] : Fin 1 → IVec S16 32) hi z a).val then v z else g j') (hx k)

/-! ## One half's list -/

/-- A half's list after `t` vectors of edges `(Sx, Dx)`, its count being `c`: below 5120 every entry is an edge or the
    filler; every edge met that is of half `p` stands below `c`. -/
def BInv (Sx Dx : S5016.Idx → BitVec 32) (p t c : ℕ) (fs fd : S5136.Idx → BitVec 32) : Prop :=
  (∀ j : S5136.Idx, (j 0).val < 5120 → (fs j = 0#32 ∧ fd j = 10000#32) ∨ ∃ e : S5016.Idx, (e 0).val < 5008 ∧ fs j = Sx e ∧ fd j = Dx e)
  ∧ (∀ e : S5016.Idx, (e 0).val < 16 * t → half (Dx e) = p → ∃ j : S5136.Idx, (j 0).val < c ∧ fs j = Sx e ∧ fd j = Dx e)

theorem BInv_step [FloatOps F] {Sx Dx : S5016.Idx → BitVec 32} {p t c : ℕ} {fs fd : S5136.Idx → BitVec 32} (h : BInv Sx Dx p t c fs fd)
    (ht : t < 313) (hc : c ≤ 16 * t) (vs vd idx : IVec S16 32)
    (hv : ∀ l : Fin 16, ∃ e : S5016.Idx, (e 0).val = 16 * t + l.val ∧ vs (ix1 l) = Sx e ∧ vd (ix1 l) = Dx e)
    (s : Fin 16 → Prop) [DecidablePred s] (hs : ∀ l, s l ↔ half (vd (ix1 l)) = p)
    (hI : ∀ l, (idx (ix1 l)).toNat = if s l then c + rank s l - 1 else 5120)
    (hi : ∀ a x, ((![idx] : Fin 1 → IVec S16 32) a x).toNat < S5136.size a) :
    BInv Sx Dx p (t + 1) (c + rank s 15) (storeIdx (F := F) (e := .i32) (s := S5136) fs (![idx] : Fin 1 → IVec S16 32) vs (fun _ => 1#1) false hi)
      (storeIdx (F := F) (e := .i32) (s := S5136) fd (![idx] : Fin 1 → IVec S16 32) vd (fun _ => 1#1) false hi) := by
  obtain ⟨hA, hB⟩ := h
  have hvE : ∀ l : Fin 16, ∃ e : S5016.Idx, (e 0).val < 5008 ∧ vs (ix1 l) = Sx e ∧ vd (ix1 l) = Dx e := fun l => by
    obtain ⟨e, he, h⟩ := hv l
    exact ⟨e, by have := l.isLt; omega, h⟩
  refine ⟨fun j hj => ?_, fun e he hp => ?_⟩
  · rw [storeIdx_at, storeIdx_at]
    rcases hq : pick (fun l => (idx (ix1 l)).toNat) (j 0).val with _ | l
    · exact hA j hj
    · exact Or.inr (hvE l)
  · by_cases hlt : (e 0).val < 16 * t
    · obtain ⟨j, hj, hjs, hjd⟩ := hB e hlt hp
      refine ⟨j, by omega, ?_⟩
      have hnone : pick (fun l => (idx (ix1 l)).toNat) (j 0).val = none := by
        rcases hq : pick (fun l => (idx (ix1 l)).toNat) (j 0).val with _ | l
        · rfl
        · have := pick_some hq
          rw [hI l] at this
          split at this
          · rename_i hsl; have := rank_pos s hsl; omega
          · omega
      rw [storeIdx_at, storeIdx_at, hnone]
      exact ⟨hjs, hjd⟩
    · obtain ⟨l, hl⟩ : ∃ l : Fin 16, (e 0).val = 16 * t + l.val := ⟨⟨(e 0).val - 16 * t, by omega⟩, by simp; omega⟩
      obtain ⟨e', he', hvs, hvd⟩ := hv l
      have hee : e' = e := by
        rw [← ix1_eta (n := 5016) e', ← ix1_eta (n := 5016) e]
        exact congrArg (ix1 (n := 5016)) (Fin.ext (he'.trans hl.symm))
      subst hee
      have hsl : s l := (hs l).2 (by rw [hvd]; exact hp)
      have hr := rank_pos s hsl
      have hr16 := rank_le s l
      have hm : rank s l ≤ rank s 15 := rank_mono s (Fin.le_last l : l ≤ (15 : Fin 16))
      let j : S5136.Idx := ix1 (n := 5136) ⟨c + rank s l - 1, by omega⟩
      have hj0 : (j 0).val = c + rank s l - 1 := rfl
      have hpick : pick (fun l => (idx (ix1 l)).toNat) (j 0).val = some l := by
        rcases hq : pick (fun l => (idx (ix1 l)).toNat) (j 0).val with _ | l'
        · exact absurd (by rw [hj0]; show (idx (ix1 l)).toNat = _; rw [hI l, if_pos hsl]) (pick_none hq l)
        · have h' := pick_some hq
          have hI' := hI l'
          simp only [hj0] at h'
          rw [hI'] at h'
          split at h'
          · rename_i hsl'
            have hr' := rank_pos s hsl'
            rcases lt_trichotomy l' l with hlt' | rfl | hlt'
            · have := rank_lt s hlt' hsl; omega
            · rfl
            · have := rank_lt s hlt' hsl'; omega
          · omega
      refine ⟨j, by omega, ?_⟩
      rw [storeIdx_at, storeIdx_at, hpick]
      exact ⟨hvs, hvd⟩

/-! ## The kernel's vectors -/

theorem pay3_at (v : Vec F S16 .i32) (l : Fin 16) (hv : (v (ix1 l)).toNat < 2 ^ 31) :
    k0_pay3 (F := F) v (ix1 l) = if half (v (ix1 l)) = 1 then 1#1 else 0#1 := by
  show BitVec.ofBool ((5000#32).sle (v (ix1 l))) = _
  have h : (5000#32).sle (v (ix1 l)) = decide (5000 ≤ (v (ix1 l)).toNat) := by
    rw [BitVec.sle_eq_decide]
    have h2 : (v (ix1 l)).toInt = (v (ix1 l)).toNat := by rw [BitVec.toInt_eq_toNat_of_lt (by omega)]
    rw [h2]
    have h3 : (5000#32).toInt = 5000 := by decide
    rw [h3]
    congr 1
    exact propext (by omega)
  rw [h]
  unfold half
  by_cases hc : 5000 ≤ (v (ix1 l)).toNat <;> simp [hc]

theorem pay4_at (v : Vec F S16 .i32) (l : Fin 16) (hv : (v (ix1 l)).toNat < 2 ^ 31) :
    k0_pay4 (F := F) v (ix1 l) = if half (v (ix1 l)) = 1 then 1#32 else 0#32 := by
  show (k0_pay3 (F := F) v (ix1 l)).setWidth 32 = _
  rw [pay3_at v l hv]
  split <;> rfl

theorem half_cases (d : BitVec 32) : half d = 0 ∨ half d = 1 := by unfold half; split <;> simp

theorem pay7_at (v : Vec F S16 .i32) (hv : ∀ l, (v (ix1 l)).toNat < 2 ^ 31) (l : Fin 16) :
    (k0_pay7 (F := F) v (ix1 l)).toNat = rank (fun k => half (v (ix1 k)) = 1) l :=
  scan_count (k0_pay4 (F := F) v) (fun k => half (v (ix1 k)) = 1) (fun k => by rw [pay4_at v k (hv k)]; split <;> rfl) l

theorem pay5_at (c : BitVec 32) (hc : c.toNat ≤ 5008) (v : Vec F S16 .i32) (hv : ∀ l, (v (ix1 l)).toNat < 2 ^ 31) (l : Fin 16) :
    (k0_pay5 (F := F) c v (ix1 l)).toNat = if half (v (ix1 l)) = 0 then c.toNat + rank (fun k => half (v (ix1 k)) = 0) l - 1 else 5120 := by
  have hs : (scan .sum (subi (broadcast S16 1#32) (k0_pay4 (F := F) v)) (ix1 l)).toNat = rank (fun k => half (v (ix1 k)) = 0) l :=
    scan_count (subi (broadcast S16 1#32) (k0_pay4 (F := F) v)) (fun k => half (v (ix1 k)) = 0) (fun k => by
      show (1#32 - k0_pay4 (F := F) v (ix1 k)).toNat = _
      rw [pay4_at v k (hv k)]
      rcases half_cases (v (ix1 k)) with h | h <;> rw [h] <;> rfl) l
  show (Scalar.select (k0_pay3 (F := F) v (ix1 l)) 5120#32 ((c + scan .sum (subi (broadcast S16 1#32) (k0_pay4 (F := F) v)) (ix1 l)) - 1#32)).toNat = _
  rw [pay3_at v l (hv l)]
  rcases half_cases (v (ix1 l)) with h | h
  · rw [h, if_neg (by decide), if_pos rfl]
    show ((c + _) - 1#32 : BitVec 32).toNat = _
    have h1 := rank_pos (fun k => half (v (ix1 k)) = 0) (j := l) h
    have h2 := rank_le (fun k => half (v (ix1 k)) = 0) l
    have h3 : (c + scan .sum (subi (broadcast S16 1#32) (k0_pay4 (F := F) v)) (ix1 l)).toNat = c.toNat + rank (fun k => half (v (ix1 k)) = 0) l := by
      rw [BitVec.toNat_add, hs, Nat.mod_eq_of_lt (by omega)]
    rw [BitVec.toNat_sub, h3]
    have h4 : (1#32).toNat = 1 := rfl
    rw [h4]; omega
  · rw [h, if_pos rfl, if_neg (by decide)]
    rfl

theorem pay6_at (c : BitVec 32) (hc : c.toNat ≤ 5008) (v : Vec F S16 .i32) (hv : ∀ l, (v (ix1 l)).toNat < 2 ^ 31) (l : Fin 16) :
    (k0_pay6 (F := F) c v (ix1 l)).toNat = if half (v (ix1 l)) = 1 then c.toNat + rank (fun k => half (v (ix1 k)) = 1) l - 1 else 5120 := by
  have hs := pay7_at (F := F) v hv l
  show (Scalar.select (k0_pay3 (F := F) v (ix1 l)) ((c + k0_pay7 (F := F) v (ix1 l)) - 1#32) 5120#32).toNat = _
  rw [pay3_at v l (hv l)]
  rcases half_cases (v (ix1 l)) with h | h
  · rw [h, if_neg (by decide), if_neg (by decide)]
    rfl
  · rw [h, if_pos rfl, if_pos rfl]
    show ((c + _) - 1#32 : BitVec 32).toNat = _
    have h1 := rank_pos (fun k => half (v (ix1 k)) = 1) (j := l) h
    have h2 := rank_le (fun k => half (v (ix1 k)) = 1) l
    have h3 : (c + k0_pay7 (F := F) v (ix1 l)).toNat = c.toNat + rank (fun k => half (v (ix1 k)) = 1) l := by
      rw [BitVec.toNat_add, hs, Nat.mod_eq_of_lt (by omega)]
    rw [BitVec.toNat_sub, h3]
    have h4 : (1#32).toNat = 1 := rfl
    rw [h4]; omega

theorem chk_of_at (idx : IVec S16 32) (c : ℕ) (hc : c ≤ 5008) (s : Fin 16 → Prop) [DecidablePred s]
    (hI : ∀ l, (idx (ix1 l)).toNat = if s l then c + rank s l - 1 else 5120) : ∀ a x, ((![idx] : Fin 1 → IVec S16 32) a x).toNat < S5136.size a := by
  intro a x
  match a with
  | 0 =>
    obtain ⟨l, rfl⟩ : ∃ l : Fin 16, x = ix1 l := ⟨x 0, (ix1_eta (n := 16) x).symm⟩
    show (idx (ix1 l)).toNat < 5136
    rw [hI l]
    have := rank_le s l
    split <;> omega

/-- The counts' vector: lane 0 the first half's count, lane 1 the second's. -/
theorem pay8_at (v10 : IVec S16 32) (h10 : ∀ l : Fin 16, v10 (ix1 l) = BitVec.ofNat 32 l.val) (c0 c1 : BitVec 32) :
    k0_pay8 v10 c0 c1 (ix1 (0 : Fin 16)) = c0 ∧ k0_pay8 v10 c0 c1 (ix1 (1 : Fin 16)) = c1 := by
  have e : ∀ l : Fin 16, k0_pay8 v10 c0 c1 (ix1 l) = Scalar.select (BitVec.ofBool (v10 (ix1 l) == 0#32)) c0 0#32 + Scalar.select (BitVec.ofBool (v10 (ix1 l) == 1#32)) c1 0#32 := fun l => rfl
  refine ⟨?_, ?_⟩ <;> rw [e, h10]
  · show c0 + 0#32 = c0; exact BitVec.add_zero c0
  · show 0#32 + c1 = c1; exact BitVec.zero_add c1

end Cert.Proof

end
-- ==== Proof.EdgeMath.lean ====
/-
  The second call's arithmetic, away from the machine: division rounding down, the lane a masked sum picks out, the row
  an edge's target names in a half, the tables of chunk offsets, and the running maxima.
-/
module

public import proofs.«01_k».proof.Proof.BucketMath

@[expose] public section

noncomputable section

namespace Cert.Proof

open Cert.KernelIdeal Cert.KernelIdeal.Gen
open Idealize.ShloMosaic

variable {F : FTy → Type}

/-! ## Words read as numbers -/

theorem slt_nat {x y : BitVec 32} (hx : x.toNat < 2 ^ 31) (hy : y.toNat < 2 ^ 31) : x.slt y = decide (x.toNat < y.toNat) := by
  rw [BitVec.slt, BitVec.toInt_eq_toNat_of_lt (by omega), BitVec.toInt_eq_toNat_of_lt (by omega)]
  exact decide_eq_decide.2 (by omega)

theorem sle_nat {x y : BitVec 32} (hx : x.toNat < 2 ^ 31) (hy : y.toNat < 2 ^ 31) : x.sle y = decide (x.toNat ≤ y.toNat) := by
  rw [BitVec.sle, BitVec.toInt_eq_toNat_of_lt (by omega), BitVec.toInt_eq_toNat_of_lt (by omega)]
  exact decide_eq_decide.2 (by omega)

theorem cond_slt {x y : BitVec 32} (hx : x.toNat < 2 ^ 31) (hy : y.toNat < 2 ^ 31) :
    Scalar.cmpi .ne (Scalar.extui (Scalar.cmpi .slt x y)) 0#32 = 1#1 ↔ x.toNat < y.toNat := by
  have e : Scalar.cmpi .slt x y = BitVec.ofBool (decide (x.toNat < y.toNat)) := congrArg BitVec.ofBool (slt_nat hx hy)
  rw [e]
  by_cases h : x.toNat < y.toNat <;> simp only [h, decide_true, decide_false, iff_true, iff_false] <;> decide

/-- Division rounding toward minus infinity, as it is written out. -/
def fdiv (x d : BitVec 32) : BitVec 32 :=
  Scalar.select (Scalar.andi (Scalar.cmpi .ne
      (Scalar.subi (Scalar.extui (Scalar.cmpi .sgt x 0#32)) (Scalar.extui (Scalar.cmpi .slt x 0#32)))
      (Scalar.subi (Scalar.extui (Scalar.cmpi .sgt d 0#32)) (Scalar.extui (Scalar.cmpi .slt d 0#32))))
    (Scalar.cmpi .ne (Scalar.remsi x d) 0#32)) (Scalar.subi (Scalar.divsi x d) 1#32) (Scalar.divsi x d)

theorem fdiv_toNat {x d : BitVec 32} (hx : x.toNat < 2 ^ 31) (hd0 : 0 < d.toNat) (hd : d.toNat < 2 ^ 31) :
    (fdiv x d).toNat = x.toNat / d.toNat := by
  have hdn : d ≠ 0#32 := fun h => by rw [h] at hd0; exact absurd hd0 (by decide)
  have hc : ¬ IntOp.SDivCorner x d := fun h => by
    rcases h with h | ⟨h, -⟩
    · exact hdn h
    · rw [h] at hx; exact absurd hx (by decide)
  have mx : x.msb = false := by rw [BitVec.msb_eq_false_iff_two_mul_lt]; omega
  have md : d.msb = false := by rw [BitVec.msb_eq_false_iff_two_mul_lt]; omega
  have hq : Scalar.divsi x d = x / d := by
    show IntOp.divsi .scalar x d = _
    rw [IntOp.divsi, if_neg hc, BitVec.sdiv_eq, mx, md]; rfl
  have hr : Scalar.remsi x d = x % d := by
    show IntOp.remsi .scalar x d = _
    rw [IntOp.remsi, if_neg hc, BitVec.srem_eq, mx, md]
  have z : (0#32 : BitVec 32).toNat = 0 := rfl
  have sd1 : Scalar.cmpi .sgt d 0#32 = 1#1 := by
    show BitVec.ofBool ((0#32 : BitVec 32).slt d) = _
    rw [slt_nat (by decide) hd, z, decide_eq_true hd0]; rfl
  have sd0 : Scalar.cmpi .slt d 0#32 = 0#1 := by
    show BitVec.ofBool (d.slt 0#32) = _
    rw [slt_nat hd (by decide), z, decide_eq_false (by omega)]; rfl
  have sx0 : Scalar.cmpi .slt x 0#32 = 0#1 := by
    show BitVec.ofBool (x.slt 0#32) = _
    rw [slt_nat hx (by decide), z, decide_eq_false (by omega)]; rfl
  have key : Scalar.andi (Scalar.cmpi .ne
      (Scalar.subi (Scalar.extui (Scalar.cmpi .sgt x 0#32)) (Scalar.extui (Scalar.cmpi .slt x 0#32)))
      (Scalar.subi (Scalar.extui (Scalar.cmpi .sgt d 0#32)) (Scalar.extui (Scalar.cmpi .slt d 0#32))))
    (Scalar.cmpi .ne (Scalar.remsi x d) 0#32) = 0#1 := by
    by_cases hx0 : x.toNat = 0
    · have : x = 0#32 := BitVec.eq_of_toNat_eq hx0
      subst this
      rw [hr, show (0#32 : BitVec 32) % d = 0#32 from BitVec.eq_of_toNat_eq (by rw [BitVec.toNat_umod, z, Nat.zero_mod])]
      rw [show Scalar.cmpi .ne (0#32 : BitVec 32) 0#32 = 0#1 from by decide]
      exact BitVec.and_zero
    · have sx1 : Scalar.cmpi .sgt x 0#32 = 1#1 := by
        show BitVec.ofBool ((0#32 : BitVec 32).slt x) = _
        rw [slt_nat (by decide) hx, z, decide_eq_true (by omega)]; rfl
      rw [sx1, sx0, sd1, sd0, show Scalar.cmpi .ne (Scalar.subi (Scalar.extui 1#1) (Scalar.extui 0#1)) (Scalar.subi (Scalar.extui 1#1) (Scalar.extui 0#1)) = 0#1 from by decide]
      exact BitVec.zero_and
  unfold fdiv
  rw [key, hq]
  show (x / d).toNat = _
  exact BitVec.toNat_udiv

/-! ## The lane a masked sum picks out -/

theorem foldl_one (j : Fin 16) (a : BitVec 32) : ∀ (L : List (Fin 16)) (r : BitVec 32), L.Nodup →
    L.foldl (fun r k => IntOp.addi r (if k = j then a else 0#32)) r = if j ∈ L then r + a else r
  | [], r, _ => rfl
  | k :: L, r, hn => by
    obtain ⟨hk, hL⟩ := List.nodup_cons.1 hn
    rw [List.foldl_cons, foldl_one j a L _ hL]
    by_cases h : k = j
    · subst h
      rw [if_neg hk, if_pos List.mem_cons_self, if_pos rfl]; rfl
    · rw [if_neg h, show IntOp.addi r 0#32 = r from BitVec.add_zero r]
      by_cases hm : j ∈ L
      · rw [if_pos hm, if_pos (List.mem_cons_of_mem _ hm)]
      · rw [if_neg hm, if_neg (fun hh => by rcases List.mem_cons.1 hh with rfl | hh; exacts [h rfl, hm hh])]

theorem scan_one (x : IVec S16 32) (j : Fin 16) (a : BitVec 32) (hx : ∀ k, x (ix1 k) = if k = j then a else 0#32) : scan .sum x (ix1 (15 : Fin 16)) = a := by
  obtain ⟨y, hy⟩ : ∃ y : Fin 16 → BitVec 32, y = fun k => x (Shape.ofLane (d := ![16]) k) := ⟨_, rfl⟩
  have e : scan .sum x (ix1 (15 : Fin 16)) = List.foldl (fun r k => IntOp.addi r (y k)) (y 0) ((List.finRange 16).filter fun k => decide (0 < k.val ∧ k.val ≤ (15 : Fin 16).val)) := by subst hy; rfl
  have hy' : y = fun k => if k = j then a else 0#32 := by
    funext k
    rw [← hx k, hy]; exact congrArg x (by funext a; match a with | 0 => rfl)
  rw [e, hy', foldl_one j a _ _ ((List.nodup_finRange 16).filter _)]
  by_cases h : j = 0
  · subst h
    rw [if_neg (by decide)]; exact if_pos rfl
  · have hj : j.val ≠ 0 := fun h' => h (Fin.ext h')
    rw [if_pos (List.mem_filter.2 ⟨List.mem_finRange j, decide_eq_true ⟨by omega, by have := j.isLt; show j.val ≤ 15; omega⟩⟩)]
    show (if (0 : Fin 16) = j then a else 0#32) + a = a
    rw [if_neg (fun h' : (0 : Fin 16) = j => h h'.symm)]
    exact BitVec.zero_add a

/-- The sum of a vector masked to the lane numbered `q` is that lane. -/
theorem pickLane (v2 : IVec S16 32) (h2 : ∀ l : Fin 16, v2 (ix1 l) = BitVec.ofNat 32 l.val) (q : BitVec 32) (j : Fin 16) (hq : q = BitVec.ofNat 32 j.val)
    (v : IVec S16 32) : extractAt ![15] (scan .sum (select (cmpi .eq v2 (broadcast S16 q)) v (broadcast S16 0#32))) inpos_S16_p15 = v (ix1 j) := by
  have e : ∀ k : Fin 16, (select (cmpi .eq v2 (broadcast S16 q)) v (broadcast S16 0#32)) (ix1 k) = if k = j then v (ix1 j) else 0#32 := fun k => by
    show Scalar.select (BitVec.ofBool (v2 (ix1 k) == q)) (v (ix1 k)) 0#32 = _
    rw [h2, hq]
    by_cases hk : k = j
    · subst hk; rw [if_pos rfl, beq_self_eq_true]; rfl
    · rw [if_neg hk]
      have : (BitVec.ofNat 32 k.val == BitVec.ofNat 32 j.val) = false := by
        rw [beq_eq_false_iff_ne]
        intro h
        have := congrArg BitVec.toNat h
        rw [BitVec.toNat_ofNat, BitVec.toNat_ofNat, Nat.mod_eq_of_lt (by omega), Nat.mod_eq_of_lt (by omega)] at this
        exact hk (Fin.ext this)
      rw [this]; rfl
  have hx : (extractAt ![15] (scan .sum (select (cmpi .eq v2 (broadcast S16 q)) v (broadcast S16 0#32))) inpos_S16_p15 : BitVec 32)
      = scan .sum (select (cmpi .eq v2 (broadcast S16 q)) v (broadcast S16 0#32)) (ix1 (15 : Fin 16)) :=
    congrArg _ (by funext a; match a with | 0 => rfl)
  rw [hx]
  exact scan_one _ j _ e

/-! ## The row of a half an edge's target names -/

/-- The row of the half starting at `base` that a node number names, or 5000. -/
def dcOf (base w : BitVec 32) : BitVec 32 :=
  Scalar.select (Scalar.andi (Scalar.cmpi .sge (Scalar.subi w base) 0#32) (Scalar.cmpi .slt (Scalar.subi w base) 5000#32)) (Scalar.subi w base) 5000#32

theorem dcOf_toNat (b : ℕ) (hb : b = 0 ∨ b = 5000) (w : BitVec 32) (hw : w.toNat ≤ 10000) :
    (dcOf (BitVec.ofNat 32 b) w).toNat = if b ≤ w.toNat ∧ w.toNat < b + 5000 then w.toNat - b else 5000 := by
  have hbn : (BitVec.ofNat 32 b).toNat = b := by rw [BitVec.toNat_ofNat]; rcases hb with rfl | rfl <;> rfl
  have z : (0#32 : BitVec 32).toNat = 0 := rfl
  have f : (5000#32 : BitVec 32).toNat = 5000 := rfl
  unfold dcOf
  by_cases h1 : b ≤ w.toNat
  · have hs : (w - BitVec.ofNat 32 b).toNat = w.toNat - b := by
      rw [BitVec.toNat_sub_of_le (by rw [BitVec.le_def, hbn]; exact h1), hbn]
    have e1 : Scalar.cmpi .sge (Scalar.subi w (BitVec.ofNat 32 b)) 0#32 = 1#1 := by
      show BitVec.ofBool ((0#32 : BitVec 32).sle (w - BitVec.ofNat 32 b)) = _
      rw [sle_nat (by decide) (by omega), z, decide_eq_true (Nat.zero_le _)]; rfl
    have e2 : Scalar.cmpi .slt (Scalar.subi w (BitVec.ofNat 32 b)) 5000#32 = BitVec.ofBool (decide (w.toNat - b < 5000)) := by
      show BitVec.ofBool ((w - BitVec.ofNat 32 b).slt 5000#32) = _
      rw [slt_nat (by omega) (by decide), hs, f]
    rw [e1, e2]
    by_cases h2 : w.toNat < b + 5000
    · rw [if_pos ⟨h1, h2⟩, decide_eq_true (by omega)]
      exact hs
    · rw [if_neg (fun h => h2 h.2), decide_eq_false (by omega)]; rfl
  · have e1 : Scalar.cmpi .sge (Scalar.subi w (BitVec.ofNat 32 b)) 0#32 = 0#1 := by
      show BitVec.ofBool ((0#32 : BitVec 32).sle (w - BitVec.ofNat 32 b)) = _
      have hm : (w - BitVec.ofNat 32 b).toNat = 2 ^ 32 + w.toNat - b := by
        rw [BitVec.toNat_sub, hbn]; omega
      have : (w - BitVec.ofNat 32 b).toInt < 0 := by
        rw [BitVec.toInt_neg_iff]; omega
      rw [show (0#32 : BitVec 32).sle (w - BitVec.ofNat 32 b) = false from by
        rw [BitVec.sle]; exact decide_eq_false (by rw [show (0#32 : BitVec 32).toInt = 0 from rfl]; omega)]
      rfl
    rw [e1, if_neg (fun h => h1 h.1), show Scalar.andi 0#1 (Scalar.cmpi .slt (Scalar.subi w (BitVec.ofNat 32 b)) 5000#32) = 0#1 from BitVec.zero_and]
    rfl

/-! ## The tables of chunk offsets -/

/-- How many chunks of 512 a list of `n` edges takes. -/
def nchunks (n : BitVec 32) : ℕ := (n.toNat + 511) / 512

/-- The table of half `p` after `t` tiles' counts `cn`, `nc` chunks being listed. -/
def TabOK (cn : S32x16.Idx → BitVec 32) (p : Fin 2) (t nc : ℕ) (w : S544.Idx → BitVec 32) : Prop :=
  nc ≤ 10 * t
  ∧ (∀ c : S544.Idx, (c 0).val < nc → ∃ (k : Fin 32) (i : ℕ), k.val < t ∧ i < nchunks (cn (ix2 k ⟨p.val, by omega⟩)) ∧ (w c).toNat = (2 * k.val + p.val) * 5120 + i * 512)
  ∧ (∀ (k : Fin 32) (i : ℕ), k.val < t → i < nchunks (cn (ix2 k ⟨p.val, by omega⟩)) → ∃ c : S544.Idx, (c 0).val < nc ∧ (w c).toNat = (2 * k.val + p.val) * 5120 + i * 512)

theorem TabOK_step [FloatOps F] {cn : S32x16.Idx → BitVec 32} {p : Fin 2} {nc : ℕ} {w : S544.Idx → BitVec 32} {t : Fin 32} (h : TabOK cn p t.val nc w)
    (hn : nchunks (cn (ix2 t ⟨p.val, by omega⟩)) ≤ 10) (idx v : IVec S16 32)
    (hI : ∀ l : Fin 16, (idx (ix1 l)).toNat = if l.val < nchunks (cn (ix2 t ⟨p.val, by omega⟩)) then nc + l.val else 528)
    (hv : ∀ l : Fin 16, (v (ix1 l)).toNat = (2 * t.val + p.val) * 5120 + l.val * 512)
    (hi : ∀ a x, ((![idx] : Fin 1 → IVec S16 32) a x).toNat < S544.size a) :
    TabOK cn p (t.val + 1) (nc + nchunks (cn (ix2 t ⟨p.val, by omega⟩))) (storeIdx (F := F) (e := .i32) (s := S544) w (![idx] : Fin 1 → IVec S16 32) v (fun _ => 1#1) false hi) := by
  obtain ⟨h0, h1, h2⟩ := h
  have ht := t.isLt
  have old : ∀ c : S544.Idx, (c 0).val < nc → storeIdx (F := F) (e := .i32) (s := S544) w (![idx] : Fin 1 → IVec S16 32) v (fun _ => 1#1) false hi c = w c := fun c hc => by
    have hnone : pick (fun l => (idx (ix1 l)).toNat) (c 0).val = none := by
      rcases hq : pick (fun l => (idx (ix1 l)).toNat) (c 0).val with _ | l
      · rfl
      · have := pick_some hq
        rw [hI l] at this
        split at this <;> omega
    exact (storeIdx_at (F := F) (n := 544) w idx v hi c).trans (by rw [hnone])
  have new : ∀ (c : S544.Idx) (i : ℕ), (c 0).val = nc + i → i < nchunks (cn (ix2 t ⟨p.val, by omega⟩)) →
      (storeIdx (F := F) (e := .i32) (s := S544) w (![idx] : Fin 1 → IVec S16 32) v (fun _ => 1#1) false hi c).toNat = (2 * t.val + p.val) * 5120 + i * 512 := fun c i hc hi' => by
    rcases hq : pick (fun l => (idx (ix1 l)).toNat) (c 0).val with _ | l
    · refine absurd ?_ (pick_none hq ⟨i, by omega⟩)
      rw [hI, if_pos hi', hc]
    · have hp := pick_some hq
      rw [hI l] at hp
      split at hp
      · rw [show storeIdx (F := F) (e := .i32) (s := S544) w (![idx] : Fin 1 → IVec S16 32) v (fun _ => 1#1) false hi c = v (ix1 l) from
          (storeIdx_at (F := F) (n := 544) w idx v hi c).trans (by rw [hq]), hv, show l.val = i by omega]
      · omega
  refine ⟨by omega, fun c hc => ?_, fun k i hk hik => ?_⟩
  · by_cases hlt : (c 0).val < nc
    · obtain ⟨k, i, hk, hik, e⟩ := h1 c hlt
      exact ⟨k, i, by omega, hik, by rw [old c hlt]; exact e⟩
    · exact ⟨t, (c 0).val - nc, by omega, by omega, new c _ (by omega) (by omega)⟩
  · by_cases hlt : k.val < t.val
    · obtain ⟨c, hc, e⟩ := h2 k i hlt hik
      exact ⟨c, by omega, by rw [old c hc]; exact e⟩
    · have : k = t := Fin.ext (by omega)
      subst this
      exact ⟨ix1 (n := 544) ⟨nc + i, by omega⟩, by show nc + i < _; omega, new _ i rfl hik⟩

/-! ## The running maxima -/

/-- Row `r`, lane `l` of the running maxima is a maximum of the values `g s l` over the met edges `(s, d)` whose target is
    node `base + r`. -/
def AccOK [FloatOps F] (base : ℕ) (Dn : BitVec 32 → BitVec 32 → Prop) (g : BitVec 32 → Fin 16 → F .f32) (acc : S5008x16.Idx → F .f32) : Prop :=
  ∀ x : S5008x16.Idx, (x 0).val < 5000 → MaxOf (fun b => ∃ s d, Dn s d ∧ d.toNat = base + (x 0).val ∧ b = g s (x 1)) (acc x)

theorem MaxOf_nil [FloatOps F] {Sv : F .f32 → Prop} (h : ∀ b, ¬ Sv b) : MaxOf Sv (Scalar.ofBits .f32 0xFF800000#32) :=
  ⟨[], rfl, fun b => ⟨fun hb => absurd hb (by simp), fun hb => absurd hb (h b)⟩⟩

theorem MaxOf_congr [FloatOps F] {Sv Tv : F .f32 → Prop} (h : ∀ b, Sv b ↔ Tv b) {a : F .f32} (ha : MaxOf Sv a) : MaxOf Tv a := by
  obtain ⟨l, e, hl⟩ := ha
  exact ⟨l, e, fun b => (hl b).trans (h b)⟩

theorem MaxOf_cons [FloatOps F] {Sv Tv : F .f32 → Prop} {a b : F .f32} (ha : MaxOf Sv a) (h : ∀ x, Tv x ↔ Sv x ∨ x = b) : MaxOf Tv (FloatOps.maximumf a b) := by
  obtain ⟨l, e, hl⟩ := ha
  refine ⟨l ++ [b], by rw [List.foldl_append, ← e]; rfl, fun x => ?_⟩
  rw [List.mem_append, List.mem_singleton, hl, h]

/-- The edges met once the first `k` of a chunk `(sv, dv)` have been. -/
def Upto (Dn : BitVec 32 → BitVec 32 → Prop) (sv dv : S512.Idx → BitVec 32) (k : ℕ) : BitVec 32 → BitVec 32 → Prop :=
  fun s d => Dn s d ∨ ∃ j : S512.Idx, (j 0).val < k ∧ s = sv j ∧ d = dv j

theorem AccOK_congr [FloatOps F] {base : ℕ} {Dn Dn' : BitVec 32 → BitVec 32 → Prop} (h : ∀ s d, Dn s d ↔ Dn' s d) {g : BitVec 32 → Fin 16 → F .f32} {acc : S5008x16.Idx → F .f32}
    (ha : AccOK base Dn g acc) : AccOK base Dn' g acc := fun x hx =>
  MaxOf_congr (fun b => by simp only [h]) (ha x hx)

/-- One edge more: its row replaced by the maxima with the edge's values. -/
theorem AccOK_step [FloatOps F] {b : ℕ} (hb : b = 0 ∨ b = 5000) {Dn : BitVec 32 → BitVec 32 → Prop} {g : BitVec 32 → Fin 16 → F .f32} {acc acc' : S5008x16.Idx → F .f32}
    {sv dv : S512.Idx → BitVec 32} {k : ℕ} (ha : AccOK b (Upto Dn sv dv k) g acc) (j : S512.Idx) (hj : (j 0).val = k) (hd : (dv j).toNat ≤ 10000)
    (hrow : ∀ x : S5008x16.Idx, (x 0).val = (dcOf (BitVec.ofNat 32 b) (dv j)).toNat → acc' x = FloatOps.maximumf (acc x) (g (sv j) (x 1)))
    (hoff : ∀ x : S5008x16.Idx, (x 0).val ≠ (dcOf (BitVec.ofNat 32 b) (dv j)).toNat → acc' x = acc x) :
    AccOK b (Upto Dn sv dv (k + 1)) g acc' := by
  intro x hx
  rw [dcOf_toNat b hb _ hd] at hrow hoff
  have hu : ∀ s d, Upto Dn sv dv (k + 1) s d ↔ Upto Dn sv dv k s d ∨ (s = sv j ∧ d = dv j) := fun s d => by
    constructor
    · rintro (h | ⟨j', hj', h⟩)
      · exact Or.inl (Or.inl h)
      · by_cases h' : (j' 0).val < k
        · exact Or.inl (Or.inr ⟨j', h', h⟩)
        · have : j' = j := by
            rw [← ix1_eta (n := 512) j', ← ix1_eta (n := 512) j]
            exact congrArg (ix1 (n := 512)) (Fin.ext (by omega))
          subst this
          exact Or.inr h
    · rintro ((h | ⟨j', hj', h⟩) | h)
      · exact Or.inl h
      · exact Or.inr ⟨j', by omega, h⟩
      · exact Or.inr ⟨j, by omega, h⟩
  by_cases hr : (dv j).toNat = b + (x 0).val
  · rw [hrow x (by rw [if_pos ⟨by omega, by omega⟩]; omega)]
    refine MaxOf_cons (ha x hx) fun y => ⟨?_, ?_⟩
    · rintro ⟨s, d, h, hd', hy⟩
      rcases (hu s d).1 h with h | ⟨rfl, rfl⟩
      · exact Or.inl ⟨s, d, h, hd', hy⟩
      · exact Or.inr hy
    · rintro (⟨s, d, h, hd', hy⟩ | rfl)
      · exact ⟨s, d, (hu s d).2 (Or.inl h), hd', hy⟩
      · exact ⟨sv j, dv j, (hu _ _).2 (Or.inr ⟨rfl, rfl⟩), hr, rfl⟩
  · rw [hoff x (by split <;> omega)]
    refine MaxOf_congr (fun y => ⟨?_, ?_⟩) (ha x hx)
    · rintro ⟨s, d, h, hd', hy⟩
      exact ⟨s, d, (hu s d).2 (Or.inl h), hd', hy⟩
    · rintro ⟨s, d, h, hd', hy⟩
      rcases (hu s d).1 h with h | ⟨rfl, rfl⟩
      · exact ⟨s, d, h, hd', hy⟩
      · exact absurd hd' hr

end Cert.Proof

end
-- ==== Proof.EdgeHeld.lean ====
/-
  The second call's steps over memrefs held whole: what a buffer reads, kept through loads, stores, copies that are in
  flight, and the indexed gather.
-/
module

public import proofs.«01_k».proof.Proof.Steps
public import proofs.«01_k».proof.Proof.EdgeMath

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

abbrev cE (L : grid1.Coords) : Fin τ.nSC := (L 0).castLE hcore1
abbrev jE (L : grid1.Coords) : Fin τ.nSub := (L 1).castLE hsub1
/-- Tile `(L 0, L 1)`'s number. -/
def wE (L : grid1.Coords) : Fin 32 := ⟨2 * (L 1).val + (L 0).val, by
  have h1 : (L 1).val < 16 := (L 1).isLt
  have h0 : (L 0).val < 2 := (L 0).isLt
  omega⟩
abbrev thE (d : Dev nD) (L : grid1.Coords) : Thread nD τ := V d (cE L) (jE L)

abbrev v5Loc (d : Dev nD) : Loc nD τ sig := (SparseCore.T d).loc main_v5
abbrev v6Loc (d : Dev nD) : Loc nD τ sig := (SparseCore.T d).loc main_v6
abbrev v7Loc (d : Dev nD) : Loc nD τ sig := (SparseCore.T d).loc main_v7
abbrev v8Loc (d : Dev nD) : Loc nD τ sig := (SparseCore.T d).loc main_v8

section

variable (d : Dev nD) (L : grid1.Coords)

/-- The memref's whole buffer, reading as `w` through the memref. -/
def Held {cs : Space} {s : Shape} {e : EltTy} (m : Memref sig .scVector cs s e) (q : PosShare TreeShare) (w : s.Idx → Elt F e) : sProp 𝕄 :=
  iprop(∃ f : Buf (Elt F) (m.view.loc (thE d L)), ⌜m.view.read (Elt F) f = w⌝ ∗ (m.view.loc (thE d L) ↦{q} f))

theorem wp_loadH {α : Type} {s : Shape} {e : EltTy} {cs : CoreSpace} {m : Memref sig .scVector cs s e} {r : Rect s} {hl : m.view.LoadsAt r.toLoadRect} {Q : α → sProp 𝕄} {q : PosShare TreeShare}
    {k : (r.toLoadRect.shape.Idx → Elt F e) → Prog (TpuEff nD τ sig (Elt F) Λ₀ (thE d L).2) α} {w : s.Idx → Elt F e} :
    Held d L m q w
      ⊢ iprop((Held d L m q w -∗ wp frame (wpE (defs₀ (F := F)) 𝒱₀ (thE d L) none) Set.univ (k (fun x => w (r.emb x))) Q)
        -∗ wp frame (wpE (defs₀ (F := F)) 𝒱₀ (thE d L) none) Set.univ (.op (.load m r.toLoadRect hl) k) Q) := by
  iintro H Hk
  unfold Held
  icases H with ⟨%f, %hf, H⟩
  iapply (wp_loadW 𝒱₀ (thE d L) none (m := m) (r := r.toLoadRect) (f := f)) $$ H; iintro H
  have e : m.view.readAt (Elt F) r.toLoadRect f = fun x => w (r.emb x) := by subst hf; rfl
  rw [e]
  iapply Hk
  iexists f
  isplitr
  · ipureintro; exact hf
  · iexact H

theorem wp_storeH {α : Type} {s : Shape} {e : EltTy} {cs : CoreSpace} {m : Memref sig .scVector cs s e} {r : Rect s} {p : r.shape.Idx → Elt F e} {hx : (m.access r).Stores Finset.univ}
    {hm : (Finset.univ : Finset r.shape.Idx) = Finset.univ ∨ ∀ a, r.stride a = 1} {Q : α → sProp 𝕄}
    {k : PUnit → Prog (TpuEff nD τ sig (Elt F) Λ₀ (thE d L).2) α} {w : s.Idx → Elt F e} (w' : s.Idx → Elt F e)
    (hin : ∀ x, w' (r.emb x) = p x) (hout : ∀ y, (∀ x, r.emb x ≠ y) → w' y = w y) :
    Held d L m fullShare w
      ⊢ iprop((Held d L m fullShare w' -∗ wp frame (wpE (defs₀ (F := F)) 𝒱₀ (thE d L) none) Set.univ (k ⟨⟩) Q)
        -∗ wp frame (wpE (defs₀ (F := F)) 𝒱₀ (thE d L) none) Set.univ (.op (.store m r p Finset.univ hx hm) k) Q) := by
  iintro H Hk
  unfold Held
  icases H with ⟨%f, %hf, H⟩
  iapply (wp_storeW 𝒱₀ (thE d L) none (m := m) (r := r) (f := f)) $$ H; iintro H
  iapply Hk
  iexists _
  isplitr
  swap
  · iexact H
  ipureintro
  funext y
  by_cases hy : ∃ x, r.emb x = y
  · obtain ⟨x, rfl⟩ := hy
    rw [hin x]
    exact View.read_slice_write_emb (v := m.view) (Val := Elt F) r f p (Finset.mem_univ x)
  · rw [hout y (fun x hx => hy ⟨x, hx⟩), ← hf]
    exact View.read_slice_write_of_not_mem (v := m.view) (Val := Elt F) r f p Finset.univ (fun h => by
      obtain ⟨x, -, hx⟩ := Finset.mem_map.1 h
      exact hy ⟨x, hx⟩)

/-- The waits a tile has made are its own and those of the call's start. -/
def OW (O : CellTallies nD τ sig (HIx 2)) (W : Waits sig (HIx 2)) : sProp 𝕄 :=
  iprop(∃ W', ⌜∀ p ∈ W', p ∈ W ∨ p.2 = none⌝ ∗ owes (thE d L) O W')

/-- A copy in flight into `m`: it will read `w`, the part `X` of the source coming back with it. -/
def Pend {s : Shape} {e : EltTy} (m : Memref sig .scVector .vmem s e) (sm : DmaSem sig) (w : s.Idx → Elt F e) (R : sProp 𝕄)
    (ℓ : Loc nD τ sig) (q : PosShare TreeShare) (fs : Buf (Elt F) ℓ) : sProp 𝕄 :=
  iprop(∃ X : Finset (Idx ℓ), Transfers.Flight countersEmb (thE d L) (SemLoc.dma sm) (default : HIx 2) m.view.dmaCredit
      iprop(Held d L m fullShare w ∗ R ∗ (ℓ ↦[X]{q} fs)) ∗ (ℓ ↦[Finset.univ \ X]{q} fs))

theorem wp_startH {α : Type} {s : Shape} {e : EltTy} {src : Memref sig .scVector .hbm s e} {dst : Memref sig .scVector .vmem s e} {sm : DmaSem sig}
    {hsrc : src.view.WordExact} {hdst : dst.view.WordExact} {hsem : DmaTarget.Typed (nD := nD) (p := (thE d L).2) .hbm (SemLoc.dma sm) (.here dst)}
    {k : PUnit → Prog (TpuEff nD τ sig (Elt F) Λ₀ (thE d L).2) α} {Q : α → sProp 𝕄} {q : PosShare TreeShare} {fs : Buf (Elt F) (src.view.loc (thE d L))}
    {w0 : s.Idx → Elt F e} (hN0 : 0 < s.numel) (w : s.Idx → Elt F e) (hw : src.view.read (Elt F) fs = w) :
    iprop((src.view.loc (thE d L) ↦{q} fs) ∗ Held d L dst fullShare w0 ∗ semVal (thE d L, SemLoc.dma sm) 0)
      ⊢ iprop((Pend d L dst sm w iprop(emp) (src.view.loc (thE d L)) q fs -∗ wp frame (wpE (defs₀ (F := F)) 𝒱₀ (thE d L) none) Set.univ (k ⟨⟩) Q)
        -∗ wp frame (wpE (defs₀ (F := F)) 𝒱₀ (thE d L) none) Set.univ (.op (.enqueueDma src (.here dst) (.dma sm) hsrc hdst hsem) k) Q) := by
  iintro ⟨Hs, Hd, Hv⟩ Hk
  unfold Held
  icases Hd with ⟨%fd, -, Hd⟩
  ihave Hs' := (pointsTo_split_subset (q := q) (f := fs) (Finset.subset_univ src.view.set)).1 $$ Hs
  icases Hs' with ⟨Hs, Hr⟩
  iapply (Transfers.wp_dmaLocal countersEmb 𝒱₀ (thE d L) none (src := src) (dst := dst) (default : HIx 2) (dst.view.amount (.dma sm)) rfl (View.amount_pos _ _ hN0) (Finset.subset_univ _)) $$ [Hs Hd Hv]
  · isplitl [Hs]; · iexact Hs
    isplitl [Hd]; · iexact Hd
    iexact Hv
  iintro Hfl
  iapply Hk
  unfold Pend
  iexists src.view.set
  isplitl [Hfl]
  · iapply (Transfers.Flight_mono (Ix := HIx 2) countersEmb (thE d L) (D' := iprop(Held d L dst fullShare w ∗ emp ∗ (src.view.loc (thE d L) ↦[src.view.set]{q} fs))) ?_) $$ Hfl
    iintro ⟨Hd, Hs⟩
    isplitl [Hd]
    · unfold Held
      iexists _
      isplitr
      swap
      · iexact Hd
      ipureintro
      rw [← hw]
      exact View.read_write_univ _ _
    · isplitr
      · ipureintro; trivial
      · iexact Hs
  · iexact Hr

theorem wp_waitH {α : Type} {s : Shape} {e : EltTy} {s' : Shape} {e' : EltTy} {sp' : Space} {srcw : Memref sig .scVector sp' s' e'} {dst : Memref sig .scVector .vmem s e} {sm : DmaSem sig}
    {hsrc : srcw.view.WordExact} {hdst : dst.view.WordExact} {R : sProp 𝕄}
    {k : PUnit → Prog (TpuEff nD τ sig (Elt F) Λ₀ (thE d L).2) α} {Q : α → sProp 𝕄} {ℓ : Loc nD τ sig} {q : PosShare TreeShare} {fs : Buf (Elt F) ℓ}
    {w : s.Idx → Elt F e} {O : CellTallies nD τ sig (HIx 2)} {W : Waits sig (HIx 2)} :
    iprop(Pend d L dst sm w R ℓ q fs ∗ OW d L O W ∗ (Transfers.MayWaits (thE d L) (default : HIx 2) O : sProp 𝕄))
      ⊢ iprop(((Held d L dst fullShare w ∗ R ∗ (ℓ ↦{q} fs) ∗ semVal (thE d L, SemLoc.dma sm) 0 ∗ OW d L O W) -∗ wp frame (wpE (defs₀ (F := F)) 𝒱₀ (thE d L) none) Set.univ (k ⟨⟩) Q)
        -∗ wp frame (wpE (defs₀ (F := F)) 𝒱₀ (thE d L) none) Set.univ (.op (.waitDma2 sm srcw dst hsrc hdst) k) Q) := by
  iintro ⟨Hp, HO, Hmw⟩ Hk
  unfold Pend OW
  icases Hp with ⟨%X, Hfl, Hr⟩
  icases HO with ⟨%W', %hW, HO⟩
  iapply (Transfers.wp_waitLocalO countersEmb 𝒱₀ (thE d L) none (dstw := dst) (default : HIx 2) (N := dst.view.dmaCredit) rfl) $$ [Hfl HO Hmw]
  · isplitl [Hfl]; · iexact Hfl
    isplitl [HO]; · iexact HO
    iapply (Transfers.MayWaits.elim (SemLoc.dma sm)) $$ Hmw
  iintro ⟨⟨Hd, HR, Hs⟩, Hv, HO⟩
  iapply Hk
  ihave Hs' := (pointsTo_split_subset (q := q) (f := fs) (Finset.subset_univ X)).2 $$ [Hs Hr]; · isplitl [Hs] <;> iassumption
  isplitl [Hd]; · iexact Hd
  isplitl [HR]; · iexact HR
  isplitl [Hs']; · iexact Hs'
  isplitl [Hv]; · iexact Hv
  iexists _
  isplitr
  swap
  · iexact HO
  ipureintro
  intro p hp
  rcases Finset.mem_insert.1 hp with rfl | hp
  · exact Or.inr rfl
  · exact hW p hp

theorem wp_gatherH {α : Type} {s₀ s si : Shape} {a : ℕ} {src : Memref sig .scVector .hbm s₀ .f32} {dst : Memref sig .scVector .vmem s .f32} {hg : s₀.Gathers a s}
    {offs : Memref sig .scVector .vmem si .i32} {hn : si.numel = s.size hg.axis'} {sem : DmaSem sig}
    {hp : (thE d L).2.kind = .scVector} {hsrc : src.view.WordExact} {he : EltTy.f32.bits = 32} {hsp : Space.hbm = .hbm ∨ Space.hbm = .shared} {hr : s₀.StreamRows a}
    {k : PUnit → Prog (TpuEff nD τ sig (Elt F) Λ₀ (thE d L).2) α} {Q : α → sProp 𝕄} {q : PosShare TreeShare} {fs : Buf (Elt F) (src.view.loc (thE d L))}
    {w0 : s.Idx → Elt F .f32} {idx : si.Idx → BitVec 32}
    (hN : ∑ j, (dst.slice (s.rowRect hg.axis' j) (s.stride_rowRect hg.axis' j)).view.dmaCredit = dst.view.dmaCredit)
    (hs : 0 < s.numel) (hR : dst.view.set = Finset.univ) (hI : offs.view.set = Finset.univ) (hin : ∀ x, (idx x).toNat < s₀.size hg.axis)
    (w : s.Idx → Elt F .f32) (hw : SparseCore.gatherPayload hg (src.view.read (Elt F) fs) (SparseCore.rows (F := F) idx hn hin) = w) :
    iprop((src.view.loc (thE d L) ↦{q} fs) ∗ Held d L dst fullShare w0 ∗ Held d L offs fullShare (e := .i32) idx ∗ semVal (thE d L, SemLoc.dma sem) 0)
      ⊢ iprop((Pend d L dst sem w (Held d L offs fullShare (e := .i32) idx) (src.view.loc (thE d L)) q fs -∗ wp frame (wpE (defs₀ (F := F)) 𝒱₀ (thE d L) none) Set.univ (k ⟨⟩) Q)
        -∗ wp frame (wpE (defs₀ (F := F)) 𝒱₀ (thE d L) none) Set.univ (SparseCore.enqueueIndirectGather hp src dst hg offs hn sem hsrc he hsp hr >>= k) Q) := by
  iintro ⟨Hs, Hd, Ho, Hv⟩ Hk
  unfold Held
  icases Hd with ⟨%fd, -, Hd⟩
  icases Ho with ⟨%fo, %ho, Ho⟩
  ihave Hs' := (pointsTo_split_subset (q := q) (f := fs) (Finset.subset_univ src.view.set)).1 $$ Hs
  icases Hs' with ⟨Hs, Hr⟩
  subst ho
  iapply (SparseCore.wp_indirectGatherLocal countersEmb 𝒱₀ (thE d L) none (src := src) (dst := dst) (hg := hg) (offs := offs) (fd := fd) (fo := fo) (q := q) (fs := fs) (qo := fullShare)
    (default : HIx 2) dst.view.dmaCredit hN hs hin) $$ [Hs Hd Ho Hv]
  · isplitl [Hs]; · iexact Hs
    isplitl [Hd]; · rw [hR]; iexact Hd
    isplitl [Ho]; · rw [hI]; iexact Ho
    iexact Hv
  iintro Hfl
  iapply Hk
  unfold Pend
  iexists src.view.set
  isplitl [Hfl]
  · iapply (Transfers.Flight_mono (Ix := HIx 2) countersEmb (thE d L) (D' := iprop(Held d L dst fullShare w ∗ Held d L offs fullShare (e := .i32) (offs.view.read (Elt F) fo) ∗ (src.view.loc (thE d L) ↦[src.view.set]{q} fs))) ?_) $$ Hfl
    rw [hR, hI]
    iintro ⟨Hd, Hs, Ho⟩
    isplitl [Hd]
    · unfold Held
      iexists _
      isplitr
      swap
      · iexact Hd
      ipureintro
      rw [← hw]
      exact View.read_write_univ _ _
    isplitl [Ho]
    · unfold Held
      iexists fo
      isplitr
      · ipureintro; rfl
      · iexact Ho
    · iexact Hs
  · iexact Hr

end

end Cert.Proof

end
-- ==== Proof.EdgeProg.lean ====
/-
  The second call's program in its own repeated pieces: the sixteen row updates of a trip, the sixteen row numbers of a trip,
  the start of a chunk's two copies, the start of a chunk's gather, and half of a trip of the chunk loop.
-/
module

public import proofs.«01_k».proof.Proof.EdgeHeld
public import Idealize.ShloMosaic.Lib.WordArith.Masks

@[expose] public section

noncomputable section

namespace Cert.Proof

open Cert.KernelIdeal Cert.KernelIdeal.Gen

open Idealize.ShloMosaic
open Idealize.ShloMosaic.SparseCore (S V T)
open Idealize.SL.Sem

variable {F : FTy → Type} [FloatOps F]

abbrev PE (F : FTy → Type) (L : grid1.Coords) (α : Type) : Type 1 := Prog (TpuEff nD τ sig (Elt F) Λ₀ (.scVector ((L 0).castLE hcore1) ((L 1).castLE hsub1))) α

abbrev v5V : Memref sig .scVector .hbm S320000x16 .f32 := Memref.whole main_v5_scv
abbrev v6V : Memref sig .scVector .hbm S327680 .i32 := Memref.whole main_v6_scv
abbrev v7V : Memref sig .scVector .hbm S327680 .i32 := Memref.whole main_v7_scv
abbrev v42E : Memref sig .scVector .hbm S32x16 .i32 := Memref.whole main_v4_2_scv
abbrev v8V : Memref sig .scVector .hbm S10000x512 .f32 := Memref.whole main_v8_scv
abbrev cntM : Memref sig .scVector .vmem S32x16 .i32 := Memref.whole cc1_scratch0
abbrev tab0M : Memref sig .scVector .vmem S544 .i32 := Memref.whole cc1_scratch1
abbrev tab1M : Memref sig .scVector .vmem S544 .i32 := Memref.whole cc1_scratch2
abbrev accM : Memref sig .scVector .vmem S5008x16 .f32 := Memref.whole cc1_scratch11

/-- One of the two sets of buffers a chunk passes through: source ids, target ids, row numbers, rows; and their semaphores. -/
structure Slot where
  sS : Memref sig .scVector .vmem S512 .i32
  sD : Memref sig .scVector .vmem S512 .i32
  sI : Memref sig .scVector .vmem S512 .i32
  sR : Memref sig .scVector .vmem S512x16 .f32
  wS : sS.IsWhole
  wD : sD.IsWhole
  wI : sI.IsWhole
  wR : sR.IsWhole
  mS : DmaSem sig
  mD : DmaSem sig
  mG : DmaSem sig
  hI : sI.view.set = Finset.univ
  hR : sR.view.set = Finset.univ
  hN : ∑ j, (sR.slice (S512x16.rowRect gathers_S320000x16_S512x16.axis' j) (S512x16.stride_rowRect gathers_S320000x16_S512x16.axis' j)).view.dmaCredit = sR.view.dmaCredit

def slotA : Slot where
  sS := Memref.whole cc1_scratch3
  sD := Memref.whole cc1_scratch5
  sI := Memref.whole cc1_scratch7
  sR := Memref.whole cc1_scratch9
  wS := Memref.isWhole_whole _
  wD := Memref.isWhole_whole _
  wI := Memref.isWhole_whole _
  wR := Memref.isWhole_whole _
  mS := cc1_scratch12.sem
  mD := cc1_scratch14.sem
  mG := cc1_scratch16.sem
  hI := View.set_whole _
  hR := View.set_whole _
  hN := SparseCore.sum_rowCredit_eq_dmaCredit _ _ (fun _ => rfl)

def slotB : Slot where
  sS := Memref.whole cc1_scratch4
  sD := Memref.whole cc1_scratch6
  sI := Memref.whole cc1_scratch8
  sR := Memref.whole cc1_scratch10
  wS := Memref.isWhole_whole _
  wD := Memref.isWhole_whole _
  wI := Memref.isWhole_whole _
  wR := Memref.isWhole_whole _
  mS := cc1_scratch13.sem
  mD := cc1_scratch15.sem
  mG := cc1_scratch17.sem
  hI := View.set_whole _
  hR := View.set_whole _
  hN := SparseCore.sum_rowCredit_eq_dmaCredit _ _ (fun _ => rfl)

/-! ## The pieces -/

/-- The row of the maxima the word `v` names. -/
def offA (v : BitVec 32) : Fin 2 → ℕ := ![(Scalar.indexCast v).toNat, 0]
/-- Row `16 * t + l` of a chunk's rows, as the kernel computes it. -/
def offR (t l : ℕ) : Fin 2 → ℕ := ![(Scalar.indexCast (Scalar.addi (Scalar.muli (Scf.iv 0#32 1#32 t) 16#32) (BitVec.ofNat 32 l))).toNat, 0]

theorem offR_eq (t l : ℕ) (ht : t < 32) (hl : l < 16) : offR t l = ![16 * t + l, 0] := by
  have e : (Scalar.indexCast (Scalar.addi (Scalar.muli (Scf.iv 0#32 1#32 t) 16#32) (BitVec.ofNat 32 l))).toNat = 16 * t + l := by
    show (Scf.iv 0#32 1#32 t * 16#32 + BitVec.ofNat 32 l).toNat = _
    rw [BitVec.toNat_add, BitVec.toNat_mul, WordArith.toNat_iv_zero_one _ (by omega), BitVec.toNat_ofNat, BitVec.toNat_ofNat]
    omega
  unfold offR
  rw [e]

theorem offR_inb (t : Fin 32) (l : Fin 16) : ∀ a, offR t.val l.val a + S1x16.size a ≤ S512x16.size a := by
  rw [offR_eq t l t.isLt l.isLt]
  have ht := t.isLt
  have hl := l.isLt
  intro a
  match a with
  | 0 => show 16 * t.val + l.val + 1 ≤ 512; omega
  | 1 => show 0 + 16 ≤ 16; omega

theorem laneSlice (l : Fin 16) : S16.Slices ![l.val] S1 := by
  revert l; decide

/-- Lane `l` of the rows named by the target ids `v`. -/
def laneOf (l : Fin 16) (rowsOf : IVec S16 32) : BitVec 32 := extractAt ![0] (extractStridedSlice S1 ![l.val] rowsOf (laneSlice l)) inpos_S1_p0

/-- One row update. -/
def stepP (L : grid1.Coords) (C : Prop) (hC : C) (dec : ∀ v, Decidable (C → ∀ a, offA v a + S1x16.size a ≤ S5008x16.size a)) (mR : Memref sig .scVector .vmem S512x16 .f32)
    (t : Fin 32) (rowsOf : IVec S16 32) (l : Fin 16) (k : PE F L (BitVec 32)) : PE F L (BitVec 32) :=
  .op (.assume (C → ∀ a, offA (laneOf l rowsOf) a + S1x16.size a ≤ S5008x16.size a) (dec (laneOf l rowsOf))) fun h =>
  .op (.load mR (Rect.unit (s := S512x16) (offR t.val l.val) S1x16.size (offR_inb t l)).toLoadRect (View.loadsAt_vmem h_S1x16)) fun r =>
  .op (.load accM (Rect.unit (s := S5008x16) (offA (laneOf l rowsOf)) S1x16.size (h.down hC)).toLoadRect (View.loadsAt_vmem h_S1x16)) fun a =>
  .op (.load accM (Rect.unit (s := S5008x16) (offA (laneOf l rowsOf)) S1x16.size (h.down hC)).toLoadRect (View.loadsAt_vmem h_S1x16)) fun _ =>
  .op (.store accM (Rect.unit (s := S5008x16) (offA (laneOf l rowsOf)) S1x16.size (h.down hC))
    (shapeCast S1x16 (maximumf (shapeCast S16 a shapeCasts_S1x16_S16) (shapeCast S16 r shapeCasts_S1x16_S16)) shapeCasts_S16_S1x16) Finset.univ (View.stores_vmem_bits_univ h_S1x16 rfl) (.inl rfl)) fun _ => k

abbrev lanes : List (Fin 16) := [0, 1, 2, 3, 4, 5, 6, 7, 8, 9, 10, 11, 12, 13, 14, 15]

/-- The sixteen row updates of a trip. -/
def rmwP (L : grid1.Coords) (C : Prop) (hC : C) (dec : ∀ v, Decidable (C → ∀ a, offA v a + S1x16.size a ≤ S5008x16.size a)) (b : BitVec 32) (mD : Memref sig .scVector .vmem S512 .i32) (mR : Memref sig .scVector .vmem S512x16 .f32)
    (t : Fin 32) (off : Fin 1 → ℕ) (inb : ∀ a, off a + S16.size a ≤ S512.size a) : PE F L (BitVec 32) :=
  .op (.load mD (Rect.unit (s := S512) off S16.size inb).toLoadRect (View.loadsAt_vmem h_S16)) fun v =>
    lanes.foldr (stepP L C hC dec mR t (fun x => dcOf b (v x))) (.ret 0#32)

/-- The sixteen row numbers of a trip. -/
def idxP (L : grid1.Coords) (mS mI : Memref sig .scVector .vmem S512 .i32) (off : Fin 1 → ℕ) (inb : ∀ a, off a + S16.size a ≤ S512.size a) (pay : IVec S16 32 → IVec S16 32) : PE F L (BitVec 32) := do
  let v : Vec F S16 .i32 ← Prog.lift (.load mS (Rect.unit (s := S512) off S16.size inb).toLoadRect (View.loadsAt_vmem h_S16))
  let _v ← Prog.lift (.load mI (Rect.unit (s := S512) off S16.size inb).toLoadRect (View.loadsAt_vmem h_S16))
  Prog.lift (.store mI (Rect.unit (s := S512) off S16.size inb) (pay v) Finset.univ (View.stores_vmem_bits_univ h_S16 rfl) (.inl rfl))
  pure 0#32

/-- The start of a chunk's two copies, its offset read off the table, and then `k`. -/
def startP (L : grid1.Coords) (Sl : Slot) (tabM : Memref sig .scVector .vmem S544 .i32) (offT : Fin 1 → ℕ) (inbT : ∀ a, offT a + S16.size a ≤ S544.size a) (get : IVec S16 32 → BitVec 32)
    (P : BitVec 32 → Prop) (dec : ∀ v, Decidable (P v)) (offS : BitVec 32 → Fin 1 → ℕ) (inbS : ∀ v, P v → ∀ a, offS v a + S512.size a ≤ S327680.size a) {α : Type} (k : PE F L α) : PE F L α :=
  .op (.load tabM (Rect.unit (s := S544) offT S16.size inbT).toLoadRect (View.loadsAt_vmem h_S16)) fun (v : Vec F S16 .i32) =>
  .op (.assume (P (get v)) (dec (get v))) fun h =>
  .op (.enqueueDma (v6V.slice (Rect.unit (s := S327680) (offS (get v)) S512.size (inbS _ h.down)) (fun _ => rfl)) (.here Sl.sS) (.dma Sl.mS) (View.wordExact_bits rfl) Sl.wS.wordExact ⟨Or.inl rfl, trivial⟩) fun _ =>
  .op (.enqueueDma (v7V.slice (Rect.unit (s := S327680) (offS (get v)) S512.size (inbS _ h.down)) (fun _ => rfl)) (.here Sl.sD) (.dma Sl.mD) (View.wordExact_bits rfl) Sl.wD.wordExact ⟨Or.inl rfl, trivial⟩) fun _ => k

/-- The two copies' ends, the row numbers, the gather's start, and then `k`. -/
def gatherP (L : grid1.Coords) (Sl : Slot) (body : Fin (Scf.Loop.trips ⟨0#32, 32#32, 1#32⟩) → BitVec 32 → PE F L (BitVec 32)) (ok : Scf.Loop.OK ⟨0#32, 32#32, 1#32⟩) {α : Type} (k : PE F L α) : PE F L α :=
  .op (.waitDma2 Sl.mS (v6V.slice (Rect.unit (s := S327680) ![0] S512.size inb_S327680_S512_0) (fun _ => rfl)) Sl.sS (View.wordExact_bits rfl) Sl.wS.wordExact) fun _ =>
  .op (.waitDma2 Sl.mD (v7V.slice (Rect.unit (s := S327680) ![0] S512.size inb_S327680_S512_0) (fun _ => rfl)) Sl.sD (View.wordExact_bits rfl) Sl.wD.wordExact) fun _ =>
  (Scf.Loop.for ⟨0#32, 32#32, 1#32⟩ ok 0#32 body) >>= fun _ =>
  (SparseCore.enqueueIndirectGather rfl (v5V.slice (Rect.unit (s := S320000x16) ![0, 0] S320000x16.size inb_S320000x16_S320000x16_0_0) (fun _ => rfl)) Sl.sR gathers_S320000x16_S512x16 Sl.sI rfl Sl.mG (View.wordExact_bits rfl) rfl (Or.inl rfl) : PE F L PUnit) >>= fun _ => k

/-- Half of a trip of the chunk loop, and then `k`: the next chunk's gather started, this chunk's rows taken in, the chunk
    after the next's copies started. -/
def halfP (L : grid1.Coords) (cur : Slot) (C3 : Prop) [Decidable C3] (C4 : Prop) [Decidable C4] (C5 : Prop) [Decidable C5] (ok : Scf.Loop.OK ⟨0#32, 32#32, 1#32⟩) (gat : PE F L (BitVec 32) → PE F L (BitVec 32))
    (rmw : C3 → Fin (Scf.Loop.trips ⟨0#32, 32#32, 1#32⟩) → BitVec 32 → PE F L (BitVec 32)) (start : C3 → C5 → PE F L (BitVec 32) → PE F L (BitVec 32)) (k : PE F L (BitVec 32)) : PE F L (BitVec 32) :=
  if h3 : C3 then
    let r : PE F L (BitVec 32) := (SparseCore.waitIndirectGather cur.mG (v5V.slice (Rect.unit (s := S320000x16) ![0, 0] S320000x16.size inb_S320000x16_S320000x16_0_0) (fun _ => rfl)) cur.sR (View.wordExact_bits rfl) cur.wR.wordExact : PE F L PUnit) >>= fun _ =>
      (Scf.Loop.for ⟨0#32, 32#32, 1#32⟩ ok 0#32 (rmw h3)) >>= fun _ =>
      if h5 : C5 then start h3 h5 k else k
    if C4 then gat r else r
  else k

/-! ## The printed loops are these pieces -/

set_option maxRecDepth 65536
set_option maxHeartbeats 4000000

theorem t7_eq (L : grid1.Coords) (v4 : BitVec 32) (t5 : Fin (k1_t5_loop v4).trips) (h3 : k1_cond3 v4 t5 = 1#1) (t : Fin k1_t7_loop.trips) :
    k1_part7 (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2 v4 t5 h3 0#32 1#32 t
      = rmwP L (k1_cond3 v4 t5 = 1#1) h3 (k1_chk6.dec v4 t5) 0#32 slotA.sD slotA.sR t (k1_off8 t) (k1_off8_inb t) := rfl

theorem t9_eq (L : grid1.Coords) (v4 : BitVec 32) (t5 : Fin (k1_t5_loop v4).trips) (h6 : k1_cond6 v4 t5 = 1#1) (t : Fin k1_t9_loop.trips) :
    k1_part14 (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2 v4 t5 h6 0#32 1#32 t
      = rmwP L (k1_cond6 v4 t5 = 1#1) h6 (k1_chk23.dec v4 t5) 0#32 slotB.sD slotB.sR t (k1_off44 t) (k1_off44_inb t) := rfl

theorem t19_eq (L : grid1.Coords) (v6 : BitVec 32) (t17 : Fin (k1_t17_loop v6).trips) (h17 : k1_cond17 v6 t17 = 1#1) (t : Fin k1_t19_loop.trips) :
    k1_part36 (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2 v6 t17 h17 0#32 1#32 t
      = rmwP L (k1_cond17 v6 t17 = 1#1) h17 (k1_chk77.dec v6 t17) 5000#32 slotA.sD slotA.sR t (k1_off157 t) (k1_off157_inb t) := rfl

theorem t21_eq (L : grid1.Coords) (v6 : BitVec 32) (t17 : Fin (k1_t17_loop v6).trips) (h20 : k1_cond20 v6 t17 = 1#1) (t : Fin k1_t21_loop.trips) :
    k1_part43 (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2 v6 t17 h20 0#32 1#32 t
      = rmwP L (k1_cond20 v6 t17 = 1#1) h20 (k1_chk94.dec v6 t17) 5000#32 slotB.sD slotB.sR t (k1_off193 t) (k1_off193_inb t) := rfl

/-- The chunk number's place in its row of eight of the table. -/
def tabOff (w : BitVec 32) : Fin 1 → ℕ := ![(Scalar.indexCast (Scalar.muli (fdiv w 8#32) 8#32)).toNat]
def tabGet (v2 : IVec S16 32) (w : BitVec 32) (v : IVec S16 32) : BitVec 32 :=
  extractAt ![15] (scan .sum (select (cmpi .eq v2 (broadcast S16 (Scalar.subi w (Scalar.muli (fdiv w 8#32) 8#32)))) v (broadcast S16 0#32))) inpos_S16_p15
def srcOff (v : BitVec 32) : Fin 1 → ℕ := ![(Scalar.muli (fdiv v 16#32) 16#32).toNat]
def below (x y : BitVec 32) : BitVec 1 := Scalar.cmpi .ne (Scalar.extui (Scalar.cmpi .slt x y)) 0#32
def trip2 (t : ℕ) : BitVec 32 := Scalar.muli 2#32 (Scf.iv 0#32 1#32 t)

theorem t5_eq (L : grid1.Coords) (v1 : BitVec 32) (v2 : IVec S16 32) (v4 : BitVec 32) (hw : k1_chk5 v4) (v20 c2 : BitVec 32) (t : Fin (k1_t5_loop v4).trips) (a : BitVec 32) :
    k1_t5_body (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2 v1 v2 v4 hw v20 c2 t a
      = (
        halfP L slotA (k1_cond3 v4 t = 1#1) (below (Scalar.addi (trip2 t) 1#32) v4 = 1#1) (k1_cond5 v4 t = 1#1) k1_t7_ok
          (gatherP L slotB (fun k _ => idxP L slotB.sS slotB.sI (k1_off7 k) (k1_off7_inb k) (k1_pay312 (F := F) v1)) k1_t6_ok)
          (fun h3 k _ => rmwP L (k1_cond3 v4 t = 1#1) h3 (k1_chk6.dec v4 t) 0#32 slotA.sD slotA.sR k (k1_off8 k) (k1_off8_inb k))
          (fun h3 h5 => startP L slotA tab0M (tabOff (Scalar.addi (trip2 t) 2#32)) (k1_off41_inb v4 hw t h3 h5) (tabGet v2 (Scalar.addi (trip2 t) 2#32)) (k1_chk22 v4 t) (k1_chk22.dec v4 t) srcOff
            (fun v h => k1_off42_inb v4 t v h h3 h5)) <|
        halfP L slotB (k1_cond6 v4 t = 1#1) (below (Scalar.addi (Scalar.addi (trip2 t) 1#32) 1#32) v4 = 1#1) (k1_cond8 v4 t = 1#1) k1_t9_ok
          (gatherP L slotA (fun k _ => idxP L slotA.sS slotA.sI (k1_off43 k) (k1_off43_inb k) (k1_pay313 (F := F) v1)) k1_t8_ok)
          (fun h6 k _ => rmwP L (k1_cond6 v4 t = 1#1) h6 (k1_chk23.dec v4 t) 0#32 slotB.sD slotB.sR k (k1_off44 k) (k1_off44_inb k))
          (fun h6 h8 => startP L slotB tab0M (tabOff (Scalar.addi (Scalar.addi (trip2 t) 1#32) 2#32)) (k1_off77_inb v4 hw t h6 h8) (tabGet v2 (Scalar.addi (Scalar.addi (trip2 t) 1#32) 2#32)) (k1_chk39 v4 t) (k1_chk39.dec v4 t) srcOff
            (fun v h => k1_off78_inb v4 t v h h6 h8))
        (pure 0#32)) := rfl

theorem t17_eq (L : grid1.Coords) (v1 : BitVec 32) (v2 : IVec S16 32) (v6 : BitVec 32) (hw : k1_chk76 v6) (t : Fin (k1_t17_loop v6).trips) (a : BitVec 32) :
    k1_t17_body (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2 v1 v2 v6 hw 0#32 t a
      = (
        halfP L slotA (k1_cond17 v6 t = 1#1) (below (Scalar.addi (trip2 t) 1#32) v6 = 1#1) (k1_cond19 v6 t = 1#1) k1_t19_ok
          (gatherP L slotB (fun k _ => idxP L slotB.sS slotB.sI (k1_off156 k) (k1_off156_inb k) (k1_pay1 (F := F) v1)) k1_t18_ok)
          (fun h3 k _ => rmwP L (k1_cond17 v6 t = 1#1) h3 (k1_chk77.dec v6 t) 5000#32 slotA.sD slotA.sR k (k1_off157 k) (k1_off157_inb k))
          (fun h3 h5 => startP L slotA tab1M (tabOff (Scalar.addi (trip2 t) 2#32)) (k1_off190_inb v6 hw t h3 h5) (tabGet v2 (Scalar.addi (trip2 t) 2#32)) (k1_chk93 v6 t) (k1_chk93.dec v6 t) srcOff
            (fun v h => k1_off191_inb v6 t v h h3 h5)) <|
        halfP L slotB (k1_cond20 v6 t = 1#1) (below (Scalar.addi (Scalar.addi (trip2 t) 1#32) 1#32) v6 = 1#1) (k1_cond22 v6 t = 1#1) k1_t21_ok
          (gatherP L slotA (fun k _ => idxP L slotA.sS slotA.sI (k1_off192 k) (k1_off192_inb k) (k1_pay2 (F := F) v1)) k1_t20_ok)
          (fun h6 k _ => rmwP L (k1_cond20 v6 t = 1#1) h6 (k1_chk94.dec v6 t) 5000#32 slotB.sD slotB.sR k (k1_off193 k) (k1_off193_inb k))
          (fun h6 h8 => startP L slotB tab1M (tabOff (Scalar.addi (Scalar.addi (trip2 t) 1#32) 2#32)) (k1_off226_inb v6 hw t h6 h8) (tabGet v2 (Scalar.addi (Scalar.addi (trip2 t) 1#32) 2#32)) (k1_chk110 v6 t) (k1_chk110.dec v6 t) srcOff
            (fun v h => k1_off227_inb v6 t v h h6 h8))
        (pure 0#32)) := rfl

end Cert.Proof

end
-- ==== Proof.EdgeRun.lean ====
/-
  The second call's pieces run: the row updates, the row numbers, a chunk's copies and its gather.
-/
module

public import proofs.«01_k».proof.Proof.EdgeProg

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

theorem emb_val {s : Shape} {off size : Fin s.rank → ℕ} (inb : ∀ a, off a + size a ≤ s.size a) (x : (Rect.unit off size inb).shape.Idx) (a : Fin s.rank) :
    ((Rect.unit off size inb).emb x a).val = off a + (x a).val := by
  show off a + 1 * _ = _
  rw [Nat.one_mul]

theorem emb_val' {s : Shape} {off off' size : Fin s.rank → ℕ} (h : off = off') (inb : ∀ a, off a + size a ≤ s.size a) (x : (Rect.unit off size inb).shape.Idx) (a : Fin s.rank) :
    ((Rect.unit off size inb).emb x a).val = off' a + (x a).val := by
  subst h
  exact emb_val inb x a

theorem castBack {α : Type} (f : S1x16.Idx → α) (x : S1x16.Idx) : shapeCast S16 f shapeCasts_S1x16_S16 (Shape.reshapeEquiv shapeCasts_S16_S1x16 x) = f x := by
  refine congrArg f ?_
  unfold Shape.reshapeEquiv
  simp

theorem laneOf_eq (l : Fin 16) (v : IVec S16 32) : laneOf l v = v (ix1 l) := by
  unfold laneOf
  refine congrArg v ?_
  funext a
  match a with
  | 0 => exact Fin.ext (Nat.add_zero _)

section

variable (d : Dev nD) (L : grid1.Coords)

abbrev WPE {α : Type} (p : PE F L α) (Q : α → sProp 𝕄) : sProp 𝕄 := wp frame (wpE (defs₀ (F := F)) 𝒱₀ (thE d L) none) Set.univ p Q

/-- The running maxima, right for the edges in `Dn`. -/
def AccI (b : ℕ) (Dn : BitVec 32 → BitVec 32 → Prop) (g : BitVec 32 → Fin 16 → F .f32) : sProp 𝕄 :=
  iprop(∃ acc : S5008x16.Idx → F .f32, ⌜AccOK b Dn g acc⌝ ∗ Held d L accM fullShare (e := .f32) acc)

theorem AccI_congr {b : ℕ} {Dn Dn' : BitVec 32 → BitVec 32 → Prop} {g : BitVec 32 → Fin 16 → F .f32} (h : ∀ s d, Dn s d ↔ Dn' s d) :
    AccI d L b Dn g ⊢ AccI d L b Dn' g := by
  unfold AccI
  iintro ⟨%acc, %h', H⟩
  iexists acc
  isplitr
  · ipureintro; exact AccOK_congr h h'
  · iexact H

theorem dcOf_le {b : ℕ} (hb : b = 0 ∨ b = 5000) (w : BitVec 32) (hw : w.toNat ≤ 10000) : (dcOf (BitVec.ofNat 32 b) w).toNat ≤ 5000 := by
  rw [dcOf_toNat b hb w hw]
  split <;> omega

/-! ## One row update -/

theorem wp_stepP {b : ℕ} (hb : b = 0 ∨ b = 5000) {Dn : BitVec 32 → BitVec 32 → Prop} {g : BitVec 32 → Fin 16 → F .f32} {sv dv : S512.Idx → BitVec 32}
    {rv : S512x16.Idx → F .f32} (hrv : ∀ x, rv x = g (sv (ix1 (n := 512) (x 0))) (x 1)) (hdv : ∀ x, (dv x).toNat ≤ 10000)
    {C : Prop} {hC : C} {dec : ∀ v, Decidable (C → ∀ a, offA v a + S1x16.size a ≤ S5008x16.size a)} {mR : Memref sig .scVector .vmem S512x16 .f32}
    (t : Fin 32) (l : Fin 16) {rowsOf : IVec S16 32} {k : PE F L (BitVec 32)} {Q : BitVec 32 → sProp 𝕄}
    (hrow : rowsOf (ix1 l) = dcOf (BitVec.ofNat 32 b) (dv (ix1 (n := 512) ⟨16 * t.val + l.val, by omega⟩))) :
    iprop(Held d L mR fullShare (e := .f32) rv ∗ AccI d L b (Upto Dn sv dv (16 * t.val + l.val)) g)
      ⊢ iprop((Held d L mR fullShare (e := .f32) rv ∗ AccI d L b (Upto Dn sv dv (16 * t.val + (l.val + 1))) g -∗ WPE d L k Q)
        -∗ WPE d L (stepP L C hC dec mR t rowsOf l k) Q) := by
  have hj : 16 * t.val + l.val < 512 := by have := t.isLt; have := l.isLt; omega
  have hle := dcOf_le hb (dv (ix1 (n := 512) ⟨16 * t.val + l.val, hj⟩)) (hdv _)
  have hA : offA (laneOf l rowsOf) = ![(dcOf (BitVec.ofNat 32 b) (dv (ix1 (n := 512) ⟨16 * t.val + l.val, hj⟩))).toNat, 0] := by
    rw [laneOf_eq, hrow]; rfl
  have hchk : C → ∀ a, offA (laneOf l rowsOf) a + S1x16.size a ≤ S5008x16.size a := fun _ a => by
    rw [hA]
    match a with
    | 0 => show _ + 1 ≤ 5008; simp only [Matrix.cons_val_zero]; omega
    | 1 => show 0 + 16 ≤ 16; omega
  iintro ⟨HR, HA⟩ Hk
  unfold stepP WPE
  rw [wp_assume_of _ _ _ _ hchk]
  iapply (wp_loadH d L) $$ HR; iintro HR
  unfold AccI
  icases HA with ⟨%acc, %hacc, HA⟩
  iapply (wp_loadH d L) $$ HA; iintro HA
  iapply (wp_loadH d L) $$ HA; iintro HA
  iapply (wp_storeH d L (fun x => if (x 0).val = (dcOf (BitVec.ofNat 32 b) (dv (ix1 (n := 512) ⟨16 * t.val + l.val, hj⟩))).toNat
      then FloatOps.maximumf (acc x) (g (sv (ix1 (n := 512) ⟨16 * t.val + l.val, hj⟩)) (x 1)) else acc x) ?_ ?_) $$ HA
  rotate_left 2
  · iintro HA
    iapply Hk
    isplitl [HR]; · iexact HR
    iexists _
    isplitr
    swap
    · iexact HA
    ipureintro
    refine (AccOK_step hb hacc (ix1 (n := 512) ⟨16 * t.val + l.val, hj⟩) rfl (hdv _) (fun x hx => if_pos hx) (fun x hx => if_neg hx) : _)
  · intro x
    have hx0 : (x 0).val < 1 := (x 0).isLt
    have e0 : ((Rect.unit (s := S5008x16) (offA (laneOf l rowsOf)) S1x16.size (hchk hC)).emb x 0).val = (dcOf (BitVec.ofNat 32 b) (dv (ix1 (n := 512) ⟨16 * t.val + l.val, hj⟩))).toNat :=
      (emb_val' (s := S5008x16) hA (hchk hC) x 0).trans (by show (dcOf _ _).toNat + (x 0).val = _; omega)
    have e1 : ((Rect.unit (s := S5008x16) (offA (laneOf l rowsOf)) S1x16.size (hchk hC)).emb x 1).val = (x 1).val :=
      (emb_val' (s := S5008x16) hA (hchk hC) x 1).trans (Nat.zero_add _)
    have r0 : ((Rect.unit (s := S512x16) (offR t.val l.val) S1x16.size (offR_inb t l)).emb x 0).val = 16 * t.val + l.val :=
      (emb_val' (s := S512x16) (offR_eq t l t.isLt l.isLt) (offR_inb t l) x 0).trans (by show 16 * t.val + l.val + (x 0).val = _; omega)
    have r1 : ((Rect.unit (s := S512x16) (offR t.val l.val) S1x16.size (offR_inb t l)).emb x 1).val = (x 1).val :=
      (emb_val' (s := S512x16) (offR_eq t l t.isLt l.isLt) (offR_inb t l) x 1).trans (Nat.zero_add _)
    dsimp only
    rw [if_pos e0]
    refine Eq.trans (congrArg (FloatOps.maximumf _) ?_) (show FloatOps.maximumf (acc ((Rect.unit (s := S5008x16) (offA (laneOf l rowsOf)) S1x16.size (hchk hC)).emb x)) (rv ((Rect.unit (s := S512x16) (offR t.val l.val) S1x16.size (offR_inb t l)).emb x)) = _ from ?_)
    · rw [hrv]
      exact congrArg₂ (fun (a : Fin 512) c => g (sv (ix1 (n := 512) a)) c) (Fin.ext r0.symm) (Fin.ext (e1.trans r1.symm))
    · show _ = FloatOps.maximumf (acc _) (rv _)
      have hsh : ∀ (f : S1x16.Idx → F .f32), shapeCast S16 f shapeCasts_S1x16_S16 (Shape.reshapeEquiv shapeCasts_S16_S1x16 x) = f x := fun f =>
        castBack f x
      exact (congrArg₂ FloatOps.maximumf (hsh (fun x => acc ((Rect.unit (s := S5008x16) (offA (laneOf l rowsOf)) S1x16.size (hchk hC)).emb x))) (hsh (fun x => rv ((Rect.unit (s := S512x16) (offR t.val l.val) S1x16.size (offR_inb t l)).emb x)))).symm
  · intro y hy
    dsimp only
    refine if_neg fun h => ?_
    refine hy (ix2 (n := 1) (k := 16) 0 (y 1)) (unit_emb_eq (hchk hC) _ y fun a => ?_)
    refine (?_ : (y a).val = offA (laneOf l rowsOf) a + (ix2 (n := 1) (k := 16) 0 (y 1) a).val)
    rw [congrFun hA a]
    match a with
    | 0 => exact h
    | 1 => exact (Nat.zero_add _).symm

theorem wp_stepsP {b : ℕ} (hb : b = 0 ∨ b = 5000) {Dn : BitVec 32 → BitVec 32 → Prop} {g : BitVec 32 → Fin 16 → F .f32} {sv dv : S512.Idx → BitVec 32}
    {rv : S512x16.Idx → F .f32} (hrv : ∀ x, rv x = g (sv (ix1 (n := 512) (x 0))) (x 1)) (hdv : ∀ x, (dv x).toNat ≤ 10000)
    {C : Prop} {hC : C} {dec : ∀ v, Decidable (C → ∀ a, offA v a + S1x16.size a ≤ S5008x16.size a)} {mR : Memref sig .scVector .vmem S512x16 .f32}
    (t : Fin 32) {rowsOf : IVec S16 32} {k : PE F L (BitVec 32)} {Q : BitVec 32 → sProp 𝕄}
    (hrow : ∀ l : Fin 16, rowsOf (ix1 l) = dcOf (BitVec.ofNat 32 b) (dv (ix1 (n := 512) ⟨16 * t.val + l.val, by omega⟩))) :
    ∀ (ls : List (Fin 16)) (n : ℕ), ls.map Fin.val = List.range' n ls.length →
    iprop(Held d L mR fullShare (e := .f32) rv ∗ AccI d L b (Upto Dn sv dv (16 * t.val + n)) g)
      ⊢ iprop((Held d L mR fullShare (e := .f32) rv ∗ AccI d L b (Upto Dn sv dv (16 * t.val + (n + ls.length))) g -∗ WPE d L k Q)
        -∗ WPE d L (ls.foldr (stepP L C hC dec mR t rowsOf) k) Q)
  | [], n, _ => by
    iintro H Hk
    iapply Hk
    iexact H
  | l :: ls, n, h => by
    rw [List.map_cons, List.length_cons, List.range'_succ] at h
    obtain ⟨hl, hls⟩ := List.cons.inj h
    subst hl
    rw [List.foldr_cons, List.length_cons]
    iintro H Hk
    iapply (wp_stepP d L hb hrv hdv t l (hrow l)) $$ H
    iintro H
    iapply (wp_stepsP hb hrv hdv t hrow ls (l.val + 1) hls) $$ H
    iintro H
    iapply Hk
    rw [show l.val + 1 + ls.length = l.val + (ls.length + 1) by omega]
    iexact H

/-- Sixteen edges' rows taken in. -/
theorem wp_rmwP {b : ℕ} (hb : b = 0 ∨ b = 5000) {Dn : BitVec 32 → BitVec 32 → Prop} {g : BitVec 32 → Fin 16 → F .f32} {sv dv : S512.Idx → BitVec 32}
    {rv : S512x16.Idx → F .f32} (hrv : ∀ x, rv x = g (sv (ix1 (n := 512) (x 0))) (x 1)) (hdv : ∀ x, (dv x).toNat ≤ 10000)
    {C : Prop} {hC : C} {dec : ∀ v, Decidable (C → ∀ a, offA v a + S1x16.size a ≤ S5008x16.size a)} {mD : Memref sig .scVector .vmem S512 .i32} {mR : Memref sig .scVector .vmem S512x16 .f32}
    (t : Fin 32) {off : Fin 1 → ℕ} {inb : ∀ a, off a + S16.size a ≤ S512.size a} (hoff : off = ![16 * t.val]) :
    iprop(Held d L mD fullShare (e := .i32) dv ∗ Held d L mR fullShare (e := .f32) rv ∗ AccI d L b (Upto Dn sv dv (16 * t.val)) g)
      ⊢ WPE d L (rmwP L C hC dec (BitVec.ofNat 32 b) mD mR t off inb) fun _ =>
        iprop(Held d L mD fullShare (e := .i32) dv ∗ Held d L mR fullShare (e := .f32) rv ∗ AccI d L b (Upto Dn sv dv (16 * (t.val + 1))) g) := by
  iintro ⟨HD, HR, HA⟩
  unfold rmwP WPE
  iapply (wp_loadH d L) $$ HD; iintro HD
  iapply (wp_stepsP d L hb hrv hdv t (fun l => ?_) lanes 0 (by decide)) $$ [HR HA]
  rotate_left
  · isplitl [HR]; · iexact HR
    iexact HA
  · iintro ⟨HR, HA⟩
    iapply (le_wp_ret _ _)
    isplitl [HD]; · iexact HD
    isplitl [HR]; · iexact HR
    iexact HA
  · subst hoff
    refine congrArg (fun x : S512.Idx => dcOf (BitVec.ofNat 32 b) (dv x)) ?_
    exact unit_emb_eq (s := S512) inb (ix1 (n := 16) l) (ix1 (n := 512) ⟨16 * t.val + l.val, by omega⟩) fun a => by
      match a with
      | 0 => rfl

/-- A chunk's rows taken in. -/
theorem wp_rmwLoop {b : ℕ} (hb : b = 0 ∨ b = 5000) {Dn : BitVec 32 → BitVec 32 → Prop} {g : BitVec 32 → Fin 16 → F .f32} {sv dv : S512.Idx → BitVec 32}
    {rv : S512x16.Idx → F .f32} (hrv : ∀ x, rv x = g (sv (ix1 (n := 512) (x 0))) (x 1)) (hdv : ∀ x, (dv x).toNat ≤ 10000)
    {C : Prop} {hC : C} {dec : ∀ v, Decidable (C → ∀ a, offA v a + S1x16.size a ≤ S5008x16.size a)} {mD : Memref sig .scVector .vmem S512 .i32} {mR : Memref sig .scVector .vmem S512x16 .f32}
    {ok : Scf.Loop.OK ⟨0#32, 32#32, 1#32⟩} {off : Fin 32 → Fin 1 → ℕ} {inb : ∀ k a, off k a + S16.size a ≤ S512.size a} (hoff : ∀ k : Fin 32, off k = ![16 * k.val])
    {α : Type} {kk : BitVec 32 → PE F L α} {Q : α → sProp 𝕄} :
    iprop(Held d L mD fullShare (e := .i32) dv ∗ Held d L mR fullShare (e := .f32) rv ∗ AccI d L b Dn g)
      ⊢ iprop((∀ a, Held d L mD fullShare (e := .i32) dv ∗ Held d L mR fullShare (e := .f32) rv ∗ AccI d L b (Upto Dn sv dv 512) g -∗ WPE d L (kk a) Q)
        -∗ WPE d L ((Scf.Loop.for ⟨0#32, 32#32, 1#32⟩ ok 0#32 (fun k _ => rmwP L C hC dec (BitVec.ofNat 32 b) mD mR k (off k) (inb k))) >>= kk) Q) := by
  iintro ⟨HD, HR, HA⟩
  iapply (Scf.wp_for_bind frame (wpE (defs₀ (F := F)) 𝒱₀ (thE d L) none) Set.univ 0#32 32#32 1#32 ok 0#32 _
    (fun k _ => iprop(Held d L mD fullShare (e := .i32) dv ∗ Held d L mR fullShare (e := .f32) rv ∗ AccI d L b (Upto Dn sv dv (16 * k)) g))
    (fun k _ => wp_rmwP d L hb hrv hdv (C := C) (hC := hC) (dec := dec) k (hoff k)))
  isplitl [HD]; · iexact HD
  isplitl [HR]; · iexact HR
  iapply (AccI_congr d L (fun s e => ⟨fun h => Or.inl h, fun h => h.elim id fun ⟨j, hj, _⟩ => absurd hj (by omega)⟩)) $$ HA

/-! ## The row numbers -/

/-- The table's row for node `s` of tile `w`. -/
def rowW (w s : BitVec 32) : BitVec 32 := s * 32#32 + w

theorem wp_idxLoop {sv w0 : S512.Idx → BitVec 32} {w : BitVec 32} {mS mI : Memref sig .scVector .vmem S512 .i32} {pay : IVec S16 32 → IVec S16 32} (hpay : ∀ v x, pay v x = rowW w (v x))
    {ok : Scf.Loop.OK ⟨0#32, 32#32, 1#32⟩} {off : Fin 32 → Fin 1 → ℕ} {inb : ∀ k a, off k a + S16.size a ≤ S512.size a} (hoff : ∀ k : Fin 32, off k = ![16 * k.val])
    {α : Type} {kk : BitVec 32 → PE F L α} {Q : α → sProp 𝕄} :
    iprop(Held d L mS fullShare (e := .i32) sv ∗ Held d L mI fullShare (e := .i32) w0)
      ⊢ iprop((∀ a, Held d L mS fullShare (e := .i32) sv ∗ Held d L mI fullShare (e := .i32) (fun x => rowW w (sv x)) -∗ WPE d L (kk a) Q)
        -∗ WPE d L ((Scf.Loop.for ⟨0#32, 32#32, 1#32⟩ ok 0#32 (fun k _ => idxP L mS mI (off k) (inb k) pay)) >>= kk) Q) := by
  iintro ⟨HS, HI⟩ Hk
  iapply (Scf.wp_for_bind frame (wpE (defs₀ (F := F)) 𝒱₀ (thE d L) none) Set.univ 0#32 32#32 1#32 ok 0#32 _
    (fun k _ => iprop(Held d L mS fullShare (e := .i32) sv ∗ ∃ wi : S512.Idx → BitVec 32, ⌜∀ x, (x 0).val < 16 * k → wi x = rowW w (sv x)⌝ ∗ Held d L mI fullShare (e := .i32) wi))
    ?_) $$ [HS HI]
  rotate_left
  · isplitl [HS]; · iexact HS
    iexists w0
    isplitr
    · ipureintro; intro x hx; exact absurd hx (by omega)
    · iexact HI
  · iintro %a ⟨HS, %wi, %hwi, HI⟩
    iapply Hk
    isplitl [HS]; · iexact HS
    have e : (fun x => rowW w (sv x)) = wi := funext fun x => (hwi x (by have : (x 0).val < 512 := (x 0).isLt; show _ < 16 * 32; omega)).symm
    rw [e]
    iexact HI
  · intro k a
    have hk : k.val < 32 := k.isLt
    have ho := hoff k
    iintro ⟨HS, %wi, %hwi, HI⟩
    unfold idxP
    simp only [Prog.lift, Prog.bind_op, Prog.bind_ret, Prog.pure_eq_ret, bind_assoc]
    iapply (wp_loadH d L) $$ HS; iintro HS
    iapply (wp_loadH d L) $$ HI; iintro HI
    iapply (wp_storeH d L (fun x => if 16 * k.val ≤ (x 0).val ∧ (x 0).val < 16 * k.val + 16 then rowW w (sv x) else wi x) ?_ ?_) $$ HI
    rotate_left 2
    · iintro HI
      iapply (le_wp_ret _ _)
      isplitl [HS]; · iexact HS
      iexists _
      isplitr
      swap
      · iexact HI
      ipureintro
      intro x hx
      dsimp only
      split
      · rfl
      · exact hwi x (by omega)
    · intro x
      have hx : (x 0).val < 16 := (x 0).isLt
      have e0 : ((Rect.unit (s := S512) (off k) S16.size (inb k)).emb x 0).val = 16 * k.val + (x 0).val := emb_val' (s := S512) ho (inb k) x 0
      refine Eq.trans (if_pos (show 16 * k.val ≤ ((Rect.unit (s := S512) (off k) S16.size (inb k)).emb x 0).val ∧ ((Rect.unit (s := S512) (off k) S16.size (inb k)).emb x 0).val < 16 * k.val + 16 from by
        rw [e0]; exact ⟨Nat.le_add_right _ _, Nat.add_lt_add_left hx _⟩)) ?_
      exact (hpay (fun y => sv ((Rect.unit (s := S512) (off k) S16.size (inb k)).emb y)) x).symm
    · intro y hy
      dsimp only
      refine if_neg fun h => ?_
      refine hy (ix1 (n := 16) ⟨(y 0).val - 16 * k.val, by omega⟩) (unit_emb_eq (inb k) _ y fun a => ?_)
      refine (?_ : (y a).val = off k a + (ix1 (n := 16) ⟨(y 0).val - 16 * k.val, by omega⟩ a).val)
      rw [congrFun ho a]
      match a with
      | 0 => show (y 0).val = 16 * k.val + ((y 0).val - 16 * k.val); omega

/-! ## A slot's states -/

section Slots

variable (TAB : S320000x16.Idx → F .f32) (fS fD : S327680.Idx → BitVec 32) (wd : BitVec 32)

/-- The 512 edges from place `o` on of a bucket array. -/
def chunk (f : S327680.Idx → BitVec 32) (o : ℕ) : S512.Idx → BitVec 32 := fun x => f (ix1 (n := 327680) ⟨(o + (x 0).val) % 327680, Nat.mod_lt _ (by decide)⟩)

/-- Lane `l` of node `s`'s row of tile `wd`. -/
def gval (s : BitVec 32) (l : Fin 16) : F .f32 := TAB (ix2 (n := 320000) (k := 16) ⟨(rowW wd s).toNat % 320000, Nat.mod_lt _ (by decide)⟩ l)

/-- A slot with nothing in flight. -/
def Idle (S : Slot) (q : PosShare TreeShare) : sProp 𝕄 :=
  iprop(∃ (a b c : S512.Idx → BitVec 32) (r : S512x16.Idx → F .f32), Held d L S.sS fullShare (e := .i32) a ∗ Held d L S.sD fullShare (e := .i32) b ∗ Held d L S.sI fullShare (e := .i32) c ∗ Held d L S.sR fullShare (e := .f32) r
    ∗ semVal (thE d L, SemLoc.dma S.mS) 0 ∗ semVal (thE d L, SemLoc.dma S.mD) 0 ∗ semVal (thE d L, SemLoc.dma S.mG) 0
    ∗ (v5Loc d ↦{q} (TAB : Buf (Elt F) (v5Loc d))) ∗ (v6Loc d ↦{q} (fS : Buf (Elt F) (v6Loc d))) ∗ (v7Loc d ↦{q} (fD : Buf (Elt F) (v7Loc d))))

/-- The chunk at `o` on its way into a slot. -/
def Ids (S : Slot) (q : PosShare TreeShare) (o : ℕ) : sProp 𝕄 :=
  iprop(∃ (c : S512.Idx → BitVec 32) (r : S512x16.Idx → F .f32), Pend d L S.sS S.mS (e := .i32) (chunk fS o) iprop(emp) (v6Loc d) q (fS : Buf (Elt F) (v6Loc d)) ∗ Pend d L S.sD S.mD (e := .i32) (chunk fD o) iprop(emp) (v7Loc d) q (fD : Buf (Elt F) (v7Loc d))
    ∗ Held d L S.sI fullShare (e := .i32) c ∗ Held d L S.sR fullShare (e := .f32) r ∗ semVal (thE d L, SemLoc.dma S.mG) 0
    ∗ (v5Loc d ↦{q} (TAB : Buf (Elt F) (v5Loc d))))

/-- The chunk at `o` in a slot, its rows on their way. -/
def Gath (S : Slot) (q : PosShare TreeShare) (o : ℕ) : sProp 𝕄 :=
  iprop(Held d L S.sS fullShare (e := .i32) (chunk fS o) ∗ Held d L S.sD fullShare (e := .i32) (chunk fD o) ∗ semVal (thE d L, SemLoc.dma S.mS) 0 ∗ semVal (thE d L, SemLoc.dma S.mD) 0
    ∗ (v6Loc d ↦{q} (fS : Buf (Elt F) (v6Loc d))) ∗ (v7Loc d ↦{q} (fD : Buf (Elt F) (v7Loc d)))
    ∗ Pend d L S.sR S.mG (e := .f32) (fun x => gval TAB wd (chunk fS o (ix1 (n := 512) (x 0))) (x 1)) (Held d L S.sI fullShare (e := .i32) (fun x => rowW wd (chunk fS o x)))
        (v5Loc d) q (TAB : Buf (Elt F) (v5Loc d)))

theorem read_chunk6 (o : ℕ) (ho : o + 512 ≤ 327680) {off : Fin 1 → ℕ} (hoff : off = ![o]) (inb : ∀ a, off a + S512.size a ≤ S327680.size a) :
    ((v6V.slice (Rect.unit (s := S327680) off S512.size inb) (fun _ => rfl)).view.read (Elt F) fS) = chunk fS o := by
  funext x
  have hx : (x 0).val < 512 := (x 0).isLt
  refine (at_read main_v6_scv (Val := Elt F) inb fS x (ix1 (n := 327680) ⟨(o + (x 0).val) % 327680, Nat.mod_lt _ (by decide)⟩) fun a => ?_)
  refine (?_ : (ix1 (n := 327680) ⟨(o + (x 0).val) % 327680, Nat.mod_lt _ (by decide)⟩ a).val = off a + (x a).val)
  rw [congrFun hoff a]
  match a with
  | 0 => show (o + (x 0).val) % 327680 = o + (x 0).val; omega

theorem read_chunk7 (o : ℕ) (ho : o + 512 ≤ 327680) {off : Fin 1 → ℕ} (hoff : off = ![o]) (inb : ∀ a, off a + S512.size a ≤ S327680.size a) :
    ((v7V.slice (Rect.unit (s := S327680) off S512.size inb) (fun _ => rfl)).view.read (Elt F) fD) = chunk fD o :=
  read_chunk6 (F := F) fD o ho hoff inb

/-- A chunk's copies started. -/
theorem wp_startP (S : Slot) {q : PosShare TreeShare} {tabM : Memref sig .scVector .vmem S544 .i32} {offT : Fin 1 → ℕ} {inbT : ∀ a, offT a + S16.size a ≤ S544.size a} {get : IVec S16 32 → BitVec 32}
    {P : BitVec 32 → Prop} {dec : ∀ v, Decidable (P v)} {offS : BitVec 32 → Fin 1 → ℕ} {inbS : ∀ v, P v → ∀ a, offS v a + S512.size a ≤ S327680.size a} {tw : S544.Idx → BitVec 32} {o : ℕ}
    (hP : P (get (fun x => tw ((Rect.unit (s := S544) offT S16.size inbT).emb x)))) (hO : offS (get (fun x => tw ((Rect.unit (s := S544) offT S16.size inbT).emb x))) = ![o]) (ho : o + 512 ≤ 327680)
    {α : Type} {k : PE F L α} {Q : α → sProp 𝕄} :
    iprop(Held d L tabM fullShare (e := .i32) tw ∗ Idle d L TAB fS fD S q)
      ⊢ iprop((Held d L tabM fullShare (e := .i32) tw ∗ Ids d L TAB fS fD S q o -∗ WPE d L k Q) -∗ WPE d L (startP L S tabM offT inbT get P dec offS inbS k) Q) := by
  unfold Idle Ids startP WPE
  iintro ⟨HT, %a, %b, %c, %r, HS, HD, HI, HR, mS, mD, mG, H5, H6, H7⟩ Hk
  iapply (wp_loadH d L) $$ HT; iintro HT
  iapply (wp_assume 𝒱₀ (thE d L) none Set.univ hP)
  iapply (wp_startH d L (show 0 < S512.numel by decide) (chunk fS o) (read_chunk6 (F := F) fS o ho hO _)) $$ [H6 HS mS]
  · isplitl [H6]; · iexact H6
    isplitl [HS]; · iexact HS
    iexact mS
  iintro PS
  iapply (wp_startH d L (show 0 < S512.numel by decide) (chunk fD o) (read_chunk7 (F := F) fD o ho hO _)) $$ [H7 HD mD]
  · isplitl [H7]; · iexact H7
    isplitl [HD]; · iexact HD
    iexact mD
  iintro PD
  iapply Hk
  isplitl [HT]; · iexact HT
  iexists c, r
  isplitl [PS]; · iexact PS
  isplitl [PD]; · iexact PD
  isplitl [HI]; · iexact HI
  isplitl [HR]; · iexact HR
  isplitl [mG]; · iexact mG
  iexact H5

theorem gather_read (sv : S512.Idx → BitVec 32) (inb : ∀ a, (![0, 0] : Fin 2 → ℕ) a + S320000x16.size a ≤ S320000x16.size a)
    (hn : S512.numel = S512x16.size gathers_S320000x16_S512x16.axis') (hin : ∀ x, (rowW wd (sv x)).toNat < S320000x16.size gathers_S320000x16_S512x16.axis) (x : S512x16.Idx) :
    SparseCore.gatherPayload gathers_S320000x16_S512x16 ((v5V.slice (Rect.unit (s := S320000x16) ![0, 0] S320000x16.size inb) (fun _ => rfl)).view.read (Elt F) TAB)
      (SparseCore.rows (F := F) (fun x => rowW wd (sv x)) hn hin) x = gval TAB wd (sv (ix1 (n := 512) (x 0))) (x 1) := by
  refine (at_read main_v5_scv (Val := Elt F) inb TAB _ (ix2 (n := 320000) (k := 16) ⟨(rowW wd (sv (ix1 (n := 512) (x 0)))).toNat % 320000, Nat.mod_lt _ (by decide)⟩ (x 1)) fun a => ?_)
  have hr : S512.rowMajor.symm ((x 0 : Fin 512).cast hn.symm) = ix1 (n := 512) (x 0) := by
    rw [Equiv.symm_apply_eq]
    exact Fin.ext (Shape.rowMajor_val_one (d := ![512]) (ix1 (n := 512) (x 0))).symm
  match a with
  | 0 =>
    have e := congrArg Fin.val (Shape.Gathers.idx_axis gathers_S320000x16_S512x16 (SparseCore.rows (F := F) (fun x => rowW wd (sv x)) hn hin) x)
    refine Eq.trans ?_ (Nat.zero_add _).symm
    refine Eq.trans ?_ e.symm
    have e2 : (SparseCore.rows (F := F) (fun x => rowW wd (sv x)) hn hin (x gathers_S320000x16_S512x16.axis')).val = (rowW wd (sv (ix1 (n := 512) (x 0)))).toNat :=
      congrArg (fun y => (rowW wd (sv y)).toNat) hr
    rw [e2]
    exact Nat.mod_eq_of_lt (hin _)
  | 1 => exact (Shape.Gathers.idx_of_ne gathers_S320000x16_S512x16 _ x (1 : Fin 2) (by decide)).symm.trans (Nat.zero_add _).symm

theorem numel_rows : 0 < S512x16.numel := by decide

/-- A chunk's copies' ends and its gather started. -/
theorem wp_gatherP (S : Slot) {q : PosShare TreeShare} {o : ℕ} {O : CellTallies nD τ sig (HIx 2)} {W : Waits sig (HIx 2)} (hS : ∀ x, (rowW wd (fS x)).toNat < 320000)
    {pay : IVec S16 32 → IVec S16 32} (hpay : ∀ v x, pay v x = rowW wd (v x))
    {ok : Scf.Loop.OK ⟨0#32, 32#32, 1#32⟩} {off : Fin 32 → Fin 1 → ℕ} {inb : ∀ k a, off k a + S16.size a ≤ S512.size a} (hoff : ∀ k : Fin 32, off k = ![16 * k.val])
    {α : Type} {k : PE F L α} {Q : α → sProp 𝕄} :
    iprop(Ids d L TAB fS fD S q o ∗ OW d L O W ∗ (Transfers.MayWaits (thE d L) (default : HIx 2) O : sProp 𝕄))
      ⊢ iprop((Gath d L TAB fS fD wd S q o ∗ OW d L O W -∗ WPE d L k Q) -∗ WPE d L (gatherP L S (fun k _ => idxP L S.sS S.sI (off k) (inb k) pay) ok k) Q) := by
  unfold Ids Gath gatherP WPE
  iintro ⟨⟨%c, %r, PS, PD, HI, HR, mG, H5⟩, HO, #Hmw⟩ Hk
  iapply (wp_waitH d L) $$ [PS HO]
  · isplitl [PS]; · iexact PS
    isplitl [HO]; · iexact HO
    iexact Hmw
  iintro ⟨HS, -, H6, mS, HO⟩
  iapply (wp_waitH d L) $$ [PD HO]
  · isplitl [PD]; · iexact PD
    isplitl [HO]; · iexact HO
    iexact Hmw
  iintro ⟨HD, -, H7, mD, HO⟩
  iapply (wp_idxLoop d L hpay hoff) $$ [HS HI]
  · isplitl [HS]; · iexact HS
    iexact HI
  iintro %_ ⟨HS, HI⟩
  iapply (wp_gatherH d L S.hN numel_rows S.hR S.hI (fun x => hS _) (fun x => gval TAB wd (chunk fS o (ix1 (n := 512) (x 0))) (x 1)) ?_) $$ [H5 HR HI mG]
  rotate_left
  · isplitl [H5]; · iexact H5
    isplitl [HR]; · iexact HR
    isplitl [HI]; · iexact HI
    iexact mG
  · iintro PG
    iapply Hk
    isplitr [HO]
    · isplitl [HS]; · iexact HS
      isplitl [HD]; · iexact HD
      isplitl [mS]; · iexact mS
      isplitl [mD]; · iexact mD
      isplitl [H6]; · iexact H6
      isplitl [H7]; · iexact H7
      iexact PG
    · iexact HO
  · funext x
    exact gather_read TAB wd (chunk fS o) _ rfl (fun x => hS _) x

end Slots

end

end Cert.Proof

end
-- ==== Proof.EdgeLoop.lean ====
/-
  The second call's chunk loop: two slots, one chunk's rows on their way while the other's are taken in.
-/
module

public import proofs.«01_k».proof.Proof.EdgeRun

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The table's entry for a chunk -/

theorem eight_mul {w : BitVec 32} (hw : w.toNat < 2 ^ 31) : (Scalar.muli (fdiv w 8#32) 8#32).toNat = w.toNat / 8 * 8 := by
  show (fdiv w 8#32 * 8#32).toNat = _
  rw [BitVec.toNat_mul, fdiv_toNat hw (by decide) (by decide), show (8#32 : BitVec 32).toNat = 8 from rfl]
  exact Nat.mod_eq_of_lt (by omega)

theorem tabOff_eq {w : BitVec 32} (hw : w.toNat < 2 ^ 31) : tabOff w = ![w.toNat / 8 * 8] := by
  unfold tabOff
  exact congrArg (fun n : ℕ => ![n]) (eight_mul hw)

theorem srcOff_eq {v : BitVec 32} (hv : v.toNat < 2 ^ 31) (h16 : v.toNat % 16 = 0) : srcOff v = ![v.toNat] := by
  unfold srcOff
  refine congrArg (fun n : ℕ => ![n]) ?_
  show (fdiv v 16#32 * 16#32).toNat = _
  rw [BitVec.toNat_mul, fdiv_toNat hv (by decide) (by decide), show (16#32 : BitVec 32).toNat = 16 from rfl, Nat.mod_eq_of_lt (by omega)]
  omega

theorem tabGet_eq {v2 : IVec S16 32} (h2 : ∀ l : Fin 16, v2 (ix1 l) = BitVec.ofNat 32 l.val) {w : BitVec 32} (hw : w.toNat < 2 ^ 31) (v : IVec S16 32) :
    tabGet v2 w v = v (ix1 (n := 16) ⟨w.toNat % 8, by omega⟩) := by
  unfold tabGet
  refine pickLane v2 h2 _ (⟨w.toNat % 8, by omega⟩ : Fin 16) ?_ v
  refine BitVec.eq_of_toNat_eq ?_
  show (w - Scalar.muli (fdiv w 8#32) 8#32).toNat = _
  rw [BitVec.toNat_sub_of_le (by rw [BitVec.le_def, eight_mul hw]; omega), eight_mul hw, BitVec.toNat_ofNat, Nat.mod_eq_of_lt (by show w.toNat % 8 < _; omega)]
  show _ = w.toNat % 8
  omega

/-- The offset the table lists for chunk `c`. -/
def offs (tw : S544.Idx → BitVec 32) (c : ℕ) : ℕ := (tw (ix1 (n := 544) ⟨c % 544, Nat.mod_lt _ (by decide)⟩)).toNat

theorem get_tab {v2 : IVec S16 32} (h2 : ∀ l : Fin 16, v2 (ix1 l) = BitVec.ofNat 32 l.val) {w : BitVec 32} {c : ℕ} (hw : w.toNat = c) (hc : c < 544) (tw : S544.Idx → BitVec 32)
    (inb : ∀ a, tabOff w a + S16.size a ≤ S544.size a) :
    tabGet v2 w (fun x => tw ((Rect.unit (s := S544) (tabOff w) S16.size inb).emb x)) = tw (ix1 (n := 544) ⟨c % 544, Nat.mod_lt _ (by decide)⟩) := by
  rw [tabGet_eq h2 (by omega)]
  refine congrArg tw (unit_emb_eq (s := S544) inb _ _ fun a => ?_)
  refine (?_ : (ix1 (n := 544) ⟨c % 544, Nat.mod_lt _ (by decide)⟩ a).val = tabOff w a + (ix1 (n := 16) ⟨w.toNat % 8, by omega⟩ a).val)
  rw [congrFun (tabOff_eq (w := w) (by omega)) a]
  match a with
  | 0 => show c % 544 = w.toNat / 8 * 8 + w.toNat % 8; omega

/-! ## A half trip -/

section

variable (d : Dev nD) (L : grid1.Coords)
variable (TAB : S320000x16.Idx → F .f32) (fS fD : S327680.Idx → BitVec 32) (wd : BitVec 32) (tw : S544.Idx → BitVec 32) (nc : ℕ)

/-- The edges of the first `c` chunks. -/
def DoneC (c : ℕ) (s e : BitVec 32) : Prop :=
  ∃ c', c' < c ∧ c' < nc ∧ ∃ j : S512.Idx, s = chunk fS (offs tw c') j ∧ e = chunk fD (offs tw c') j

theorem DoneC_succ {c : ℕ} (hc : c < nc) (s e : BitVec 32) :
    Upto (DoneC fS fD tw nc c) (chunk fS (offs tw c)) (chunk fD (offs tw c)) 512 s e ↔ DoneC fS fD tw nc (c + 1) s e := by
  constructor
  · rintro (⟨c', h, h', j⟩ | ⟨j, hj, h⟩)
    · exact ⟨c', by omega, h', j⟩
    · exact ⟨c, by omega, hc, j, h⟩
  · rintro ⟨c', h, h', j, hj⟩
    by_cases e' : c' = c
    · subst e'; exact Or.inr ⟨j, (j 0).isLt, hj⟩
    · exact Or.inl ⟨c', by omega, h', j, hj⟩

theorem DoneC_over {c : ℕ} (hc : ¬ c < nc) (s e : BitVec 32) : DoneC fS fD tw nc c s e ↔ DoneC fS fD tw nc (c + 1) s e := by
  constructor
  · rintro ⟨c', h, h', j⟩
    exact ⟨c', by omega, h', j⟩
  · rintro ⟨c', h, h', j⟩
    exact ⟨c', by omega, h', j⟩

/-- Before chunk `c`: its rows on their way into `cur`, the next chunk's edges into `nxt`. -/
def MainInv (b : ℕ) (tabM : Memref sig .scVector .vmem S544 .i32) (O : CellTallies nD τ sig (HIx 2)) (W : Waits sig (HIx 2)) (cur nxt : Slot) (qc qn : PosShare TreeShare) (c : ℕ) : sProp 𝕄 :=
  iprop((if c < nc then Gath d L TAB fS fD wd cur qc (offs tw c) else Idle d L TAB fS fD cur qc) ∗ (if c + 1 < nc then Ids d L TAB fS fD nxt qn (offs tw (c + 1)) else Idle d L TAB fS fD nxt qn)
    ∗ Held d L tabM fullShare (e := .i32) tw ∗ AccI d L b (DoneC fS fD tw nc c) (gval TAB wd) ∗ OW d L O W)

theorem Gath_idle (S : Slot) {q : PosShare TreeShare} {o : ℕ} :
    iprop(Held d L S.sS fullShare (e := .i32) (chunk fS o) ∗ Held d L S.sD fullShare (e := .i32) (chunk fD o) ∗ semVal (thE d L, SemLoc.dma S.mS) 0 ∗ semVal (thE d L, SemLoc.dma S.mD) 0
    ∗ (v6Loc d ↦{q} (fS : Buf (Elt F) (v6Loc d))) ∗ (v7Loc d ↦{q} (fD : Buf (Elt F) (v7Loc d)))
    ∗ Held d L S.sR fullShare (e := .f32) (fun x => gval TAB wd (chunk fS o (ix1 (n := 512) (x 0))) (x 1)) ∗ Held d L S.sI fullShare (e := .i32) (fun x => rowW wd (chunk fS o x))
    ∗ (v5Loc d ↦{q} (TAB : Buf (Elt F) (v5Loc d))) ∗ semVal (thE d L, SemLoc.dma S.mG) 0) ⊢ Idle d L TAB fS fD S q := by
  unfold Idle
  iintro ⟨HS, HD, mS, mD, H6, H7, HR, HI, H5, mG⟩
  iexists _, _, _, _
  isplitl [HS]; · iexact HS
  isplitl [HD]; · iexact HD
  isplitl [HI]; · iexact HI
  isplitl [HR]; · iexact HR
  isplitl [mS]; · iexact mS
  isplitl [mD]; · iexact mD
  isplitl [mG]; · iexact mG
  isplitl [H5]; · iexact H5
  isplitl [H6]; · iexact H6
  iexact H7

set_option maxHeartbeats 1000000 in
/-- A half trip takes the loop from chunk `c` to chunk `c + 1`. -/
theorem wp_halfP {b : ℕ} (hb : b = 0 ∨ b = 5000) {tabM : Memref sig .scVector .vmem S544 .i32} {O : CellTallies nD τ sig (HIx 2)} {W : Waits sig (HIx 2)} {cur nxt : Slot} {qc qn : PosShare TreeShare} {c : ℕ}
    (hS : ∀ x, (rowW wd (fS x)).toNat < 320000) (hD : ∀ x, (fD x).toNat ≤ 10000) (hnc : nc ≤ 320) (hoffs : ∀ c, c < nc → offs tw c % 16 = 0 ∧ offs tw c + 512 ≤ 327680)
    {C3 C4 C5 : Prop} [Decidable C3] [Decidable C4] [Decidable C5] (hC3 : C3 ↔ c < nc) (hC4 : C4 ↔ c + 1 < nc) (hC5 : C5 ↔ c + 2 < nc)
    {ok ok' : Scf.Loop.OK ⟨0#32, 32#32, 1#32⟩} {pay : IVec S16 32 → IVec S16 32} (hpay : ∀ v x, pay v x = rowW wd (v x))
    {offI offD : Fin 32 → Fin 1 → ℕ} {inbI : ∀ k a, offI k a + S16.size a ≤ S512.size a} (hoffI : ∀ k : Fin 32, offI k = ![16 * k.val])
    {inbD : ∀ k a, offD k a + S16.size a ≤ S512.size a} (hoffD : ∀ k : Fin 32, offD k = ![16 * k.val])
    {decA : ∀ v, Decidable (C3 → ∀ a, offA v a + S1x16.size a ≤ S5008x16.size a)}
    {v2 : IVec S16 32} (h2 : ∀ l : Fin 16, v2 (ix1 l) = BitVec.ofNat 32 l.val) {w : BitVec 32} (hw : C3 → C5 → w.toNat = c + 2)
    {inbT : C3 → C5 → ∀ a, tabOff w a + S16.size a ≤ S544.size a} {P : BitVec 32 → Prop} (hP : ∀ v, (∀ a, srcOff v a + S512.size a ≤ S327680.size a) → P v) {decP : ∀ v, Decidable (P v)}
    {inbS : C3 → C5 → ∀ v, P v → ∀ a, srcOff v a + S512.size a ≤ S327680.size a}
    {k : PE F L (BitVec 32)} {Q : BitVec 32 → sProp 𝕄} :
    iprop(MainInv d L TAB fS fD wd tw nc b tabM O W cur nxt qc qn c ∗ (Transfers.MayWaits (thE d L) (default : HIx 2) O : sProp 𝕄))
      ⊢ iprop((MainInv d L TAB fS fD wd tw nc b tabM O W nxt cur qn qc (c + 1) -∗ WPE d L k Q)
        -∗ WPE d L (halfP L cur C3 C4 C5 ok (gatherP L nxt (fun k _ => idxP L nxt.sS nxt.sI (offI k) (inbI k) pay) ok')
            (fun h3 k _ => rmwP L C3 h3 decA (BitVec.ofNat 32 b) cur.sD cur.sR k (offD k) (inbD k))
            (fun h3 h5 => startP L cur tabM (tabOff w) (inbT h3 h5) (tabGet v2 w) P decP srcOff (inbS h3 h5)) k) Q) := by
  unfold halfP
  by_cases h3 : C3
  · have c3 := hC3.1 h3
    rw [dif_pos h3]
    -- the rest of the trip, once the next chunk's gather is started
    have rest : iprop(Gath d L TAB fS fD wd cur qc (offs tw c) ∗ (if c + 1 < nc then Gath d L TAB fS fD wd nxt qn (offs tw (c + 1)) else Idle d L TAB fS fD nxt qn)
        ∗ Held d L tabM fullShare (e := .i32) tw ∗ AccI d L b (DoneC fS fD tw nc c) (gval TAB wd) ∗ OW d L O W ∗ (Transfers.MayWaits (thE d L) (default : HIx 2) O : sProp 𝕄))
      ⊢ iprop((MainInv d L TAB fS fD wd tw nc b tabM O W nxt cur qn qc (c + 1) -∗ WPE d L k Q)
        -∗ WPE d L ((SparseCore.waitIndirectGather cur.mG (v5V.slice (Rect.unit (s := S320000x16) ![0, 0] S320000x16.size inb_S320000x16_S320000x16_0_0) (fun _ => rfl)) cur.sR (View.wordExact_bits rfl) cur.wR.wordExact : PE F L PUnit) >>= fun _ =>
          (Scf.Loop.for ⟨0#32, 32#32, 1#32⟩ ok 0#32 (fun k _ => rmwP L C3 h3 decA (BitVec.ofNat 32 b) cur.sD cur.sR k (offD k) (inbD k))) >>= fun _ =>
          if h5 : C5 then startP L cur tabM (tabOff w) (inbT h3 h5) (tabGet v2 w) P decP srcOff (inbS h3 h5) k else k) Q) := by
      unfold Gath WPE
      iintro ⟨⟨HS, HD, mS, mD, H6, H7, PG⟩, HN, HT, HA, HO, #Hmw⟩ Hk
      iapply (wp_waitH d L) $$ [PG HO]
      · isplitl [PG]; · iexact PG
        isplitl [HO]; · iexact HO
        iexact Hmw
      iintro ⟨HR, HI, H5, mG, HO⟩
      iapply (wp_rmwLoop d L hb (g := gval TAB wd) (sv := chunk fS (offs tw c)) (dv := chunk fD (offs tw c)) (fun _ => rfl) (fun x => hD _) hoffD) $$ [HD HR HA]
      · isplitl [HD]; · iexact HD
        isplitl [HR]; · iexact HR
        iexact HA
      iintro %_ ⟨HD, HR, HA⟩
      ihave HA := (AccI_congr d L (DoneC_succ fS fD tw nc c3)) $$ HA
      ihave HC := (Gath_idle d L TAB fS fD wd cur (q := qc) (o := offs tw c)) $$ [HS HD mS mD H6 H7 HR HI H5 mG]
      · isplitl [HS]; · iexact HS
        isplitl [HD]; · iexact HD
        isplitl [mS]; · iexact mS
        isplitl [mD]; · iexact mD
        isplitl [H6]; · iexact H6
        isplitl [H7]; · iexact H7
        isplitl [HR]; · iexact HR
        isplitl [HI]; · iexact HI
        isplitl [H5]; · iexact H5
        iexact mG
      by_cases h5 : C5
      · have c5 := hC5.1 h5
        have hwn := hw h3 h5
        obtain ⟨o16, ole⟩ := hoffs (c + 2) c5
        rw [dif_pos h5]
        have hg := get_tab h2 hwn (by omega) tw (inbT h3 h5)
        have hso := srcOff_eq (v := tw (ix1 (n := 544) ⟨(c + 2) % 544, Nat.mod_lt _ (by decide)⟩)) (by unfold offs at ole; omega) o16
        iapply (wp_startP d L TAB fS fD cur (o := offs tw (c + 2)) (by
            rw [hg]; refine hP _ fun a => ?_
            rw [congrFun hso a]
            match a with
            | 0 => exact ole) (by rw [hg]; exact hso) ole) $$ [HT HC]
        · isplitl [HT]; · iexact HT
          iexact HC
        iintro ⟨HT, HC⟩
        iapply Hk
        unfold MainInv
        rw [if_pos (show c + 1 + 1 < nc from c5)]
        isplitl [HN]; · iexact HN
        isplitl [HC]; · iexact HC
        isplitl [HT]; · iexact HT
        isplitl [HA]; · iexact HA
        iexact HO
      · rw [dif_neg h5]
        iapply Hk
        unfold MainInv
        rw [if_neg (show ¬ c + 1 + 1 < nc from fun h => h5 (hC5.2 h))]
        isplitl [HN]; · iexact HN
        isplitl [HC]; · iexact HC
        isplitl [HT]; · iexact HT
        isplitl [HA]; · iexact HA
        iexact HO
    unfold MainInv
    rw [if_pos c3]
    by_cases h4 : C4
    · have c4 := hC4.1 h4
      rw [if_pos c4] at rest
      rw [if_pos h4, if_pos c4]
      iintro ⟨⟨HG, HN, HT, HA, HO⟩, #Hmw⟩ Hk
      iapply (wp_gatherP d L TAB fS fD wd nxt hS hpay hoffI) $$ [HN HO]
      · isplitl [HN]; · iexact HN
        isplitl [HO]; · iexact HO
        iexact Hmw
      iintro ⟨HN, HO⟩
      iapply rest $$ [HG HN HT HA HO]
      · isplitl [HG]; · iexact HG
        isplitl [HN]; · iexact HN
        isplitl [HT]; · iexact HT
        isplitl [HA]; · iexact HA
        isplitl [HO]; · iexact HO
        iexact Hmw
      iexact Hk
    · have c4 : ¬ c + 1 < nc := fun h => h4 (hC4.2 h)
      rw [if_neg c4] at rest
      rw [if_neg h4, if_neg c4]
      iintro ⟨⟨HG, HN, HT, HA, HO⟩, #Hmw⟩ Hk
      iapply rest $$ [HG HN HT HA HO]
      · isplitl [HG]; · iexact HG
        isplitl [HN]; · iexact HN
        isplitl [HT]; · iexact HT
        isplitl [HA]; · iexact HA
        isplitl [HO]; · iexact HO
        iexact Hmw
      iexact Hk
  · have c3 : ¬ c < nc := fun h => h3 (hC3.2 h)
    rw [dif_neg h3]
    unfold MainInv
    rw [if_neg c3, if_neg (show ¬ c + 1 < nc by omega), if_neg (show ¬ c + 1 < nc by omega), if_neg (show ¬ c + 1 + 1 < nc by omega)]
    iintro ⟨⟨HC, HN, HT, HA, HO⟩, -⟩ Hk
    iapply Hk
    isplitl [HN]; · iexact HN
    isplitl [HC]; · iexact HC
    isplitl [HT]; · iexact HT
    isplitl [HA]
    · iapply (AccI_congr d L (DoneC_over fS fD tw nc c3)) $$ HA
    iexact HO

end

end Cert.Proof

end
-- ==== Proof.EdgePhase.lean ====
/-
  The second call's program in its own repeated pieces, continued: a row of a table of chunk offsets, the clearing of the
  running maxima, and the start of a half's first two chunks.
-/
module

public import proofs.«01_k».proof.Proof.EdgeLoop

@[expose] public section

noncomputable section

namespace Cert.Proof

open Cert.KernelIdeal Cert.KernelIdeal.Gen

open Idealize.ShloMosaic
open Idealize.ShloMosaic.SparseCore (S V T)
open Idealize.SL.Sem

variable {F : FTy → Type} [FloatOps F]

/-! ## The pieces -/

/-- One tile's chunks listed in a table. -/
def tblP (L : grid1.Coords) (tabM : Memref sig .scVector .vmem S544 .i32) (off : Fin 2 → ℕ) (inb : ∀ a, off a + S1x16.size a ≤ S32x16.size a) (num : Vec F S1x16 .i32 → BitVec 32) (idx : BitVec 32 → Vec F S1x16 .i32 → IVec S16 32)
    (chk : IVec S16 32 → Prop) (dec : ∀ v, Decidable (chk v)) (hi : ∀ v, chk v → ∀ a x, ((![v] : Fin 1 → IVec S16 32) a x).toNat < S544.size a) (pay : IVec S16 32) (a : BitVec 32) : PE F L (BitVec 32) :=
  .op (.load cntM (Rect.unit (s := S32x16) off S1x16.size inb).toLoadRect (View.loadsAt_vmem h_S1x16)) fun (c : Vec F S1x16 .i32) =>
  .op (.assume (chk (idx a c)) (dec (idx a c))) fun h =>
  (SparseCore.vectorStoreIdx tabM ![idx a c] (pay : Vec F S16 .i32) (fun _ => 1#1) false (hi _ h.down) (View.stores_vmem_bits_univ h_S544 rfl) : PE F L PUnit) >>= fun _ =>
  .ret (Scalar.addi a (fdiv (Scalar.addi (num c) 511#32) 512#32))

/-- One row of the running maxima cleared, and then `k`. -/
def clrP (L : grid1.Coords) (pay : FVec F S16 .f32) (off : Fin 2 → ℕ) (inb : ∀ a, off a + S1x16.size a ≤ S5008x16.size a) {α : Type} (k : PE F L α) : PE F L α :=
  .op (.load accM (Rect.unit (s := S5008x16) off S1x16.size inb).toLoadRect (View.loadsAt_vmem h_S1x16)) fun _ =>
  .op (.store accM (Rect.unit (s := S5008x16) off S1x16.size inb) (shapeCast S1x16 pay shapeCasts_S16_S1x16) Finset.univ (View.stores_vmem_bits_univ h_S1x16 rfl) (.inl rfl)) fun _ => k

/-- The running maxima cleared, and then `k`. -/
def initP (L : grid1.Coords) (pay : FVec F S16 .f32) (off : Fin 1250 → BitVec 32 → Fin 2 → ℕ) (inb : ∀ t (r : Fin 4), ∀ a, off t (BitVec.ofNat 32 r.val) a + S1x16.size a ≤ S5008x16.size a) (ok : Scf.Loop.OK ⟨0#32, 1250#32, 1#32⟩) {α : Type} (k : PE F L α) : PE F L α :=
  clrP L pay ![5000, 0] inb_S5008x16_S1x16_5000_0 <| clrP L pay ![5001, 0] inb_S5008x16_S1x16_5001_0 <|
  (Scf.Loop.for ⟨0#32, 1250#32, 1#32⟩ ok 0#32 (fun t _ => clrP L pay (off t 0#32) (inb t 0) <| clrP L pay (off t 1#32) (inb t 1) <| clrP L pay (off t 2#32) (inb t 2) <| clrP L pay (off t 3#32) (inb t 3) <| .ret 0#32)) >>= fun _ => k

/-- A half's first two chunks started, and then `k`. -/
def phaseP (L : grid1.Coords) (tabM : Memref sig .scVector .vmem S544 .i32) (C1 C2 : Prop) [Decidable C1] [Decidable C2] (get0 get1 : IVec S16 32 → BitVec 32)
    (P0 P1 : BitVec 32 → Prop) (dec0 : ∀ v, Decidable (P0 v)) (dec1 : ∀ v, Decidable (P1 v)) (inbS0 : C1 → ∀ v, P0 v → ∀ a, srcOff v a + S512.size a ≤ S327680.size a) (inbS1 : C2 → ∀ v, P1 v → ∀ a, srcOff v a + S512.size a ≤ S327680.size a)
    (gat : ∀ {α : Type}, PE F L α → PE F L α) {α : Type} (k : PE F L α) : PE F L α :=
  let r : PE F L α := if h2 : C2 then startP L slotB tabM ![0] inb_S544_S16_0 get1 P1 dec1 srcOff (inbS1 h2) k else k
  if h1 : C1 then startP L slotA tabM ![0] inb_S544_S16_0 get0 P0 dec0 srcOff (inbS0 h1) (gat r) else r

/-! ## The printed parts are these pieces -/

set_option maxRecDepth 65536
set_option maxHeartbeats 4000000

theorem t1_eq (L : grid1.Coords) : k1_t1_body (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2
    = fun t a => tblP L tab0M (k1_off1 t) (k1_off1_inb t) (fun c => extractAt ![0] (k1_pay303 (F := F) c) inpos_S1_p0) (k1_pay304 (F := F)) k1_chk1 k1_chk1.dec k1_idx1_inb (k1_pay305 t) a := rfl

theorem t2_eq (L : grid1.Coords) : k1_t2_body (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2
    = fun t a => tblP L tab1M (k1_off2 t) (k1_off2_inb t) (fun c => extractAt ![0] (k1_pay306 (F := F) c) inpos_S1_p0) (k1_pay307 (F := F)) k1_chk2 k1_chk2.dec k1_idx2_inb (k1_pay308 t) a := rfl

/-- The tile's number, as the kernel computes it. -/
def widOf (L : grid1.Coords) : BitVec 32 := Scalar.addi (Scalar.muli (BitVec.ofNat 32 (L 1).val) 2#32) (BitVec.ofNat 32 (L 0).val)
def iotaV : IVec S16 32 := iota .scVector S16 32 [0] iota_S16_d0_w32_scVector

theorem p59_eq (L : grid1.Coords) : k1_part59 (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2
    = (.op (.enqueueDma v42E (.here cntM) (.dma cc1_scoped0.sem) (Memref.isWhole_whole _).wordExact (Memref.isWhole_whole _).wordExact ⟨Or.inl rfl, trivial⟩) fun _ =>
      .op (.waitDma2 cc1_scoped0.sem v42E cntM (Memref.isWhole_whole _).wordExact (Memref.isWhole_whole _).wordExact) fun _ =>
      (Scf.Loop.for ⟨0#32, 32#32, 1#32⟩ k1_t1_ok 0#32 (fun t a => tblP L tab0M (k1_off1 t) (k1_off1_inb t) (fun c => extractAt ![0] (k1_pay303 (F := F) c) inpos_S1_p0) (k1_pay304 (F := F)) k1_chk1 k1_chk1.dec k1_idx1_inb (k1_pay305 t) a)) >>= fun v4 =>
      .op (.assume (k1_chk5 v4) (k1_chk5.dec v4)) fun h5 =>
      (Scf.Loop.for ⟨0#32, 32#32, 1#32⟩ k1_t2_ok 0#32 (fun t a => tblP L tab1M (k1_off2 t) (k1_off2_inb t) (fun c => extractAt ![0] (k1_pay306 (F := F) c) inpos_S1_p0) (k1_pay307 (F := F)) k1_chk2 k1_chk2.dec k1_idx2_inb (k1_pay308 t) a)) >>= fun v6 =>
      .op (.assume (k1_chk76 v6) (k1_chk76.dec v6)) fun h76 =>
      initP L (k1_pay309 (F := F)) k1_off3 k1_off3_inb k1_t3_ok <|
      phaseP L tab0M (k1_cond1 v4 = 1#1) (k1_cond2 v4 = 1#1) (fun v => extractAt ![15] (k1_pay5 (F := F) iotaV v) inpos_S16_p15) (fun v => extractAt ![15] (k1_pay311 (F := F) v) inpos_S16_p15)
        (k1_chk3 v4) (k1_chk4 v4) (k1_chk3.dec v4) (k1_chk4.dec v4) (fun h v hv => k1_off4_inb v4 v hv h) (fun h v hv => k1_off6_inb v4 v hv h)
        (fun {_} k => gatherP L slotA (fun t _ => idxP L slotA.sS slotA.sI (k1_off5 t) (k1_off5_inb t) (k1_pay310 (F := F) L)) k1_t4_ok k) <|
      (pure ⟨widOf L, iotaV, v4, h5.down, v6, h76.down, Scalar.addi v4 1#32, 2#32⟩ : PE F L _)) := rfl

/-- Half of a number of chunks, rounded up, as the kernel computes it. -/
def mid (v : BitVec 32) : BitVec 32 := fdiv (Scalar.addi v 1#32) 2#32
def midU (v : BitVec 32) : BitVec 32 := Scalar.addi 0#32 (Scalar.muli (Scalar.divsi (Scalar.subi (mid v) 0#32) 1#32) 1#32)

theorem t5_loop_eq (v : BitVec 32) : k1_t5_loop v = ⟨0#32, midU v, 1#32⟩ := rfl
theorem t17_loop_eq (v : BitVec 32) : k1_t17_loop v = ⟨0#32, midU v, 1#32⟩ := rfl
theorem t10_loop_eq (v : BitVec 32) : k1_t10_loop v = ⟨midU v, Scalar.addi 0#32 (Scalar.subi (mid v) 0#32), 1#32⟩ := rfl
theorem t22_loop_eq (v : BitVec 32) : k1_t22_loop v = ⟨midU v, Scalar.addi 0#32 (Scalar.subi (mid v) 0#32), 1#32⟩ := rfl

theorem p61_eq (L : grid1.Coords) (v1 : BitVec 32) (v2 : IVec S16 32) (v6 : BitVec 32) (z : F .f32) : k1_part61 (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2 v1 v2 v6 z
    = (initP L (k1_pay316 (F := F) z) k1_off152 k1_off152_inb k1_t15_ok <|
      phaseP L tab1M (k1_cond15 v6 = 1#1) (k1_cond16 v6 = 1#1) (fun v => extractAt ![15] (k1_pay154 (F := F) v2 v) inpos_S16_p15) (fun v => extractAt ![15] (k1_pay318 (F := F) v2 v) inpos_S16_p15)
        (k1_chk74 v6) (k1_chk75 v6) (k1_chk74.dec v6) (k1_chk75.dec v6) (fun h v hv => k1_off153_inb v6 v hv h) (fun h v hv => k1_off155_inb v6 v hv h)
        (fun {_} k => gatherP L slotA (fun t _ => idxP L slotA.sS slotA.sI (k1_off154 t) (k1_off154_inb t) (k1_pay317 (F := F) v1)) k1_t16_ok k) <|
      (pure ⟨mid v6, 0#32, 0#32⟩ : PE F L _)) := rfl

end Cert.Proof

end
-- ==== Proof.EdgeSpec.lean ====
/-
  The second call's tables of chunk offsets, the clearing of the running maxima, and the start of a half's first chunks, run.
-/
module

public import proofs.«01_k».proof.Proof.EdgePhase

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

section

variable (d : Dev nD) (L : grid1.Coords)

theorem wp_storeIdxH {α : Type} {s : Shape} {e : EltTy} {dd : Fin 1 → ℕ} {m : Memref sig .scVector .vmem s e} {idxs : Fin s.rank → IVec ⟨1, dd⟩ 32} {v : Vec F ⟨1, dd⟩ e} {mask : IVec ⟨1, dd⟩ 1} {ad : Bool}
    {h : ∀ a x, (idxs a x).toNat < s.size a} {hs : (m.access (.whole s)).Stores Finset.univ} {k : PUnit → PE F L α} {Q : α → sProp 𝕄} {w : s.Idx → Elt F e}
    (hset : (m.access (.whole s)).set = Finset.univ) :
    Held d L m fullShare w
      ⊢ iprop((Held d L m fullShare (storeIdx w idxs v mask ad h) -∗ WPE d L (k ⟨⟩) Q)
        -∗ WPE d L (SparseCore.vectorStoreIdx m idxs v mask ad h hs >>= k) Q) := by
  iintro H Hk
  unfold Held
  icases H with ⟨%f, %hf, H⟩
  iapply (wp_storeIdxW 𝒱₀ (thE d L) none (base := m) (f := f) hset rfl) $$ H; iintro H
  iapply Hk
  iexists _
  isplitr
  swap
  · iexact H
  ipureintro
  funext x
  have e1 : ∀ g : Buf (Elt F) (m.view.loc (thE d L)), (m.access (.whole s)).read (Elt F) g = m.view.read (Elt F) g := fun g => by
    funext y
    show m.view.read (Elt F) g ((Rect.whole s).emb y) = _
    rw [Rect.emb_whole_apply]
  refine Eq.trans (congrFun (e1 _).symm x) ?_
  refine Eq.trans (congrFun (View.read_write_univ (v := m.access (.whole s)) _ _) x) ?_
  rw [e1, hf]

theorem nchunks_fdiv {n : BitVec 32} (hn : n.toNat ≤ 5008) : (fdiv (Scalar.addi n 511#32) 512#32).toNat = nchunks n := by
  have h : (Scalar.addi n 511#32).toNat = n.toNat + 511 := by
    show (n + 511#32).toNat = _
    rw [BitVec.toNat_add]
    show (n.toNat + 511) % 2 ^ 32 = _
    omega
  rw [fdiv_toNat (by omega) (by decide) (by decide), h]; rfl

theorem nchunks_le {n : BitVec 32} (hn : n.toNat ≤ 5008) : nchunks n ≤ 10 := by
  unfold nchunks; omega

/-- The tiles' chunks listed in a table. -/
theorem wp_tblLoop {tabM : Memref sig .scVector .vmem S544 .i32} (hset : (tabM.access (.whole S544)).set = Finset.univ) (p : Fin 2) {cn : S32x16.Idx → BitVec 32} {w0 : S544.Idx → BitVec 32}
    (hcn : ∀ t : Fin 32, (cn (ix2 t ⟨p.val, by omega⟩)).toNat ≤ 5008)
    {off : Fin 32 → Fin 2 → ℕ} {inb : ∀ t a, off t a + S1x16.size a ≤ S32x16.size a} (hoff : ∀ t : Fin 32, off t = ![t.val, 0])
    {num : Vec F S1x16 .i32 → BitVec 32} (hnum : ∀ c, num c = c (ix2 (n := 1) (k := 16) 0 ⟨p.val, by omega⟩))
    {idx : BitVec 32 → Vec F S1x16 .i32 → IVec S16 32} (hidx : ∀ a c (l : Fin 16), idx a c (ix1 l) = Scalar.select (Scalar.cmpi .slt (BitVec.ofNat 32 l.val) (fdiv (Scalar.addi (num c) 511#32) 512#32)) (Scalar.addi a (BitVec.ofNat 32 l.val)) 528#32)
    {chk : IVec S16 32 → Prop} {dec : ∀ v, Decidable (chk v)} (hchk : ∀ v, (∀ a x, ((![v] : Fin 1 → IVec S16 32) a x).toNat < S544.size a) → chk v)
    {hi : ∀ v, chk v → ∀ a x, ((![v] : Fin 1 → IVec S16 32) a x).toNat < S544.size a} {pay : Fin 32 → IVec S16 32}
    (hpay : ∀ (t : Fin 32) (l : Fin 16), (pay t (ix1 l)).toNat = (2 * t.val + p.val) * 5120 + l.val * 512)
    {ok : Scf.Loop.OK ⟨0#32, 32#32, 1#32⟩} {α : Type} {kk : BitVec 32 → PE F L α} {Q : α → sProp 𝕄} :
    iprop(Held d L cntM fullShare (e := .i32) cn ∗ Held d L tabM fullShare (e := .i32) w0)
      ⊢ iprop((∀ a, (∃ w : S544.Idx → BitVec 32, ⌜TabOK cn p 32 a.toNat w⌝ ∗ Held d L cntM fullShare (e := .i32) cn ∗ Held d L tabM fullShare (e := .i32) w) -∗ WPE d L (kk a) Q)
        -∗ WPE d L ((Scf.Loop.for ⟨0#32, 32#32, 1#32⟩ ok 0#32 (fun t a => tblP L tabM (off t) (inb t) num idx chk dec hi (pay t) a)) >>= kk) Q) := by
  iintro ⟨HC, HT⟩ Hk
  iapply (Scf.wp_for_bind frame (wpE (defs₀ (F := F)) 𝒱₀ (thE d L) none) Set.univ 0#32 32#32 1#32 ok 0#32 _
    (fun k a => iprop(∃ w : S544.Idx → BitVec 32, ⌜TabOK cn p k a.toNat w⌝ ∗ Held d L cntM fullShare (e := .i32) cn ∗ Held d L tabM fullShare (e := .i32) w))
    ?_) $$ [HC HT]
  rotate_left
  · iexists w0
    isplitr
    · ipureintro
      exact ⟨Nat.zero_le _, fun c hc => absurd hc (Nat.not_lt_zero _), fun k i hk => absurd hk (Nat.not_lt_zero _)⟩
    isplitl [HC]; · iexact HC
    iexact HT
  · iintro %a H
    iapply Hk
    iexact H
  · intro k a
    obtain ⟨t, ht⟩ : ∃ t : Fin 32, t = k := ⟨k, rfl⟩
    subst ht
    have hk : t.val < 32 := t.isLt
    have ho := hoff t
    iintro ⟨%w, %hw, HC, HT⟩
    have hnc := hw.1
    unfold tblP
    iapply (wp_loadH d L) $$ HC; iintro HC
    have hc : num (fun x => cn ((Rect.unit (s := S32x16) (off t) S1x16.size (inb t)).emb x)) = cn (ix2 t ⟨p.val, by omega⟩) := by
      rw [hnum]
      refine congrArg cn (unit_emb_eq (s := S32x16) (inb t) _ _ fun a => ?_)
      refine (?_ : (ix2 (n := 32) (k := 16) t ⟨p.val, by omega⟩ a).val = off t a + (ix2 (n := 1) (k := 16) 0 ⟨p.val, by omega⟩ a).val)
      rw [congrFun ho a]
      match a with
      | 0 => rfl
      | 1 => exact (Nat.zero_add _).symm
    have hq := nchunks_fdiv (hcn t)
    have hq10 := nchunks_le (hcn t)
    have hI : ∀ l : Fin 16, (idx a (fun x => cn ((Rect.unit (s := S32x16) (off t) S1x16.size (inb t)).emb x)) (ix1 l)).toNat
        = if l.val < nchunks (cn (ix2 t ⟨p.val, by omega⟩)) then a.toNat + l.val else 528 := fun l => by
      have hl : (BitVec.ofNat 32 l.val).toNat = l.val := by rw [BitVec.toNat_ofNat]; have := l.isLt; omega
      rw [hidx, hc, show Scalar.cmpi .slt (BitVec.ofNat 32 l.val) (fdiv (Scalar.addi (cn (ix2 t ⟨p.val, by omega⟩)) 511#32) 512#32)
        = BitVec.ofBool (decide (l.val < nchunks (cn (ix2 t ⟨p.val, by omega⟩)))) from by
          rw [← hl, ← hq]; rw [hl]
          exact (congrArg BitVec.ofBool (slt_nat (by rw [hl]; have := l.isLt; omega) (by rw [hq]; omega))).trans (by rw [hl])]
      by_cases h : l.val < nchunks (cn (ix2 t ⟨p.val, by omega⟩))
      · rw [if_pos h, decide_eq_true h]
        show (a + BitVec.ofNat 32 l.val).toNat = _
        rw [BitVec.toNat_add, hl]
        have := l.isLt
        omega
      · rw [if_neg h, decide_eq_false h]; rfl
    have hb : ∀ b x, ((![idx a (fun x => cn ((Rect.unit (s := S32x16) (off t) S1x16.size (inb t)).emb x))] : Fin 1 → IVec S16 32) b x).toNat < S544.size b := fun b x => by
      match b with
      | 0 =>
        show (idx a _ x).toNat < 544
        have := hI (x 0)
        rw [ix1_eta (n := 16) x] at this
        rw [this]
        split <;> omega
    iapply (wp_assume 𝒱₀ (thE d L) none Set.univ (hchk _ hb))
    iapply (wp_storeIdxH d L (s := S544) hset) $$ HT; iintro HT
    iapply (le_wp_ret _ _)
    iexists _
    isplitr
    swap
    · isplitl [HC]; · iexact HC
      iexact HT
    ipureintro
    have hs := TabOK_step (F := F) hw hq10 _ (pay t) hI (hpay t) hb
    have e : (Scalar.addi a (fdiv (Scalar.addi (num (fun x => cn ((Rect.unit (s := S32x16) (off t) S1x16.size (inb t)).emb x))) 511#32) 512#32)).toNat = a.toNat + nchunks (cn (ix2 t ⟨p.val, by omega⟩)) := by
      rw [hc]
      show (a + _).toNat = _
      rw [BitVec.toNat_add, hq]
      omega
    rw [← e] at hs
    exact hs

/-! ## The running maxima cleared -/

theorem wp_clrP {pay : FVec F S16 .f32} {z : F .f32} (hpay : ∀ x, pay x = z) {off : Fin 2 → ℕ} {inb : ∀ a, off a + S1x16.size a ≤ S5008x16.size a} {r : ℕ} (hoff : off = ![r, 0])
    {α : Type} {k : PE F L α} {Q : α → sProp 𝕄} {acc : S5008x16.Idx → F .f32} :
    Held d L accM fullShare (e := .f32) acc
      ⊢ iprop((Held d L accM fullShare (e := .f32) (fun x => if (x 0).val = r then z else acc x) -∗ WPE d L k Q) -∗ WPE d L (clrP L pay off inb k) Q) := by
  iintro HA Hk
  unfold clrP
  iapply (wp_loadH d L) $$ HA; iintro HA
  iapply (wp_storeH d L (fun x => if (x 0).val = r then z else acc x) ?_ ?_) $$ HA
  rotate_left 2
  · iintro HA
    iapply Hk
    iexact HA
  · intro x
    have hx : (x 0).val < 1 := (x 0).isLt
    have e0 : ((Rect.unit (s := S5008x16) off S1x16.size inb).emb x 0).val = r := (emb_val' (s := S5008x16) hoff inb x 0).trans (by show r + (x 0).val = r; omega)
    exact (if_pos e0).trans (hpay _).symm
  · intro y hy
    refine if_neg fun h => ?_
    refine hy (ix2 (n := 1) (k := 16) 0 (y 1)) (unit_emb_eq inb _ y fun a => ?_)
    refine (?_ : (y a).val = off a + (ix2 (n := 1) (k := 16) 0 (y 1) a).val)
    rw [congrFun hoff a]
    match a with
    | 0 => exact h
    | 1 => exact (Nat.zero_add _).symm

theorem wp_initP {b : ℕ} {g : BitVec 32 → Fin 16 → F .f32} {pay : FVec F S16 .f32} (hpay : ∀ x, pay x = Scalar.ofBits .f32 0xFF800000#32) {off : Fin 1250 → BitVec 32 → Fin 2 → ℕ}
    {inb : ∀ t (r : Fin 4), ∀ a, off t (BitVec.ofNat 32 r.val) a + S1x16.size a ≤ S5008x16.size a} (hoff : ∀ t (r : Fin 4), off t (BitVec.ofNat 32 r.val) = ![4 * t.val + r.val, 0])
    {ok : Scf.Loop.OK ⟨0#32, 1250#32, 1#32⟩} {α : Type} {k : PE F L α} {Q : α → sProp 𝕄} {acc : S5008x16.Idx → F .f32} :
    Held d L accM fullShare (e := .f32) acc
      ⊢ iprop((AccI d L b (fun _ _ => False) g -∗ WPE d L k Q) -∗ WPE d L (initP L pay off inb ok k) Q) := by
  iintro HA Hk
  unfold initP
  iapply (wp_clrP d L hpay rfl) $$ HA; iintro HA
  iapply (wp_clrP d L hpay rfl) $$ HA; iintro HA
  iapply (Scf.wp_for_bind frame (wpE (defs₀ (F := F)) 𝒱₀ (thE d L) none) Set.univ 0#32 1250#32 1#32 ok 0#32 _
    (fun k _ => iprop(∃ acc : S5008x16.Idx → F .f32, ⌜∀ x, (x 0).val < 4 * k → acc x = Scalar.ofBits .f32 0xFF800000#32⌝ ∗ Held d L accM fullShare (e := .f32) acc))
    ?_) $$ [HA]
  rotate_left
  · iexists _
    isplitr
    swap
    · iexact HA
    ipureintro
    intro x hx; exact absurd hx (by omega)
  · iintro %a ⟨%acc', %h, HA⟩
    iapply Hk
    unfold AccI
    iexists acc'
    isplitr
    · ipureintro
      intro x hx
      rw [h x (by show _ < 4 * 1250; omega)]
      exact MaxOf_nil fun y ⟨_, _, hf, _⟩ => hf
    · iexact HA
  · intro t a
    iintro ⟨%acc', %h, HA⟩
    iapply (wp_clrP d L hpay (hoff t 0)) $$ HA; iintro HA
    iapply (wp_clrP d L hpay (hoff t 1)) $$ HA; iintro HA
    iapply (wp_clrP d L hpay (hoff t 2)) $$ HA; iintro HA
    iapply (wp_clrP d L hpay (hoff t 3)) $$ HA; iintro HA
    iapply (le_wp_ret _ _)
    iexists _
    isplitr
    swap
    · iexact HA
    ipureintro
    intro x hx
    have e0 : (((0 : Fin 4)).val = 0) ∧ (((1 : Fin 4)).val = 1) ∧ (((2 : Fin 4)).val = 2) ∧ (((3 : Fin 4)).val = 3) := ⟨rfl, rfl, rfl, rfl⟩
    obtain ⟨e0, e1, e2, e3⟩ := e0
    dsimp only
    split
    · rfl
    split
    · rfl
    split
    · rfl
    split
    · rfl
    exact h x (by omega)

/-! ## A half's first chunks started -/

section

variable (TAB : S320000x16.Idx → F .f32) (fS fD : S327680.Idx → BitVec 32) (wd : BitVec 32) (tw : S544.Idx → BitVec 32) (nc : ℕ)

theorem get_first {get : IVec S16 32 → BitVec 32} {c : ℕ} (hc : c < 16) (hget : ∀ v, get v = v (ix1 (n := 16) ⟨c, hc⟩)) :
    get (fun x => tw ((Rect.unit (s := S544) ![0] S16.size inb_S544_S16_0).emb x)) = tw (ix1 (n := 544) ⟨c % 544, Nat.mod_lt _ (by decide)⟩) := by
  rw [hget]
  refine congrArg tw (unit_emb_eq (s := S544) inb_S544_S16_0 _ _ fun a => ?_)
  match a with
  | 0 => show c % 544 = 0 + c; omega

theorem wp_phaseP {b : ℕ} {tabM : Memref sig .scVector .vmem S544 .i32} {O : CellTallies nD τ sig (HIx 2)} {W : Waits sig (HIx 2)} {qA qB : PosShare TreeShare}
    (hS : ∀ x, (rowW wd (fS x)).toNat < 320000) (hoffs : ∀ c, c < nc → offs tw c % 16 = 0 ∧ offs tw c + 512 ≤ 327680)
    {C1 C2 : Prop} [Decidable C1] [Decidable C2] (hC1 : C1 ↔ 0 < nc) (hC2 : C2 ↔ 1 < nc) {get0 get1 : IVec S16 32 → BitVec 32}
    (hg0 : ∀ v, get0 v = v (ix1 (n := 16) ⟨0, by decide⟩)) (hg1 : ∀ v, get1 v = v (ix1 (n := 16) ⟨1, by decide⟩))
    {P0 P1 : BitVec 32 → Prop} (hP0 : ∀ v, (∀ a, srcOff v a + S512.size a ≤ S327680.size a) → P0 v) (hP1 : ∀ v, (∀ a, srcOff v a + S512.size a ≤ S327680.size a) → P1 v)
    {dec0 : ∀ v, Decidable (P0 v)} {dec1 : ∀ v, Decidable (P1 v)} {inbS0 : C1 → ∀ v, P0 v → ∀ a, srcOff v a + S512.size a ≤ S327680.size a} {inbS1 : C2 → ∀ v, P1 v → ∀ a, srcOff v a + S512.size a ≤ S327680.size a}
    {pay : IVec S16 32 → IVec S16 32} (hpay : ∀ v x, pay v x = rowW wd (v x)) {ok : Scf.Loop.OK ⟨0#32, 32#32, 1#32⟩}
    {offI : Fin 32 → Fin 1 → ℕ} {inbI : ∀ k a, offI k a + S16.size a ≤ S512.size a} (hoffI : ∀ k : Fin 32, offI k = ![16 * k.val])
    {α : Type} {k : PE F L α} {Q : α → sProp 𝕄} :
    iprop(Idle d L TAB fS fD slotA qA ∗ Idle d L TAB fS fD slotB qB ∗ Held d L tabM fullShare (e := .i32) tw ∗ AccI d L b (fun _ _ => False) (gval TAB wd) ∗ OW d L O W ∗ (Transfers.MayWaits (thE d L) (default : HIx 2) O : sProp 𝕄))
      ⊢ iprop((MainInv d L TAB fS fD wd tw nc b tabM O W slotA slotB qA qB 0 -∗ WPE d L k Q)
        -∗ WPE d L (phaseP L tabM C1 C2 get0 get1 P0 P1 dec0 dec1 inbS0 inbS1 (fun {_} k => gatherP L slotA (fun t _ => idxP L slotA.sS slotA.sI (offI t) (inbI t) pay) ok k) k) Q) := by
  have hsrc : ∀ c, c < nc → ∃ h : srcOff (tw (ix1 (n := 544) ⟨c % 544, Nat.mod_lt _ (by decide)⟩)) = ![offs tw c], ∀ a, srcOff (tw (ix1 (n := 544) ⟨c % 544, Nat.mod_lt _ (by decide)⟩)) a + S512.size a ≤ S327680.size a := fun c hc => by
    obtain ⟨o16, ole⟩ := hoffs c hc
    have hso := srcOff_eq (v := tw (ix1 (n := 544) ⟨c % 544, Nat.mod_lt _ (by decide)⟩)) (by unfold offs at ole; omega) o16
    refine ⟨hso, fun a => ?_⟩
    rw [congrFun hso a]
    match a with
    | 0 => exact ole
  have hD : ∀ s e, False ↔ DoneC fS fD tw nc 0 s e := fun s e => ⟨False.elim, fun ⟨c', h, _⟩ => absurd h (Nat.not_lt_zero _)⟩
  have rest : iprop((if 0 < nc then Gath d L TAB fS fD wd slotA qA (offs tw 0) else Idle d L TAB fS fD slotA qA) ∗ Idle d L TAB fS fD slotB qB ∗ Held d L tabM fullShare (e := .i32) tw ∗ AccI d L b (fun _ _ => False) (gval TAB wd) ∗ OW d L O W)
      ⊢ iprop((MainInv d L TAB fS fD wd tw nc b tabM O W slotA slotB qA qB 0 -∗ WPE d L k Q)
        -∗ WPE d L (if h2 : C2 then startP L slotB tabM ![0] inb_S544_S16_0 get1 P1 dec1 srcOff (inbS1 h2) k else k) Q) := by
    iintro ⟨HA, HB, HT, HM, HO⟩ Hk
    by_cases h2 : C2
    · have c2 := hC2.1 h2
      obtain ⟨hso, hin⟩ := hsrc 1 c2
      rw [dif_pos h2]
      iapply (wp_startP d L TAB fS fD slotB (o := offs tw 1) (by rw [get_first tw (by decide) hg1]; exact hP1 _ hin) (by rw [get_first tw (by decide) hg1]; exact hso) (hoffs 1 c2).2) $$ [HT HB]
      · isplitl [HT]; · iexact HT
        iexact HB
      iintro ⟨HT, HB⟩
      iapply Hk
      unfold MainInv
      rw [if_pos (show 0 + 1 < nc from c2)]
      isplitl [HA]; · iexact HA
      isplitl [HB]; · iexact HB
      isplitl [HT]; · iexact HT
      isplitl [HM]; · iapply (AccI_congr d L hD) $$ HM
      iexact HO
    · rw [dif_neg h2]
      iapply Hk
      unfold MainInv
      rw [if_neg (show ¬ 0 + 1 < nc from fun h => h2 (hC2.2 h))]
      isplitl [HA]; · iexact HA
      isplitl [HB]; · iexact HB
      isplitl [HT]; · iexact HT
      isplitl [HM]; · iapply (AccI_congr d L hD) $$ HM
      iexact HO
  unfold phaseP
  dsimp only
  by_cases h1 : C1
  · have c1 := hC1.1 h1
    obtain ⟨hso, hin⟩ := hsrc 0 c1
    rw [dif_pos h1]
    rw [if_pos c1] at rest
    iintro ⟨HA, HB, HT, HM, HO, #Hmw⟩ Hk
    iapply (wp_startP d L TAB fS fD slotA (o := offs tw 0) (by rw [get_first tw (by decide) hg0]; exact hP0 _ hin) (by rw [get_first tw (by decide) hg0]; exact hso) (hoffs 0 c1).2) $$ [HT HA]
    · isplitl [HT]; · iexact HT
      iexact HA
    iintro ⟨HT, HA⟩
    iapply (wp_gatherP d L TAB fS fD wd slotA hS hpay hoffI) $$ [HA HO]
    · isplitl [HA]; · iexact HA
      isplitl [HO]; · iexact HO
      iexact Hmw
    iintro ⟨HA, HO⟩
    iapply rest $$ [HA HB HT HM HO]
    · isplitl [HA]; · iexact HA
      isplitl [HB]; · iexact HB
      isplitl [HT]; · iexact HT
      isplitl [HM]; · iexact HM
      iexact HO
    iexact Hk
  · have c1 : ¬ 0 < nc := fun h => h1 (hC1.2 h)
    rw [dif_neg h1]
    rw [if_neg c1] at rest
    iintro ⟨HA, HB, HT, HM, HO, -⟩ Hk
    iapply rest $$ [HA HB HT HM HO]
    · isplitl [HA]; · iexact HA
      isplitl [HB]; · iexact HB
      isplitl [HT]; · iexact HT
      isplitl [HM]; · iexact HM
      iexact HO
    iexact Hk

end

end

end Cert.Proof

end
-- ==== Proof.EdgePure.lean ====
/-
  The trip counts and checks of the second call, and what the flattened buckets hold.
-/
module

public import proofs.«01_k».proof.Proof.EdgeSpec

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The trips' numbers -/

theorem trip2_toNat {t : ℕ} (ht : t < 2 ^ 20) : (trip2 t).toNat = 2 * t := by
  show (2#32 * Scf.iv 0#32 1#32 t).toNat = _
  rw [BitVec.toNat_mul, WordArith.toNat_iv_zero_one _ (by omega), show (2#32 : BitVec 32).toNat = 2 from rfl, Nat.mod_eq_of_lt (by omega)]

theorem addi_small {x : BitVec 32} {k : ℕ} (h : x.toNat + k < 2 ^ 32) : (Scalar.addi x (BitVec.ofNat 32 k)).toNat = x.toNat + k := by
  show (x + BitVec.ofNat 32 k).toNat = _
  rw [BitVec.toNat_add, BitVec.toNat_ofNat, Nat.mod_eq_of_lt (show k < 2 ^ 32 by omega), Nat.mod_eq_of_lt h]

theorem below_iff {x y : BitVec 32} (hx : x.toNat < 2 ^ 31) (hy : y.toNat < 2 ^ 31) : below x y = 1#1 ↔ x.toNat < y.toNat := cond_slt hx hy

theorem above_iff {v c : BitVec 32} (hv : v.toNat < 2 ^ 31) (hc : c.toNat < 2 ^ 31) :
    Scalar.cmpi .ne (Scalar.extui (Scalar.cmpi .sgt v c)) 0#32 = 1#1 ↔ c.toNat < v.toNat := cond_slt hc hv

theorem divsi_one {x : BitVec 32} (hx : x.toNat < 2 ^ 31) : Scalar.divsi x 1#32 = x := by
  have hc : ¬ IntOp.SDivCorner x 1#32 := fun h => by
    rcases h with h | ⟨h, -⟩
    · exact absurd h (by decide)
    · rw [h] at hx; exact absurd hx (by decide)
  have mx : x.msb = false := by rw [BitVec.msb_eq_false_iff_two_mul_lt]; omega
  have md : (1#32 : BitVec 32).msb = false := by decide
  show IntOp.divsi .scalar x 1#32 = _
  rw [IntOp.divsi, if_neg hc, BitVec.sdiv_eq, mx, md]
  exact BitVec.eq_of_toNat_eq ((BitVec.toNat_udiv ..).trans (Nat.div_one _))

theorem mid_toNat {v : BitVec 32} (hv : v.toNat ≤ 320) : (mid v).toNat = (v.toNat + 1) / 2 := by
  have h : (Scalar.addi v 1#32).toNat = v.toNat + 1 := addi_small (k := 1) (by omega)
  unfold mid
  rw [fdiv_toNat (by omega) (by decide) (by decide), h]; rfl

theorem midU_eq {v : BitVec 32} (hv : v.toNat ≤ 320) : midU v = mid v := by
  have e : (mid v - 0#32 : BitVec 32) = mid v := BitVec.sub_zero _
  have hm := mid_toNat hv
  show (0#32 + (Scalar.divsi (mid v - 0#32) 1#32) * 1#32 : BitVec 32) = _
  rw [e, divsi_one (by omega), BitVec.mul_one, BitVec.zero_add]

theorem sub_mid {v : BitVec 32} : Scalar.addi 0#32 (Scalar.subi (mid v) 0#32) = mid v := by
  show (0#32 + (mid v - 0#32) : BitVec 32) = _
  rw [BitVec.sub_zero, BitVec.zero_add]

theorem trips_up {u : BitVec 32} (hu : u.toNat < 2 ^ 20) : (⟨0#32, u, 1#32⟩ : Scf.Loop 32).trips = u.toNat := by
  show ((u.toInt - (0#32 : BitVec 32).toInt + (1#32 : BitVec 32).toInt - 1) / (1#32 : BitVec 32).toInt).toNat = _
  rw [BitVec.toInt_eq_toNat_of_lt (by omega), show (0#32 : BitVec 32).toInt = 0 from rfl, show (1#32 : BitVec 32).toInt = 1 from rfl]
  omega
theorem ok_up {u : BitVec 32} (hu : u.toNat < 2 ^ 20) : (⟨0#32, u, 1#32⟩ : Scf.Loop 32).OK := by
  refine ⟨(show (0 : ℤ) < (1#32 : BitVec 32).toInt by decide), ?_⟩
  show (0#32 : BitVec 32).toInt + ((⟨0#32, u, 1#32⟩ : Scf.Loop 32).trips : ℤ) * (1#32 : BitVec 32).toInt < 2 ^ 31
  rw [trips_up hu, show (0#32 : BitVec 32).toInt = 0 from rfl, show (1#32 : BitVec 32).toInt = 1 from rfl]
  omega
theorem trips_flat (u : BitVec 32) : (⟨u, u, 1#32⟩ : Scf.Loop 32).trips = 0 := by
  show ((u.toInt - u.toInt + (1#32 : BitVec 32).toInt - 1) / (1#32 : BitVec 32).toInt).toNat = _
  rw [show (1#32 : BitVec 32).toInt = 1 from rfl]
  omega
theorem ok_flat {u : BitVec 32} (hu : u.toNat < 2 ^ 20) : (⟨u, u, 1#32⟩ : Scf.Loop 32).OK := by
  refine ⟨(show (0 : ℤ) < (1#32 : BitVec 32).toInt by decide), ?_⟩
  show u.toInt + ((⟨u, u, 1#32⟩ : Scf.Loop 32).trips : ℤ) * (1#32 : BitVec 32).toInt < 2 ^ 31
  rw [trips_flat u, BitVec.toInt_eq_toNat_of_lt (by omega)]
  omega

section

variable {v : BitVec 32} (hv : v.toNat ≤ 320)
include hv

theorem t5_trips : (k1_t5_loop v).trips = (v.toNat + 1) / 2 := by
  rw [t5_loop_eq, trips_up (by rw [midU_eq hv, mid_toNat hv]; omega), midU_eq hv, mid_toNat hv]
theorem t17_trips : (k1_t17_loop v).trips = (v.toNat + 1) / 2 := by
  rw [t17_loop_eq, trips_up (by rw [midU_eq hv, mid_toNat hv]; omega), midU_eq hv, mid_toNat hv]
theorem t10_trips : (k1_t10_loop v).trips = 0 := by
  rw [t10_loop_eq, sub_mid, midU_eq hv]; exact trips_flat _
theorem t22_trips : (k1_t22_loop v).trips = 0 := by
  rw [t22_loop_eq, sub_mid, midU_eq hv]; exact trips_flat _

theorem tabOff_in {w : BitVec 32} (hw : w.toNat ≤ 330) : ∀ a, tabOff w a + S16.size a ≤ S544.size a := by
  intro a
  rw [congrFun (tabOff_eq (w := w) (by omega)) a]
  match a with
  | 0 => show w.toNat / 8 * 8 + 16 ≤ 544; omega

theorem chk5_of : k1_chk5 v := by
  have hm := mid_toNat hv
  refine ⟨?_, fun t _ _ => ?_, fun t _ _ => ?_, ?_, fun t => ?_, fun t => ?_⟩
  · rw [t5_loop_eq, midU_eq hv]; exact ok_up (by omega)
  · have ht : t.val < (v.toNat + 1) / 2 := (t5_trips hv) ▸ t.isLt
    refine tabOff_in hv (w := Scalar.addi (trip2 t) 2#32) ?_
    rw [addi_small (k := 2) (by rw [trip2_toNat (by omega)]; omega), trip2_toNat (by omega)]; omega
  · have ht : t.val < (v.toNat + 1) / 2 := (t5_trips hv) ▸ t.isLt
    have h1 : (Scalar.addi (trip2 t) 1#32).toNat = 2 * t.val + 1 := by
      rw [addi_small (k := 1) (by rw [trip2_toNat (by omega)]; omega), trip2_toNat (by omega)]
    refine tabOff_in hv (w := Scalar.addi (Scalar.addi (trip2 t) 1#32) 2#32) ?_
    rw [addi_small (k := 2) (by rw [h1]; omega), h1]; omega
  · rw [t10_loop_eq, sub_mid, midU_eq hv]; exact ok_flat (by omega)
  · exact absurd (t10_trips hv ▸ t.isLt : t.val < 0) (Nat.not_lt_zero _)
  · exact absurd (t10_trips hv ▸ t.isLt : t.val < 0) (Nat.not_lt_zero _)

theorem chk76_of : k1_chk76 v := by
  have hm := mid_toNat hv
  refine ⟨?_, fun t _ _ => ?_, fun t _ _ => ?_, ?_, fun t => ?_, fun t => ?_⟩
  · rw [t17_loop_eq, midU_eq hv]; exact ok_up (by omega)
  · have ht : t.val < (v.toNat + 1) / 2 := (t17_trips hv) ▸ t.isLt
    refine tabOff_in hv (w := Scalar.addi (trip2 t) 2#32) ?_
    rw [addi_small (k := 2) (by rw [trip2_toNat (by omega)]; omega), trip2_toNat (by omega)]; omega
  · have ht : t.val < (v.toNat + 1) / 2 := (t17_trips hv) ▸ t.isLt
    have h1 : (Scalar.addi (trip2 t) 1#32).toNat = 2 * t.val + 1 := by
      rw [addi_small (k := 1) (by rw [trip2_toNat (by omega)]; omega), trip2_toNat (by omega)]
    refine tabOff_in hv (w := Scalar.addi (Scalar.addi (trip2 t) 1#32) 2#32) ?_
    rw [addi_small (k := 2) (by rw [h1]; omega), h1]; omega
  · rw [t22_loop_eq, sub_mid, midU_eq hv]; exact ok_flat (by omega)
  · exact absurd (t22_trips hv ▸ t.isLt : t.val < 0) (Nat.not_lt_zero _)
  · exact absurd (t22_trips hv ▸ t.isLt : t.val < 0) (Nat.not_lt_zero _)

end

/-! ## What the flattened buckets hold -/

/-- What the flattened bucket arrays `fS`, `fD` and the counts `cn` hold of the edges `src`, `dst`. -/
def FlatOK (src dst : S160000.Idx → BitVec 32) (fS fD : S327680.Idx → BitVec 32) (cn : S32x16.Idx → BitVec 32) : Prop :=
  (∀ z : S32x16.Idx, (z 1).val < 2 → (cn z).toNat ≤ 5008)
  ∧ (∀ x, (fS x = 0#32 ∧ fD x = 10000#32) ∨ ∃ y, fS x = src y ∧ fD x = dst y)
  ∧ (∀ y, ∃ (z : S32x16.Idx) (e : ℕ), (z 1).val = half (dst y) ∧ e < (cn z).toNat
      ∧ ∀ x : S327680.Idx, (x 0).val = (2 * (z 0).val + half (dst y)) * 5120 + e → fS x = src y ∧ fD x = dst y)

section

variable {src dst : S160000.Idx → BitVec 32} {fS fD : S327680.Idx → BitVec 32} {cn : S32x16.Idx → BitVec 32} {p : Fin 2} {nc : ℕ} {tw : S544.Idx → BitVec 32}

theorem FlatOK_cn (hF : FlatOK src dst fS fD cn) (p : Fin 2) (t : Fin 32) : (cn (ix2 t ⟨p.val, by omega⟩)).toNat ≤ 5008 := hF.1 _ p.isLt

theorem FlatOK_S (hF : FlatOK src dst fS fD cn) (hs : ∀ y, (src y).toNat < 10000) (x) : (fS x).toNat < 10000 := by
  rcases hF.2.1 x with ⟨h, -⟩ | ⟨y, h, -⟩
  · rw [h]; decide
  · rw [h]; exact hs y
theorem FlatOK_D (hF : FlatOK src dst fS fD cn) (hd : ∀ y, (dst y).toNat < 10000) (x) : (fD x).toNat ≤ 10000 := by
  rcases hF.2.1 x with ⟨-, h⟩ | ⟨y, -, h⟩
  · rw [h]; decide
  · rw [h]; exact (hd y).le

theorem rowW_toNat {wd s : BitVec 32} (hw : wd.toNat < 32) (hs : s.toNat < 10000) : (rowW wd s).toNat = s.toNat * 32 + wd.toNat := by
  show (s * 32#32 + wd).toNat = _
  rw [BitVec.toNat_add, BitVec.toNat_mul, show (32#32 : BitVec 32).toNat = 32 from rfl, Nat.mod_eq_of_lt (show s.toNat * 32 < 2 ^ 32 by omega), Nat.mod_eq_of_lt (by omega)]

theorem offs_of (hF : FlatOK src dst fS fD cn) (hT : TabOK cn p 32 nc tw) {c : ℕ} (hc : c < nc) :
    offs tw c % 16 = 0 ∧ offs tw c + 512 ≤ 327680 := by
  have hp := p.isLt
  have hnc : nc ≤ 320 := hT.1
  obtain ⟨k, i, -, hi, h⟩ := hT.2.1 (ix1 (n := 544) ⟨c % 544, Nat.mod_lt _ (by decide)⟩) (by show c % 544 < nc; rw [Nat.mod_eq_of_lt (by omega)]; exact hc)
  have hk := k.isLt
  have hi' := nchunks_le (FlatOK_cn hF p k)
  unfold offs
  rw [h]
  omega

/-- The entries of a half's listed chunks that name a target of the half are the edges that do. -/
theorem flat_iff (hF : FlatOK src dst fS fD cn) (hd : ∀ y, (dst y).toNat < 10000) (hT : TabOK cn p 32 nc tw) {r : ℕ}
    (h0 : 5000 * p.val ≤ r) (h1 : r < 5000 * p.val + 5000) (P : BitVec 32 → Prop) :
    (∃ s e, DoneC fS fD tw nc nc s e ∧ e.toNat = r ∧ P s) ↔ ∃ y, (dst y).toNat = r ∧ P (src y) := by
  have hp := p.isLt
  have hnc : nc ≤ 320 := hT.1
  constructor
  · rintro ⟨s, e, ⟨c, -, -, j, rfl, rfl⟩, he, hP⟩
    unfold chunk at he hP
    rcases hF.2.1 (ix1 (n := 327680) ⟨(offs tw c + (j 0).val) % 327680, Nat.mod_lt _ (by decide)⟩) with ⟨-, h⟩ | ⟨y, hs, h⟩
    · rw [h] at he; exact absurd he (by show ¬ (10000#32 : BitVec 32).toNat = r; rw [show (10000#32 : BitVec 32).toNat = 10000 from rfl]; omega)
    · exact ⟨y, by rw [← h]; exact he, by rw [← hs]; exact hP⟩
  · rintro ⟨y, hy, hP⟩
    have hp16 : p.val < 16 := by omega
    have hh : half (dst y) = p.val := by
      unfold half; split <;> omega
    obtain ⟨z, e, hz, he, hx⟩ := hF.2.2 y
    rw [hh] at hz hx
    obtain ⟨t, rfl⟩ : ∃ t : Fin 32, z = ix2 (n := 32) (k := 16) t ⟨p.val, hp16⟩ :=
      ⟨z 0, (ix2_eta (n := 32) (k := 16) z).symm.trans (congrArg (ix2 (n := 32) (k := 16) (z 0)) (Fin.ext hz))⟩
    replace hx : ∀ x : S327680.Idx, (x 0).val = (2 * t.val + p.val) * 5120 + e → fS x = src y ∧ fD x = dst y := hx
    have h5 := FlatOK_cn hF p t
    have hz0 := t.isLt
    obtain ⟨c, hc, hw⟩ := hT.2.2 t (e / 512) hz0 (by unfold nchunks; omega)
    have hx' := hx (ix1 (n := 327680) ⟨(2 * t.val + p.val) * 5120 + e, by omega⟩) rfl
    have hcc : offs tw (c 0).val = (2 * t.val + p.val) * 5120 + e / 512 * 512 := by
      rw [← hw]; unfold offs
      refine congrArg (fun x => (tw x).toNat) ?_
      rw [← ix1_eta (n := 544) c]
      exact congrArg (ix1 (n := 544)) (Fin.ext (Nat.mod_eq_of_lt (by show (c 0).val < 544; omega)))
    have hi : (ix1 (n := 327680) ⟨(offs tw (c 0).val + e % 512) % 327680, Nat.mod_lt _ (by decide)⟩) = ix1 (n := 327680) ⟨(2 * t.val + p.val) * 5120 + e, by omega⟩ :=
      congrArg (ix1 (n := 327680)) (Fin.ext (by show (offs tw (c 0).val + e % 512) % 327680 = (2 * t.val + p.val) * 5120 + e; rw [hcc]; omega))
    refine ⟨src y, dst y, ⟨(c 0).val, hc, hc, ix1 (n := 512) ⟨e % 512, Nat.mod_lt _ (by decide)⟩, ?_, ?_⟩, hy, hP⟩
    · exact ((congrArg fS hi).trans hx'.1).symm
    · exact ((congrArg fD hi).trans hx'.2).symm

end

end Cert.Proof

end
-- ==== Proof.EdgeMain.lean ====
/-
  The second call: the words it computes, and the main loop of a half, run.
-/
module

public import proofs.«01_k».proof.Proof.EdgePure

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## What the second call computes -/

theorem iotaV_at (l : Fin 16) : iotaV (ix1 l) = BitVec.ofNat 32 l.val := by
  show BitVec.ofNat 32 _ = _
  exact congrArg (BitVec.ofNat 32) (by show 0 * 16 + l.val = l.val; omega)

theorem castRow {α : Type} (f : S1x16.Idx → α) (l : Fin 16) : shapeCast S16 f shapeCasts_S1x16_S16 (ix1 (n := 16) l) = f (ix2 (n := 1) (k := 16) 0 l) := by
  refine congrArg f (Shape.reshapeEquiv_eq_of_rowMajor _ ?_)
  show (S1x16.rowMajor _).val = (S16.rowMajor _).val
  rw [Shape.rowMajor_val_two, Shape.rowMajor_val_one]
  show 0 * 16 + l.val = l.val
  omega

theorem num0 (c : Vec F S1x16 .i32) : extractAt ![0] (k1_pay303 (F := F) c) inpos_S1_p0 = c (ix2 (n := 1) (k := 16) 0 ⟨(0 : Fin 2).val, by decide⟩) := by
  refine Eq.trans ?_ (castRow c ⟨(0 : Fin 2).val, by decide⟩)
  refine congrArg (shapeCast S16 c shapeCasts_S1x16_S16) ?_
  funext a
  match a with
  | 0 => exact Fin.ext rfl
theorem num1 (c : Vec F S1x16 .i32) : extractAt ![0] (k1_pay306 (F := F) c) inpos_S1_p0 = c (ix2 (n := 1) (k := 16) 0 ⟨(1 : Fin 2).val, by decide⟩) := by
  refine Eq.trans ?_ (castRow c ⟨(1 : Fin 2).val, by decide⟩)
  refine congrArg (shapeCast S16 c shapeCasts_S1x16_S16) ?_
  funext a
  match a with
  | 0 => exact Fin.ext rfl

theorem idx0 (a : BitVec 32) (c : Vec F S1x16 .i32) (l : Fin 16) : k1_pay304 (F := F) a c (ix1 l)
    = Scalar.select (Scalar.cmpi .slt (BitVec.ofNat 32 l.val) (fdiv (Scalar.addi (extractAt ![0] (k1_pay303 (F := F) c) inpos_S1_p0) 511#32) 512#32)) (Scalar.addi a (BitVec.ofNat 32 l.val)) 528#32 := by
  rw [← iotaV_at]; rfl
theorem idx1 (a : BitVec 32) (c : Vec F S1x16 .i32) (l : Fin 16) : k1_pay307 (F := F) a c (ix1 l)
    = Scalar.select (Scalar.cmpi .slt (BitVec.ofNat 32 l.val) (fdiv (Scalar.addi (extractAt ![0] (k1_pay306 (F := F) c) inpos_S1_p0) 511#32) 512#32)) (Scalar.addi a (BitVec.ofNat 32 l.val)) 528#32 := by
  rw [← iotaV_at]; rfl

theorem slotVal {t l q : ℕ} (ht : t < 32) (hl : l < 16) (hq : q < 2) :
    ((Scf.iv 0#32 1#32 t * 2#32 + BitVec.ofNat 32 q) * 5120#32 + BitVec.ofNat 32 l * 512#32 : BitVec 32).toNat = (2 * t + q) * 5120 + l * 512 := by
  simp only [BitVec.toNat_add, BitVec.toNat_mul, WordArith.toNat_iv_zero_one _ (show t < 2 ^ 32 by omega), BitVec.toNat_ofNat]
  omega
theorem slot0 (t : Fin 32) (l : Fin 16) : (k1_pay305 t (ix1 l)).toNat = (2 * t.val + (0 : Fin 2).val) * 5120 + l.val * 512 := by
  refine Eq.trans (congrArg BitVec.toNat ?_) (slotVal (q := 0) t.isLt l.isLt (by decide))
  rw [← iotaV_at]; rfl
theorem slot1 (t : Fin 32) (l : Fin 16) : (k1_pay308 t (ix1 l)).toNat = (2 * t.val + (1 : Fin 2).val) * 5120 + l.val * 512 := by
  refine Eq.trans (congrArg BitVec.toNat ?_) (slotVal (q := 1) t.isLt l.isLt (by decide))
  rw [← iotaV_at]; rfl

section

variable (d : Dev nD) (L : grid1.Coords) (TAB : S320000x16.Idx → F .f32) (fS fD : S327680.Idx → BitVec 32) (wd : BitVec 32) (tw : S544.Idx → BitVec 32) (nc : ℕ)

/-- A half's work done: both slots idle, the maxima over all its listed entries. -/
def MainEnd (b : ℕ) (tabM : Memref sig .scVector .vmem S544 .i32) (O : CellTallies nD τ sig (HIx 2)) (W : Waits sig (HIx 2)) (qA qB : PosShare TreeShare) : sProp 𝕄 :=
  iprop(Idle d L TAB fS fD slotA qA ∗ Idle d L TAB fS fD slotB qB ∗ Held d L tabM fullShare (e := .i32) tw ∗ AccI d L b (DoneC fS fD tw nc nc) (gval TAB wd) ∗ OW d L O W)

theorem wp_mainLoop {b : ℕ} {tabM : Memref sig .scVector .vmem S544 .i32} {O : CellTallies nD τ sig (HIx 2)} {W : Waits sig (HIx 2)} {qA qB : PosShare TreeShare}
    (lp : Scf.Loop 32) (hlp : lp.trips = (nc + 1) / 2) {ok : lp.OK} {body : Fin lp.trips → BitVec 32 → PE F L (BitVec 32)}
    (hbody : ∀ (t : Fin lp.trips) a (Q : BitVec 32 → sProp 𝕄), t.val < (nc + 1) / 2 →
      iprop(MainInv d L TAB fS fD wd tw nc b tabM O W slotA slotB qA qB (2 * t.val) ∗ (Transfers.MayWaits (thE d L) (default : HIx 2) O : sProp 𝕄))
        ⊢ iprop((MainInv d L TAB fS fD wd tw nc b tabM O W slotA slotB qA qB (2 * t.val + 1 + 1) -∗ WPE d L (pure 0#32 : PE F L (BitVec 32)) Q) -∗ WPE d L (body t a) Q))
    {a0 : BitVec 32} {α : Type} {kk : BitVec 32 → PE F L α} {Q : α → sProp 𝕄} :
    iprop(MainInv d L TAB fS fD wd tw nc b tabM O W slotA slotB qA qB 0 ∗ (Transfers.MayWaits (thE d L) (default : HIx 2) O : sProp 𝕄))
      ⊢ iprop((∀ a, MainEnd d L TAB fS fD wd tw nc b tabM O W qA qB -∗ WPE d L (kk a) Q) -∗ WPE d L (Scf.Loop.for lp ok a0 body >>= kk) Q) := by
  iintro ⟨HI, #Hmw⟩ Hk
  iapply (Scf.wp_for_bind frame (wpE (defs₀ (F := F)) 𝒱₀ (thE d L) none) Set.univ lp.lb lp.ub lp.st ok a0 body
    (fun k _ => iprop(MainInv d L TAB fS fD wd tw nc b tabM O W slotA slotB qA qB (2 * k) ∗ (Transfers.MayWaits (thE d L) (default : HIx 2) O : sProp 𝕄)))
    ?_) $$ [HI]
  rotate_left
  · isplitl [HI]; · iexact HI
    iexact Hmw
  · iintro %a ⟨HI, -⟩
    iapply Hk
    have h2 : Scf.trips lp.lb lp.ub lp.st = (nc + 1) / 2 := hlp
    rw [h2]
    unfold MainInv MainEnd
    rw [if_neg (show ¬ 2 * ((nc + 1) / 2) < nc by omega), if_neg (show ¬ 2 * ((nc + 1) / 2) + 1 < nc by omega)]
    icases HI with ⟨HA, HB, HT, HX, HO⟩
    isplitl [HA]; · iexact HA
    isplitl [HB]; · iexact HB
    isplitl [HT]; · iexact HT
    isplitl [HX]
    · iapply (AccI_congr d L ?_) $$ HX
      intro s e
      constructor
      · rintro ⟨c', -, h, j⟩; exact ⟨c', h, h, j⟩
      · rintro ⟨c', h, h', j⟩; exact ⟨c', by omega, h', j⟩
    · iexact HO
  · intro t a
    have ht : t.val < (nc + 1) / 2 := hlp ▸ t.isLt
    iintro ⟨HI, #Hmw⟩
    iapply (hbody t a _ ht) $$ [HI]
    · isplitl [HI]; · iexact HI
      iexact Hmw
    iintro HI
    iapply (le_wp_ret _ _)
    isplitl [HI]; · iexact HI
    iexact Hmw

theorem wp_t5Body {v1 v4 : BitVec 32} {v2 : IVec S16 32} {hw : k1_chk5 v4} {v20 c2 : BitVec 32} (hn : v4.toNat = nc) (hv1 : v1 = wd) (h2 : ∀ l : Fin 16, v2 (ix1 l) = BitVec.ofNat 32 l.val)
    (hS : ∀ x, (rowW wd (fS x)).toNat < 320000) (hD : ∀ x, (fD x).toNat ≤ 10000) (hnc : nc ≤ 320) (hoffs : ∀ c, c < nc → offs tw c % 16 = 0 ∧ offs tw c + 512 ≤ 327680)
    {O : CellTallies nD τ sig (HIx 2)} {W : Waits sig (HIx 2)} {qA qB : PosShare TreeShare}
    (t : Fin (k1_t5_loop v4).trips) (a : BitVec 32) (Q : BitVec 32 → sProp 𝕄) (ht : t.val < (nc + 1) / 2) :
    iprop(MainInv d L TAB fS fD wd tw nc 0 tab0M O W slotA slotB qA qB (2 * t.val) ∗ (Transfers.MayWaits (thE d L) (default : HIx 2) O : sProp 𝕄))
      ⊢ iprop((MainInv d L TAB fS fD wd tw nc 0 tab0M O W slotA slotB qA qB (2 * t.val + 1 + 1) -∗ WPE d L (pure 0#32 : PE F L (BitVec 32)) Q)
        -∗ WPE d L (k1_t5_body (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2 v1 v2 v4 hw v20 c2 t a) Q) := by
  have h0 : (trip2 t).toNat = 2 * t.val := trip2_toNat (by omega)
  have h1 : (Scalar.addi (trip2 t) 1#32).toNat = 2 * t.val + 1 := by rw [addi_small (k := 1) (by omega), h0]
  have h11 : (Scalar.addi (Scalar.addi (trip2 t) 1#32) 1#32).toNat = 2 * t.val + 1 + 1 := by rw [addi_small (k := 1) (by omega), h1]
  have h02 : (Scalar.addi (trip2 t) 2#32).toNat = 2 * t.val + 2 := by rw [addi_small (k := 2) (by omega), h0]
  have h12 : (Scalar.addi (Scalar.addi (trip2 t) 1#32) 2#32).toNat = 2 * t.val + 1 + 2 := by rw [addi_small (k := 2) (by omega), h1]
  have hb : ∀ {x : BitVec 32} {n : ℕ}, x.toNat = n → n < 1000 → (below x v4 = 1#1 ↔ n < nc) := fun {x n} hx hn' => by
    rw [below_iff (by omega) (by omega), hx, hn]
  rw [t5_eq]
  iintro ⟨HI, #Hmw⟩ Hk
  iapply (wp_halfP d L TAB fS fD wd tw nc (b := 0) (.inl rfl) hS hD hnc hoffs (hb h0 (by omega)) (hb h1 (by omega)) (hb h02 (by omega)) (fun v x => by rw [hv1] <;> rfl) k1_off7_eq k1_off8_eq h2 (fun _ _ => h02) (fun v h _ _ => h)) $$ [HI]
  · isplitl [HI]; · iexact HI
    iexact Hmw
  iintro HI
  iapply (wp_halfP d L TAB fS fD wd tw nc (b := 0) (.inl rfl) hS hD hnc hoffs (hb h1 (by omega)) (hb h11 (by omega)) (hb h12 (by omega)) (fun v x => by rw [hv1] <;> rfl) k1_off43_eq k1_off44_eq h2 (fun _ _ => h12) (fun v h _ _ => h)) $$ [HI]
  · isplitl [HI]; · iexact HI
    iexact Hmw
  iexact Hk

theorem wp_t17Body {v1 v6 : BitVec 32} {v2 : IVec S16 32} {hw : k1_chk76 v6} (hn : v6.toNat = nc) (hv1 : v1 = wd) (h2 : ∀ l : Fin 16, v2 (ix1 l) = BitVec.ofNat 32 l.val)
    (hS : ∀ x, (rowW wd (fS x)).toNat < 320000) (hD : ∀ x, (fD x).toNat ≤ 10000) (hnc : nc ≤ 320) (hoffs : ∀ c, c < nc → offs tw c % 16 = 0 ∧ offs tw c + 512 ≤ 327680)
    {O : CellTallies nD τ sig (HIx 2)} {W : Waits sig (HIx 2)} {qA qB : PosShare TreeShare}
    (t : Fin (k1_t17_loop v6).trips) (a : BitVec 32) (Q : BitVec 32 → sProp 𝕄) (ht : t.val < (nc + 1) / 2) :
    iprop(MainInv d L TAB fS fD wd tw nc 5000 tab1M O W slotA slotB qA qB (2 * t.val) ∗ (Transfers.MayWaits (thE d L) (default : HIx 2) O : sProp 𝕄))
      ⊢ iprop((MainInv d L TAB fS fD wd tw nc 5000 tab1M O W slotA slotB qA qB (2 * t.val + 1 + 1) -∗ WPE d L (pure 0#32 : PE F L (BitVec 32)) Q)
        -∗ WPE d L (k1_t17_body (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2 v1 v2 v6 hw 0#32 t a) Q) := by
  have h0 : (trip2 t).toNat = 2 * t.val := trip2_toNat (by omega)
  have h1 : (Scalar.addi (trip2 t) 1#32).toNat = 2 * t.val + 1 := by rw [addi_small (k := 1) (by omega), h0]
  have h11 : (Scalar.addi (Scalar.addi (trip2 t) 1#32) 1#32).toNat = 2 * t.val + 1 + 1 := by rw [addi_small (k := 1) (by omega), h1]
  have h02 : (Scalar.addi (trip2 t) 2#32).toNat = 2 * t.val + 2 := by rw [addi_small (k := 2) (by omega), h0]
  have h12 : (Scalar.addi (Scalar.addi (trip2 t) 1#32) 2#32).toNat = 2 * t.val + 1 + 2 := by rw [addi_small (k := 2) (by omega), h1]
  have hb : ∀ {x : BitVec 32} {n : ℕ}, x.toNat = n → n < 1000 → (below x v6 = 1#1 ↔ n < nc) := fun {x n} hx hn' => by
    rw [below_iff (by omega) (by omega), hx, hn]
  rw [t17_eq]
  iintro ⟨HI, #Hmw⟩ Hk
  iapply (wp_halfP d L TAB fS fD wd tw nc (b := 5000) (.inr rfl) hS hD hnc hoffs (hb h0 (by omega)) (hb h1 (by omega)) (hb h02 (by omega)) (fun v x => by rw [hv1] <;> rfl) k1_off156_eq k1_off157_eq h2 (fun _ _ => h02) (fun v h _ _ => h)) $$ [HI]
  · isplitl [HI]; · iexact HI
    iexact Hmw
  iintro HI
  iapply (wp_halfP d L TAB fS fD wd tw nc (b := 5000) (.inr rfl) hS hD hnc hoffs (hb h1 (by omega)) (hb h11 (by omega)) (hb h12 (by omega)) (fun v x => by rw [hv1] <;> rfl) k1_off192_eq k1_off193_eq h2 (fun _ _ => h12) (fun v h _ _ => h)) $$ [HI]
  · isplitl [HI]; · iexact HI
    iexact Hmw
  iexact Hk

end

end Cert.Proof

end
-- ==== Proof.Bucket.lean ====
/-
  The first call's body on one tile: the tile's 5000 edges fetched, each half's list built sixteen edges at a time by the
  running count and the indexed store, both lists and their counts written to the tile's rows.
-/
module

public import proofs.«01_k».proof.Proof.Steps
public import proofs.«01_k».proof.Proof.BucketMath

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The arrays as locations, the tiles' rows -/

abbrev v1Loc (d : Dev nD) : Loc nD τ sig := (SparseCore.T d).loc main_v1
abbrev v3Loc (d : Dev nD) : Loc nD τ sig := (SparseCore.T d).loc main_v3
abbrev v40Loc (d : Dev nD) : Loc nD τ sig := (SparseCore.T d).loc main_v4_0
abbrev v41Loc (d : Dev nD) : Loc nD τ sig := (SparseCore.T d).loc main_v4_1
abbrev v42Loc (d : Dev nD) : Loc nD τ sig := (SparseCore.T d).loc main_v4_2

theorem bdiv : 32 ∣ S32x2x5120.size 0 := ⟨1, rfl⟩
theorem cdiv : 32 ∣ S32x16.size 0 := ⟨1, rfl⟩
/-- Tile `w`'s rows of a bucket array, and of the counts. -/
abbrev brow (w : Fin 32) : Rect S32x2x5120 := Rect.part (s := S32x2x5120) (a₀ := 0) bdiv w
abbrev crow (w : Fin 32) : Rect S32x16 := Rect.part (s := S32x16) (a₀ := 0) cdiv w

theorem mem_brow (w : Fin 32) (x : S32x2x5120.Idx) : x ∈ (brow w).set ↔ x 0 = w := by
  unfold brow Rect.part Rect.block
  rw [Rect.mem_set_unit]
  constructor
  · intro h
    have h0 := h 0
    simp [Shape.partIx, Shape.partSize] at h0
    exact Fin.ext (by have := h0.1; have := h0.2; show (x 0).val = w.val; omega)
  · intro h a
    match a with
    | 0 => simp [Shape.partIx, Shape.partSize, h]
    | 1 => simp [Shape.partIx, Shape.partSize]; have : (x 1).val < 2 := (x 1).isLt; omega
    | 2 => simp [Shape.partIx, Shape.partSize]; exact (x 2).isLt
theorem mem_crow (w : Fin 32) (x : S32x16.Idx) : x ∈ (crow w).set ↔ x 0 = w := by
  unfold crow Rect.part Rect.block
  rw [Rect.mem_set_unit]
  constructor
  · intro h
    have h0 := h 0
    simp [Shape.partIx, Shape.partSize] at h0
    exact Fin.ext (by have := h0.1; have := h0.2; show (x 0).val = w.val; omega)
  · intro h a
    match a with
    | 0 => simp [Shape.partIx, Shape.partSize, h]
    | 1 => simp [Shape.partIx, Shape.partSize]; exact (x 1).isLt

/-! ## What one half's lists come to -/

theorem BInv_zero {Sx Dx : S5016.Idx → BitVec 32} {p : ℕ} {fs fd : S5136.Idx → BitVec 32}
    (hs : ∀ j, fs j = 0#32) (hd : ∀ j, fd j = 10000#32) : BInv Sx Dx p 0 0 fs fd :=
  ⟨fun j _ => .inl ⟨hs j, hd j⟩, fun e he _ => absurd he (by omega)⟩

theorem bucketOK_of {src dst : S160000.Idx → BitVec 32} {Sx Dx : S5016.Idx → BitVec 32} {w : Fin 32}
    (hS : ∀ (e : S5016.Idx) (y : S160000.Idx), (e 0).val < 5000 → (y 0).val = 5000 * w.val + (e 0).val → Sx e = src y ∧ Dx e = dst y)
    (hfill : ∀ e : S5016.Idx, 5000 ≤ (e 0).val → Sx e = 0#32 ∧ Dx e = 10000#32)
    {c0 c1 : BitVec 32} {f9 f10 f11 f12 : S5136.Idx → BitVec 32}
    (h0 : BInv Sx Dx 0 313 c0.toNat f9 f10) (h1 : BInv Sx Dx 1 313 c1.toNat f11 f12) (hsum : c0.toNat + c1.toNat = 5008)
    {bs bd : S32x2x5120.Idx → BitVec 32} {cn : S32x16.Idx → BitVec 32}
    (hbs : ∀ x : S32x2x5120.Idx, x 0 = w → ∀ j : S5136.Idx, (j 0).val = (x 2).val → bs x = if (x 1).val = 0 then f9 j else f11 j)
    (hbd : ∀ x : S32x2x5120.Idx, x 0 = w → ∀ j : S5136.Idx, (j 0).val = (x 2).val → bd x = if (x 1).val = 0 then f10 j else f12 j)
    (hcn : ∀ z : S32x16.Idx, z 0 = w → ((z 1).val = 0 → cn z = c0) ∧ ((z 1).val = 1 → cn z = c1)) : BucketOK src dst bs bd cn w := by
  have src_of : ∀ e : S5016.Idx, (e 0).val < 5008 → (Sx e = 0#32 ∧ Dx e = 10000#32) ∨ ∃ y : S160000.Idx, Sx e = src y ∧ Dx e = dst y := by
    intro e he
    by_cases h : (e 0).val < 5000
    · have hw := w.isLt
      exact .inr ⟨ix1 (n := 160000) ⟨5000 * w.val + (e 0).val, by omega⟩, hS e _ h rfl⟩
    · exact .inl (hfill e (by omega))
  refine ⟨fun z hz hz1 => ?_, fun x hx => ?_, fun y hy => ?_⟩
  · rcases (show (z 1).val = 0 ∨ (z 1).val = 1 by omega) with h | h
    · rw [(hcn z hz).1 h]; omega
    · rw [(hcn z hz).2 h]; omega
  · have hx2 : (x 2).val < 5120 := (x 2).isLt
    let j : S5136.Idx := ix1 (n := 5136) ⟨(x 2).val, by omega⟩
    rw [hbs x hx j rfl, hbd x hx j rfl]
    by_cases hp : (x 1).val = 0
    · rw [if_pos hp, if_pos hp]
      rcases h0.1 j hx2 with h | ⟨e, he, hs, hd⟩
      · exact .inl h
      · rw [hs, hd]; exact src_of e he
    · rw [if_neg hp, if_neg hp]
      rcases h1.1 j hx2 with h | ⟨e, he, hs, hd⟩
      · exact .inl h
      · rw [hs, hd]; exact src_of e he
  · let e : S5016.Idx := ix1 (n := 5016) ⟨(y 0).val - 5000 * w.val, by omega⟩
    have he : (e 0).val = (y 0).val - 5000 * w.val := rfl
    obtain ⟨hes, hed⟩ := hS e y (by omega) (by omega)
    rcases half_cases (dst y) with hp | hp
    · obtain ⟨j, hj, hjs, hjd⟩ := h0.2 e (by omega) (by rw [hed]; exact hp)
      refine ⟨ix3 (n := 32) (k := 2) (l := 5120) w 0 ⟨(j 0).val, by omega⟩, rfl, by rw [hp]; rfl, fun z hz hz1 => ?_, ?_, ?_⟩
      · rw [(hcn z hz).1 (by rw [hz1, hp])]; exact hj
      · rw [hbs _ rfl j rfl, if_pos (show (0 : Fin 2).val = 0 from rfl), hjs, hes]
      · rw [hbd _ rfl j rfl, if_pos (show (0 : Fin 2).val = 0 from rfl), hjd, hed]
    · obtain ⟨j, hj, hjs, hjd⟩ := h1.2 e (by omega) (by rw [hed]; exact hp)
      refine ⟨ix3 (n := 32) (k := 2) (l := 5120) w 1 ⟨(j 0).val, by omega⟩, rfl, by rw [hp]; rfl, fun z hz hz1 => ?_, ?_, ?_⟩
      · rw [(hcn z hz).2 (by rw [hz1, hp])]; exact hj
      · rw [hbs _ rfl j rfl, if_neg (show ¬ (1 : Fin 2).val = 0 by decide), hjs, hes]
      · rw [hbd _ rfl j rfl, if_neg (show ¬ (1 : Fin 2).val = 0 by decide), hjd, hed]

/-! ## The tile -/

section Tile

variable (d : Dev nD) (L : grid0.Coords)

abbrev cV (L : grid0.Coords) : Fin τ.nSC := (L 0).castLE hcore0
abbrev jV (L : grid0.Coords) : Fin τ.nSub := (L 1).castLE hsub0
/-- Tile `(L 0, L 1)`'s number. -/
def wL (L : grid0.Coords) : Fin 32 := ⟨2 * (L 1).val + (L 0).val, by
  have h1 : (L 1).val < 16 := (L 1).isLt
  have h0 : (L 0).val < 2 := (L 0).isLt
  omega⟩

abbrev v1V : Memref sig .scVector .hbm S160000 .i32 := Memref.whole main_v1_scv
abbrev v3V : Memref sig .scVector .hbm S160000 .i32 := Memref.whole main_v3_scv
abbrev v40V : Memref sig .scVector .hbm S32x2x5120 .i32 := Memref.whole main_v4_0_scv
abbrev v41V : Memref sig .scVector .hbm S32x2x5120 .i32 := Memref.whole main_v4_1_scv
abbrev v42V : Memref sig .scVector .hbm S32x16 .i32 := Memref.whole main_v4_2_scv
abbrev aS : Memref sig .scVector .vmem S5016 .i32 := Memref.whole cc0_scratch0
abbrev aD : Memref sig .scVector .vmem S5016 .i32 := Memref.whole cc0_scratch1
abbrev aS0 : Memref sig .scVector .vmem S5136 .i32 := Memref.whole cc0_scratch2
abbrev aD0 : Memref sig .scVector .vmem S5136 .i32 := Memref.whole cc0_scratch3
abbrev aS1 : Memref sig .scVector .vmem S5136 .i32 := Memref.whole cc0_scratch4
abbrev aD1 : Memref sig .scVector .vmem S5136 .i32 := Memref.whole cc0_scratch5
abbrev aC : Memref sig .scVector .vmem S16 .i32 := Memref.whole cc0_scratch6

abbrev thr (d : Dev nD) (L : grid0.Coords) : Thread nD τ := V d (cV L) (jV L)

/-- The lists' buffers, at these contents. -/
abbrev lists (f9 f10 f11 f12 : S5136.Idx → BitVec 32) : sProp 𝕄 :=
  iprop(((aS0).view.loc (thr d L) ↦{fullShare} (f9 : Buf (Elt F) ((aS0).view.loc (thr d L))))
    ∗ ((aD0).view.loc (thr d L) ↦{fullShare} (f10 : Buf (Elt F) ((aD0).view.loc (thr d L))))
    ∗ ((aS1).view.loc (thr d L) ↦{fullShare} (f11 : Buf (Elt F) ((aS1).view.loc (thr d L))))
    ∗ ((aD1).view.loc (thr d L) ↦{fullShare} (f12 : Buf (Elt F) ((aD1).view.loc (thr d L)))))

/-- After `k` trips of the fill, the lists' first `16 k` entries are filler. -/
def inv1 (k : Nat) (_ : BitVec 32) : sProp 𝕄 :=
  iprop(∃ f9 f10 f11 f12 : S5136.Idx → BitVec 32,
    ⌜∀ j : S5136.Idx, (j 0).val < 16 * k → f9 j = 0#32 ∧ f10 j = 10000#32 ∧ f11 j = 0#32 ∧ f12 j = 10000#32⌝ ∗ lists d L f9 f10 f11 f12)

/-- After `k` vectors of edges, the counts being `a`: both halves' lists. -/
def inv2 (Sx Dx : S5016.Idx → BitVec 32) (k : Nat) (a : BitVec 32 × BitVec 32) : sProp 𝕄 :=
  iprop(((aS).view.loc (thr d L) ↦{fullShare} (Sx : Buf (Elt F) ((aS).view.loc (thr d L))))
    ∗ ((aD).view.loc (thr d L) ↦{fullShare} (Dx : Buf (Elt F) ((aD).view.loc (thr d L))))
    ∗ ∃ f9 f10 f11 f12 : S5136.Idx → BitVec 32,
      ⌜a.1.toNat + a.2.toNat = 16 * k ∧ BInv Sx Dx 0 k a.1.toNat f9 f10 ∧ BInv Sx Dx 1 k a.2.toNat f11 f12⌝ ∗ lists d L f9 f10 f11 f12)

/-- One trip of the fill. -/
theorem inv1_step (k : Fin k0_t1_loop.trips) (a : BitVec 32) :
    inv1 (F := F) d L k.val a ⊢ wp frame (wpE (defs₀ (F := F)) 𝒱₀ (thr d L) none) Set.univ
      (k0_t1_body L v1V (Memref.isWhole_whole _) v3V (Memref.isWhole_whole _) v40V (Memref.isWhole_whole _) v41V (Memref.isWhole_whole _) v42V (Memref.isWhole_whole _)
        aS (Memref.isWhole_whole _) aD (Memref.isWhole_whole _) aS0 (Memref.isWhole_whole _) aD0 (Memref.isWhole_whole _) aS1 (Memref.isWhole_whole _)
        aD1 (Memref.isWhole_whole _) aC (Memref.isWhole_whole _) cc0_scoped0 cc0_scoped1 cc0_scoped2 cc0_scoped3 cc0_scoped4 cc0_scoped5 cc0_scoped6 k a)
      fun a' => inv1 (F := F) d L (k.val + 1) a' := by
  unfold inv1 k0_t1_body
  simp only [Prog.lift, Prog.bind_op, Prog.bind_ret, Prog.pure_eq_ret]
  iintro ⟨%f9, %f10, %f11, %f12, %h, H9, H10, H11, H12⟩
  iapply (wp_loadW 𝒱₀ (thr d L) none (m := aS0)) $$ H9; iintro H9
  iapply (wp_storeW 𝒱₀ (thr d L) none (m := aS0)) $$ H9; iintro H9
  iapply (wp_loadW 𝒱₀ (thr d L) none (m := aS1)) $$ H11; iintro H11
  iapply (wp_storeW 𝒱₀ (thr d L) none (m := aS1)) $$ H11; iintro H11
  iapply (wp_loadW 𝒱₀ (thr d L) none (m := aD0)) $$ H10; iintro H10
  iapply (wp_storeW 𝒱₀ (thr d L) none (m := aD0)) $$ H10; iintro H10
  iapply (wp_loadW 𝒱₀ (thr d L) none (m := aD1)) $$ H12; iintro H12
  iapply (wp_storeW 𝒱₀ (thr d L) none (m := aD1)) $$ H12; iintro H12
  iapply (le_wp_ret _ _)
  iexists _, _, _, _
  isplitr
  swap
  · isplitl [H9]; · iexact H9
    isplitl [H10]; · iexact H10
    isplitl [H11]; · iexact H11
    iexact H12
  ipureintro
  intro j hj
  by_cases hlt : (j 0).val < 16 * k.val
  · obtain ⟨h9, h10, h11, h12⟩ := h j hlt
    have hoff : ∀ a : Fin 1, (j a).val < k0_off2 k a ∨ k0_off2 k a + S16.size a ≤ (j a).val := fun a => by
      match a with
      | 0 => rw [k0_off2_eq]; exact .inl hlt
    refine ⟨?_, ?_, ?_, ?_⟩
    · exact (at_write_off cc0_scratch2 (k0_off2_inb k) _ _ j 0 (hoff 0)).trans h9
    · exact (at_write_off cc0_scratch3 (k0_off2_inb k) _ _ j 0 (hoff 0)).trans h10
    · exact (at_write_off cc0_scratch4 (k0_off2_inb k) _ _ j 0 (hoff 0)).trans h11
    · exact (at_write_off cc0_scratch5 (k0_off2_inb k) _ _ j 0 (hoff 0)).trans h12
  · have hin : ∀ a : Fin 1, (j a).val = k0_off2 k a + (ix1 (n := 16) ⟨(j 0).val - 16 * k.val, by omega⟩ a).val := fun a => by
      match a with
      | 0 => rw [k0_off2_eq]; show (j 0).val = 16 * k.val + ((j 0).val - 16 * k.val); omega
    refine ⟨?_, ?_, ?_, ?_⟩
    · exact at_write cc0_scratch2 (k0_off2_inb k) _ _ _ j hin
    · exact at_write cc0_scratch3 (k0_off2_inb k) _ _ _ j hin
    · exact at_write cc0_scratch4 (k0_off2_inb k) _ _ _ j hin
    · exact at_write cc0_scratch5 (k0_off2_inb k) _ _ _ j hin

/-- One vector of edges sorted by half. -/
theorem inv2_step (Sx Dx : S5016.Idx → BitVec 32) (hD : ∀ e, (Dx e).toNat < 2 ^ 31) (z5 z6 z7 : BitVec 32) (k : Fin k0_t2_loop.trips) (a : BitVec 32 × BitVec 32) :
    inv2 (F := F) d L Sx Dx k.val a ⊢ wp frame (wpE (defs₀ (F := F)) 𝒱₀ (thr d L) none) Set.univ
      (k0_t2_body L v1V (Memref.isWhole_whole _) v3V (Memref.isWhole_whole _) v40V (Memref.isWhole_whole _) v41V (Memref.isWhole_whole _) v42V (Memref.isWhole_whole _)
        aS (Memref.isWhole_whole _) aD (Memref.isWhole_whole _) aS0 (Memref.isWhole_whole _) aD0 (Memref.isWhole_whole _) aS1 (Memref.isWhole_whole _)
        aD1 (Memref.isWhole_whole _) aC (Memref.isWhole_whole _) cc0_scoped0 cc0_scoped1 cc0_scoped2 cc0_scoped3 cc0_scoped4 cc0_scoped5 cc0_scoped6 z5 z6 z7 k a)
      fun a' => inv2 (F := F) d L Sx Dx (k.val + 1) a' := by
  obtain ⟨c0, c1⟩ := a
  unfold inv2 k0_t2_body
  simp only [Prog.lift, Prog.bind_op, Prog.bind_ret, Prog.pure_eq_ret]
  iintro ⟨HS, HD, %f9, %f10, %f11, %f12, %h, H9, H10, H11, H12⟩
  obtain ⟨hsum, hb0, hb1⟩ := h
  iapply (wp_loadW 𝒱₀ (thr d L) none (m := aS)) $$ HS; iintro HS
  iapply (wp_loadW 𝒱₀ (thr d L) none (m := aD)) $$ HD; iintro HD
  have hk : k.val < 313 := k.isLt
  have hv : ∀ l : Fin 16, ∃ e : S5016.Idx, (e 0).val = 16 * k.val + l.val
      ∧ (aS).view.readAt (Elt F) (Rect.unit (s := S5016) (k0_off3 k) S16.size (k0_off3_inb k)).toLoadRect Sx (ix1 l) = Sx e
      ∧ (aD).view.readAt (Elt F) (Rect.unit (s := S5016) (k0_off3 k) S16.size (k0_off3_inb k)).toLoadRect Dx (ix1 l) = Dx e := fun l => by
    have he : ∀ a : Fin 1, (ix1 (n := 5016) ⟨16 * k.val + l.val, by omega⟩ a).val = k0_off3 k a + (ix1 (n := 16) l a).val := fun a => by
      match a with
      | 0 => rw [k0_off3_eq]; rfl
    exact ⟨ix1 (n := 5016) ⟨16 * k.val + l.val, by omega⟩, rfl, at_read (Val := Elt F) cc0_scratch0 (k0_off3_inb k) Sx _ _ he, at_read (Val := Elt F) cc0_scratch1 (k0_off3_inb k) Dx _ _ he⟩
  generalize (aS).view.readAt (Elt F) (Rect.unit (s := S5016) (k0_off3 k) S16.size (k0_off3_inb k)).toLoadRect Sx = vs at hv ⊢
  generalize (aD).view.readAt (Elt F) (Rect.unit (s := S5016) (k0_off3 k) S16.size (k0_off3_inb k)).toLoadRect Dx = vd at hv ⊢
  have hvd : ∀ l : Fin 16, (vd (ix1 l)).toNat < 2 ^ 31 := fun l => by
    obtain ⟨e, -, -, h⟩ := hv l
    rw [h]; exact hD e
  have hc0 : c0.toNat + c1.toNat = 16 * k.val := hsum
  have hI0 := pay5_at (F := F) c0 (by omega) vd hvd
  have hI1 := pay6_at (F := F) c1 (by omega) vd hvd
  have hchk0 := chk_of_at _ _ (by omega) _ hI0
  have hchk1 := chk_of_at _ _ (by omega) _ hI1
  rw [wp_assume_of _ _ _ _ (show k0_chk1 (k0_pay5 (F := F) c0 vd) from ⟨hchk0, hchk0⟩), wp_assume_of _ _ _ _ (show k0_chk2 (k0_pay6 (F := F) c1 vd) from ⟨hchk1, hchk1⟩)]
  iapply (wp_storeIdxW 𝒱₀ (thr d L) none (base := aS0) (f := f9) (Memref.set_access_whole cc0_scratch2)
    (storeIdx_whole cc0_scratch2 f9 fun g => storeIdx (F := F) (e := .i32) (s := S5136) g ![k0_pay5 (F := F) c0 vd] vs (fun _ => 1#1) false hchk0)) $$ H9
  iintro H9
  iapply (wp_storeIdxW 𝒱₀ (thr d L) none (base := aD0) (f := f10) (Memref.set_access_whole cc0_scratch3)
    (storeIdx_whole cc0_scratch3 f10 fun g => storeIdx (F := F) (e := .i32) (s := S5136) g ![k0_pay5 (F := F) c0 vd] vd (fun _ => 1#1) false hchk0)) $$ H10
  iintro H10
  iapply (wp_storeIdxW 𝒱₀ (thr d L) none (base := aS1) (f := f11) (Memref.set_access_whole cc0_scratch4)
    (storeIdx_whole cc0_scratch4 f11 fun g => storeIdx (F := F) (e := .i32) (s := S5136) g ![k0_pay6 (F := F) c1 vd] vs (fun _ => 1#1) false hchk1)) $$ H11
  iintro H11
  iapply (wp_storeIdxW 𝒱₀ (thr d L) none (base := aD1) (f := f12) (Memref.set_access_whole cc0_scratch5)
    (storeIdx_whole cc0_scratch5 f12 fun g => storeIdx (F := F) (e := .i32) (s := S5136) g ![k0_pay6 (F := F) c1 vd] vd (fun _ => 1#1) false hchk1)) $$ H12
  iintro H12
  iapply (le_wp_ret _ _)
  have hx : extractAt ![15] (k0_pay7 (F := F) vd) inpos_S16_p15 = k0_pay7 (F := F) vd (ix1 (15 : Fin 16)) := rfl
  have h7 := pay7_at (F := F) vd hvd 15
  have hrc := rank_compl (fun l => half (vd (ix1 l)) = 0) (fun l => half (vd (ix1 l)) = 1) (fun l => by
    rcases half_cases (vd (ix1 l)) with h | h <;> simp [h])
  have hn1 : (Scalar.addi c1 (extractAt ![15] (k0_pay7 (F := F) vd) inpos_S16_p15)).toNat = c1.toNat + rank (fun l => half (vd (ix1 l)) = 1) 15 := by
    rw [hx]; show (c1 + _).toNat = _
    rw [BitVec.toNat_add, h7]; omega
  have hn0 : (Scalar.addi c0 (Scalar.subi 16#32 (extractAt ![15] (k0_pay7 (F := F) vd) inpos_S16_p15))).toNat = c0.toNat + rank (fun l => half (vd (ix1 l)) = 0) 15 := by
    rw [hx]; show (c0 + (16#32 - _)).toNat = _
    rw [BitVec.toNat_add, BitVec.toNat_sub, h7]
    show (c0.toNat + (2 ^ 32 - _ + 16) % 2 ^ 32) % 2 ^ 32 = _
    omega
  isplitl [HS]; · iexact HS
  isplitl [HD]; · iexact HD
  iexists _, _, _, _
  isplitr
  swap
  · isplitl [H9]; · iexact H9
    isplitl [H10]; · iexact H10
    isplitl [H11]; · iexact H11
    iexact H12
  ipureintro
  refine ⟨?_, ?_, ?_⟩
  · show (Scalar.addi c0 _).toNat + (Scalar.addi c1 _).toNat = _
    rw [hn0, hn1]; omega
  · show BInv Sx Dx 0 _ (Scalar.addi c0 _).toNat _ _
    rw [hn0]
    exact BInv_step (F := F) hb0 hk (by omega) vs vd _ hv _ (fun l => Iff.rfl) hI0 _
  · show BInv Sx Dx 1 _ (Scalar.addi c1 _).toNat _ _
    rw [hn1]
    exact BInv_step (F := F) hb1 hk (by omega) vs vd _ hv _ (fun l => Iff.rfl) hI1 _

/-! ## Where the copies go -/

abbrev rS (L : grid0.Coords) : Rect S160000 := Rect.unit (s := S160000) (k0_off1 L) S5000.size (k0_off1_inb L)
abbrev r4 (L : grid0.Coords) : Rect S32x2x5120 := Rect.unit (s := S32x2x5120) (k0_off4 L) S1x1x5120.size (k0_off4_inb L)
abbrev r5 (L : grid0.Coords) : Rect S32x2x5120 := Rect.unit (s := S32x2x5120) (k0_off5 L) S1x1x5120.size (k0_off5_inb L)
abbrev r6 (L : grid0.Coords) : Rect S32x16 := Rect.unit (s := S32x16) (k0_off6 L) S1x16.size (k0_off6_inb L)
abbrev rL : Rect S5136 := Rect.unit (s := S5136) ![0] S5120.size inb_S5136_S5120_0
abbrev rE : Rect S5016 := Rect.unit (s := S5016) ![0] S5000.size inb_S5016_S5000_0
abbrev rT : Rect S5016 := Rect.unit (s := S5016) ![5000] S16.size inb_S5016_S16_5000

theorem set_r4 : (r4 L).set ⊆ (brow (wL L)).set := fun x hx => by
  rw [Rect.mem_set_unit] at hx
  have h := hx 0
  rw [k0_off4_eq] at h
  rw [mem_brow]
  have h1 : 2 * (L 1).val + (L 0).val ≤ (x 0).val := h.1
  have h2 : (x 0).val < 2 * (L 1).val + (L 0).val + 1 := h.2
  exact Fin.ext (show (x 0).val = 2 * (L 1).val + (L 0).val by omega)
theorem set_r5 : (r5 L).set ⊆ (brow (wL L)).set := fun x hx => by
  rw [Rect.mem_set_unit] at hx
  have h := hx 0
  rw [k0_off5_eq] at h
  rw [mem_brow]
  have h1 : 2 * (L 1).val + (L 0).val ≤ (x 0).val := h.1
  have h2 : (x 0).val < 2 * (L 1).val + (L 0).val + 1 := h.2
  exact Fin.ext (show (x 0).val = 2 * (L 1).val + (L 0).val by omega)
theorem set_r6 : (r6 L).set ⊆ (crow (wL L)).set := fun x hx => by
  rw [Rect.mem_set_unit] at hx
  have h := hx 0
  rw [k0_off6_eq] at h
  rw [mem_crow]
  have h1 : 2 * (L 1).val + (L 0).val ≤ (x 0).val := h.1
  have h2 : (x 0).val < 2 * (L 1).val + (L 0).val + 1 := h.2
  exact Fin.ext (show (x 0).val = 2 * (L 1).val + (L 0).val by omega)

/-- A tile's row of the bucket sources after both its copies: each half's list. -/
theorem rows40 (f : S32x2x5120.Idx → BitVec 32) (g0 g1 : S5136.Idx → BitVec 32) (x : S32x2x5120.Idx) (hx : x 0 = wL L) (j : S5136.Idx) (hj : (j 0).val = (x 2).val) :
    ((((View.whole main_v4_0_scv).slice (r5 L)).reshape S5120 squeezes_S1x1x5120_S5120.numel_eq).write (Elt F)
      ((((View.whole main_v4_0_scv).slice (r4 L)).reshape S5120 squeezes_S1x1x5120_S5120.numel_eq).write (Elt F) f
        (((View.whole cc0_scratch2).slice rL).read (Elt F) g0) Finset.univ)
      (((View.whole cc0_scratch4).slice rL).read (Elt F) g1) Finset.univ : S32x2x5120.Idx → BitVec 32) x = if (x 1).val = 0 then g0 j else g1 j := by
  have hx0 : (x 0).val = 2 * (L 1).val + (L 0).val := congrArg Fin.val hx
  have hx2 : (x 2).val < 5120 := (x 2).isLt
  have hrow : (S1x1x5120.rowMajor (ix3 (n := 1) (k := 1) (l := 5120) 0 0 ⟨(x 2).val, hx2⟩)).val = (S5120.rowMajor (ix1 (n := 5120) ⟨(x 2).val, hx2⟩)).val := by
    rw [Shape.rowMajor_val_three, Shape.rowMajor_val_one]
    show (0 * 1 + 0) * 5120 + (x 2).val = (x 2).val
    omega
  by_cases h : (x 1).val = 0
  · rw [if_pos h]
    refine (at_write_squeeze_off main_v4_0_scv (k0_off5_inb L) _ _ _ x 1 (by rw [k0_off5_eq]; exact .inl (by show (x 1).val < 1; omega))).trans ?_
    refine (at_write_squeeze main_v4_0_scv (k0_off4_inb L) _ _ _ (ix1 (n := 5120) ⟨(x 2).val, hx2⟩) (ix3 (n := 1) (k := 1) (l := 5120) 0 0 ⟨(x 2).val, hx2⟩) hrow x fun a => ?_).trans ?_
    · refine (show (x a).val = k0_off4 L a + (ix3 (n := 1) (k := 1) (l := 5120) 0 0 ⟨(x 2).val, hx2⟩ a).val from ?_)
      have e := congrFun (k0_off4_eq L) a
      rw [e]
      match a with
      | 0 => exact hx0
      | 1 => exact h
      | 2 => exact (Nat.zero_add _).symm
    · exact at_read (Val := Elt F) cc0_scratch2 inb_S5136_S5120_0 g0 _ _ fun a => by
        match a with
        | 0 => show (j 0).val = 0 + (x 2).val; omega
  · rw [if_neg h]
    refine (at_write_squeeze main_v4_0_scv (k0_off5_inb L) _ _ _ (ix1 (n := 5120) ⟨(x 2).val, hx2⟩) (ix3 (n := 1) (k := 1) (l := 5120) 0 0 ⟨(x 2).val, hx2⟩) hrow x fun a => ?_).trans ?_
    · refine (show (x a).val = k0_off5 L a + (ix3 (n := 1) (k := 1) (l := 5120) 0 0 ⟨(x 2).val, hx2⟩ a).val from ?_)
      have e := congrFun (k0_off5_eq L) a
      rw [e]
      match a with
      | 0 => exact hx0
      | 1 => have : (x 1).val < 2 := (x 1).isLt; show (x 1).val = 1 + 0; omega
      | 2 => exact (Nat.zero_add _).symm
    · exact at_read (Val := Elt F) cc0_scratch4 inb_S5136_S5120_0 g1 _ _ fun a => by
        match a with
        | 0 => show (j 0).val = 0 + (x 2).val; omega

/-- A tile's row of the bucket destinations after both its copies: each half's list. -/
theorem rows41 (f : S32x2x5120.Idx → BitVec 32) (g0 g1 : S5136.Idx → BitVec 32) (x : S32x2x5120.Idx) (hx : x 0 = wL L) (j : S5136.Idx) (hj : (j 0).val = (x 2).val) :
    ((((View.whole main_v4_1_scv).slice (r5 L)).reshape S5120 squeezes_S1x1x5120_S5120.numel_eq).write (Elt F)
      ((((View.whole main_v4_1_scv).slice (r4 L)).reshape S5120 squeezes_S1x1x5120_S5120.numel_eq).write (Elt F) f
        (((View.whole cc0_scratch3).slice rL).read (Elt F) g0) Finset.univ)
      (((View.whole cc0_scratch5).slice rL).read (Elt F) g1) Finset.univ : S32x2x5120.Idx → BitVec 32) x = if (x 1).val = 0 then g0 j else g1 j := by
  have hx0 : (x 0).val = 2 * (L 1).val + (L 0).val := congrArg Fin.val hx
  have hx2 : (x 2).val < 5120 := (x 2).isLt
  have hrow : (S1x1x5120.rowMajor (ix3 (n := 1) (k := 1) (l := 5120) 0 0 ⟨(x 2).val, hx2⟩)).val = (S5120.rowMajor (ix1 (n := 5120) ⟨(x 2).val, hx2⟩)).val := by
    rw [Shape.rowMajor_val_three, Shape.rowMajor_val_one]
    show (0 * 1 + 0) * 5120 + (x 2).val = (x 2).val
    omega
  by_cases h : (x 1).val = 0
  · rw [if_pos h]
    refine (at_write_squeeze_off main_v4_1_scv (k0_off5_inb L) _ _ _ x 1 (by rw [k0_off5_eq]; exact .inl (by show (x 1).val < 1; omega))).trans ?_
    refine (at_write_squeeze main_v4_1_scv (k0_off4_inb L) _ _ _ (ix1 (n := 5120) ⟨(x 2).val, hx2⟩) (ix3 (n := 1) (k := 1) (l := 5120) 0 0 ⟨(x 2).val, hx2⟩) hrow x fun a => ?_).trans ?_
    · refine (show (x a).val = k0_off4 L a + (ix3 (n := 1) (k := 1) (l := 5120) 0 0 ⟨(x 2).val, hx2⟩ a).val from ?_)
      have e := congrFun (k0_off4_eq L) a
      rw [e]
      match a with
      | 0 => exact hx0
      | 1 => exact h
      | 2 => exact (Nat.zero_add _).symm
    · exact at_read (Val := Elt F) cc0_scratch3 inb_S5136_S5120_0 g0 _ _ fun a => by
        match a with
        | 0 => show (j 0).val = 0 + (x 2).val; omega
  · rw [if_neg h]
    refine (at_write_squeeze main_v4_1_scv (k0_off5_inb L) _ _ _ (ix1 (n := 5120) ⟨(x 2).val, hx2⟩) (ix3 (n := 1) (k := 1) (l := 5120) 0 0 ⟨(x 2).val, hx2⟩) hrow x fun a => ?_).trans ?_
    · refine (show (x a).val = k0_off5 L a + (ix3 (n := 1) (k := 1) (l := 5120) 0 0 ⟨(x 2).val, hx2⟩ a).val from ?_)
      have e := congrFun (k0_off5_eq L) a
      rw [e]
      match a with
      | 0 => exact hx0
      | 1 => have : (x 1).val < 2 := (x 1).isLt; show (x 1).val = 1 + 0; omega
      | 2 => exact (Nat.zero_add _).symm
    · exact at_read (Val := Elt F) cc0_scratch5 inb_S5136_S5120_0 g1 _ _ fun a => by
        match a with
        | 0 => show (j 0).val = 0 + (x 2).val; omega

/-- A tile's row of the counts after its copy. -/
theorem rows42 (f : S32x16.Idx → BitVec 32) (g : S16.Idx → BitVec 32) (z : S32x16.Idx) (hz : z 0 = wL L) (l : Fin 16) (hl : (z 1).val = l.val) :
    ((((View.whole main_v4_2_scv).slice (r6 L)).reshape S16 squeezes_S1x16_S16.numel_eq).write (Elt F) f g Finset.univ : S32x16.Idx → BitVec 32) z = g (ix1 l) := by
  have hz0 : (z 0).val = 2 * (L 1).val + (L 0).val := congrArg Fin.val hz
  refine at_write_squeeze main_v4_2_scv (k0_off6_inb L) _ _ _ (ix1 (n := 16) l) (ix2 (n := 1) (k := 16) 0 l) ?_ z fun a => ?_
  · show (S1x16.rowMajor _).val = (S16.rowMajor _).val
    rw [Shape.rowMajor_val_two, Shape.rowMajor_val_one]
    show 0 * 16 + l.val = l.val
    omega
  · refine (show (z a).val = k0_off6 L a + (ix2 (n := 1) (k := 16) 0 l a).val from ?_)
    have e := congrFun (k0_off6_eq L) a
    rw [e]
    match a with
    | 0 => exact hz0
    | 1 => exact hl.trans (Nat.zero_add _).symm

/-- What the tile's source buffer holds once fetched and its tail filled. -/
def edgeS (f : S5016.Idx → BitVec 32) (src : S160000.Idx → BitVec 32) : S5016.Idx → BitVec 32 :=
  ((View.whole cc0_scratch0).slice rT).write (Elt F) (((View.whole cc0_scratch0).slice rE).write (Elt F) f (((View.whole main_v1_scv).slice (rS L)).read (Elt F) src) Finset.univ) k0_pay1 Finset.univ
theorem edgeS_in (f : S5016.Idx → BitVec 32) (src : S160000.Idx → BitVec 32) (e : S5016.Idx) (y : S160000.Idx) (he : (e 0).val < 5000)
    (hy : (y 0).val = 5000 * (wL L).val + (e 0).val) : edgeS (F := F) L f src e = src y := by
  have hw : (wL L).val = 2 * (L 1).val + (L 0).val := rfl
  refine (at_write_off (Val := Elt F) cc0_scratch0 inb_S5016_S16_5000 _ _ e 0 (.inl he)).trans
    ((at_write (Val := Elt F) cc0_scratch0 inb_S5016_S5000_0 _ _ (ix1 (n := 5000) ⟨(e 0).val, he⟩) e fun a => ?_).trans
      (at_read (Val := Elt F) main_v1_scv (k0_off1_inb L) src _ y fun a => ?_))
  · match a with
    | 0 => exact (Nat.zero_add _).symm
  · have h := congrFun (k0_off1_eq L) a
    refine (show (y a).val = k0_off1 L a + (ix1 (n := 5000) ⟨(e 0).val, he⟩ a).val from ?_)
    rw [h]
    match a with
    | 0 => show (y 0).val = (10000 * (L 1).val + 5000 * (L 0).val) + (e 0).val; omega
theorem edgeS_out (f : S5016.Idx → BitVec 32) (src : S160000.Idx → BitVec 32) (e : S5016.Idx) (he : 5000 ≤ (e 0).val) : edgeS (F := F) L f src e = 0#32 := by
  have h2 : (e 0).val < 5016 := (e 0).isLt
  exact (at_write (Val := Elt F) cc0_scratch0 inb_S5016_S16_5000 _ _ (ix1 (n := 16) ⟨(e 0).val - 5000, by omega⟩) e fun a => by
    match a with
    | 0 => show (e 0).val = 5000 + ((e 0).val - 5000); omega).trans rfl

/-- What the tile's destination buffer holds once fetched and its tail filled. -/
def edgeD (f : S5016.Idx → BitVec 32) (src : S160000.Idx → BitVec 32) : S5016.Idx → BitVec 32 :=
  ((View.whole cc0_scratch1).slice rT).write (Elt F) (((View.whole cc0_scratch1).slice rE).write (Elt F) f (((View.whole main_v3_scv).slice (rS L)).read (Elt F) src) Finset.univ) k0_pay2 Finset.univ
theorem edgeD_in (f : S5016.Idx → BitVec 32) (src : S160000.Idx → BitVec 32) (e : S5016.Idx) (y : S160000.Idx) (he : (e 0).val < 5000)
    (hy : (y 0).val = 5000 * (wL L).val + (e 0).val) : edgeD (F := F) L f src e = src y := by
  have hw : (wL L).val = 2 * (L 1).val + (L 0).val := rfl
  refine (at_write_off (Val := Elt F) cc0_scratch1 inb_S5016_S16_5000 _ _ e 0 (.inl he)).trans
    ((at_write (Val := Elt F) cc0_scratch1 inb_S5016_S5000_0 _ _ (ix1 (n := 5000) ⟨(e 0).val, he⟩) e fun a => ?_).trans
      (at_read (Val := Elt F) main_v3_scv (k0_off1_inb L) src _ y fun a => ?_))
  · match a with
    | 0 => exact (Nat.zero_add _).symm
  · have h := congrFun (k0_off1_eq L) a
    refine (show (y a).val = k0_off1 L a + (ix1 (n := 5000) ⟨(e 0).val, he⟩ a).val from ?_)
    rw [h]
    match a with
    | 0 => show (y 0).val = (10000 * (L 1).val + 5000 * (L 0).val) + (e 0).val; omega
theorem edgeD_out (f : S5016.Idx → BitVec 32) (src : S160000.Idx → BitVec 32) (e : S5016.Idx) (he : 5000 ≤ (e 0).val) : edgeD (F := F) L f src e = 10000#32 := by
  have h2 : (e 0).val < 5016 := (e 0).isLt
  exact (at_write (Val := Elt F) cc0_scratch1 inb_S5016_S16_5000 _ _ (ix1 (n := 16) ⟨(e 0).val - 5000, by omega⟩) e fun a => by
    match a with
    | 0 => show (e 0).val = 5000 + ((e 0).val - 5000); omega).trans rfl

theorem edgeD_lt (f : S5016.Idx → BitVec 32) (dst : S160000.Idx → BitVec 32) (hdst : ∀ y, (dst y).toNat < 2 ^ 31) (e : S5016.Idx) : (edgeD (F := F) L f dst e).toNat < 2 ^ 31 := by
  have hw : (wL L).val < 32 := (wL L).isLt
  by_cases he : (e 0).val < 5000
  · rw [edgeD_in L f dst e (ix1 (n := 160000) ⟨5000 * (wL L).val + (e 0).val, by omega⟩) he rfl]; exact hdst _
  · rw [edgeD_out L f dst e (by omega)]; decide

end Tile

end Cert.Proof

end
-- ==== Proof.BucketTile.lean ====
/-
  The first call's body on one tile, run once at a symbolic tile.
-/
module

public import proofs.«01_k».proof.Proof.Bucket

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

section Tile

variable (d : Dev nD) (L : grid0.Coords)

/-! ## The body -/

/-- The rows the copies write, as the body addresses them. -/
abbrev d404 : Memref sig .scVector .hbm S5120 .i32 := ((v40V).slice (r4 L) (fun _ => rfl)).squeeze S5120 squeezes_S1x1x5120_S5120
abbrev d405 : Memref sig .scVector .hbm S5120 .i32 := ((v40V).slice (r5 L) (fun _ => rfl)).squeeze S5120 squeezes_S1x1x5120_S5120
abbrev d414 : Memref sig .scVector .hbm S5120 .i32 := ((v41V).slice (r4 L) (fun _ => rfl)).squeeze S5120 squeezes_S1x1x5120_S5120
abbrev d415 : Memref sig .scVector .hbm S5120 .i32 := ((v41V).slice (r5 L) (fun _ => rfl)).squeeze S5120 squeezes_S1x1x5120_S5120
abbrev d426 : Memref sig .scVector .hbm S16 .i32 := ((v42V).slice (r6 L) (fun _ => rfl)).squeeze S16 squeezes_S1x16_S16

theorem set_d404 : (d404 L).view.set ⊆ (brow (wL L)).set :=
  ((View.set_reshape _ _).trans (View.set_slice_whole _ _)).trans_subset (set_r4 L)
theorem set_d405 : (d405 L).view.set ⊆ (brow (wL L)).set :=
  ((View.set_reshape _ _).trans (View.set_slice_whole _ _)).trans_subset (set_r5 L)
theorem set_d414 : (d414 L).view.set ⊆ (brow (wL L)).set :=
  ((View.set_reshape _ _).trans (View.set_slice_whole _ _)).trans_subset (set_r4 L)
theorem set_d415 : (d415 L).view.set ⊆ (brow (wL L)).set :=
  ((View.set_reshape _ _).trans (View.set_slice_whole _ _)).trans_subset (set_r5 L)
theorem set_d426 : (d426 L).view.set ⊆ (crow (wL L)).set :=
  ((View.set_reshape _ _).trans (View.set_slice_whole _ _)).trans_subset (set_r6 L)

/-- What a tile of the first call takes: read shares of the edges, its rows of the outputs. -/
abbrev pre0 (q : PosShare TreeShare) (src dst : S160000.Idx → BitVec 32) (m40 m41 : S32x2x5120.Idx → BitVec 32) (m42 : S32x16.Idx → BitVec 32) (w : Fin 32) : sProp 𝕄 :=
  iprop((v1Loc d ↦{q} (src : Buf (Elt F) (v1Loc d))) ∗ (v3Loc d ↦{q} (dst : Buf (Elt F) (v3Loc d)))
    ∗ (v40Loc d ↦[(brow w).set]{fullShare} (m40 : Buf (Elt F) (v40Loc d))) ∗ (v41Loc d ↦[(brow w).set]{fullShare} (m41 : Buf (Elt F) (v41Loc d)))
    ∗ (v42Loc d ↦[(crow w).set]{fullShare} (m42 : Buf (Elt F) (v42Loc d))))
/-- What it leaves: its rows, holding its edges sorted by half. -/
abbrev post0 (src dst : S160000.Idx → BitVec 32) (w : Fin 32) : sProp 𝕄 :=
  iprop(∃ (bs bd : S32x2x5120.Idx → BitVec 32) (cn : S32x16.Idx → BitVec 32), ⌜BucketOK src dst bs bd cn w⌝
    ∗ (v40Loc d ↦[(brow w).set]{fullShare} (bs : Buf (Elt F) (v40Loc d))) ∗ (v41Loc d ↦[(brow w).set]{fullShare} (bd : Buf (Elt F) (v41Loc d)))
    ∗ (v42Loc d ↦[(crow w).set]{fullShare} (cn : Buf (Elt F) (v42Loc d))))

set_option maxHeartbeats 4000000 in
theorem tile_body0 (hF : (K (F := F)).Facts) (O : CellTallies nD τ sig (HIx 2)) (W : Waits sig (HIx 2)) (hO : ∀ g, O g none = 0)
    (q : PosShare TreeShare) (src dst : S160000.Idx → BitVec 32) (hdst : ∀ y, (dst y).toNat < 2 ^ 31) (m40 m41 : S32x2x5120.Idx → BitVec 32) (m42 : S32x16.Idx → BitVec 32) :
    iprop(levAts (K (F := F)).L (K (F := F)).lev ∗ emp ∗ pre0 (F := F) d q src dst m40 m41 m42 (wL L)
        ∗ scopedBufs (thr d L) ∗ scopedSems0 (thr d L) ∗ owes (thr d L) O W)
      ⊢ wp frame (wpE (defs₀ (F := F)) 𝒱₀ (thr d L) none) Set.univ
          (cc0_k L v1V (Memref.isWhole_whole _) v3V (Memref.isWhole_whole _) v40V (Memref.isWhole_whole _) v41V (Memref.isWhole_whole _) v42V (Memref.isWhole_whole _)
            aS (Memref.isWhole_whole _) aD (Memref.isWhole_whole _) aS0 (Memref.isWhole_whole _) aD0 (Memref.isWhole_whole _) aS1 (Memref.isWhole_whole _)
            aD1 (Memref.isWhole_whole _) aC (Memref.isWhole_whole _) cc0_scoped0 cc0_scoped1 cc0_scoped2 cc0_scoped3 cc0_scoped4 cc0_scoped5 cc0_scoped6)
          fun _ => iprop(post0 (F := F) d src dst (wL L) ∗ scopedBufs (thr d L) ∗ scopedSems0 (thr d L)
            ∗ ∃ W', ⌜∀ p ∈ W', p ∈ W ∨ p.2 = none⌝ ∗ owes (thr d L) O W') := by
  obtain ⟨Rb, hRb⟩ := ownBufs_take (F := F) d (cV L) (jV L) [cc0_scratch0, cc0_scratch1, cc0_scratch2, cc0_scratch3, cc0_scratch4, cc0_scratch5, cc0_scratch6] (by decide)
    (fun b hb => by simp only [List.mem_cons, List.not_mem_nil, or_false] at hb; rcases hb with rfl | rfl | rfl | rfl | rfl | rfl | rfl <;> rfl)
  obtain ⟨Rs, hRs⟩ := ownSems0_take (F := F) d (cV L) (jV L) [cc0_scoped0.sem, cc0_scoped1.sem, cc0_scoped2.sem, cc0_scoped3.sem, cc0_scoped4.sem, cc0_scoped5.sem, cc0_scoped6.sem] (by decide)
    (by decide)
  simp only [List.foldr] at hRb hRs
  rw [(K (F := F)).scopedBufs_V hF d (cV L) (jV L), SparseCore.Cfg.scopedSems0_V (Val := Elt F) d (cV L) (jV L), hRs, hRb]
  simp only [cc0_k_eq_skeleton]; unfold cc0_k_skel
  simp only [k0_part1_eq_skeleton, k0_part2_eq_skeleton, k0_part3_eq_skeleton]; unfold k0_part1_skel k0_part2_skel k0_part3_skel
  simp only [Prog.lift, Prog.bind_op, Prog.bind_ret, Prog.pure_eq_ret, bind_assoc]
  iintro ⟨#Hlv, -, ⟨H1, H3, H40, H41, H42⟩, ⟨⟨%f7, H7⟩, ⟨%f8, H8⟩, ⟨%f9, H9⟩, ⟨%f10, H10⟩, ⟨%f11, H11⟩, ⟨%f12, H12⟩, ⟨%f13, H13⟩, HRb⟩, ⟨S0, S1, S2, S3, S4, S5, S6, HRs⟩, HO⟩
  ihave #Hmw := (show levAts (K (F := F)).L (K (F := F)).lev ⊢ Transfers.MayWaits (thr d L) (default : HIx 2) O from
    (K (F := F)).mayWaits_none (thr := thr d L) hO) $$ Hlv
  iapply (wp_copyWait 𝒱₀ (thr d L) none (q := q) (Ss := Finset.univ) (fs := src) (Sd := Finset.univ) (fd := f7) rfl (by decide) (Finset.subset_univ _) (Finset.subset_univ _)) $$ [H1 H7 S0 HO]
  · isplitl [H1]; · iexact H1
    isplitl [H7]; · iexact H7
    isplitl [S0]; · iexact S0
    isplitl [HO]; · iexact HO
    iexact Hmw
  iintro ⟨H1, H7, S0, HO⟩
  iapply (wp_copyWait 𝒱₀ (thr d L) none (q := q) (Ss := Finset.univ) (fs := dst) (Sd := Finset.univ) (fd := f8) rfl (by decide) (Finset.subset_univ _) (Finset.subset_univ _)) $$ [H3 H8 S1 HO]
  · isplitl [H3]; · iexact H3
    isplitl [H8]; · iexact H8
    isplitl [S1]; · iexact S1
    isplitl [HO]; · iexact HO
    iexact Hmw
  iintro ⟨H3, H8, S1, HO⟩
  sl_for (inv1 (F := F) d L) $$ [H9 H10 H11 H12]
  case region => intro k acc; exact inv1_step d L k acc
  · unfold inv1
    iexists f9, f10, f11, f12
    isplitr
    · ipureintro; intro j hj; exact absurd hj (by omega)
    isplitl [H9]; · iexact H9
    isplitl [H10]; · iexact H10
    isplitl [H11]; · iexact H11
    iexact H12
  iintro %a1 HI
  unfold inv1
  icases HI with ⟨%g9, %g10, %g11, %g12, %hfl, H9, H10, H11, H12⟩
  iapply (wp_loadW 𝒱₀ (thr d L) none (m := aS)) $$ H7; iintro H7
  iapply (wp_storeW 𝒱₀ (thr d L) none (m := aS)) $$ H7; iintro H7
  iapply (wp_loadW 𝒱₀ (thr d L) none (m := aD)) $$ H8; iintro H8
  iapply (wp_storeW 𝒱₀ (thr d L) none (m := aD)) $$ H8; iintro H8
  sl_for (inv2 (F := F) d L (edgeS (F := F) L f7 src) (edgeD (F := F) L f8 dst)) $$ [H7 H8 H9 H10 H11 H12]
  case region => intro k acc; exact inv2_step d L _ _ (edgeD_lt L f8 dst hdst) _ _ _ k acc
  · unfold inv2
    isplitl [H7]; · iexact H7
    isplitl [H8]; · iexact H8
    iexists g9, g10, g11, g12
    isplitr
    · ipureintro
      have hl : ∀ j : S5136.Idx, (j 0).val < 16 * k0_t1_loop.trips := fun j => (j 0).isLt
      exact ⟨rfl, BInv_zero (fun j => (hfl j (hl j)).1) (fun j => (hfl j (hl j)).2.1), BInv_zero (fun j => (hfl j (hl j)).2.2.1) (fun j => (hfl j (hl j)).2.2.2)⟩
    isplitl [H9]; · iexact H9
    isplitl [H10]; · iexact H10
    isplitl [H11]; · iexact H11
    iexact H12
  iintro %a2 HI
  unfold inv2
  icases HI with ⟨H7, H8, %l9, %l10, %l11, %l12, %hB, H9, H10, H11, H12⟩
  iapply (wp_copyWait 𝒱₀ (thr d L) none (src := (aS0).slice rL (fun _ => rfl)) (dst := d404 L) (q := fullShare) (Ss := Finset.univ) (fs := l9) (Sd := (brow (wL L)).set) (fd := m40) rfl (by decide) (Finset.subset_univ _) (set_d404 L)) $$ [H9 H40 S2 HO]
  · isplitl [H9]; · iexact H9
    isplitl [H40]; · iexact H40
    isplitl [S2]; · iexact S2
    isplitl [HO]; · iexact HO
    iexact Hmw
  iintro ⟨H9, H40, S2, HO⟩
  iapply (wp_copyWait 𝒱₀ (thr d L) none (src := (aD0).slice rL (fun _ => rfl)) (dst := d414 L) (q := fullShare) (Ss := Finset.univ) (fs := l10) (Sd := (brow (wL L)).set) (fd := m41) rfl (by decide) (Finset.subset_univ _) (set_d414 L)) $$ [H10 H41 S3 HO]
  · isplitl [H10]; · iexact H10
    isplitl [H41]; · iexact H41
    isplitl [S3]; · iexact S3
    isplitl [HO]; · iexact HO
    iexact Hmw
  iintro ⟨H10, H41, S3, HO⟩
  iapply (wp_copyWait 𝒱₀ (thr d L) none (src := (aS1).slice rL (fun _ => rfl)) (dst := d405 L) (q := fullShare) (Ss := Finset.univ) (fs := l11) (Sd := (brow (wL L)).set) (fd := _) rfl (by decide) (Finset.subset_univ _) (set_d405 L)) $$ [H11 H40 S4 HO]
  · isplitl [H11]; · iexact H11
    isplitl [H40]; · iexact H40
    isplitl [S4]; · iexact S4
    isplitl [HO]; · iexact HO
    iexact Hmw
  iintro ⟨H11, H40, S4, HO⟩
  iapply (wp_copyWait 𝒱₀ (thr d L) none (src := (aD1).slice rL (fun _ => rfl)) (dst := d415 L) (q := fullShare) (Ss := Finset.univ) (fs := l12) (Sd := (brow (wL L)).set) (fd := _) rfl (by decide) (Finset.subset_univ _) (set_d415 L)) $$ [H12 H41 S5 HO]
  · isplitl [H12]; · iexact H12
    isplitl [H41]; · iexact H41
    isplitl [S5]; · iexact S5
    isplitl [HO]; · iexact HO
    iexact Hmw
  iintro ⟨H12, H41, S5, HO⟩
  iapply (wp_loadW 𝒱₀ (thr d L) none (m := aC)) $$ H13; iintro H13
  iapply (wp_storeW 𝒱₀ (thr d L) none (m := aC)) $$ H13; iintro H13
  iapply (wp_copyWait 𝒱₀ (thr d L) none (src := aC) (dst := d426 L) (q := fullShare) (Ss := Finset.univ) (fs := _) (Sd := (crow (wL L)).set) (fd := m42) rfl (by decide) (Finset.subset_univ _) (set_d426 L)) $$ [H13 H42 S6 HO]
  · isplitl [H13]; · iexact H13
    isplitl [H42]; · iexact H42
    isplitl [S6]; · iexact S6
    isplitl [HO]; · iexact HO
    iexact Hmw
  iintro ⟨H13, H42, S6, HO⟩
  iapply (le_wp_ret _ _)
  isplitl [H40 H41 H42]
  · iexists _, _, _
    isplitr
    swap
    · isplitl [H40]; · iexact H40
      isplitl [H41]; · iexact H41
      iexact H42
    ipureintro
    obtain ⟨hsum, hb0, hb1⟩ := hB
    refine bucketOK_of (fun e y he hy => ⟨edgeS_in L f7 src e y he hy, edgeD_in L f8 dst e y he hy⟩) (fun e he => ⟨edgeS_out L f7 src e he, edgeD_out L f8 dst e he⟩) hb0 hb1 hsum
      (rows40 (F := F) L m40 l9 l11) (rows41 (F := F) L m41 l10 l12) (fun z hz => ⟨fun h => ?_, fun h => ?_⟩)
    · exact (rows42 (F := F) L m42 _ z hz 0 h).trans ((at_write (Val := Elt F) cc0_scratch6 inb_S16_S16_0 f13 _ (ix1 (n := 16) 0) (ix1 (n := 16) 0) (fun a => by
        match a with
        | 0 => rfl)).trans (pay8_at _ (fun l => congrArg (BitVec.ofNat 32) (show 0 * 16 + l.val = l.val by omega)) _ _).1)
    · exact (rows42 (F := F) L m42 _ z hz 1 h).trans ((at_write (Val := Elt F) cc0_scratch6 inb_S16_S16_0 f13 _ (ix1 (n := 16) 1) (ix1 (n := 16) 1) (fun a => by
        match a with
        | 0 => rfl)).trans (pay8_at _ (fun l => congrArg (BitVec.ofNat 32) (show 0 * 16 + l.val = l.val by omega)) _ _).2)
  isplitl [H7 H8 H9 H10 H11 H12 H13 HRb]
  · isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexact HRb
  isplitl [S0 S1 S2 S3 S4 S5 S6 HRs]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact HRs
  iexists _
  isplitr
  swap
  · iexact HO
  ipureintro
  intro p hp
  simp only [Finset.mem_insert] at hp
  rcases hp with rfl | rfl | rfl | rfl | rfl | rfl | rfl | hp
  iterate 7 exact .inr rfl
  exact .inl hp

end Tile

end Cert.Proof

end
-- ==== Proof.EdgeParts.lean ====
/-
  The output columns of the second call, and the three parts of its program, run.
-/
module

public import proofs.«01_k».proof.Proof.EdgeMain
public import proofs.«01_k».proof.Proof.BucketTile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The output's columns -/

theorem vdiv : 32 ∣ S10000x512.size 1 := ⟨16, rfl⟩
/-- Tile `w`'s columns of the output. -/
abbrev vcol (w : Fin 32) : Rect S10000x512 := Rect.part (s := S10000x512) (a₀ := 1) vdiv w

theorem mem_vcol (w : Fin 32) (x : S10000x512.Idx) : x ∈ (vcol w).set ↔ (x 1).val / 16 = w.val := by
  unfold vcol Rect.part Rect.block
  rw [Rect.mem_set_unit]
  constructor
  · intro h
    have h0 := h 1
    simp [Shape.partIx, Shape.partSize] at h0
    have := h0.1; have := h0.2; omega
  · intro h a
    match a with
    | 0 => simp [Shape.partIx, Shape.partSize]; exact (x 0).isLt
    | 1 => simp [Shape.partIx, Shape.partSize]; omega

/-- Entry `x` is the greatest of its column's entries over the edges into its row. -/
def ColAt (src dst : S160000.Idx → BitVec 32) (TAB : S320000x16.Idx → F .f32) (f : S10000x512.Idx → F .f32) (x : S10000x512.Idx) : Prop :=
  MaxOf (fun bb => ∃ y, (dst y).toNat = (x 0).val
    ∧ bb = TAB (ix2 (n := 320000) (k := 16) ⟨((src y).toNat * 32 + (x 1).val / 16) % 320000, Nat.mod_lt _ (by decide)⟩ ⟨(x 1).val % 16, Nat.mod_lt _ (by decide)⟩)) (f x)

section

variable (d : Dev nD) (L : grid1.Coords)

theorem widOf_toNat : (widOf L).toNat = (wE L).val := by
  have h1 : (L 1).val < 16 := (L 1).isLt
  have h0 : (L 0).val < 2 := (L 0).isLt
  show (BitVec.ofNat 32 (L 1).val * 2#32 + BitVec.ofNat 32 (L 0).val : BitVec 32).toNat = 2 * (L 1).val + (L 0).val
  simp only [BitVec.toNat_add, BitVec.toNat_mul, BitVec.toNat_ofNat]
  omega

abbrev rA : Rect S5008x16 := Rect.unit (s := S5008x16) ![0, 0] S5000x16.size inb_S5008x16_S5000x16_0_0

theorem set_out {b : ℕ} {off : Fin 2 → ℕ} {inb : ∀ a, off a + S5000x16.size a ≤ S10000x512.size a} (hoff : off = ![b, 32 * (L 1).val + 16 * (L 0).val]) :
    (v8V.slice (Rect.unit (s := S10000x512) off S5000x16.size inb) (fun _ => rfl)).view.set ⊆ (vcol (wE L)).set := by
  show ((View.whole main_v8_scv).slice (Rect.unit (s := S10000x512) off S5000x16.size inb)).set ⊆ _
  rw [View.set_slice_whole]
  intro x hx
  rw [Rect.mem_set_unit] at hx
  have h := hx 1
  rw [hoff] at h
  rw [mem_vcol]
  have h1 : 32 * (L 1).val + 16 * (L 0).val ≤ (x 1).val := h.1
  have h2 : (x 1).val < 32 * (L 1).val + 16 * (L 0).val + 16 := h.2
  show _ = 2 * (L 1).val + (L 0).val
  omega

variable {src dst : S160000.Idx → BitVec 32} (TAB : S320000x16.Idx → F .f32) {fS fD : S327680.Idx → BitVec 32} {cn : S32x16.Idx → BitVec 32}

/-- A half's maxima copied out: its rows of the tile's columns are the maxima over the edges, the others as they were. -/
theorem wp_outP (p : Fin 2) (hF : FlatOK src dst fS fD cn) (hs : ∀ y, (src y).toNat < 10000) (hd : ∀ y, (dst y).toNat < 10000) {b nc : ℕ} (hb : b = 5000 * p.val) {wd : BitVec 32} (hwd : wd.toNat = (wE L).val)
    {tw : S544.Idx → BitVec 32} (hT : TabOK cn p 32 nc tw) {tabM : Memref sig .scVector .vmem S544 .i32} {O : CellTallies nD τ sig (HIx 2)} {W : Waits sig (HIx 2)} {qA qB : PosShare TreeShare}
    {off : Fin 2 → ℕ} {inb : ∀ a, off a + S5000x16.size a ≤ S10000x512.size a} (hoff : off = ![b, 32 * (L 1).val + 16 * (L 0).val]) {sm : DmaSem sig} {f8 : S10000x512.Idx → F .f32}
    {h1 h2 h3 h4 h5} {α : Type} {k : PE F L α} {Q : α → sProp 𝕄} :
    iprop(MainEnd d L TAB fS fD wd tw nc b tabM O W qA qB ∗ (v8Loc d ↦[(vcol (wE L)).set]{fullShare} (f8 : Buf (Elt F) (v8Loc d))) ∗ semVal (thE d L, SemLoc.dma sm) 0 ∗ (Transfers.MayWaits (thE d L) (default : HIx 2) O : sProp 𝕄))
      ⊢ iprop(((∃ (f8' : S10000x512.Idx → F .f32) (acc : S5008x16.Idx → F .f32), ⌜(∀ x, b ≤ (x 0).val → (x 0).val < b + 5000 → (x 1).val / 16 = (wE L).val → ColAt src dst TAB f8' x)
              ∧ (∀ x, (x 0).val < b ∨ b + 5000 ≤ (x 0).val → f8' x = f8 x)⌝
            ∗ Idle d L TAB fS fD slotA qA ∗ Idle d L TAB fS fD slotB qB ∗ Held d L tabM fullShare (e := .i32) tw ∗ Held d L accM fullShare (e := .f32) acc
            ∗ (v8Loc d ↦[(vcol (wE L)).set]{fullShare} (f8' : Buf (Elt F) (v8Loc d))) ∗ semVal (thE d L, SemLoc.dma sm) 0 ∗ OW d L O W) -∗ WPE d L k Q)
        -∗ WPE d L (.op (.enqueueDma (accM.slice rA (fun _ => rfl)) (.here (v8V.slice (Rect.unit (s := S10000x512) off S5000x16.size inb) (fun _ => rfl))) (.dma sm) h1 h2 h3) fun _ =>
            .op (.waitDma2 sm (accM.slice rA (fun _ => rfl)) (v8V.slice (Rect.unit (s := S10000x512) off S5000x16.size inb) (fun _ => rfl)) h4 h5) fun _ => k) Q) := by
  unfold MainEnd AccI Held OW WPE
  iintro ⟨⟨HA, HB, HT, ⟨%acc, %hacc, ⟨%fa, %hfa, HX⟩⟩, ⟨%W', %hW', HO⟩⟩, H8, S0, #Hmw⟩ Hk
  iapply (wp_copyWait 𝒱₀ (thE d L) none (src := accM.slice rA (fun _ => rfl)) (dst := v8V.slice (Rect.unit (s := S10000x512) off S5000x16.size inb) (fun _ => rfl)) (q := fullShare) (Ss := Finset.univ) (fs := fa) (Sd := (vcol (wE L)).set) (fd := f8) rfl (show 0 < S5000x16.numel by decide) (Finset.subset_univ _) (set_out L hoff)) $$ [HX H8 S0 HO]
  · isplitl [HX]; · iexact HX
    isplitl [H8]; · iexact H8
    isplitl [S0]; · iexact S0
    isplitl [HO]; · iexact HO
    iexact Hmw
  iintro ⟨HX, H8, S0, HO⟩
  iapply Hk
  iexists _, acc
  isplitr
  swap
  · isplitl [HA]; · iexact HA
    isplitl [HB]; · iexact HB
    isplitl [HT]; · iexact HT
    isplitl [HX]
    · iexists fa
      isplitr
      · ipureintro; exact hfa
      · iexact HX
    isplitl [H8]; · iexact H8
    isplitl [S0]; · iexact S0
    iexists _
    isplitr
    swap
    · iexact HO
    ipureintro
    intro p hp
    simp only [Finset.mem_insert] at hp
    rcases hp with rfl | hp
    · exact .inr rfl
    · exact hW' p hp
  ipureintro
  have hp := p.isLt
  refine ⟨fun x h0 h1 hc => ?_, fun x hx => ?_⟩
  · have hx1 : (x 1).val < 512 := (x 1).isLt
    have hw : (wE L).val = 2 * (L 1).val + (L 0).val := rfl
    have hl : (x 1).val % 16 < 16 := Nat.mod_lt _ (by decide)
    have e1 := at_write (Val := Elt F) main_v8_scv inb f8 ((accM.slice rA (fun _ => rfl)).view.read (Elt F) fa) (ix2 (n := 5000) (k := 16) ⟨(x 0).val - b, by omega⟩ ⟨(x 1).val % 16, hl⟩) x (fun a => by
      refine Eq.trans ?_ (congrArg (fun n => n + (ix2 (n := 5000) (k := 16) ⟨(x 0).val - b, by omega⟩ ⟨(x 1).val % 16, hl⟩ a).val) (congrFun hoff a).symm)
      match a with
      | 0 => show (x 0).val = b + ((x 0).val - b); omega
      | 1 => show (x 1).val = 32 * (L 1).val + 16 * (L 0).val + (x 1).val % 16; omega)
    have e2 := at_read (Val := Elt F) cc1_scratch11 inb_S5008x16_S5000x16_0_0 fa (ix2 (n := 5000) (k := 16) ⟨(x 0).val - b, by omega⟩ ⟨(x 1).val % 16, hl⟩) (ix2 (n := 5008) (k := 16) ⟨(x 0).val - b, by omega⟩ ⟨(x 1).val % 16, hl⟩) (fun a => by
      match a with
      | 0 => exact (Nat.zero_add _).symm
      | 1 => exact (Nat.zero_add _).symm)
    have e3 : fa (ix2 (n := 5008) (k := 16) ⟨(x 0).val - b, by omega⟩ ⟨(x 1).val % 16, hl⟩) = acc (ix2 (n := 5008) (k := 16) ⟨(x 0).val - b, by omega⟩ ⟨(x 1).val % 16, hl⟩) := by rw [← hfa]; rfl
    unfold ColAt
    rw [show _ = acc _ from e1.trans (e2.trans e3)]
    refine MaxOf_congr (fun bb => ?_) (hacc (ix2 (n := 5008) (k := 16) ⟨(x 0).val - b, by omega⟩ ⟨(x 1).val % 16, hl⟩) (by show (x 0).val - b < 5000; omega))
    have hv : ∀ s : BitVec 32, s.toNat < 10000 → gval TAB wd s ⟨(x 1).val % 16, hl⟩ = TAB (ix2 (n := 320000) (k := 16) ⟨(s.toNat * 32 + (x 1).val / 16) % 320000, Nat.mod_lt _ (by decide)⟩ ⟨(x 1).val % 16, hl⟩) := fun s hs' => by
      unfold gval
      refine congrArg (fun n => TAB (ix2 (n := 320000) (k := 16) n ⟨(x 1).val % 16, hl⟩)) (Fin.ext ?_)
      show (rowW wd s).toNat % 320000 = _
      rw [rowW_toNat (by rw [hwd]; exact (wE L).isLt) hs', hwd, hc]
    have key := flat_iff hF hd hT (r := (x 0).val) (by omega) (by omega) (fun s => bb = gval TAB wd s ⟨(x 1).val % 16, hl⟩)
    have hbx : b + ((x 0).val - b) = (x 0).val := by omega
    constructor
    · rintro ⟨s, e, hD, he, hv'⟩
      obtain ⟨y, hy, hv''⟩ := key.1 ⟨s, e, hD, he.trans hbx, hv'⟩
      exact ⟨y, hy, hv''.trans (hv _ (hs y))⟩
    · rintro ⟨y, hy, hv'⟩
      obtain ⟨s, e, hD, he, hv''⟩ := key.2 ⟨y, hy, hv'.trans (hv _ (hs y)).symm⟩
      exact ⟨s, e, hD, he.trans hbx.symm, hv''⟩
  · exact at_write_off (Val := Elt F) main_v8_scv inb f8 _ x 0 (by
      have e : off 0 = b := congrFun hoff 0
      show (x 0).val < off 0 ∨ off 0 + 5000 ≤ (x 0).val
      rw [e]; exact hx)

omit TAB in
theorem wp_bindE {β α : Type} (p : PE F L β) (kk : β → PE F L α) (Q : α → sProp 𝕄) : WPE d L p (fun r => WPE d L (kk r) Q) = WPE d L (p >>= kk) Q :=
  (wp_bind ..).symm

/-- A loop that makes no trip. -/
theorem wp_loop0 (lp : Scf.Loop 32) (hlp : lp.trips = 0) {ok : lp.OK} {body : Fin lp.trips → BitVec 32 → PE F L (BitVec 32)} {a0 : BitVec 32} {α : Type} {kk : BitVec 32 → PE F L α} {Q : α → sProp 𝕄} :
    iprop(emp) ⊢ iprop((∀ a, WPE d L (kk a) Q) -∗ WPE d L (Scf.Loop.for lp ok a0 body >>= kk) Q) := by
  iintro - Hk
  iapply (Scf.wp_for_bind frame (wpE (defs₀ (F := F)) 𝒱₀ (thE d L) none) Set.univ lp.lb lp.ub lp.st ok a0 body (fun _ _ => iprop(emp)) ?_) $$ []
  rotate_left
  · iempintro
  · iintro %a -
    iapply Hk
  · intro t; exact absurd (hlp ▸ t.isLt : t.val < 0) (Nat.not_lt_zero _)

end

/-! ## The three parts of the program -/

section

variable (d : Dev nD) (L : grid1.Coords) (TAB : S320000x16.Idx → F .f32) {src dst : S160000.Idx → BitVec 32} {fS fD : S327680.Idx → BitVec 32} {cn : S32x16.Idx → BitVec 32}

set_option maxHeartbeats 4000000 in
theorem wp_p59 (hF : FlatOK src dst fS fD cn) (hs : ∀ y, (src y).toNat < 10000) {O : CellTallies nD τ sig (HIx 2)} {W : Waits sig (HIx 2)} {qA qB qn : PosShare TreeShare}
    {c0 : S32x16.Idx → BitVec 32} {w0 w1 : S544.Idx → BitVec 32} {acc : S5008x16.Idx → F .f32} {α : Type} {kk : _ → PE F L α} {Q : α → sProp 𝕄} :
    iprop(Held d L cntM fullShare (e := .i32) c0 ∗ (v42Loc d ↦{qn} (cn : Buf (Elt F) (v42Loc d))) ∗ semVal (thE d L, SemLoc.dma cc1_scoped0.sem) 0 ∗ Held d L tab0M fullShare (e := .i32) w0 ∗ Held d L tab1M fullShare (e := .i32) w1
        ∗ Held d L accM fullShare (e := .f32) acc ∗ Idle d L TAB fS fD slotA qA ∗ Idle d L TAB fS fD slotB qB ∗ OW d L O W ∗ (Transfers.MayWaits (thE d L) (default : HIx 2) O : sProp 𝕄))
      ⊢ iprop((∀ v4 h5 v6 h76, (∃ tw0 tw1 : S544.Idx → BitVec 32, ⌜TabOK cn 0 32 v4.toNat tw0 ∧ TabOK cn 1 32 v6.toNat tw1⌝
            ∗ MainInv d L TAB fS fD (widOf L) tw0 v4.toNat 0 tab0M O W slotA slotB qA qB 0 ∗ Held d L tab1M fullShare (e := .i32) tw1 ∗ Held d L cntM fullShare (e := .i32) cn
            ∗ semVal (thE d L, SemLoc.dma cc1_scoped0.sem) 0) -∗ WPE d L (kk ⟨widOf L, iotaV, v4, h5, v6, h76, Scalar.addi v4 1#32, 2#32⟩) Q)
        -∗ WPE d L (k1_part59 (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2 >>= kk) Q) := by
  rw [← wp_bindE, p59_eq]
  have hcn : ∀ p : Fin 2, ∀ t : Fin 32, (cn (ix2 t ⟨p.val, by omega⟩)).toNat ≤ 5008 := fun p t => FlatOK_cn hF p t
  iintro ⟨HC, H42, S0, HT0, HT1, HX, HA, HB, HO, #Hmw⟩ Hk
  unfold OW
  icases HO with ⟨%W', %hW', HO⟩
  ihave HC := (show Held d L cntM fullShare (e := .i32) c0 ⊢ iprop(∃ f : Buf (Elt F) (cntM.view.loc (thE d L)), cntM.view.loc (thE d L) ↦{fullShare} f) from by
    unfold Held
    iintro ⟨%f, -, H⟩
    iexists f; iexact H) $$ HC
  icases HC with ⟨%fc, HC⟩
  iapply (wp_copyWait 𝒱₀ (thE d L) none (src := v42E) (dst := cntM) (q := qn) (Ss := Finset.univ) (fs := cn) (Sd := Finset.univ) (fd := fc) rfl (show 0 < S32x16.numel by decide) (Finset.subset_univ _) (Finset.subset_univ _)) $$ [HC H42 S0 HO]
  · isplitl [H42]; · iexact H42
    isplitl [HC]; · iexact HC
    isplitl [S0]; · iexact S0
    isplitl [HO]; · iexact HO
    iexact Hmw
  iintro ⟨-, HC, S0, HO⟩
  ihave HC := (show (cntM.view.loc (thE d L) ↦{fullShare} (cntM.view.write (Elt F) fc (v42E.view.read (Elt F) cn) Finset.univ) : sProp 𝕄) ⊢ Held d L cntM fullShare (e := .i32) cn from by
    unfold Held
    iintro H
    iexists _
    isplitr
    swap
    · iexact H
    ipureintro
    exact (View.read_write_univ _ _).trans (View.read_whole _ _)) $$ HC
  ihave HO := (show owes (thE d L) O (insert (SemLoc.dma cc1_scoped0.sem, (default : HIx 2)) W') ⊢ OW d L O W from by
    unfold OW
    iintro H
    iexists _
    isplitr
    swap
    · iexact H
    ipureintro
    intro p hp
    simp only [Finset.mem_insert] at hp
    rcases hp with rfl | hp
    · exact .inr rfl
    · exact hW' p hp) $$ HO
  iapply (wp_tblLoop d L (Memref.set_access_whole cc1_scratch1) 0 (hcn 0) k1_off1_eq num0 idx0 (fun v h => h) slot0) $$ [HC HT0]
  · isplitl [HC]; · iexact HC
    iexact HT0
  iintro %v4 ⟨%tw0, %hT0, HC, HT0⟩
  iapply (wp_assume 𝒱₀ (thE d L) none Set.univ (chk5_of (v := v4) hT0.1))
  iapply (wp_tblLoop d L (Memref.set_access_whole cc1_scratch2) 1 (hcn 1) k1_off2_eq num1 idx1 (fun v h => h) slot1) $$ [HC HT1]
  · isplitl [HC]; · iexact HC
    iexact HT1
  iintro %v6 ⟨%tw1, %hT1, HC, HT1⟩
  iapply (wp_assume 𝒱₀ (thE d L) none Set.univ (chk76_of (v := v6) hT1.1))
  have h4 : v4.toNat ≤ 320 := hT0.1
  iapply (wp_initP d L (b := 0) (g := gval TAB (widOf L)) (fun _ => rfl) k1_off3_eq) $$ HX
  iintro HX
  have hS : ∀ x, (rowW (widOf L) (fS x)).toNat < 320000 := fun x => by
    have h1 := FlatOK_S hF hs x
    have h2 := (wE L).isLt
    rw [rowW_toNat (by rw [widOf_toNat]; exact h2) h1, widOf_toNat]; omega
  iapply (wp_phaseP d L TAB fS fD (widOf L) tw0 v4.toNat hS (fun c hc => offs_of hF hT0 hc) (above_iff (by omega) (by decide)) (above_iff (by omega) (by decide))
    (fun v => pickLane iotaV iotaV_at 0#32 ⟨0, by decide⟩ rfl v) (fun v => pickLane iotaV iotaV_at 1#32 ⟨1, by decide⟩ rfl v) (fun v h _ => h) (fun v h _ => h) (fun v x => rfl) k1_off5_eq) $$ [HA HB HT0 HX HO]
  · isplitl [HA]; · iexact HA
    isplitl [HB]; · iexact HB
    isplitl [HT0]; · iexact HT0
    isplitl [HX]; · iexact HX
    isplitl [HO]; · iexact HO
    iexact Hmw
  iintro HI
  iapply (le_wp_ret _ _)
  iapply Hk
  iexists tw0, tw1
  isplitr
  · ipureintro; exact ⟨hT0, hT1⟩
  isplitl [HI]; · iexact HI
  isplitl [HT1]; · iexact HT1
  isplitl [HC]; · iexact HC
  iexact S0

set_option maxHeartbeats 4000000 in
theorem wp_p60 (hF : FlatOK src dst fS fD cn) (hs : ∀ y, (src y).toNat < 10000) (hd : ∀ y, (dst y).toNat < 10000) {O : CellTallies nD τ sig (HIx 2)} {W : Waits sig (HIx 2)} {qA qB : PosShare TreeShare}
    {v4 v20 c2 : BitVec 32} {hw : k1_chk5 v4} {tw : S544.Idx → BitVec 32} (hT : TabOK cn 0 32 v4.toNat tw) {f8 : S10000x512.Idx → F .f32} {α : Type} {kk : F .f32 → PE F L α} {Q : α → sProp 𝕄} :
    iprop(MainInv d L TAB fS fD (widOf L) tw v4.toNat 0 tab0M O W slotA slotB qA qB 0 ∗ (v8Loc d ↦[(vcol (wE L)).set]{fullShare} (f8 : Buf (Elt F) (v8Loc d))) ∗ semVal (thE d L, SemLoc.dma cc1_scoped1.sem) 0 ∗ (Transfers.MayWaits (thE d L) (default : HIx 2) O : sProp 𝕄))
      ⊢ iprop(((∃ (f8' : S10000x512.Idx → F .f32) (acc : S5008x16.Idx → F .f32), ⌜(∀ x, 0 ≤ (x 0).val → (x 0).val < 0 + 5000 → (x 1).val / 16 = (wE L).val → ColAt src dst TAB f8' x)
              ∧ (∀ x, (x 0).val < 0 ∨ 0 + 5000 ≤ (x 0).val → f8' x = f8 x)⌝
            ∗ Idle d L TAB fS fD slotA qA ∗ Idle d L TAB fS fD slotB qB ∗ Held d L tab0M fullShare (e := .i32) tw ∗ Held d L accM fullShare (e := .f32) acc
            ∗ (v8Loc d ↦[(vcol (wE L)).set]{fullShare} (f8' : Buf (Elt F) (v8Loc d))) ∗ semVal (thE d L, SemLoc.dma cc1_scoped1.sem) 0 ∗ OW d L O W) -∗ WPE d L (kk (Scalar.ofBits .f32 0xFF800000#32)) Q)
        -∗ WPE d L (k1_part60 (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2 (widOf L) iotaV v4 hw v20 c2 >>= kk) Q) := by
  have h4 : v4.toNat ≤ 320 := hT.1
  have hS : ∀ x, (rowW (widOf L) (fS x)).toNat < 320000 := fun x => by
    have h1 := FlatOK_S hF hs x
    have h2 := (wE L).isLt
    rw [rowW_toNat (by rw [widOf_toNat]; exact h2) h1, widOf_toNat]; omega
  rw [← wp_bindE, k1_part60_eq_skeleton]
  unfold k1_part60_skel
  simp only [Prog.lift, Prog.bind_op, Prog.bind_ret, Prog.pure_eq_ret, bind_assoc]
  iintro ⟨HI, H8, S1, #Hmw⟩ Hk
  iapply (wp_mainLoop d L TAB fS fD (widOf L) tw v4.toNat (k1_t5_loop v4) (t5_trips h4) (fun t a Q' ht => wp_t5Body d L TAB fS fD (widOf L) tw v4.toNat rfl rfl iotaV_at hS (FlatOK_D hF hd) h4 (fun c hc => offs_of hF hT hc) t a Q' ht)) $$ [HI]
  · isplitl [HI]; · iexact HI
    iexact Hmw
  iintro %v43 HE
  iapply (wp_loop0 d L (k1_t10_loop v4) (t10_trips h4)) $$ []
  · iempintro
  iintro %v44
  iapply (wp_outP d L TAB 0 hF hs hd (b := 0) rfl (widOf_toNat L) hT (k1_off151_eq L)) $$ [HE H8 S1]
  · isplitl [HE]; · iexact HE
    isplitl [H8]; · iexact H8
    isplitl [S1]; · iexact S1
    iexact Hmw
  iintro H
  iapply (le_wp_ret _ _)
  iapply Hk
  iexact H

set_option maxHeartbeats 4000000 in
theorem wp_p61 (hF : FlatOK src dst fS fD cn) (hs : ∀ y, (src y).toNat < 10000) {O : CellTallies nD τ sig (HIx 2)} {W : Waits sig (HIx 2)} {qA qB : PosShare TreeShare}
    {v6 : BitVec 32} {tw : S544.Idx → BitVec 32} (hT : TabOK cn 1 32 v6.toNat tw) {acc : S5008x16.Idx → F .f32} {α : Type} {kk : _ → PE F L α} {Q : α → sProp 𝕄} :
    iprop(Held d L tab1M fullShare (e := .i32) tw ∗ Held d L accM fullShare (e := .f32) acc ∗ Idle d L TAB fS fD slotA qA ∗ Idle d L TAB fS fD slotB qB ∗ OW d L O W ∗ (Transfers.MayWaits (thE d L) (default : HIx 2) O : sProp 𝕄))
      ⊢ iprop((MainInv d L TAB fS fD (widOf L) tw v6.toNat 5000 tab1M O W slotA slotB qA qB 0 -∗ WPE d L (kk ⟨mid v6, 0#32, 0#32⟩) Q)
        -∗ WPE d L (k1_part61 (F := F) L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2 (widOf L) iotaV v6 (Scalar.ofBits .f32 0xFF800000#32) >>= kk) Q) := by
  have h6 : v6.toNat ≤ 320 := hT.1
  have hS : ∀ x, (rowW (widOf L) (fS x)).toNat < 320000 := fun x => by
    have h1 := FlatOK_S hF hs x
    have h2 := (wE L).isLt
    rw [rowW_toNat (by rw [widOf_toNat]; exact h2) h1, widOf_toNat]; omega
  rw [← wp_bindE, p61_eq]
  iintro ⟨HT, HX, HA, HB, HO, #Hmw⟩ Hk
  iapply (wp_initP d L (b := 5000) (g := gval TAB (widOf L)) (fun _ => rfl) k1_off152_eq) $$ HX
  iintro HX
  iapply (wp_phaseP d L TAB fS fD (widOf L) tw v6.toNat hS (fun c hc => offs_of hF hT hc) (above_iff (by omega) (by decide)) (above_iff (by omega) (by decide))
    (fun v => pickLane iotaV iotaV_at 0#32 ⟨0, by decide⟩ rfl v) (fun v => pickLane iotaV iotaV_at 1#32 ⟨1, by decide⟩ rfl v) (fun v h _ => h) (fun v h _ => h) (fun v x => rfl) k1_off154_eq) $$ [HA HB HT HX HO]
  · isplitl [HA]; · iexact HA
    isplitl [HB]; · iexact HB
    isplitl [HT]; · iexact HT
    isplitl [HX]; · iexact HX
    isplitl [HO]; · iexact HO
    iexact Hmw
  iintro HI
  iapply (le_wp_ret _ _)
  iapply Hk
  iexact HI

end

end Cert.Proof

end
-- ==== Proof.EdgeTile.lean ====
/-
  One tile of the second call, run whole.
-/
module

public import proofs.«01_k».proof.Proof.EdgeParts

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

section Tile

variable (d : Dev nD) (L : grid1.Coords)

/-- What a tile is given for the second call: a share of the table, of the sorted edges and of the counts, and its columns of the output. -/
abbrev pre1 (q : PosShare TreeShare) (TAB : S320000x16.Idx → F .f32) (fS fD : S327680.Idx → BitVec 32) (cn : S32x16.Idx → BitVec 32) (m8 : S10000x512.Idx → F .f32) (w : Fin 32) : sProp 𝕄 :=
  iprop((v5Loc d ↦{q} (TAB : Buf (Elt F) (v5Loc d))) ∗ (v6Loc d ↦{q} (fS : Buf (Elt F) (v6Loc d))) ∗ (v7Loc d ↦{q} (fD : Buf (Elt F) (v7Loc d)))
    ∗ (v42Loc d ↦{q} (cn : Buf (Elt F) (v42Loc d))) ∗ (v8Loc d ↦[(vcol w).set]{fullShare} (m8 : Buf (Elt F) (v8Loc d))))
/-- What it leaves: its columns, each entry the greatest over the edges into its row. -/
abbrev post1 (src dst : S160000.Idx → BitVec 32) (TAB : S320000x16.Idx → F .f32) (w : Fin 32) : sProp 𝕄 :=
  iprop(∃ f : S10000x512.Idx → F .f32, ⌜∀ x, (x 1).val / 16 = w.val → ColAt src dst TAB f x⌝ ∗ (v8Loc d ↦[(vcol w).set]{fullShare} (f : Buf (Elt F) (v8Loc d))))

theorem toHeld {s : Shape} {e : EltTy} (m : Memref sig .scVector .vmem s e) (f : Buf (Elt F) (m.view.loc (thE d L))) :
    (m.view.loc (thE d L) ↦{fullShare} f : sProp 𝕄) ⊢ Held d L m fullShare (m.view.read (Elt F) f) := by
  unfold Held
  iintro H
  iexists f
  isplitr
  · ipureintro; rfl
  · iexact H
theorem ofHeld {s : Shape} {e : EltTy} (m : Memref sig .scVector .vmem s e) (w : s.Idx → Elt F e) :
    Held d L m fullShare w ⊢ (iprop(∃ f, m.view.loc (thE d L) ↦{fullShare} f) : sProp 𝕄) := by
  unfold Held
  iintro ⟨%f, -, H⟩
  iexists f; iexact H

theorem idle_mk (TAB : S320000x16.Idx → F .f32) (fS fD : S327680.Idx → BitVec 32) (S : Slot) {q : PosShare TreeShare} {a b c : S512.Idx → BitVec 32} {r : S512x16.Idx → F .f32} :
    iprop(Held d L S.sS fullShare (e := .i32) a ∗ Held d L S.sD fullShare (e := .i32) b ∗ Held d L S.sI fullShare (e := .i32) c ∗ Held d L S.sR fullShare (e := .f32) r
    ∗ semVal (thE d L, SemLoc.dma S.mS) 0 ∗ semVal (thE d L, SemLoc.dma S.mD) 0 ∗ semVal (thE d L, SemLoc.dma S.mG) 0
    ∗ (v5Loc d ↦{q} (TAB : Buf (Elt F) (v5Loc d))) ∗ (v6Loc d ↦{q} (fS : Buf (Elt F) (v6Loc d))) ∗ (v7Loc d ↦{q} (fD : Buf (Elt F) (v7Loc d)))) ⊢ Idle d L TAB fS fD S q := by
  unfold Idle
  iintro H
  iexists a, b, c, r
  iexact H

set_option maxHeartbeats 4000000 in
theorem tile_body1 (hF : (K (F := F)).Facts) (O : CellTallies nD τ sig (HIx 2)) (W : Waits sig (HIx 2)) (hO : ∀ g, O g none = 0)
    (q : PosShare TreeShare) (TAB : S320000x16.Idx → F .f32) (src dst : S160000.Idx → BitVec 32) (fS fD : S327680.Idx → BitVec 32) (cn : S32x16.Idx → BitVec 32) (m8 : S10000x512.Idx → F .f32)
    (hFl : FlatOK src dst fS fD cn) (hs : ∀ y, (src y).toNat < 10000) (hd : ∀ y, (dst y).toNat < 10000) :
    iprop(levAts (K (F := F)).L (K (F := F)).lev ∗ emp ∗ pre1 (F := F) d q TAB fS fD cn m8 (wE L)
        ∗ scopedBufs (thE d L) ∗ scopedSems0 (thE d L) ∗ owes (thE d L) O W)
      ⊢ wp frame (wpE (defs₀ (F := F)) 𝒱₀ (thE d L) none) Set.univ
          (cc1_k L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2)
          fun _ => iprop(post1 (F := F) d src dst TAB (wE L) ∗ scopedBufs (thE d L) ∗ scopedSems0 (thE d L)
            ∗ ∃ W', ⌜∀ p ∈ W', p ∈ W ∨ p.2 = none⌝ ∗ owes (thE d L) O W') := by
  obtain ⟨Rb, hRb⟩ := ownBufs_take (F := F) d (cE L) (jE L) [cc1_scratch0, cc1_scratch1, cc1_scratch2, cc1_scratch3, cc1_scratch4, cc1_scratch5, cc1_scratch6, cc1_scratch7, cc1_scratch8, cc1_scratch9, cc1_scratch10, cc1_scratch11] (by decide)
    (fun b hb => by simp only [List.mem_cons, List.not_mem_nil, or_false] at hb; rcases hb with rfl | rfl | rfl | rfl | rfl | rfl | rfl | rfl | rfl | rfl | rfl | rfl <;> rfl)
  obtain ⟨Rs, hRs⟩ := ownSems0_take (F := F) d (cE L) (jE L) [cc1_scratch12.sem, cc1_scratch13.sem, cc1_scratch14.sem, cc1_scratch15.sem, cc1_scratch16.sem, cc1_scratch17.sem, cc1_scoped0.sem, cc1_scoped1.sem, cc1_scoped2.sem] (by decide)
    (by decide)
  simp only [List.foldr] at hRb hRs
  rw [(K (F := F)).scopedBufs_V hF d (cE L) (jE L), SparseCore.Cfg.scopedSems0_V (Val := Elt F) d (cE L) (jE L), hRs, hRb]
  rw [cc1_k_eq_skeleton]; unfold cc1_k_skel
  simp only [Prog.lift, Prog.bind_op, Prog.bind_ret, Prog.pure_eq_ret]
  iintro ⟨#Hlv, -, ⟨H5, H6, H7, H42, H8⟩, ⟨⟨%f0, B0⟩, ⟨%f1, B1⟩, ⟨%f2, B2⟩, ⟨%f3, B3⟩, ⟨%f4, B4⟩, ⟨%f5, B5⟩, ⟨%f6, B6⟩, ⟨%f7, B7⟩, ⟨%f8, B8⟩, ⟨%f9, B9⟩, ⟨%f10, B10⟩, ⟨%f11, B11⟩, HRb⟩, ⟨M0, M1, M2, M3, M4, M5, M6, M7, M8, HRs⟩, HO⟩
  ihave #Hmw := (show levAts (K (F := F)).L (K (F := F)).lev ⊢ Transfers.MayWaits (thE d L) (default : HIx 2) O from
    (K (F := F)).mayWaits_none (thr := thE d L) hO) $$ Hlv
  ihave HO := (show owes (thE d L) O W ⊢ OW d L O W from by
    unfold OW
    iintro H
    iexists W
    isplitr
    · ipureintro; exact fun p hp => .inl hp
    · iexact H) $$ HO
  ihave B0 := (show ((V d (cE L) (jE L)).loc cc1_scratch0 ↦{fullShare} f0 : sProp 𝕄) ⊢ Held d L cntM fullShare (cntM.view.read (Elt F) f0) from toHeld d L (Memref.whole cc1_scratch0) f0) $$ B0
  ihave B1 := (show ((V d (cE L) (jE L)).loc cc1_scratch1 ↦{fullShare} f1 : sProp 𝕄) ⊢ Held d L tab0M fullShare (tab0M.view.read (Elt F) f1) from toHeld d L (Memref.whole cc1_scratch1) f1) $$ B1
  ihave B2 := (show ((V d (cE L) (jE L)).loc cc1_scratch2 ↦{fullShare} f2 : sProp 𝕄) ⊢ Held d L tab1M fullShare (tab1M.view.read (Elt F) f2) from toHeld d L (Memref.whole cc1_scratch2) f2) $$ B2
  ihave B3 := (show ((V d (cE L) (jE L)).loc cc1_scratch3 ↦{fullShare} f3 : sProp 𝕄) ⊢ Held d L slotA.sS fullShare (slotA.sS.view.read (Elt F) f3) from toHeld d L (Memref.whole cc1_scratch3) f3) $$ B3
  ihave B4 := (show ((V d (cE L) (jE L)).loc cc1_scratch4 ↦{fullShare} f4 : sProp 𝕄) ⊢ Held d L slotB.sS fullShare (slotB.sS.view.read (Elt F) f4) from toHeld d L (Memref.whole cc1_scratch4) f4) $$ B4
  ihave B5 := (show ((V d (cE L) (jE L)).loc cc1_scratch5 ↦{fullShare} f5 : sProp 𝕄) ⊢ Held d L slotA.sD fullShare (slotA.sD.view.read (Elt F) f5) from toHeld d L (Memref.whole cc1_scratch5) f5) $$ B5
  ihave B6 := (show ((V d (cE L) (jE L)).loc cc1_scratch6 ↦{fullShare} f6 : sProp 𝕄) ⊢ Held d L slotB.sD fullShare (slotB.sD.view.read (Elt F) f6) from toHeld d L (Memref.whole cc1_scratch6) f6) $$ B6
  ihave B7 := (show ((V d (cE L) (jE L)).loc cc1_scratch7 ↦{fullShare} f7 : sProp 𝕄) ⊢ Held d L slotA.sI fullShare (slotA.sI.view.read (Elt F) f7) from toHeld d L (Memref.whole cc1_scratch7) f7) $$ B7
  ihave B8 := (show ((V d (cE L) (jE L)).loc cc1_scratch8 ↦{fullShare} f8 : sProp 𝕄) ⊢ Held d L slotB.sI fullShare (slotB.sI.view.read (Elt F) f8) from toHeld d L (Memref.whole cc1_scratch8) f8) $$ B8
  ihave B9 := (show ((V d (cE L) (jE L)).loc cc1_scratch9 ↦{fullShare} f9 : sProp 𝕄) ⊢ Held d L slotA.sR fullShare (slotA.sR.view.read (Elt F) f9) from toHeld d L (Memref.whole cc1_scratch9) f9) $$ B9
  ihave B10 := (show ((V d (cE L) (jE L)).loc cc1_scratch10 ↦{fullShare} f10 : sProp 𝕄) ⊢ Held d L slotB.sR fullShare (slotB.sR.view.read (Elt F) f10) from toHeld d L (Memref.whole cc1_scratch10) f10) $$ B10
  ihave B11 := (show ((V d (cE L) (jE L)).loc cc1_scratch11 ↦{fullShare} f11 : sProp 𝕄) ⊢ Held d L accM fullShare (accM.view.read (Elt F) f11) from toHeld d L (Memref.whole cc1_scratch11) f11) $$ B11
  ihave H5 := (pointsTo_share (PosShare.mem_left_op_right q)).1 $$ H5
  icases H5 with ⟨H5a, H5b⟩
  ihave H6 := (pointsTo_share (PosShare.mem_left_op_right q)).1 $$ H6
  icases H6 with ⟨H6a, H6b⟩
  ihave H7 := (pointsTo_share (PosShare.mem_left_op_right q)).1 $$ H7
  icases H7 with ⟨H7a, H7b⟩
  ihave HA := (idle_mk d L TAB fS fD slotA (q := q.left)) $$ [B3 B5 B7 B9 M0 M2 M4 H5a H6a H7a]
  · isplitl [B3]; · iexact B3
    isplitl [B5]; · iexact B5
    isplitl [B7]; · iexact B7
    isplitl [B9]; · iexact B9
    isplitl [M0]; · iexact M0
    isplitl [M2]; · iexact M2
    isplitl [M4]; · iexact M4
    isplitl [H5a]; · iexact H5a
    isplitl [H6a]; · iexact H6a
    iexact H7a
  ihave HB := (idle_mk d L TAB fS fD slotB (q := q.right)) $$ [B4 B6 B8 B10 M1 M3 M5 H5b H6b H7b]
  · isplitl [B4]; · iexact B4
    isplitl [B6]; · iexact B6
    isplitl [B8]; · iexact B8
    isplitl [B10]; · iexact B10
    isplitl [M1]; · iexact M1
    isplitl [M3]; · iexact M3
    isplitl [M5]; · iexact M5
    isplitl [H5b]; · iexact H5b
    isplitl [H6b]; · iexact H6b
    iexact H7b
  iapply (wp_p59 d L TAB hFl hs) $$ [B0 H42 M6 B1 B2 B11 HA HB HO]
  · isplitl [B0]; · iexact B0
    isplitl [H42]; · iexact H42
    isplitl [M6]; · iexact M6
    isplitl [B1]; · iexact B1
    isplitl [B2]; · iexact B2
    isplitl [B11]; · iexact B11
    isplitl [HA]; · iexact HA
    isplitl [HB]; · iexact HB
    isplitl [HO]; · iexact HO
    iexact Hmw
  iintro %v4 %h5 %v6 %h76 ⟨%tw0, %tw1, %hT, HI, HT1, HC, M6⟩
  obtain ⟨hT0, hT1⟩ := hT
  have h6 : v6.toNat ≤ 320 := hT1.1
  have hS : ∀ x, (rowW (widOf L) (fS x)).toNat < 320000 := fun x => by
    have h1 := FlatOK_S hFl hs x
    have h2 := (wE L).isLt
    rw [rowW_toNat (by rw [widOf_toNat]; exact h2) h1, widOf_toNat]; omega
  iapply (wp_p60 d L TAB hFl hs hd hT0) $$ [HI H8 M7]
  · isplitl [HI]; · iexact HI
    isplitl [H8]; · iexact H8
    isplitl [M7]; · iexact M7
    iexact Hmw
  iintro ⟨%f8, %acc, %hO1, HA, HB, HT0, HX, H8, M7, HO⟩
  iapply (wp_p61 d L TAB hFl hs hT1) $$ [HT1 HX HA HB HO]
  · isplitl [HT1]; · iexact HT1
    isplitl [HX]; · iexact HX
    isplitl [HA]; · iexact HA
    isplitl [HB]; · iexact HB
    isplitl [HO]; · iexact HO
    iexact Hmw
  iintro HI
  iapply (wp_mainLoop d L TAB fS fD (widOf L) tw1 v6.toNat (k1_t17_loop v6) (t17_trips h6) (fun t a Q' ht => wp_t17Body d L TAB fS fD (widOf L) tw1 v6.toNat rfl rfl iotaV_at hS (FlatOK_D hFl hd) h6 (fun c hc => offs_of hFl hT1 hc) t a Q' ht)) $$ [HI]
  · isplitl [HI]; · iexact HI
    iexact Hmw
  iintro %v82 HE
  iapply (wp_loop0 d L (k1_t22_loop v6) (t22_trips h6)) $$ []
  · iempintro
  iintro %v83
  iapply (wp_outP d L TAB 1 hFl hs hd (b := 5000) rfl (widOf_toNat L) hT1 (k1_off300_eq L)) $$ [HE H8 M8]
  · isplitl [HE]; · iexact HE
    isplitl [H8]; · iexact H8
    isplitl [M8]; · iexact M8
    iexact Hmw
  iintro ⟨%f8', %acc', %hO2, HA, HB, HT1, HX, H8, M8, HO⟩
  iapply (le_wp_ret _ _)
  isplitl [H8]
  · iexists f8'
    isplitr
    swap
    · iexact H8
    ipureintro
    intro x hx
    have h10 : (x 0).val < 10000 := (x 0).isLt
    by_cases h : (x 0).val < 5000
    · have e : f8' x = f8 x := hO2.2 x (.inl h)
      have := hO1.1 x (Nat.zero_le _) (by omega) hx
      unfold ColAt at this ⊢
      rw [e]; exact this
    · exact hO2.1 x (by omega) (by omega) hx
  unfold Idle
  icases HA with ⟨%a3, %a5, %a7, %a9, B3, B5, B7, B9, M0, M2, M4, -⟩
  icases HB with ⟨%a4, %a6, %a8, %a10, B4, B6, B8, B10, M1, M3, M5, -⟩
  isplitl [HC HT0 HT1 B3 B4 B5 B6 B7 B8 B9 B10 HX HRb]
  · isplitl [HC]; · iapply (ofHeld d L cntM _) $$ HC
    isplitl [HT0]; · iapply (ofHeld d L tab0M _) $$ HT0
    isplitl [HT1]; · iapply (ofHeld d L tab1M _) $$ HT1
    isplitl [B3]; · iapply (ofHeld d L slotA.sS _) $$ B3
    isplitl [B4]; · iapply (ofHeld d L slotB.sS _) $$ B4
    isplitl [B5]; · iapply (ofHeld d L slotA.sD _) $$ B5
    isplitl [B6]; · iapply (ofHeld d L slotB.sD _) $$ B6
    isplitl [B7]; · iapply (ofHeld d L slotA.sI _) $$ B7
    isplitl [B8]; · iapply (ofHeld d L slotB.sI _) $$ B8
    isplitl [B9]; · iapply (ofHeld d L slotA.sR _) $$ B9
    isplitl [B10]; · iapply (ofHeld d L slotB.sR _) $$ B10
    isplitl [HX]; · iapply (ofHeld d L accM _) $$ HX
    iexact HRb
  isplitl [M0 M1 M2 M3 M4 M5 M6 M7 M8 HRs]
  · isplitl [M0]; · iexact M0
    isplitl [M1]; · iexact M1
    isplitl [M2]; · iexact M2
    isplitl [M3]; · iexact M3
    isplitl [M4]; · iexact M4
    isplitl [M5]; · iexact M5
    isplitl [M6]; · iexact M6
    isplitl [M7]; · iexact M7
    isplitl [M8]; · iexact M8
    iexact HRs
  unfold OW
  iexact HO

end Tile

end Cert.Proof

end
-- ==== Proof.Launch.lean ====
/-
  The two calls' launch: what the threads hand each other, and each tile's obligation.
-/
module

public import proofs.«01_k».proof.Proof.EdgeTile
public import Idealize.ShloMosaic.Lib.SparseCore.Quiescent
public import Idealize.ShloMosaic.Lib.StableHlo.Run
public import Idealize.ShloMosaic.Lib.Pipeline.Kit

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

open Idealize.ShloMosaic.Rounds

variable (m : (ℓ : Loc nD τ sig) → Buf (Elt F) ℓ)

/-! ## What the calls read, from the launch memory -/

abbrev a0Loc (d : Dev nD) : Loc nD τ sig := (SparseCore.T d).loc main_arg0
abbrev a1Loc (d : Dev nD) : Loc nD τ sig := (SparseCore.T d).loc main_arg1

/-- The edges' sources, their destinations, and the table cut into rows of sixteen. -/
def SRC2 (d : Dev nD) : S1x160000.Idx → BitVec 32 :=
  extractStridedSlice S1x160000 ![0, 0] (m (a1Loc d) : S2x160000.Idx → BitVec 32) slices_S2x160000_S1x160000_0_0
def DST2 (d : Dev nD) : S1x160000.Idx → BitVec 32 :=
  extractStridedSlice S1x160000 ![1, 0] (m (a1Loc d) : S2x160000.Idx → BitVec 32) slices_S2x160000_S1x160000_1_0
def SRC (d : Dev nD) : S160000.Idx → BitVec 32 := shapeCast S160000 (SRC2 m d) shapeCasts_S1x160000_S160000
def DST (d : Dev nD) : S160000.Idx → BitVec 32 := shapeCast S160000 (DST2 m d) shapeCasts_S1x160000_S160000
def TAB (d : Dev nD) : S320000x16.Idx → F .f32 := shapeCast S320000x16 (m (a0Loc d) : S10000x512.Idx → F .f32) shapeCasts_S10000x512_S320000x16

/-- What the proof asks of the launch memory: every source and destination is a node. -/
def PreOK : Prop := ∀ d : Dev nD, (∀ y, (SRC m d y).toNat < 10000) ∧ ∀ y, (DST m d y).toNat < 10000

/-! ## What passes between the threads -/

/-- The tile at core `c`, subcore `i`. -/
def tileNo (c i : ℕ) : Fin 32 := ⟨(2 * i + c) % 32, Nat.mod_lt _ (by decide)⟩

/-- A tile's share of an array all tiles read. -/
abbrev shT (w : Fin 32) : PosShare TreeShare := Transfers.shareTok fullShare 32 w

def go0 (d : Dev nD) (w : Fin 32) : sProp 𝕄 :=
  pre0 (F := F) d (shT w) (SRC m d) (DST m d) (m (v40Loc d)) (m (v41Loc d)) (m (v42Loc d)) w
def td0 (d : Dev nD) (w : Fin 32) : sProp 𝕄 := post0 (F := F) d (SRC m d) (DST m d) w
def go1 (d : Dev nD) (w : Fin 32) : sProp 𝕄 :=
  iprop(∃ fS fD cn, ⌜FlatOK (SRC m d) (DST m d) fS fD cn⌝ ∗ pre1 (F := F) d (shT w) (TAB m d) fS fD cn (m (v8Loc d)) w)
def td1 (d : Dev nD) (w : Fin 32) : sProp 𝕄 := post1 (F := F) d (SRC m d) (DST m d) (TAB m d) w

instance go0_st (d : Dev nD) (w : Fin 32) : BI.Storable (upEmb : UEmb _ 𝕄) (go0 m d w) := by unfold go0 pre0; infer_instance
instance td0_st (d : Dev nD) (w : Fin 32) : BI.Storable (upEmb : UEmb _ 𝕄) (td0 m d w) := by unfold td0 post0; infer_instance
instance go1_st (d : Dev nD) (w : Fin 32) : BI.Storable (upEmb : UEmb _ 𝕄) (go1 m d w) := by unfold go1 pre1; infer_instance
instance td1_st (d : Dev nD) (w : Fin 32) : BI.Storable (upEmb : UEmb _ 𝕄) (td1 m d w) := by unfold td1 post1; infer_instance

def goP (q : Fin 2) (d : Dev nD) (w : Fin 32) : sProp 𝕄 := match q with | 0 => go0 m d w | 1 => go1 m d w
def tdP (q : Fin 2) (d : Dev nD) (w : Fin 32) : sProp 𝕄 := match q with | 0 => td0 m d w | 1 => td1 m d w

instance goP_st (q : Fin 2) (d : Dev nD) (w : Fin 32) : BI.Storable (upEmb : UEmb _ 𝕄) (goP m q d w) := by
  match q with
  | 0 => exact go0_st m d w
  | 1 => exact go1_st m d w
instance tdP_st (q : Fin 2) (d : Dev nD) (w : Fin 32) : BI.Storable (upEmb : UEmb _ 𝕄) (tdP m q d w) := by
  match q with
  | 0 => exact td0_st m d w
  | 1 => exact td1_st m d w

/-- The payloads: a sequencer is handed its tiles' own, and hands theirs back. -/
def P : (K (F := F)).Pay (nD := nD) (Val := Elt F) (Name := ℕ) (U := UU) where
  st := fun q d c => bigSep Finset.univ fun i : Fin ((K (F := F)).nSub q) => goP m q d (tileNo c.val i.val)
  dn := fun q d c => bigSep Finset.univ fun i : Fin ((K (F := F)).nSub q) => tdP m q d (tileNo c.val i.val)
  go := fun q d c i => goP m q d (tileNo c.val i.val)
  td := fun q d c i => tdP m q d (tileNo c.val i.val)
  x := fun _ _ => iprop(emp)

instance P_storable : (P (F := F) m).IsStorable where
  st _ _ _ := by unfold P; infer_instance
  dn _ _ _ := by unfold P; infer_instance
  go _ _ _ _ := by unfold P; infer_instance
  td _ _ _ _ := by unfold P; infer_instance

theorem vecSplit (q : Fin 2) : (K (F := F)).VecSplit' (P (F := F) m) q := by
  intro d c
  show (bigSep Finset.univ fun i : Fin ((K (F := F)).nSub q) => goP m q d (tileNo c.val i.val))
    ⊢ |={Set.univ}=> iprop((bigSep Finset.univ fun i : Fin ((K (F := F)).nSub q) => goP m q d (tileNo c.val i.val))
      ∗ ((bigSep Finset.univ fun i : Fin ((K (F := F)).nSub q) => tdP m q d (tileNo c.val i.val)) -∗ bigSep Finset.univ fun i : Fin ((K (F := F)).nSub q) => tdP m q d (tileNo c.val i.val)))
  iintro H
  imodintro
  isplitl [H]
  · iexact H
  · iintro H
    iexact H

/-! ## The tiles' obligations -/

def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid1.bound 0)) (s : Fin (grid1.bound 1)) : grid1.Coords :=
  fun | 0 => c | 1 => s | ⟨_ + 2, h⟩ => absurd h (Nat.not_lt.2 (Nat.le_add_left _ _))

theorem wL_coords (c : Fin (grid0.bound 0)) (s : Fin (grid0.bound 1)) : wL (coords0 c s) = tileNo c.val s.val := by
  have h0 : c.val < 2 := c.isLt
  have h1 : s.val < 16 := s.isLt
  refine Fin.ext ?_
  show 2 * s.val + c.val = (2 * s.val + c.val) % 32
  omega
theorem wE_coords (c : Fin (grid1.bound 0)) (s : Fin (grid1.bound 1)) : wE (coords1 c s) = tileNo c.val s.val := by
  have h0 : c.val < 2 := c.isLt
  have h1 : s.val < 16 := s.isLt
  refine Fin.ext ?_
  show 2 * s.val + c.val = (2 * s.val + c.val) % 32
  omega

theorem obl_post {thr : Thread nD τ} {O : CellTallies nD τ sig (HIx 2)} {W : Waits sig (HIx 2)} {A B C : sProp 𝕄} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

theorem defs₀_tile0 (c : Fin τ.nSC) (s : Fin τ.nSub) :
    defs₀ (F := F) (.scVector c s) 0 ()
      = SparseCore.onTile hcore0 hsub0 (fun c s => cc0_k (coords0 c s) (Memref.whole main_v1_scv) (Memref.isWhole_whole _) (Memref.whole main_v3_scv) (Memref.isWhole_whole _) (Memref.whole main_v4_0_scv) (Memref.isWhole_whole _) (Memref.whole main_v4_1_scv) (Memref.isWhole_whole _) (Memref.whole main_v4_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scoped0 cc0_scoped1 cc0_scoped2 cc0_scoped3 cc0_scoped4 cc0_scoped5 cc0_scoped6) ⟨⟩ c s := rfl

theorem defs₀_tile1 (c : Fin τ.nSC) (s : Fin τ.nSub) :
    defs₀ (F := F) (.scVector c s) 1 ()
      = SparseCore.onTile hcore1 hsub1 (fun c s => cc1_k (coords1 c s) (Memref.whole main_v5_scv) (Memref.isWhole_whole _) (Memref.whole main_v6_scv) (Memref.isWhole_whole _) (Memref.whole main_v7_scv) (Memref.isWhole_whole _) (Memref.whole main_v4_2_scv) (Memref.isWhole_whole _) (Memref.whole main_v8_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) cc1_scratch12 cc1_scratch13 cc1_scratch14 cc1_scratch15 cc1_scratch16 cc1_scratch17 cc1_scoped0 cc1_scoped1 cc1_scoped2) ⟨⟩ c s := rfl

set_option maxRecDepth 16384 in
theorem tileObl0 (hpre : PreOK m) : (K (F := F)).TileObl (D (F := F)) 𝒱 (P (F := F) m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile0]
  simp only [SparseCore.onTile, hci, and_self, ↓reduceDIte]
  have h := tile_body0 (F := F) d (coords0 ⟨_, hci.1⟩ ⟨_, hci.2⟩) facts O W hO (shT (tileNo c.val i.val)) (SRC m d) (DST m d)
    (fun y => lt_trans ((hpre d).2 y) (by decide)) (m (v40Loc d)) (m (v41Loc d)) (m (v42Loc d))
  rw [wL_coords] at h
  exact h.trans (wp_mono frame _ _ fun _ => obl_post)

/-- The second call's tile from the payload as it is handed over. -/
theorem tile_body1' (d : Dev nD) (L : grid1.Coords) (hpre : PreOK m) (O : CellTallies nD τ sig (HIx 2)) (W : Waits sig (HIx 2)) (hO : ∀ g, O g none = 0) :
    iprop(levAts (K (F := F)).L (K (F := F)).lev ∗ emp ∗ go1 m d (wE L)
        ∗ scopedBufs (thE d L) ∗ scopedSems0 (thE d L) ∗ owes (thE d L) O W)
      ⊢ wp frame (wpE (defs₀ (F := F)) 𝒱₀ (thE d L) none) Set.univ
          (cc1_k L v5V (Memref.isWhole_whole _) v6V (Memref.isWhole_whole _) v7V (Memref.isWhole_whole _) v42E (Memref.isWhole_whole _) v8V (Memref.isWhole_whole _) cntM (Memref.isWhole_whole _) tab0M (Memref.isWhole_whole _) tab1M (Memref.isWhole_whole _) slotA.sS slotA.wS slotB.sS slotB.wS slotA.sD slotA.wD slotB.sD slotB.wD slotA.sI slotA.wI slotB.sI slotB.wI slotA.sR slotA.wR slotB.sR slotB.wR accM (Memref.isWhole_whole _) cc1_scratch12 cc1_scratch13 cc1_scratch14 cc1_scratch15 cc1_scratch16 cc1_scratch17 cc1_scoped0 cc1_scoped1 cc1_scoped2)
          fun _ => iprop(td1 m d (wE L) ∗ scopedBufs (thE d L) ∗ scopedSems0 (thE d L)
            ∗ ∃ W', ⌜∀ p ∈ W', p ∈ W ∨ p.2 = none⌝ ∗ owes (thE d L) O W') := by
  unfold go1 td1
  iintro ⟨H1, H2, ⟨%fS, %fD, %cn, %hFl, H3⟩, H4⟩
  have h := tile_body1 (F := F) d L facts O W hO (shT (wE L)) (TAB m d) (SRC m d) (DST m d) fS fD cn (m (v8Loc d)) hFl (hpre d).1 (hpre d).2
  iapply h
  isplitl [H1]; · iexact H1
  isplitl [H2]; · iexact H2
  isplitl [H3]; · iexact H3
  iexact H4

set_option maxRecDepth 16384 in
theorem tileObl1 (hpre : PreOK m) : (K (F := F)).TileObl (D (F := F)) 𝒱 (P (F := F) m) v₀ 1 := by
  intro d c i O W hO _ _
  simp only [show (P (F := F) m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_tile1]
  simp only [SparseCore.onTile, hci, and_self, ↓reduceDIte]
  have h := tile_body1' (F := F) m d (coords1 ⟨_, hci.1⟩ ⟨_, hci.2⟩) hpre O W hO
  rw [wE_coords] at h
  exact h.trans (wp_mono frame _ _ fun _ => obl_post)

end Cert.Proof

end
-- ==== Proof.Deal.lean ====
/-
  The calls' arrays dealt out over the tiles and taken back whole.
-/
module

public import proofs.«01_k».proof.Proof.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (m : (ℓ : Loc nD τ sig) → Buf (Elt F) ℓ) (d : Dev nD)

/-! ## The tiles, counted -/

/-- Over the cores and their subcores is over the tiles. -/
theorem over_tiles (Φ : Fin 32 → sProp 𝕄) :
    (bigSep Finset.univ fun c : Fin 2 => bigSep Finset.univ fun i : Fin 16 => Φ (tileNo c.val i.val)) = bigSep Finset.univ Φ := by
  have hb : Function.Bijective fun p : Fin 2 × Fin 16 => tileNo p.1.val p.2.val := by decide
  rw [bigSep_univ_equiv (Equiv.ofBijective _ hb) Φ, bigSep_univ_prod]
  rfl

theorem st_eq0 : (bigSep Finset.univ fun c : Fin ((K (F := F)).nCore 0) => (P (F := F) m).st 0 d c) = bigSep Finset.univ (go0 m d) := over_tiles (go0 m d)
theorem dn_eq0 : (bigSep Finset.univ fun c : Fin ((K (F := F)).nCore 0) => (P (F := F) m).dn 0 d c) = bigSep Finset.univ (td0 m d) := over_tiles (td0 m d)
theorem st_eq1 : (bigSep Finset.univ fun c : Fin ((K (F := F)).nCore 1) => (P (F := F) m).st 1 d c) = bigSep Finset.univ (go1 m d) := over_tiles (go1 m d)
theorem dn_eq1 : (bigSep Finset.univ fun c : Fin ((K (F := F)).nCore 1) => (P (F := F) m).dn 1 d c) = bigSep Finset.univ (td1 m d) := over_tiles (td1 m d)

/-! ## Arrays cut by tile -/

theorem brow_disj : ∀ t ∈ (Finset.univ : Finset (Fin 32)), ∀ t' ∈ (Finset.univ : Finset (Fin 32)), t ≠ t' → Disjoint (brow t).set (brow t').set := fun t _ t' _ h =>
  Finset.disjoint_left.mpr fun x h1 h2 => h (((mem_brow t x).mp h1).symm.trans ((mem_brow t' x).mp h2))
theorem crow_disj : ∀ t ∈ (Finset.univ : Finset (Fin 32)), ∀ t' ∈ (Finset.univ : Finset (Fin 32)), t ≠ t' → Disjoint (crow t).set (crow t').set := fun t _ t' _ h =>
  Finset.disjoint_left.mpr fun x h1 h2 => h (((mem_crow t x).mp h1).symm.trans ((mem_crow t' x).mp h2))
theorem vcol_disj : ∀ t ∈ (Finset.univ : Finset (Fin 32)), ∀ t' ∈ (Finset.univ : Finset (Fin 32)), t ≠ t' → Disjoint (vcol t).set (vcol t').set := fun t _ t' _ h =>
  Finset.disjoint_left.mpr fun x h1 h2 => h (Fin.ext (((mem_vcol t x).mp h1).symm.trans ((mem_vcol t' x).mp h2)))
theorem brow_cover : (Finset.univ : Finset (Fin 32)).biUnion (fun w => (brow w).set) = (Finset.univ : Finset S32x2x5120.Idx) :=
  Finset.eq_univ_iff_forall.mpr fun x => Finset.mem_biUnion.mpr ⟨x 0, Finset.mem_univ _, (mem_brow _ x).mpr rfl⟩
theorem crow_cover : (Finset.univ : Finset (Fin 32)).biUnion (fun w => (crow w).set) = (Finset.univ : Finset S32x16.Idx) :=
  Finset.eq_univ_iff_forall.mpr fun x => Finset.mem_biUnion.mpr ⟨x 0, Finset.mem_univ _, (mem_crow _ x).mpr rfl⟩
theorem vcol_cover : (Finset.univ : Finset (Fin 32)).biUnion (fun w => (vcol w).set) = (Finset.univ : Finset S10000x512.Idx) :=
  Finset.eq_univ_iff_forall.mpr fun x => by
    have hx : (x 1).val < 512 := (x 1).isLt
    exact Finset.mem_biUnion.mpr ⟨⟨(x 1).val / 16, by omega⟩, Finset.mem_univ _, (mem_vcol _ x).mpr rfl⟩

theorem cut40 (f : Buf (Elt F) (v40Loc d)) : (v40Loc d ↦{fullShare} f : sProp 𝕄) = bigSep Finset.univ fun w : Fin 32 => v40Loc d ↦[(brow w).set]{fullShare} f := by
  rw [← pointsTo_biUnion Finset.univ (ℓ := v40Loc d) (fun w : Fin 32 => (brow w).set) brow_disj, brow_cover]; try rfl
theorem cut41 (f : Buf (Elt F) (v41Loc d)) : (v41Loc d ↦{fullShare} f : sProp 𝕄) = bigSep Finset.univ fun w : Fin 32 => v41Loc d ↦[(brow w).set]{fullShare} f := by
  rw [← pointsTo_biUnion Finset.univ (ℓ := v41Loc d) (fun w : Fin 32 => (brow w).set) brow_disj, brow_cover]; try rfl
theorem cut42 (f : Buf (Elt F) (v42Loc d)) : (v42Loc d ↦{fullShare} f : sProp 𝕄) = bigSep Finset.univ fun w : Fin 32 => v42Loc d ↦[(crow w).set]{fullShare} f := by
  rw [← pointsTo_biUnion Finset.univ (ℓ := v42Loc d) (fun w : Fin 32 => (crow w).set) crow_disj, crow_cover]; try rfl
theorem cut8 (f : Buf (Elt F) (v8Loc d)) : (v8Loc d ↦{fullShare} f : sProp 𝕄) = bigSep Finset.univ fun w : Fin 32 => v8Loc d ↦[(vcol w).set]{fullShare} f := by
  rw [← pointsTo_biUnion Finset.univ (ℓ := v8Loc d) (fun w : Fin 32 => (vcol w).set) vcol_disj, vcol_cover]; try rfl

/-- The tiles' shares of an array all read. -/
theorem shares (ℓ : Loc nD τ sig) (f : Buf (Elt F) ℓ) : (ℓ ↦{fullShare} f : sProp 𝕄) ⊢ bigSep Finset.univ fun w : Fin 32 => ℓ ↦{shT w} f :=
  (Transfers.pointsTo_toks_split fullShare 32).trans sep_elim_right

/-! ## The first call's arrays dealt out and taken back -/

theorem deal0 :
    iprop((v1Loc d ↦{fullShare} (SRC m d : Buf (Elt F) (v1Loc d))) ∗ (v3Loc d ↦{fullShare} (DST m d : Buf (Elt F) (v3Loc d)))
      ∗ (v40Loc d ↦{fullShare} m (v40Loc d)) ∗ (v41Loc d ↦{fullShare} m (v41Loc d)) ∗ (v42Loc d ↦{fullShare} m (v42Loc d)))
      ⊢ (bigSep Finset.univ (go0 m d) : sProp 𝕄) := by
  have e : (bigSep Finset.univ (go0 m d) : sProp 𝕄)
      = iprop((bigSep Finset.univ fun w : Fin 32 => v1Loc d ↦{shT w} (SRC m d : Buf (Elt F) (v1Loc d)))
        ∗ (bigSep Finset.univ fun w : Fin 32 => v3Loc d ↦{shT w} (DST m d : Buf (Elt F) (v3Loc d)))
        ∗ (bigSep Finset.univ fun w : Fin 32 => v40Loc d ↦[(brow w).set]{fullShare} m (v40Loc d))
        ∗ (bigSep Finset.univ fun w : Fin 32 => v41Loc d ↦[(brow w).set]{fullShare} m (v41Loc d))
        ∗ (bigSep Finset.univ fun w : Fin 32 => v42Loc d ↦[(crow w).set]{fullShare} m (v42Loc d))) := by
    rw [← bigSep_sep', ← bigSep_sep', ← bigSep_sep', ← bigSep_sep']
    rfl
  rw [e, cut40, cut41, cut42]
  iintro ⟨H1, H3, H⟩
  isplitl [H1]
  · iapply (shares (F := F) (v1Loc d) (SRC m d : Buf (Elt F) (v1Loc d)))
    iexact H1
  isplitl [H3]
  · iapply (shares (F := F) (v3Loc d) (DST m d : Buf (Elt F) (v3Loc d)))
    iexact H3
  iexact H

theorem BucketOK_congr {src dst : S160000.Idx → BitVec 32} {bs bd bs' bd' : S32x2x5120.Idx → BitVec 32} {cn cn' : S32x16.Idx → BitVec 32} {w : Fin 32}
    (h : BucketOK src dst bs bd cn w) (h1 : ∀ x, x 0 = w → bs' x = bs x) (h2 : ∀ x, x 0 = w → bd' x = bd x) (h3 : ∀ z, z 0 = w → cn' z = cn z) :
    BucketOK src dst bs' bd' cn' w := by
  obtain ⟨a, b, c⟩ := h
  refine ⟨fun z hz hz1 => ?_, fun x hx => ?_, fun y hy => ?_⟩
  · rw [h3 z hz]; exact a z hz hz1
  · rw [h1 x hx, h2 x hx]; exact b x hx
  · obtain ⟨x, hx, hx1, hc, hs, hd⟩ := c y hy
    refine ⟨x, hx, hx1, fun z hz hz1 => ?_, ?_, ?_⟩
    · rw [h3 z hz]; exact hc z hz hz1
    · rw [h1 x hx]; exact hs
    · rw [h2 x hx]; exact hd

/-- Every tile's rows in order, the flattened arrays are. -/
theorem flatOK_of {src dst : S160000.Idx → BitVec 32} {bs bd : S32x2x5120.Idx → BitVec 32} {cn : S32x16.Idx → BitVec 32}
    (h : ∀ w, BucketOK src dst bs bd cn w) :
    FlatOK src dst (shapeCast S327680 bs shapeCasts_S32x2x5120_S327680) (shapeCast S327680 bd shapeCasts_S32x2x5120_S327680) cn := by
  refine ⟨fun z hz => (h (z 0)).1 z rfl hz, fun x => (h _).2.1 (Shape.reshapeEquiv shapeCasts_S32x2x5120_S327680 x) rfl, fun y => ?_⟩
  have hy : (y 0).val < 160000 := (y 0).isLt
  obtain ⟨x, hx, hx1, hc, hs, hd⟩ := (h ⟨(y 0).val / 5000, by omega⟩).2.2 y rfl
  have hh : half (dst y) < 16 := by unfold half; split <;> omega
  refine ⟨ix2 ⟨(y 0).val / 5000, by omega⟩ ⟨half (dst y), hh⟩, (x 2).val, rfl, hc _ rfl rfl, fun x' hx' => ?_⟩
  have he : Shape.reshapeEquiv shapeCasts_S32x2x5120_S327680 x' = x := by
    refine Shape.reshapeEquiv_eq_of_rowMajor _ ?_
    rw [Shape.rowMajor_val_three, Shape.rowMajor_val_one, hx']
    have hx0 : (x 0).val = (y 0).val / 5000 := congrArg Fin.val hx
    show ((x 0).val * 2 + (x 1).val) * 5120 + (x 2).val = (2 * ((y 0).val / 5000) + half (dst y)) * 5120 + (x 2).val
    rw [hx0, hx1]
    omega
  exact ⟨(congrArg bs he).trans hs, (congrArg bd he).trans hd⟩

set_option maxRecDepth 4096 in
theorem back0 :
    (bigSep Finset.univ (td0 m d) : sProp 𝕄)
      ⊢ iprop(∃ (bs bd : S32x2x5120.Idx → BitVec 32) (cn : S32x16.Idx → BitVec 32), ⌜∀ w, BucketOK (SRC m d) (DST m d) bs bd cn w⌝
        ∗ (v40Loc d ↦{fullShare} (bs : Buf (Elt F) (v40Loc d))) ∗ (v41Loc d ↦{fullShare} (bd : Buf (Elt F) (v41Loc d))) ∗ v42Loc d ↦{fullShare} (cn : Buf (Elt F) (v42Loc d))) := by
  have hm : ∀ w : Fin 32, td0 m d w ⊢ (iprop(∃ y : (S32x2x5120.Idx → BitVec 32) × (S32x2x5120.Idx → BitVec 32) × (S32x16.Idx → BitVec 32),
    ⌜BucketOK (SRC m d) (DST m d) y.1 y.2.1 y.2.2 w⌝ ∗ (v40Loc d ↦[(brow w).set]{fullShare} (y.1 : Buf (Elt F) (v40Loc d)))
      ∗ (v41Loc d ↦[(brow w).set]{fullShare} (y.2.1 : Buf (Elt F) (v41Loc d))) ∗ (v42Loc d ↦[(crow w).set]{fullShare} (y.2.2 : Buf (Elt F) (v42Loc d)))) : sProp 𝕄) := fun w => by
    unfold td0 post0
    iintro ⟨%bs, %bd, %cn, %h, H⟩
    iexists (bs, bd, cn)
    isplitr
    · ipureintro; exact h
    · iexact H
  refine (bigSep_mono fun w _ => hm w).trans ((bigSep_exists_pi Finset.univ _).trans ?_)
  iintro ⟨%ys, H⟩
  ihave H := (bigSep_pure_sep Finset.univ _ _) $$ H
  icases H with ⟨%hys, H⟩
  ihave H := (Entails.of_eq (bigSep_sep' _ _ _)) $$ H
  icases H with ⟨H0, H⟩
  ihave H := (Entails.of_eq (bigSep_sep' _ _ _)) $$ H
  icases H with ⟨H1, H2⟩
  ihave H0 := (pointsTo_biUnion_join (ℓ := v40Loc d) (q := fullShare) (Val := Elt F) Finset.univ (fun w : Fin 32 => (brow w).set) (fun w => ((ys w).1 : Buf (Elt F) (v40Loc d))) (ys 0).1 brow_disj) $$ H0
  ihave H1 := (pointsTo_biUnion_join (ℓ := v41Loc d) (q := fullShare) (Val := Elt F) Finset.univ (fun w : Fin 32 => (brow w).set) (fun w => ((ys w).2.1 : Buf (Elt F) (v41Loc d))) (ys 0).2.1 brow_disj) $$ H1
  ihave H2 := (pointsTo_biUnion_join (ℓ := v42Loc d) (q := fullShare) (Val := Elt F) Finset.univ (fun w : Fin 32 => (crow w).set) (fun w => ((ys w).2.2 : Buf (Elt F) (v42Loc d))) (ys 0).2.2 crow_disj) $$ H2
  icases H0 with ⟨%g0, %hg0, H0⟩
  icases H1 with ⟨%g1, %hg1, H1⟩
  icases H2 with ⟨%g2, %hg2, H2⟩
  rw [brow_cover, crow_cover]
  iexists g0, g1, g2
  isplitr
  · ipureintro
    exact fun w => BucketOK_congr (hys w (Finset.mem_univ w)) (fun x hx => hg0 w (Finset.mem_univ w) x ((mem_brow w x).mpr hx))
      (fun x hx => hg1 w (Finset.mem_univ w) x ((mem_brow w x).mpr hx)) (fun z hz => hg2 w (Finset.mem_univ w) z ((mem_crow w z).mpr hz))
  isplitl [H0]; · iexact H0
  isplitl [H1]; · iexact H1
  iexact H2

/-! ## The second call's -/

theorem deal1 {fS fD : S327680.Idx → BitVec 32} {cn : S32x16.Idx → BitVec 32} (hFl : FlatOK (SRC m d) (DST m d) fS fD cn) :
    iprop((v5Loc d ↦{fullShare} (TAB m d : Buf (Elt F) (v5Loc d))) ∗ (v6Loc d ↦{fullShare} (fS : Buf (Elt F) (v6Loc d))) ∗ (v7Loc d ↦{fullShare} (fD : Buf (Elt F) (v7Loc d)))
      ∗ (v42Loc d ↦{fullShare} (cn : Buf (Elt F) (v42Loc d))) ∗ (v8Loc d ↦{fullShare} m (v8Loc d)))
      ⊢ (bigSep Finset.univ (go1 m d) : sProp 𝕄) := by
  have hm : ∀ w : Fin 32, pre1 (F := F) d (shT w) (TAB m d) fS fD cn (m (v8Loc d)) w ⊢ (go1 m d w : sProp 𝕄) := fun w => by
    unfold go1
    iintro H
    iexists fS, fD, cn
    isplitr
    · ipureintro; exact hFl
    · iexact H
  refine BIBase.Entails.trans ?_ (bigSep_mono fun w _ => hm w)
  · have e : (bigSep Finset.univ (fun w : Fin 32 => pre1 (F := F) d (shT w) (TAB m d) fS fD cn (m (v8Loc d)) w) : sProp 𝕄)
        = iprop((bigSep Finset.univ fun w : Fin 32 => v5Loc d ↦{shT w} (TAB m d : Buf (Elt F) (v5Loc d)))
          ∗ (bigSep Finset.univ fun w : Fin 32 => v6Loc d ↦{shT w} (fS : Buf (Elt F) (v6Loc d)))
          ∗ (bigSep Finset.univ fun w : Fin 32 => v7Loc d ↦{shT w} (fD : Buf (Elt F) (v7Loc d)))
          ∗ (bigSep Finset.univ fun w : Fin 32 => v42Loc d ↦{shT w} (cn : Buf (Elt F) (v42Loc d)))
          ∗ (bigSep Finset.univ fun w : Fin 32 => v8Loc d ↦[(vcol w).set]{fullShare} m (v8Loc d))) := by
      rw [← bigSep_sep', ← bigSep_sep', ← bigSep_sep', ← bigSep_sep']
    rw [e, cut8]
    iintro ⟨H5, H6, H7, H42, H⟩
    isplitl [H5]
    · iapply (shares (F := F) (v5Loc d) (TAB m d : Buf (Elt F) (v5Loc d)))
      iexact H5
    isplitl [H6]
    · iapply (shares (F := F) (v6Loc d) (fS : Buf (Elt F) (v6Loc d)))
      iexact H6
    isplitl [H7]
    · iapply (shares (F := F) (v7Loc d) (fD : Buf (Elt F) (v7Loc d)))
      iexact H7
    isplitl [H42]
    · iapply (shares (F := F) (v42Loc d) (cn : Buf (Elt F) (v42Loc d)))
      iexact H42
    iexact H

set_option maxRecDepth 4096 in
theorem back1 :
    (bigSep Finset.univ (td1 m d) : sProp 𝕄)
      ⊢ iprop(∃ f : S10000x512.Idx → F .f32, ⌜∀ x, ColAt (SRC m d) (DST m d) (TAB m d) f x⌝ ∗ v8Loc d ↦{fullShare} (f : Buf (Elt F) (v8Loc d))) := by
  have hN : Nonempty (S10000x512.Idx → F .f32) := ⟨m (v8Loc d)⟩
  unfold td1 post1
  refine (bigSep_exists_pi Finset.univ _).trans ?_
  iintro ⟨%ys, H⟩
  ihave H := (bigSep_pure_sep Finset.univ _ _) $$ H
  icases H with ⟨%hys, H⟩
  ihave H := (pointsTo_biUnion_join (ℓ := v8Loc d) (q := fullShare) (Val := Elt F) Finset.univ (fun w : Fin 32 => (vcol w).set) (fun w => (ys w : Buf (Elt F) (v8Loc d))) (ys 0) vcol_disj) $$ H
  icases H with ⟨%g, %hg, H⟩
  rw [vcol_cover]
  iexists g
  isplitr
  · ipureintro
    intro x
    have hx : (x 1).val < 512 := (x 1).isLt
    have h := hys ⟨(x 1).val / 16, by omega⟩ (Finset.mem_univ _) x rfl
    have hgx : g x = ys ⟨(x 1).val / 16, by omega⟩ x := hg _ (Finset.mem_univ _) x ((mem_vcol _ x).mpr rfl)
    unfold ColAt at h ⊢
    rw [hgx]
    exact h
  · iexact H

end Cert.Proof

end
-- ==== Proof.Main.lean ====
/-
  The TensorCore's program: the edges split, the two calls, the result; and the whole run.
-/
module

public import proofs.«01_k».proof.Proof.Deal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

open Idealize.ShloMosaic.Rounds
open Idealize.ShloMosaic.StableHlo (held wp_hlo_within)

variable (m : (ℓ : Loc nD τ sig) → Buf (Elt F) ℓ) (ρ : Dev nD → PrngReg) (d : Dev nD)

/-! ## One host operation over two arrays -/

include m in
theorem wp_hlo2 {hp : (SparseCore.T d : Thread nD τ).2.kind.runsHlo = true} {op : HloOp τ sig (Elt F)} (x y : Ref sig .tc)
    (fx : Buf (Elt F) ((SparseCore.T d : Thread nD τ).loc x)) (fy g : Buf (Elt F) ((SparseCore.T d : Thread nD τ).loc y))
    (hb : op.bufs = {(Proc.devRef .tc x : DevRef τ sig), (Proc.devRef .tc y : DevRef τ sig)}) (hne : (Proc.devRef .tc x : DevRef τ sig) ≠ Proc.devRef .tc y) (hf : op.fresh = ∅)
    (hx : ∀ V, op.result V (Proc.devRef .tc x) = V (Proc.devRef .tc x)) (hy : ∀ V, V (Proc.devRef .tc x) = fx → op.result V (Proc.devRef .tc y) = g)
    {Q : PUnit → sProp 𝕄} :
    iprop(boundary (SparseCore.T d) ∗ ((SparseCore.T d : Thread nD τ).loc x ↦{fullShare} fx) ∗ ((SparseCore.T d : Thread nD τ).loc y ↦{fullShare} fy))
      ⊢ iprop(((boundary (SparseCore.T d) ∗ ((SparseCore.T d : Thread nD τ).loc x ↦{fullShare} fx) ∗ ((SparseCore.T d : Thread nD τ).loc y ↦{fullShare} g)) -∗ Q ⟨⟩)
        -∗ wp frame (wpE ((K (F := F)).defs (D (F := F))) 𝒱 (SparseCore.T d) none) Set.univ (hlo hp op fun _ => .ret ⟨⟩) Q) := by
  let V : Valuation τ sig (Elt F) := Function.update (Function.update (fun b => m (d, b)) (Proc.devRef .tc x) fx) (Proc.devRef .tc y) fy
  have hVx : V (Proc.devRef .tc x) = fx := (Function.update_of_ne hne _ _).trans (Function.update_self _ _ _)
  have hVy : V (Proc.devRef .tc y) = fy := Function.update_self _ _ _
  have e : ∀ W : Valuation τ sig (Elt F), (held (SparseCore.T d : Thread nD τ) op.bufs W : sProp 𝕄)
      = iprop(((SparseCore.T d : Thread nD τ).loc x ↦{fullShare} W (Proc.devRef .tc x)) ∗ ((SparseCore.T d : Thread nD τ).loc y ↦{fullShare} W (Proc.devRef .tc y))) := fun W => by
    unfold StableHlo.held
    rw [hb, SparseCore.bigSep_insert' (by rw [Finset.mem_singleton]; exact hne), bigSep_singleton]
  have h := wp_hlo_within (defs := (K (F := F)).defs (D (F := F))) (hp := hp) 𝒱 (SparseCore.T d) none Set.univ (op := op) (k := fun _ => .ret ⟨⟩) (S := op.bufs) (Finset.Subset.refl _) (V := V) (Q := Q) hf
  rw [e, e, hx, hVx, hVy, hy V hVx] at h
  refine h.trans ?_
  iintro H Hk
  iapply H
  iintro HH
  iapply le_wp_ret
  iapply Hk
  iexact HH

/-! ## The TensorCore's arrays -/

theorem unscopedBufs_eq (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ ((SparseCore.T d).loc main_v0 ↦{fullShare} W main_v0) ∗ (v1Loc d ↦{fullShare} W main_v1)
        ∗ ((SparseCore.T d).loc main_v2 ↦{fullShare} W main_v2) ∗ (v3Loc d ↦{fullShare} W main_v3) ∗ (v40Loc d ↦{fullShare} W main_v4_0) ∗ (v41Loc d ↦{fullShare} W main_v4_1)
        ∗ (v42Loc d ↦{fullShare} W main_v4_2) ∗ (v5Loc d ↦{fullShare} W main_v5) ∗ (v6Loc d ↦{fullShare} W main_v6) ∗ (v7Loc d ↦{fullShare} W main_v7) ∗ (v8Loc d ↦{fullShare} W main_v8)) := by
  unfold unscopedBufs
  rw [show (Finset.univ.filter fun b : Ref sig .tc => ¬ b.isScoped) = {main_arg0, main_arg1, main_v0, main_v1, main_v2, main_v3, main_v4_0, main_v4_1, main_v4_2, main_v5, main_v6, main_v7, main_v8} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- What the TensorCore is left with: its arguments as they were, and the result every entry of which is its row's greatest. -/
def FIN : sProp 𝕄 :=
  iprop((a0Loc d ↦{fullShare} m (a0Loc d)) ∗ (a1Loc d ↦{fullShare} m (a1Loc d))
    ∗ ∃ f : S10000x512.Idx → F .f32, ⌜∀ x, ColAt (SRC m d) (DST m d) (TAB m d) f x⌝ ∗ v8Loc d ↦{fullShare} (f : Buf (Elt F) (v8Loc d)))

set_option maxHeartbeats 1000000 in
theorem hmain (κ : GSem nD τ sig → ℕ) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨A0, A1, B0, B1, B2, B3, B40, B41, B42, B5, B6, B7, B8⟩, Hts, -⟩, -⟩
  iapply (wp_hlo2 (F := F) m d main_arg1 main_v0 (m (a1Loc d)) _ (SRC2 m d) rfl (by decide) rfl (fun V => StableHlo.unary_result_ne _ _ _ _ _ V (by decide)) (fun V hV => (StableHlo.unary_result _ _ _ _ _ V).trans (by rw [hV]; rfl))) $$ [Hb A1 B0]
  · isplitl [Hb]; · iexact Hb
    isplitl [A1]; · iexact A1
    iexact B0
  iintro ⟨Hb, A1, B0⟩
  iapply (wp_hlo2 (F := F) m d main_v0 main_v1 (SRC2 m d) _ (SRC m d) rfl (by decide) rfl (fun V => StableHlo.reshape_result_ne _ _ _ _ _ _ V (by decide)) (fun V hV => (StableHlo.reshape_result _ _ _ _ _ _ V).trans (by rw [hV]; rfl))) $$ [Hb B0 B1]
  · isplitl [Hb]; · iexact Hb
    isplitl [B0]; · iexact B0
    iexact B1
  iintro ⟨Hb, -, B1⟩
  iapply (wp_hlo2 (F := F) m d main_arg1 main_v2 (m (a1Loc d)) _ (DST2 m d) rfl (by decide) rfl (fun V => StableHlo.unary_result_ne _ _ _ _ _ V (by decide)) (fun V hV => (StableHlo.unary_result _ _ _ _ _ V).trans (by rw [hV]; rfl))) $$ [Hb A1 B2]
  · isplitl [Hb]; · iexact Hb
    isplitl [A1]; · iexact A1
    iexact B2
  iintro ⟨Hb, A1, B2⟩
  iapply (wp_hlo2 (F := F) m d main_v2 main_v3 (DST2 m d) _ (DST m d) rfl (by decide) rfl (fun V => StableHlo.reshape_result_ne _ _ _ _ _ _ V (by decide)) (fun V hV => (StableHlo.reshape_result _ _ _ _ _ _ V).trans (by rw [hV]; rfl))) $$ [Hb B2 B3]
  · isplitl [Hb]; · iexact Hb
    isplitl [B2]; · iexact B2
    iexact B3
  iintro ⟨Hb, -, B3⟩
  -- the first call
  iapply ((K (F := F)).wp_run (D (F := F)) 𝒱 (EH := EH) (P := P m) κ d 0) $$ [Hst Hb Hts A0 A1 B1 B3 B40 B41 B42 B5 B6 B7 B8]
  isplitr; · iexact Hctx
  isplitl [Hst]; · iexact Hst
  isplitl [B1 B3 B40 B41 B42]
  · rw [st_eq0]
    iapply (deal0 (F := F) m d)
    isplitl [B1]; · iexact B1
    isplitl [B3]; · iexact B3
    isplitl [B40]; · iexact B40
    isplitl [B41]; · iexact B41
    iexact B42
  iintro ⟨Hst, Hdn⟩
  ihave Hdn := (Entails.of_eq (dn_eq0 (F := F) m d)) $$ Hdn
  ihave Hdn := (back0 (F := F) m d) $$ Hdn
  icases Hdn with ⟨%bs, %bd, %cn, %hB, B40, B41, B42⟩
  iapply (wp_hlo2 (F := F) m d main_arg0 main_v5 (m (a0Loc d)) _ (TAB m d) rfl (by decide) rfl (fun V => StableHlo.reshape_result_ne _ _ _ _ _ _ V (by decide)) (fun V hV => (StableHlo.reshape_result _ _ _ _ _ _ V).trans (by rw [hV]; rfl))) $$ [Hb A0 B5]
  · isplitl [Hb]; · iexact Hb
    isplitl [A0]; · iexact A0
    iexact B5
  iintro ⟨Hb, A0, B5⟩
  iapply (wp_hlo2 (F := F) m d main_v4_0 main_v6 (bs : Buf (Elt F) (v40Loc d)) _ (shapeCast S327680 bs shapeCasts_S32x2x5120_S327680 : Buf (Elt F) (v6Loc d)) rfl (by decide) rfl (fun V => StableHlo.reshape_result_ne _ _ _ _ _ _ V (by decide)) (fun V hV => (StableHlo.reshape_result _ _ _ _ _ _ V).trans (by rw [hV]; rfl))) $$ [Hb B40 B6]
  · isplitl [Hb]; · iexact Hb
    isplitl [B40]; · iexact B40
    iexact B6
  iintro ⟨Hb, -, B6⟩
  iapply (wp_hlo2 (F := F) m d main_v4_1 main_v7 (bd : Buf (Elt F) (v41Loc d)) _ (shapeCast S327680 bd shapeCasts_S32x2x5120_S327680 : Buf (Elt F) (v7Loc d)) rfl (by decide) rfl (fun V => StableHlo.reshape_result_ne _ _ _ _ _ _ V (by decide)) (fun V hV => (StableHlo.reshape_result _ _ _ _ _ _ V).trans (by rw [hV]; rfl))) $$ [Hb B41 B7]
  · isplitl [Hb]; · iexact Hb
    isplitl [B41]; · iexact B41
    iexact B7
  iintro ⟨Hb, -, B7⟩
  -- the second
  iapply ((K (F := F)).wp_run (D (F := F)) 𝒱 (EH := EH) (P := P m) κ d 1) $$ [Hst Hb Hts A0 A1 B42 B5 B6 B7 B8]
  isplitr; · iexact Hctx
  isplitl [Hst]; · iexact Hst
  isplitl [B42 B5 B6 B7 B8]
  · rw [st_eq1]
    iapply (deal1 (F := F) m d (flatOK_of hB))
    isplitl [B5]; · iexact B5
    isplitl [B6]; · iexact B6
    isplitl [B7]; · iexact B7
    isplitl [B42]; · iexact B42
    iexact B8
  iintro ⟨Hst, Hdn⟩
  ihave Hdn := (Entails.of_eq (dn_eq1 (F := F) m d)) $$ Hdn
  ihave Hdn := (back1 (F := F) m d) $$ Hdn
  imodintro
  unfold FIN
  isplitl [Hst]; · iexact Hst
  isplitl [A0 A1 Hdn]
  · isplitl [A0]; · iexact A0
    isplitl [A1]; · iexact A1
    iexact Hdn
  isplitl [Hb] <;> iassumption

/-! ## The whole run -/

def u₀ : UU := (initOf (K (F := F)).hsCells (K (F := F)).hsToks, 1)

theorem hu₀ :
    (ownU (u₀ (F := F)) : sProp 𝕄) ⊢ |={Set.univ}=> iprop(BI.own ((EH : Emb UH 𝕄) (initOf (K (F := F)).hsCells (K (F := F)).hsToks))
        ∗ (bigSep Finset.univ fun _ : Dev nD => (iprop(emp) : sProp 𝕄))
        ∗ bigSep Finset.univ fun thr : Thread nD τ => bigSep Finset.univ fun q : Fin 2 => (P (F := F) m).x q thr) := by
  have ex : (bigSep Finset.univ fun thr : Thread nD τ => bigSep Finset.univ fun q : Fin 2 => (P (F := F) m).x q thr) = (iprop(emp) : sProp 𝕄) := by
    rw [show (fun thr : Thread nD τ => bigSep Finset.univ fun q : Fin 2 => (P (F := F) m).x q thr) = fun _ => (iprop(emp) : sProp 𝕄) from
      funext fun thr => bigSep_emp_const _]
    exact bigSep_emp_const _
  have e2 : (bigSep Finset.univ fun _ : Dev nD => (iprop(emp) : sProp 𝕄)) = iprop(emp) := bigSep_emp_const _
  rw [ex, e2]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

def fq (s' : Phys nD τ sig (Elt F)) : Prop :=
  s'.mem.mem (a0Loc d) = m (a0Loc d) ∧ s'.mem.mem (a1Loc d) = m (a1Loc d)
    ∧ ∀ x, ColAt (SRC m d) (DST m d) (TAB m d) (s'.mem.mem (v8Loc d) : S10000x512.Idx → F .f32) x

theorem hfin (s' : Phys nD τ sig (Elt F)) : iprop(FIN m d ∗ SI s') ⊢ (⌜fq m d s'⌝ : sProp 𝕄) := by
  unfold FIN
  iintro ⟨⟨A0, A1, %f, %hf, H8⟩, HSI⟩
  ihave H := (persistent_entails_right (SI_pointsTo_agree (st := s') (ℓ := a0Loc d) (I := Finset.univ) (q := fullShare) (f := m (a0Loc d)))) $$ [HSI A0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI A1]
  · isplitl [HSI] <;> iassumption
  icases H with ⟨%h1, HSI, -⟩
  ihave H := (SI_pointsTo_agree (st := s') (ℓ := v8Loc d) (I := Finset.univ) (q := fullShare) (f := (f : Buf (Elt F) (v8Loc d)))) $$ [HSI H8]
  · isplitl [HSI] <;> iassumption
  icases H with %h2
  ipureintro
  refine ⟨funext fun i => h0 i (Finset.mem_univ i), funext fun i => h1 i (Finset.mem_univ i), ?_⟩
  rw [show s'.mem.mem (v8Loc d) = (f : Buf (Elt F) (v8Loc d)) from funext fun i => h2 i (Finset.mem_univ i)]
  exact hf

def QC : PUnit × MemSt nD τ sig (Elt F) → Prop := fun r =>
  (∀ c : Dev nD, r.2.mem (a0Loc c) = m (a0Loc c) ∧ r.2.mem (a1Loc c) = m (a1Loc c)
    ∧ ∀ x, ColAt (SRC m c) (DST m c) (TAB m c) (r.2.mem (v8Loc c) : S10000x512.Idx → F .f32) x) ∧ r.2.sem = fun _ => 0

/-- Both calls run to the end, the arguments as they were, the result at its value. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hpre | 1 => tileObl1 m hpre)
    (fun q _ => SparseCore.Cfg.VecSplit.of_plain (vecSplit m q))
    m ρ main (fun _ => iprop(emp)) (FIN m) (u₀ (F := F)) (sep_elim_left.trans (hu₀ m)) (fun κ d => hmain m ρ d κ) (fq m) (hfin m) (QC m) (fun _ h hz => ⟨h, hz⟩)

end Cert.Proof

end
-- ==== Proof.RefVal.lean ====
/-
  What the reference computes, entry by entry: the greatest of the rows gathered for the edges into a node.
-/
module

public import proofs.«01_k».proof.Proof.Gen.ReferenceIdeal.Run
public import Idealize.ShloMosaic.Lib.Routing.Ops
public import Idealize.ShloMosaic.Lib.ReduceAll
public import Idealize.ShloMosaic.PureOps.Ideal

@[expose] public section

noncomputable section

namespace Cert.Proof

open Cert.ReferenceIdeal Cert.ReferenceIdeal.Gen
open Idealize.ShloMosaic Idealize.ShloMosaic.ValueIdx

/-! ## The reference's array, in steps -/

section
variable {F : FTy → Type} [FloatOps F]
variable (A : S10000x512.Idx → F .f32) (S D : S160000.Idx → BitVec 32)

/-- The row each edge reads, a negative one counted from the end. -/
def rIdx : S160000x1.Idx → BitVec 32 := (broadcastInDim S160000x1 ![0] bcast_S160000_S160000x1_0 (select (cmpi .slt S (broadcastInDim S160000 ![] bcast_S_S160000 (constantI S_ 32 0#32))) (addi S (broadcastInDim S160000 ![] bcast_S_S160000 (constantI S_ 32 10000#32))) S))

/-- Whether each edge's row is there. -/
def rOk : S160000.Idx → BitVec 1 := (Host.reduce IntOp.andi (andi (cmpi .sge (rIdx S) (broadcastInDim S160000x1 ![] bcast_S_S160000x1 (constantI S_ 32 0#32))) (cmpi .sle (rIdx S) (broadcastInDim S160000x1 ![0, 1] bcast_S1x1_S160000x1_0_1 (broadcastInDim S1x1 ![1] bcast_S1_S1x1_1 (constantI S1 32 9999#32))))) (constantI S_ 1 1#1) reducesTo_S160000x1_S160000_d1 h_S_)

/-- The rows the edges read. -/
def rRows : S160000x512.Idx → F .f32 := (select (broadcastInDim S160000x512 ![0] bcast_S160000_S160000x512_0 (rOk S)) (Host.gather gather_S10000x512_S160000x1_S160000x512_1_0_n_n_0_1_1512 A (rIdx S)) (broadcastInDim S160000x512 ![] bcast_S_S160000x512 (constant S_ .f32 0x7FC00000#32)))

/-- Each edge's row where the edge goes into the node, and minus infinity elsewhere. -/
def rOne : S10000x160000x512.Idx → F .f32 := (select (broadcastInDim S10000x160000x512 ![0, 1, 2] bcast_S10000x160000x1_S10000x160000x512_0_1_2 (broadcastInDim S10000x160000x1 ![0, 1] bcast_S10000x160000_S10000x160000x1_0_1 (cmpi .eq (broadcastInDim S10000x160000 ![0, 1] bcast_S1x160000_S10000x160000_0_1 (broadcastInDim S1x160000 ![1] bcast_S160000_S1x160000_1 D)) (iotaInDim S10000x160000 32 0)))) (broadcastInDim S10000x160000x512 ![0, 1, 2] bcast_S1x160000x512_S10000x160000x512_0_1_2 (broadcastInDim S1x160000x512 ![1, 2] bcast_S160000x512_S1x160000x512_1_2 (rRows A S))) (broadcastInDim S10000x160000x512 ![] bcast_S_S10000x160000x512 (id (constant S_ .f32 0xFF800000#32))))

/-- The reference's array. -/
def rAll : S10000x512.Idx → F .f32 := Host.reduce FloatOps.maximumf (rOne A S D) (constant S_ .f32 0xFF800000#32) reducesTo_S10000x160000x512_S10000x512_d1 h_S_

end

section
variable {F : FTy → Type} [FloatOps F]
variable (A : S10000x512.Idx → F .f32) (S D : S160000.Idx → BitVec 32)

theorem slt_zero {v : BitVec 32} (h : v.toNat < 10000) : IntOp.cmpi .slt v 0#32 = 0#1 := by
  have : ¬ (v.toInt < (0#32 : BitVec 32).toInt) := by
    simp only [BitVec.toInt_eq_toNat_cond, BitVec.toNat_ofNat, Nat.reducePow, Nat.reduceMod]; omega
  simp only [IntOp.cmpi, BitVec.slt_eq_decide, decide_eq_false this]; rfl

theorem rIdx_at (hS : ∀ y, (S y).toNat < 10000) (y : Fin 160000) : rIdx S (ix2 (n0 := 160000) (n1 := 1) y 0) = S (ix1 y) := by
  have h1 : rIdx S (ix2 (n0 := 160000) (n1 := 1) y 0) = (if IntOp.cmpi .slt (S (ix1 y)) 0#32 = 1#1 then IntOp.addi (S (ix1 y)) 10000#32 else S (ix1 y)) := by
    unfold rIdx
    rw [broadcastInDim_apply _ _ _ _ (ix1 y) (fun a => by
      match a with
      | ⟨0, _⟩ => exact (if_neg (show ¬ (160000 = 1) by decide)).symm)]
    rfl
  rw [h1, slt_zero (hS _), if_neg (by decide)]

theorem rOk_at (hS : ∀ y, (S y).toNat < 10000) (y : S160000.Idx) : rOk S y = 1#1 := by
  unfold rOk
  refine Host.reduce_andi_one _ _ _ _ _ rfl fun i => ?_
  have hi : i = ix2 (n0 := 160000) (n1 := 1) (i 0) 0 := by
    rw [eq_ix2 (n0 := 160000) (n1 := 1) i]
    exact congrArg (ix2 (n0 := 160000) (n1 := 1) _) (Subsingleton.elim (α := Fin 1) _ _)
  have hv : rIdx S i = S (ix1 (i 0)) := by rw [hi]; exact rIdx_at S hS _
  have hb := hS (ix1 (i 0))
  show IntOp.andi (IntOp.cmpi .sge (rIdx S i) 0#32) (IntOp.cmpi .sle (rIdx S i) 9999#32) = 1#1
  rw [hv]
  generalize S (ix1 (i 0)) = v at hb
  have h0 : (0#32 : BitVec 32).toInt ≤ v.toInt := by
    simp only [BitVec.toInt_eq_toNat_cond, BitVec.toNat_ofNat, Nat.reducePow, Nat.reduceMod]; omega
  have h1 : v.toInt ≤ (9999#32 : BitVec 32).toInt := by
    simp only [BitVec.toInt_eq_toNat_cond, BitVec.toNat_ofNat, Nat.reducePow, Nat.reduceMod]; omega
  simp only [IntOp.cmpi, BitVec.sle_eq_decide, decide_eq_true h0, decide_eq_true h1]
  rfl

theorem rRows_at (hS : ∀ y, (S y).toNat < 10000) (y : Fin 160000) (l : Fin 512) :
    rRows A S (ix2 (n0 := 160000) (n1 := 512) y l) = A (ix2 (n0 := 10000) (n1 := 512) ⟨(S (ix1 y)).toNat, hS _⟩ l) := by
  have h1 : rRows A S (ix2 (n0 := 160000) (n1 := 512) y l)
      = if rOk S (ix1 y) = 1#1 then Host.gather gather_S10000x512_S160000x1_S160000x512_1_0_n_n_0_1_1512 A (rIdx S) (ix2 (n0 := 160000) (n1 := 512) y l) else Scalar.ofBits .f32 0x7FC00000#32 := by
    have hb : broadcastInDim S160000x512 ![0] bcast_S160000_S160000x512_0 (rOk S) (ix2 (n0 := 160000) (n1 := 512) y l) = rOk S (ix1 y) :=
      broadcastInDim_apply _ _ _ _ _ fun a => by
        match a with
        | ⟨0, _⟩ => exact (if_neg (show ¬ (160000 = 1) by decide)).symm
    unfold rRows
    rw [select_apply, hb]
    rfl
  rw [h1, if_pos (rOk_at S hS _)]
  exact Routing.gather_row gather_S10000x512_S160000x1_S160000x512_1_0_n_n_0_1_1512 rfl rfl rfl rfl rfl A (rIdx S) y l ⟨(S (ix1 y)).toNat, hS _⟩
    (by rw [rIdx_at S hS]; exact (BitVec.setWidth_eq _).symm.trans (BitVec.ofNat_toNat _ _).symm) (by decide)

theorem rOne_at (hS : ∀ y, (S y).toNat < 10000) (n : Fin 10000) (y : Fin 160000) (l : Fin 512) :
    rOne A S D (ix3 (n0 := 10000) (n1 := 160000) (n2 := 512) n y l)
      = if (D (ix1 y)).toNat = n.val then A (ix2 (n0 := 10000) (n1 := 512) ⟨(S (ix1 y)).toNat, hS _⟩ l) else Scalar.ofBits .f32 0xFF800000#32 := by
  have h1 : rOne A S D (ix3 (n0 := 10000) (n1 := 160000) (n2 := 512) n y l)
      = if IntOp.cmpi .eq (D (ix1 y)) (BitVec.ofNat 32 n.val) = 1#1 then rRows A S (ix2 (n0 := 160000) (n1 := 512) y l) else Scalar.ofBits .f32 0xFF800000#32 := by
    have b1 : broadcastInDim S10000x160000x512 ![0, 1, 2] bcast_S10000x160000x1_S10000x160000x512_0_1_2 (broadcastInDim S10000x160000x1 ![0, 1] bcast_S10000x160000_S10000x160000x1_0_1 (cmpi .eq (broadcastInDim S10000x160000 ![0, 1] bcast_S1x160000_S10000x160000_0_1 (broadcastInDim S1x160000 ![1] bcast_S160000_S1x160000_1 D)) (iotaInDim S10000x160000 32 0))) (ix3 (n0 := 10000) (n1 := 160000) (n2 := 512) n y l)
        = IntOp.cmpi .eq (D (ix1 y)) (BitVec.ofNat 32 n.val) := by
      rw [broadcastInDim_apply _ _ _ _ (ix3 (n0 := 10000) (n1 := 160000) (n2 := 1) n y 0) (fun a => by
          match a with
          | ⟨0, _⟩ => exact (if_neg (show ¬ (10000 = 1) by decide)).symm
          | ⟨1, _⟩ => exact (if_neg (show ¬ (160000 = 1) by decide)).symm
          | ⟨2, _⟩ => exact (if_pos (show 1 = 1 from rfl)).symm),
        broadcastInDim_apply _ _ _ _ (ix2 (n0 := 10000) (n1 := 160000) n y) (fun a => by
          match a with
          | ⟨0, _⟩ => exact (if_neg (show ¬ (10000 = 1) by decide)).symm
          | ⟨1, _⟩ => exact (if_neg (show ¬ (160000 = 1) by decide)).symm)]
      have b2 : broadcastInDim S10000x160000 ![0, 1] bcast_S1x160000_S10000x160000_0_1 (broadcastInDim S1x160000 ![1] bcast_S160000_S1x160000_1 D) (ix2 (n0 := 10000) (n1 := 160000) n y) = D (ix1 y) := by
        rw [broadcastInDim_apply _ _ _ _ (ix2 (n0 := 1) (n1 := 160000) 0 y) (fun a => by
            match a with
            | ⟨0, _⟩ => exact (if_pos (show 1 = 1 from rfl)).symm
            | ⟨1, _⟩ => exact (if_neg (show ¬ (160000 = 1) by decide)).symm)]
        exact broadcastInDim_apply _ _ _ _ _ fun a => by
          match a with
          | ⟨0, _⟩ => exact (if_neg (show ¬ (160000 = 1) by decide)).symm
      exact congrArg (fun v => IntOp.cmpi .eq v (BitVec.ofNat 32 n.val)) b2
    have b3 : broadcastInDim S10000x160000x512 ![0, 1, 2] bcast_S1x160000x512_S10000x160000x512_0_1_2 (broadcastInDim S1x160000x512 ![1, 2] bcast_S160000x512_S1x160000x512_1_2 (rRows A S)) (ix3 (n0 := 10000) (n1 := 160000) (n2 := 512) n y l)
        = rRows A S (ix2 (n0 := 160000) (n1 := 512) y l) := by
      rw [broadcastInDim_apply _ _ _ _ (ix3 (n0 := 1) (n1 := 160000) (n2 := 512) 0 y l) (fun a => by
          match a with
          | ⟨0, _⟩ => exact (if_pos (show 1 = 1 from rfl)).symm
          | ⟨1, _⟩ => exact (if_neg (show ¬ (160000 = 1) by decide)).symm
          | ⟨2, _⟩ => exact (if_neg (show ¬ (512 = 1) by decide)).symm)]
      exact broadcastInDim_apply _ _ _ _ _ fun a => by
        match a with
        | ⟨0, _⟩ => exact (if_neg (show ¬ (160000 = 1) by decide)).symm
        | ⟨1, _⟩ => exact (if_neg (show ¬ (512 = 1) by decide)).symm
    unfold rOne
    rw [select_apply, b1, b3]
    rfl
  rw [h1, rRows_at A S hS]
  have hn : n.val < 10000 := n.isLt
  refine if_congr ?_ rfl rfl
  constructor
  · intro h
    simp only [IntOp.cmpi] at h
    have h2 : D (ix1 y) = BitVec.ofNat 32 n.val := by
      by_contra hne
      rw [beq_eq_false_iff_ne.2 hne] at h
      exact absurd h (by decide)
    rw [h2, BitVec.toNat_ofNat]; omega
  · intro h
    have h2 : D (ix1 y) = BitVec.ofNat 32 n.val := by
      apply BitVec.eq_of_toNat_eq
      rw [h, BitVec.toNat_ofNat]; omega
    simp only [IntOp.cmpi, h2, beq_self_eq_true]; rfl

end

/-! ## The greatest, over the extended reals -/

theorem foldl_le {α : Type} (g : α → EReal) (l : List α) (b c : EReal) : l.foldl (fun r i => max r (g i)) b ≤ c ↔ b ≤ c ∧ ∀ i ∈ l, g i ≤ c := by
  induction l generalizing b with
  | nil => simp
  | cons a l ih => rw [List.foldl_cons, ih]; simp [and_assoc]

theorem negInf_bot : (Scalar.ofBits .f32 0xFF800000#32 : Ideal .f32) = ⊥ := by
  show Ideal.ofBits .f32 0xFF800000#32 = ⊥
  simp [Ideal.ofBits, Ideal.ieee]

/-- What bounds an entry of the reference's array is what bounds the rows of the edges into its node. -/
theorem rAll_le (A : S10000x512.Idx → Ideal .f32) (S D : S160000.Idx → BitVec 32) (hS : ∀ y, (S y).toNat < 10000) (x : S10000x512.Idx) (c : EReal) :
    (rAll A S D x : EReal) ≤ c ↔ ∀ y : S160000.Idx, (D y).toNat = (x 0).val → (A (ix2 (n0 := 10000) (n1 := 512) ⟨(S y).toNat, hS _⟩ (x 1)) : EReal) ≤ c := by
  unfold rAll
  rw [Host.reduce_eq_foldl]
  have hr : S10000x160000x512.ReducesTo [1] S10000x512 := reducesTo_S10000x160000x512_S10000x512_d1
  have hd : ∀ i : S10000x160000x512.Idx, hr.drop i = x → i 0 = x 0 ∧ i 2 = x 1 := by
    intro i h
    subst h
    exact ⟨Fin.ext (hr.drop_apply_val_of_eq i (0 : Fin 2) (0 : Fin 3)).symm, Fin.ext (hr.drop_apply_val_of_eq i (1 : Fin 2) (2 : Fin 3)).symm⟩
  have hd' : ∀ y : Fin 160000, hr.drop (ix3 (n0 := 10000) (n1 := 160000) (n2 := 512) (x 0) y (x 1)) = x := by
    intro y
    funext a
    match a with
    | ⟨0, _⟩ => exact Fin.ext (hr.drop_apply_val_of_eq (ix3 (n0 := 10000) (n1 := 160000) (n2 := 512) (x 0) y (x 1)) (0 : Fin 2) (0 : Fin 3))
    | ⟨1, _⟩ => exact Fin.ext (hr.drop_apply_val_of_eq (ix3 (n0 := 10000) (n1 := 160000) (n2 := 512) (x 0) y (x 1)) (1 : Fin 2) (2 : Fin 3))
  refine (foldl_le (fun i => rOne A S D i) _ _ c).trans ?_
  constructor
  · rintro ⟨-, h⟩ y hy
    have h1 := h (ix3 (n0 := 10000) (n1 := 160000) (n2 := 512) (x 0) (y 0) (x 1)) (List.mem_filter.2 ⟨List.mem_map.2 ⟨_, List.mem_finRange _, Equiv.symm_apply_apply _ _⟩, decide_eq_true (hd' _)⟩)
    have ey : (ix1 (y 0) : S160000.Idx) = y := (eq_ix1 (n := 160000) y).symm
    refine le_trans (le_of_eq ?_) h1
    refine Eq.trans ?_ (rOne_at A S D hS (x 0) (y 0) (x 1)).symm
    have hy' : (D (ix1 (y 0))).toNat = (x 0).val := by rw [← hy]; exact congrArg (fun y => (D y).toNat) ey
    refine Eq.trans ?_ (if_pos hy').symm
    refine congrArg (fun r : Fin 10000 => A (ix2 (n0 := 10000) (n1 := 512) r (x 1))) (Fin.ext ?_)
    exact congrArg (fun y => (S y).toNat) ey.symm
  · intro h
    refine ⟨?_, fun i hi => ?_⟩
    · show (Scalar.ofBits .f32 0xFF800000#32 : Ideal .f32) ≤ c
      rw [negInf_bot]; exact bot_le
    · obtain ⟨h0, h2⟩ := hd i (of_decide_eq_true (List.mem_filter.1 hi).2)
      have hi' : i = ix3 (n0 := 10000) (n1 := 160000) (n2 := 512) (i 0) (i 1) (i 2) := eq_ix3 (n0 := 10000) (n1 := 160000) (n2 := 512) i
      refine le_trans (le_of_eq ((congrArg (rOne A S D) hi').trans (rOne_at A S D hS (i 0) (i 1) (i 2)))) ?_
      split
      · rename_i hy
        refine le_trans (le_of_eq (congrArg (fun l : Fin 512 => A (ix2 (n0 := 10000) (n1 := 512) ⟨(S (ix1 (i 1))).toNat, hS _⟩ l)) h2)) ?_
        exact h (ix1 (i 1)) (hy.trans (congrArg Fin.val h0))
      · rw [negInf_bot]; exact bot_le

end Cert.Proof

end
-- ==== Proof.Ref.lean ====
/-
  The kernel's array is the reference's.
-/
module

public import proofs.«01_k».proof.Proof.Main
public import proofs.«01_k».proof.Proof.RefVal
public import proofs.«01_k».proof.Pre_in_range

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

open Idealize.ShloMosaic.ValueIdx

/-! ## What the precondition says -/

theorem ofBool_one {b : Bool} (h : BitVec.ofBool b = 1#1) : b = true := by
  cases b
  · exact absurd h (by decide)
  · rfl

theorem andi_one {a b : BitVec 1} (h : IntOp.andi a b = 1#1) : a = 1#1 ∧ b = 1#1 := IntOp.andi_eq_one.1 h

/-- Every entry of the edge array is a node, where the precondition's array is one. -/
theorem entry_lt [Cert.Pre_in_range.Facts] (A : S10000x512.Idx → F .f32) (E : S2x160000.Idx → BitVec 32) (h : Cert.Pre_in_range.fn (F := F) A E = fun _ => 1#1) (i : S2x160000.Idx) :
    (E i).toNat < 10000 := by
  haveI : Subsingleton Cert.Pre_in_range.S_.Idx := ⟨fun a b => funext fun k => k.elim0⟩
  have e := congrFun h (Shape.Idx.first Cert.Pre_in_range.Facts.h_S_)
  have e1 := Host.reduce_andi_all _ _ _ _ _ e i
  obtain ⟨h0, h1⟩ := andi_one e1
  have h0' : IntOp.cmpi .sge (E i) 0#32 = 1#1 := h0
  have h1' : IntOp.cmpi .slt (E i) 10000#32 = 1#1 := h1
  have h0 := ofBool_one h0'
  have h1 := ofBool_one h1'
  simp only [BitVec.sle_eq_decide, BitVec.slt_eq_decide, decide_eq_true_eq, BitVec.toInt_eq_toNat_cond, BitVec.toNat_ofNat, Nat.reducePow, Nat.reduceMod] at h0 h1
  omega

theorem preOK_of [Cert.Pre_in_range.Facts] (m : (ℓ : Loc nD τ sig) → Buf (Elt F) ℓ)
    (h : ∀ d : Dev nD, Cert.Pre_in_range.fn (F := F) (m (a0Loc d)) (m (a1Loc d)) = fun _ => 1#1) : PreOK m := fun d =>
  ⟨fun _ => entry_lt (F := F) _ _ (h d) _, fun _ => entry_lt (F := F) _ _ (h d) _⟩

/-! ## The kernel's entry is the reference's -/

theorem tab_at (m : (ℓ : Loc nD τ sig) → Buf (Elt F) ℓ) (d : Dev nD) (s : Fin 10000) (l : Fin 512) :
    TAB m d (ix2 (n := 320000) (k := 16) ⟨(s.val * 32 + l.val / 16) % 320000, Nat.mod_lt _ (by decide)⟩ ⟨l.val % 16, Nat.mod_lt _ (by decide)⟩)
      = (m (a0Loc d) : S10000x512.Idx → F .f32) (ValueIdx.ix2 (n0 := 10000) (n1 := 512) s l) := by
  unfold TAB
  refine congrArg (m (a0Loc d) : S10000x512.Idx → F .f32) (Shape.reshapeEquiv_eq_of_rowMajor (s := S10000x512) (s' := S320000x16) _ ?_)
  refine (Shape.rowMajor_val_two (d := ![10000, 512]) _).trans (Eq.trans ?_ (Shape.rowMajor_val_two (d := ![320000, 16]) _).symm)
  show s.val * 512 + l.val = (s.val * 32 + l.val / 16) % 320000 * 16 + l.val % 16
  have := s.isLt
  have := l.isLt
  omega

theorem maxOf_le {Sv : Ideal .f32 → Prop} {a : Ideal .f32} (h : MaxOf (F := Ideal) Sv a) (c : EReal) : (a : EReal) ≤ c ↔ ∀ b : Ideal .f32, Sv b → (b : EReal) ≤ c := by
  obtain ⟨l, rfl, hl⟩ := h
  refine (foldl_le (fun b : EReal => b) l _ c).trans ?_
  rw [negInf_bot]
  constructor
  · exact fun h b hb => h.2 b ((hl b).2 hb)
  · exact fun h => ⟨bot_le, fun b hb => h b ((hl b).1 hb)⟩

theorem val_eq (m : (ℓ : Loc nD τ sig) → Buf (Elt Ideal) ℓ) (d : Dev nD) (hpre : PreOK m) (f : S10000x512.Idx → Ideal .f32) (x : S10000x512.Idx)
    (h : ColAt (F := Ideal) (SRC m d) (DST m d) (TAB m d) f x) : f x = rAll (F := Ideal) (m (a0Loc d)) (SRC m d) (DST m d) x := by
  refine eq_of_forall_ge_iff fun c => ?_
  refine (maxOf_le h c).trans (Iff.trans ?_ (rAll_le (m (a0Loc d)) (SRC m d) (DST m d) (hpre d).1 x c).symm)
  constructor
  · intro hb y hy
    refine hb _ ⟨y, hy, ?_⟩
    exact (tab_at m d ⟨(SRC m d y).toNat, (hpre d).1 y⟩ (x 1)).symm
  · rintro hb _ ⟨y, hy, rfl⟩
    refine le_trans (le_of_eq ?_) (hb y hy)
    exact tab_at m d ⟨(SRC m d y).toNat, (hpre d).1 y⟩ (x 1)

end Cert.Proof

end
-- ==== Proof.First.lean ====
/-
  The first layer's products: what the ten blocks of a thousand rows leave in the two result arrays, as
  one function of the arguments at every row and column.
-/
module

public import proofs.«01_k».proof.Proof.Gen.FirstIdeal.Value
public import proofs.«01_k».proof.Proof.Gen.FirstReferenceIdeal.Run
public import Idealize.ShloMosaic.PureOps.Ideal
public import Idealize.ShloMosaic.Lib.Pipeline.Value
public import Idealize.ShloMosaic.Lib.Pointwise

@[expose] public section

noncomputable section

namespace Cert.Proof.First

open Cert.FirstIdeal Cert.FirstIdeal.Gen Cert.FirstIdeal.Value
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The row sum with the upper half of the weights less the lower half, and the bias. -/
def G4 (x : FVec Ideal S10000x256 .f32) (w : FVec Ideal S512x512 .f32) (b : FVec Ideal S512 .f32) :
    FVec Ideal S10000x512 .f32 :=
  addf (F := Ideal) (φ := .f32) (Host.dotGeneral (F := Ideal) Cert.FirstReferenceIdeal.dot_S10000x256_S256x512_S10000x512_1_0_0_1_n_n none x
      (subf (F := Ideal) (φ := .f32) (extractStridedSlice S256x512 ![0, 0] w slices_S512x512_S256x512_0_0)
        (extractStridedSlice S256x512 ![256, 0] w slices_S512x512_S256x512_256_0)))
    (broadcastInDim S10000x512 ![0, 1] Cert.FirstReferenceIdeal.Gen.facts.bcast_S1x512_S10000x512_0_1
      (broadcastInDim S1x512 ![1] Cert.FirstReferenceIdeal.Gen.facts.bcast_S512_S1x512_1 b))

/-- The row sum with the lower half of the weights. -/
def G5 (x : FVec Ideal S10000x256 .f32) (w : FVec Ideal S512x512 .f32) : FVec Ideal S10000x512 .f32 :=
  Host.dotGeneral (F := Ideal) Cert.FirstReferenceIdeal.dot_S10000x256_S256x512_S10000x512_1_0_0_1_n_n none x
    (extractStridedSlice S256x512 ![256, 0] w slices_S512x512_S256x512_256_0)

theorem V2 (c : Dev nD) : V m c main_v2
    = subf (F := Ideal) (φ := .f32) (extractStridedSlice S256x512 ![0, 0] (m ((c : Thread nD τ).loc main_arg1)) slices_S512x512_S256x512_0_0)
        (extractStridedSlice S256x512 ![256, 0] (m ((c : Thread nD τ).loc main_arg1)) slices_S512x512_S256x512_256_0) := by
  unfold_abbrev_sides
  after_results

theorem V3 (c : Dev nD) : V m c main_v3
    = extractStridedSlice S256x512 ![256, 0] (m ((c : Thread nD τ).loc main_arg1)) slices_S512x512_S256x512_256_0 := by
  unfold_abbrev_sides
  after_results

theorem V4 (c : Dev nD) : V m c main_v4
    = shapeCast S1x512 (m ((c : Thread nD τ).loc main_arg2)) shapeCasts_S512_S1x512 := by
  unfold_abbrev_sides
  after_results
  rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

theorem tlt (t : Fin cfg0.N) (n : Fin 1000) : t.val * 1000 + n.val < 10000 := by
  have h := t.isLt
  have hN : cfg0.N = 10 := N_0
  have := n.isLt
  omega

theorem emb0 (t : Fin cfg0.N) (j : S1000x256.Idx) : ((cfg0.win 0).blk t).view.emb j
    = (ix2 ⟨t.val * 1000 + (j 0).val, tlt t (j 0)⟩ (j 1) : S10000x256.Idx) := by
  obtain ⟨e0, e1⟩ := idx0 t
  funext a; apply Fin.ext
  match a with
  | ⟨0, _⟩ => show win0_0.index t (0 : Fin 2) * 1000 + 1 * (j 0).val = t.val * 1000 + (j 0).val; omega
  | ⟨1, _⟩ => show win0_0.index t (1 : Fin 2) * 256 + 1 * (j 1).val = (j 1).val; omega

theorem emb1 (t : Fin cfg0.N) (j : S256x512.Idx) : ((cfg0.win 1).blk t).view.emb j = j := by
  obtain ⟨e0, e1⟩ := idx1 t
  funext a; apply Fin.ext
  match a with
  | ⟨0, _⟩ => show win0_1.index t (0 : Fin 2) * 256 + 1 * (j 0).val = (j 0).val; omega
  | ⟨1, _⟩ => show win0_1.index t (1 : Fin 2) * 512 + 1 * (j 1).val = (j 1).val; omega

theorem emb2 (t : Fin cfg0.N) (j : S256x512.Idx) : ((cfg0.win 2).blk t).view.emb j = j := by
  obtain ⟨e0, e1⟩ := idx2 t
  funext a; apply Fin.ext
  match a with
  | ⟨0, _⟩ => show win0_2.index t (0 : Fin 2) * 256 + 1 * (j 0).val = (j 0).val; omega
  | ⟨1, _⟩ => show win0_2.index t (1 : Fin 2) * 512 + 1 * (j 1).val = (j 1).val; omega

theorem emb3 (t : Fin cfg0.N) (j : S1x512.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 512 + 1 * (j 1).val = (j 1).val; omega

theorem emb4 (t : Fin cfg0.N) (j : S1000x512.Idx) : ((cfg0.win 4).blk t).view.emb j
    = (ix2 ⟨t.val * 1000 + (j 0).val, tlt t (j 0)⟩ (j 1) : S10000x512.Idx) := by
  obtain ⟨e0, e1⟩ := idx4 t
  funext a; apply Fin.ext
  match a with
  | ⟨0, _⟩ => show win0_4.index t (0 : Fin 2) * 1000 + 1 * (j 0).val = t.val * 1000 + (j 0).val; omega
  | ⟨1, _⟩ => show win0_4.index t (1 : Fin 2) * 512 + 1 * (j 1).val = (j 1).val; omega

theorem emb5 (t : Fin cfg0.N) (j : S1000x512.Idx) : ((cfg0.win 5).blk t).view.emb j
    = (ix2 ⟨t.val * 1000 + (j 0).val, tlt t (j 0)⟩ (j 1) : S10000x512.Idx) := by
  obtain ⟨e0, e1⟩ := idx5 t
  funext a; apply Fin.ext
  match a with
  | ⟨0, _⟩ => show win0_5.index t (0 : Fin 2) * 1000 + 1 * (j 0).val = t.val * 1000 + (j 0).val; omega
  | ⟨1, _⟩ => show win0_5.index t (1 : Fin 2) * 512 + 1 * (j 1).val = (j 1).val; omega

theorem iblk0_eq (c : Dev nD) (t : Fin cfg0.N) : iblk m c 0 t
    = fun j : S1000x256.Idx => m ((c : Thread nD τ).loc main_arg0) (ix2 ⟨t.val * 1000 + (j 0).val, tlt t (j 0)⟩ (j 1) : S10000x256.Idx) := by
  funext j
  show V m c main_arg0 (((cfg0.win 0).blk t).view.emb j) = _
  rw [V_main_arg0, emb0]

theorem iblk1_eq (c : Dev nD) (t : Fin cfg0.N) : iblk m c 1 t = V m c main_v2 := by
  funext j; show V m c main_v2 (((cfg0.win 1).blk t).view.emb j) = V m c main_v2 j; rw [emb1]

theorem iblk2_eq (c : Dev nD) (t : Fin cfg0.N) : iblk m c 2 t = V m c main_v3 := by
  funext j; show V m c main_v3 (((cfg0.win 2).blk t).view.emb j) = V m c main_v3 j; rw [emb2]

theorem iblk3_eq (c : Dev nD) (t : Fin cfg0.N) : iblk m c 3 t = V m c main_v4 := by
  funext j; show V m c main_v4 (((cfg0.win 3).blk t).view.emb j) = V m c main_v4 j; rw [emb3]

theorem out4_eq (x0 : Vec Ideal S1000x256 .f32) (x1 x2 : Vec Ideal S256x512 .f32) (x3 : Vec Ideal S1x512 .f32) :
    out0_4 x0 x1 x2 x3 = k0_pay1 x0 x1 x3 := by
  have hz : (![0, 0] : Fin 2 → Nat) = fun _ => 0 := funext fun a => by fin_cases a <;> rfl
  unfold out0_4
  rw [View.canon_unit_zero hz, View.ld_unit_zero hz, View.ld_unit_zero hz, View.ld_unit_zero hz]

theorem out5_eq (x0 : Vec Ideal S1000x256 .f32) (x1 x2 : Vec Ideal S256x512 .f32) (x3 : Vec Ideal S1x512 .f32) :
    out0_5 x0 x1 x2 x3 = k0_pay2 x0 x2 := by
  have hz : (![0, 0] : Fin 2 → Nat) = fun _ => 0 := funext fun a => by fin_cases a <;> rfl
  unfold out0_5
  rw [View.canon_unit_zero hz, View.ld_unit_zero hz, View.ld_unit_zero hz]

set_option maxRecDepth 16384 in
/-- A row of the block's products is the row of the whole product at the block's place. -/
theorem pay4 (t : Fin cfg0.N) (x : FVec Ideal S10000x256 .f32) (w : FVec Ideal S512x512 .f32) (b : FVec Ideal S512 .f32)
    (n : Fin 1000) (l : Fin 512) :
    k0_pay1 (F := Ideal) (fun j : S1000x256.Idx => x (ix2 ⟨t.val * 1000 + (j 0).val, tlt t (j 0)⟩ (j 1) : S10000x256.Idx))
      (subf (F := Ideal) (φ := .f32) (extractStridedSlice S256x512 ![0, 0] w slices_S512x512_S256x512_0_0)
        (extractStridedSlice S256x512 ![256, 0] w slices_S512x512_S256x512_256_0))
      (shapeCast S1x512 b shapeCasts_S512_S1x512) (ix2 n l : S1000x512.Idx)
    = G4 x w b (ix2 ⟨t.val * 1000 + n.val, tlt t n⟩ l : S10000x512.Idx) := by
  pointwise! [k0_pay1, G4]

set_option maxRecDepth 16384 in
theorem pay5 (t : Fin cfg0.N) (x : FVec Ideal S10000x256 .f32) (w : FVec Ideal S512x512 .f32)
    (n : Fin 1000) (l : Fin 512) :
    k0_pay2 (F := Ideal) (fun j : S1000x256.Idx => x (ix2 ⟨t.val * 1000 + (j 0).val, tlt t (j 0)⟩ (j 1) : S10000x256.Idx))
      (extractStridedSlice S256x512 ![256, 0] w slices_S512x512_S256x512_256_0) (ix2 n l : S1000x512.Idx)
    = G5 x w (ix2 ⟨t.val * 1000 + n.val, tlt t n⟩ l : S10000x512.Idx) := by
  pointwise! [k0_pay2, G5]

theorem flushed4_eq (c : Dev nD) (t : Fin cfg0.N) : (dats m 0 c).flushed 4 t
    = ((cfg0.win 4).blk t).view.read (Elt Ideal) (G4 (m ((c : Thread nD τ).loc main_arg0))
        (m ((c : Thread nD τ).loc main_arg1)) (m ((c : Thread nD τ).loc main_arg2))) := by
  rw [flushed4, out4_eq, iblk0_eq, iblk1_eq, iblk3_eq, V2, V4]
  funext j
  show k0_pay1 (F := Ideal) _ _ _ (j : S1000x512.Idx) = G4 _ _ _ (((cfg0.win 4).blk t).view.emb j)
  rw [emb4]
  obtain ⟨n, l, rfl⟩ : ∃ (n : Fin 1000) (l : Fin 512), j = ix2 n l := ⟨j 0, j 1, eq_ix2 j⟩
  exact pay4 t _ _ _ n l

theorem flushed5_eq (c : Dev nD) (t : Fin cfg0.N) : (dats m 0 c).flushed 5 t
    = ((cfg0.win 5).blk t).view.read (Elt Ideal) (G5 (m ((c : Thread nD τ).loc main_arg0))
        (m ((c : Thread nD τ).loc main_arg1))) := by
  rw [flushed5, out5_eq, iblk0_eq, iblk2_eq, V3]
  funext j
  show k0_pay2 (F := Ideal) _ _ (j : S1000x512.Idx) = G5 _ _ (((cfg0.win 5).blk t).view.emb j)
  rw [emb5]
  obtain ⟨n, l, rfl⟩ : ∃ (n : Fin 1000) (l : Fin 512), j = ix2 n l := ⟨j 0, j 1, eq_ix2 j⟩
  exact pay5 t _ _ n l

/-- The block of a row, and the row's place in it. -/
theorem split (i : S10000x512.Idx) : ∃ (t : Fin cfg0.N) (n : Fin 1000),
    i = (ix2 ⟨t.val * 1000 + n.val, tlt t n⟩ (i 1) : S10000x512.Idx) := by
  have h0 : (i 0).val < 10000 := (i 0).isLt
  have hN : cfg0.N = 10 := N_0
  refine ⟨⟨(i 0).val / 1000, by omega⟩, ⟨(i 0).val % 1000, Nat.mod_lt _ (by decide)⟩, ?_⟩
  funext a; apply Fin.ext
  match a with
  | ⟨0, _⟩ => show (i 0).val = (i 0).val / 1000 * 1000 + (i 0).val % 1000; omega
  | ⟨1, _⟩ => rfl

theorem covered4 (i : S10000x512.Idx) :
    ∃ t : Fin cfg0.N, (cfg0.win 4).flush t = true ∧ i ∈ ((cfg0.win 4).blk t).view.set := by
  obtain ⟨t, n, h⟩ := split i
  refine ⟨t, flush0_4 _, ?_⟩
  have hm := ((cfg0.win 4).blk t).view.emb_mem_set (ix2 n (i 1) : S1000x512.Idx)
  rw [emb4] at hm
  rw [h]; exact hm

theorem covered5 (i : S10000x512.Idx) :
    ∃ t : Fin cfg0.N, (cfg0.win 5).flush t = true ∧ i ∈ ((cfg0.win 5).blk t).view.set := by
  obtain ⟨t, n, h⟩ := split i
  refine ⟨t, flush0_5 _, ?_⟩
  have hm := ((cfg0.win 5).blk t).view.emb_mem_set (ix2 n (i 1) : S1000x512.Idx)
  rw [emb5] at hm
  rw [h]; exact hm

/-- The run of the first layer's products, its two results as functions of the arguments. -/
theorem run : θ_run defs (onTc (τ := τ) (main (F := Ideal))) ⟨m, fun _ => 0, ρ⟩ fun r => ∀ c : Dev nD,
      r.2.mem ((c : Thread nD τ).loc main_v5_0)
        = G4 (m ((c : Thread nD τ).loc main_arg0)) (m ((c : Thread nD τ).loc main_arg1)) (m ((c : Thread nD τ).loc main_arg2))
      ∧ r.2.mem ((c : Thread nD τ).loc main_v5_1)
        = G5 (m ((c : Thread nD τ).loc main_arg0)) (m ((c : Thread nD τ).loc main_arg1)) :=
  (θ_run defs _ _).mono (fun r h c =>
    ⟨(h c).1.trans ((dats m 0 c).arrAt_eq_of_cover 4 _ (fun t _ => flushed4_eq m c t) covered4),
     (h c).2.1.trans ((dats m 0 c).arrAt_eq_of_cover 5 _ (fun t _ => flushed5_eq m c t) covered5)⟩)
    (run_blocks m ρ)

end Cert.Proof.First

end
-- ==== Proof.Epilogue.lean ====
/-
  A layer's epilogue: the ten blocks of a thousand rows leave the positive part of the sum in one array,
  and in the first two rows of the other the column sums and the column sums of squares, gathered
  block after block.
-/
module

public import proofs.«01_k».proof.Proof.Gen.EpilogueIdeal.Value
public import proofs.«01_k».proof.Proof.Gen.EpilogueReferenceIdeal.Run
public import Idealize.ShloMosaic.PureOps.Ideal
public import Idealize.ShloMosaic.Lib.Pipeline.ValueKit
public import Idealize.ShloMosaic.Lib.Pipeline.ReadBack
public import Idealize.ShloMosaic.Lib.Pointwise

@[expose] public section

noncomputable section

namespace Cert.Proof.Epilogue

open Cert.EpilogueIdeal Cert.EpilogueIdeal.Gen Cert.EpilogueIdeal.Value
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The positive part of the sum. -/
def GH (a b : FVec Ideal S10000x512 .f32) : FVec Ideal S10000x512 .f32 :=
  maximumf (F := Ideal) (φ := .f32) (addf (F := Ideal) (φ := .f32) a b)
    (broadcastInDim S10000x512 ![] Cert.EpilogueReferenceIdeal.Gen.facts.bcast_S_S10000x512
      (constant (F := Ideal) Cert.EpilogueReferenceIdeal.S_ .f32 0x00000000#32))

/-- The column sums and the column sums of squares of an array, over six rows of zeros. -/
def GS (h : FVec Ideal S10000x512 .f32) : FVec Ideal S8x512 .f32 :=
  pad S8x512 ![0, 0] ![6, 0] ![0, 0]
    (concatenate Cert.EpilogueReferenceIdeal.S2x512 0
      [⟨S1x512, (broadcastInDim S1x512 ![1] Cert.EpilogueReferenceIdeal.Gen.facts.bcast_S512_S1x512_1
          (Host.reduceAdd (F := Ideal) h (constant (F := Ideal) Cert.EpilogueReferenceIdeal.S_ .f32 0x00000000#32)
            Cert.EpilogueReferenceIdeal.Gen.facts.reducesTo_S10000x512_S512_d0 Cert.EpilogueReferenceIdeal.Gen.facts.h_S_))⟩,
       ⟨S1x512, (broadcastInDim S1x512 ![1] Cert.EpilogueReferenceIdeal.Gen.facts.bcast_S512_S1x512_1
          (Host.reduceAdd (F := Ideal) (mulf (F := Ideal) (φ := .f32) h h) (constant (F := Ideal) Cert.EpilogueReferenceIdeal.S_ .f32 0x00000000#32)
            Cert.EpilogueReferenceIdeal.Gen.facts.reducesTo_S10000x512_S512_d0 Cert.EpilogueReferenceIdeal.Gen.facts.h_S_))⟩]
      Cert.EpilogueReferenceIdeal.Gen.facts.concatenates_S1x512_S1x512_S2x512_d0)
    (sitofp (F := Ideal) .f32 (constantI Cert.EpilogueReferenceIdeal.S_ 32 0#32))
    Cert.EpilogueReferenceIdeal.Gen.facts.pads_S2x512_S8x512_060_000 Cert.EpilogueReferenceIdeal.Gen.facts.h_S_

/-- The three rows of a block of the accumulator: sums, sums of squares, what was there. -/
def rows (p q : Fin 512 → EReal) (z : Fin 8 → Fin 512 → EReal) (r : Fin 8) (l : Fin 512) : EReal :=
  if r = 1 then q l else if r = 0 then p l else z r l

theorem sitofp_zero : FloatOps.sitofp (F := Ideal) (w := 32) FTy.f32 0#32 = (0 : EReal) := by
  show (((0#32 : BitVec 32).toInt : ℝ) : EReal) = 0
  simp

set_option maxRecDepth 16384 in
theorem GS_apply (h : FVec Ideal S10000x512 .f32) (r : Fin 8) (l : Fin 512) :
    GS h (ix2 r l : S8x512.Idx) = rows (fun l => ∑ n : Fin 10000, h (ix2 n l : S10000x512.Idx))
      (fun l => ∑ n : Fin 10000, h (ix2 n l : S10000x512.Idx) * h (ix2 n l : S10000x512.Idx)) (fun _ _ => 0) r l := by
  fin_cases r
  all_goals
    pointwise [GS, rows]
  all_goals exact sitofp_zero

set_option maxRecDepth 16384 in
theorem GH_apply (a b : FVec Ideal S10000x512 .f32) (n : Fin 10000) (l : Fin 512) :
    GH a b (ix2 n l : S10000x512.Idx)
      = max (a (ix2 n l : S10000x512.Idx) + b (ix2 n l : S10000x512.Idx)) (0 : EReal) := by
  pointwise [GH]

set_option maxRecDepth 16384 in
theorem pay1_apply (x y : FVec Ideal S1000x512 .f32) (n : Fin 1000) (l : Fin 512) :
    k0_pay1 (F := Ideal) x y (ix2 n l : S1000x512.Idx)
      = max (x (ix2 n l : S1000x512.Idx) + y (ix2 n l : S1000x512.Idx)) (0 : EReal) := by
  pointwise [k0_pay1]

set_option maxRecDepth 16384 in
theorem pay3_apply (x y : FVec Ideal S1000x512 .f32) (w : FVec Ideal S1x512 .f32) (l : Fin 512) :
    k0_pay3 (F := Ideal) x y w (ix2 0 l : S1x512.Idx)
      = w (ix2 0 l : S1x512.Idx) + ∑ n : Fin 1000, k0_pay1 (F := Ideal) x y (ix2 n l : S1000x512.Idx) := by
  pointwise [k0_pay3]

set_option maxRecDepth 16384 in
theorem pay4_apply (x y : FVec Ideal S1000x512 .f32) (w : FVec Ideal S1x512 .f32) (l : Fin 512) :
    k0_pay4 (F := Ideal) x y w (ix2 0 l : S1x512.Idx)
      = w (ix2 0 l : S1x512.Idx) + ∑ n : Fin 1000,
          k0_pay1 (F := Ideal) x y (ix2 n l : S1000x512.Idx) * k0_pay1 (F := Ideal) x y (ix2 n l : S1000x512.Idx) := by
  pointwise [k0_pay4]

abbrev R1 : Rect S8x512 := Rect.unit ![1, 0] ![1, 512] inb_S8x512_S1x512_1_0
abbrev R0 : Rect S8x512 := Rect.unit ![0, 0] ![1, 512] inb_S8x512_S1x512_0_0

theorem emb_R1 (l : Fin 512) : R1.emb (ix2 0 l : S1x512.Idx) = (ix2 1 l : S8x512.Idx) := by
  funext a; apply Fin.ext
  match a with
  | ⟨0, _⟩ => rfl
  | ⟨1, _⟩ => show 0 + 1 * l.val = l.val; omega

theorem emb_R0 (l : Fin 512) : R0.emb (ix2 0 l : S1x512.Idx) = (ix2 0 l : S8x512.Idx) := by
  funext a; apply Fin.ext
  match a with
  | ⟨0, _⟩ => rfl
  | ⟨1, _⟩ => show 0 + 1 * l.val = l.val; omega

theorem not_R1 {r : Fin 8} (h : r ≠ 1) (l : Fin 512) : (ix2 r l : S8x512.Idx) ∉ R1.set := by
  rw [Rect.mem_set_unit]
  intro hm
  have h0 : 1 ≤ r.val ∧ r.val < 1 + 1 := hm 0
  exact h (Fin.ext (by omega))

theorem not_R0 {r : Fin 8} (h : r ≠ 0) (l : Fin 512) : (ix2 r l : S8x512.Idx) ∉ R0.set := by
  rw [Rect.mem_set_unit]
  intro hm
  have h0 : 0 ≤ r.val ∧ r.val < 0 + 1 := hm 0
  exact h (Fin.ext (by omega))

/-- Two rows written over the accumulator, read back. -/
theorem read_two {v : View sig .tc .vmem S8x512 .f32} (f : v.ty.Contents (Elt Ideal)) (w3 w4 : S1x512.Idx → Elt Ideal .f32)
    (L : List (View.Piece (Elt Ideal) S8x512 .f32)) (r : Fin 8) (l : Fin 512) :
    v.read (Elt Ideal) (v.writes (Elt Ideal) f (⟨R1, w4⟩ :: ⟨R0, w3⟩ :: L)) (ix2 r l : S8x512.Idx)
      = rows (fun l => w3 (ix2 0 l : S1x512.Idx)) (fun l => w4 (ix2 0 l : S1x512.Idx))
          (fun r l => v.read (Elt Ideal) (v.writes (Elt Ideal) f L) (ix2 r l : S8x512.Idx)) r l := by
  unfold rows
  by_cases h1 : r = 1
  · subst h1
    rw [if_pos rfl, ← emb_R1, View.read_writes_cons_emb]
  · rw [if_neg h1, View.writes_cons, View.read_slice_write_of_not_mem R1 _ _ _ (by rw [Rect.map_emb_univ]; exact not_R1 h1 l)]
    by_cases h0 : r = 0
    · subst h0
      rw [if_pos rfl, ← emb_R0, View.read_writes_cons_emb]
    · rw [if_neg h0, View.writes_cons, View.read_slice_write_of_not_mem R0 _ _ _ (by rw [Rect.map_emb_univ]; exact not_R0 h0 l)]

/-- and over contents that a whole store has left. -/
theorem canon_two {v : View sig .tc .vmem S8x512 .f32} (w3 w4 : S1x512.Idx → Elt Ideal .f32)
    (L : List (View.Piece (Elt Ideal) S8x512 .f32)) (r : Fin 8) (l : Fin 512) :
    View.canon (⟨R1, w4⟩ :: ⟨R0, w3⟩ :: L) (ix2 r l : S8x512.Idx)
      = rows (fun l => w3 (ix2 0 l : S1x512.Idx)) (fun l => w4 (ix2 0 l : S1x512.Idx))
          (fun r l => View.canon L (ix2 r l : S8x512.Idx)) r l := by
  rw [← View.read_writes_junk_apply_eq_canon v]
  refine (read_two v.junk w3 w4 L r l).trans ?_
  rw [View.read_writes_junk_eq_canon]

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem tlt (t : Fin cfg0.N) (n : Fin 1000) : t.val * 1000 + n.val < 10000 := by
  have h := t.isLt
  have hN : cfg0.N = 10 := N_0
  have := n.isLt
  omega

theorem emb0 (t : Fin cfg0.N) (j : S1000x512.Idx) : ((cfg0.win 0).blk t).view.emb j
    = (ix2 ⟨t.val * 1000 + (j 0).val, tlt t (j 0)⟩ (j 1) : S10000x512.Idx) := by
  obtain ⟨e0, e1⟩ := idx0 t
  funext a; apply Fin.ext
  match a with
  | ⟨0, _⟩ => show win0_0.index t (0 : Fin 2) * 1000 + 1 * (j 0).val = t.val * 1000 + (j 0).val; omega
  | ⟨1, _⟩ => show win0_0.index t (1 : Fin 2) * 512 + 1 * (j 1).val = (j 1).val; omega

theorem emb1 (t : Fin cfg0.N) (j : S1000x512.Idx) : ((cfg0.win 1).blk t).view.emb j
    = (ix2 ⟨t.val * 1000 + (j 0).val, tlt t (j 0)⟩ (j 1) : S10000x512.Idx) := by
  obtain ⟨e0, e1⟩ := idx1 t
  funext a; apply Fin.ext
  match a with
  | ⟨0, _⟩ => show win0_1.index t (0 : Fin 2) * 1000 + 1 * (j 0).val = t.val * 1000 + (j 0).val; omega
  | ⟨1, _⟩ => show win0_1.index t (1 : Fin 2) * 512 + 1 * (j 1).val = (j 1).val; omega

theorem emb2 (t : Fin cfg0.N) (j : S1000x512.Idx) : ((cfg0.win 2).blk t).view.emb j
    = (ix2 ⟨t.val * 1000 + (j 0).val, tlt t (j 0)⟩ (j 1) : S10000x512.Idx) := by
  obtain ⟨e0, e1⟩ := idx2 t
  funext a; apply Fin.ext
  match a with
  | ⟨0, _⟩ => show win0_2.index t (0 : Fin 2) * 1000 + 1 * (j 0).val = t.val * 1000 + (j 0).val; omega
  | ⟨1, _⟩ => show win0_2.index t (1 : Fin 2) * 512 + 1 * (j 1).val = (j 1).val; omega

abbrev A (c : Dev nD) : FVec Ideal S10000x512 .f32 := m ((c : Thread nD τ).loc main_arg0)
abbrev B (c : Dev nD) : FVec Ideal S10000x512 .f32 := m ((c : Thread nD τ).loc main_arg1)

/-- What a point computes of its two blocks is its block of the whole positive part. -/
theorem pay_eq (c : Dev nD) (t : Fin cfg0.N) (n : Fin 1000) (l : Fin 512) :
    k0_pay1 (F := Ideal) (iblk m c 0 t) (iblk m c 1 t) (ix2 n l : S1000x512.Idx)
      = GH (A m c) (B m c) (ix2 ⟨t.val * 1000 + n.val, tlt t n⟩ l : S10000x512.Idx) := by
  refine (pay1_apply _ _ n l).trans ((GH_apply _ _ _ l).trans ?_).symm
  have e0 : iblk m c 0 t (ix2 n l : S1000x512.Idx) = A m c (ix2 ⟨t.val * 1000 + n.val, tlt t n⟩ l : S10000x512.Idx) := by
    show A m c (((cfg0.win 0).blk t).view.emb (ix2 n l : S1000x512.Idx)) = _
    rw [emb0]; rfl
  have e1 : iblk m c 1 t (ix2 n l : S1000x512.Idx) = B m c (ix2 ⟨t.val * 1000 + n.val, tlt t n⟩ l : S10000x512.Idx) := by
    show B m c (((cfg0.win 1).blk t).view.emb (ix2 n l : S1000x512.Idx)) = _
    rw [emb1]; rfl
  exact (congrArg₂ (fun x y : EReal => max (x + y) 0) e0 e1).symm

/-- The addend of a point: its column sums and column sums of squares. -/
def term (h : FVec Ideal S10000x512 .f32) (t : Fin cfg0.N) (j : S8x512.Idx) : EReal :=
  rows (fun l => ∑ n : Fin 1000, h (ix2 ⟨t.val * 1000 + n.val, tlt t n⟩ l : S10000x512.Idx))
    (fun l => ∑ n : Fin 1000, h (ix2 ⟨t.val * 1000 + n.val, tlt t n⟩ l : S10000x512.Idx)
      * h (ix2 ⟨t.val * 1000 + n.val, tlt t n⟩ l : S10000x512.Idx)) (fun _ _ => 0) (j 0) (j 1)

theorem rows_add (p q : Fin 512 → EReal) (X : FVec Ideal S8x512 .f32) (r : Fin 8) (l : Fin 512) :
    rows (fun l => X (ix2 0 l : S8x512.Idx) + p l) (fun l => X (ix2 1 l : S8x512.Idx) + q l)
        (fun r l => X (ix2 r l : S8x512.Idx)) r l
      = X (ix2 r l : S8x512.Idx) + rows p q (fun _ _ => 0) r l := by
  unfold rows
  by_cases h1 : r = 1
  · subst h1; rw [if_pos rfl, if_pos rfl]
  · rw [if_neg h1, if_neg h1]
    by_cases h0 : r = 0
    · subst h0; rw [if_pos rfl, if_pos rfl]
    · rw [if_neg h0, if_neg h0, add_zero]

theorem ld_row0 (X : FVec Ideal S8x512 .f32) (l : Fin 512) :
    View.ld (Val := Elt Ideal) (e' := .f32) X R0 (ix2 0 l : S1x512.Idx) = X (ix2 0 l : S8x512.Idx) :=
  congrArg X (emb_R0 l)

theorem ld_row1 (X : FVec Ideal S8x512 .f32) (l : Fin 512) :
    View.ld (Val := Elt Ideal) (e' := .f32) X R1 (ix2 0 l : S1x512.Idx) = X (ix2 1 l : S8x512.Idx) :=
  congrArg X (emb_R1 l)

theorem zero_apply (j : S8x512.Idx) : k0_pay2 (F := Ideal) j = (0 : EReal) := by
  pointwise [k0_pay2]

theorem stepB (c : Dev nD) (t : Fin cfg0.N) (h : ¬ t.val % 10 = 0) (j : S8x512.Idx) :
    (outsAt0 m c t.val t.isLt).2 j = (outsAt0 m c (t.val - 1) (Nat.lt_of_le_of_lt (Nat.sub_le _ _) t.isLt)).2 j
      + term (GH (A m c) (B m c)) t j := by
  obtain ⟨r, l, rfl⟩ : ∃ (r : Fin 8) (l : Fin 512), j = ix2 r l := ⟨j 0, j 1, eq_ix2 j⟩
  rw [outsAt0_B m c t h]
  frame_out
  refine (read_two _ _ _ [] r l).trans ?_
  refine Eq.trans ?_ (rows_add _ _ _ r l)
  congr 1
  · funext l
    refine (pay3_apply _ _ _ l).trans ?_
    rw [ld_row0]
    exact congrArg _ (Finset.sum_congr rfl fun n _ => pay_eq m c t n l)
  · funext l
    refine (pay4_apply _ _ _ l).trans ?_
    rw [ld_row1]
    exact congrArg _ (Finset.sum_congr rfl fun n _ => by rw [pay_eq m c t n l])
  · funext r l
    rw [View.writes_nil, (hs0_3 t).read_unread]

theorem stepA (c : Dev nD) (t : Fin cfg0.N) (h : t.val % 10 = 0) (j : S8x512.Idx) :
    (outsAt0 m c t.val t.isLt).2 j = 0 + term (GH (A m c) (B m c)) t j := by
  obtain ⟨r, l, rfl⟩ : ∃ (r : Fin 8) (l : Fin 512), j = ix2 r l := ⟨j 0, j 1, eq_ix2 j⟩
  rw [outsAt0_A m c t h]
  frame_out
  simp (disch := decide) only [↓ View.readCov_skip, ↓ View.readCov_cons_toLoadRect, ↓ View.readCov_fill]
  refine (canon_two (v := (ms0_3 t).view) _ _ _ r l).trans ?_
  rw [← zero_apply (ix2 r l)]
  refine Eq.trans ?_ (rows_add _ _ _ r l)
  congr 1
  · funext l
    refine (pay3_apply _ _ _ l).trans ?_
    rw [ld_row0]
    exact congrArg _ (Finset.sum_congr rfl fun n _ => pay_eq m c t n l)
  · funext l
    refine (pay4_apply _ _ _ l).trans ?_
    rw [ld_row1]
    exact congrArg _ (Finset.sum_congr rfl fun n _ => by rw [pay_eq m c t n l])
  · funext r l
    rw [View.canon_cons_unit_lit _ _ _ (by decide)]

/-- The points' addends are the whole columns' sums. -/
theorem sum_term (h : FVec Ideal S10000x512 .f32) (j : S8x512.Idx) : 0 + ∑ t : Fin cfg0.N, term h t j = GS h j := by
  obtain ⟨r, l, rfl⟩ : ∃ (r : Fin 8) (l : Fin 512), j = ix2 r l := ⟨j 0, j 1, eq_ix2 j⟩
  rw [zero_add, GS_apply]
  have hN : cfg0.N = 10 := N_0
  unfold term rows
  show (∑ t : Fin cfg0.N, if r = 1 then _ else if r = 0 then _ else _) = _
  by_cases h1 : r = 1
  · simp only [if_pos h1]
    exact Fin.sum_mul_add_fin cfg0.N 1000 (fun n : Fin 10000 => h (ix2 n l : S10000x512.Idx) * h (ix2 n l : S10000x512.Idx)) (by rw [hN])
  · simp only [if_neg h1]
    by_cases h0 : r = 0
    · simp only [if_pos h0]
      exact Fin.sum_mul_add_fin cfg0.N 1000 (fun n : Fin 10000 => h (ix2 n l : S10000x512.Idx)) (by rw [hN])
    · simp only [if_neg h0, Finset.sum_const_zero]

theorem final3 (c : Dev nD) : (dats m 0 c).arrAt 3 cfg0.N = GS (GH (A m c) (B m c)) := by
  refine (dats m 0 c).arrAt_eq_of_after_last 3 t0_9 (by decide +kernel) _ fun j => ?_
  blk_simp
  rw [after0_3]
  refine Eq.trans ?_ (sum_term _ j)
  have hN : cfg0.N = 10 := N_0
  exact congrFun (Pipeline.eq_sum_fin_of_reset_step_last (fun n h => (outsAt0 m c n h).2) 10 (fun _ => (0 : EReal))
    (fun t j => term (GH (A m c) (B m c)) t j) (fun t h => funext (stepA m c t h)) (fun t h => funext (stepB m c t h))
    (by rw [hN]) t0_9 (by show 9 + 1 = cfg0.N; exact hN.symm)) j |>.trans (by rw [Pi.add_apply, Finset.sum_apply])

theorem flushed2_eq (c : Dev nD) (t : Fin cfg0.N) : (dats m 0 c).flushed 2 t
    = ((cfg0.win 2).blk t).view.read (Elt Ideal) (GH (A m c) (B m c)) := by
  rw [flushed2]
  funext j
  show (outsAt0 m c t.val t.isLt).1 (j : S1000x512.Idx) = GH _ _ (((cfg0.win 2).blk t).view.emb j)
  rw [emb2]
  obtain ⟨n, l, rfl⟩ : ∃ (n : Fin 1000) (l : Fin 512), j = ix2 n l := ⟨j 0, j 1, eq_ix2 j⟩
  refine Eq.trans ?_ (pay_eq m c t n l)
  by_cases h : t.val % 10 = 0
  · rw [outsAt0_A m c t h]
    frame_out
  · rw [outsAt0_B m c t h]
    frame_out

/-- The block of a row, and the row's place in it. -/
theorem split (i : S10000x512.Idx) : ∃ (t : Fin cfg0.N) (n : Fin 1000),
    i = (ix2 ⟨t.val * 1000 + n.val, tlt t n⟩ (i 1) : S10000x512.Idx) := by
  have h0 : (i 0).val < 10000 := (i 0).isLt
  have hN : cfg0.N = 10 := N_0
  refine ⟨⟨(i 0).val / 1000, by omega⟩, ⟨(i 0).val % 1000, Nat.mod_lt _ (by decide)⟩, ?_⟩
  funext a; apply Fin.ext
  match a with
  | ⟨0, _⟩ => show (i 0).val = (i 0).val / 1000 * 1000 + (i 0).val % 1000; omega
  | ⟨1, _⟩ => rfl

theorem covered2 (i : S10000x512.Idx) :
    ∃ t : Fin cfg0.N, (cfg0.win 2).flush t = true ∧ i ∈ ((cfg0.win 2).blk t).view.set := by
  obtain ⟨t, n, h⟩ := split i
  refine ⟨t, flush0_2 _, ?_⟩
  have hm := ((cfg0.win 2).blk t).view.emb_mem_set (ix2 n (i 1) : S1000x512.Idx)
  rw [emb2] at hm
  rw [h]; exact hm

/-- The run of the epilogue, its two results as functions of the arguments. -/
theorem run : θ_run defs (onTc (τ := τ) (main (F := Ideal))) ⟨m, fun _ => 0, ρ⟩ fun r => ∀ c : Dev nD,
      r.2.mem ((c : Thread nD τ).loc main_v0_0) = GH (A m c) (B m c)
      ∧ r.2.mem ((c : Thread nD τ).loc main_v0_1) = GS (GH (A m c) (B m c)) :=
  (θ_run defs _ _).mono (fun r h c =>
    ⟨(h c).1.trans ((dats m 0 c).arrAt_eq_of_cover 2 _ (fun t _ => flushed2_eq m c t) covered2),
     (h c).2.1.trans (final3 m c)⟩)
    (run_blocks m ρ)

end Cert.Proof.Epilogue

end
-- ==== Proof.BetweenEpi.lean ====
/-
  The first of the two calls between two layers: the positive part of the sum, and the column sums and
  column sums of squares that the second call takes.
-/
module

public import proofs.«01_k».proof.Proof.Gen.BetweenIdeal.Frame
public import proofs.«01_k».proof.Proof.Gen.BetweenReferenceIdeal.Run
public import Idealize.ShloMosaic.PureOps.Ideal
public import Idealize.ShloMosaic.Lib.Pipeline.ValueKit
public import Idealize.ShloMosaic.Lib.Pipeline.ReadBack
public import Idealize.ShloMosaic.Lib.Pointwise

@[expose] public section

noncomputable section

namespace Cert.Proof.Between

open Cert.BetweenIdeal Cert.BetweenIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The positive part of the sum. -/
def GH (a b : FVec Ideal S10000x512 .f32) : FVec Ideal S10000x512 .f32 :=
  maximumf (F := Ideal) (φ := .f32) (addf (F := Ideal) (φ := .f32) a b)
    (broadcastInDim S10000x512 ![] Cert.BetweenReferenceIdeal.Gen.facts.bcast_S_S10000x512
      (constant (F := Ideal) Cert.BetweenReferenceIdeal.S_ .f32 0x00000000#32))

/-- The three rows of a block of the accumulator: sums, sums of squares, what was there. -/
def rows (p q : Fin 512 → EReal) (z : Fin 8 → Fin 512 → EReal) (r : Fin 8) (l : Fin 512) : EReal :=
  if r = 1 then q l else if r = 0 then p l else z r l

/-- The column sums and the column sums of squares of an array, over six rows of zeros. -/
def GS (h : FVec Ideal S10000x512 .f32) (j : S8x512.Idx) : EReal :=
  rows (fun l => ∑ n : Fin 10000, h (ix2 n l : S10000x512.Idx))
    (fun l => ∑ n : Fin 10000, h (ix2 n l : S10000x512.Idx) * h (ix2 n l : S10000x512.Idx)) (fun _ _ => 0) (j 0) (j 1)

theorem GS_apply (h : FVec Ideal S10000x512 .f32) (r : Fin 8) (l : Fin 512) :
    GS h (ix2 r l : S8x512.Idx) = rows (fun l => ∑ n : Fin 10000, h (ix2 n l : S10000x512.Idx))
      (fun l => ∑ n : Fin 10000, h (ix2 n l : S10000x512.Idx) * h (ix2 n l : S10000x512.Idx)) (fun _ _ => 0) r l := rfl

set_option maxRecDepth 16384 in
theorem GH_apply (a b : FVec Ideal S10000x512 .f32) (n : Fin 10000) (l : Fin 512) :
    GH a b (ix2 n l : S10000x512.Idx)
      = max (a (ix2 n l : S10000x512.Idx) + b (ix2 n l : S10000x512.Idx)) (0 : EReal) := by
  pointwise [GH]

set_option maxRecDepth 16384 in
theorem pay1_apply (x y : FVec Ideal S1000x512 .f32) (n : Fin 1000) (l : Fin 512) :
    k0_pay1 (F := Ideal) x y (ix2 n l : S1000x512.Idx)
      = max (x (ix2 n l : S1000x512.Idx) + y (ix2 n l : S1000x512.Idx)) (0 : EReal) := by
  pointwise [k0_pay1]

set_option maxRecDepth 16384 in
theorem pay3_apply (x y : FVec Ideal S1000x512 .f32) (w : FVec Ideal S1x512 .f32) (l : Fin 512) :
    k0_pay3 (F := Ideal) x y w (ix2 0 l : S1x512.Idx)
      = w (ix2 0 l : S1x512.Idx) + ∑ n : Fin 1000, k0_pay1 (F := Ideal) x y (ix2 n l : S1000x512.Idx) := by
  pointwise [k0_pay3]

set_option maxRecDepth 16384 in
theorem pay4_apply (x y : FVec Ideal S1000x512 .f32) (w : FVec Ideal S1x512 .f32) (l : Fin 512) :
    k0_pay4 (F := Ideal) x y w (ix2 0 l : S1x512.Idx)
      = w (ix2 0 l : S1x512.Idx) + ∑ n : Fin 1000,
          k0_pay1 (F := Ideal) x y (ix2 n l : S1000x512.Idx) * k0_pay1 (F := Ideal) x y (ix2 n l : S1000x512.Idx) := by
  pointwise [k0_pay4]

abbrev R1 : Rect S8x512 := Rect.unit ![1, 0] ![1, 512] inb_S8x512_S1x512_1_0
abbrev R0 : Rect S8x512 := Rect.unit ![0, 0] ![1, 512] inb_S8x512_S1x512_0_0

theorem emb_R1 (l : Fin 512) : R1.emb (ix2 0 l : S1x512.Idx) = (ix2 1 l : S8x512.Idx) := by
  funext a; apply Fin.ext
  match a with
  | ⟨0, _⟩ => rfl
  | ⟨1, _⟩ => show 0 + 1 * l.val = l.val; omega

theorem emb_R0 (l : Fin 512) : R0.emb (ix2 0 l : S1x512.Idx) = (ix2 0 l : S8x512.Idx) := by
  funext a; apply Fin.ext
  match a with
  | ⟨0, _⟩ => rfl
  | ⟨1, _⟩ => show 0 + 1 * l.val = l.val; omega

theorem not_R1 {r : Fin 8} (h : r ≠ 1) (l : Fin 512) : (ix2 r l : S8x512.Idx) ∉ R1.set := by
  rw [Rect.mem_set_unit]
  intro hm
  have h0 : 1 ≤ r.val ∧ r.val < 1 + 1 := hm 0
  exact h (Fin.ext (by omega))

theorem not_R0 {r : Fin 8} (h : r ≠ 0) (l : Fin 512) : (ix2 r l : S8x512.Idx) ∉ R0.set := by
  rw [Rect.mem_set_unit]
  intro hm
  have h0 : 0 ≤ r.val ∧ r.val < 0 + 1 := hm 0
  exact h (Fin.ext (by omega))

/-- Two rows written over the accumulator, read back. -/
theorem read_two {v : View sig .tc .vmem S8x512 .f32} (f : v.ty.Contents (Elt Ideal)) (w3 w4 : S1x512.Idx → Elt Ideal .f32)
    (L : List (View.Piece (Elt Ideal) S8x512 .f32)) (r : Fin 8) (l : Fin 512) :
    v.read (Elt Ideal) (v.writes (Elt Ideal) f (⟨R1, w4⟩ :: ⟨R0, w3⟩ :: L)) (ix2 r l : S8x512.Idx)
      = rows (fun l => w3 (ix2 0 l : S1x512.Idx)) (fun l => w4 (ix2 0 l : S1x512.Idx))
          (fun r l => v.read (Elt Ideal) (v.writes (Elt Ideal) f L) (ix2 r l : S8x512.Idx)) r l := by
  unfold rows
  by_cases h1 : r = 1
  · subst h1
    rw [if_pos rfl, ← emb_R1, View.read_writes_cons_emb]
  · rw [if_neg h1, View.writes_cons, View.read_slice_write_of_not_mem R1 _ _ _ (by rw [Rect.map_emb_univ]; exact not_R1 h1 l)]
    by_cases h0 : r = 0
    · subst h0
      rw [if_pos rfl, ← emb_R0, View.read_writes_cons_emb]
    · rw [if_neg h0, View.writes_cons, View.read_slice_write_of_not_mem R0 _ _ _ (by rw [Rect.map_emb_univ]; exact not_R0 h0 l)]

/-- and over contents that a whole store has left. -/
theorem canon_two {v : View sig .tc .vmem S8x512 .f32} (w3 w4 : S1x512.Idx → Elt Ideal .f32)
    (L : List (View.Piece (Elt Ideal) S8x512 .f32)) (r : Fin 8) (l : Fin 512) :
    View.canon (⟨R1, w4⟩ :: ⟨R0, w3⟩ :: L) (ix2 r l : S8x512.Idx)
      = rows (fun l => w3 (ix2 0 l : S1x512.Idx)) (fun l => w4 (ix2 0 l : S1x512.Idx))
          (fun r l => View.canon L (ix2 r l : S8x512.Idx)) r l := by
  rw [← View.read_writes_junk_apply_eq_canon v]
  refine (read_two v.junk w3 w4 L r l).trans ?_
  rw [View.read_writes_junk_eq_canon]

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem tlt (t : Fin cfg0.N) (n : Fin 1000) : t.val * 1000 + n.val < 10000 := by
  have h := t.isLt
  have hN : cfg0.N = 10 := N_0
  have := n.isLt
  omega

theorem emb0 (t : Fin cfg0.N) (j : S1000x512.Idx) : ((cfg0.win 0).blk t).view.emb j
    = (ix2 ⟨t.val * 1000 + (j 0).val, tlt t (j 0)⟩ (j 1) : S10000x512.Idx) := by
  obtain ⟨e0, e1⟩ := idx0 t
  funext a; apply Fin.ext
  match a with
  | ⟨0, _⟩ => show win0_0.index t (0 : Fin 2) * 1000 + 1 * (j 0).val = t.val * 1000 + (j 0).val; omega
  | ⟨1, _⟩ => show win0_0.index t (1 : Fin 2) * 512 + 1 * (j 1).val = (j 1).val; omega

theorem emb1 (t : Fin cfg0.N) (j : S1000x512.Idx) : ((cfg0.win 1).blk t).view.emb j
    = (ix2 ⟨t.val * 1000 + (j 0).val, tlt t (j 0)⟩ (j 1) : S10000x512.Idx) := by
  obtain ⟨e0, e1⟩ := idx1 t
  funext a; apply Fin.ext
  match a with
  | ⟨0, _⟩ => show win0_1.index t (0 : Fin 2) * 1000 + 1 * (j 0).val = t.val * 1000 + (j 0).val; omega
  | ⟨1, _⟩ => show win0_1.index t (1 : Fin 2) * 512 + 1 * (j 1).val = (j 1).val; omega

theorem emb2 (t : Fin cfg0.N) (j : S1000x512.Idx) : ((cfg0.win 2).blk t).view.emb j
    = (ix2 ⟨t.val * 1000 + (j 0).val, tlt t (j 0)⟩ (j 1) : S10000x512.Idx) := by
  obtain ⟨e0, e1⟩ := idx2 t
  funext a; apply Fin.ext
  match a with
  | ⟨0, _⟩ => show win0_2.index t (0 : Fin 2) * 1000 + 1 * (j 0).val = t.val * 1000 + (j 0).val; omega
  | ⟨1, _⟩ => show win0_2.index t (1 : Fin 2) * 512 + 1 * (j 1).val = (j 1).val; omega

abbrev A (c : Dev nD) : FVec Ideal S10000x512 .f32 := m ((c : Thread nD τ).loc main_arg0)
abbrev B (c : Dev nD) : FVec Ideal S10000x512 .f32 := m ((c : Thread nD τ).loc main_arg1)

/-- What a point computes of its two blocks is its block of the whole positive part. -/
theorem pay_eq (c : Dev nD) (t : Fin cfg0.N) (n : Fin 1000) (l : Fin 512) :
    k0_pay1 (F := Ideal) (iblk0 (V0 m ρ) c 0 t) (iblk0 (V0 m ρ) c 1 t) (ix2 n l : S1000x512.Idx)
      = GH (A m c) (B m c) (ix2 ⟨t.val * 1000 + n.val, tlt t n⟩ l : S10000x512.Idx) := by
  refine (pay1_apply _ _ n l).trans ((GH_apply _ _ _ l).trans ?_).symm
  have e0 : iblk0 (V0 m ρ) c 0 t (ix2 n l : S1000x512.Idx) = A m c (ix2 ⟨t.val * 1000 + n.val, tlt t n⟩ l : S10000x512.Idx) := by
    show A m c (((cfg0.win 0).blk t).view.emb (ix2 n l : S1000x512.Idx)) = _
    rw [emb0]; rfl
  have e1 : iblk0 (V0 m ρ) c 1 t (ix2 n l : S1000x512.Idx) = B m c (ix2 ⟨t.val * 1000 + n.val, tlt t n⟩ l : S10000x512.Idx) := by
    show B m c (((cfg0.win 1).blk t).view.emb (ix2 n l : S1000x512.Idx)) = _
    rw [emb1]; rfl
  exact (congrArg₂ (fun x y : EReal => max (x + y) 0) e0 e1).symm

/-- The addend of a point: its column sums and column sums of squares. -/
def term (h : FVec Ideal S10000x512 .f32) (t : Fin cfg0.N) (j : S8x512.Idx) : EReal :=
  rows (fun l => ∑ n : Fin 1000, h (ix2 ⟨t.val * 1000 + n.val, tlt t n⟩ l : S10000x512.Idx))
    (fun l => ∑ n : Fin 1000, h (ix2 ⟨t.val * 1000 + n.val, tlt t n⟩ l : S10000x512.Idx)
      * h (ix2 ⟨t.val * 1000 + n.val, tlt t n⟩ l : S10000x512.Idx)) (fun _ _ => 0) (j 0) (j 1)

theorem rows_add (p q : Fin 512 → EReal) (X : FVec Ideal S8x512 .f32) (r : Fin 8) (l : Fin 512) :
    rows (fun l => X (ix2 0 l : S8x512.Idx) + p l) (fun l => X (ix2 1 l : S8x512.Idx) + q l)
        (fun r l => X (ix2 r l : S8x512.Idx)) r l
      = X (ix2 r l : S8x512.Idx) + rows p q (fun _ _ => 0) r l := by
  unfold rows
  by_cases h1 : r = 1
  · subst h1; rw [if_pos rfl, if_pos rfl]
  · rw [if_neg h1, if_neg h1]
    by_cases h0 : r = 0
    · subst h0; rw [if_pos rfl, if_pos rfl]
    · rw [if_neg h0, if_neg h0, add_zero]

theorem ld_row0 (X : FVec Ideal S8x512 .f32) (l : Fin 512) :
    View.ld (Val := Elt Ideal) (e' := .f32) X R0 (ix2 0 l : S1x512.Idx) = X (ix2 0 l : S8x512.Idx) :=
  congrArg X (emb_R0 l)

theorem ld_row1 (X : FVec Ideal S8x512 .f32) (l : Fin 512) :
    View.ld (Val := Elt Ideal) (e' := .f32) X R1 (ix2 0 l : S1x512.Idx) = X (ix2 1 l : S8x512.Idx) :=
  congrArg X (emb_R1 l)

theorem zero_apply (j : S8x512.Idx) : k0_pay2 (F := Ideal) j = (0 : EReal) := by
  pointwise [k0_pay2]

theorem stepB (c : Dev nD) (t : Fin cfg0.N) (h : ¬ t.val % 10 = 0) (j : S8x512.Idx) :
    (outsAt0 (V0 m ρ) c t.val t.isLt).2 j = (outsAt0 (V0 m ρ) c (t.val - 1) (Nat.lt_of_le_of_lt (Nat.sub_le _ _) t.isLt)).2 j
      + term (GH (A m c) (B m c)) t j := by
  obtain ⟨r, l, rfl⟩ : ∃ (r : Fin 8) (l : Fin 512), j = ix2 r l := ⟨j 0, j 1, eq_ix2 j⟩
  rw [outsAt0_B (V0 m ρ) c t h]
  frame_out
  refine (read_two _ _ _ [] r l).trans ?_
  refine Eq.trans ?_ (rows_add _ _ _ r l)
  congr 1
  · funext l
    refine (pay3_apply _ _ _ l).trans ?_
    rw [ld_row0]
    exact congrArg _ (Finset.sum_congr rfl fun n _ => pay_eq m ρ c t n l)
  · funext l
    refine (pay4_apply _ _ _ l).trans ?_
    rw [ld_row1]
    exact congrArg _ (Finset.sum_congr rfl fun n _ => by rw [pay_eq m ρ c t n l])
  · funext r l
    rw [View.writes_nil, (hs0_3 t).read_unread]

theorem stepA (c : Dev nD) (t : Fin cfg0.N) (h : t.val % 10 = 0) (j : S8x512.Idx) :
    (outsAt0 (V0 m ρ) c t.val t.isLt).2 j = 0 + term (GH (A m c) (B m c)) t j := by
  obtain ⟨r, l, rfl⟩ : ∃ (r : Fin 8) (l : Fin 512), j = ix2 r l := ⟨j 0, j 1, eq_ix2 j⟩
  rw [outsAt0_A (V0 m ρ) c t h]
  frame_out
  simp (disch := decide) only [↓ View.readCov_skip, ↓ View.readCov_cons_toLoadRect, ↓ View.readCov_fill]
  refine (canon_two (v := (ms0_3 t).view) _ _ _ r l).trans ?_
  rw [← zero_apply (ix2 r l)]
  refine Eq.trans ?_ (rows_add _ _ _ r l)
  congr 1
  · funext l
    refine (pay3_apply _ _ _ l).trans ?_
    rw [ld_row0]
    exact congrArg _ (Finset.sum_congr rfl fun n _ => pay_eq m ρ c t n l)
  · funext l
    refine (pay4_apply _ _ _ l).trans ?_
    rw [ld_row1]
    exact congrArg _ (Finset.sum_congr rfl fun n _ => by rw [pay_eq m ρ c t n l])
  · funext r l
    rw [View.canon_cons_unit_lit _ _ _ (by decide)]

/-- The points' addends are the whole columns' sums. -/
theorem sum_term (h : FVec Ideal S10000x512 .f32) (j : S8x512.Idx) : 0 + ∑ t : Fin cfg0.N, term h t j = GS h j := by
  obtain ⟨r, l, rfl⟩ : ∃ (r : Fin 8) (l : Fin 512), j = ix2 r l := ⟨j 0, j 1, eq_ix2 j⟩
  rw [zero_add, GS_apply]
  have hN : cfg0.N = 10 := N_0
  unfold term rows
  show (∑ t : Fin cfg0.N, if r = 1 then _ else if r = 0 then _ else _) = _
  by_cases h1 : r = 1
  · simp only [if_pos h1]
    exact Fin.sum_mul_add_fin cfg0.N 1000 (fun n : Fin 10000 => h (ix2 n l : S10000x512.Idx) * h (ix2 n l : S10000x512.Idx)) (by rw [hN])
  · simp only [if_neg h1]
    by_cases h0 : r = 0
    · simp only [if_pos h0]
      exact Fin.sum_mul_add_fin cfg0.N 1000 (fun n : Fin 10000 => h (ix2 n l : S10000x512.Idx)) (by rw [hN])
    · simp only [if_neg h0, Finset.sum_const_zero]

theorem final3 (c : Dev nD) : (dat0 (V0 m ρ) c).arrAt 3 cfg0.N = GS (GH (A m c) (B m c)) := by
  refine (dat0 (V0 m ρ) c).arrAt_eq_of_after_last 3 t0_9 (by decide +kernel) _ fun j => ?_
  blk_simp
  rw [after0_3]
  refine Eq.trans ?_ (sum_term _ j)
  have hN : cfg0.N = 10 := N_0
  exact congrFun (Pipeline.eq_sum_fin_of_reset_step_last (fun n h => (outsAt0 (V0 m ρ) c n h).2) 10 (fun _ => (0 : EReal))
    (fun t j => term (GH (A m c) (B m c)) t j) (fun t h => funext (stepA m ρ c t h)) (fun t h => funext (stepB m ρ c t h))
    (by rw [hN]) t0_9 (by show 9 + 1 = cfg0.N; exact hN.symm)) j |>.trans (by rw [Pi.add_apply, Finset.sum_apply])

theorem flushed2_eq (c : Dev nD) (t : Fin cfg0.N) : (dat0 (V0 m ρ) c).flushed 2 t
    = ((cfg0.win 2).blk t).view.read (Elt Ideal) (GH (A m c) (B m c)) := by
  funext j
  show (dat0 (V0 m ρ) c).after 2 t (j : S1000x512.Idx) = GH _ _ (((cfg0.win 2).blk t).view.emb j)
  rw [after0_2, emb2]
  obtain ⟨n, l, rfl⟩ : ∃ (n : Fin 1000) (l : Fin 512), j = ix2 n l := ⟨j 0, j 1, eq_ix2 j⟩
  refine Eq.trans ?_ (pay_eq m ρ c t n l)
  by_cases h : t.val % 10 = 0
  · rw [outsAt0_A (V0 m ρ) c t h]
    frame_out
  · rw [outsAt0_B (V0 m ρ) c t h]
    frame_out

/-- The block of a row, and the row's place in it. -/
theorem split (i : S10000x512.Idx) : ∃ (t : Fin cfg0.N) (n : Fin 1000),
    i = (ix2 ⟨t.val * 1000 + n.val, tlt t n⟩ (i 1) : S10000x512.Idx) := by
  have h0 : (i 0).val < 10000 := (i 0).isLt
  have hN : cfg0.N = 10 := N_0
  refine ⟨⟨(i 0).val / 1000, by omega⟩, ⟨(i 0).val % 1000, Nat.mod_lt _ (by decide)⟩, ?_⟩
  funext a; apply Fin.ext
  match a with
  | ⟨0, _⟩ => show (i 0).val = (i 0).val / 1000 * 1000 + (i 0).val % 1000; omega
  | ⟨1, _⟩ => rfl

theorem covered2 (i : S10000x512.Idx) :
    ∃ t : Fin cfg0.N, (cfg0.win 2).flush t = true ∧ i ∈ ((cfg0.win 2).blk t).view.set := by
  obtain ⟨t, n, h⟩ := split i
  refine ⟨t, flush0_2 _, ?_⟩
  have hm := ((cfg0.win 2).blk t).view.emb_mem_set (ix2 n (i 1) : S1000x512.Idx)
  rw [emb2] at hm
  rw [h]; exact hm

theorem final2 (c : Dev nD) : (dat0 (V0 m ρ) c).arrAt 2 cfg0.N = GH (A m c) (B m c) :=
  (dat0 (V0 m ρ) c).arrAt_eq_of_cover 2 _ (fun t _ => flushed2_eq m ρ c t) covered2

end Cert.Proof.Between

end
-- ==== Proof.Norm.lean ====
/-
  The batch normalisation of one column, over the extended reals: the scale and the shift taken from the
  column's sum and its sum of squares give what the mean and the mean of the squared deviations give, where
  the column and the scale are finite.
-/
module

public import Idealize.ShloMosaic.PureOps.Ideal

@[expose] public section

noncomputable section

namespace Cert.Proof.Norm

open Idealize.ShloMosaic

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The number of rows. -/
abbrev rowsN : EReal := Ideal.ofBits .f32 0x461C4000#32
/-- What is added to the variance. -/
abbrev eps : EReal := Ideal.ofBits .f32 0x3727C5AC#32

theorem rowsN_eq : rowsN = ((10000 : ℝ) : EReal) := by
  simp [rowsN, Ideal.ofBits, Ideal.ieee]
  rw [← EReal.coe_mul]
  norm_num

theorem eps_pos : ∃ e : ℝ, 0 < e ∧ eps = (e : EReal) := by
  refine ⟨_, ?_, by simp [eps, Ideal.ofBits, Ideal.ieee]; rfl⟩
  norm_num

/-- A column's mean. -/
def mu (h : Fin 10000 → EReal) : EReal := Ideal.div (∑ n, h n) rowsN
/-- The mean of its squared deviations. -/
def var (h : Fin 10000 → EReal) : EReal := Ideal.div (∑ n, (h n - mu h) * (h n - mu h)) rowsN
/-- The scale, from the sum and the sum of squares. -/
def scale (s q g : EReal) : EReal :=
  g * Ideal.rsqrt (Ideal.div q rowsN - Ideal.div s rowsN * Ideal.div s rowsN + eps)
/-- An entry scaled and shifted, its positive part. -/
def affine (s q x g b : EReal) : EReal :=
  max (x * scale s q g + (b - Ideal.div s rowsN * scale s q g)) 0
/-- An entry normalised, its positive part. -/
def normed (h : Fin 10000 → EReal) (x g b : EReal) : EReal :=
  max (Ideal.div (x - mu h) (Ideal.sqrt (var h + eps)) * g + b) 0

theorem var_real (h : Fin 10000 → ℝ) (M : ℝ) (hM : M = (∑ n, h n) * (1 / 10000)) :
    (∑ n, h n * h n) * (1 / 10000) - M * M = (∑ n, (h n - M) * (h n - M)) * (1 / 10000) := by
  have e : ∑ n, (h n - M) * (h n - M) = (∑ n, h n * h n) - 2 * M * (∑ n, h n) + 10000 * (M * M) := by
    simp only [show ∀ n, (h n - M) * (h n - M) = h n * h n - 2 * M * h n + M * M from fun n => by ring]
    rw [Finset.sum_add_distrib, Finset.sum_sub_distrib, ← Finset.mul_sum]
    simp
  rw [e]
  generalize (∑ n, h n) = S at hM
  generalize (∑ n, h n * h n) = Q
  subst hM
  ring

theorem affine_eq (h : Fin 10000 → ℝ) (x g : ℝ) (b : EReal) :
    affine (∑ n, (h n : EReal)) (∑ n, (h n : EReal) * (h n : EReal)) x g b = normed (fun n => (h n : EReal)) x g b := by
  obtain ⟨e, he, hE⟩ := eps_pos
  have h0 : (10000 : ℝ) ≠ 0 := by norm_num
  set M : ℝ := (∑ n, h n) * (1 / 10000) with hM
  have m1 : Ideal.div (∑ n, (h n : EReal)) rowsN = (M : EReal) := by
    rw [rowsN_eq, Ideal.div_coe h0, coe_sum, ← EReal.coe_mul]
  have m2 : Ideal.div (∑ n, (h n : EReal) * (h n : EReal)) rowsN = (((∑ n, h n * h n) * (1 / 10000) : ℝ) : EReal) := by
    simp only [← EReal.coe_mul]
    rw [rowsN_eq, Ideal.div_coe h0, coe_sum, ← EReal.coe_mul]
  have m3 : mu (fun n => (h n : EReal)) = (M : EReal) := m1
  set v : ℝ := (∑ n, (h n - M) * (h n - M)) * (1 / 10000) with hv
  have v0 : 0 ≤ v := mul_nonneg (Finset.sum_nonneg fun n _ => mul_self_nonneg _) (by norm_num)
  have m4 : var (fun n => (h n : EReal)) = (v : EReal) := by
    unfold var
    rw [m3]
    simp only [← EReal.coe_sub, ← EReal.coe_mul]
    rw [rowsN_eq, Ideal.div_coe h0, coe_sum, ← EReal.coe_mul]
  have hp : 0 < v + e := by linarith
  have hs : Real.sqrt (v + e) ≠ 0 := (Real.sqrt_pos.2 hp).ne'
  have sc : scale (∑ n, (h n : EReal)) (∑ n, (h n : EReal) * (h n : EReal)) g = ((g * (Real.sqrt (v + e))⁻¹ : ℝ) : EReal) := by
    unfold scale
    rw [m1, m2, hE, ← EReal.coe_mul, ← EReal.coe_sub, ← EReal.coe_add, var_real h M hM, ← hv, Ideal.rsqrt_coe, if_neg hp.le.not_gt,
      if_neg hp.ne', ← EReal.coe_mul]
  unfold affine normed
  rw [sc, m1, m3, m4, hE, ← EReal.coe_add, Ideal.sqrt_coe, if_neg hp.le.not_gt, Ideal.div_coe hs, ← EReal.coe_sub, ← EReal.coe_mul,
    ← EReal.coe_mul, ← EReal.coe_mul, ← EReal.coe_mul]
  congr 1
  induction b with
  | bot => simp
  | coe b =>
    rw [← EReal.coe_sub, ← EReal.coe_add, ← EReal.coe_add]
    congr 1
    ring
  | top => rw [EReal.top_sub_coe, EReal.coe_add_top, EReal.coe_add_top]

end Cert.Proof.Norm

end
-- ==== Proof.BetweenRef.lean ====
/-
  The batch normalisation between two layers as the reference computes it, entry by entry: the mean of a
  column, the mean of its squared deviations, and what the products are taken of.
-/
module

public import proofs.«01_k».proof.Proof.Gen.BetweenReferenceIdeal.Run
public import proofs.«01_k».proof.Proof.Norm
public import Idealize.ShloMosaic.PureOps.Ideal
public import Idealize.ShloMosaic.Lib.Pointwise

@[expose] public section

noncomputable section

namespace Cert.Proof.BetweenRef

open Cert.BetweenReferenceIdeal
open Idealize.ShloMosaic Idealize.ShloMosaic.TcCoe Idealize.SL.Sem

/-- The column sums. -/
def SUM (h : FVec Ideal S10000x512 .f32) : FVec Ideal S512 .f32 :=
  Host.reduceAdd (F := Ideal) h (constant (F := Ideal) S_ .f32 0x00000000#32) Gen.facts.reducesTo_S10000x512_S512_d0 Gen.facts.h_S_

/-- The column means. -/
def MEAN (h : FVec Ideal S10000x512 .f32) : FVec Ideal S512 .f32 :=
  Host.divf (F := Ideal) (φ := .f32) (SUM h) (broadcastInDim S512 ![] Gen.facts.bcast_S_S512 (constant (F := Ideal) S_ .f32 0x461C4000#32))

/-- The entries less their columns' means. -/
def DEV (h : FVec Ideal S10000x512 .f32) : FVec Ideal S10000x512 .f32 :=
  subf (F := Ideal) (φ := .f32) h (broadcastInDim S10000x512 ![0, 1] Gen.facts.bcast_S1x512_S10000x512_0_1
    (Host.divf (F := Ideal) (φ := .f32) (broadcastInDim S1x512 ![1] Gen.facts.bcast_S512_S1x512_1 (SUM h))
      (broadcastInDim S1x512 ![] Gen.facts.bcast_S_S1x512 (constant (F := Ideal) S_ .f32 0x461C4000#32))))

/-- The number of rows the sum of squares is divided by. -/
def CNT : FVec Ideal S_ .f32 :=
  subf (F := Ideal) (φ := .f32) (constant (F := Ideal) S_ .f32 0x461C4000#32) (sitofp (F := Ideal) .f32 (constantI S_ 32 0#32))

/-- The column variances. -/
def VAR (h : FVec Ideal S10000x512 .f32) : FVec Ideal S512 .f32 :=
  select (broadcastInDim S512 ![] Gen.facts.bcast_S_S512
      (cmpf (F := Ideal) (φ := .f32) .ogt CNT (constant (F := Ideal) S_ .f32 0x00000000#32)))
    (Host.divf (F := Ideal) (φ := .f32)
      (Host.reduceAdd (F := Ideal) (mulf (F := Ideal) (φ := .f32) (DEV h) (DEV h)) (constant (F := Ideal) S_ .f32 0x00000000#32)
        Gen.facts.reducesTo_S10000x512_S512_d0 Gen.facts.h_S_)
      (broadcastInDim S512 ![] Gen.facts.bcast_S_S512 CNT))
    (broadcastInDim S512 ![] Gen.facts.bcast_S_S512 (id (constant (F := Ideal) S_ .f32 0x7FC00000#32)))

/-- The normalised entries, their positive part. -/
def Z (h : FVec Ideal S10000x512 .f32) (g t : FVec Ideal S512 .f32) : FVec Ideal S10000x512 .f32 :=
  maximumf (F := Ideal) (φ := .f32) (addf (F := Ideal) (φ := .f32) (mulf (F := Ideal) (φ := .f32) (Host.divf (F := Ideal) (φ := .f32)
    (subf (F := Ideal) (φ := .f32) h (broadcastInDim S10000x512 ![0, 1] Gen.facts.bcast_S1x512_S10000x512_0_1
      (broadcastInDim S1x512 ![1] Gen.facts.bcast_S512_S1x512_1 (MEAN h))))
    (broadcastInDim S10000x512 ![0, 1] Gen.facts.bcast_S1x512_S10000x512_0_1 (broadcastInDim S1x512 ![1] Gen.facts.bcast_S512_S1x512_1
      (Host.sqrt (F := Ideal) (φ := .f32) (addf (F := Ideal) (φ := .f32) (VAR h)
        (broadcastInDim S512 ![] Gen.facts.bcast_S_S512 (constant (F := Ideal) S_ .f32 0x3727C5AC#32)))))))
    (broadcastInDim S10000x512 ![0, 1] Gen.facts.bcast_S1x512_S10000x512_0_1 (broadcastInDim S1x512 ![1] Gen.facts.bcast_S512_S1x512_1 g)))
    (broadcastInDim S10000x512 ![0, 1] Gen.facts.bcast_S1x512_S10000x512_0_1 (broadcastInDim S1x512 ![1] Gen.facts.bcast_S512_S1x512_1 t)))
    (broadcastInDim S10000x512 ![] Gen.facts.bcast_S_S10000x512 (constant (F := Ideal) S_ .f32 0x00000000#32))

/-- The product with the upper half of the weights less the lower half, and the bias. -/
def OUT0 (y : FVec Ideal S10000x512 .f32) (w : FVec Ideal S1024x512 .f32) (b : FVec Ideal S512 .f32) : FVec Ideal S10000x512 .f32 :=
  addf (F := Ideal) (φ := .f32) (Host.dotGeneral (F := Ideal) dot_S10000x512_S512x512_S10000x512_1_0_0_1_n_n none y
      (subf (F := Ideal) (φ := .f32) (extractStridedSlice S512x512 ![0, 0] w Gen.facts.slices_S1024x512_S512x512_0_0)
        (extractStridedSlice S512x512 ![512, 0] w Gen.facts.slices_S1024x512_S512x512_512_0)))
    (broadcastInDim S10000x512 ![0, 1] Gen.facts.bcast_S1x512_S10000x512_0_1 (broadcastInDim S1x512 ![1] Gen.facts.bcast_S512_S1x512_1 b))

/-- The product with the lower half of the weights. -/
def OUT1 (y : FVec Ideal S10000x512 .f32) (w : FVec Ideal S1024x512 .f32) : FVec Ideal S10000x512 .f32 :=
  Host.dotGeneral (F := Ideal) dot_S10000x512_S512x512_S10000x512_1_0_0_1_n_n none y
    (extractStridedSlice S512x512 ![512, 0] w Gen.facts.slices_S1024x512_S512x512_512_0)

theorem sitofp_zero : FloatOps.sitofp (F := Ideal) (w := 32) FTy.f32 0#32 = (0 : EReal) := by
  show (((0#32 : BitVec 32).toInt : ℝ) : EReal) = 0
  simp

theorem CNT_apply (j : S_.Idx) : CNT j = Norm.rowsN := by
  show Norm.rowsN - FloatOps.sitofp (F := Ideal) (w := 32) FTy.f32 0#32 = Norm.rowsN
  rw [sitofp_zero]; simp

set_option maxRecDepth 16384 in
theorem SUM_apply (h : FVec Ideal S10000x512 .f32) (l : Fin 512) :
    SUM h (ix1 l : S512.Idx) = ∑ n : Fin 10000, h (ix2 n l : S10000x512.Idx) := by
  pointwise [SUM]

set_option maxRecDepth 16384 in
theorem MEAN_apply (h : FVec Ideal S10000x512 .f32) (l : Fin 512) :
    MEAN h (ix1 l : S512.Idx) = Norm.mu (fun n => h (ix2 n l : S10000x512.Idx)) := by
  unfold Norm.mu
  rw [← SUM_apply]
  pointwise [MEAN]

set_option maxRecDepth 16384 in
theorem DEV_apply (h : FVec Ideal S10000x512 .f32) (n : Fin 10000) (l : Fin 512) :
    DEV h (ix2 n l : S10000x512.Idx) = h (ix2 n l : S10000x512.Idx) - Norm.mu (fun n => h (ix2 n l : S10000x512.Idx)) := by
  unfold Norm.mu
  rw [← SUM_apply]
  pointwise [DEV]

set_option maxRecDepth 16384 in
theorem VAR_apply (h : FVec Ideal S10000x512 .f32) (l : Fin 512) :
    VAR h (ix1 l : S512.Idx) = Norm.var (fun n => h (ix2 n l : S10000x512.Idx)) := by
  unfold Norm.var
  simp only [← DEV_apply]
  pointwise [VAR]
  rw [CNT_apply, if_pos (by rw [Norm.rowsN_eq]; exact EReal.coe_pos.2 (by norm_num))]

set_option maxRecDepth 16384 in
theorem Z_apply (h : FVec Ideal S10000x512 .f32) (g t : FVec Ideal S512 .f32) (n : Fin 10000) (l : Fin 512) :
    Z h g t (ix2 n l : S10000x512.Idx)
      = Norm.normed (fun n => h (ix2 n l : S10000x512.Idx)) (h (ix2 n l : S10000x512.Idx)) (g (ix1 l : S512.Idx)) (t (ix1 l : S512.Idx)) := by
  unfold Norm.normed
  rw [← VAR_apply, ← MEAN_apply]
  pointwise [Z]

end Cert.Proof.BetweenRef

end
-- ==== Proof.Between.lean ====
/-
  The two calls between two layers, one after the other: the second takes the first's positive part and
  its column sums, normalises, and multiplies by the weights of the layer that follows.
-/
module

public import proofs.«01_k».proof.Proof.BetweenEpi
public import proofs.«01_k».proof.Proof.BetweenRef

@[expose] public section

noncomputable section

namespace Cert.Proof.Between

open Cert.BetweenIdeal Cert.BetweenIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

abbrev Gm (c : Dev nD) : FVec Ideal S512 .f32 := m ((c : Thread nD τ).loc main_arg2)
abbrev Bt (c : Dev nD) : FVec Ideal S512 .f32 := m ((c : Thread nD τ).loc main_arg3)
abbrev Wt (c : Dev nD) : FVec Ideal S1024x512 .f32 := m ((c : Thread nD τ).loc main_arg4)
abbrev Bs (c : Dev nD) : FVec Ideal S512 .f32 := m ((c : Thread nD τ).loc main_arg5)

/-! What the second call is entered with. -/

theorem V_h (c : Dev nD) : V2 m ρ c main_v0_0 = GH (A m c) (B m c) :=
  (W2_of m ρ c main_v0_0 (by decide)).trans ((W1_arr m ρ c 2).trans (final2 m ρ c))

theorem V_s (c : Dev nD) : V2 m ρ c main_v0_1 = GS (GH (A m c) (B m c)) :=
  (W2_of m ρ c main_v0_1 (by decide)).trans ((W1_arr m ρ c 3).trans (final3 m ρ c))

theorem V_wd (c : Dev nD) : V2 m ρ c main_v3
    = subf (F := Ideal) (φ := .f32) (extractStridedSlice S512x512 ![0, 0] (Wt m c) slices_S1024x512_S512x512_0_0)
        (extractStridedSlice S512x512 ![512, 0] (Wt m c) slices_S1024x512_S512x512_512_0) := by
  show StableHlo.after hostOps1 (W1 m ρ c) (Proc.devRef .tc main_v3) = _
  after_results
  rw [W1_args m ρ c main_arg4 (by decide)]

theorem V_wb (c : Dev nD) : V2 m ρ c main_v4 = extractStridedSlice S512x512 ![512, 0] (Wt m c) slices_S1024x512_S512x512_512_0 := by
  show StableHlo.after hostOps1 (W1 m ρ c) (Proc.devRef .tc main_v4) = _
  after_results
  rw [W1_args m ρ c main_arg4 (by decide)]

theorem V_b (c : Dev nD) : V2 m ρ c main_v5 = shapeCast S1x512 (Bs m c) shapeCasts_S512_S1x512 := by
  show StableHlo.after hostOps1 (W1 m ρ c) (Proc.devRef .tc main_v5) = _
  after_results
  rw [W1_args m ρ c main_arg5 (by decide)]
  rfl

theorem V_g (c : Dev nD) : V2 m ρ c main_v6 = shapeCast S1x512 (Gm m c) shapeCasts_S512_S1x512 := by
  show StableHlo.after hostOps1 (W1 m ρ c) (Proc.devRef .tc main_v6) = _
  after_results
  rw [W1_args m ρ c main_arg2 (by decide)]
  rfl

theorem V_t (c : Dev nD) : V2 m ρ c main_v7 = shapeCast S1x512 (Bt m c) shapeCasts_S512_S1x512 := by
  show StableHlo.after hostOps1 (W1 m ρ c) (Proc.devRef .tc main_v7) = _
  after_results
  rw [W1_args m ρ c main_arg3 (by decide)]
  rfl

/-! The blocks of the second call. -/

theorem i0 : ∀ t : Fin cfg1.N, win1_0.index t (0 : Fin 2) = t.val ∧ win1_0.index t (1 : Fin 2) = 0 :=
  (by decide +kernel : ∀ t : Fin grid1.N, _)
theorem i1 : ∀ t : Fin cfg1.N, win1_1.index t (0 : Fin 2) = 0 ∧ win1_1.index t (1 : Fin 2) = 0 :=
  (by decide +kernel : ∀ t : Fin grid1.N, _)
theorem i2 : ∀ t : Fin cfg1.N, win1_2.index t (0 : Fin 2) = 0 ∧ win1_2.index t (1 : Fin 2) = 0 :=
  (by decide +kernel : ∀ t : Fin grid1.N, _)
theorem i3 : ∀ t : Fin cfg1.N, win1_3.index t (0 : Fin 2) = 0 ∧ win1_3.index t (1 : Fin 2) = 0 :=
  (by decide +kernel : ∀ t : Fin grid1.N, _)
theorem i4 : ∀ t : Fin cfg1.N, win1_4.index t (0 : Fin 2) = 0 ∧ win1_4.index t (1 : Fin 2) = 0 :=
  (by decide +kernel : ∀ t : Fin grid1.N, _)
theorem i5 : ∀ t : Fin cfg1.N, win1_5.index t (0 : Fin 2) = 0 ∧ win1_5.index t (1 : Fin 2) = 0 :=
  (by decide +kernel : ∀ t : Fin grid1.N, _)
theorem i6 : ∀ t : Fin cfg1.N, win1_6.index t (0 : Fin 2) = 0 ∧ win1_6.index t (1 : Fin 2) = 0 :=
  (by decide +kernel : ∀ t : Fin grid1.N, _)
theorem i7 : ∀ t : Fin cfg1.N, win1_7.index t (0 : Fin 2) = t.val ∧ win1_7.index t (1 : Fin 2) = 0 :=
  (by decide +kernel : ∀ t : Fin grid1.N, _)
theorem i8 : ∀ t : Fin cfg1.N, win1_8.index t (0 : Fin 2) = t.val ∧ win1_8.index t (1 : Fin 2) = 0 :=
  (by decide +kernel : ∀ t : Fin grid1.N, _)

theorem tlt1 (t : Fin cfg1.N) (n : Fin 1000) : t.val * 1000 + n.val < 10000 := by
  have h := t.isLt
  have hN : cfg1.N = 10 := N_1
  have := n.isLt
  omega

theorem e1 (t : Fin cfg1.N) (j : S8x512.Idx) : ((cfg1.win 1).blk t).view.emb j = j := by
  obtain ⟨e0, e1⟩ := i1 t
  funext a; apply Fin.ext
  match a with
  | ⟨0, _⟩ => show win1_1.index t (0 : Fin 2) * 8 + 1 * (j 0).val = (j 0).val; omega
  | ⟨1, _⟩ => show win1_1.index t (1 : Fin 2) * 512 + 1 * (j 1).val = (j 1).val; omega

theorem e2 (t : Fin cfg1.N) (j : S1x512.Idx) : ((cfg1.win 2).blk t).view.emb j = j := by
  obtain ⟨e0, e1⟩ := i2 t
  funext a; apply Fin.ext
  match a with
  | ⟨0, _⟩ => show win1_2.index t (0 : Fin 2) * 1 + 1 * (j 0).val = (j 0).val; omega
  | ⟨1, _⟩ => show win1_2.index t (1 : Fin 2) * 512 + 1 * (j 1).val = (j 1).val; omega

theorem e3 (t : Fin cfg1.N) (j : S1x512.Idx) : ((cfg1.win 3).blk t).view.emb j = j := by
  obtain ⟨e0, e1⟩ := i3 t
  funext a; apply Fin.ext
  match a with
  | ⟨0, _⟩ => show win1_3.index t (0 : Fin 2) * 1 + 1 * (j 0).val = (j 0).val; omega
  | ⟨1, _⟩ => show win1_3.index t (1 : Fin 2) * 512 + 1 * (j 1).val = (j 1).val; omega

theorem e4 (t : Fin cfg1.N) (j : S512x512.Idx) : ((cfg1.win 4).blk t).view.emb j = j := by
  obtain ⟨e0, e1⟩ := i4 t
  funext a; apply Fin.ext
  match a with
  | ⟨0, _⟩ => show win1_4.index t (0 : Fin 2) * 512 + 1 * (j 0).val = (j 0).val; omega
  | ⟨1, _⟩ => show win1_4.index t (1 : Fin 2) * 512 + 1 * (j 1).val = (j 1).val; omega

theorem e5 (t : Fin cfg1.N) (j : S512x512.Idx) : ((cfg1.win 5).blk t).view.emb j = j := by
  obtain ⟨e0, e1⟩ := i5 t
  funext a; apply Fin.ext
  match a with
  | ⟨0, _⟩ => show win1_5.index t (0 : Fin 2) * 512 + 1 * (j 0).val = (j 0).val; omega
  | ⟨1, _⟩ => show win1_5.index t (1 : Fin 2) * 512 + 1 * (j 1).val = (j 1).val; omega

theorem e6 (t : Fin cfg1.N) (j : S1x512.Idx) : ((cfg1.win 6).blk t).view.emb j = j := by
  obtain ⟨e0, e1⟩ := i6 t
  funext a; apply Fin.ext
  match a with
  | ⟨0, _⟩ => show win1_6.index t (0 : Fin 2) * 1 + 1 * (j 0).val = (j 0).val; omega
  | ⟨1, _⟩ => show win1_6.index t (1 : Fin 2) * 512 + 1 * (j 1).val = (j 1).val; omega

theorem e0 (t : Fin cfg1.N) (j : S1000x512.Idx) : ((cfg1.win 0).blk t).view.emb j
    = (ix2 ⟨t.val * 1000 + (j 0).val, tlt1 t (j 0)⟩ (j 1) : S10000x512.Idx) := by
  obtain ⟨e0, e1⟩ := i0 t
  funext a; apply Fin.ext
  match a with
  | ⟨0, _⟩ => show win1_0.index t (0 : Fin 2) * 1000 + 1 * (j 0).val = t.val * 1000 + (j 0).val; omega
  | ⟨1, _⟩ => show win1_0.index t (1 : Fin 2) * 512 + 1 * (j 1).val = (j 1).val; omega

theorem e7 (t : Fin cfg1.N) (j : S1000x512.Idx) : ((cfg1.win 7).blk t).view.emb j
    = (ix2 ⟨t.val * 1000 + (j 0).val, tlt1 t (j 0)⟩ (j 1) : S10000x512.Idx) := by
  obtain ⟨e0, e1⟩ := i7 t
  funext a; apply Fin.ext
  match a with
  | ⟨0, _⟩ => show win1_7.index t (0 : Fin 2) * 1000 + 1 * (j 0).val = t.val * 1000 + (j 0).val; omega
  | ⟨1, _⟩ => show win1_7.index t (1 : Fin 2) * 512 + 1 * (j 1).val = (j 1).val; omega

theorem e8 (t : Fin cfg1.N) (j : S1000x512.Idx) : ((cfg1.win 8).blk t).view.emb j
    = (ix2 ⟨t.val * 1000 + (j 0).val, tlt1 t (j 0)⟩ (j 1) : S10000x512.Idx) := by
  obtain ⟨e0, e1⟩ := i8 t
  funext a; apply Fin.ext
  match a with
  | ⟨0, _⟩ => show win1_8.index t (0 : Fin 2) * 1000 + 1 * (j 0).val = t.val * 1000 + (j 0).val; omega
  | ⟨1, _⟩ => show win1_8.index t (1 : Fin 2) * 512 + 1 * (j 1).val = (j 1).val; omega

theorem b0 (c : Dev nD) (t : Fin cfg1.N) : iblk1 (V2 m ρ) c 0 t
    = fun j : S1000x512.Idx => V2 m ρ c main_v0_0 (ix2 ⟨t.val * 1000 + (j 0).val, tlt1 t (j 0)⟩ (j 1) : S10000x512.Idx) := by
  funext j
  show V2 m ρ c main_v0_0 (((cfg1.win 0).blk t).view.emb j) = _
  rw [e0]

theorem b1 (c : Dev nD) (t : Fin cfg1.N) : iblk1 (V2 m ρ) c 1 t = V2 m ρ c main_v0_1 := by
  funext j; show V2 m ρ c main_v0_1 (((cfg1.win 1).blk t).view.emb j) = V2 m ρ c main_v0_1 j; rw [e1]

theorem b2 (c : Dev nD) (t : Fin cfg1.N) : iblk1 (V2 m ρ) c 2 t = V2 m ρ c main_v6 := by
  funext j; show V2 m ρ c main_v6 (((cfg1.win 2).blk t).view.emb j) = V2 m ρ c main_v6 j; rw [e2]

theorem b3 (c : Dev nD) (t : Fin cfg1.N) : iblk1 (V2 m ρ) c 3 t = V2 m ρ c main_v7 := by
  funext j; show V2 m ρ c main_v7 (((cfg1.win 3).blk t).view.emb j) = V2 m ρ c main_v7 j; rw [e3]

theorem b4 (c : Dev nD) (t : Fin cfg1.N) : iblk1 (V2 m ρ) c 4 t = V2 m ρ c main_v3 := by
  funext j; show V2 m ρ c main_v3 (((cfg1.win 4).blk t).view.emb j) = V2 m ρ c main_v3 j; rw [e4]

theorem b5 (c : Dev nD) (t : Fin cfg1.N) : iblk1 (V2 m ρ) c 5 t = V2 m ρ c main_v4 := by
  funext j; show V2 m ρ c main_v4 (((cfg1.win 5).blk t).view.emb j) = V2 m ρ c main_v4 j; rw [e5]

theorem b6 (c : Dev nD) (t : Fin cfg1.N) : iblk1 (V2 m ρ) c 6 t = V2 m ρ c main_v5 := by
  funext j; show V2 m ρ c main_v5 (((cfg1.win 6).blk t).view.emb j) = V2 m ρ c main_v5 j; rw [e6]

/-! What a point computes. -/

set_option maxRecDepth 16384 in
theorem z_apply (s q g b : FVec Ideal S1x512 .f32) (x : FVec Ideal S1000x512 .f32) (n : Fin 1000) (l : Fin 512) :
    k1_pay2 (F := Ideal) s q g b x (ix2 n l : S1000x512.Idx)
      = Norm.affine (s (ix2 0 l : S1x512.Idx)) (q (ix2 0 l : S1x512.Idx)) (x (ix2 n l : S1000x512.Idx))
          (g (ix2 0 l : S1x512.Idx)) (b (ix2 0 l : S1x512.Idx)) := by
  pointwise [k1_pay2, Norm.affine, Norm.scale]

set_option maxRecDepth 16384 in
/-- A row of a block's products is the row of the whole product at the block's place. -/
theorem out0_apply (s q g b : FVec Ideal S1x512 .f32) (x : FVec Ideal S1000x512 .f32) (t : Fin cfg1.N)
    (y : FVec Ideal S10000x512 .f32) (w : FVec Ideal S1024x512 .f32) (d : FVec Ideal S512 .f32)
    (h : k1_pay2 (F := Ideal) s q g b x = fun j : S1000x512.Idx => y (ix2 ⟨t.val * 1000 + (j 0).val, tlt1 t (j 0)⟩ (j 1) : S10000x512.Idx))
    (n : Fin 1000) (l : Fin 512) :
    k1_pay3 (F := Ideal) s q g b x
      (subf (F := Ideal) (φ := .f32) (extractStridedSlice S512x512 ![0, 0] w slices_S1024x512_S512x512_0_0)
        (extractStridedSlice S512x512 ![512, 0] w slices_S1024x512_S512x512_512_0))
      (shapeCast S1x512 d shapeCasts_S512_S1x512) (ix2 n l : S1000x512.Idx)
    = BetweenRef.OUT0 y w d (ix2 ⟨t.val * 1000 + n.val, tlt1 t n⟩ l : S10000x512.Idx) := by
  unfold k1_pay3
  rw [h]
  pointwise! [BetweenRef.OUT0]

set_option maxRecDepth 16384 in
theorem out1_apply (t : Fin cfg1.N) (y : FVec Ideal S10000x512 .f32) (w : FVec Ideal S1024x512 .f32) (n : Fin 1000) (l : Fin 512) :
    k1_pay1 (F := Ideal) (fun j : S1000x512.Idx => y (ix2 ⟨t.val * 1000 + (j 0).val, tlt1 t (j 0)⟩ (j 1) : S10000x512.Idx))
      (extractStridedSlice S512x512 ![512, 0] w slices_S1024x512_S512x512_512_0) (ix2 n l : S1000x512.Idx)
    = BetweenRef.OUT1 y w (ix2 ⟨t.val * 1000 + n.val, tlt1 t n⟩ l : S10000x512.Idx) := by
  pointwise! [k1_pay1, BetweenRef.OUT1]

theorem o7_eq (x0 : FVec Ideal S1000x512 .f32) (x1 : FVec Ideal S8x512 .f32) (x2 x3 : FVec Ideal S1x512 .f32) (x4 x5 : FVec Ideal S512x512 .f32)
    (x6 : FVec Ideal S1x512 .f32) : out1_7 (F := Ideal) x0 x1 x2 x3 x4 x5 x6
      = k1_pay3 (F := Ideal) (View.ld (Val := Elt Ideal) (e' := .f32) x1 r1_0) (View.ld (Val := Elt Ideal) (e' := .f32) x1 r1_1) x2 x3 x0 x4 x6 := by
  have hz : (![0, 0] : Fin 2 → Nat) = fun _ => 0 := funext fun a => by fin_cases a <;> rfl
  unfold out1_7 r1_2 r1_3 r1_4
  rw [View.canon_unit_zero hz, View.ld_unit_zero hz, View.ld_unit_zero hz, View.ld_unit_zero hz, View.ld_unit_zero hz, View.ld_unit_zero hz]

theorem o8_eq (x0 : FVec Ideal S1000x512 .f32) (x1 : FVec Ideal S8x512 .f32) (x2 x3 : FVec Ideal S1x512 .f32) (x4 x5 : FVec Ideal S512x512 .f32)
    (x6 : FVec Ideal S1x512 .f32) : out1_8 (F := Ideal) x0 x1 x2 x3 x4 x5 x6
      = k1_pay1 (F := Ideal) (k1_pay2 (F := Ideal) (View.ld (Val := Elt Ideal) (e' := .f32) x1 r1_0) (View.ld (Val := Elt Ideal) (e' := .f32) x1 r1_1) x2 x3 x0) x5 := by
  have hz : (![0, 0] : Fin 2 → Nat) = fun _ => 0 := funext fun a => by fin_cases a <;> rfl
  unfold out1_8 r1_2 r1_3 r1_4
  rw [View.canon_unit_zero hz, View.ld_unit_zero hz, View.ld_unit_zero hz, View.ld_unit_zero hz, View.ld_unit_zero hz]

/-! The first two rows of the sums, and the vectors laid as rows. -/

theorem ld_s (h : FVec Ideal S10000x512 .f32) (l : Fin 512) :
    View.ld (Val := Elt Ideal) (e' := .f32) (GS h) r1_0 (ix2 0 l : S1x512.Idx) = ∑ n : Fin 10000, h (ix2 n l : S10000x512.Idx) :=
  (ld_row0 (GS h) l).trans rfl

theorem ld_q (h : FVec Ideal S10000x512 .f32) (l : Fin 512) :
    View.ld (Val := Elt Ideal) (e' := .f32) (GS h) r1_1 (ix2 0 l : S1x512.Idx)
      = ∑ n : Fin 10000, h (ix2 n l : S10000x512.Idx) * h (ix2 n l : S10000x512.Idx) :=
  (ld_row1 (GS h) l).trans rfl

set_option maxRecDepth 16384 in
theorem row_apply (g : FVec Ideal S512 .f32) (l : Fin 512) :
    shapeCast S1x512 g shapeCasts_S512_S1x512 (ix2 0 l : S1x512.Idx) = g (ix1 l : S512.Idx) := by
  pointwise []

/-- Finite where the positive part and the scale are. -/
def Fin01 (c : Dev nD) : Prop :=
  (∀ i : S10000x512.Idx, A m c i ≠ (⊤ : EReal)) ∧ (∀ i : S10000x512.Idx, B m c i ≠ (⊤ : EReal))
    ∧ ∀ l : Fin 512, ∃ r : ℝ, Gm m c (ix1 l : S512.Idx) = (r : EReal)

variable {m} in
theorem h_real {c : Dev nD} (hf : Fin01 m c) (n : Fin 10000) (l : Fin 512) :
    ∃ r : ℝ, GH (A m c) (B m c) (ix2 n l : S10000x512.Idx) = (r : EReal) := by
  rw [GH_apply]
  have ha := hf.1 (ix2 n l : S10000x512.Idx)
  have hb := hf.2.1 (ix2 n l : S10000x512.Idx)
  generalize A m c (ix2 n l : S10000x512.Idx) = x at ha
  generalize B m c (ix2 n l : S10000x512.Idx) = y at hb
  have ht : (max (x + y) 0 : EReal) ≠ ⊤ := by
    rcases max_choice (x + y : EReal) 0 with e | e
    · rw [e]; exact EReal.add_ne_top ha hb
    · rw [e]; exact EReal.zero_ne_top
  have hb : (max (x + y) 0 : EReal) ≠ ⊥ := fun e => absurd (le_max_right (x + y : EReal) 0) (by rw [e]; simp)
  exact ⟨_, (EReal.coe_toReal ht hb).symm⟩

/-- The block a point normalises is its block of the whole normalised array. -/
theorem z_eq (c : Dev nD) (hf : Fin01 m c) (t : Fin cfg1.N) :
    k1_pay2 (F := Ideal) (View.ld (Val := Elt Ideal) (e' := .f32) (GS (GH (A m c) (B m c))) r1_0)
        (View.ld (Val := Elt Ideal) (e' := .f32) (GS (GH (A m c) (B m c))) r1_1)
        (shapeCast S1x512 (Gm m c) shapeCasts_S512_S1x512) (shapeCast S1x512 (Bt m c) shapeCasts_S512_S1x512)
        (fun j : S1000x512.Idx => GH (A m c) (B m c) (ix2 ⟨t.val * 1000 + (j 0).val, tlt1 t (j 0)⟩ (j 1) : S10000x512.Idx))
      = fun j : S1000x512.Idx => BetweenRef.Z (GH (A m c) (B m c)) (Gm m c) (Bt m c)
          (ix2 ⟨t.val * 1000 + (j 0).val, tlt1 t (j 0)⟩ (j 1) : S10000x512.Idx) := by
  funext j
  obtain ⟨n, l, rfl⟩ : ∃ (n : Fin 1000) (l : Fin 512), j = ix2 n l := ⟨j 0, j 1, eq_ix2 j⟩
  refine (z_apply _ _ _ _ _ n l).trans ?_
  refine Eq.trans ?_ (BetweenRef.Z_apply _ _ _ ⟨t.val * 1000 + n.val, tlt1 t n⟩ l).symm
  rw [ld_s, ld_q, row_apply, row_apply]
  obtain ⟨g, hg⟩ := hf.2.2 l
  have hr : ∃ r : Fin 10000 → ℝ, ∀ n, GH (A m c) (B m c) (ix2 n l : S10000x512.Idx) = (r n : EReal) :=
    ⟨fun n => (h_real hf n l).choose, fun n => (h_real hf n l).choose_spec⟩
  obtain ⟨r, hr⟩ := hr
  have e := Norm.affine_eq r (r ⟨t.val * 1000 + n.val, tlt1 t n⟩) g (Bt m c (ix1 l : S512.Idx))
  simp only [← hr] at e
  rw [hg]
  exact e

theorem flushed7_eq (c : Dev nD) (hf : Fin01 m c) (t : Fin cfg1.N) : (dat1 (V2 m ρ) c).flushed 7 t
    = ((cfg1.win 7).blk t).view.read (Elt Ideal) (BetweenRef.OUT0 (BetweenRef.Z (GH (A m c) (B m c)) (Gm m c) (Bt m c)) (Wt m c) (Bs m c)) := by
  funext j
  show (dat1 (V2 m ρ) c).after 7 t (j : S1000x512.Idx) = BetweenRef.OUT0 _ _ _ (((cfg1.win 7).blk t).view.emb j)
  rw [after1_7, e7]
  obtain ⟨n, l, rfl⟩ : ∃ (n : Fin 1000) (l : Fin 512), j = ix2 n l := ⟨j 0, j 1, eq_ix2 j⟩
  rw [b0, b1, b2, b3, b4, b5, b6, V_h, V_s, V_g, V_t, V_wd, V_wb, V_b, o7_eq]
  exact out0_apply _ _ _ _ _ t _ _ _ (z_eq m c hf t) n l

theorem flushed8_eq (c : Dev nD) (hf : Fin01 m c) (t : Fin cfg1.N) : (dat1 (V2 m ρ) c).flushed 8 t
    = ((cfg1.win 8).blk t).view.read (Elt Ideal) (BetweenRef.OUT1 (BetweenRef.Z (GH (A m c) (B m c)) (Gm m c) (Bt m c)) (Wt m c)) := by
  funext j
  show (dat1 (V2 m ρ) c).after 8 t (j : S1000x512.Idx) = BetweenRef.OUT1 _ _ (((cfg1.win 8).blk t).view.emb j)
  rw [after1_8, e8]
  obtain ⟨n, l, rfl⟩ : ∃ (n : Fin 1000) (l : Fin 512), j = ix2 n l := ⟨j 0, j 1, eq_ix2 j⟩
  rw [b0, b1, b2, b3, b4, b5, b6, V_h, V_s, V_g, V_t, V_wd, V_wb, V_b, o8_eq, z_eq m c hf t]
  exact out1_apply t _ _ n l

/-- The block of a row, and the row's place in it. -/
theorem split1 (i : S10000x512.Idx) : ∃ (t : Fin cfg1.N) (n : Fin 1000),
    i = (ix2 ⟨t.val * 1000 + n.val, tlt1 t n⟩ (i 1) : S10000x512.Idx) := by
  have h0 : (i 0).val < 10000 := (i 0).isLt
  have hN : cfg1.N = 10 := N_1
  refine ⟨⟨(i 0).val / 1000, by omega⟩, ⟨(i 0).val % 1000, Nat.mod_lt _ (by decide)⟩, ?_⟩
  funext a; apply Fin.ext
  match a with
  | ⟨0, _⟩ => show (i 0).val = (i 0).val / 1000 * 1000 + (i 0).val % 1000; omega
  | ⟨1, _⟩ => rfl

theorem covered7 (i : S10000x512.Idx) :
    ∃ t : Fin cfg1.N, (cfg1.win 7).flush t = true ∧ i ∈ ((cfg1.win 7).blk t).view.set := by
  obtain ⟨t, n, h⟩ := split1 i
  refine ⟨t, flush1_7 _, ?_⟩
  have hm := ((cfg1.win 7).blk t).view.emb_mem_set (ix2 n (i 1) : S1000x512.Idx)
  rw [e7] at hm
  rw [h]; exact hm

theorem covered8 (i : S10000x512.Idx) :
    ∃ t : Fin cfg1.N, (cfg1.win 8).flush t = true ∧ i ∈ ((cfg1.win 8).blk t).view.set := by
  obtain ⟨t, n, h⟩ := split1 i
  refine ⟨t, flush1_8 _, ?_⟩
  have hm := ((cfg1.win 8).blk t).view.emb_mem_set (ix2 n (i 1) : S1000x512.Idx)
  rw [e8] at hm
  rw [h]; exact hm

open Idealize.SL Idealize.SL.RA Idealize.SL.BI
open Idealize.ShloMosaic.Rounds
open scoped Idealize.SL.BI
open Idealize.SL.BI.BIBase Idealize.SL.BI.Laws Idealize.SL.ProofMode

set_option backward.isDefEq.respectTransparency.types false in
/-- The run of the two calls: what the two result arrays hold where the second call's blocks are folded. -/
theorem run_arr : θ_run defs (onTc (τ := τ) (main (F := Ideal))) ⟨m, fun _ => 0, ρ⟩ fun r => ∀ c : Dev nD,
      r.2.mem ((c.tc : Thread nD τ).loc main_v8_0) = (dat1 (V2 m ρ) c).arrAt 7 cfg1.N
      ∧ r.2.mem ((c.tc : Thread nD τ).loc main_v8_1) = (dat1 (V2 m ρ) c).arrAt 8 cfg1.N :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v8_0 (by decide))).trans (W3_arr m ρ c 7), (h c _ (mem_uc main_v8_1 (by decide))).trans (W3_arr m ρ c 8)⟩)

/-- The run of the two calls, its two results as functions of the arguments. -/
theorem run (hf : ∀ c, Fin01 m c) : θ_run defs (onTc (τ := τ) (main (F := Ideal))) ⟨m, fun _ => 0, ρ⟩ fun r => ∀ c : Dev nD,
      r.2.mem ((c.tc : Thread nD τ).loc main_v8_0)
        = BetweenRef.OUT0 (BetweenRef.Z (GH (A m c) (B m c)) (Gm m c) (Bt m c)) (Wt m c) (Bs m c)
      ∧ r.2.mem ((c.tc : Thread nD τ).loc main_v8_1)
        = BetweenRef.OUT1 (BetweenRef.Z (GH (A m c) (B m c)) (Gm m c) (Bt m c)) (Wt m c) :=
  (θ_run defs _ _).mono (fun r h c =>
    ⟨(h c).1.trans ((dat1 (V2 m ρ) c).arrAt_eq_of_cover 7 _ (fun t _ => flushed7_eq m ρ c (hf c) t) covered7),
     (h c).2.trans ((dat1 (V2 m ρ) c).arrAt_eq_of_cover 8 _ (fun t _ => flushed8_eq m ρ c (hf c) t) covered8)⟩)
    (run_arr m ρ)

end Cert.Proof.Between

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Ref
public import proofs.«01_k».proof.Proof.Gen.First.Frame
public import proofs.«01_k».proof.Proof.Gen.Epilogue.Frame
public import proofs.«01_k».proof.Proof.Gen.FirstIdeal.Value
public import proofs.«01_k».proof.Proof.Gen.EpilogueIdeal.Value
public import proofs.«01_k».proof.Proof.Gen.FirstReferenceIdeal.Run
public import proofs.«01_k».proof.Proof.Gen.EpilogueReferenceIdeal.Run
public import proofs.«01_k».proof.Proof.Gen.Between.Frame
public import proofs.«01_k».proof.Proof.Gen.BetweenIdeal.Frame
public import proofs.«01_k».proof.Proof.Gen.BetweenReferenceIdeal.Run
public import proofs.«01_k».proof.Proof.Gen.Pre_finite
public import proofs.«01_k».proof.Proof.First
public import proofs.«01_k».proof.Proof.Epilogue
public import proofs.«01_k».proof.Proof.Between
public import proofs.«01_k».proof.Proof.Gen.Pre_in_range
public import Idealize.ShloMosaic.Adequacy
public import Idealize.ShloMosaic.Init

@[expose] public section

noncomputable section

namespace Cert.Proof

open Idealize.ShloMosaic Idealize.SL.Sem

set_option maxHeartbeats 4000000 in
/-- The kernel's run at the bits: every weakly fair execution ends, the arguments and the counters as they were. -/
theorem frame_kernel : @Cert.quiescent_Kernel Cert.Kernel.Gen.facts Cert.Pre_in_range.Gen.facts := by
  intro m g hpre
  refine (θ_run Cert.KernelIdeal.defs _ _).mono (fun _ h => ?_) (run_main (F := Bits) m g (preOK_of (F := Bits) m hpre))
  exact ⟨fun c => ⟨(h.1 c).1, (h.1 c).2.1⟩, h.2⟩

/-- The same over the extended reals. -/
theorem frame_ideal : @Cert.quiescent_KernelIdeal Cert.KernelIdeal.Gen.facts Cert.Pre_in_range.Gen.facts := by
  intro m g hpre
  refine (θ_run Cert.KernelIdeal.defs _ _).mono (fun _ h => ?_) (run_main (F := Ideal) m g (preOK_of (F := Ideal) m hpre))
  exact ⟨fun c => ⟨(h.1 c).1, (h.1 c).2.1⟩, h.2⟩

/-- The reference's run, which needs no precondition. -/
theorem frame_ref : @Cert.quiescent_ReferenceIdeal Cert.ReferenceIdeal.Gen.facts := by
  intro m g _
  refine (θ_run Cert.ReferenceIdeal.defs _ _).mono (fun r h => ?_) (Cert.ReferenceIdeal.Value.run (F := Ideal) m g)
  exact ⟨fun c => (h c).2, sem_eq_zero_of_no_sems rfl r.2⟩

theorem frame_ref_pre : @Cert.quiescent_ReferenceIdeal_pre_in_range Cert.ReferenceIdeal.Gen.facts Cert.Pre_in_range.Gen.facts :=
  fun m g _ => frame_ref m g trivial

/-- The two programs end with one array: the reference's, of the kernel's arguments. -/
theorem algebraic : @Cert.algebraic_KernelIdeal_ReferenceIdeal Cert.KernelIdeal.Gen.facts Cert.ReferenceIdeal.Gen.facts Cert.Pre_in_range.Gen.facts := by
  intro m g m' g' hpre hin
  have hOK : PreOK m := preOK_of (F := Ideal) m hpre
  refine ⟨fun c => rAll (F := Ideal) (m (a0Loc c)) (SRC m c) (DST m c), ?_, ?_⟩
  · refine (θ_run Cert.KernelIdeal.defs _ _).mono (fun _ h c => ?_) (run_main (F := Ideal) m g hOK)
    exact ⟨funext fun x => val_eq m c hOK _ x ((h.1 c).2.2 x), (h.1 c).1, (h.1 c).2.1⟩
  · refine (θ_run Cert.ReferenceIdeal.defs _ _).mono (fun _ h c => ?_) (Cert.ReferenceIdeal.Value.run (F := Ideal) m' g')
    refine ⟨(h c).1.trans ?_, (h c).2⟩
    rw [(hin c).1, (hin c).2]
    rfl

/-! The first layer's two products. -/

theorem frame_first : @Cert.quiescent_First Cert.First.Gen.facts :=
  fun m g _ => Cert.First.Gen.frame (F := Bits) m g

theorem frame_first_ideal : @Cert.quiescent_FirstIdeal Cert.FirstIdeal.Gen.facts :=
  fun m g _ => Cert.FirstIdeal.Gen.frame (F := Ideal) m g

theorem frame_first_ref : @Cert.quiescent_FirstReferenceIdeal Cert.FirstReferenceIdeal.Gen.facts := by
  intro m g _
  refine (θ_run Cert.FirstReferenceIdeal.defs _ _).mono (fun r h => ?_) (Cert.FirstReferenceIdeal.Value.run (F := Ideal) m g)
  exact ⟨fun c => (h c).2.2, sem_eq_zero_of_no_sems rfl r.2⟩

/-- The two programs end with the same two arrays: the reference's products, of the kernel's arguments. -/
theorem algebraic_first : @Cert.algebraic_FirstIdeal_FirstReferenceIdeal Cert.FirstIdeal.Gen.facts Cert.FirstReferenceIdeal.Gen.facts := by
  intro m g m' g' _ hin
  refine ⟨fun c => First.G4 (m ((c.tc : Thread Cert.FirstIdeal.nD Cert.FirstIdeal.τ).loc Cert.FirstIdeal.main_arg0))
      (m ((c.tc : Thread Cert.FirstIdeal.nD Cert.FirstIdeal.τ).loc Cert.FirstIdeal.main_arg1))
      (m ((c.tc : Thread Cert.FirstIdeal.nD Cert.FirstIdeal.τ).loc Cert.FirstIdeal.main_arg2)),
    fun c => First.G5 (m ((c.tc : Thread Cert.FirstIdeal.nD Cert.FirstIdeal.τ).loc Cert.FirstIdeal.main_arg0))
      (m ((c.tc : Thread Cert.FirstIdeal.nD Cert.FirstIdeal.τ).loc Cert.FirstIdeal.main_arg1)), ?_, ?_⟩
  · refine (θ_run Cert.FirstIdeal.defs _ _).mono (fun _ h c => ?_)
      (θ_run_and (First.run m g) (Cert.FirstIdeal.Gen.frame (F := Ideal) m g))
    exact ⟨(h.1 c).1, (h.1 c).2, h.2.1 c⟩
  · refine (θ_run Cert.FirstReferenceIdeal.defs _ _).mono (fun _ h c => ?_) (Cert.FirstReferenceIdeal.Value.run (F := Ideal) m' g')
    refine ⟨(h c).1.trans ?_, (h c).2.1.trans ?_, (h c).2.2⟩
    · rw [(hin c).1, (hin c).2.1, (hin c).2.2]; rfl
    · rw [(hin c).1, (hin c).2.1]; rfl

/-! A layer's epilogue. -/

theorem frame_epilogue : @Cert.quiescent_Epilogue Cert.Epilogue.Gen.facts :=
  fun m g _ => Cert.Epilogue.Gen.frame (F := Bits) m g

theorem frame_epilogue_ideal : @Cert.quiescent_EpilogueIdeal Cert.EpilogueIdeal.Gen.facts :=
  fun m g _ => Cert.EpilogueIdeal.Gen.frame (F := Ideal) m g

theorem frame_epilogue_ref : @Cert.quiescent_EpilogueReferenceIdeal Cert.EpilogueReferenceIdeal.Gen.facts := by
  intro m g _
  refine (θ_run Cert.EpilogueReferenceIdeal.defs _ _).mono (fun r h => ?_) (Cert.EpilogueReferenceIdeal.Value.run (F := Ideal) m g)
  exact ⟨fun c => (h c).2.2, sem_eq_zero_of_no_sems rfl r.2⟩

/-- The two programs end with the same two arrays: the rows, and their sums and sums of squares. -/
theorem algebraic_epilogue : @Cert.algebraic_EpilogueIdeal_EpilogueReferenceIdeal Cert.EpilogueIdeal.Gen.facts Cert.EpilogueReferenceIdeal.Gen.facts := by
  intro m g m' g' _ hin
  refine ⟨fun c => Epilogue.GH (Epilogue.A m c) (Epilogue.B m c),
    fun c => Epilogue.GS (Epilogue.GH (Epilogue.A m c) (Epilogue.B m c)), ?_, ?_⟩
  · refine (θ_run Cert.EpilogueIdeal.defs _ _).mono (fun _ h c => ?_)
      (θ_run_and (Epilogue.run m g) (Cert.EpilogueIdeal.Gen.frame (F := Ideal) m g))
    exact ⟨(h.1 c).1, (h.1 c).2, h.2.1 c⟩
  · refine (θ_run Cert.EpilogueReferenceIdeal.defs _ _).mono (fun _ h c => ?_) (Cert.EpilogueReferenceIdeal.Value.run (F := Ideal) m' g')
    refine ⟨(h c).1.trans ?_, (h c).2.1.trans ?_, (h c).2.2⟩
    · rw [(hin c).1, (hin c).2]; rfl
    · rw [(hin c).1, (hin c).2]; rfl

/-! The two calls between two layers. -/

theorem frame_between : @Cert.quiescent_Between Cert.Between.Gen.facts :=
  fun m g _ => Cert.Between.Gen.frame (F := Bits) m g

theorem frame_between_ideal : @Cert.quiescent_BetweenIdeal Cert.BetweenIdeal.Gen.facts :=
  fun m g _ => Cert.BetweenIdeal.Gen.frame (F := Ideal) m g

theorem frame_between_ideal_pre : @Cert.quiescent_BetweenIdeal_pre_finite Cert.BetweenIdeal.Gen.facts Cert.Pre_finite.Gen.facts :=
  fun m g _ => Cert.BetweenIdeal.Gen.frame (F := Ideal) m g

theorem frame_between_ref : @Cert.quiescent_BetweenReferenceIdeal Cert.BetweenReferenceIdeal.Gen.facts := by
  intro m g _
  refine (θ_run Cert.BetweenReferenceIdeal.defs _ _).mono (fun r h => ?_) (Cert.BetweenReferenceIdeal.Value.run (F := Ideal) m g)
  exact ⟨fun c => (h c).2.2, sem_eq_zero_of_no_sems rfl r.2⟩

theorem frame_between_ref_pre : @Cert.quiescent_BetweenReferenceIdeal_pre_finite Cert.BetweenReferenceIdeal.Gen.facts Cert.Pre_finite.Gen.facts :=
  fun m g _ => frame_between_ref m g trivial

theorem lt_of_olt {x y : EReal} (h : Ideal.cmp .olt x y = 1#1) : x < y := of_decide_eq_true (ofBool_one h)

theorem real_of_abs {x : EReal} (h : max x (-x) ≠ ⊤) : ∃ r : ℝ, x = (r : EReal) := by
  induction x with
  | bot => simp at h
  | coe r => exact ⟨r, rfl⟩
  | top => simp at h

/-- What the precondition of the two calls says of their first three arguments. -/
theorem finite_of (m : (ℓ : Loc Cert.BetweenIdeal.nD Cert.BetweenIdeal.τ Cert.BetweenIdeal.sig) → Buf (Elt Ideal) ℓ)
    (h : @Cert.Pre_BetweenIdeal_finite Cert.Pre_finite.Gen.facts m) (c : Dev Cert.BetweenIdeal.nD) : Between.Fin01 m c := by
  haveI := Cert.Pre_finite.Gen.facts
  haveI : Subsingleton Cert.Pre_finite.S_.Idx := ⟨fun a b => funext fun k => k.elim0⟩
  have e := congrFun (h c) (Shape.Idx.first Cert.Pre_finite.Facts.h_S_)
  obtain ⟨e1, e2⟩ := andi_one e
  obtain ⟨e3, e4⟩ := andi_one e1
  have a := Host.reduce_andi_all _ _ _ _ _ e3
  have b := Host.reduce_andi_all _ _ _ _ _ e4
  have g := Host.reduce_andi_all _ _ _ _ _ e2
  refine ⟨fun i => ne_top_of_lt (lt_of_olt (a i)), fun i => ne_top_of_lt (lt_of_olt (b i)), fun l => ?_⟩
  have hg : max (Between.Gm m c (ValueIdx.ix1 l)) (-(Between.Gm m c (ValueIdx.ix1 l) : EReal)) ≠ ⊤ := ne_top_of_lt (lt_of_olt (g (ValueIdx.ix1 l)))
  exact real_of_abs hg

/-- The two programs end with the same two arrays: the reference's, of the kernel's arguments. -/
theorem algebraic_between : @Cert.algebraic_BetweenIdeal_BetweenReferenceIdeal_pre_finite Cert.BetweenIdeal.Gen.facts
    Cert.BetweenReferenceIdeal.Gen.facts Cert.Pre_finite.Gen.facts := by
  intro m g m' g' hpre hin
  refine ⟨fun c => BetweenRef.OUT0 (BetweenRef.Z (Between.GH (Between.A m c) (Between.B m c)) (Between.Gm m c) (Between.Bt m c)) (Between.Wt m c) (Between.Bs m c),
    fun c => BetweenRef.OUT1 (BetweenRef.Z (Between.GH (Between.A m c) (Between.B m c)) (Between.Gm m c) (Between.Bt m c)) (Between.Wt m c), ?_, ?_⟩
  · refine (θ_run Cert.BetweenIdeal.defs _ _).mono (fun _ h c => ?_)
      (θ_run_and (Between.run m g (finite_of m hpre)) (Cert.BetweenIdeal.Gen.frame (F := Ideal) m g))
    exact ⟨(h.1 c).1, (h.1 c).2, h.2.1 c⟩
  · refine (θ_run Cert.BetweenReferenceIdeal.defs _ _).mono (fun _ h c => ?_) (Cert.BetweenReferenceIdeal.Value.run (F := Ideal) m' g')
    refine ⟨(h c).1.trans ?_, (h c).2.1.trans ?_, (h c).2.2⟩
    · rw [(hin c).1, (hin c).2.1, (hin c).2.2.1, (hin c).2.2.2.1, (hin c).2.2.2.2.1, (hin c).2.2.2.2.2]; rfl
    · rw [(hin c).1, (hin c).2.1, (hin c).2.2.1, (hin c).2.2.2.1, (hin c).2.2.2.2.1]; rfl

theorem claim : Cert.Claim := ⟨Cert.Kernel.Gen.facts, Cert.KernelIdeal.Gen.facts, Cert.ReferenceIdeal.Gen.facts,
  Cert.First.Gen.facts, Cert.FirstIdeal.Gen.facts, Cert.FirstReferenceIdeal.Gen.facts,
  Cert.Epilogue.Gen.facts, Cert.EpilogueIdeal.Gen.facts, Cert.EpilogueReferenceIdeal.Gen.facts,
  Cert.Between.Gen.facts, Cert.BetweenIdeal.Gen.facts, Cert.BetweenReferenceIdeal.Gen.facts, Cert.Pre_in_range.Gen.facts, Cert.Pre_finite.Gen.facts,
  frame_kernel, frame_ideal, frame_ref, frame_ref_pre,
  frame_first, frame_first_ideal, frame_first_ref, frame_epilogue, frame_epilogue_ideal, frame_epilogue_ref,
  frame_between, frame_between_ideal, frame_between_ideal_pre, frame_between_ref, frame_between_ref_pre,
  trivial, algebraic, trivial, algebraic_first, trivial, algebraic_epilogue, trivial, algebraic_between⟩

end Cert.Proof

end
